-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v108)) (v1 : (c : Dev Cert.KernelIdeal.nD) → Buf (Elt Ideal) ((c.tc : Thread Cert.KernelIdeal.nD Cert.KernelIdeal.τ).loc Cert.KernelIdeal.main_v103_1)) (v2 : (c : Dev Cert.KernelIdeal.nD) → Buf (Elt Ideal) ((c.tc : Thread Cert.KernelIdeal.nD Cert.KernelIdeal.τ).loc Cert.KernelIdeal.main_v103_2)) (v3 : (c : Dev Cert.KernelIdeal.nD) → Buf (Elt Ideal) ((c.tc : Thread Cert.KernelIdeal.nD Cert.KernelIdeal.τ).loc Cert.KernelIdeal.main_v103_3)) (v4 : (c : Dev Cert.KernelIdeal.nD) → Buf (Elt Ideal) ((c.tc : Thread Cert.KernelIdeal.nD Cert.KernelIdeal.τ).loc Cert.KernelIdeal.main_v103_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_v103_1) = v1 c
          ∧ r.2.mem ((c.tc : Thread Cert.KernelIdeal.nD Cert.KernelIdeal.τ).loc Cert.KernelIdeal.main_v103_2) = v2 c
          ∧ r.2.mem ((c.tc : Thread Cert.KernelIdeal.nD Cert.KernelIdeal.τ).loc Cert.KernelIdeal.main_v103_3) = v3 c
          ∧ r.2.mem ((c.tc : Thread Cert.KernelIdeal.nD Cert.KernelIdeal.τ).loc Cert.KernelIdeal.main_v103_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_v14) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v27_2)) (v1 : (c : Dev Cert.Kernel11Ideal.nD) → Buf (Elt Ideal) ((c.tc : Thread Cert.Kernel11Ideal.nD Cert.Kernel11Ideal.τ).loc Cert.Kernel11Ideal.main_v27_3)) (v2 : (c : Dev Cert.Kernel11Ideal.nD) → Buf (Elt Ideal) ((c.tc : Thread Cert.Kernel11Ideal.nD Cert.Kernel11Ideal.τ).loc Cert.Kernel11Ideal.main_v27_4)) (v3 : (c : Dev Cert.Kernel11Ideal.nD) → Buf (Elt Ideal) ((c.tc : Thread Cert.Kernel11Ideal.nD Cert.Kernel11Ideal.τ).loc Cert.Kernel11Ideal.main_v27_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v27_2) = v0 c
          ∧ r.2.mem ((c.tc : Thread Cert.Kernel11Ideal.nD Cert.Kernel11Ideal.τ).loc Cert.Kernel11Ideal.main_v27_3) = v1 c
          ∧ r.2.mem ((c.tc : Thread Cert.Kernel11Ideal.nD Cert.Kernel11Ideal.τ).loc Cert.Kernel11Ideal.main_v27_4) = v2 c
          ∧ r.2.mem ((c.tc : Thread Cert.Kernel11Ideal.nD Cert.Kernel11Ideal.τ).loc Cert.Kernel11Ideal.main_v27_5) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v46) = v0 c
          ∧ r.2.mem ((c.tc : Thread Cert.Reference11Ideal.nD Cert.Reference11Ideal.τ).loc Cert.Reference11Ideal.main_v43) = v1 c
          ∧ r.2.mem ((c.tc : Thread Cert.Reference11Ideal.nD Cert.Reference11Ideal.τ).loc Cert.Reference11Ideal.main_v55) = v2 c
          ∧ r.2.mem ((c.tc : Thread Cert.Reference11Ideal.nD Cert.Reference11Ideal.τ).loc Cert.Reference11Ideal.main_v52) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_3)) (v2 : (c : Dev Cert.Kernel12Ideal.nD) → Buf (Elt Ideal) ((c.tc : Thread Cert.Kernel12Ideal.nD Cert.Kernel12Ideal.τ).loc Cert.Kernel12Ideal.main_v0_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_3) = v1 c
          ∧ r.2.mem ((c.tc : Thread Cert.Kernel12Ideal.nD Cert.Kernel12Ideal.τ).loc Cert.Kernel12Ideal.main_v0_4) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v42) = v0 c
          ∧ r.2.mem ((c.tc : Thread Cert.Reference12Ideal.nD Cert.Reference12Ideal.τ).loc Cert.Reference12Ideal.main_v56) = v1 c
          ∧ r.2.mem ((c.tc : Thread Cert.Reference12Ideal.nD Cert.Reference12Ideal.τ).loc Cert.Reference12Ideal.main_v53) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v25) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v37) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v37) = v0 c
          ∧ r.2.mem ((c.tc : Thread Cert.Reference15Ideal.nD Cert.Reference15Ideal.τ).loc Cert.Reference15Ideal.main_v53) = v1 c
          ∧ r.2.mem ((c.tc : Thread Cert.Reference15Ideal.nD Cert.Reference15Ideal.τ).loc Cert.Reference15Ideal.main_v39) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)) (v4 : (c : Dev Cert.Kernel16Ideal.nD) → Buf (Elt Ideal) ((c.tc : Thread Cert.Kernel16Ideal.nD Cert.Kernel16Ideal.τ).loc Cert.Kernel16Ideal.main_v0_4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_v0_4) = v4 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v50) = v0 c
          ∧ r.2.mem ((c.tc : Thread Cert.Reference16Ideal.nD Cert.Reference16Ideal.τ).loc Cert.Reference16Ideal.main_v51) = v1 c
          ∧ r.2.mem ((c.tc : Thread Cert.Reference16Ideal.nD Cert.Reference16Ideal.τ).loc Cert.Reference16Ideal.main_v52) = v2 c
          ∧ r.2.mem ((c.tc : Thread Cert.Reference16Ideal.nD Cert.Reference16Ideal.τ).loc Cert.Reference16Ideal.main_v41) = v3 c
          ∧ r.2.mem ((c.tc : Thread Cert.Reference16Ideal.nD Cert.Reference16Ideal.τ).loc Cert.Reference16Ideal.main_v46) = v4 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)) (v5 : (c : Dev Cert.Kernel17Ideal.nD) → Buf (Elt Ideal) ((c.tc : Thread Cert.Kernel17Ideal.nD Cert.Kernel17Ideal.τ).loc Cert.Kernel17Ideal.main_v0_5)) (v6 : (c : Dev Cert.Kernel17Ideal.nD) → Buf (Elt Ideal) ((c.tc : Thread Cert.Kernel17Ideal.nD Cert.Kernel17Ideal.τ).loc Cert.Kernel17Ideal.main_v0_6)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_v0_5) = v5 c
          ∧ r.2.mem ((c.tc : Thread Cert.Kernel17Ideal.nD Cert.Kernel17Ideal.τ).loc Cert.Kernel17Ideal.main_v0_6) = v6 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v65) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v33) = v2 c
          ∧ r.2.mem ((c.tc : Thread Cert.Reference17Ideal.nD Cert.Reference17Ideal.τ).loc Cert.Reference17Ideal.main_v43) = v3 c
          ∧ r.2.mem ((c.tc : Thread Cert.Reference17Ideal.nD Cert.Reference17Ideal.τ).loc Cert.Reference17Ideal.main_v66) = v4 c
          ∧ r.2.mem ((c.tc : Thread Cert.Reference17Ideal.nD Cert.Reference17Ideal.τ).loc Cert.Reference17Ideal.main_v67) = v5 c
          ∧ r.2.mem ((c.tc : Thread Cert.Reference17Ideal.nD Cert.Reference17Ideal.τ).loc Cert.Reference17Ideal.main_v68) = v6 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9))

def Claim : Prop :=
  ∃ (hKernel : Cert.Kernel.Facts) (hKernelIdeal : Cert.KernelIdeal.Facts) (hReferenceIdeal : Cert.ReferenceIdeal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel6 : Cert.Kernel6.Facts) (hKernel6Ideal : Cert.Kernel6Ideal.Facts) (hReference6Ideal : Cert.Reference6Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite15 : Cert.Pre_finite15.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel6_Kernel6Ideal
    ∧ algebraic_Kernel6Ideal_Reference6Ideal (hKernel6Ideal := hKernel6Ideal) (hReference6Ideal := hReference6Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S16384x2x4x64 : Shape := ⟨4, ![16384, 2, 4, 64]⟩
abbrev S16640x2x64 : Shape := ⟨3, ![16640, 2, 64]⟩
abbrev S16384x512 : Shape := ⟨2, ![16384, 512]⟩
abbrev S_ : Shape := ⟨0, ![]⟩

class Facts : Prop where
  bcast_S_S16384x2x4x64 : S_.BroadcastsInDim S16384x2x4x64 (![] : Fin 0 → Fin S16384x2x4x64.rank)
  reducesTo_S16384x2x4x64_S_d0_1_2_3 : S16384x2x4x64.ReducesTo [0, 1, 2, 3] S_
  h_S_ : 0 < S_.numel
  bcast_S_S16640x2x64 : S_.BroadcastsInDim S16640x2x64 (![] : Fin 0 → Fin S16640x2x64.rank)
  reducesTo_S16640x2x64_S_d0_1_2 : S16640x2x64.ReducesTo [0, 1, 2] S_
  bcast_S_S16384x512 : S_.BroadcastsInDim S16384x512 (![] : Fin 0 → Fin S16384x512.rank)
  reducesTo_S16384x512_S_d0_1 : S16384x512.ReducesTo [0, 1] S_

variable [Facts]

def fn_part1 {F : FTy → Type} [FloatOps F] (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  main_v18

def fn {F : FTy → Type} [FloatOps F] (main_arg0 : FVec F S16384x2x4x64 .f32) (main_arg1 : FVec F S16640x2x64 .f32) (main_arg2 : FVec F S16640x2x64 .f32) (main_arg3 : FVec F S16384x512 .f32) : IVec S_ 1 :=
  let main_v0 : FVec F S16384x2x4x64 .f32 := Host.absf main_arg0
  let main_cst : FVec F S_ .f32 := constant S_ .f32 0x7F800000#32
  let main_v1 : FVec F S16384x2x4x64 .f32 := broadcastInDim S16384x2x4x64 ![] bcast_S_S16384x2x4x64 main_cst
  let main_v2 : IVec S16384x2x4x64 1 := cmpf .olt main_v0 main_v1
  let main_c : IVec S_ 1 := constantI S_ 1 1#1
  let main_v3 : IVec S_ 1 := (fun x v => Host.reduce IntOp.andi x v reducesTo_S16384x2x4x64_S_d0_1_2_3 h_S_) main_v2 main_c
  let main_v4 : FVec F S16640x2x64 .f32 := Host.absf main_arg1
  let main_cst_0 : FVec F S_ .f32 := constant S_ .f32 0x7F800000#32
  let main_v5 : FVec F S16640x2x64 .f32 := broadcastInDim S16640x2x64 ![] bcast_S_S16640x2x64 main_cst_0
  let main_v6 : IVec S16640x2x64 1 := cmpf .olt main_v4 main_v5
  let main_c_1 : IVec S_ 1 := constantI S_ 1 1#1
  let main_v7 : IVec S_ 1 := (fun x v => Host.reduce IntOp.andi x v reducesTo_S16640x2x64_S_d0_1_2 h_S_) main_v6 main_c_1
  let main_v8 : IVec S_ 1 := andi main_v3 main_v7
  let main_v9 : FVec F S16640x2x64 .f32 := Host.absf main_arg2
  let main_cst_2 : FVec F S_ .f32 := constant S_ .f32 0x7F800000#32
  let main_v10 : FVec F S16640x2x64 .f32 := broadcastInDim S16640x2x64 ![] bcast_S_S16640x2x64 main_cst_2
  let main_v11 : IVec S16640x2x64 1 := cmpf .olt main_v9 main_v10
  let main_c_3 : IVec S_ 1 := constantI S_ 1 1#1
  let main_v12 : IVec S_ 1 := (fun x v => Host.reduce IntOp.andi x v reducesTo_S16640x2x64_S_d0_1_2 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_v13 main_v16
-- ==== Pre_finite15.lean ====
abbrev S16384x1024 : Shape := ⟨2, ![16384, 1024]⟩
abbrev S2816x1024 : Shape := ⟨2, ![2816, 1024]⟩
abbrev S2x16384x2816 : Shape := ⟨3, ![2, 16384, 2816]⟩
abbrev S2x3x2816 : Shape := ⟨3, ![2, 3, 2816]⟩
abbrev S2x1x2816 : Shape := ⟨3, ![2, 1, 2816]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2x16384x2816 : S_.BroadcastsInDim S2x16384x2816 (![] : Fin 0 → Fin S2x16384x2816.rank)
  reducesTo_S2x16384x2816_S_d0_1_2 : S2x16384x2816.ReducesTo [0, 1, 2] S_
  bcast_S_S2x3x2816 : S_.BroadcastsInDim S2x3x2816 (![] : Fin 0 → Fin S2x3x2816.rank)
  reducesTo_S2x3x2816_S_d0_1_2 : S2x3x2816.ReducesTo [0, 1, 2] S_
  bcast_S_S2x1x2816 : S_.BroadcastsInDim S2x1x2816 (![] : Fin 0 → Fin S2x1x2816.rank)
  reducesTo_S2x1x2816_S_d0_1_2 : S2x1x2816.ReducesTo [0, 1, 2] S_

variable [Facts]

def fn_part1 {F : FTy → Type} [FloatOps F] (main_arg4 : FVec F S2x1x2816 .f32) (main_v13 : IVec S_ 1) (main_v16 : IVec S2x3x2816 1) : IVec S_ 1 :=
  let main_c_5 : IVec S_ 1 := constantI S_ 1 1#1
  let main_v17 : IVec S_ 1 := (fun x v => Host.reduce IntOp.andi x v reducesTo_S2x3x2816_S_d0_1_2 h_S_) main_v16 main_c_5
  let main_v18 : IVec S_ 1 := andi main_v13 main_v17
  let main_v19 : FVec F S2x1x2816 .f32 := Host.absf main_arg4
  let main_cst_6 : FVec F S_ .f32 := constant S_ .f32 0x7F800000#32
  let main_v20 : FVec F S2x1x2816 .f32 := broadcastInDim S2x1x2816 ![] bcast_S_S2x1x2816 main_cst_6
  let main_v21 : IVec S2x1x2816 1 := cmpf .olt main_v19 main_v20
  let main_c_7 : IVec S_ 1 := constantI S_ 1 1#1
  let main_v22 : IVec S_ 1 := (fun x v => Host.reduce IntOp.andi x v reducesTo_S2x1x2816_S_d0_1_2 h_S_) main_v21 main_c_7
  let main_v23 : IVec S_ 1 := andi main_v18 main_v22
  main_v23

def fn {F : FTy → Type} [FloatOps F] (main_arg0 : FVec F S16384x1024 .bf16) (main_arg1 : FVec F S2816x1024 .bf16) (main_arg2 : FVec F S2x16384x2816 .bf16) (main_arg3 : FVec F S2x3x2816 .f32) (main_arg4 : FVec F S2x1x2816 .f32) : IVec S_ 1 :=
  let main_v0 : FVec F S16384x1024 .bf16 := Host.absf main_arg0
  let main_cst : FVec F S_ .bf16 := constant S_ .bf16 0x7F80#16
  let main_v1 : FVec F S16384x1024 .bf16 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2816x1024 .bf16 := Host.absf main_arg1
  let main_cst_0 : FVec F S_ .bf16 := constant S_ .bf16 0x7F80#16
  let main_v5 : FVec F S2816x1024 .bf16 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S2x16384x2816 .bf16 := Host.absf main_arg2
  let main_cst_2 : FVec F S_ .bf16 := constant S_ .bf16 0x7F80#16
  let main_v10 : FVec F S2x16384x2816 .bf16 := broadcastInDim S2x16384x2816 ![] bcast_S_S2x16384x2816 main_cst_2
  let main_v11 : IVec S2x16384x2816 1 := cmpf .olt main_v9 main_v10
  let main_c_3 : IVec S_ 1 := constantI S_ 1 1#1
  let main_v12 : IVec S_ 1 := (fun x v => Host.reduce IntOp.andi x v reducesTo_S2x16384x2816_S_d0_1_2 h_S_) main_v11 main_c_3
  let main_v13 : IVec S_ 1 := andi main_v8 main_v12
  let main_v14 : FVec F S2x3x2816 .f32 := Host.absf main_arg3
  let main_cst_4 : FVec F S_ .f32 := constant S_ .f32 0x7F800000#32
  let main_v15 : FVec F S2x3x2816 .f32 := broadcastInDim S2x3x2816 ![] bcast_S_S2x3x2816 main_cst_4
  let main_v16 : IVec S2x3x2816 1 := cmpf .olt main_v14 main_v15
  fn_part1 (F := F) main_arg4 main_v13 main_v16
-- ==== Kernel.lean ====
abbrev S16384x2x4x64 : Shape := ⟨4, ![16384, 2, 4, 64]⟩
abbrev S16640x2x64 : Shape := ⟨3, ![16640, 2, 64]⟩
abbrev S16384x512 : Shape := ⟨2, ![16384, 512]⟩
abbrev S2x16640x16384x4 : Shape := ⟨4, ![2, 16640, 16384, 4]⟩
abbrev S2x4x16640x16384 : Shape := ⟨4, ![2, 4, 16640, 16384]⟩
abbrev S_ : Shape := ⟨0, ![]⟩
abbrev S2x4x256x16384 : Shape := ⟨4, ![2, 4, 256, 16384]⟩
abbrev S2x4x16384 : Shape := ⟨3, ![2, 4, 16384]⟩
abbrev S2x4x16384x16384 : Shape := ⟨4, ![2, 4, 16384, 16384]⟩
abbrev S2x4x16x1024x16384 : Shape := ⟨5, ![2, 4, 16, 1024, 16384]⟩
abbrev S2x4x16x16384 : Shape := ⟨4, ![2, 4, 16, 16384]⟩
abbrev S16x16 : Shape := ⟨2, ![16, 16]⟩
abbrev S1x1x16x16x1 : Shape := ⟨5, ![1, 1, 16, 16, 1]⟩
abbrev S2x4x1x16x16384 : Shape := ⟨5, ![2, 4, 1, 16, 16384]⟩
abbrev S2x4x1x1x16384 : Shape := ⟨5, ![2, 4, 1, 1, 16384]⟩
abbrev S2x4x16x16x16384 : Shape := ⟨5, ![2, 4, 16, 16, 16384]⟩
abbrev S2x4x1x16384 : Shape := ⟨4, ![2, 4, 1, 16384]⟩
abbrev S2x4x16x1x16384 : Shape := ⟨5, ![2, 4, 16, 1, 16384]⟩
abbrev S8x16640x32x512 : Shape := ⟨4, ![8, 16640, 32, 512]⟩
abbrev S8x32x16640x512 : Shape := ⟨4, ![8, 32, 16640, 512]⟩
abbrev S8x32x17664x512 : Shape := ⟨4, ![8, 32, 17664, 512]⟩
abbrev S8x1x16384 : Shape := ⟨3, ![8, 1, 16384]⟩
abbrev S2x4x17x16384 : Shape := ⟨4, ![2, 4, 17, 16384]⟩
abbrev S8x17x16384 : Shape := ⟨3, ![8, 17, 16384]⟩
abbrev S2x4x16384x16640 : Shape := ⟨4, ![2, 4, 16384, 16640]⟩
abbrev S2x4x16384x1 : Shape := ⟨4, ![2, 4, 16384, 1]⟩
abbrev S2x64x4x16384 : Shape := ⟨4, ![2, 64, 4, 16384]⟩
abbrev S16640x128 : Shape := ⟨2, ![16640, 128]⟩
abbrev S16384x8x64 : Shape := ⟨3, ![16384, 8, 64]⟩
abbrev S8x64x16384 : Shape := ⟨3, ![8, 64, 16384]⟩
abbrev S4x64x16384 : Shape := ⟨3, ![4, 64, 16384]⟩
abbrev S4x128x16384 : Shape := ⟨3, ![4, 128, 16384]⟩
abbrev S8x128x16384 : Shape := ⟨3, ![8, 128, 16384]⟩
abbrev S16384x128 : Shape := ⟨2, ![16384, 128]⟩
abbrev S128x16384 : Shape := ⟨2, ![128, 16384]⟩
abbrev S256x128 : Shape := ⟨2, ![256, 128]⟩
abbrev S128x256 : Shape := ⟨2, ![128, 256]⟩
abbrev S1x128x512 : Shape := ⟨3, ![1, 128, 512]⟩
abbrev S1x1x512 : Shape := ⟨3, ![1, 1, 512]⟩
abbrev S1x17x512 : Shape := ⟨3, ![1, 17, 512]⟩
abbrev S128x512 : Shape := ⟨2, ![128, 512]⟩
abbrev S512x512 : Shape := ⟨2, ![512, 512]⟩
abbrev S4x512x512 : Shape := ⟨3, ![4, 512, 512]⟩
abbrev S256x512 : Shape := ⟨2, ![256, 512]⟩
abbrev S4 : Shape := ⟨1, ![4]⟩
abbrev S1x1x256x512 : Shape := ⟨4, ![1, 1, 256, 512]⟩
abbrev S1 : Shape := ⟨1, ![1]⟩
abbrev S1x512x512 : Shape := ⟨3, ![1, 512, 512]⟩
abbrev S1x1x512x512 : Shape := ⟨4, ![1, 1, 512, 512]⟩
abbrev S1x512 : Shape := ⟨2, ![1, 512]⟩
abbrev S512 : Shape := ⟨1, ![512]⟩
abbrev S512x128 : Shape := ⟨2, ![512, 128]⟩

abbrev nBuf : Space → Nat
  | .hbm => 136
  | .vmem => 24
  | .smem => 0
  | _ => 0

abbrev hbmTy0_0 (i : Nat) : BufTy := match i % 128 with
  | 0 => ⟨S16384x2x4x64, .f32⟩
  | 1 => ⟨S16640x2x64, .f32⟩
  | 2 => ⟨S16640x2x64, .f32⟩
  | 3 => ⟨S16384x512, .f32⟩
  | 4 => ⟨S2x16640x16384x4, .f32⟩
  | 5 => ⟨S2x4x16640x16384, .f32⟩
  | 6 => ⟨S_, .f32⟩
  | 7 => ⟨S2x4x16640x16384, .f32⟩
  | 8 => ⟨S2x4x16640x16384, .f32⟩
  | 9 => ⟨S2x4x256x16384, .f32⟩
  | 10 => ⟨S_, .f32⟩
  | 11 => ⟨S2x4x16384, .f32⟩
  | 12 => ⟨S2x4x16384x16384, .f32⟩
  | 13 => ⟨S2x4x16x1024x16384, .f32⟩
  | 14 => ⟨S_, .f32⟩
  | 15 => ⟨S2x4x16x16384, .f32⟩
  | 16 => ⟨S16x16, .i32⟩
  | 17 => ⟨S16x16, .i32⟩
  | 18 => ⟨S16x16, .i1⟩
  | 19 => ⟨S1x1x16x16x1, .i1⟩
  | 20 => ⟨S2x4x1x16x16384, .f32⟩
  | 21 => ⟨S2x4x1x1x16384, .f32⟩
  | 22 => ⟨S2x4x16x16x16384, .i1⟩
  | 23 => ⟨S2x4x16x16x16384, .f32⟩
  | 24 => ⟨S2x4x16x16x16384, .f32⟩
  | 25 => ⟨S2x4x16x16x16384, .f32⟩
  | 26 => ⟨S_, .f32⟩
  | 27 => ⟨S2x4x16x16384, .f32⟩
  | 28 => ⟨S2x4x1x16384, .f32⟩
  | 29 => ⟨S2x4x16x16384, .f32⟩
  | 30 => ⟨S2x4x16x16384, .f32⟩
  | 31 => ⟨S2x4x16x1x16384, .f32⟩
  | 32 => ⟨S2x4x16x1024x16384, .f32⟩
  | 33 => ⟨S2x4x16384x16384, .f32⟩
  | 34 => ⟨S2x4x1x16384, .f32⟩
  | 35 => ⟨S2x4x256x16384, .f32⟩
  | 36 => ⟨S2x4x16640x16384, .f32⟩
  | 37 => ⟨S2x4x16640x16384, .f32⟩
  | 38 => ⟨S2x4x16640x16384, .f32⟩
  | 39 => ⟨S8x16640x32x512, .f32⟩
  | 40 => ⟨S8x32x16640x512, .f32⟩
  | 41 => ⟨S_, .i32⟩
  | 42 => ⟨S_, .f32⟩
  | 43 => ⟨S8x32x17664x512, .f32⟩
  | 44 => ⟨S8x32x17664x512, .bf16⟩
  | 45 => ⟨S2x4x1x16384, .f32⟩
  | 46 => ⟨S2x4x16384, .f32⟩
  | 47 => ⟨S2x4x1x16384, .f32⟩
  | 48 => ⟨S2x4x16640x16384, .f32⟩
  | 49 => ⟨S2x4x16640x16384, .f32⟩
  | 50 => ⟨S2x4x16640x16384, .f32⟩
  | 51 => ⟨S_, .f32⟩
  | 52 => ⟨S2x4x16384, .f32⟩
  | 53 => ⟨S2x4x16384, .f32⟩
  | 54 => ⟨S2x4x16384, .f32⟩
  | 55 => ⟨S8x1x16384, .f32⟩
  | 56 => ⟨S2x4x1x16384, .f32⟩
  | 57 => ⟨S2x4x17x16384, .f32⟩
  | 58 => ⟨S8x17x16384, .f32⟩
  | 59 => ⟨S2x16640x16384x4, .f32⟩
  | 60 => ⟨S2x4x16384x16640, .f32⟩
  | 61 => ⟨S_, .f32⟩
  | 62 => ⟨S2x4x16384x16640, .f32⟩
  | 63 => ⟨S2x4x16384x16640, .f32⟩
  | 64 => ⟨S_, .f32⟩
  | 65 => ⟨S2x4x16384, .f32⟩
  | 66 => ⟨S_, .f32⟩
  | 67 => ⟨S2x4x16384, .f32⟩
  | 68 => ⟨S2x4x16384, .f32⟩
  | 69 => ⟨S2x4x16384x1, .f32⟩
  | 70 => ⟨S2x4x16384x16640, .f32⟩
  | 71 => ⟨S2x4x16384x16640, .f32⟩
  | 72 => ⟨S2x4x16384x16640, .f32⟩
  | 73 => ⟨S_, .f32⟩
  | 74 => ⟨S2x4x16384, .f32⟩
  | 75 => ⟨S2x4x16384x1, .f32⟩
  | 76 => ⟨S2x4x16384x16640, .f32⟩
  | 77 => ⟨S2x4x16384x16640, .f32⟩
  | 78 => ⟨S2x64x4x16384, .f32⟩
  | 79 => ⟨S16384x2x4x64, .f32⟩
  | 80 => ⟨S16640x128, .f32⟩
  | 81 => ⟨S16640x128, .bf16⟩
  | 82 => ⟨S16640x128, .f32⟩
  | 83 => ⟨S16640x128, .bf16⟩
  | 84 => ⟨S16384x512, .f32⟩
  | 85 => ⟨S_, .f32⟩
  | 86 => ⟨S16384x512, .f32⟩
  | 87 => ⟨S16384x512, .f32⟩
  | 88 => ⟨S16384x8x64, .f32⟩
  | 89 => ⟨S8x64x16384, .f32⟩
  | 90 => ⟨S_, .f32⟩
  | 91 => ⟨S4x64x16384, .f32⟩
  | 92 => ⟨S4x64x16384, .f32⟩
  | 93 => ⟨S4x128x16384, .f32⟩
  | 94 => ⟨S4x64x16384, .f32⟩
  | 95 => ⟨S4x128x16384, .f32⟩
  | 96 => ⟨S8x128x16384, .f32⟩
  | 97 => ⟨S8x128x16384, .bf16⟩
  | 98 => ⟨S16384x8x64, .f32⟩
  | 99 => ⟨S8x64x16384, .f32⟩
  | 100 => ⟨S_, .f32⟩
  | 101 => ⟨S4x64x16384, .f32⟩
  | 102 => ⟨S4x64x16384, .f32⟩
  | 103 => ⟨S4x128x16384, .f32⟩
  | 104 => ⟨S4x64x16384, .f32⟩
  | 105 => ⟨S4x128x16384, .f32⟩
  | 106 => ⟨S8x128x16384, .f32⟩
  | 107 => ⟨S8x128x16384, .bf16⟩
  | 108 => ⟨S16384x512, .f32⟩
  | 109 => ⟨S16384x8x64, .f32⟩
  | 110 => ⟨S8x64x16384, .f32⟩
  | 111 => ⟨S_, .f32⟩
  | 112 => ⟨S4x64x16384, .f32⟩
  | 113 => ⟨S4x64x16384, .f32⟩
  | 114 => ⟨S4x128x16384, .f32⟩
  | 115 => ⟨S4x64x16384, .f32⟩
  | 116 => ⟨S4x128x16384, .f32⟩
  | 117 => ⟨S8x128x16384, .f32⟩
  | 118 => ⟨S8x128x16384, .bf16⟩
  | 119 => ⟨S16384x128, .bf16⟩
  | 120 => ⟨S128x16384, .bf16⟩
  | 121 => ⟨S16384x128, .bf16⟩
  | 122 => ⟨S256x128, .bf16⟩
  | 123 => ⟨S128x256, .bf16⟩
  | 124 => ⟨S256x128, .bf16⟩
  | 125 => ⟨S8x128x16384, .f32⟩
  | 126 => ⟨S128x16384, .f32⟩
  | 127 => ⟨S128x16384, .f32⟩
  | _ => ⟨S16384x2x4x64, .f32⟩

abbrev hbmTy0_1 (i : Nat) : BufTy := match i % 128 with
  | 0 => ⟨S128x256, .f32⟩
  | 1 => ⟨S128x256, .f32⟩
  | 2 => ⟨S4x64x16384, .f32⟩
  | 3 => ⟨S4x64x16384, .f32⟩
  | 4 => ⟨S8x64x16384, .f32⟩
  | 5 => ⟨S_, .f32⟩
  | 6 => ⟨S8x64x16384, .f32⟩
  | 7 => ⟨S8x64x16384, .f32⟩
  | _ => ⟨S16384x2x4x64, .f32⟩

abbrev hbmTy (i : Nat) : BufTy := match i / 128 with
  | 0 => hbmTy0_0 i
  | 1 => hbmTy0_1 i
  | _ => ⟨S16384x2x4x64, .f32⟩

abbrev bufTy : (tb : Table) → Fin (tcTables nBuf tb) → BufTy
  | .hbm, ⟨i, _⟩ => hbmTy i
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x1x512, .f32⟩
  | .local _ .vmem, ⟨7, _⟩ => ⟨S1x1x512, .f32⟩
  | .local _ .vmem, ⟨8, _⟩ => ⟨S1x17x512, .f32⟩
  | .local _ .vmem, ⟨9, _⟩ => ⟨S1x17x512, .f32⟩
  | .local _ .vmem, ⟨10, _⟩ => ⟨S128x16384, .bf16⟩
  | .local _ .vmem, ⟨11, _⟩ => ⟨S16384x128, .bf16⟩
  | .local _ .vmem, ⟨12, _⟩ => ⟨S128x256, .bf16⟩
  | .local _ .vmem, ⟨13, _⟩ => ⟨S256x128, .bf16⟩
  | .local _ .vmem, ⟨14, _⟩ => ⟨S1x128x512, .f32⟩
  | .local _ .vmem, ⟨15, _⟩ => ⟨S1x128x512, .f32⟩
  | .local _ .vmem, ⟨16, _⟩ => ⟨S128x256, .f32⟩
  | .local _ .vmem, ⟨17, _⟩ => ⟨S128x256, .f32⟩
  | .local _ .vmem, ⟨18, _⟩ => ⟨S128x512, .f32⟩
  | .local _ .vmem, ⟨19, _⟩ => ⟨S512x512, .f32⟩
  | .local _ .vmem, ⟨20, _⟩ => ⟨S128x16384, .f32⟩
  | .local _ .vmem, ⟨21, _⟩ => ⟨S128x16384, .f32⟩
  | .local _ .vmem, ⟨22, _⟩ => ⟨S4x512x512, .bf16⟩
  | .local _ .vmem, ⟨23, _⟩ => ⟨S256x512, .bf16⟩
  | _, _ => ⟨S16384x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_call1_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_8 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_9 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_10 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_11 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103_0 : Ref sig .tc := ⟨.hbm, 125, rfl⟩
abbrev main_v103_1 : Ref sig .tc := ⟨.hbm, 126, rfl⟩
abbrev main_v103_2 : Ref sig .tc := ⟨.hbm, 127, rfl⟩
abbrev main_v103_3 : Ref sig .tc := ⟨.hbm, 128, rfl⟩
abbrev main_v103_4 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_12 : Ref sig .tc := ⟨.hbm, 133, rfl⟩
abbrev main_v107 : Ref sig .tc := ⟨.hbm, 134, rfl⟩
abbrev main_v108 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨2, ![8, 32], ![false, false]⟩

def k0_off1 (i : grid0.Coords) : Fin 4 → Nat :=
  let arg0 : BitVec 32 := BitVec.ofNat 32 (i 0).val
  let arg1 : BitVec 32 := BitVec.ofNat 32 (i 1).val
  let c16384_i32 : BitVec 32 := 16384#32
  let c0_i32_15 : BitVec 32 := 0#32
  ![arg0.toNat, arg1.toNat, 16384, 0]
def k0_cond2 (i : grid0.Coords) : BitVec 1 :=
  let arg0 : BitVec 32 := BitVec.ofNat 32 (i 0).val
  let c0_i32_16 : BitVec 32 := 0#32
  let v38 : BitVec 1 := Scalar.cmpi .eq arg0 c0_i32_16
  let arg1 : BitVec 32 := BitVec.ofNat 32 (i 1).val
  let c0_i32_17 : BitVec 32 := 0#32
  let v39 : BitVec 1 := Scalar.cmpi .eq arg1 c0_i32_17
  let v40 : BitVec 1 := Scalar.andi v38 v39
  let v41 : BitVec 32 := Scalar.extui v40
  let c0_i32_18 : BitVec 32 := 0#32
  let v42 : BitVec 1 := Scalar.cmpi .ne v41 c0_i32_18
  v42

def k0_mult1 : BitVec 32 :=
  let c0_i32_70 : BitVec 32 := 0#32
  c0_i32_70
def k0_off2 (i : grid0.Coords) : Fin 4 → Nat :=
  let arg0 : BitVec 32 := BitVec.ofNat 32 (i 0).val
  let arg1 : BitVec 32 := BitVec.ofNat 32 (i 1).val
  let c0_i32_70 : BitVec 32 := 0#32
  let v106 : BitVec 32 := c0_i32_70
  let c0_i32_75 : BitVec 32 := 0#32
  ![arg0.toNat, arg1.toNat, 0, 0]
def k0_mult2 : BitVec 32 :=
  let c512_i32 : BitVec 32 := 512#32
  c512_i32
def k0_off3 (i : grid0.Coords) : Fin 4 → Nat :=
  let arg0 : BitVec 32 := BitVec.ofNat 32 (i 0).val
  let arg1 : BitVec 32 := BitVec.ofNat 32 (i 1).val
  let c512_i32 : BitVec 32 := 512#32
  let v113 : BitVec 32 := c512_i32
  let c0_i32_80 : BitVec 32 := 0#32
  ![arg0.toNat, arg1.toNat, 512, 0]
def k0_mult3 : BitVec 32 :=
  let c1024_i32 : BitVec 32 := 1024#32
  c1024_i32
def k0_off4 (i : grid0.Coords) : Fin 4 → Nat :=
  let arg0 : BitVec 32 := BitVec.ofNat 32 (i 0).val
  let arg1 : BitVec 32 := BitVec.ofNat 32 (i 1).val
  let c1024_i32 : BitVec 32 := 1024#32
  let v120 : BitVec 32 := c1024_i32
  let c0_i32_84 : BitVec 32 := 0#32
  ![arg0.toNat, arg1.toNat, 1024, 0]
@[reducible] def k0_t1_loop : Scf.Loop 32 :=
  let c0_i32_59 : BitVec 32 := 0#32
  let c32_i32_60 : BitVec 32 := 32#32
  let v96 : BitVec 32 := Scalar.addi c0_i32_59 c32_i32_60
  let c1_i32_61 : BitVec 32 := 1#32
  ⟨c0_i32_59, v96, c1_i32_61⟩
def k0_mult4 (k0_t1 : Fin k0_t1_loop.trips) : BitVec 32 :=
  let c0_i32_59 : BitVec 32 := 0#32
  let c1_i32_61 : BitVec 32 := 1#32
  let arg25 : BitVec 32 := Scf.iv c0_i32_59 c1_i32_61 k0_t1
  let c512_i32 : BitVec 32 := 512#32
  let v116 : BitVec 32 := Scalar.muli arg25 c512_i32
  v116
def k0_mult5 (k0_t1 : Fin k0_t1_loop.trips) : BitVec 32 :=
  let c0_i32_59 : BitVec 32 := 0#32
  let c1_i32_61 : BitVec 32 := 1#32
  let arg25 : BitVec 32 := Scf.iv c0_i32_59 c1_i32_61 k0_t1
  let c1_i32_75 : BitVec 32 := 1#32
  let v118 : BitVec 32 := Scalar.addi arg25 c1_i32_75
  let c31_i32_76 : BitVec 32 := 31#32
  let v119 : BitVec 32 := Scalar.minsi v118 c31_i32_76
  let c512_i32_77 : BitVec 32 := 512#32
  let v120 : BitVec 32 := Scalar.muli v119 c512_i32_77
  v120
def k0_mult6 (k0_t1 : Fin k0_t1_loop.trips) : BitVec 32 :=
  let c0_i32_59 : BitVec 32 := 0#32
  let c1_i32_61 : BitVec 32 := 1#32
  let arg25 : BitVec 32 := Scf.iv c0_i32_59 c1_i32_61 k0_t1
  let c512_i32_78 : BitVec 32 := 512#32
  let v122 : BitVec 32 := Scalar.muli arg25 c512_i32_78
  v122
def k0_off5 (k0_t1 : Fin k0_t1_loop.trips) : Fin 1 → Nat :=
  let c0_i32_59 : BitVec 32 := 0#32
  let c1_i32_61 : BitVec 32 := 1#32
  let arg25 : BitVec 32 := Scf.iv c0_i32_59 c1_i32_61 k0_t1
  let c4_i32 : BitVec 32 := 4#32
  let c0_i32_70 : BitVec 32 := 0#32
  let v106 : BitVec 1 := Scalar.cmpi .eq c4_i32 c0_i32_70
  let c1_i32_71 : BitVec 32 := 1#32
  let v107 : BitVec 32 := Scalar.select v106 c1_i32_71 c4_i32
  let v108 : BitVec 32 := Scalar.remsi arg25 v107
  let c0_i32_73 : BitVec 32 := 0#32
  let v110 : BitVec 1 := Scalar.cmpi .slt v108 c0_i32_73
  let c0_i32_74 : BitVec 32 := 0#32
  let v111 : BitVec 1 := Scalar.cmpi .slt v107 c0_i32_74
  let v112 : BitVec 1 := Scalar.xori v110 v111
  let c0_i32_72 : BitVec 32 := 0#32
  let v109 : BitVec 1 := Scalar.cmpi .ne v108 c0_i32_72
  let v113 : BitVec 1 := Scalar.andi v112 v109
  let v114 : BitVec 32 := Scalar.addi v108 v107
  let v115 : BitVec 32 := Scalar.select v113 v114 v108
  ![v115.toNat]
def k0_off6 (k0_t1 : Fin k0_t1_loop.trips) : Fin 3 → Nat :=
  let c0_i32_59 : BitVec 32 := 0#32
  let c1_i32_61 : BitVec 32 := 1#32
  let arg25 : BitVec 32 := Scf.iv c0_i32_59 c1_i32_61 k0_t1
  let c4_i32 : BitVec 32 := 4#32
  let c0_i32_70 : BitVec 32 := 0#32
  let v106 : BitVec 1 := Scalar.cmpi .eq c4_i32 c0_i32_70
  let c1_i32_71 : BitVec 32 := 1#32
  let v107 : BitVec 32 := Scalar.select v106 c1_i32_71 c4_i32
  let v108 : BitVec 32 := Scalar.remsi arg25 v107
  let c0_i32_73 : BitVec 32 := 0#32
  let v110 : BitVec 1 := Scalar.cmpi .slt v108 c0_i32_73
  let c0_i32_74 : BitVec 32 := 0#32
  let v111 : BitVec 1 := Scalar.cmpi .slt v107 c0_i32_74
  let v112 : BitVec 1 := Scalar.xori v110 v111
  let c0_i32_72 : BitVec 32 := 0#32
  let v109 : BitVec 1 := Scalar.cmpi .ne v108 c0_i32_72
  let v113 : BitVec 1 := Scalar.andi v112 v109
  let v114 : BitVec 32 := Scalar.addi v108 v107
  let v115 : BitVec 32 := Scalar.select v113 v114 v108
  let c0_i32_79 : BitVec 32 := 0#32
  let c0_i32_80 : BitVec 32 := 0#32
  ![v115.toNat, 0, 0]
def k0_off7 (i : grid0.Coords) (k0_t1 : Fin k0_t1_loop.trips) : Fin 4 → Nat :=
  let arg0 : BitVec 32 := BitVec.ofNat 32 (i 0).val
  let arg1 : BitVec 32 := BitVec.ofNat 32 (i 1).val
  let c0_i32_59 : BitVec 32 := 0#32
  let c1_i32_61 : BitVec 32 := 1#32
  let arg25 : BitVec 32 := Scf.iv c0_i32_59 c1_i32_61 k0_t1
  let c512_i32_78 : BitVec 32 := 512#32
  let v122 : BitVec 32 := Scalar.muli arg25 c512_i32_78
  let v123 : BitVec 32 := v122
  let c0_i32_81 : BitVec 32 := 0#32
  ![arg0.toNat, arg1.toNat, v123.toNat, 0]
def k0_mult7 (k0_t1 : Fin k0_t1_loop.trips) : BitVec 32 :=
  let c0_i32_59 : BitVec 32 := 0#32
  let c1_i32_61 : BitVec 32 := 1#32
  let arg25 : BitVec 32 := Scf.iv c0_i32_59 c1_i32_61 k0_t1
  let c3_i32 : BitVec 32 := 3#32
  let v130 : BitVec 32 := Scalar.addi arg25 c3_i32
  let c32_i32_82 : BitVec 32 := 32#32
  let v131 : BitVec 1 := Scalar.cmpi .sge v130 c32_i32_82
  let c32_i32_89 : BitVec 32 := 32#32
  let v142 : BitVec 32 := Scalar.subi v130 c32_i32_89
  let v143 : BitVec 32 := Scalar.select v131 v142 v130
  let c512_i32_90 : BitVec 32 := 512#32
  let v146 : BitVec 32 := Scalar.muli v143 c512_i32_90
  v146
def k0_off8 (k0_t1 : Fin k0_t1_loop.trips) : Fin 1 → Nat :=
  let c0_i32_59 : BitVec 32 := 0#32
  let c1_i32_61 : BitVec 32 := 1#32
  let arg25 : BitVec 32 := Scf.iv c0_i32_59 c1_i32_61 k0_t1
  let c3_i32 : BitVec 32 := 3#32
  let v130 : BitVec 32 := Scalar.addi arg25 c3_i32
  let c4_i32_83 : BitVec 32 := 4#32
  let c0_i32_84 : BitVec 32 := 0#32
  let v132 : BitVec 1 := Scalar.cmpi .eq c4_i32_83 c0_i32_84
  let c1_i32_85 : BitVec 32 := 1#32
  let v133 : BitVec 32 := Scalar.select v132 c1_i32_85 c4_i32_83
  let v134 : BitVec 32 := Scalar.remsi v130 v133
  let c0_i32_87 : BitVec 32 := 0#32
  let v136 : BitVec 1 := Scalar.cmpi .slt v134 c0_i32_87
  let c0_i32_88 : BitVec 32 := 0#32
  let v137 : BitVec 1 := Scalar.cmpi .slt v133 c0_i32_88
  let v138 : BitVec 1 := Scalar.xori v136 v137
  let c0_i32_86 : BitVec 32 := 0#32
  let v135 : BitVec 1 := Scalar.cmpi .ne v134 c0_i32_86
  let v139 : BitVec 1 := Scalar.andi v138 v135
  let v140 : BitVec 32 := Scalar.addi v134 v133
  let v141 : BitVec 32 := Scalar.select v139 v140 v134
  ![v141.toNat]
def k0_off9 (k0_t1 : Fin k0_t1_loop.trips) : Fin 3 → Nat :=
  let c0_i32_59 : BitVec 32 := 0#32
  let c1_i32_61 : BitVec 32 := 1#32
  let arg25 : BitVec 32 := Scf.iv c0_i32_59 c1_i32_61 k0_t1
  let c3_i32 : BitVec 32 := 3#32
  let v130 : BitVec 32 := Scalar.addi arg25 c3_i32
  let c4_i32_83 : BitVec 32 := 4#32
  let c0_i32_84 : BitVec 32 := 0#32
  let v132 : BitVec 1 := Scalar.cmpi .eq c4_i32_83 c0_i32_84
  let c1_i32_85 : BitVec 32 := 1#32
  let v133 : BitVec 32 := Scalar.select v132 c1_i32_85 c4_i32_83
  let v134 : BitVec 32 := Scalar.remsi v130 v133
  let c0_i32_87 : BitVec 32 := 0#32
  let v136 : BitVec 1 := Scalar.cmpi .slt v134 c0_i32_87
  let c0_i32_88 : BitVec 32 := 0#32
  let v137 : BitVec 1 := Scalar.cmpi .slt v133 c0_i32_88
  let v138 : BitVec 1 := Scalar.xori v136 v137
  let c0_i32_86 : BitVec 32 := 0#32
  let v135 : BitVec 1 := Scalar.cmpi .ne v134 c0_i32_86
  let v139 : BitVec 1 := Scalar.andi v138 v135
  let v140 : BitVec 32 := Scalar.addi v134 v133
  let v141 : BitVec 32 := Scalar.select v139 v140 v134
  let c0_i32_91 : BitVec 32 := 0#32
  let c0_i32_92 : BitVec 32 := 0#32
  ![v141.toNat, 0, 0]
def k0_off10 (i : grid0.Coords) (k0_t1 : Fin k0_t1_loop.trips) : Fin 4 → Nat :=
  let c0_i32_59 : BitVec 32 := 0#32
  let c1_i32_61 : BitVec 32 := 1#32
  let arg25 : BitVec 32 := Scf.iv c0_i32_59 c1_i32_61 k0_t1
  let c3_i32 : BitVec 32 := 3#32
  let v130 : BitVec 32 := Scalar.addi arg25 c3_i32
  let c32_i32_82 : BitVec 32 := 32#32
  let v131 : BitVec 1 := Scalar.cmpi .sge v130 c32_i32_82
  let arg0 : BitVec 32 := BitVec.ofNat 32 (i 0).val
  let arg1 : BitVec 32 := BitVec.ofNat 32 (i 1).val
  let c1_i32 : BitVec 32 := 1#32
  let v5 : BitVec 32 := Scalar.addi arg1 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c32_i32 : BitVec 32 := 32#32
  let c0_i32_4 : BitVec 32 := 0#32
  let v12 : BitVec 1 := Scalar.cmpi .sgt c32_i32 c0_i32_4
  let v13 : BitVec 32 := Scalar.extui v12
  let c0_i32_5 : BitVec 32 := 0#32
  let v14 : BitVec 1 := Scalar.cmpi .slt c32_i32 c0_i32_5
  let v15 : BitVec 32 := Scalar.extui v14
  let v16 : BitVec 32 := Scalar.subi v13 v15
  let v17 : BitVec 1 := Scalar.cmpi .ne v11 v16
  let v18 : BitVec 32 := Scalar.remsi v5 c32_i32
  let c0_i32_6 : BitVec 32 := 0#32
  let v19 : BitVec 1 := Scalar.cmpi .ne v18 c0_i32_6
  let v20 : BitVec 1 := Scalar.andi v17 v19
  let v6 : BitVec 32 := Scalar.divsi v5 c32_i32
  let c1_i32_7 : BitVec 32 := 1#32
  let v21 : BitVec 32 := Scalar.subi v6 c1_i32_7
  let v22 : BitVec 32 := Scalar.select v20 v21 v6
  let v23 : BitVec 32 := Scalar.addi arg0 v22
  let c7_i32 : BitVec 32 := 7#32
  let v24 : BitVec 32 := Scalar.minsi v23 c7_i32
  let v144 : BitVec 32 := Scalar.select v131 v24 arg0
  let c1_i32_8 : BitVec 32 := 1#32
  let v25 : BitVec 32 := Scalar.addi arg1 c1_i32_8
  let c32_i32_9 : BitVec 32 := 32#32
  let c0_i32_10 : BitVec 32 := 0#32
  let v26 : BitVec 1 := Scalar.cmpi .eq c32_i32_9 c0_i32_10
  let c1_i32_11 : BitVec 32 := 1#32
  let v27 : BitVec 32 := Scalar.select v26 c1_i32_11 c32_i32_9
  let v28 : BitVec 32 := Scalar.remsi v25 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let v145 : BitVec 32 := Scalar.select v131 v35 arg1
  let c32_i32_89 : BitVec 32 := 32#32
  let v142 : BitVec 32 := Scalar.subi v130 c32_i32_89
  let v143 : BitVec 32 := Scalar.select v131 v142 v130
  let c512_i32_90 : BitVec 32 := 512#32
  let v146 : BitVec 32 := Scalar.muli v143 c512_i32_90
  let v147 : BitVec 32 := v146
  let c0_i32_93 : BitVec 32 := 0#32
  ![v144.toNat, v145.toNat, v147.toNat, 0]
def k0_off11 (k0_t1 : Fin k0_t1_loop.trips) : Fin 2 → Nat :=
  let c0_i32_59 : BitVec 32 := 0#32
  let c1_i32_61 : BitVec 32 := 1#32
  let arg25 : BitVec 32 := Scf.iv c0_i32_59 c1_i32_61 k0_t1
  let c1_i32_75 : BitVec 32 := 1#32
  let v118 : BitVec 32 := Scalar.addi arg25 c1_i32_75
  let c31_i32_76 : BitVec 32 := 31#32
  let v119 : BitVec 32 := Scalar.minsi v118 c31_i32_76
  let c512_i32_77 : BitVec 32 := 512#32
  let v120 : BitVec 32 := Scalar.muli v119 c512_i32_77
  let v121 : BitVec 32 := v120
  let v155 : Index := Scalar.indexCast v121
  let c0_96 : Index := 0#32
  ![v155.toNat, 0]
def k0_off12 (k0_t1 : Fin k0_t1_loop.trips) : Fin 3 → Nat :=
  let c0_i32_59 : BitVec 32 := 0#32
  let c1_i32_61 : BitVec 32 := 1#32
  let arg25 : BitVec 32 := Scf.iv c0_i32_59 c1_i32_61 k0_t1
  let c4_i32 : BitVec 32 := 4#32
  let c0_i32_70 : BitVec 32 := 0#32
  let v106 : BitVec 1 := Scalar.cmpi .eq c4_i32 c0_i32_70
  let c1_i32_71 : BitVec 32 := 1#32
  let v107 : BitVec 32 := Scalar.select v106 c1_i32_71 c4_i32
  let v108 : BitVec 32 := Scalar.remsi arg25 v107
  let c0_i32_73 : BitVec 32 := 0#32
  let v110 : BitVec 1 := Scalar.cmpi .slt v108 c0_i32_73
  let c0_i32_74 : BitVec 32 := 0#32
  let v111 : BitVec 1 := Scalar.cmpi .slt v107 c0_i32_74
  let v112 : BitVec 1 := Scalar.xori v110 v111
  let c0_i32_72 : BitVec 32 := 0#32
  let v109 : BitVec 1 := Scalar.cmpi .ne v108 c0_i32_72
  let v113 : BitVec 1 := Scalar.andi v112 v109
  let v114 : BitVec 32 := Scalar.addi v108 v107
  let v115 : BitVec 32 := Scalar.select v113 v114 v108
  let v159 : Index := Scalar.indexCast v115
  let c0_98 : Index := 0#32
  let c0_99 : Index := 0#32
  ![v159.toNat, 0, 0]
def k0_off13 (k0_t1 : Fin k0_t1_loop.trips) : Fin 3 → Nat :=
  let c0_106 : Index := 0#32
  let c0_i32_59 : BitVec 32 := 0#32
  let c1_i32_61 : BitVec 32 := 1#32
  let arg25 : BitVec 32 := Scf.iv c0_i32_59 c1_i32_61 k0_t1
  let c0_i32_100 : BitVec 32 := 0#32
  let v163 : BitVec 1 := Scalar.cmpi .sgt arg25 c0_i32_100
  let v164 : BitVec 32 := Scalar.extui v163
  let c0_i32_101 : BitVec 32 := 0#32
  let v165 : BitVec 1 := Scalar.cmpi .slt arg25 c0_i32_101
  let v166 : BitVec 32 := Scalar.extui v165
  let v167 : BitVec 32 := Scalar.subi v164 v166
  let c2_i32 : BitVec 32 := 2#32
  let c0_i32_102 : BitVec 32 := 0#32
  let v168 : BitVec 1 := Scalar.cmpi .sgt c2_i32 c0_i32_102
  let v169 : BitVec 32 := Scalar.extui v168
  let c0_i32_103 : BitVec 32 := 0#32
  let v170 : BitVec 1 := Scalar.cmpi .slt c2_i32 c0_i32_103
  let v171 : BitVec 32 := Scalar.extui v170
  let v172 : BitVec 32 := Scalar.subi v169 v171
  let v173 : BitVec 1 := Scalar.cmpi .ne v167 v172
  let v174 : BitVec 32 := Scalar.remsi arg25 c2_i32
  let c0_i32_104 : BitVec 32 := 0#32
  let v175 : BitVec 1 := Scalar.cmpi .ne v174 c0_i32_104
  let v176 : BitVec 1 := Scalar.andi v173 v175
  let v162 : BitVec 32 := Scalar.divsi arg25 c2_i32
  let c1_i32_105 : BitVec 32 := 1#32
  let v177 : BitVec 32 := Scalar.subi v162 c1_i32_105
  let v178 : BitVec 32 := Scalar.select v176 v177 v162
  let v179 : Index := Scalar.indexCast v178
  let c0_107 : Index := 0#32
  ![0, v179.toNat, 0]
def k0_off14 (k0_t1 : Fin k0_t1_loop.trips) : Fin 2 → Nat :=
  let c0_110 : Index := 0#32
  let c0_i32_59 : BitVec 32 := 0#32
  let c1_i32_61 : BitVec 32 := 1#32
  let arg25 : BitVec 32 := Scf.iv c0_i32_59 c1_i32_61 k0_t1
  let c512_i32 : BitVec 32 := 512#32
  let v116 : BitVec 32 := Scalar.muli arg25 c512_i32
  let v117 : BitVec 32 := v116
  let v193 : Index := Scalar.indexCast v117
  ![0, v193.toNat]
def k0_cond3 (i : grid0.Coords) : BitVec 1 :=
  let arg0 : BitVec 32 := BitVec.ofNat 32 (i 0).val
  let c7_i32_68 : BitVec 32 := 7#32
  let v101 : BitVec 1 := Scalar.cmpi .eq arg0 c7_i32_68
  let arg1 : BitVec 32 := BitVec.ofNat 32 (i 1).val
  let c31_i32 : BitVec 32 := 31#32
  let v102 : BitVec 1 := Scalar.cmpi .eq arg1 c31_i32
  let v103 : BitVec 1 := Scalar.andi v101 v102
  let v104 : BitVec 32 := Scalar.extui v103
  let c0_i32_69 : BitVec 32 := 0#32
  let v105 : BitVec 1 := Scalar.cmpi .ne v104 c0_i32_69
  v105

def k0_mult8 : BitVec 32 :=
  let c0_i32_70 : BitVec 32 := 0#32
  c0_i32_70
def k0_off15 (i : grid0.Coords) : Fin 4 → Nat :=
  let arg0 : BitVec 32 := BitVec.ofNat 32 (i 0).val
  let arg1 : BitVec 32 := BitVec.ofNat 32 (i 1).val
  let c0_i32_70 : BitVec 32 := 0#32
  let v106 : BitVec 32 := c0_i32_70
  let c0_i32_75 : BitVec 32 := 0#32
  ![arg0.toNat, arg1.toNat, 0, 0]
def k0_mult9 : BitVec 32 :=
  let c512_i32 : BitVec 32 := 512#32
  c512_i32
def k0_off16 (i : grid0.Coords) : Fin 4 → Nat :=
  let arg0 : BitVec 32 := BitVec.ofNat 32 (i 0).val
  let arg1 : BitVec 32 := BitVec.ofNat 32 (i 1).val
  let c512_i32 : BitVec 32 := 512#32
  let v113 : BitVec 32 := c512_i32
  let c0_i32_80 : BitVec 32 := 0#32
  ![arg0.toNat, arg1.toNat, 512, 0]
def k0_mult10 : BitVec 32 :=
  let c1024_i32 : BitVec 32 := 1024#32
  c1024_i32
def k0_off17 (i : grid0.Coords) : Fin 4 → Nat :=
  let arg0 : BitVec 32 := BitVec.ofNat 32 (i 0).val
  let arg1 : BitVec 32 := BitVec.ofNat 32 (i 1).val
  let c1024_i32 : BitVec 32 := 1024#32
  let v120 : BitVec 32 := c1024_i32
  let c0_i32_84 : BitVec 32 := 0#32
  ![arg0.toNat, arg1.toNat, 1024, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x17x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16384x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S16384x2x4x64 : Shape := ⟨4, ![16384, 2, 4, 64]⟩
abbrev S16640x2x64 : Shape := ⟨3, ![16640, 2, 64]⟩
abbrev S16384x512 : Shape := ⟨2, ![16384, 512]⟩
abbrev S2x16640x16384x4 : Shape := ⟨4, ![2, 16640, 16384, 4]⟩
abbrev S2x4x16384x16640 : Shape := ⟨4, ![2, 4, 16384, 16640]⟩
abbrev S_ : Shape := ⟨0, ![]⟩
abbrev S2x4x16384 : Shape := ⟨3, ![2, 4, 16384]⟩
abbrev S2x4x16384x1 : Shape := ⟨4, ![2, 4, 16384, 1]⟩
abbrev S2x64x4x16384 : Shape := ⟨4, ![2, 64, 4, 16384]⟩
abbrev S2x64x16640 : Shape := ⟨3, ![2, 64, 16640]⟩
abbrev S2x16384x4x64 : Shape := ⟨4, ![2, 16384, 4, 64]⟩
abbrev S2x16640x64 : Shape := ⟨3, ![2, 16640, 64]⟩
abbrev S16640x128 : Shape := ⟨2, ![16640, 128]⟩
abbrev S128x16640 : Shape := ⟨2, ![128, 16640]⟩
abbrev S16384x8x64 : Shape := ⟨3, ![16384, 8, 64]⟩
abbrev S8x64x16384 : Shape := ⟨3, ![8, 64, 16384]⟩
abbrev S128x16384 : Shape := ⟨2, ![128, 16384]⟩
abbrev S128x256 : Shape := ⟨2, ![128, 256]⟩

abbrev nBuf : Space → Nat
  | .hbm => 87
  | .vmem => 0
  | .smem => 0
  | _ => 0

abbrev bufTy : (tb : Table) → Fin (tcTables nBuf tb) → BufTy
  | .hbm, ⟨0, _⟩ => ⟨S16384x2x4x64, .f32⟩
  | .hbm, ⟨1, _⟩ => ⟨S16640x2x64, .f32⟩
  | .hbm, ⟨2, _⟩ => ⟨S16640x2x64, .f32⟩
  | .hbm, ⟨3, _⟩ => ⟨S16384x512, .f32⟩
  | .hbm, ⟨4, _⟩ => ⟨S2x16640x16384x4, .f32⟩
  | .hbm, ⟨5, _⟩ => ⟨S2x4x16384x16640, .f32⟩
  | .hbm, ⟨6, _⟩ => ⟨S_, .f32⟩
  | .hbm, ⟨7, _⟩ => ⟨S2x4x16384x16640, .f32⟩
  | .hbm, ⟨8, _⟩ => ⟨S2x4x16384x16640, .f32⟩
  | .hbm, ⟨9, _⟩ => ⟨S_, .f32⟩
  | .hbm, ⟨10, _⟩ => ⟨S2x4x16384, .f32⟩
  | .hbm, ⟨11, _⟩ => ⟨S2x4x16384x1, .f32⟩
  | .hbm, ⟨12, _⟩ => ⟨S2x4x16384x16640, .f32⟩
  | .hbm, ⟨13, _⟩ => ⟨S2x4x16384x16640, .i1⟩
  | .hbm, ⟨14, _⟩ => ⟨S2x4x16384x16640, .f32⟩
  | .hbm, ⟨15, _⟩ => ⟨S_, .f32⟩
  | .hbm, ⟨16, _⟩ => ⟨S2x4x16384, .f32⟩
  | .hbm, ⟨17, _⟩ => ⟨S_, .f32⟩
  | .hbm, ⟨18, _⟩ => ⟨S2x4x16384, .f32⟩
  | .hbm, ⟨19, _⟩ => ⟨S2x4x16384, .f32⟩
  | .hbm, ⟨20, _⟩ => ⟨S_, .f32⟩
  | .hbm, ⟨21, _⟩ => ⟨S2x4x16384, .f32⟩
  | .hbm, ⟨22, _⟩ => ⟨S2x4x16384, .i1⟩
  | .hbm, ⟨23, _⟩ => ⟨S_, .f32⟩
  | .hbm, ⟨24, _⟩ => ⟨S2x4x16384, .f32⟩
  | .hbm, ⟨25, _⟩ => ⟨S2x4x16384, .i1⟩
  | .hbm, ⟨26, _⟩ => ⟨S_, .f32⟩
  | .hbm, ⟨27, _⟩ => ⟨S2x4x16384, .f32⟩
  | .hbm, ⟨28, _⟩ => ⟨S_, .f32⟩
  | .hbm, ⟨29, _⟩ => ⟨S2x4x16384, .f32⟩
  | .hbm, ⟨30, _⟩ => ⟨S_, .f32⟩
  | .hbm, ⟨31, _⟩ => ⟨S2x4x16384, .f32⟩
  | .hbm, ⟨32, _⟩ => ⟨S2x4x16384, .f32⟩
  | .hbm, ⟨33, _⟩ => ⟨S2x4x16384, .f32⟩
  | .hbm, ⟨34, _⟩ => ⟨S2x4x16384x1, .f32⟩
  | .hbm, ⟨35, _⟩ => ⟨S2x4x16384x16640, .f32⟩
  | .hbm, ⟨36, _⟩ => ⟨S2x4x16384x16640, .f32⟩
  | .hbm, ⟨37, _⟩ => ⟨S2x4x16384x16640, .f32⟩
  | .hbm, ⟨38, _⟩ => ⟨S_, .f32⟩
  | .hbm, ⟨39, _⟩ => ⟨S2x4x16384, .f32⟩
  | .hbm, ⟨40, _⟩ => ⟨S2x4x16384x1, .f32⟩
  | .hbm, ⟨41, _⟩ => ⟨S2x4x16384x16640, .f32⟩
  | .hbm, ⟨42, _⟩ => ⟨S2x4x16384x16640, .f32⟩
  | .hbm, ⟨43, _⟩ => ⟨S2x4x16384x1, .f32⟩
  | .hbm, ⟨44, _⟩ => ⟨S_, .f32⟩
  | .hbm, ⟨45, _⟩ => ⟨S2x4x16384x1, .f32⟩
  | .hbm, ⟨46, _⟩ => ⟨S2x4x16384x1, .f32⟩
  | .hbm, ⟨47, _⟩ => ⟨S2x64x4x16384, .f32⟩
  | .hbm, ⟨48, _⟩ => ⟨S16384x2x4x64, .f32⟩
  | .hbm, ⟨49, _⟩ => ⟨S16384x512, .f32⟩
  | .hbm, ⟨50, _⟩ => ⟨S16384x2x4x64, .f32⟩
  | .hbm, ⟨51, _⟩ => ⟨S2x64x4x16384, .f32⟩
  | .hbm, ⟨52, _⟩ => ⟨S2x4x16384x16640, .f32⟩
  | .hbm, ⟨53, _⟩ => ⟨S2x64x16640, .f32⟩
  | .hbm, ⟨54, _⟩ => ⟨S16640x2x64, .f32⟩
  | .hbm, ⟨55, _⟩ => ⟨S2x4x16384x16640, .f32⟩
  | .hbm, ⟨56, _⟩ => ⟨S2x4x16384x16640, .f32⟩
  | .hbm, ⟨57, _⟩ => ⟨S2x4x16384x16640, .f32⟩
  | .hbm, ⟨58, _⟩ => ⟨S_, .f32⟩
  | .hbm, ⟨59, _⟩ => ⟨S2x4x16384, .f32⟩
  | .hbm, ⟨60, _⟩ => ⟨S2x4x16384x1, .f32⟩
  | .hbm, ⟨61, _⟩ => ⟨S2x4x16384x1, .f32⟩
  | .hbm, ⟨62, _⟩ => ⟨S2x4x16384x16640, .f32⟩
  | .hbm, ⟨63, _⟩ => ⟨S2x4x16384x16640, .f32⟩
  | .hbm, ⟨64, _⟩ => ⟨S_, .f32⟩
  | .hbm, ⟨65, _⟩ => ⟨S2x4x16384, .f32⟩
  | .hbm, ⟨66, _⟩ => ⟨S2x4x16384x16640, .f32⟩
  | .hbm, ⟨67, _⟩ => ⟨S2x4x16384x16640, .f32⟩
  | .hbm, ⟨68, _⟩ => ⟨S2x4x16384x16640, .f32⟩
  | .hbm, ⟨69, _⟩ => ⟨S_, .f32⟩
  | .hbm, ⟨70, _⟩ => ⟨S2x4x16384x16640, .f32⟩
  | .hbm, ⟨71, _⟩ => ⟨S2x4x16384x16640, .f32⟩
  | .hbm, ⟨72, _⟩ => ⟨S2x16640x16384x4, .f32⟩
  | .hbm, ⟨73, _⟩ => ⟨S2x16384x4x64, .f32⟩
  | .hbm, ⟨74, _⟩ => ⟨S16384x2x4x64, .f32⟩
  | .hbm, ⟨75, _⟩ => ⟨S2x16640x64, .f32⟩
  | .hbm, ⟨76, _⟩ => ⟨S16640x2x64, .f32⟩
  | .hbm, ⟨77, _⟩ => ⟨S16640x128, .f32⟩
  | .hbm, ⟨78, _⟩ => ⟨S128x16640, .f32⟩
  | .hbm, ⟨79, _⟩ => ⟨S16640x128, .f32⟩
  | .hbm, ⟨80, _⟩ => ⟨S128x16640, .f32⟩
  | .hbm, ⟨81, _⟩ => ⟨S16384x8x64, .f32⟩
  | .hbm, ⟨82, _⟩ => ⟨S8x64x16384, .f32⟩
  | .hbm, ⟨83, _⟩ => ⟨S128x16384, .f32⟩
  | .hbm, ⟨84, _⟩ => ⟨S128x16384, .f32⟩
  | .hbm, ⟨85, _⟩ => ⟨S128x256, .f32⟩
  | .hbm, ⟨86, _⟩ => ⟨S128x256, .f32⟩
  | _, _ => ⟨S16384x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S2x16384x2816 : Shape := ⟨3, ![2, 16384, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S2x16384x2816, .bf16⟩
  | .hbm, ⟨4, _⟩ => ⟨S4x1024x1408, .f32⟩
  | .local _ .vmem, ⟨0, _⟩ => ⟨S2048x1024, .f32⟩
  | .local _ .vmem, ⟨1, _⟩ => ⟨S2048x1024, .f32⟩
  | .local _ .vmem, ⟨2, _⟩ => ⟨S1x2048x1408, .bf16⟩
  | .local _ .vmem, ⟨3, _⟩ => ⟨S1x2048x1408, .bf16⟩
  | .local _ .vmem, ⟨4, _⟩ => ⟨S1x1024, .f32⟩
  | .local _ .vmem, ⟨5, _⟩ => ⟨S1x1024, .f32⟩
  | .local _ .vmem, ⟨6, _⟩ => ⟨S1x1024x1408, .f32⟩
  | .local _ .vmem, ⟨7, _⟩ => ⟨S1x1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S16384x1024 : Shape := ⟨2, ![16384, 1024]⟩
abbrev S1x1024 : Shape := ⟨2, ![1, 1024]⟩
abbrev S2x16384x2816 : Shape := ⟨3, ![2, 16384, 2816]⟩
abbrev S16384x2x2816 : Shape := ⟨3, ![16384, 2, 2816]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S2x16384x2816, .bf16⟩
  | .hbm, ⟨4, _⟩ => ⟨S2x16384x2816, .f32⟩
  | .hbm, ⟨5, _⟩ => ⟨S16384x2x2816, .f32⟩
  | .hbm, ⟨6, _⟩ => ⟨S16384x5632, .f32⟩
  | .hbm, ⟨7, _⟩ => ⟨S_, .f32⟩
  | .hbm, ⟨8, _⟩ => ⟨S1024x5632, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x5632, .f32⟩
  | .hbm, ⟨17, _⟩ => ⟨S5632x1024, .f32⟩
  | .hbm, ⟨18, _⟩ => ⟨S1024x5632, .f32⟩
  | .hbm, ⟨19, _⟩ => ⟨S1024x4x1408, .f32⟩
  | .hbm, ⟨20, _⟩ => ⟨S4x1024x1408, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S16384x2816 : Shape := ⟨2, ![16384, 2816]⟩
abbrev S16384x1024 : Shape := ⟨2, ![16384, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S16384x2816, .f32⟩
  | .hbm, ⟨3, _⟩ => ⟨S16384x1024, .f32⟩
  | .hbm, ⟨4, _⟩ => ⟨S_, .f32⟩
  | .hbm, ⟨5, _⟩ => ⟨S2816x1024, .f32⟩
  | .hbm, ⟨6, _⟩ => ⟨S16384x1024, .f32⟩
  | .hbm, ⟨7, _⟩ => ⟨S1024x2816, .f32⟩
  | .hbm, ⟨8, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S16384x1024 : Shape := ⟨2, ![16384, 1024]⟩
abbrev S1x1024 : Shape := ⟨2, ![1, 1024]⟩
abbrev S16384x3584 : Shape := ⟨2, ![16384, 3584]⟩
abbrev S4x1024x896 : Shape := ⟨3, ![4, 1024, 896]⟩
abbrev S8x3584 : Shape := ⟨2, ![8, 3584]⟩
abbrev S2048x1024 : Shape := ⟨2, ![2048, 1024]⟩
abbrev S2048x896 : Shape := ⟨2, ![2048, 896]⟩
abbrev S1x1024x896 : Shape := ⟨3, ![1, 1024, 896]⟩
abbrev S8x896 : Shape := ⟨2, ![8, 896]⟩
abbrev S1024x896 : Shape := ⟨2, ![1024, 896]⟩
abbrev S896 : Shape := ⟨1, ![896]⟩
abbrev S1x896 : Shape := ⟨2, ![1, 896]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x3584, .bf16⟩
  | .hbm, ⟨4, _⟩ => ⟨S4x1024x896, .f32⟩
  | .hbm, ⟨5, _⟩ => ⟨S8x3584, .f32⟩
  | .local _ .vmem, ⟨0, _⟩ => ⟨S2048x1024, .f32⟩
  | .local _ .vmem, ⟨1, _⟩ => ⟨S2048x1024, .f32⟩
  | .local _ .vmem, ⟨2, _⟩ => ⟨S2048x896, .bf16⟩
  | .local _ .vmem, ⟨3, _⟩ => ⟨S2048x896, .bf16⟩
  | .local _ .vmem, ⟨4, _⟩ => ⟨S1x1024, .f32⟩
  | .local _ .vmem, ⟨5, _⟩ => ⟨S1x1024, .f32⟩
  | .local _ .vmem, ⟨6, _⟩ => ⟨S1x1024x896, .f32⟩
  | .local _ .vmem, ⟨7, _⟩ => ⟨S1x1024x896, .f32⟩
  | .local _ .vmem, ⟨8, _⟩ => ⟨S8x896, .f32⟩
  | .local _ .vmem, ⟨9, _⟩ => ⟨S8x896, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S16384x1024 : Shape := ⟨2, ![16384, 1024]⟩
abbrev S1x1024 : Shape := ⟨2, ![1, 1024]⟩
abbrev S16384x3584 : Shape := ⟨2, ![16384, 3584]⟩
abbrev S_ : Shape := ⟨0, ![]⟩
abbrev S1024x3584 : Shape := ⟨2, ![1024, 3584]⟩
abbrev S3584 : Shape := ⟨1, ![3584]⟩
abbrev S1x3584 : Shape := ⟨2, ![1, 3584]⟩
abbrev S3584x1024 : Shape := ⟨2, ![3584, 1024]⟩
abbrev S1024x4x896 : Shape := ⟨3, ![1024, 4, 896]⟩
abbrev S4x1024x896 : Shape := ⟨3, ![4, 1024, 896]⟩
abbrev S8x3584 : Shape := ⟨2, ![8, 3584]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x3584, .bf16⟩
  | .hbm, ⟨4, _⟩ => ⟨S_, .f32⟩
  | .hbm, ⟨5, _⟩ => ⟨S1024x3584, .f32⟩
  | .hbm, ⟨6, _⟩ => ⟨S_, .f32⟩
  | .hbm, ⟨7, _⟩ => ⟨S3584, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x3584, .f32⟩
  | .hbm, ⟨16, _⟩ => ⟨S1x3584, .f32⟩
  | .hbm, ⟨17, _⟩ => ⟨S16384x3584, .f32⟩
  | .hbm, ⟨18, _⟩ => ⟨S16384x3584, .f32⟩
  | .hbm, ⟨19, _⟩ => ⟨S16384x3584, .f32⟩
  | .hbm, ⟨20, _⟩ => ⟨S_, .f32⟩
  | .hbm, ⟨21, _⟩ => ⟨S3584, .f32⟩
  | .hbm, ⟨22, _⟩ => ⟨S1x3584, .f32⟩
  | .hbm, ⟨23, _⟩ => ⟨S_, .f32⟩
  | .hbm, ⟨24, _⟩ => ⟨S3584, .f32⟩
  | .hbm, ⟨25, _⟩ => ⟨S3584x1024, .f32⟩
  | .hbm, ⟨26, _⟩ => ⟨S1024x3584, .f32⟩
  | .hbm, ⟨27, _⟩ => ⟨S1024x4x896, .f32⟩
  | .hbm, ⟨28, _⟩ => ⟨S4x1024x896, .f32⟩
  | .hbm, ⟨29, _⟩ => ⟨S8x3584, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel8.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference8Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S16384x1024 : Shape := ⟨2, ![16384, 1024]⟩
abbrev S1x1024 : Shape := ⟨2, ![1, 1024]⟩
abbrev S4x1024x1408 : Shape := ⟨3, ![4, 1024, 1408]⟩
abbrev S_ : Shape := ⟨0, ![]⟩
abbrev S1x5632 : Shape := ⟨2, ![1, 5632]⟩
abbrev S2x16384x2816 : Shape := ⟨3, ![2, 16384, 2816]⟩
abbrev S2048x1024 : Shape := ⟨2, ![2048, 1024]⟩
abbrev S1x1024x1408 : Shape := ⟨3, ![1, 1024, 1408]⟩
abbrev S1x1408 : Shape := ⟨2, ![1, 1408]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S4x1024x1408, .bf16⟩
  | .hbm, ⟨4, _⟩ => ⟨S_, .f32⟩
  | .hbm, ⟨5, _⟩ => ⟨S1x5632, .f32⟩
  | .hbm, ⟨6, _⟩ => ⟨S2x16384x2816, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S1x1024x1408, .bf16⟩
  | .local _ .vmem, ⟨5, _⟩ => ⟨S1x1024x1408, .bf16⟩
  | .local _ .vmem, ⟨6, _⟩ => ⟨S1x1408, .f32⟩
  | .local _ .vmem, ⟨7, _⟩ => ⟨S1x1408, .f32⟩
  | .local _ .vmem, ⟨8, _⟩ => ⟨S1x2048x1408, .bf16⟩
  | .local _ .vmem, ⟨9, _⟩ => ⟨S1x2048x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S16384x1024 : Shape := ⟨2, ![16384, 1024]⟩
abbrev S1x1024 : Shape := ⟨2, ![1, 1024]⟩
abbrev S4x1024x1408 : Shape := ⟨3, ![4, 1024, 1408]⟩
abbrev S_ : Shape := ⟨0, ![]⟩
abbrev S1024x4x1408 : Shape := ⟨3, ![1024, 4, 1408]⟩
abbrev S1024x5632 : Shape := ⟨2, ![1024, 5632]⟩
abbrev S16384x5632 : Shape := ⟨2, ![16384, 5632]⟩
abbrev S16384x2x2816 : Shape := ⟨3, ![16384, 2, 2816]⟩
abbrev S2x16384x2816 : Shape := ⟨3, ![2, 16384, 2816]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S4x1024x1408, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S4x1024x1408, .f32⟩
  | .hbm, ⟨12, _⟩ => ⟨S1024x4x1408, .f32⟩
  | .hbm, ⟨13, _⟩ => ⟨S1024x5632, .f32⟩
  | .hbm, ⟨14, _⟩ => ⟨S16384x5632, .f32⟩
  | .hbm, ⟨15, _⟩ => ⟨S16384x2x2816, .f32⟩
  | .hbm, ⟨16, _⟩ => ⟨S2x16384x2816, .f32⟩
  | .hbm, ⟨17, _⟩ => ⟨S2x16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel10.lean ====
abbrev S16384x1024 : Shape := ⟨2, ![16384, 1024]⟩
abbrev S1x1024 : Shape := ⟨2, ![1, 1024]⟩
abbrev S4x1024x896 : Shape := ⟨3, ![4, 1024, 896]⟩
abbrev S1x3584 : Shape := ⟨2, ![1, 3584]⟩
abbrev S16384x3584 : Shape := ⟨2, ![16384, 3584]⟩
abbrev S2048x1024 : Shape := ⟨2, ![2048, 1024]⟩
abbrev S1x1024x896 : Shape := ⟨3, ![1, 1024, 896]⟩
abbrev S1x896 : Shape := ⟨2, ![1, 896]⟩
abbrev S2048x896 : Shape := ⟨2, ![2048, 896]⟩
abbrev S1024x896 : Shape := ⟨2, ![1024, 896]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S4x1024x896, .bf16⟩
  | .hbm, ⟨4, _⟩ => ⟨S1x3584, .f32⟩
  | .hbm, ⟨5, _⟩ => ⟨S16384x3584, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S1x1024x896, .bf16⟩
  | .local _ .vmem, ⟨5, _⟩ => ⟨S1x1024x896, .bf16⟩
  | .local _ .vmem, ⟨6, _⟩ => ⟨S1x896, .f32⟩
  | .local _ .vmem, ⟨7, _⟩ => ⟨S1x896, .f32⟩
  | .local _ .vmem, ⟨8, _⟩ => ⟨S2048x896, .f32⟩
  | .local _ .vmem, ⟨9, _⟩ => ⟨S2048x896, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S16384x1024 : Shape := ⟨2, ![16384, 1024]⟩
abbrev S1x1024 : Shape := ⟨2, ![1, 1024]⟩
abbrev S4x1024x896 : Shape := ⟨3, ![4, 1024, 896]⟩
abbrev S1x3584 : Shape := ⟨2, ![1, 3584]⟩
abbrev S_ : Shape := ⟨0, ![]⟩
abbrev S1024x4x896 : Shape := ⟨3, ![1024, 4, 896]⟩
abbrev S1024x3584 : Shape := ⟨2, ![1024, 3584]⟩
abbrev S16384x3584 : Shape := ⟨2, ![16384, 3584]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S4x1024x896, .bf16⟩
  | .hbm, ⟨4, _⟩ => ⟨S1x3584, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S4x1024x896, .f32⟩
  | .hbm, ⟨13, _⟩ => ⟨S1024x4x896, .f32⟩
  | .hbm, ⟨14, _⟩ => ⟨S1024x3584, .f32⟩
  | .hbm, ⟨15, _⟩ => ⟨S16384x3584, .f32⟩
  | .hbm, ⟨16, _⟩ => ⟨S16384x3584, .f32⟩
  | .hbm, ⟨17, _⟩ => ⟨S16384x3584, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel6.lean ====
abbrev S16384x3584 : Shape := ⟨2, ![16384, 3584]⟩
abbrev S4x1024x896 : Shape := ⟨3, ![4, 1024, 896]⟩
abbrev S16384x1024 : Shape := ⟨2, ![16384, 1024]⟩
abbrev S1x1024 : Shape := ⟨2, ![1, 1024]⟩
abbrev S1024x896 : Shape := ⟨2, ![1024, 896]⟩
abbrev S1x1024x896 : Shape := ⟨3, ![1, 1024, 896]⟩
abbrev S1024x1024 : Shape := ⟨2, ![1024, 1024]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x3584, .bf16⟩
  | .hbm, ⟨1, _⟩ => ⟨S4x1024x896, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S1x1024, .f32⟩
  | .hbm, ⟨7, _⟩ => ⟨S1x1024, .f32⟩
  | .local _ .vmem, ⟨0, _⟩ => ⟨S1024x896, .bf16⟩
  | .local _ .vmem, ⟨1, _⟩ => ⟨S1024x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | _, _ => ⟨S16384x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_12 : BitVec 32 := 0#32
  let v19 : BitVec 1 := Scalar.cmpi .ne v18 c0_i32_12
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference6Ideal.lean ====
abbrev S16384x3584 : Shape := ⟨2, ![16384, 3584]⟩
abbrev S4x1024x896 : Shape := ⟨3, ![4, 1024, 896]⟩
abbrev S16384x1024 : Shape := ⟨2, ![16384, 1024]⟩
abbrev S1x1024 : Shape := ⟨2, ![1, 1024]⟩
abbrev S_ : Shape := ⟨0, ![]⟩
abbrev S1024x4x896 : Shape := ⟨3, ![1024, 4, 896]⟩
abbrev S1024x3584 : Shape := ⟨2, ![1024, 3584]⟩
abbrev S1024 : Shape := ⟨1, ![1024]⟩

abbrev nBuf : Space → Nat
  | .hbm => 30
  | .vmem => 0
  | .smem => 0
  | _ => 0

abbrev bufTy : (tb : Table) → Fin (tcTables nBuf tb) → BufTy
  | .hbm, ⟨0, _⟩ => ⟨S16384x3584, .bf16⟩
  | .hbm, ⟨1, _⟩ => ⟨S4x1024x896, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S4x1024x896, .f32⟩
  | .hbm, ⟨15, _⟩ => ⟨S1024x4x896, .f32⟩
  | .hbm, ⟨16, _⟩ => ⟨S1024x3584, .f32⟩
  | .hbm, ⟨17, _⟩ => ⟨S16384x3584, .f32⟩
  | .hbm, ⟨18, _⟩ => ⟨S16384x3584, .f32⟩
  | .hbm, ⟨19, _⟩ => ⟨S16384x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S16384x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | _, _ => ⟨S16384x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel11.lean ====
abbrev S16384x1024 : Shape := ⟨2, ![16384, 1024]⟩
abbrev S1x1024 : Shape := ⟨2, ![1, 1024]⟩
abbrev S4x1024x1408 : Shape := ⟨3, ![4, 1024, 1408]⟩
abbrev S2x16384x2816 : Shape := ⟨3, ![2, 16384, 2816]⟩
abbrev S_ : Shape := ⟨0, ![]⟩
abbrev S16384 : Shape := ⟨1, ![16384]⟩
abbrev S16384x1 : Shape := ⟨2, ![16384, 1]⟩
abbrev S1x512x1408 : Shape := ⟨3, ![1, 512, 1408]⟩
abbrev S1x1024x1408 : Shape := ⟨3, ![1, 1024, 1408]⟩
abbrev S512x1024 : Shape := ⟨2, ![512, 1024]⟩
abbrev S512x1 : Shape := ⟨2, ![512, 1]⟩
abbrev S512x1408 : Shape := ⟨2, ![512, 1408]⟩
abbrev S1024x1408 : Shape := ⟨2, ![1024, 1408]⟩
abbrev S1024 : Shape := ⟨1, ![1024]⟩
abbrev S512 : Shape := ⟨1, ![512]⟩

abbrev nBuf : Space → Nat
  | .hbm => 49
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4x1024x1408, .bf16⟩
  | .hbm, ⟨7, _⟩ => ⟨S2x16384x2816, .bf16⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .bf16⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_v27_3 : Ref sig .tc := ⟨.hbm, 45, rfl⟩
abbrev main_v27_4 : Ref sig .tc := ⟨.hbm, 46, rfl⟩
abbrev main_v27_5 : Ref sig .tc := ⟨.hbm, 47, rfl⟩
abbrev main_v27_6 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨2, ![32, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_13 : BitVec 32 := 0#32
  let v20 : BitVec 1 := Scalar.cmpi .ne v19 c0_i32_13
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== Reference11Ideal.lean ====
abbrev S16384x1024 : Shape := ⟨2, ![16384, 1024]⟩
abbrev S1x1024 : Shape := ⟨2, ![1, 1024]⟩
abbrev S4x1024x1408 : Shape := ⟨3, ![4, 1024, 1408]⟩
abbrev S2x16384x2816 : Shape := ⟨3, ![2, 16384, 2816]⟩
abbrev S16384x2x2816 : Shape := ⟨3, ![16384, 2, 2816]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1024x4x1408 : Shape := ⟨3, ![1024, 4, 1408]⟩
abbrev S1024x5632 : Shape := ⟨2, ![1024, 5632]⟩
abbrev S1024 : Shape := ⟨1, ![1024]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4x1024x1408, .bf16⟩
  | .hbm, ⟨7, _⟩ => ⟨S2x16384x2816, .bf16⟩
  | .hbm, ⟨8, _⟩ => ⟨S16384x1024, .f32⟩
  | .hbm, ⟨9, _⟩ => ⟨S2x16384x2816, .f32⟩
  | .hbm, ⟨10, _⟩ => ⟨S16384x2x2816, .f32⟩
  | .hbm, ⟨11, _⟩ => ⟨S16384x5632, .f32⟩
  | .hbm, ⟨12, _⟩ => ⟨S_, .f32⟩
  | .hbm, ⟨13, _⟩ => ⟨S1x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S4x1024x1408, .f32⟩
  | .hbm, ⟨55, _⟩ => ⟨S1024x4x1408, .f32⟩
  | .hbm, ⟨56, _⟩ => ⟨S1024x5632, .f32⟩
  | .hbm, ⟨57, _⟩ => ⟨S16384x5632, .f32⟩
  | .hbm, ⟨58, _⟩ => ⟨S16384x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S16384x1024, .f32⟩
  | .hbm, ⟨74, _⟩ => ⟨S_, .f32⟩
  | .hbm, ⟨75, _⟩ => ⟨S1024, .f32⟩
  | .hbm, ⟨76, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Kernel12.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S32x8x128 : Shape := ⟨3, ![32, 8, 128]⟩
abbrev S512x2816 : Shape := ⟨2, ![512, 2816]⟩
abbrev S512x1024 : Shape := ⟨2, ![512, 1024]⟩
abbrev S1x8x128 : Shape := ⟨3, ![1, 8, 128]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S8x128 : Shape := ⟨2, ![8, 128]⟩
abbrev S1024 : Shape := ⟨1, ![1024]⟩

abbrev nBuf : Space → Nat
  | .hbm => 13
  | .vmem => 19
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S32x8x128, .f32⟩
  | .hbm, ⟨8, _⟩ => ⟨S16384x1024, .bf16⟩
  | .hbm, ⟨9, _⟩ => ⟨S16384x1024, .f32⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x8x128, .f32⟩
  | .local _ .vmem, ⟨11, _⟩ => ⟨S1x8x128, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference12Ideal.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S32x512 : Shape := ⟨2, ![32, 512]⟩
abbrev S32 : Shape := ⟨1, ![32]⟩
abbrev S32x1x1 : Shape := ⟨3, ![32, 1, 1]⟩
abbrev S32x8x128 : Shape := ⟨3, ![32, 8, 128]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S16384x2816, .f32⟩
  | .hbm, ⟨8, _⟩ => ⟨S2816x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S_, .f32⟩
  | .hbm, ⟨51, _⟩ => ⟨S16384, .f32⟩
  | .hbm, ⟨52, _⟩ => ⟨S16384, .f32⟩
  | .hbm, ⟨53, _⟩ => ⟨S32x512, .f32⟩
  | .hbm, ⟨54, _⟩ => ⟨S_, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S32x1x1, .f32⟩
  | .hbm, ⟨60, _⟩ => ⟨S32x8x128, .f32⟩
  | .hbm, ⟨61, _⟩ => ⟨S_, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S32x512, .f32⟩
  | .hbm, ⟨67, _⟩ => ⟨S16384, .f32⟩
  | .hbm, ⟨68, _⟩ => ⟨S_, .f32⟩
  | .hbm, ⟨69, _⟩ => ⟨S16384, .f32⟩
  | .hbm, ⟨70, _⟩ => ⟨S16384, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S16384x1024, .f32⟩
  | .hbm, ⟨77, _⟩ => ⟨S_, .f32⟩
  | .hbm, ⟨78, _⟩ => ⟨S1024, .f32⟩
  | .hbm, ⟨79, _⟩ => ⟨S1x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_14 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Kernel13.lean ====
abbrev S2x16384x2816 : Shape := ⟨3, ![2, 16384, 2816]⟩
abbrev S2x3x2816 : Shape := ⟨3, ![2, 3, 2816]⟩
abbrev S2x1x2816 : Shape := ⟨3, ![2, 1, 2816]⟩
abbrev S16384x2816 : Shape := ⟨2, ![16384, 2816]⟩
abbrev S2x2048x256 : Shape := ⟨3, ![2, 2048, 256]⟩
abbrev S2x16x256 : Shape := ⟨3, ![2, 16, 256]⟩
abbrev S2x3x256 : Shape := ⟨3, ![2, 3, 256]⟩
abbrev S2x1x256 : Shape := ⟨3, ![2, 1, 256]⟩
abbrev S2048x256 : Shape := ⟨2, ![2048, 256]⟩
abbrev S1x2048x256 : Shape := ⟨3, ![1, 2048, 256]⟩
abbrev S1x1x256 : Shape := ⟨3, ![1, 1, 256]⟩
abbrev S1x256 : Shape := ⟨2, ![1, 256]⟩
abbrev S1x3x256 : Shape := ⟨3, ![1, 3, 256]⟩
abbrev S3x256 : Shape := ⟨2, ![3, 256]⟩

abbrev nBuf : Space → Nat
  | .hbm => 4
  | .vmem => 12
  | .smem => 0
  | _ => 0

abbrev bufTy : (tb : Table) → Fin (tcTables nBuf tb) → BufTy
  | .hbm, ⟨0, _⟩ => ⟨S2x16384x2816, .bf16⟩
  | .hbm, ⟨1, _⟩ => ⟨S2x3x2816, .f32⟩
  | .hbm, ⟨2, _⟩ => ⟨S2x1x2816, .f32⟩
  | .hbm, ⟨3, _⟩ => ⟨S16384x2816, .bf16⟩
  | .local _ .vmem, ⟨0, _⟩ => ⟨S2x2048x256, .bf16⟩
  | .local _ .vmem, ⟨1, _⟩ => ⟨S2x2048x256, .bf16⟩
  | .local _ .vmem, ⟨2, _⟩ => ⟨S2x16x256, .bf16⟩
  | .local _ .vmem, ⟨3, _⟩ => ⟨S2x16x256, .bf16⟩
  | .local _ .vmem, ⟨4, _⟩ => ⟨S2x16x256, .bf16⟩
  | .local _ .vmem, ⟨5, _⟩ => ⟨S2x16x256, .bf16⟩
  | .local _ .vmem, ⟨6, _⟩ => ⟨S2x3x256, .f32⟩
  | .local _ .vmem, ⟨7, _⟩ => ⟨S2x3x256, .f32⟩
  | .local _ .vmem, ⟨8, _⟩ => ⟨S2x1x256, .f32⟩
  | .local _ .vmem, ⟨9, _⟩ => ⟨S2x1x256, .f32⟩
  | .local _ .vmem, ⟨10, _⟩ => ⟨S2048x256, .bf16⟩
  | .local _ .vmem, ⟨11, _⟩ => ⟨S2048x256, .bf16⟩
  | _, _ => ⟨S2x16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![c0_i32.toNat, v2.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S2x16384x2816 : Shape := ⟨3, ![2, 16384, 2816]⟩
abbrev S2x3x2816 : Shape := ⟨3, ![2, 3, 2816]⟩
abbrev S2x1x2816 : Shape := ⟨3, ![2, 1, 2816]⟩
abbrev S_ : Shape := ⟨0, ![]⟩
abbrev S2x16383x2816 : Shape := ⟨3, ![2, 16383, 2816]⟩
abbrev S1x16384x2816 : Shape := ⟨3, ![1, 16384, 2816]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S2x16384x2816, .bf16⟩
  | .hbm, ⟨1, _⟩ => ⟨S2x3x2816, .f32⟩
  | .hbm, ⟨2, _⟩ => ⟨S2x1x2816, .f32⟩
  | .hbm, ⟨3, _⟩ => ⟨S2x16384x2816, .f32⟩
  | .hbm, ⟨4, _⟩ => ⟨S_, .f32⟩
  | .hbm, ⟨5, _⟩ => ⟨S2x1x2816, .f32⟩
  | .hbm, ⟨6, _⟩ => ⟨S2x16383x2816, .f32⟩
  | .hbm, ⟨7, _⟩ => ⟨S2x16384x2816, .f32⟩
  | .hbm, ⟨8, _⟩ => ⟨S2x16383x2816, .f32⟩
  | .hbm, ⟨9, _⟩ => ⟨S2x16384x2816, .f32⟩
  | .hbm, ⟨10, _⟩ => ⟨S2x1x2816, .f32⟩
  | .hbm, ⟨11, _⟩ => ⟨S2x16384x2816, .f32⟩
  | .hbm, ⟨12, _⟩ => ⟨S2x16384x2816, .f32⟩
  | .hbm, ⟨13, _⟩ => ⟨S2x1x2816, .f32⟩
  | .hbm, ⟨14, _⟩ => ⟨S2x16384x2816, .f32⟩
  | .hbm, ⟨15, _⟩ => ⟨S2x16384x2816, .f32⟩
  | .hbm, ⟨16, _⟩ => ⟨S2x16384x2816, .f32⟩
  | .hbm, ⟨17, _⟩ => ⟨S2x1x2816, .f32⟩
  | .hbm, ⟨18, _⟩ => ⟨S2x16384x2816, .f32⟩
  | .hbm, ⟨19, _⟩ => ⟨S2x16384x2816, .f32⟩
  | .hbm, ⟨20, _⟩ => ⟨S2x16384x2816, .f32⟩
  | .hbm, ⟨21, _⟩ => ⟨S2x16384x2816, .f32⟩
  | .hbm, ⟨22, _⟩ => ⟨S2x16384x2816, .f32⟩
  | .hbm, ⟨23, _⟩ => ⟨S1x16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S1x16384x2816, .f32⟩
  | .hbm, ⟨35, _⟩ => ⟨S16384x2816, .f32⟩
  | .hbm, ⟨36, _⟩ => ⟨S16384x2816, .f32⟩
  | .hbm, ⟨37, _⟩ => ⟨S16384x2816, .bf16⟩
  | _, _ => ⟨S2x16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Kernel14.lean ====
abbrev S2x16384x2816 : Shape := ⟨3, ![2, 16384, 2816]⟩
abbrev S2x3x2816 : Shape := ⟨3, ![2, 3, 2816]⟩
abbrev S2x2048x256 : Shape := ⟨3, ![2, 2048, 256]⟩
abbrev S2x16x256 : Shape := ⟨3, ![2, 16, 256]⟩
abbrev S2x3x256 : Shape := ⟨3, ![2, 3, 256]⟩
abbrev S1x2048x256 : Shape := ⟨3, ![1, 2048, 256]⟩
abbrev S2048x256 : Shape := ⟨2, ![2048, 256]⟩
abbrev S1x1x256 : Shape := ⟨3, ![1, 1, 256]⟩
abbrev S1x256 : Shape := ⟨2, ![1, 256]⟩
abbrev S1x3x256 : Shape := ⟨3, ![1, 3, 256]⟩
abbrev S3x256 : Shape := ⟨2, ![3, 256]⟩

abbrev nBuf : Space → Nat
  | .hbm => 3
  | .vmem => 10
  | .smem => 0
  | _ => 0

abbrev bufTy : (tb : Table) → Fin (tcTables nBuf tb) → BufTy
  | .hbm, ⟨0, _⟩ => ⟨S2x16384x2816, .bf16⟩
  | .hbm, ⟨1, _⟩ => ⟨S2x3x2816, .f32⟩
  | .hbm, ⟨2, _⟩ => ⟨S2x16384x2816, .bf16⟩
  | .local _ .vmem, ⟨0, _⟩ => ⟨S2x2048x256, .bf16⟩
  | .local _ .vmem, ⟨1, _⟩ => ⟨S2x2048x256, .bf16⟩
  | .local _ .vmem, ⟨2, _⟩ => ⟨S2x16x256, .bf16⟩
  | .local _ .vmem, ⟨3, _⟩ => ⟨S2x16x256, .bf16⟩
  | .local _ .vmem, ⟨4, _⟩ => ⟨S2x16x256, .bf16⟩
  | .local _ .vmem, ⟨5, _⟩ => ⟨S2x16x256, .bf16⟩
  | .local _ .vmem, ⟨6, _⟩ => ⟨S2x3x256, .f32⟩
  | .local _ .vmem, ⟨7, _⟩ => ⟨S2x3x256, .f32⟩
  | .local _ .vmem, ⟨8, _⟩ => ⟨S2x2048x256, .bf16⟩
  | .local _ .vmem, ⟨9, _⟩ => ⟨S2x2048x256, .bf16⟩
  | _, _ => ⟨S2x16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![c0_i32.toNat, v2.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S2x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S2x16384x2816 : Shape := ⟨3, ![2, 16384, 2816]⟩
abbrev S2x3x2816 : Shape := ⟨3, ![2, 3, 2816]⟩
abbrev S_ : Shape := ⟨0, ![]⟩
abbrev S2x1x2816 : Shape := ⟨3, ![2, 1, 2816]⟩
abbrev S2x16383x2816 : Shape := ⟨3, ![2, 16383, 2816]⟩

abbrev nBuf : Space → Nat
  | .hbm => 47
  | .vmem => 0
  | .smem => 0
  | _ => 0

abbrev bufTy : (tb : Table) → Fin (tcTables nBuf tb) → BufTy
  | .hbm, ⟨0, _⟩ => ⟨S2x16384x2816, .bf16⟩
  | .hbm, ⟨1, _⟩ => ⟨S2x3x2816, .f32⟩
  | .hbm, ⟨2, _⟩ => ⟨S_, .f32⟩
  | .hbm, ⟨3, _⟩ => ⟨S2x16384x2816, .f32⟩
  | .hbm, ⟨4, _⟩ => ⟨S_, .f32⟩
  | .hbm, ⟨5, _⟩ => ⟨S2x1x2816, .f32⟩
  | .hbm, ⟨6, _⟩ => ⟨S_, .f32⟩
  | .hbm, ⟨7, _⟩ => ⟨S2x1x2816, .f32⟩
  | .hbm, ⟨8, _⟩ => ⟨S2x16383x2816, .f32⟩
  | .hbm, ⟨9, _⟩ => ⟨S2x16384x2816, .f32⟩
  | .hbm, ⟨10, _⟩ => ⟨S_, .f32⟩
  | .hbm, ⟨11, _⟩ => ⟨S2x1x2816, .f32⟩
  | .hbm, ⟨12, _⟩ => ⟨S2x16383x2816, .f32⟩
  | .hbm, ⟨13, _⟩ => ⟨S2x16384x2816, .f32⟩
  | .hbm, ⟨14, _⟩ => ⟨S_, .f32⟩
  | .hbm, ⟨15, _⟩ => ⟨S2x1x2816, .f32⟩
  | .hbm, ⟨16, _⟩ => ⟨S2x1x2816, .f32⟩
  | .hbm, ⟨17, _⟩ => ⟨S2x16384x2816, .f32⟩
  | .hbm, ⟨18, _⟩ => ⟨S2x16384x2816, .f32⟩
  | .hbm, ⟨19, _⟩ => ⟨S2x1x2816, .f32⟩
  | .hbm, ⟨20, _⟩ => ⟨S2x16384x2816, .f32⟩
  | .hbm, ⟨21, _⟩ => ⟨S2x16384x2816, .f32⟩
  | .hbm, ⟨22, _⟩ => ⟨S2x16384x2816, .f32⟩
  | .hbm, ⟨23, _⟩ => ⟨S2x1x2816, .f32⟩
  | .hbm, ⟨24, _⟩ => ⟨S2x16384x2816, .f32⟩
  | .hbm, ⟨25, _⟩ => ⟨S2x16384x2816, .f32⟩
  | .hbm, ⟨26, _⟩ => ⟨S2x16384x2816, .f32⟩
  | .hbm, ⟨27, _⟩ => ⟨S2x16384x2816, .f32⟩
  | .hbm, ⟨28, _⟩ => ⟨S2x16384x2816, .f32⟩
  | .hbm, ⟨29, _⟩ => ⟨S2x16384x2816, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S2x16384x2816, .f32⟩
  | .hbm, ⟨34, _⟩ => ⟨S2x16384x2816, .f32⟩
  | .hbm, ⟨35, _⟩ => ⟨S2x16384x2816, .f32⟩
  | .hbm, ⟨36, _⟩ => ⟨S2x16383x2816, .f32⟩
  | .hbm, ⟨37, _⟩ => ⟨S2x1x2816, .f32⟩
  | .hbm, ⟨38, _⟩ => ⟨S_, .f32⟩
  | .hbm, ⟨39, _⟩ => ⟨S2x16384x2816, .f32⟩
  | .hbm, ⟨40, _⟩ => ⟨S2x16384x2816, .f32⟩
  | .hbm, ⟨41, _⟩ => ⟨S2x1x2816, .f32⟩
  | .hbm, ⟨42, _⟩ => ⟨S2x16383x2816, .f32⟩
  | .hbm, ⟨43, _⟩ => ⟨S_, .f32⟩
  | .hbm, ⟨44, _⟩ => ⟨S2x16384x2816, .f32⟩
  | .hbm, ⟨45, _⟩ => ⟨S2x16384x2816, .f32⟩
  | .hbm, ⟨46, _⟩ => ⟨S2x16384x2816, .bf16⟩
  | _, _ => ⟨S2x16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Kernel15.lean ====
abbrev S16384x1024 : Shape := ⟨2, ![16384, 1024]⟩
abbrev S2816x1024 : Shape := ⟨2, ![2816, 1024]⟩
abbrev S2x16384x2816 : Shape := ⟨3, ![2, 16384, 2816]⟩
abbrev S2x3x2816 : Shape := ⟨3, ![2, 3, 2816]⟩
abbrev S2x1x2816 : Shape := ⟨3, ![2, 1, 2816]⟩
abbrev S2048x1024 : Shape := ⟨2, ![2048, 1024]⟩
abbrev S256x1024 : Shape := ⟨2, ![256, 1024]⟩
abbrev S2x2048x256 : Shape := ⟨3, ![2, 2048, 256]⟩
abbrev S2x16x256 : Shape := ⟨3, ![2, 16, 256]⟩
abbrev S2x3x256 : Shape := ⟨3, ![2, 3, 256]⟩
abbrev S2x1x256 : Shape := ⟨3, ![2, 1, 256]⟩
abbrev S2048x256 : Shape := ⟨2, ![2048, 256]⟩
abbrev S1x2048x256 : Shape := ⟨3, ![1, 2048, 256]⟩
abbrev S1x1x256 : Shape := ⟨3, ![1, 1, 256]⟩
abbrev S1x256 : Shape := ⟨2, ![1, 256]⟩
abbrev S1x3x256 : Shape := ⟨3, ![1, 3, 256]⟩
abbrev S3x256 : Shape := ⟨2, ![3, 256]⟩
abbrev S256 : Shape := ⟨1, ![256]⟩

abbrev nBuf : Space → Nat
  | .hbm => 8
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S2x16384x2816, .bf16⟩
  | .hbm, ⟨3, _⟩ => ⟨S2x3x2816, .f32⟩
  | .hbm, ⟨4, _⟩ => ⟨S2x1x2816, .f32⟩
  | .hbm, ⟨5, _⟩ => ⟨S2x16384x2816, .bf16⟩
  | .hbm, ⟨6, _⟩ => ⟨S2x3x2816, .f32⟩
  | .hbm, ⟨7, _⟩ => ⟨S2x1x2816, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2x2048x256, .bf16⟩
  | .local _ .vmem, ⟨5, _⟩ => ⟨S2x2048x256, .bf16⟩
  | .local _ .vmem, ⟨6, _⟩ => ⟨S2x16x256, .bf16⟩
  | .local _ .vmem, ⟨7, _⟩ => ⟨S2x16x256, .bf16⟩
  | .local _ .vmem, ⟨8, _⟩ => ⟨S2x16x256, .bf16⟩
  | .local _ .vmem, ⟨9, _⟩ => ⟨S2x16x256, .bf16⟩
  | .local _ .vmem, ⟨10, _⟩ => ⟨S2x3x256, .f32⟩
  | .local _ .vmem, ⟨11, _⟩ => ⟨S2x3x256, .f32⟩
  | .local _ .vmem, ⟨12, _⟩ => ⟨S2x1x256, .f32⟩
  | .local _ .vmem, ⟨13, _⟩ => ⟨S2x1x256, .f32⟩
  | .local _ .vmem, ⟨14, _⟩ => ⟨S2x2048x256, .bf16⟩
  | .local _ .vmem, ⟨15, _⟩ => ⟨S2x2048x256, .bf16⟩
  | .local _ .vmem, ⟨16, _⟩ => ⟨S2x3x256, .f32⟩
  | .local _ .vmem, ⟨17, _⟩ => ⟨S2x3x256, .f32⟩
  | .local _ .vmem, ⟨18, _⟩ => ⟨S2x1x256, .f32⟩
  | .local _ .vmem, ⟨19, _⟩ => ⟨S2x1x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![c0_i32.toNat, v2.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference15Ideal.lean ====
abbrev S16384x1024 : Shape := ⟨2, ![16384, 1024]⟩
abbrev S2816x1024 : Shape := ⟨2, ![2816, 1024]⟩
abbrev S2x16384x2816 : Shape := ⟨3, ![2, 16384, 2816]⟩
abbrev S2x3x2816 : Shape := ⟨3, ![2, 3, 2816]⟩
abbrev S2x1x2816 : Shape := ⟨3, ![2, 1, 2816]⟩
abbrev S_ : Shape := ⟨0, ![]⟩
abbrev S2x16383x2816 : Shape := ⟨3, ![2, 16383, 2816]⟩
abbrev S1x16384x2816 : Shape := ⟨3, ![1, 16384, 2816]⟩
abbrev S16384x2816 : Shape := ⟨2, ![16384, 2816]⟩
abbrev S2x2816 : Shape := ⟨2, ![2, 2816]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S2x16384x2816, .bf16⟩
  | .hbm, ⟨3, _⟩ => ⟨S2x3x2816, .f32⟩
  | .hbm, ⟨4, _⟩ => ⟨S2x1x2816, .f32⟩
  | .hbm, ⟨5, _⟩ => ⟨S16384x1024, .f32⟩
  | .hbm, ⟨6, _⟩ => ⟨S2816x1024, .f32⟩
  | .hbm, ⟨7, _⟩ => ⟨S2x16384x2816, .f32⟩
  | .hbm, ⟨8, _⟩ => ⟨S_, .f32⟩
  | .hbm, ⟨9, _⟩ => ⟨S2x1x2816, .f32⟩
  | .hbm, ⟨10, _⟩ => ⟨S2x16383x2816, .f32⟩
  | .hbm, ⟨11, _⟩ => ⟨S2x16384x2816, .f32⟩
  | .hbm, ⟨12, _⟩ => ⟨S2x16383x2816, .f32⟩
  | .hbm, ⟨13, _⟩ => ⟨S2x16384x2816, .f32⟩
  | .hbm, ⟨14, _⟩ => ⟨S2x1x2816, .f32⟩
  | .hbm, ⟨15, _⟩ => ⟨S2x16384x2816, .f32⟩
  | .hbm, ⟨16, _⟩ => ⟨S2x16384x2816, .f32⟩
  | .hbm, ⟨17, _⟩ => ⟨S2x1x2816, .f32⟩
  | .hbm, ⟨18, _⟩ => ⟨S2x16384x2816, .f32⟩
  | .hbm, ⟨19, _⟩ => ⟨S2x16384x2816, .f32⟩
  | .hbm, ⟨20, _⟩ => ⟨S2x16384x2816, .f32⟩
  | .hbm, ⟨21, _⟩ => ⟨S2x1x2816, .f32⟩
  | .hbm, ⟨22, _⟩ => ⟨S2x16384x2816, .f32⟩
  | .hbm, ⟨23, _⟩ => ⟨S2x16384x2816, .f32⟩
  | .hbm, ⟨24, _⟩ => ⟨S2x16384x2816, .f32⟩
  | .hbm, ⟨25, _⟩ => ⟨S2x16384x2816, .f32⟩
  | .hbm, ⟨26, _⟩ => ⟨S2x16384x2816, .f32⟩
  | .hbm, ⟨27, _⟩ => ⟨S1x16384x2816, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S1x16384x2816, .f32⟩
  | .hbm, ⟨43, _⟩ => ⟨S16384x2816, .f32⟩
  | .hbm, ⟨44, _⟩ => ⟨S16384x2816, .f32⟩
  | .hbm, ⟨45, _⟩ => ⟨S16384x1024, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S1x16384x2816, .f32⟩
  | .hbm, ⟨50, _⟩ => ⟨S_, .f32⟩
  | .hbm, ⟨51, _⟩ => ⟨S2x16384x2816, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S1x16384x2816, .f32⟩
  | .hbm, ⟨57, _⟩ => ⟨S_, .f32⟩
  | .hbm, ⟨58, _⟩ => ⟨S2x16384x2816, .f32⟩
  | .hbm, ⟨59, _⟩ => ⟨S2x16384x2816, .f32⟩
  | .hbm, ⟨60, _⟩ => ⟨S2x16384x2816, .bf16⟩
  | .hbm, ⟨61, _⟩ => ⟨S_, .f32⟩
  | .hbm, ⟨62, _⟩ => ⟨S2x2816, .f32⟩
  | .hbm, ⟨63, _⟩ => ⟨S2x1x2816, .f32⟩
  | .hbm, ⟨64, _⟩ => ⟨S2x16384x2816, .f32⟩
  | .hbm, ⟨65, _⟩ => ⟨S_, .f32⟩
  | .hbm, ⟨66, _⟩ => ⟨S2x2816, .f32⟩
  | .hbm, ⟨67, _⟩ => ⟨S2x1x2816, .f32⟩
  | .hbm, ⟨68, _⟩ => ⟨S_, .f32⟩
  | .hbm, ⟨69, _⟩ => ⟨S2x3x2816, .f32⟩
  | .hbm, ⟨70, _⟩ => ⟨S2x16384x2816, .f32⟩
  | .hbm, ⟨71, _⟩ => ⟨S_, .f32⟩
  | .hbm, ⟨72, _⟩ => ⟨S2x2816, .f32⟩
  | .hbm, ⟨73, _⟩ => ⟨S2x1x2816, .f32⟩
  | .hbm, ⟨74, _⟩ => ⟨S_, .f32⟩
  | .hbm, ⟨75, _⟩ => ⟨S2x3x2816, .f32⟩
  | .hbm, ⟨76, _⟩ => ⟨S2x3x2816, .f32⟩
  | .hbm, ⟨77, _⟩ => ⟨S2x16384x2816, .f32⟩
  | .hbm, ⟨78, _⟩ => ⟨S_, .f32⟩
  | .hbm, ⟨79, _⟩ => ⟨S2x2816, .f32⟩
  | .hbm, ⟨80, _⟩ => ⟨S2x1x2816, .f32⟩
  | .hbm, ⟨81, _⟩ => ⟨S_, .f32⟩
  | .hbm, ⟨82, _⟩ => ⟨S2x3x2816, .f32⟩
  | .hbm, ⟨83, _⟩ => ⟨S2x3x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v23_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v23_1 : Ref sig .tc := ⟨.hbm, 40, rfl⟩
abbrev main_v23_0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_0 : Ref sig .tc := ⟨.hbm, 50, rfl⟩
abbrev main_v32 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_v34 : Ref sig .tc := ⟨.hbm, 56, rfl⟩
abbrev main_cst_1 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_3 : Ref sig .tc := ⟨.hbm, 65, rfl⟩
abbrev main_v41 : Ref sig .tc := ⟨.hbm, 66, rfl⟩
abbrev main_v42 : Ref sig .tc := ⟨.hbm, 67, rfl⟩
abbrev main_cst_4 : Ref sig .tc := ⟨.hbm, 68, rfl⟩
abbrev main_v43 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_7 : Ref sig .tc := ⟨.hbm, 78, rfl⟩
abbrev main_v50 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_v53 : Ref sig .tc := ⟨.hbm, 83, rfl⟩

abbrev nD : Nat := 1
abbrev τ : Topo := Topo.v7x

variable {F : FTy → Type} [FloatOps F]
-- ==== Kernel16.lean ====
abbrev S16384x1024 : Shape := ⟨2, ![16384, 1024]⟩
abbrev S8x128x16384 : Shape := ⟨3, ![8, 128, 16384]⟩
abbrev S16384x3584 : Shape := ⟨2, ![16384, 3584]⟩
abbrev S8x128x1024 : Shape := ⟨3, ![8, 128, 1024]⟩
abbrev S1024x1024 : Shape := ⟨2, ![1024, 1024]⟩
abbrev S16384x2048 : Shape := ⟨2, ![16384, 2048]⟩
abbrev S256x1024 : Shape := ⟨2, ![256, 1024]⟩
abbrev S8x128x256 : Shape := ⟨3, ![8, 128, 256]⟩
abbrev S256x512 : Shape := ⟨2, ![256, 512]⟩
abbrev S256x2048 : Shape := ⟨2, ![256, 2048]⟩
abbrev S1x128x1024 : Shape := ⟨3, ![1, 128, 1024]⟩
abbrev S128x1024 : Shape := ⟨2, ![128, 1024]⟩
abbrev S128x256 : Shape := ⟨2, ![128, 256]⟩
abbrev S1x128x256 : Shape := ⟨3, ![1, 128, 256]⟩

abbrev nBuf : Space → Nat
  | .hbm => 14
  | .vmem => 29
  | .smem => 0
  | _ => 0

abbrev bufTy : (tb : Table) → Fin (tcTables nBuf tb) → BufTy
  | .hbm, ⟨0, _⟩ => ⟨S16384x1024, .bf16⟩
  | .hbm, ⟨1, _⟩ => ⟨S8x128x16384, .bf16⟩
  | .hbm, ⟨2, _⟩ => ⟨S8x128x16384, .bf16⟩
  | .hbm, ⟨3, _⟩ => ⟨S16384x1024, .bf16⟩
  | .hbm, ⟨4, _⟩ => ⟨S16384x1024, .bf16⟩
  | .hbm, ⟨5, _⟩ => ⟨S16384x3584, .f32⟩
  | .hbm, ⟨6, _⟩ => ⟨S8x128x1024, .bf16⟩
  | .hbm, ⟨7, _⟩ => ⟨S8x128x1024, .bf16⟩
  | .hbm, ⟨8, _⟩ => ⟨S1024x1024, .bf16⟩
  | .hbm, ⟨9, _⟩ => ⟨S16384x2048, .bf16⟩
  | .hbm, ⟨10, _⟩ => ⟨S8x128x16384, .bf16⟩
  | .hbm, ⟨11, _⟩ => ⟨S8x128x16384, .bf16⟩
  | .hbm, ⟨12, _⟩ => ⟨S8x128x1024, .f32⟩
  | .hbm, ⟨13, _⟩ => ⟨S8x128x1024, .f32⟩
  | .local _ .vmem, ⟨0, _⟩ => ⟨S256x1024, .bf16⟩
  | .local _ .vmem, ⟨1, _⟩ => ⟨S256x1024, .bf16⟩
  | .local _ .vmem, ⟨2, _⟩ => ⟨S8x128x256, .bf16⟩
  | .local _ .vmem, ⟨3, _⟩ => ⟨S8x128x256, .bf16⟩
  | .local _ .vmem, ⟨4, _⟩ => ⟨S8x128x256, .bf16⟩
  | .local _ .vmem, ⟨5, _⟩ => ⟨S8x128x256, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S8x128x1024, .bf16⟩
  | .local _ .vmem, ⟨19, _⟩ => ⟨S8x128x1024, .bf16⟩
  | .local _ .vmem, ⟨20, _⟩ => ⟨S1024x1024, .bf16⟩
  | .local _ .vmem, ⟨21, _⟩ => ⟨S256x2048, .bf16⟩
  | .local _ .vmem, ⟨22, _⟩ => ⟨S256x2048, .bf16⟩
  | .local _ .vmem, ⟨23, _⟩ => ⟨S8x128x256, .bf16⟩
  | .local _ .vmem, ⟨24, _⟩ => ⟨S8x128x256, .bf16⟩
  | .local _ .vmem, ⟨25, _⟩ => ⟨S8x128x256, .bf16⟩
  | .local _ .vmem, ⟨26, _⟩ => ⟨S8x128x256, .bf16⟩
  | .local _ .vmem, ⟨27, _⟩ => ⟨S8x128x1024, .f32⟩
  | .local _ .vmem, ⟨28, _⟩ => ⟨S8x128x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference16Ideal.lean ====
abbrev S16384x1024 : Shape := ⟨2, ![16384, 1024]⟩
abbrev S8x128x16384 : Shape := ⟨3, ![8, 128, 16384]⟩
abbrev S16384x3584 : Shape := ⟨2, ![16384, 3584]⟩
abbrev S8x128x1024 : Shape := ⟨3, ![8, 128, 1024]⟩
abbrev S1024x1024 : Shape := ⟨2, ![1024, 1024]⟩
abbrev S_ : Shape := ⟨0, ![]⟩
abbrev S1024x8x128 : Shape := ⟨3, ![1024, 8, 128]⟩
abbrev S16384x8x128 : Shape := ⟨3, ![16384, 8, 128]⟩
abbrev S16384x2048 : Shape := ⟨2, ![16384, 2048]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S8x128x16384, .bf16⟩
  | .hbm, ⟨2, _⟩ => ⟨S8x128x16384, .bf16⟩
  | .hbm, ⟨3, _⟩ => ⟨S16384x1024, .bf16⟩
  | .hbm, ⟨4, _⟩ => ⟨S16384x1024, .bf16⟩
  | .hbm, ⟨5, _⟩ => ⟨S16384x3584, .f32⟩
  | .hbm, ⟨6, _⟩ => ⟨S8x128x1024, .bf16⟩
  | .hbm, ⟨7, _⟩ => ⟨S8x128x1024, .bf16⟩
  | .hbm, ⟨8, _⟩ => ⟨S1024x1024, .bf16⟩
  | .hbm, ⟨9, _⟩ => ⟨S16384x1024, .f32⟩
  | .hbm, ⟨10, _⟩ => ⟨S8x128x16384, .f32⟩
  | .hbm, ⟨11, _⟩ => ⟨S8x128x16384, .f32⟩
  | .hbm, ⟨12, _⟩ => ⟨S16384x1024, .f32⟩
  | .hbm, ⟨13, _⟩ => ⟨S16384x1024, .f32⟩
  | .hbm, ⟨14, _⟩ => ⟨S8x128x1024, .f32⟩
  | .hbm, ⟨15, _⟩ => ⟨S8x128x1024, .f32⟩
  | .hbm, ⟨16, _⟩ => ⟨S1024x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S1024x8x128, .f32⟩
  | .hbm, ⟨56, _⟩ => ⟨S8x128x1024, .f32⟩
  | .hbm, ⟨57, _⟩ => ⟨S16384x8x128, .f32⟩
  | .hbm, ⟨58, _⟩ => ⟨S8x128x16384, .f32⟩
  | .hbm, ⟨59, _⟩ => ⟨S16384x1024, .f32⟩
  | .hbm, ⟨60, _⟩ => ⟨S1024x8x128, .f32⟩
  | .hbm, ⟨61, _⟩ => ⟨S8x128x1024, .f32⟩
  | .hbm, ⟨62, _⟩ => ⟨S16384x8x128, .f32⟩
  | .hbm, ⟨63, _⟩ => ⟨S8x128x16384, .f32⟩
  | .hbm, ⟨64, _⟩ => ⟨S16384x2048, .f32⟩
  | .hbm, ⟨65, _⟩ => ⟨S16384x2048, .bf16⟩
  | .hbm, ⟨66, _⟩ => ⟨S8x128x16384, .bf16⟩
  | .hbm, ⟨67, _⟩ => ⟨S8x128x16384, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel17.lean ====
abbrev S8x128x16384 : Shape := ⟨3, ![8, 128, 16384]⟩
abbrev S16384x3584 : Shape := ⟨2, ![16384, 3584]⟩
abbrev S16384x1024 : Shape := ⟨2, ![16384, 1024]⟩
abbrev S1x1024 : Shape := ⟨2, ![1, 1024]⟩
abbrev S8x128x1024 : Shape := ⟨3, ![8, 128, 1024]⟩
abbrev S1024x1024 : Shape := ⟨2, ![1024, 1024]⟩
abbrev S16384x1 : Shape := ⟨2, ![16384, 1]⟩
abbrev S8x128x512 : Shape := ⟨3, ![8, 128, 512]⟩
abbrev S512x512 : Shape := ⟨2, ![512, 512]⟩
abbrev S512x1024 : Shape := ⟨2, ![512, 1024]⟩
abbrev S512x1 : Shape := ⟨2, ![512, 1]⟩
abbrev S1x128x512 : Shape := ⟨3, ![1, 128, 512]⟩
abbrev S128x512 : Shape := ⟨2, ![128, 512]⟩
abbrev S1x128x1024 : Shape := ⟨3, ![1, 128, 1024]⟩
abbrev S128x1024 : Shape := ⟨2, ![128, 1024]⟩
abbrev S512 : Shape := ⟨1, ![512]⟩

abbrev nBuf : Space → Nat
  | .hbm => 17
  | .vmem => 34
  | .smem => 0
  | _ => 0

abbrev bufTy : (tb : Table) → Fin (tcTables nBuf tb) → BufTy
  | .hbm, ⟨0, _⟩ => ⟨S8x128x16384, .bf16⟩
  | .hbm, ⟨1, _⟩ => ⟨S8x128x16384, .bf16⟩
  | .hbm, ⟨2, _⟩ => ⟨S16384x3584, .f32⟩
  | .hbm, ⟨3, _⟩ => ⟨S16384x1024, .f32⟩
  | .hbm, ⟨4, _⟩ => ⟨S1x1024, .f32⟩
  | .hbm, ⟨5, _⟩ => ⟨S8x128x1024, .bf16⟩
  | .hbm, ⟨6, _⟩ => ⟨S8x128x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1, .f32⟩
  | .hbm, ⟨13, _⟩ => ⟨S16384x1, .f32⟩
  | .hbm, ⟨14, _⟩ => ⟨S16384x1024, .bf16⟩
  | .hbm, ⟨15, _⟩ => ⟨S16384x1024, .bf16⟩
  | .hbm, ⟨16, _⟩ => ⟨S16384x1024, .bf16⟩
  | .local _ .vmem, ⟨0, _⟩ => ⟨S8x128x512, .bf16⟩
  | .local _ .vmem, ⟨1, _⟩ => ⟨S8x128x512, .bf16⟩
  | .local _ .vmem, ⟨2, _⟩ => ⟨S8x128x512, .bf16⟩
  | .local _ .vmem, ⟨3, _⟩ => ⟨S8x128x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S8x128x1024, .bf16⟩
  | .local _ .vmem, ⟨16, _⟩ => ⟨S8x128x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | _, _ => ⟨S8x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference17Ideal.lean ====
abbrev S8x128x16384 : Shape := ⟨3, ![8, 128, 16384]⟩
abbrev S16384x3584 : Shape := ⟨2, ![16384, 3584]⟩
abbrev S16384x1024 : Shape := ⟨2, ![16384, 1024]⟩
abbrev S1x1024 : Shape := ⟨2, ![1, 1024]⟩
abbrev S8x128x1024 : Shape := ⟨3, ![8, 128, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩

abbrev nBuf : Space → Nat
  | .hbm => 94
  | .vmem => 0
  | .smem => 0
  | _ => 0

abbrev bufTy : (tb : Table) → Fin (tcTables nBuf tb) → BufTy
  | .hbm, ⟨0, _⟩ => ⟨S8x128x16384, .bf16⟩
  | .hbm, ⟨1, _⟩ => ⟨S8x128x16384, .bf16⟩
  | .hbm, ⟨2, _⟩ => ⟨S16384x3584, .f32⟩
  | .hbm, ⟨3, _⟩ => ⟨S16384x1024, .f32⟩
  | .hbm, ⟨4, _⟩ => ⟨S1x1024, .f32⟩
  | .hbm, ⟨5, _⟩ => ⟨S8x128x1024, .bf16⟩
  | .hbm, ⟨6, _⟩ => ⟨S8x128x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S8x128x16384, .f32⟩
  | .hbm, ⟨11, _⟩ => ⟨S8x128x16384, .f32⟩
  | .hbm, ⟨12, _⟩ => ⟨S8x128x1024, .f32⟩
  | .hbm, ⟨13, _⟩ => ⟨S8x128x1024, .f32⟩
  | .hbm, ⟨14, _⟩ => ⟨S1024x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S16384x1, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .bf16⟩
  | .hbm, ⟨92, _⟩ => ⟨S16384x1024, .bf16⟩
  | .hbm, ⟨93, _⟩ => ⟨S16384x1024, .bf16⟩
  | _, _ => ⟨S8x128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Proof.Offsets.lean ====
module

public import proofs.«01_k».proof.Proof.Gen.KernelIdeal.Frame
public import proofs.«01_k».proof.Proof.Gen.KernelIdeal.Points
public import proofs.«01_k».proof.Proof.Gen.KernelIdeal.Loops

@[expose] public section

set_option maxRecDepth 16384

noncomputable section

namespace Cert.KernelIdeal.Glob

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

/-! # Where the ring's copies go

The probabilities arrive through four slots of on-chip memory. Trip `t` of the loop over the key blocks waits for slot
`t mod 4` and starts the copy of the block three trips ahead into slot `(t + 3) mod 4`. The offsets the kernel computes
with words are put here in closed form. -/

/-- The loop runs thirty-two trips. -/
theorem trips_eq : k0_t1_loop.trips = 32 := by decide

/-- The slot trip `t` waits for. -/
theorem off6_eq (t : Fin k0_t1_loop.trips) : k0_off6 t = ![t.val % 4, 0, 0] := by
  revert t; decide +kernel
/-- The semaphore trip `t` waits on. -/
theorem off5_eq (t : Fin k0_t1_loop.trips) : k0_off5 t = ![t.val % 4] := by
  revert t; decide +kernel
/-- The slot trip `t` reads. -/
theorem off12_eq (t : Fin k0_t1_loop.trips) : k0_off12 t = ![t.val % 4, 0, 0] := by
  revert t; decide +kernel
/-- The slot trip `t` starts to fill. -/
theorem off9_eq (t : Fin k0_t1_loop.trips) : k0_off9 t = ![(t.val + 3) % 4, 0, 0] := by
  revert t; decide +kernel
/-- The semaphore of the slot trip `t` starts to fill. -/
theorem off8_eq (t : Fin k0_t1_loop.trips) : k0_off8 t = ![(t.val + 3) % 4] := by
  revert t; decide +kernel
/-- The row of running maxima trip `t` reads: one per two blocks. -/
theorem off13_eq (t : Fin k0_t1_loop.trips) : k0_off13 t = ![0, t.val / 2, 0] := by
  revert t; decide +kernel
/-- The rows of the values trip `t` reads: those of the next block, the last block again at the end. -/
theorem off11_eq (t : Fin k0_t1_loop.trips) : k0_off11 t = ![512 * min (t.val + 1) 31, 0] := by
  revert t; decide +kernel
/-- The columns of the keys and of the two gradients trip `t` works on. -/
theorem off14_eq (t : Fin k0_t1_loop.trips) : k0_off14 t = ![0, 512 * t.val] := by
  revert t; decide +kernel

/-- Block number `n` of the grid point `(h, b)`, counting on into the grid point after it. -/
def srcOff (h b n : ℕ) : Fin 4 → ℕ :=
  if n < 32 then ![h, b, 512 * n, 0] else ![min (h + (b + 1) / 32) 7, (b + 1) % 32, 512 * ((n - 32) % 32), 0]

/-- Every such block lies in the array. -/
theorem srcOff_inb (a : Fin 8) (b : Fin 32) (n : ℕ) :
    ∀ d, srcOff a.val b.val n d + S1x1x512x512.size d ≤ S8x32x17664x512.size d := by
  have ha := a.isLt; have hb := b.isLt
  intro d
  unfold srcOff
  split
  · fin_cases d
    · show a.val + 1 ≤ 8; omega
    · show b.val + 1 ≤ 32; omega
    · show 512 * n + 512 ≤ 17664; omega
    · show 0 + 512 ≤ 512; omega
  · fin_cases d
    · show min (a.val + (b.val + 1) / 32) 7 + 1 ≤ 8; omega
    · show (b.val + 1) % 32 + 1 ≤ 32; omega
    · show 512 * ((n - 32) % 32) + 512 ≤ 17664; omega
    · show 0 + 512 ≤ 512; omega

set_option maxHeartbeats 2000000 in
/-- The source of the copy trip `t` starts, at the grid point `(a, b)`. -/
theorem off10_eq' : ∀ (a : Fin 8) (b : Fin 32) (t : Fin k0_t1_loop.trips),
    k0_off10 (fun d => match d with | ⟨0, _⟩ => a | ⟨1, _⟩ => b) t = srcOff a.val b.val (t.val + 3) := by
  decide +kernel

/-- The source of the copy trip `t` starts. -/
theorem off10_eq (i : grid0.Coords) (t : Fin k0_t1_loop.trips) :
    k0_off10 i t = srcOff (i 0).val (i 1).val (t.val + 3) := by
  exact off10_eq' (i 0) (i 1) t

/-- The source of the copy trip `t` waits for. -/
theorem off7_eq (i : grid0.Coords) (t : Fin k0_t1_loop.trips) :
    k0_off7 i t = srcOff (i 0).val (i 1).val t.val := by
  have h : t.val < 32 := lt_of_lt_of_eq t.isLt trips_eq
  rw [k0_off7_eq, srcOff, if_pos h]

end Cert.KernelIdeal.Glob

end
-- ==== Proof.Ring.lean ====
module

public import proofs.«01_k».proof.Proof.Offsets
public import Idealize.ShloMosaic.Lib.Ring.Pair
public import Idealize.ShloMosaic.Lib.Tactic

@[expose] public section

set_option maxRecDepth 16384

noncomputable section

namespace Cert.KernelIdeal.Glob

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! # The ring of four slots

A slot is free — its semaphore at zero, its memory at anything, its share of the probabilities whole — or in flight with
a block of the probabilities. -/

/-- The slot at the offsets `o` of the ring's buffer. -/
abbrev slotAt (o : Fin 3 → ℕ) (h : ∀ a, o a + S1x512x512.size a ≤ S4x512x512.size a) : Memref sig .tc .vmem S512x512 .bf16 :=
  ((Memref.whole cc0_scratch4).slice (Rect.unit (s := S4x512x512) o S1x512x512.size h) (fun _ => rfl)).squeeze S512x512 squeezes_S1x512x512_S512x512

/-- The semaphore at the offset `o` of the ring's array. -/
abbrev semAt (o : Fin 1 → ℕ) (h : ∀ a, o a + S1.size a ≤ S4.size a) : DmaSems sig S_ :=
  (cc0_scratch6.slice (Rect.unit (s := S4) o S1.size h)).squeeze S_ squeezes_S1_S_

/-- The block of the probabilities at the offsets `o`. -/
abbrev srcAt (o : Fin 4 → ℕ) (h : ∀ a, o a + S1x1x512x512.size a ≤ S8x32x17664x512.size a) : Memref sig .tc .hbm S512x512 .bf16 :=
  ((Memref.whole main_v31).slice (Rect.unit (s := S8x32x17664x512) o S1x1x512x512.size h) (fun _ => rfl)).squeeze S512x512 squeezes_S1x1x512x512_S512x512

theorem slot_inb (k : Fin 4) : ∀ a, (![k.val, 0, 0] : Fin 3 → ℕ) a + S1x512x512.size a ≤ S4x512x512.size a := by
  revert k; decide
theorem sem_inb (k : Fin 4) : ∀ a, (![k.val] : Fin 1 → ℕ) a + S1.size a ≤ S4.size a := by
  revert k; decide

/-- Slot `k`. -/
abbrev slotK (k : Fin 4) : Memref sig .tc .vmem S512x512 .bf16 := slotAt ![k.val, 0, 0] (slot_inb k)
/-- Slot `k`'s semaphore. -/
abbrev cellK (k : Fin 4) : SemLoc sig := SemLoc.dma (semAt ![k.val] (sem_inb k)).sem

/-- A place a block of the probabilities can be copied from. -/
abbrev Src := { o : Fin 4 → ℕ // ∀ a, o a + S1x1x512x512.size a ≤ S8x32x17664x512.size a }

/-- Share `k` of the probabilities: whole, or the elements outside a block. -/
abbrev tokP (c : Dev nD) (k : Fin 5) (S : Finset (Idx ((Memref.whole main_v31).view.loc (c : Thread nD τ))))
    (fp : Buf (Elt F) ((Memref.whole main_v31).view.loc (c : Thread nD τ))) : sProp 𝕄 :=
  (Memref.whole main_v31).view.loc (c : Thread nD τ) ↦[S]{Transfers.shareTok fullShare 5 k} fp

/-- A free slot, at the offsets `o` with the semaphore at `o'` and share `k`. -/
abbrev freeAt (c : Dev nD) (fp : Buf (Elt F) ((Memref.whole main_v31).view.loc (c : Thread nD τ))) (k : Fin 5)
    (M : Memref sig .tc .vmem S512x512 .bf16) (s : DmaSems sig S_) : sProp 𝕄 :=
  iprop(semVal ((c : Thread nD τ), SemLoc.dma s.sem) 0 ∗ (∃ f, M.view.loc (c : Thread nD τ) ↦[M.view.set]{fullShare} f)
    ∗ tokP c k Finset.univ fp)

/-- A slot in flight with the block at the offsets `o`. -/
abbrev flyAt (c : Dev nD) (fp : Buf (Elt F) ((Memref.whole main_v31).view.loc (c : Thread nD τ))) (k : Fin 5)
    (M : Memref sig .tc .vmem S512x512 .bf16) (s : DmaSems sig S_)
    (o : Fin 4 → ℕ) (h : ∀ a, o a + S1x1x512x512.size a ≤ S8x32x17664x512.size a) : sProp 𝕄 :=
  iprop((∃ f, Transfers.Flight countersEmb (c : Thread nD τ) (SemLoc.dma s.sem) () (M.view.amount (SemLoc.dma s.sem))
            iprop((M.view.loc (c : Thread nD τ) ↦[M.view.set]{fullShare}
                    M.view.writes (Elt F) f [⟨Rect.whole S512x512, ReadAs.same.apply ((srcAt o h).view.read (Elt F) fp)⟩])
              ∗ tokP c k (srcAt o h).view.set fp))
    ∗ tokP c k (Finset.univ \ (srcAt o h).view.set) fp)

/-- What a trip reads of the ring lies in the slot it waited for. -/
theorem read_subset (o o' : Fin 3 → ℕ) (e : o = o') (h : ∀ a, o a + S1x512x512.size a ≤ S4x512x512.size a)
    (h' : ∀ a, o' a + S1x512x512.size a ≤ S4x512x512.size a) :
    ((Memref.whole cc0_scratch4).access (Rect.unit (s := S4x512x512) o' S1x512x512.size h')).set ⊆ (slotAt o h).view.set := by
  subst e
  exact (View.set_reshape _ _).symm.subset

/-! ## The four slots before each trip -/

/-- What slot `s` holds in a state: free, or in flight with a block. -/
def Φ (c : Dev nD) (fp : Buf (Elt F) ((Memref.whole main_v31).view.loc (c : Thread nD τ))) (s : Fin 4) : Option Src → sProp 𝕄
  | none => freeAt c fp s.castSucc (slotK s) (semAt ![s.val] (sem_inb s))
  | some o => flyAt c fp s.castSucc (slotK s) (semAt ![s.val] (sem_inb s)) o.1 o.2

theorem slotAt_congr {o o' : Fin 3 → ℕ} (e : o = o') (h : ∀ a, o a + S1x512x512.size a ≤ S4x512x512.size a)
    (h' : ∀ a, o' a + S1x512x512.size a ≤ S4x512x512.size a) : slotAt o h = slotAt o' h' := by subst e; rfl
theorem semAt_congr {o o' : Fin 1 → ℕ} (e : o = o') (h : ∀ a, o a + S1.size a ≤ S4.size a)
    (h' : ∀ a, o' a + S1.size a ≤ S4.size a) : semAt o h = semAt o' h' := by subst e; rfl

/-- The states of the slots before trip `k` at the grid point `(a, b)`: slots `k`, `k + 1`, `k + 2` (modulo four) are in
    flight with the blocks of those numbers, the fourth is free. -/
def roles (a : Fin 8) (b : Fin 32) (k : ℕ) (s : Fin 4) : Option Src :=
  if (s.val + 3 * k) % 4 = 3 then none
  else some ⟨srcOff a.val b.val (k + (s.val + 3 * k) % 4), srcOff_inb a b _⟩

/-- The ring before trip `k` at the grid point `(a, b)`. -/
def ring (c : Dev nD) (fp : Buf (Elt F) ((Memref.whole main_v31).view.loc (c : Thread nD τ))) (a : Fin 8) (b : Fin 32) (k : ℕ) :
    sProp 𝕄 := Ring.AtW (σ := fun _ => Option Src) (Φ c fp) (roles a b k)

/-- The ring with every slot free. -/
def ringFree (c : Dev nD) (fp : Buf (Elt F) ((Memref.whole main_v31).view.loc (c : Thread nD τ))) : sProp 𝕄 :=
  Ring.AtW (σ := fun _ => Option Src) (Φ c fp) (fun _ => none)

/-- The slot trip `k` waits for. -/
def cur (k : ℕ) : Fin 4 := ⟨k % 4, Nat.mod_lt _ (by omega)⟩
/-- The slot trip `k` fills. -/
def nxt (k : ℕ) : Fin 4 := ⟨(k + 3) % 4, Nat.mod_lt _ (by omega)⟩

theorem nxt_ne_cur (k : ℕ) : nxt k ≠ cur k := by
  intro h; have := congrArg Fin.val h; simp only [nxt, cur] at this; omega

theorem roles_cur (a : Fin 8) (b : Fin 32) (k : ℕ) : roles a b k (cur k) = some ⟨srcOff a.val b.val k, srcOff_inb a b _⟩ := by
  have h : ((cur k).val + 3 * k) % 4 = 0 := by simp only [cur]; omega
  unfold roles
  rw [if_neg (by omega)]
  congr 2; rw [h, Nat.add_zero]
theorem roles_nxt (a : Fin 8) (b : Fin 32) (k : ℕ) : roles a b k (nxt k) = none := by
  have h : ((nxt k).val + 3 * k) % 4 = 3 := by simp only [nxt]; omega
  unfold roles
  rw [if_pos h]

theorem roles_step (a : Fin 8) (b : Fin 32) (k : ℕ) :
    Function.update (Function.update (roles a b k) (cur k) none) (nxt k) (some ⟨srcOff a.val b.val (k + 3), srcOff_inb a b _⟩)
      = roles a b (k + 1) := by
  funext s
  by_cases h1 : s = nxt k
  · subst h1
    rw [Function.update_self]
    have h : ((nxt k).val + 3 * (k + 1)) % 4 = 2 := by simp only [nxt]; omega
    unfold roles
    rw [if_neg (by omega)]
    congr 2; rw [h]
  · rw [Function.update_of_ne h1]
    by_cases h2 : s = cur k
    · subst h2
      rw [Function.update_self]
      have h : ((cur k).val + 3 * (k + 1)) % 4 = 3 := by simp only [cur]; omega
      unfold roles
      rw [if_pos h]
    · rw [Function.update_of_ne h2]
      have hs := s.isLt
      have e1 : s.val ≠ (k + 3) % 4 := fun h => h1 (Fin.ext h)
      have e2 : s.val ≠ k % 4 := fun h => h2 (Fin.ext h)
      have h : (s.val + 3 * k) % 4 = (s.val + 3 * (k + 1)) % 4 + 1 ∧ (s.val + 3 * k) % 4 < 3 := by omega
      unfold roles
      rw [if_neg (by omega), if_neg (by omega)]
      congr 2; rw [h.1, Nat.add_right_comm, Nat.add_assoc]

/-- After the last trip the ring is the next grid point's before its first. -/
theorem roles_next (a a' : Fin 8) (b b' : Fin 32) (ha : a'.val = min (a.val + (b.val + 1) / 32) 7) (hb : b'.val = (b.val + 1) % 32) :
    roles a b 32 = roles a' b' 0 := by
  funext s
  have hs := s.isLt
  unfold roles
  by_cases h : s.val = 3
  · rw [if_pos (by omega), if_pos (by omega)]
  · rw [if_neg (by omega), if_neg (by omega)]
    congr 2
    unfold srcOff
    rw [if_neg (by omega), if_pos (by omega), ha, hb]
    congr 4; rw [Nat.add_sub_cancel_left]; omega

/-- The first grid coordinate. -/
abbrev ga (i : grid0.Coords) : Fin 8 := ⟨(i 0).val, (i 0).isLt⟩
/-- The second grid coordinate. -/
abbrev gb (i : grid0.Coords) : Fin 32 := ⟨(i 1).val, (i 1).isLt⟩

/-- The ring before trip `t`, its two slots at the offsets the kernel computes. -/
theorem ring_open (c : Dev nD) (fp : Buf (Elt F) ((Memref.whole main_v31).view.loc (c : Thread nD τ))) (i : grid0.Coords)
    (t : Fin k0_t1_loop.trips) :
    ring c fp (ga i) (gb i) t.val
      = iprop(flyAt c fp (cur t.val).castSucc (slotAt (k0_off6 t) (k0_off6_inb t)) (semAt (k0_off5 t) (k0_off5_inb t)) (k0_off7 i t) (k0_off7_inb i t)
        ∗ freeAt c fp (nxt t.val).castSucc (slotAt (k0_off9 t) (k0_off9_inb t)) (semAt (k0_off8 t) (k0_off8_inb t))
        ∗ Ring.rest2 (Φ c fp) (roles (ga i) (gb i) t.val) (cur t.val) (nxt t.val)) := by
  unfold ring
  rw [Ring.AtW_focus2 (Φ c fp) _ (nxt_ne_cur t.val), roles_cur, roles_nxt]
  have e : (⟨srcOff (ga i).val (gb i).val t.val, srcOff_inb (ga i) (gb i) _⟩ : Src) = ⟨k0_off7 i t, k0_off7_inb i t⟩ := Subtype.ext (off7_eq i t).symm
  rw [e]
  show iprop(flyAt c fp _ (slotK (cur t.val)) (semAt ![(cur t.val).val] (sem_inb _)) _ _ ∗ freeAt c fp _ (slotK (nxt t.val)) (semAt ![(nxt t.val).val] (sem_inb _)) ∗ _) = _
  rw [show slotK (cur t.val) = slotAt (k0_off6 t) (k0_off6_inb t) from slotAt_congr (off6_eq t).symm _ _,
    show slotK (nxt t.val) = slotAt (k0_off9 t) (k0_off9_inb t) from slotAt_congr (off9_eq t).symm _ _,
    show semAt ![(cur t.val).val] (sem_inb _) = semAt (k0_off5 t) (k0_off5_inb t) from semAt_congr (off5_eq t).symm _ _,
    show semAt ![(nxt t.val).val] (sem_inb _) = semAt (k0_off8 t) (k0_off8_inb t) from semAt_congr (off8_eq t).symm _ _]

/-- The two slots after trip `t` and the rest are the ring before the next trip. -/
theorem ring_close (c : Dev nD) (fp : Buf (Elt F) ((Memref.whole main_v31).view.loc (c : Thread nD τ))) (i : grid0.Coords)
    (t : Fin k0_t1_loop.trips) :
    iprop(freeAt c fp (cur t.val).castSucc (slotAt (k0_off6 t) (k0_off6_inb t)) (semAt (k0_off5 t) (k0_off5_inb t))
        ∗ flyAt c fp (nxt t.val).castSucc (slotAt (k0_off9 t) (k0_off9_inb t)) (semAt (k0_off8 t) (k0_off8_inb t)) (k0_off10 i t) (k0_off10_inb i t)
        ∗ Ring.rest2 (Φ c fp) (roles (ga i) (gb i) t.val) (cur t.val) (nxt t.val))
      ⊢ ring c fp (ga i) (gb i) (t.val + 1) := by
  have e : (⟨srcOff (ga i).val (gb i).val (t.val + 3), srcOff_inb (ga i) (gb i) _⟩ : Src) = ⟨k0_off10 i t, k0_off10_inb i t⟩ := Subtype.ext (off10_eq i t).symm
  unfold ring
  rw [← roles_step, e]
  rw [show slotAt (k0_off6 t) (k0_off6_inb t) = slotK (cur t.val) from slotAt_congr (off6_eq t) _ _,
    show slotAt (k0_off9 t) (k0_off9_inb t) = slotK (nxt t.val) from slotAt_congr (off9_eq t) _ _,
    show semAt (k0_off5 t) (k0_off5_inb t) = semAt ![(cur t.val).val] (sem_inb _) from semAt_congr (off5_eq t) _ _,
    show semAt (k0_off8 t) (k0_off8_inb t) = semAt ![(nxt t.val).val] (sem_inb _) from semAt_congr (off8_eq t) _ _]
  exact Ring.AtW_update2 (Φ c fp) _ (nxt_ne_cur t.val) none (some ⟨k0_off10 i t, k0_off10_inb i t⟩)

end Cert.KernelIdeal.Glob

end
-- ==== Proof.Trip.lean ====
module

public import proofs.«01_k».proof.Proof.Ring
public import Idealize.ShloMosaic.Lib.VecWindow
public import Idealize.ShloMosaic.Lib.Pipeline.Value
public import proofs.«01_k».proof.Proof.Gen.KernelIdeal.Loops

@[expose] public section

set_option maxRecDepth 16384

noncomputable section

namespace Cert.KernelIdeal.Glob

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole of a memref, holding the vector `x`. -/
abbrev holds (c : Dev nD) {sp : Space} {s : Shape} {e : EltTy} (M : Memref sig .tc sp s e) (x : s.Idx → Elt F e) : sProp 𝕄 :=
  (M.view.loc (c : Thread nD τ) ↦[M.view.set]{fullShare} M.view.rep x)

/-- The buffers one trip changes: the block of `dq`, the product `v · do` of the next chunk, the running `dk` and `dv`. -/
structure St (F : FTy → Type) where
  acc : S128x512.Idx → Elt F .f32
  dp : S512x512.Idx → Elt F .f32
  dk : S128x16384.Idx → Elt F .f32
  dv : S128x16384.Idx → Elt F .f32

/-- What a trip reads besides: the values of the grid point, the block `(a, b)` of the grid and the stored weights. -/
structure Env (F : FTy → Type) where
  a : Fin 8
  b : Fin 32
  q : FVec F S128x512 .bf16
  go : FVec F S128x512 .bf16
  lse : FVec F S1x512 .f32
  delta : FVec F S1x512 .f32
  mr : S1x17x512.Idx → Elt F .f32
  kt : S128x16384.Idx → Elt F .bf16
  v : S16384x128.Idx → Elt F .bf16
  p : S8x32x17664x512.Idx → Elt F .bf16

/-- The block number `n` of the stored weights, from the grid point on. -/
def pBlk (E : Env F) (n : ℕ) : FVec F S512x512 .bf16 :=
  shapeCast S512x512 (VecWindow.window E.p (srcOff E.a.val E.b.val n) S1x1x512x512.size (srcOff_inb E.a E.b n))
    (Shape.Squeezes.numel_eq (by first | exact squeezes_S1x1x512x512_S512x512 | decide))

theorem mr_inb (n : ℕ) (h : n < 32) : ∀ d, (![0, n / 2, 0] : Fin 3 → ℕ) d + S1x1x512.size d ≤ S1x17x512.size d := by
  intro d; fin_cases d
  · show 0 + 1 ≤ 1; omega
  · show n / 2 + 1 ≤ 17; omega
  · show 0 + 512 ≤ 512; omega
theorem kt_inb (n : ℕ) (h : n < 32) : ∀ d, (![0, 512 * n] : Fin 2 → ℕ) d + S128x512.size d ≤ S128x16384.size d := by
  intro d; fin_cases d
  · show 0 + 128 ≤ 128; omega
  · show 512 * n + 512 ≤ 16384; omega
theorem v_inb (n : ℕ) : ∀ d, (![512 * min (n + 1) 31, 0] : Fin 2 → ℕ) d + S512x128.size d ≤ S16384x128.size d := by
  intro d; fin_cases d
  · show 512 * min (n + 1) 31 + 512 ≤ 16384; omega
  · show 0 + 128 ≤ 128; omega

/-- One trip on the buffers. -/
def stepSt (E : Env F) (n : ℕ) (h : n < 32) (s : St F) : St F where
  acc := k0_pay20 E.lse E.delta s.dp (pBlk E n) (VecWindow.window E.mr ![0, n / 2, 0] S1x1x512.size (mr_inb n h)) s.acc
    (VecWindow.window E.kt ![0, 512 * n] S128x512.size (kt_inb n h))
  dp := k0_pay23 (k0_pay2 E.go (VecWindow.window E.v ![512 * min (n + 1) 31, 0] S512x128.size (v_inb n)))
  dk := VecWindow.put s.dk ![0, 512 * n] S128x512.size (k0_pay21 E.q E.lse E.delta s.dp (pBlk E n)
    (VecWindow.window E.mr ![0, n / 2, 0] S1x1x512.size (mr_inb n h)) (VecWindow.window s.dk ![0, 512 * n] S128x512.size (kt_inb n h)))
  dv := VecWindow.put s.dv ![0, 512 * n] S128x512.size (k0_pay22 E.go E.lse (pBlk E n)
    (VecWindow.window E.mr ![0, n / 2, 0] S1x1x512.size (mr_inb n h)) (VecWindow.window s.dv ![0, 512 * n] S128x512.size (kt_inb n h)))

/-- The buffers before trip `n`, from `s`. -/
def stAt (E : Env F) (s : St F) : ℕ → St F
  | 0 => s
  | n + 1 => if h : n < 32 then stepSt E n h (stAt E s n) else stAt E s n

theorem stAt_succ (E : Env F) (s : St F) (n : ℕ) (h : n < 32) : stAt E s (n + 1) = stepSt E n h (stAt E s n) := dif_pos h

/-- What a load of the whole slot reads, after the copy that filled it. -/
theorem slot_load (o o' : Fin 3 → ℕ) (e : o = o') (h : ∀ a, o a + S1x512x512.size a ≤ S4x512x512.size a)
    (h' : ∀ a, o' a + S1x512x512.size a ≤ S4x512x512.size a)
    (g : (slotAt o h).view.ty.Contents (Elt F)) (w : S512x512.Idx → Elt F .bf16) :
    k0_pay3 ((Memref.whole cc0_scratch4).view.readAt (Elt F) (Rect.unit (s := S4x512x512) o' S1x512x512.size h').toLoadRect
      ((slotAt o h).view.writes (Elt F) g [⟨Rect.whole S512x512, w⟩])) = w := by
  subst e
  exact View.read_writes_whole (slotAt o h).view g w

/-- What a copy reads of the stored weights at offsets `o`. -/
theorem src_read (o o' : Fin 4 → ℕ) (e : o = o') (h : ∀ a, o a + S1x1x512x512.size a ≤ S8x32x17664x512.size a)
    (h' : ∀ a, o' a + S1x1x512x512.size a ≤ S8x32x17664x512.size a) (fp : S8x32x17664x512.Idx → Elt F .bf16) :
    (srcAt o h).view.read (Elt F) fp = shapeCast S512x512 (VecWindow.window fp o' S1x1x512x512.size h')
      (Shape.Squeezes.numel_eq (by first | exact squeezes_S1x1x512x512_S512x512 | decide)) := by
  subst e; rfl

/-- What the trip loads from its slot is the block of its number. -/
theorem pBlk_eq (i : grid0.Coords) (t : Fin k0_t1_loop.trips) (E : Env F) (hE : E.a = ga i ∧ E.b = gb i)
    (g : (slotAt (k0_off6 t) (k0_off6_inb t)).view.ty.Contents (Elt F)) (w : S512x512.Idx → Elt F .bf16)
    (hw : w = (srcAt (k0_off7 i t) (k0_off7_inb i t)).view.read (Elt F) E.p) :
    k0_pay3 ((Memref.whole cc0_scratch4).view.readAt (Elt F) (Rect.unit (s := S4x512x512) (k0_off12 t) S1x512x512.size (k0_off12_inb t)).toLoadRect
      ((slotAt (k0_off6 t) (k0_off6_inb t)).view.writes (Elt F) g [⟨Rect.whole S512x512, w⟩])) = pBlk E t.val := by
  have e : srcOff (ga i).val (gb i).val t.val = srcOff E.a.val E.b.val t.val := by rw [hE.1, hE.2]
  exact (slot_load _ _ ((off6_eq t).trans (off12_eq t).symm) _ _ g w).trans
    (hw.trans (src_read _ _ ((off7_eq i t).trans e) _ (srcOff_inb E.a E.b t.val) E.p))

set_option maxHeartbeats 4000000 in
/-- One trip: from the buffers at `s` and the ring before it, the buffers at `stepSt` and the ring after it. -/
theorem trip (c : Dev nD) (i : grid0.Coords) (t : Fin k0_t1_loop.trips)
  (arg2 : Memref sig .tc .vmem S1x128x512 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x512 .f32) (harg5 : arg5.IsWhole) (arg6 : Memref sig .tc .vmem S1x17x512 .f32) (harg6 : arg6.IsWhole) (arg8 : Memref sig .tc .vmem S128x16384 .bf16) (harg8 : arg8.IsWhole) (arg9 : Memref sig .tc .vmem S16384x128 .bf16) (harg9 : arg9.IsWhole) (arg10 : Memref sig .tc .vmem S128x256 .bf16) (harg10 : arg10.IsWhole) (arg11 : Memref sig .tc .vmem S256x128 .bf16) (harg11 : arg11.IsWhole) (arg12 : Memref sig .tc .vmem S1x128x512 .f32) (harg12 : arg12.IsWhole) (arg15 : Memref sig .tc .vmem S128x256 .f32) (harg15 : arg15.IsWhole) (arg16 : Memref sig .tc .vmem S128x256 .f32) (harg16 : arg16.IsWhole)
  (arg0 arg1 v24 v35 : BitVec 32) (v64 : Vec F S256x512 .bf16) (E : Env F) (hE : E.a = ga i ∧ E.b = gb i) (s : St F) (ht : t.val < 32) :
  iprop(ring c E.p (ga i) (gb i) t.val
     ∗ holds c arg6 E.mr ∗ holds c arg8 E.kt ∗ holds c arg9 E.v
     ∗ holds c (Memref.whole cc0_scratch0) s.acc ∗ holds c (Memref.whole cc0_scratch1) s.dp
     ∗ holds c (Memref.whole cc0_scratch2) s.dk ∗ holds c (Memref.whole cc0_scratch3) s.dv
     ∗ (∃ W, owes (c : Thread nD τ) 0 W)) ⊢ wp frame (wpE defs₀ Variants.none (c : Thread nD τ) none) Set.univ
     (k0_t1_body (F := F) i arg2 harg2 arg3 harg3 arg4 harg4 arg5 harg5 arg6 harg6 (Memref.whole main_v31) (Memref.isWhole_whole _) arg8 harg8 arg9 harg9 arg10 harg10 arg11 harg11 arg12 harg12 (Memref.whole main_v103_1) (Memref.isWhole_whole _) (Memref.whole main_v103_2) (Memref.isWhole_whole _) arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1 arg0 arg1 v24 v35 E.q E.go E.lse E.delta v64 t ())
     fun _ => iprop(ring c E.p (ga i) (gb i) (t.val + 1)
     ∗ holds c arg6 E.mr ∗ holds c arg8 E.kt ∗ holds c arg9 E.v
     ∗ holds c (Memref.whole cc0_scratch0) (stepSt E t.val ht s).acc ∗ holds c (Memref.whole cc0_scratch1) (stepSt E t.val ht s).dp
     ∗ holds c (Memref.whole cc0_scratch2) (stepSt E t.val ht s).dk ∗ holds c (Memref.whole cc0_scratch3) (stepSt E t.val ht s).dv
     ∗ (∃ W, owes (c : Thread nD τ) 0 W)) := by
  unfold k0_t1_body
  have hS := read_subset _ _ ((off6_eq t).trans (off12_eq t).symm) (k0_off6_inb t) (k0_off12_inb t)
  rw [ring_open]
  iintro ⟨⟨⟨⟨%f', Hfl⟩, Htok⟩, ⟨Hc, ⟨%f, Hs⟩, Ht⟩, Hrest⟩, H6, H8, H9, H17, H18, H19, H20, ⟨%W, HO⟩⟩
  sl_exec
  sl_step
  have e0 : trip.sl.r s = s.dp := View.readAt_rep_full _ _ _
  have e1 : trip.sl.r_1 t arg9 E = k0_pay2 E.go (VecWindow.window E.v ![512 * min (t.val + 1) 31, 0] S512x128.size (v_inb t.val)) :=
    congrArg (k0_pay2 E.go) (View.readAt_rep_unit arg9.view E.v _ (off11_eq t) _)
  have e2 : trip.sl.r_2 i t E = pBlk E t.val := pBlk_eq i t E hE _ _ rfl
  have e3 : trip.sl.r_3 t arg6 E = VecWindow.window E.mr ![0, t.val / 2, 0] S1x1x512.size (mr_inb t.val ht) :=
    View.readAt_rep_unit arg6.view E.mr _ (off13_eq t) _
  rw [e0, e1, e2, e3]
  ihave H17' := pointsTo_rep_of_read (c : Thread nD τ) (Memref.whole cc0_scratch0) _ fullShare (stepSt E t.val ht s).acc (by
    refine (View.read_writes_full _ _ _ _ _).trans ?_
    rw [View.readAt_rep_unit arg8.view E.kt _ (off14_eq t) (kt_inb t.val ht)]
    exact congrArg (fun x => k0_pay20 E.lse E.delta s.dp (pBlk E t.val) _ x _) (View.readAt_rep_full _ _ _)) $$ H17
  ihave H18' := pointsTo_rep_of_read (c : Thread nD τ) (Memref.whole cc0_scratch1) _ fullShare (stepSt E t.val ht s).dp (by
    exact View.read_writes_full _ _ _ _ _) $$ H18
  ihave H19' := pointsTo_rep_of_read (c : Thread nD τ) (Memref.whole cc0_scratch2) _ fullShare (stepSt E t.val ht s).dk (by
    rw [View.read_writes_rep_unit _ _ _ _ (off14_eq t), View.readAt_rep_unit _ s.dk _ (off14_eq t) (kt_inb t.val ht)]; rfl) $$ H19
  ihave H20' := pointsTo_rep_of_read (c : Thread nD τ) (Memref.whole cc0_scratch3) _ fullShare (stepSt E t.val ht s).dv (by
    rw [View.read_writes_rep_unit _ _ _ _ (off14_eq t), View.readAt_rep_unit _ s.dv _ (off14_eq t) (kt_inb t.val ht)]; rfl) $$ H20
  isplitl [Hfl Hfl_dst Htok Hc Ht Hrest]
  · iapply ring_close c E.p i t
    isplitl [Hfl Hfl_dst Htok]
    · unfold freeAt
      iframe
      iexists _
      iexact Hfl_dst
    · isplitl [Hc Ht]
      · unfold flyAt
        iframe
        iexists f
        iexact Hc
      · iframe
  iframe
  iexists _
  iexact HO
/-- The buffers' contents between trips. -/
def loopAt (c : Dev nD) (i : grid0.Coords) (arg6 : Memref sig .tc .vmem S1x17x512 .f32) (arg8 : Memref sig .tc .vmem S128x16384 .bf16)
    (arg9 : Memref sig .tc .vmem S16384x128 .bf16) (E : Env F) (s : St F) (k : ℕ) : sProp 𝕄 :=
  iprop(ring c E.p (ga i) (gb i) k
     ∗ holds c arg6 E.mr ∗ holds c arg8 E.kt ∗ holds c arg9 E.v
     ∗ holds c (Memref.whole cc0_scratch0) s.acc ∗ holds c (Memref.whole cc0_scratch1) s.dp
     ∗ holds c (Memref.whole cc0_scratch2) s.dk ∗ holds c (Memref.whole cc0_scratch3) s.dv
     ∗ (∃ W, owes (c : Thread nD τ) 0 W))

set_option warn.classDefReducibility false in
/-- The loop's invariant: before trip `k` the buffers are `stAt` of those before the loop. -/
def loopInv_k0_t1 (c : Dev nD) (i : grid0.Coords)
  (arg2 : Memref sig .tc .vmem S1x128x512 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x512 .f32) (harg5 : arg5.IsWhole) (arg6 : Memref sig .tc .vmem S1x17x512 .f32) (harg6 : arg6.IsWhole) (arg8 : Memref sig .tc .vmem S128x16384 .bf16) (harg8 : arg8.IsWhole) (arg9 : Memref sig .tc .vmem S16384x128 .bf16) (harg9 : arg9.IsWhole) (arg10 : Memref sig .tc .vmem S128x256 .bf16) (harg10 : arg10.IsWhole) (arg11 : Memref sig .tc .vmem S256x128 .bf16) (harg11 : arg11.IsWhole) (arg12 : Memref sig .tc .vmem S1x128x512 .f32) (harg12 : arg12.IsWhole) (arg15 : Memref sig .tc .vmem S128x256 .f32) (harg15 : arg15.IsWhole) (arg16 : Memref sig .tc .vmem S128x256 .f32) (harg16 : arg16.IsWhole)
  (arg0 arg1 v24 v35 : BitVec 32) (v64 : Vec F S256x512 .bf16) (E : Env F) (hE : E.a = ga i ∧ E.b = gb i) (s : St F) :
  LoopInvTy_k0_t1 (F := F) Unit ℕ (Pipeline.UD sig nD τ) ℕ Variants.none c none Set.univ i arg2 harg2 arg3 harg3 arg4 harg4 arg5 harg5 arg6 harg6 (Memref.whole main_v31) (Memref.isWhole_whole _) arg8 harg8 arg9 harg9 arg10 harg10 arg11 harg11 arg12 harg12 (Memref.whole main_v103_1) (Memref.isWhole_whole _) (Memref.whole main_v103_2) (Memref.isWhole_whole _) arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1 arg0 arg1 v24 v35 E.q E.go E.lse E.delta v64 where
  inv k _ := loopAt c i arg6 arg8 arg9 E (stAt E s k) k
  step k _ := by
    have hk : k.val < 32 := lt_of_lt_of_eq k.isLt trips_eq
    have h := trip c i k arg2 harg2 arg3 harg3 arg4 harg4 arg5 harg5 arg6 harg6 arg8 harg8 arg9 harg9 arg10 harg10 arg11 harg11 arg12 harg12 arg15 harg15 arg16 harg16 arg0 arg1 v24 v35 v64 E hE (stAt E s k.val) hk
    rw [stAt_succ E s k.val hk]
    exact h

end Cert.KernelIdeal.Glob

end
-- ==== Proof.Body.lean ====
module

public import proofs.«01_k».proof.Proof.Trip

@[expose] public section

set_option maxRecDepth 16384

noncomputable section

namespace Cert.KernelIdeal.Glob

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole of a memref, holding anything. -/
abbrev anyOf (c : Dev nD) {sp : Space} {s : Shape} {e : EltTy} (M : Memref sig .tc sp s e) : sProp 𝕄 :=
  iprop(∃ f, M.view.loc (c : Thread nD τ) ↦[M.view.set]{fullShare} f)

/-- The last row of the running maxima: the final ones. -/
theorem mrow_inb : ∀ d, (![0, 16, 0] : Fin 3 → ℕ) d + S1x1x512.size d ≤ S1x17x512.size d := by
  intro d; fin_cases d <;> decide

/-- The buffers before the first trip: `dq` starts from the context's share. -/
def stInit (E : Env F) (pc : Vec F S256x512 .bf16) (kc : S128x256.Idx → Elt F .bf16) (vc : S256x128.Idx → Elt F .bf16)
    (dp : S512x512.Idx → Elt F .f32) (dk dv : S128x16384.Idx → Elt F .f32) : St F where
  acc := k0_pay15 E.go E.lse E.delta pc (VecWindow.window E.mr ![0, 16, 0] S1x1x512.size mrow_inb) vc kc
  dp := dp
  dk := dk
  dv := dv

/-- The loop at the head of a program. -/
theorem loop_run (c : Dev nD) (i : grid0.Coords)
  (arg2 : Memref sig .tc .vmem S1x128x512 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x512 .f32) (harg5 : arg5.IsWhole) (arg6 : Memref sig .tc .vmem S1x17x512 .f32) (harg6 : arg6.IsWhole) (arg8 : Memref sig .tc .vmem S128x16384 .bf16) (harg8 : arg8.IsWhole) (arg9 : Memref sig .tc .vmem S16384x128 .bf16) (harg9 : arg9.IsWhole) (arg10 : Memref sig .tc .vmem S128x256 .bf16) (harg10 : arg10.IsWhole) (arg11 : Memref sig .tc .vmem S256x128 .bf16) (harg11 : arg11.IsWhole) (arg12 : Memref sig .tc .vmem S1x128x512 .f32) (harg12 : arg12.IsWhole) (arg15 : Memref sig .tc .vmem S128x256 .f32) (harg15 : arg15.IsWhole) (arg16 : Memref sig .tc .vmem S128x256 .f32) (harg16 : arg16.IsWhole)
  (arg0 arg1 v24 v35 : BitVec 32) (pc : Vec F S256x512 .bf16) (E : Env F) (hE : E.a = ga i ∧ E.b = gb i) (s : St F)
  {β : Type} {kk : Unit → Prog (TpuEff nD τ sig (Elt F) Λ₀ .tc) β} {Q : β → sProp 𝕄} :
  loopAt c i arg6 arg8 arg9 E s 0 ⊢ iprop((∀ x, loopAt c i arg6 arg8 arg9 E (stAt E s k0_t1_loop.trips) k0_t1_loop.trips
      -∗ wp frame (wpE (defs₀ (F := F)) Variants.none (c : Thread nD τ) none) Set.univ (kk x) Q)
    -∗ wp frame (wpE (defs₀ (F := F)) Variants.none (c : Thread nD τ) none) Set.univ
      (Scf.Loop.for k0_t1_loop k0_t1_ok () (k0_t1_body (F := F) i arg2 harg2 arg3 harg3 arg4 harg4 arg5 harg5 arg6 harg6 (Memref.whole main_v31) (Memref.isWhole_whole _) arg8 harg8 arg9 harg9 arg10 harg10 arg11 harg11 arg12 harg12 (Memref.whole main_v103_1) (Memref.isWhole_whole _) (Memref.whole main_v103_2) (Memref.isWhole_whole _) arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1 arg0 arg1 v24 v35 E.q E.go E.lse E.delta pc) >>= kk) Q) :=
  exec_loop frame (wpE (defs₀ (F := F)) Variants.none (c : Thread nD τ) none) Set.univ _ _ _ _ _ _
    (loopInv_k0_t1 c i arg2 harg2 arg3 harg3 arg4 harg4 arg5 harg5 arg6 harg6 arg8 harg8 arg9 harg9 arg10 harg10 arg11 harg11 arg12 harg12 arg15 harg15 arg16 harg16 arg0 arg1 v24 v35 pc E hE s)

set_option maxHeartbeats 4000000 in
/-- The context's share and the loop. -/
theorem part5 (c : Dev nD) (i : grid0.Coords)
  (arg2 : Memref sig .tc .vmem S1x128x512 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x512 .f32) (harg5 : arg5.IsWhole) (arg6 : Memref sig .tc .vmem S1x17x512 .f32) (harg6 : arg6.IsWhole) (arg8 : Memref sig .tc .vmem S128x16384 .bf16) (harg8 : arg8.IsWhole) (arg9 : Memref sig .tc .vmem S16384x128 .bf16) (harg9 : arg9.IsWhole) (arg10 : Memref sig .tc .vmem S128x256 .bf16) (harg10 : arg10.IsWhole) (arg11 : Memref sig .tc .vmem S256x128 .bf16) (harg11 : arg11.IsWhole) (arg12 : Memref sig .tc .vmem S1x128x512 .f32) (harg12 : arg12.IsWhole) (arg15 : Memref sig .tc .vmem S128x256 .f32) (harg15 : arg15.IsWhole) (arg16 : Memref sig .tc .vmem S128x256 .f32) (harg16 : arg16.IsWhole)
  (arg0 arg1 v24 v35 : BitVec 32) (E : Env F) (hE : E.a = ga i ∧ E.b = gb i) (pc : Vec F S256x512 .bf16)
  (kc : S128x256.Idx → Elt F .bf16) (vc : S256x128.Idx → Elt F .bf16) (dkc dvc : S128x256.Idx → Elt F .f32)
  (dp : S512x512.Idx → Elt F .f32) (dk dv : S128x16384.Idx → Elt F .f32) :
  iprop(ring c E.p (ga i) (gb i) 0
     ∗ holds c arg6 E.mr ∗ holds c arg8 E.kt ∗ holds c arg9 E.v ∗ holds c arg10 kc ∗ holds c arg11 vc ∗ holds c arg15 dkc ∗ holds c arg16 dvc
     ∗ anyOf c (Memref.whole cc0_scratch0) ∗ holds c (Memref.whole cc0_scratch1) dp
     ∗ holds c (Memref.whole cc0_scratch2) dk ∗ holds c (Memref.whole cc0_scratch3) dv
     ∗ (∃ W, owes (c : Thread nD τ) 0 W)) ⊢ wp frame (wpE defs₀ Variants.none (c : Thread nD τ) none) Set.univ
     (k0_part5 (F := F) i arg2 harg2 arg3 harg3 arg4 harg4 arg5 harg5 arg6 harg6 (Memref.whole main_v31) (Memref.isWhole_whole _) arg8 harg8 arg9 harg9 arg10 harg10 arg11 harg11 arg12 harg12 (Memref.whole main_v103_1) (Memref.isWhole_whole _) (Memref.whole main_v103_2) (Memref.isWhole_whole _) arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1 arg0 arg1 v24 v35 E.q E.go E.lse E.delta pc)
     fun _ => iprop(loopAt c i arg6 arg8 arg9 E (stAt E (stInit E pc kc vc dp dk dv) 32) 32
      ∗ holds c arg10 kc ∗ holds c arg11 vc
      ∗ holds c arg15 (k0_pay16 E.q E.go E.lse E.delta pc (VecWindow.window E.mr ![0, 16, 0] S1x1x512.size mrow_inb) vc dkc)
      ∗ holds c arg16 (k0_pay17 E.go E.lse pc (VecWindow.window E.mr ![0, 16, 0] S1x1x512.size mrow_inb) dvc)) := by
  rw [k0_part5_eq_skeleton]
  unfold k0_part5_skel
  iintro ⟨Hring, H6, H8, H9, H10, H11, H15, H16, ⟨%f17, H17⟩, H18, H19, H20, ⟨%W, HO⟩⟩
  sl_exec
  have e0 : arg6.view.readAt (Elt F) (Rect.unit (s := S1x17x512) ![0, 16, 0] S1x1x512.size inb_S1x17x512_S1x1x512_0_16_0).toLoadRect (arg6.view.rep E.mr)
    = VecWindow.window E.mr ![0, 16, 0] S1x1x512.size mrow_inb := View.readAt_rep_unit _ _ _ rfl _
  have e1 : arg11.view.readAt (Elt F) (Rect.unit (s := S256x128) ![0, 0] S256x128.size inb_S256x128_S256x128_0_0).toLoadRect (arg11.view.rep vc) = vc :=
    View.readAt_rep_full _ _ _
  have e2 : arg10.view.readAt (Elt F) (Rect.unit (s := S128x256) ![0, 0] S128x256.size inb_S128x256_S128x256_0_0).toLoadRect (arg10.view.rep kc) = kc :=
    View.readAt_rep_full _ _ _
  have e3 : arg15.view.readAt (Elt F) (Rect.unit (s := S128x256) ![0, 0] S128x256.size inb_S128x256_S128x256_0_0).toLoadRect (arg15.view.rep dkc) = dkc :=
    View.readAt_rep_full _ _ _
  have e4 : arg16.view.readAt (Elt F) (Rect.unit (s := S128x256) ![0, 0] S128x256.size inb_S128x256_S128x256_0_0).toLoadRect (arg16.view.rep dvc) = dvc :=
    View.readAt_rep_full _ _ _
  ihave H15' := pointsTo_rep_of_read (c : Thread nD τ) arg15 _ fullShare
    (k0_pay16 E.q E.go E.lse E.delta pc (VecWindow.window E.mr ![0, 16, 0] S1x1x512.size mrow_inb) vc dkc) (by
    rw [← e0]
    refine (View.read_writes_full _ _ _ _ _).trans ?_
    exact congrArg₂ (fun x y => k0_pay16 E.q E.go E.lse E.delta pc _ x y) e1 e3) $$ H15
  ihave H16' := pointsTo_rep_of_read (c : Thread nD τ) arg16 _ fullShare
    (k0_pay17 E.go E.lse pc (VecWindow.window E.mr ![0, 16, 0] S1x1x512.size mrow_inb) dvc) (by
    rw [← e0]
    refine (View.read_writes_full _ _ _ _ _).trans ?_
    exact congrArg (fun y => k0_pay17 E.go E.lse pc _ y) e4) $$ H16
  ihave H17' := pointsTo_rep_of_read (c : Thread nD τ) (Memref.whole cc0_scratch0) _ fullShare (stInit E pc kc vc dp dk dv).acc (by
    refine (View.read_writes_full _ _ _ _ _).trans ?_
    exact (congrArg (fun x => k0_pay15 E.go E.lse E.delta pc x _ _) e0).trans
      (congrArg₂ (fun x y => k0_pay15 E.go E.lse E.delta pc _ x y) e1 e2)) $$ H17
  ihave Hloop := loop_run c i arg2 harg2 arg3 harg3 arg4 harg4 arg5 harg5 arg6 harg6 arg8 harg8 arg9 harg9 arg10 harg10 arg11 harg11 arg12 harg12 arg15 harg15 arg16 harg16 arg0 arg1 v24 v35 pc E hE (stInit E pc kc vc dp dk dv)
    $$ [Hring H6 H8 H9 H17' H18 H19 H20 HO]
  · unfold loopAt
    iframe
    isplitl [H18]
    · iexact H18
    isplitl [H19]
    · iexact H19
    isplitl [H20]
    · iexact H20
    iexists W
    iexact HO
  iapply Hloop
  iintro %x Hinv
  sl_step
  rw [trips_eq]
  isplitl [Hinv]
  · iexact Hinv
  iframe

end Cert.KernelIdeal.Glob

end
-- ==== Proof.Part4.lean ====
module

public import proofs.«01_k».proof.Proof.Body
public import Idealize.ShloMosaic.Lib.Ring.Tabled

@[expose] public section

set_option maxRecDepth 16384

noncomputable section

namespace Cert.KernelIdeal.Glob

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

theorem v0_inb : ∀ d, (![0, 0] : Fin 2 → ℕ) d + S512x128.size d ≤ S16384x128.size d := by
  intro d; fin_cases d <;> decide

/-- The context's block of the stored weights. -/
def pcBlk (i : grid0.Coords) (p : S8x32x17664x512.Idx → Elt F .bf16) : S256x512.Idx → Elt F .bf16 :=
  shapeCast S256x512 (VecWindow.window p (k0_off1 i) S1x1x256x512.size (k0_off1_inb i))
    (Shape.Squeezes.numel_eq (by first | exact squeezes_S1x1x256x512_S256x512 | decide))

/-- The memref of the context's block of the stored weights. -/
abbrev ctxSrc (i : grid0.Coords) : Memref sig .tc .hbm S256x512 .bf16 :=
  ((Memref.whole main_v31).slice (Rect.unit (s := S8x32x17664x512) (k0_off1 i) S1x1x256x512.size (k0_off1_inb i)) (fun _ => rfl)).squeeze S256x512 squeezes_S1x1x256x512_S256x512

/-- What the load of the context's block reads, after its copy. -/
theorem ctx_load (i : grid0.Coords) (p : S8x32x17664x512.Idx → Elt F .bf16) :
    (Memref.whole cc0_scratch5).view.readCov (Val := Elt F) [⟨Rect.whole S256x512, (ctxSrc i).view.read (Elt F) p⟩]
      (Rect.unit (s := S256x512) ![0, 0] S256x512.size inb_S256x512_S256x512_0_0).toLoadRect = pcBlk i p :=
  (View.readAt_full (Memref.whole cc0_scratch5).view _ _).trans (View.read_writes_whole (Memref.whole cc0_scratch5).view _ _)

/-- The free ring, slot by slot, as the kernel spells the first three. -/
theorem ringFree_eq (c : Dev nD) (fp : S8x32x17664x512.Idx → Elt F .bf16) :
    ringFree c fp = iprop(freeAt c fp 0 (slotAt ![0, 0, 0] inb_S4x512x512_S1x512x512_0_0_0) (semAt ![0] inb_S4_S1_0)
      ∗ freeAt c fp 1 (slotAt ![1, 0, 0] inb_S4x512x512_S1x512x512_1_0_0) (semAt ![1] inb_S4_S1_1)
      ∗ freeAt c fp 2 (slotAt ![2, 0, 0] inb_S4x512x512_S1x512x512_2_0_0) (semAt ![2] inb_S4_S1_2)
      ∗ Φ c fp 3 none) := by
  unfold ringFree
  rw [Ring.AtW_eq_list (Φ c fp) _ [0, 1, 2, 3] (by decide) (by decide)]
  rfl

theorem off2_eq (i : grid0.Coords) (h : (ga i).val = 0 ∧ (gb i).val = 0) : k0_off2 i = srcOff 0 0 0 := by
  have h0 : (i 0).val = 0 := h.1
  have h1 : (i 1).val = 0 := h.2
  unfold k0_off2 srcOff
  rw [h0, h1]; rfl
theorem off3_eq (i : grid0.Coords) (h : (ga i).val = 0 ∧ (gb i).val = 0) : k0_off3 i = srcOff 0 0 1 := by
  have h0 : (i 0).val = 0 := h.1
  have h1 : (i 1).val = 0 := h.2
  unfold k0_off3 srcOff
  rw [h0, h1]; rfl
theorem off4_eq (i : grid0.Coords) (h : (ga i).val = 0 ∧ (gb i).val = 0) : k0_off4 i = srcOff 0 0 2 := by
  have h0 : (i 0).val = 0 := h.1
  have h1 : (i 1).val = 0 := h.2
  unfold k0_off4 srcOff
  rw [h0, h1]; rfl

/-- Three flights and a free slot are the ring before the first trip of the first point. -/
theorem ring_start (c : Dev nD) (fp : S8x32x17664x512.Idx → Elt F .bf16) (i : grid0.Coords) (h : (ga i).val = 0 ∧ (gb i).val = 0)
    (h2 : k0_cond2 i = 1#1) :
    iprop(flyAt c fp 0 (slotAt ![0, 0, 0] inb_S4x512x512_S1x512x512_0_0_0) (semAt ![0] inb_S4_S1_0) (k0_off2 i) (k0_off2_inb i h2)
      ∗ flyAt c fp 1 (slotAt ![1, 0, 0] inb_S4x512x512_S1x512x512_1_0_0) (semAt ![1] inb_S4_S1_1) (k0_off3 i) (k0_off3_inb i h2)
      ∗ flyAt c fp 2 (slotAt ![2, 0, 0] inb_S4x512x512_S1x512x512_2_0_0) (semAt ![2] inb_S4_S1_2) (k0_off4 i) (k0_off4_inb i h2)
      ∗ Φ c fp 3 none) ⊢ ring c fp (ga i) (gb i) 0 := by
  have ea : ga i = 0 := Fin.ext h.1
  have eb : gb i = 0 := Fin.ext h.2
  have r0 : roles (ga i) (gb i) 0 0 = some ⟨k0_off2 i, k0_off2_inb i h2⟩ := by
    rw [ea, eb]; exact congrArg some (Subtype.ext (off2_eq i h).symm)
  have r1 : roles (ga i) (gb i) 0 1 = some ⟨k0_off3 i, k0_off3_inb i h2⟩ := by
    rw [ea, eb]; exact congrArg some (Subtype.ext (off3_eq i h).symm)
  have r2 : roles (ga i) (gb i) 0 2 = some ⟨k0_off4 i, k0_off4_inb i h2⟩ := by
    rw [ea, eb]; exact congrArg some (Subtype.ext (off4_eq i h).symm)
  have r3 : roles (ga i) (gb i) 0 3 = none := rfl
  have e : ring c fp (ga i) (gb i) 0 = iprop(Φ c fp 0 (roles (ga i) (gb i) 0 0) ∗ Φ c fp 1 (roles (ga i) (gb i) 0 1)
      ∗ Φ c fp 2 (roles (ga i) (gb i) 0 2) ∗ Φ c fp 3 (roles (ga i) (gb i) 0 3)) := by
    unfold ring
    rw [Ring.AtW_eq_list (Φ c fp) _ [0, 1, 2, 3] (by decide) (by decide)]
    rfl
  rw [e, r0, r1, r2, r3]
  exact .rfl

set_option maxHeartbeats 4000000 in
/-- The loads of a grid point and the copy of the context's block, at a point that starts no ring. -/
theorem part4_mid (c : Dev nD) (i : grid0.Coords) (h2 : ¬ k0_cond2 i = 1#1)
  (arg2 : Memref sig .tc .vmem S1x128x512 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x512 .f32) (harg5 : arg5.IsWhole) (arg6 : Memref sig .tc .vmem S1x17x512 .f32) (harg6 : arg6.IsWhole) (arg8 : Memref sig .tc .vmem S128x16384 .bf16) (harg8 : arg8.IsWhole) (arg9 : Memref sig .tc .vmem S16384x128 .bf16) (harg9 : arg9.IsWhole) (arg10 : Memref sig .tc .vmem S128x256 .bf16) (harg10 : arg10.IsWhole) (arg11 : Memref sig .tc .vmem S256x128 .bf16) (harg11 : arg11.IsWhole) (arg12 : Memref sig .tc .vmem S1x128x512 .f32) (harg12 : arg12.IsWhole) (arg15 : Memref sig .tc .vmem S128x256 .f32) (harg15 : arg15.IsWhole) (arg16 : Memref sig .tc .vmem S128x256 .f32) (harg16 : arg16.IsWhole)
  (arg0 arg1 : BitVec 32)
  (x2 x3 x4 : S1x128x512.Idx → Elt F .bf16) (x5 : S1x1x512.Idx → Elt F .f32) (x9 : S16384x128.Idx → Elt F .bf16)
  (fp : S8x32x17664x512.Idx → Elt F .bf16) (Q : _ → sProp 𝕄) :
  iprop(holds c arg2 x2 ∗ holds c arg3 x3 ∗ holds c arg4 x4 ∗ holds c arg5 x5 ∗ holds c arg9 x9
     ∗ anyOf c (Memref.whole cc0_scratch1) ∗ anyOf c (Memref.whole cc0_scratch5) ∗ semVal ((c : Thread nD τ), SemLoc.dma cc0_scratch7.sem) 0
     ∗ tokP c 4 Finset.univ fp
     ∗ (∃ W, owes (c : Thread nD τ) 0 W)
     ∗ (iprop(holds c arg2 x2 ∗ holds c arg3 x3 ∗ holds c arg4 x4 ∗ holds c arg5 x5 ∗ holds c arg9 x9
         ∗ holds c (Memref.whole cc0_scratch1) (k0_pay12 x3 (VecWindow.window x9 ![0, 0] S512x128.size v0_inb))
         ∗ anyOf c (Memref.whole cc0_scratch5) ∗ semVal ((c : Thread nD τ), SemLoc.dma cc0_scratch7.sem) 0
         ∗ tokP c 4 Finset.univ fp ∗ (∃ W, owes (c : Thread nD τ) 0 W))
        -∗ Q ⟨k0_pay8 x2, k0_pay9 x3, k0_pay10 x5, k0_pay11 x3 x4, pcBlk i fp⟩)) ⊢ wp frame (wpE defs₀ Variants.none (c : Thread nD τ) none) Set.univ
     (k0_part4 (F := F) i arg2 harg2 arg3 harg3 arg4 harg4 arg5 harg5 arg6 harg6 (Memref.whole main_v31) (Memref.isWhole_whole _) arg8 harg8 arg9 harg9 arg10 harg10 arg11 harg11 arg12 harg12 (Memref.whole main_v103_1) (Memref.isWhole_whole _) (Memref.whole main_v103_2) (Memref.isWhole_whole _) arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1 arg0 arg1) Q := by
  rw [k0_part4_eq_skeleton]
  unfold k0_part4_skel
  iintro ⟨H2, H3, H4, H5, H9, ⟨%f18, H18⟩, ⟨%f22, H22⟩, Hs, Ht, ⟨%W, HO⟩, HK⟩
  sl_exec
  have e2 : arg2.view.readAt (Elt F) (Rect.unit (s := S1x128x512) ![0, 0, 0] S1x128x512.size inb_S1x128x512_S1x128x512_0_0_0).toLoadRect (arg2.view.rep x2) = x2 :=
    View.readAt_rep_full _ _ _
  have e3 : arg3.view.readAt (Elt F) (Rect.unit (s := S1x128x512) ![0, 0, 0] S1x128x512.size inb_S1x128x512_S1x128x512_0_0_0).toLoadRect (arg3.view.rep x3) = x3 :=
    View.readAt_rep_full _ _ _
  have e4 : arg4.view.readAt (Elt F) (Rect.unit (s := S1x128x512) ![0, 0, 0] S1x128x512.size inb_S1x128x512_S1x128x512_0_0_0).toLoadRect (arg4.view.rep x4) = x4 :=
    View.readAt_rep_full _ _ _
  have e5 : arg5.view.readAt (Elt F) (Rect.unit (s := S1x1x512) ![0, 0, 0] S1x1x512.size inb_S1x1x512_S1x1x512_0_0_0).toLoadRect (arg5.view.rep x5) = x5 :=
    View.readAt_rep_full _ _ _
  have e9 : arg9.view.readAt (Elt F) (Rect.unit (s := S16384x128) ![0, 0] S512x128.size inb_S16384x128_S512x128_0_0).toLoadRect (arg9.view.rep x9)
    = VecWindow.window x9 ![0, 0] S512x128.size v0_inb := View.readAt_rep_unit _ _ _ rfl _
  have e64 : part4_mid.sl.v64 i fp = pcBlk i fp := by
    exact ctx_load i fp
  rw [e64]
  sl_step
  rw [e2, e3, e4, e5]
  ihave H18' := pointsTo_rep_of_read (c : Thread nD τ) (Memref.whole cc0_scratch1) _ fullShare
    (k0_pay12 x3 (VecWindow.window x9 ![0, 0] S512x128.size v0_inb)) (by
    refine (View.read_writes_full _ _ _ _ _).trans ?_
    exact congrArg (k0_pay12 x3) e9) $$ H18
  iapply HK
  iframe
  isplitl [H22]
  · iexists _
    iexact H22
  isplitl [Hs]
  · iexact Hs
  iexists _
  iexact HO

set_option maxHeartbeats 4000000 in
/-- The loads of a grid point and the copy of the context's block, at the first point, which starts the ring. -/
theorem part4_first (c : Dev nD) (i : grid0.Coords) (h2 : k0_cond2 i = 1#1) (h0 : (ga i).val = 0 ∧ (gb i).val = 0)
  (arg2 : Memref sig .tc .vmem S1x128x512 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x512 .f32) (harg5 : arg5.IsWhole) (arg6 : Memref sig .tc .vmem S1x17x512 .f32) (harg6 : arg6.IsWhole) (arg8 : Memref sig .tc .vmem S128x16384 .bf16) (harg8 : arg8.IsWhole) (arg9 : Memref sig .tc .vmem S16384x128 .bf16) (harg9 : arg9.IsWhole) (arg10 : Memref sig .tc .vmem S128x256 .bf16) (harg10 : arg10.IsWhole) (arg11 : Memref sig .tc .vmem S256x128 .bf16) (harg11 : arg11.IsWhole) (arg12 : Memref sig .tc .vmem S1x128x512 .f32) (harg12 : arg12.IsWhole) (arg15 : Memref sig .tc .vmem S128x256 .f32) (harg15 : arg15.IsWhole) (arg16 : Memref sig .tc .vmem S128x256 .f32) (harg16 : arg16.IsWhole)
  (arg0 arg1 : BitVec 32)
  (x2 x3 x4 : S1x128x512.Idx → Elt F .bf16) (x5 : S1x1x512.Idx → Elt F .f32) (x9 : S16384x128.Idx → Elt F .bf16)
  (fp : S8x32x17664x512.Idx → Elt F .bf16) (Q : _ → sProp 𝕄) :
  iprop(tokP c 4 Finset.univ fp ∗ ringFree c fp ∗ holds c arg2 x2 ∗ holds c arg3 x3 ∗ holds c arg4 x4 ∗ holds c arg5 x5 ∗ holds c arg9 x9
     ∗ anyOf c (Memref.whole cc0_scratch1) ∗ anyOf c (Memref.whole cc0_scratch5) ∗ semVal ((c : Thread nD τ), SemLoc.dma cc0_scratch7.sem) 0
     ∗ (∃ W, owes (c : Thread nD τ) 0 W)
     ∗ (iprop(ring c fp (ga i) (gb i) 0 ∗ holds c arg2 x2 ∗ holds c arg3 x3 ∗ holds c arg4 x4 ∗ holds c arg5 x5 ∗ holds c arg9 x9
         ∗ holds c (Memref.whole cc0_scratch1) (k0_pay12 x3 (VecWindow.window x9 ![0, 0] S512x128.size v0_inb))
         ∗ anyOf c (Memref.whole cc0_scratch5) ∗ semVal ((c : Thread nD τ), SemLoc.dma cc0_scratch7.sem) 0
         ∗ tokP c 4 Finset.univ fp ∗ (∃ W, owes (c : Thread nD τ) 0 W))
        -∗ Q ⟨k0_pay8 x2, k0_pay9 x3, k0_pay10 x5, k0_pay11 x3 x4, pcBlk i fp⟩)) ⊢ wp frame (wpE defs₀ Variants.none (c : Thread nD τ) none) Set.univ
     (k0_part4 (F := F) i arg2 harg2 arg3 harg3 arg4 harg4 arg5 harg5 arg6 harg6 (Memref.whole main_v31) (Memref.isWhole_whole _) arg8 harg8 arg9 harg9 arg10 harg10 arg11 harg11 arg12 harg12 (Memref.whole main_v103_1) (Memref.isWhole_whole _) (Memref.whole main_v103_2) (Memref.isWhole_whole _) arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1 arg0 arg1) Q := by
  rw [k0_part4_eq_skeleton]
  unfold k0_part4_skel
  rw [ringFree_eq]
  iintro ⟨Ht, ⟨⟨Hc0, ⟨%f0, Hr0⟩, Ht0⟩, ⟨Hc1, ⟨%f1, Hr1⟩, Ht1⟩, ⟨Hc2, ⟨%f2, Hr2⟩, Ht2⟩, HΦ3⟩, H2, H3, H4, H5, H9, ⟨%f18, H18⟩, ⟨%f22, H22⟩, Hs, ⟨%W, HO⟩, HK⟩
  sl_exec
  have e2 : arg2.view.readAt (Elt F) (Rect.unit (s := S1x128x512) ![0, 0, 0] S1x128x512.size inb_S1x128x512_S1x128x512_0_0_0).toLoadRect (arg2.view.rep x2) = x2 :=
    View.readAt_rep_full _ _ _
  have e3 : arg3.view.readAt (Elt F) (Rect.unit (s := S1x128x512) ![0, 0, 0] S1x128x512.size inb_S1x128x512_S1x128x512_0_0_0).toLoadRect (arg3.view.rep x3) = x3 :=
    View.readAt_rep_full _ _ _
  have e4 : arg4.view.readAt (Elt F) (Rect.unit (s := S1x128x512) ![0, 0, 0] S1x128x512.size inb_S1x128x512_S1x128x512_0_0_0).toLoadRect (arg4.view.rep x4) = x4 :=
    View.readAt_rep_full _ _ _
  have e5 : arg5.view.readAt (Elt F) (Rect.unit (s := S1x1x512) ![0, 0, 0] S1x1x512.size inb_S1x1x512_S1x1x512_0_0_0).toLoadRect (arg5.view.rep x5) = x5 :=
    View.readAt_rep_full _ _ _
  have e9 : arg9.view.readAt (Elt F) (Rect.unit (s := S16384x128) ![0, 0] S512x128.size inb_S16384x128_S512x128_0_0).toLoadRect (arg9.view.rep x9)
    = VecWindow.window x9 ![0, 0] S512x128.size v0_inb := View.readAt_rep_unit _ _ _ rfl _
  have e64 : part4_first.sl.v64 i fp = pcBlk i fp := by
    exact ctx_load i fp
  rw [e64]
  sl_step
  rw [e2, e3, e4, e5]
  ihave H18' := pointsTo_rep_of_read (c : Thread nD τ) (Memref.whole cc0_scratch1) _ fullShare
    (k0_pay12 x3 (VecWindow.window x9 ![0, 0] S512x128.size v0_inb)) (by
    refine (View.read_writes_full _ _ _ _ _).trans ?_
    exact congrArg (k0_pay12 x3) e9) $$ H18
  iapply HK
  isplitl [Hc0 Ht0 Hc1 Ht1 Hc2 Ht2 HΦ3]
  · iapply ring_start c fp i h0 h2
    isplitl [Hc0 Ht0]
    · unfold flyAt
      iframe
      iexists f0
      iexact Hc0
    isplitl [Hc1 Ht1]
    · unfold flyAt
      iframe
      iexists f1
      iexact Hc1
    isplitl [Hc2 Ht2]
    · unfold flyAt
      iframe
      iexists f2
      iexact Hc2
    iexact HΦ3
  iframe
  isplitl [H22]
  · iexists _
    iexact H22
  isplitl [Hs]
  · iexact Hs
  iexists _
  iexact HO

end Cert.KernelIdeal.Glob

end
-- ==== Proof.Point.lean ====
module

public import proofs.«01_k».proof.Proof.Part4

@[expose] public section

set_option maxRecDepth 16384

noncomputable section

namespace Cert.KernelIdeal.Glob

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- What the windows of a grid point hold, and the stored weights. -/
structure Ins (F : FTy → Type) where
  q : S1x128x512.Idx → Elt F .bf16
  go : S1x128x512.Idx → Elt F .bf16
  o : S1x128x512.Idx → Elt F .bf16
  lse : S1x1x512.Idx → Elt F .f32
  mr : S1x17x512.Idx → Elt F .f32
  kt : S128x16384.Idx → Elt F .bf16
  v : S16384x128.Idx → Elt F .bf16
  kc : S128x256.Idx → Elt F .bf16
  vc : S256x128.Idx → Elt F .bf16
  p : S8x32x17664x512.Idx → Elt F .bf16

/-- The values the trips read. -/
abbrev envOf (i : grid0.Coords) (X : Ins F) : Env F where
  a := ga i
  b := gb i
  q := k0_pay8 X.q
  go := k0_pay9 X.go
  lse := k0_pay10 X.lse
  delta := k0_pay11 X.go X.o
  mr := X.mr
  kt := X.kt
  v := X.v
  p := X.p

/-- The buffers after a grid point, from the running `dk` and `dv` before it. -/
def fin (i : grid0.Coords) (X : Ins F) (dk dv : S128x16384.Idx → Elt F .f32) : St F :=
  stAt (envOf i X) (stInit (envOf i X) (pcBlk i X.p) X.kc X.vc (k0_pay12 X.go (VecWindow.window X.v ![0, 0] S512x128.size v0_inb)) dk dv) 32
/-- The context's `dk` after a grid point. -/
def newDkc (i : grid0.Coords) (X : Ins F) (dkc : S128x256.Idx → Elt F .f32) : S128x256.Idx → Elt F .f32 :=
  k0_pay16 (k0_pay8 X.q) (k0_pay9 X.go) (k0_pay10 X.lse) (k0_pay11 X.go X.o) (pcBlk i X.p)
    (VecWindow.window X.mr ![0, 16, 0] S1x1x512.size mrow_inb) X.vc dkc
/-- The context's `dv` after a grid point. -/
def newDvc (i : grid0.Coords) (X : Ins F) (dvc : S128x256.Idx → Elt F .f32) : S128x256.Idx → Elt F .f32 :=
  k0_pay17 (k0_pay9 X.go) (k0_pay10 X.lse) (pcBlk i X.p) (VecWindow.window X.mr ![0, 16, 0] S1x1x512.size mrow_inb) dvc

/-- The input windows, holding `X`. -/
def insAt (c : Dev nD) (arg2 arg3 arg4 : Memref sig .tc .vmem S1x128x512 .bf16) (arg5 : Memref sig .tc .vmem S1x1x512 .f32)
    (arg6 : Memref sig .tc .vmem S1x17x512 .f32) (arg8 : Memref sig .tc .vmem S128x16384 .bf16) (arg9 : Memref sig .tc .vmem S16384x128 .bf16)
    (arg10 : Memref sig .tc .vmem S128x256 .bf16) (arg11 : Memref sig .tc .vmem S256x128 .bf16) (X : Ins F) : sProp 𝕄 :=
  iprop(holds c arg2 X.q ∗ holds c arg3 X.go ∗ holds c arg4 X.o ∗ holds c arg5 X.lse ∗ holds c arg6 X.mr ∗ holds c arg8 X.kt
    ∗ holds c arg9 X.v ∗ holds c arg10 X.kc ∗ holds c arg11 X.vc)

/-- What a grid point uses and gives back: two scratch buffers, the context's buffer, its semaphore and its share of the
    stored weights. -/
def tools (c : Dev nD) (fp : S8x32x17664x512.Idx → Elt F .bf16) : sProp 𝕄 :=
  iprop(anyOf c (Memref.whole cc0_scratch0) ∗ anyOf c (Memref.whole cc0_scratch1) ∗ anyOf c (Memref.whole cc0_scratch5)
    ∗ semVal ((c : Thread nD τ), SemLoc.dma cc0_scratch7.sem) 0 ∗ tokP c 4 Finset.univ fp ∗ (∃ W, owes (c : Thread nD τ) 0 W))

set_option maxHeartbeats 4000000 in
/-- The first point zeroes the four sums. -/
theorem part3_first (c : Dev nD) (i : grid0.Coords) (h2 : k0_cond2 i = 1#1)
  (arg2 : Memref sig .tc .vmem S1x128x512 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x512 .f32) (harg5 : arg5.IsWhole) (arg6 : Memref sig .tc .vmem S1x17x512 .f32) (harg6 : arg6.IsWhole) (arg8 : Memref sig .tc .vmem S128x16384 .bf16) (harg8 : arg8.IsWhole) (arg9 : Memref sig .tc .vmem S16384x128 .bf16) (harg9 : arg9.IsWhole) (arg10 : Memref sig .tc .vmem S128x256 .bf16) (harg10 : arg10.IsWhole) (arg11 : Memref sig .tc .vmem S256x128 .bf16) (harg11 : arg11.IsWhole) (arg12 : Memref sig .tc .vmem S1x128x512 .f32) (harg12 : arg12.IsWhole) (arg15 : Memref sig .tc .vmem S128x256 .f32) (harg15 : arg15.IsWhole) (arg16 : Memref sig .tc .vmem S128x256 .f32) (harg16 : arg16.IsWhole)
  (Q : _ → sProp 𝕄) :
  iprop(anyOf c arg15 ∗ anyOf c arg16 ∗ anyOf c (Memref.whole cc0_scratch2) ∗ anyOf c (Memref.whole cc0_scratch3)
     ∗ (iprop(holds c arg15 k0_pay4 ∗ holds c arg16 k0_pay5 ∗ holds c (Memref.whole cc0_scratch2) k0_pay6 ∗ holds c (Memref.whole cc0_scratch3) k0_pay7)
        -∗ ∀ r, Q r)) ⊢ wp frame (wpE defs₀ Variants.none (c : Thread nD τ) none) Set.univ
     (k0_part3 (F := F) i arg2 harg2 arg3 harg3 arg4 harg4 arg5 harg5 arg6 harg6 (Memref.whole main_v31) (Memref.isWhole_whole _) arg8 harg8 arg9 harg9 arg10 harg10 arg11 harg11 arg12 harg12 (Memref.whole main_v103_1) (Memref.isWhole_whole _) (Memref.whole main_v103_2) (Memref.isWhole_whole _) arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1) Q := by
  rw [k0_part3_eq_skeleton]
  unfold k0_part3_skel
  have h1 : (Scalar.cmpi .ne (Scalar.extui (Scalar.andi (Scalar.cmpi .eq (BitVec.ofNat 32 (i 0).val) 0#32) (Scalar.cmpi .eq (BitVec.ofNat 32 (i 1).val) 0#32)) : BitVec 32) 0#32) = 1#1 := h2
  iintro ⟨⟨%f15, H15⟩, ⟨%f16, H16⟩, ⟨%f19, H19⟩, ⟨%f20, H20⟩, HK⟩
  sl_exec
  sl_step
  ihave H15' := pointsTo_rep_of_read (c : Thread nD τ) arg15 _ fullShare k0_pay4 (View.read_writes_full _ _ _ _ _) $$ H15
  ihave H16' := pointsTo_rep_of_read (c : Thread nD τ) arg16 _ fullShare k0_pay5 (View.read_writes_full _ _ _ _ _) $$ H16
  ihave H19' := pointsTo_rep_of_read (c : Thread nD τ) (Memref.whole cc0_scratch2) _ fullShare k0_pay6 (View.read_writes_full _ _ _ _ _) $$ H19
  ihave H20' := pointsTo_rep_of_read (c : Thread nD τ) (Memref.whole cc0_scratch3) _ fullShare k0_pay7 (View.read_writes_full _ _ _ _ _) $$ H20
  ihave HQ := HK $$ [H15' H16' H19' H20']
  · iframe
  ispecialize HQ $$ %(_)
  iexact HQ

set_option maxHeartbeats 4000000 in
/-- Every other point leaves them. -/
theorem part3_rest (c : Dev nD) (i : grid0.Coords) (h2 : ¬ k0_cond2 i = 1#1)
  (arg2 : Memref sig .tc .vmem S1x128x512 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x512 .f32) (harg5 : arg5.IsWhole) (arg6 : Memref sig .tc .vmem S1x17x512 .f32) (harg6 : arg6.IsWhole) (arg8 : Memref sig .tc .vmem S128x16384 .bf16) (harg8 : arg8.IsWhole) (arg9 : Memref sig .tc .vmem S16384x128 .bf16) (harg9 : arg9.IsWhole) (arg10 : Memref sig .tc .vmem S128x256 .bf16) (harg10 : arg10.IsWhole) (arg11 : Memref sig .tc .vmem S256x128 .bf16) (harg11 : arg11.IsWhole) (arg12 : Memref sig .tc .vmem S1x128x512 .f32) (harg12 : arg12.IsWhole) (arg15 : Memref sig .tc .vmem S128x256 .f32) (harg15 : arg15.IsWhole) (arg16 : Memref sig .tc .vmem S128x256 .f32) (harg16 : arg16.IsWhole)
  (Q : _ → sProp 𝕄) :
  iprop(∀ r, Q r) ⊢ wp frame (wpE defs₀ Variants.none (c : Thread nD τ) none) Set.univ
     (k0_part3 (F := F) i arg2 harg2 arg3 harg3 arg4 harg4 arg5 harg5 arg6 harg6 (Memref.whole main_v31) (Memref.isWhole_whole _) arg8 harg8 arg9 harg9 arg10 harg10 arg11 harg11 arg12 harg12 (Memref.whole main_v103_1) (Memref.isWhole_whole _) (Memref.whole main_v103_2) (Memref.isWhole_whole _) arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1) Q := by
  rw [k0_part3_eq_skeleton]
  unfold k0_part3_skel
  have h1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32) = 1#1 := h2
  iintro HK
  sl_exec
  sl_step
  ispecialize HK $$ %(_)
  iexact HK

set_option maxHeartbeats 4000000 in
/-- A grid point that is neither the first nor the last. -/
theorem point_mid (c : Dev nD) (i : grid0.Coords) (h2 : ¬ k0_cond2 i = 1#1) (h3 : ¬ k0_cond3 i = 1#1)
  (arg2 : Memref sig .tc .vmem S1x128x512 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x512 .f32) (harg5 : arg5.IsWhole) (arg6 : Memref sig .tc .vmem S1x17x512 .f32) (harg6 : arg6.IsWhole) (arg8 : Memref sig .tc .vmem S128x16384 .bf16) (harg8 : arg8.IsWhole) (arg9 : Memref sig .tc .vmem S16384x128 .bf16) (harg9 : arg9.IsWhole) (arg10 : Memref sig .tc .vmem S128x256 .bf16) (harg10 : arg10.IsWhole) (arg11 : Memref sig .tc .vmem S256x128 .bf16) (harg11 : arg11.IsWhole) (arg12 : Memref sig .tc .vmem S1x128x512 .f32) (harg12 : arg12.IsWhole) (arg15 : Memref sig .tc .vmem S128x256 .f32) (harg15 : arg15.IsWhole) (arg16 : Memref sig .tc .vmem S128x256 .f32) (harg16 : arg16.IsWhole)
  (X : Ins F) (dkc dvc : S128x256.Idx → Elt F .f32) (dk dv : S128x16384.Idx → Elt F .f32) :
  iprop(insAt c arg2 arg3 arg4 arg5 arg6 arg8 arg9 arg10 arg11 X ∗ anyOf c arg12 ∗ holds c arg15 dkc ∗ holds c arg16 dvc
     ∗ holds c (Memref.whole cc0_scratch2) dk ∗ holds c (Memref.whole cc0_scratch3) dv ∗ ring c X.p (ga i) (gb i) 0 ∗ tools c X.p)
   ⊢ wp frame (wpE defs₀ Variants.none (c : Thread nD τ) none) Set.univ
     (cc0_attn_glob_bwd (F := F) i arg2 harg2 arg3 harg3 arg4 harg4 arg5 harg5 arg6 harg6 (Memref.whole main_v31) (Memref.isWhole_whole _) arg8 harg8 arg9 harg9 arg10 harg10 arg11 harg11 arg12 harg12 (Memref.whole main_v103_1) (Memref.isWhole_whole _) (Memref.whole main_v103_2) (Memref.isWhole_whole _) arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1)
     fun _ => iprop(insAt c arg2 arg3 arg4 arg5 arg6 arg8 arg9 arg10 arg11 X ∗ holds c arg12 (k0_pay1 (fin i X dk dv).acc)
      ∗ holds c arg15 (newDkc i X dkc) ∗ holds c arg16 (newDvc i X dvc)
      ∗ holds c (Memref.whole cc0_scratch2) (fin i X dk dv).dk ∗ holds c (Memref.whole cc0_scratch3) (fin i X dk dv).dv
      ∗ ring c X.p (ga i) (gb i) 32 ∗ tools c X.p) := by
  rw [cc0_attn_glob_bwd_eq_skeleton]
  unfold cc0_attn_glob_bwd_skel insAt tools
  iintro ⟨⟨H2, H3, H4, H5, H6, H8, H9, H10, H11⟩, ⟨%f12, H12⟩, H15, H16, H19, H20, Hring, H17, H18, H22, Hs, Ht, HO⟩
  rw [wp_bind]
  iapply part3_rest c i h2 arg2 harg2 arg3 harg3 arg4 harg4 arg5 harg5 arg6 harg6 arg8 harg8 arg9 harg9 arg10 harg10 arg11 harg11 arg12 harg12 arg15 harg15 arg16 harg16
  iintro %r
  rw [wp_bind]
  iapply part4_mid c i h2 arg2 harg2 arg3 harg3 arg4 harg4 arg5 harg5 arg6 harg6 arg8 harg8 arg9 harg9 arg10 harg10 arg11 harg11 arg12 harg12 arg15 harg15 arg16 harg16 r.1 r.2.1 X.q X.go X.o X.lse X.v X.p
  iframe H2 H3 H4 H5 H9 H18 H22 Hs Ht HO
  iintro ⟨H2, H3, H4, H5, H9, H18, H22, Hs, Ht, HO⟩
  rw [wp_bind]
  ihave H := part5 c i arg2 harg2 arg3 harg3 arg4 harg4 arg5 harg5 arg6 harg6 arg8 harg8 arg9 harg9 arg10 harg10 arg11 harg11 arg12 harg12 arg15 harg15 arg16 harg16 r.1 r.2.1 r.2.2.1 r.2.2.2 (envOf i X) ⟨rfl, rfl⟩ (pcBlk i X.p) X.kc X.vc dkc dvc
    (k0_pay12 X.go (VecWindow.window X.v ![0, 0] S512x128.size v0_inb)) dk dv $$ [Hring H6 H8 H9 H10 H11 H15 H16 H17 H18 H19 H20 HO]
  · iframe
  iapply (wp_wand_r frame (wpE (defs₀ (F := F)) Variants.none (c : Thread nD τ) none) Set.univ)
  isplitl [H]
  · iexact H
  unfold loopAt
  iintro %u ⟨⟨Hring, H6, H8, H9, H17, H18, H19, H20, HO⟩, H10, H11, H15, H16⟩
  sl_exec
  sl_step
  have e17 : (Memref.whole cc0_scratch0).view.readAt (Elt F) (Rect.unit (s := S128x512) ![0, 0] S128x512.size inb_S128x512_S128x512_0_0).toLoadRect
      ((Memref.whole cc0_scratch0).view.rep (fin i X dk dv).acc) = (fin i X dk dv).acc := View.readAt_rep_full _ _ _
  ihave H12' := pointsTo_rep_of_read (c : Thread nD τ) arg12 _ fullShare (k0_pay1 (fin i X dk dv).acc) (by
    refine (View.read_writes_full _ _ _ _ _).trans ?_
    exact congrArg k0_pay1 e17) $$ H12
  isplitl [H2 H3 H4 H5 H6 H8 H9 H10 H11]
  · iframe H2 H3 H4 H5
    isplitl [H6]
    · iexact H6
    isplitl [H8]
    · iexact H8
    isplitl [H9]
    · iexact H9
    iframe
  isplitl [H12']
  · iexact H12'
  isplitl [H15]
  · iexact H15
  isplitl [H16]
  · iexact H16
  isplitl [H19]
  · iexact H19
  isplitl [H20]
  · iexact H20
  isplitl [Hring]
  · iexact Hring
  isplitl [H17]
  · iexists _
    iexact H17
  isplitl [H18]
  · iexists _
    iexact H18
  iframe

set_option maxHeartbeats 4000000 in
/-- A grid point that is the first. -/
theorem point_first (c : Dev nD) (i : grid0.Coords) (h2 : k0_cond2 i = 1#1) (h0 : (ga i).val = 0 ∧ (gb i).val = 0) (h3 : ¬ k0_cond3 i = 1#1)
  (arg2 : Memref sig .tc .vmem S1x128x512 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x512 .f32) (harg5 : arg5.IsWhole) (arg6 : Memref sig .tc .vmem S1x17x512 .f32) (harg6 : arg6.IsWhole) (arg8 : Memref sig .tc .vmem S128x16384 .bf16) (harg8 : arg8.IsWhole) (arg9 : Memref sig .tc .vmem S16384x128 .bf16) (harg9 : arg9.IsWhole) (arg10 : Memref sig .tc .vmem S128x256 .bf16) (harg10 : arg10.IsWhole) (arg11 : Memref sig .tc .vmem S256x128 .bf16) (harg11 : arg11.IsWhole) (arg12 : Memref sig .tc .vmem S1x128x512 .f32) (harg12 : arg12.IsWhole) (arg15 : Memref sig .tc .vmem S128x256 .f32) (harg15 : arg15.IsWhole) (arg16 : Memref sig .tc .vmem S128x256 .f32) (harg16 : arg16.IsWhole)
  (X : Ins F) :
  iprop(insAt c arg2 arg3 arg4 arg5 arg6 arg8 arg9 arg10 arg11 X ∗ anyOf c arg12 ∗ anyOf c arg15 ∗ anyOf c arg16
     ∗ anyOf c (Memref.whole cc0_scratch2) ∗ anyOf c (Memref.whole cc0_scratch3) ∗ ringFree c X.p ∗ tools c X.p)
   ⊢ wp frame (wpE defs₀ Variants.none (c : Thread nD τ) none) Set.univ
     (cc0_attn_glob_bwd (F := F) i arg2 harg2 arg3 harg3 arg4 harg4 arg5 harg5 arg6 harg6 (Memref.whole main_v31) (Memref.isWhole_whole _) arg8 harg8 arg9 harg9 arg10 harg10 arg11 harg11 arg12 harg12 (Memref.whole main_v103_1) (Memref.isWhole_whole _) (Memref.whole main_v103_2) (Memref.isWhole_whole _) arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1)
     fun _ => iprop(insAt c arg2 arg3 arg4 arg5 arg6 arg8 arg9 arg10 arg11 X ∗ holds c arg12 (k0_pay1 (fin i X k0_pay6 k0_pay7).acc)
      ∗ holds c arg15 (newDkc i X k0_pay4) ∗ holds c arg16 (newDvc i X k0_pay5)
      ∗ holds c (Memref.whole cc0_scratch2) (fin i X k0_pay6 k0_pay7).dk ∗ holds c (Memref.whole cc0_scratch3) (fin i X k0_pay6 k0_pay7).dv
      ∗ ring c X.p (ga i) (gb i) 32 ∗ tools c X.p) := by
  rw [cc0_attn_glob_bwd_eq_skeleton]
  unfold cc0_attn_glob_bwd_skel insAt tools
  iintro ⟨⟨H2, H3, H4, H5, H6, H8, H9, H10, H11⟩, ⟨%f12, H12⟩, H15, H16, H19, H20, Hring, H17, H18, H22, Hs, Ht, HO⟩
  rw [wp_bind]
  iapply part3_first c i h2 arg2 harg2 arg3 harg3 arg4 harg4 arg5 harg5 arg6 harg6 arg8 harg8 arg9 harg9 arg10 harg10 arg11 harg11 arg12 harg12 arg15 harg15 arg16 harg16
  iframe H15 H16 H19 H20
  iintro ⟨H15, H16, H19, H20⟩ %r
  rw [wp_bind]
  iapply part4_first c i h2 h0 arg2 harg2 arg3 harg3 arg4 harg4 arg5 harg5 arg6 harg6 arg8 harg8 arg9 harg9 arg10 harg10 arg11 harg11 arg12 harg12 arg15 harg15 arg16 harg16 r.1 r.2.1 X.q X.go X.o X.lse X.v X.p
  iframe Ht Hring H2 H3 H4 H5 H9 H18 H22 Hs HO
  iintro ⟨Hring, H2, H3, H4, H5, H9, H18, H22, Hs, Ht, HO⟩
  rw [wp_bind]
  ihave H := part5 c i arg2 harg2 arg3 harg3 arg4 harg4 arg5 harg5 arg6 harg6 arg8 harg8 arg9 harg9 arg10 harg10 arg11 harg11 arg12 harg12 arg15 harg15 arg16 harg16 r.1 r.2.1 r.2.2.1 r.2.2.2 (envOf i X) ⟨rfl, rfl⟩ (pcBlk i X.p) X.kc X.vc k0_pay4 k0_pay5
    (k0_pay12 X.go (VecWindow.window X.v ![0, 0] S512x128.size v0_inb)) k0_pay6 k0_pay7 $$ [Hring H6 H8 H9 H10 H11 H15 H16 H17 H18 H19 H20 HO]
  · iframe
  iapply (wp_wand_r frame (wpE (defs₀ (F := F)) Variants.none (c : Thread nD τ) none) Set.univ)
  isplitl [H]
  · iexact H
  unfold loopAt
  iintro %u ⟨⟨Hring, H6, H8, H9, H17, H18, H19, H20, HO⟩, H10, H11, H15, H16⟩
  sl_exec
  sl_step
  have e17 : (Memref.whole cc0_scratch0).view.readAt (Elt F) (Rect.unit (s := S128x512) ![0, 0] S128x512.size inb_S128x512_S128x512_0_0).toLoadRect
      ((Memref.whole cc0_scratch0).view.rep (fin i X k0_pay6 k0_pay7).acc) = (fin i X k0_pay6 k0_pay7).acc := View.readAt_rep_full _ _ _
  ihave H12' := pointsTo_rep_of_read (c : Thread nD τ) arg12 _ fullShare (k0_pay1 (fin i X k0_pay6 k0_pay7).acc) (by
    refine (View.read_writes_full _ _ _ _ _).trans ?_
    exact congrArg k0_pay1 e17) $$ H12
  isplitl [H2 H3 H4 H5 H6 H8 H9 H10 H11]
  · iframe H2 H3 H4 H5
    isplitl [H6]
    · iexact H6
    isplitl [H8]
    · iexact H8
    isplitl [H9]
    · iexact H9
    iframe
  isplitl [H12']
  · iexact H12'
  isplitl [H15]
  · iexact H15
  isplitl [H16]
  · iexact H16
  isplitl [H19]
  · iexact H19
  isplitl [H20]
  · iexact H20
  isplitl [Hring]
  · iexact Hring
  isplitl [H17]
  · iexists _
    iexact H17
  isplitl [H18]
  · iexists _
    iexact H18
  iframe

end Cert.KernelIdeal.Glob

end
-- ==== Proof.PointLast.lean ====
module

public import proofs.«01_k».proof.Proof.Point

@[expose] public section

set_option maxRecDepth 16384

noncomputable section

namespace Cert.KernelIdeal.Glob

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The ring after the last trip of a point: three flights and a free slot. -/
theorem ring_last (c : Dev nD) (fp : S8x32x17664x512.Idx → Elt F .bf16) (a : Fin 8) (b : Fin 32) :
    ring c fp a b 32 ⊢ iprop(flyAt c fp 0 (slotAt ![0, 0, 0] inb_S4x512x512_S1x512x512_0_0_0) (semAt ![0] inb_S4_S1_0) (srcOff a b 32) (srcOff_inb a b 32)
      ∗ flyAt c fp 1 (slotAt ![1, 0, 0] inb_S4x512x512_S1x512x512_1_0_0) (semAt ![1] inb_S4_S1_1) (srcOff a b 33) (srcOff_inb a b 33)
      ∗ flyAt c fp 2 (slotAt ![2, 0, 0] inb_S4x512x512_S1x512x512_2_0_0) (semAt ![2] inb_S4_S1_2) (srcOff a b 34) (srcOff_inb a b 34)
      ∗ Φ c fp 3 none) := by
  have e : ring c fp a b 32 = iprop(Φ c fp 0 (roles a b 32 0) ∗ Φ c fp 1 (roles a b 32 1) ∗ Φ c fp 2 (roles a b 32 2) ∗ Φ c fp 3 (roles a b 32 3)) := by
    unfold ring
    rw [Ring.AtW_eq_list (Φ c fp) _ [0, 1, 2, 3] (by decide) (by decide)]
    rfl
  rw [e]
  exact .rfl

set_option maxHeartbeats 4000000 in
/-- A grid point that is the last. -/
theorem point_last (c : Dev nD) (i : grid0.Coords) (h2 : ¬ k0_cond2 i = 1#1) (h3 : k0_cond3 i = 1#1)
  (arg2 : Memref sig .tc .vmem S1x128x512 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x512 .f32) (harg5 : arg5.IsWhole) (arg6 : Memref sig .tc .vmem S1x17x512 .f32) (harg6 : arg6.IsWhole) (arg8 : Memref sig .tc .vmem S128x16384 .bf16) (harg8 : arg8.IsWhole) (arg9 : Memref sig .tc .vmem S16384x128 .bf16) (harg9 : arg9.IsWhole) (arg10 : Memref sig .tc .vmem S128x256 .bf16) (harg10 : arg10.IsWhole) (arg11 : Memref sig .tc .vmem S256x128 .bf16) (harg11 : arg11.IsWhole) (arg12 : Memref sig .tc .vmem S1x128x512 .f32) (harg12 : arg12.IsWhole) (arg15 : Memref sig .tc .vmem S128x256 .f32) (harg15 : arg15.IsWhole) (arg16 : Memref sig .tc .vmem S128x256 .f32) (harg16 : arg16.IsWhole)
  (X : Ins F) (dkc dvc : S128x256.Idx → Elt F .f32) (dk dv : S128x16384.Idx → Elt F .f32) :
  iprop(insAt c arg2 arg3 arg4 arg5 arg6 arg8 arg9 arg10 arg11 X ∗ anyOf c arg12 ∗ holds c arg15 dkc ∗ holds c arg16 dvc
     ∗ holds c (Memref.whole cc0_scratch2) dk ∗ holds c (Memref.whole cc0_scratch3) dv ∗ ring c X.p (ga i) (gb i) 0 ∗ tools c X.p
     ∗ anyOf c (Memref.whole main_v103_1) ∗ anyOf c (Memref.whole main_v103_2)
     ∗ semVal ((c : Thread nD τ), SemLoc.dma cc0_scoped0.sem) 0 ∗ semVal ((c : Thread nD τ), SemLoc.dma cc0_scoped1.sem) 0)
   ⊢ wp frame (wpE defs₀ Variants.none (c : Thread nD τ) none) Set.univ
     (cc0_attn_glob_bwd (F := F) i arg2 harg2 arg3 harg3 arg4 harg4 arg5 harg5 arg6 harg6 (Memref.whole main_v31) (Memref.isWhole_whole _) arg8 harg8 arg9 harg9 arg10 harg10 arg11 harg11 arg12 harg12 (Memref.whole main_v103_1) (Memref.isWhole_whole _) (Memref.whole main_v103_2) (Memref.isWhole_whole _) arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1)
     fun _ => iprop(insAt c arg2 arg3 arg4 arg5 arg6 arg8 arg9 arg10 arg11 X ∗ holds c arg12 (k0_pay1 (fin i X dk dv).acc)
      ∗ holds c arg15 (newDkc i X dkc) ∗ holds c arg16 (newDvc i X dvc)
      ∗ holds c (Memref.whole cc0_scratch2) (fin i X dk dv).dk ∗ holds c (Memref.whole cc0_scratch3) (fin i X dk dv).dv
      ∗ ringFree c X.p ∗ tools c X.p
      ∗ holds c (Memref.whole main_v103_1) (fin i X dk dv).dk ∗ holds c (Memref.whole main_v103_2) (fin i X dk dv).dv
      ∗ semVal ((c : Thread nD τ), SemLoc.dma cc0_scoped0.sem) 0 ∗ semVal ((c : Thread nD τ), SemLoc.dma cc0_scoped1.sem) 0) := by
  rw [cc0_attn_glob_bwd_eq_skeleton]
  unfold cc0_attn_glob_bwd_skel insAt tools
  iintro ⟨⟨H2, H3, H4, H5, H6, H8, H9, H10, H11⟩, ⟨%f12, H12⟩, H15, H16, H19, H20, Hring, ⟨H17, H18, H22, Hs, Ht, HO⟩, ⟨%f13, H13⟩, ⟨%f14, H14⟩, Hs0, Hs1⟩
  rw [wp_bind]
  iapply part3_rest c i h2 arg2 harg2 arg3 harg3 arg4 harg4 arg5 harg5 arg6 harg6 arg8 harg8 arg9 harg9 arg10 harg10 arg11 harg11 arg12 harg12 arg15 harg15 arg16 harg16
  iintro %r
  rw [wp_bind]
  iapply part4_mid c i h2 arg2 harg2 arg3 harg3 arg4 harg4 arg5 harg5 arg6 harg6 arg8 harg8 arg9 harg9 arg10 harg10 arg11 harg11 arg12 harg12 arg15 harg15 arg16 harg16 r.1 r.2.1 X.q X.go X.o X.lse X.v X.p
  iframe H2 H3 H4 H5 H9 H18 H22 Hs Ht HO
  iintro ⟨H2, H3, H4, H5, H9, H18, H22, Hs, Ht, HO⟩
  rw [wp_bind]
  ihave H := part5 c i arg2 harg2 arg3 harg3 arg4 harg4 arg5 harg5 arg6 harg6 arg8 harg8 arg9 harg9 arg10 harg10 arg11 harg11 arg12 harg12 arg15 harg15 arg16 harg16 r.1 r.2.1 r.2.2.1 r.2.2.2 (envOf i X) ⟨rfl, rfl⟩ (pcBlk i X.p) X.kc X.vc dkc dvc
    (k0_pay12 X.go (VecWindow.window X.v ![0, 0] S512x128.size v0_inb)) dk dv $$ [Hring H6 H8 H9 H10 H11 H15 H16 H17 H18 H19 H20 HO]
  · iframe
  iapply (wp_wand_r frame (wpE (defs₀ (F := F)) Variants.none (c : Thread nD τ) none) Set.univ)
  isplitl [H]
  · iexact H
  unfold loopAt
  iintro %u ⟨⟨Hring, H6, H8, H9, H17, H18, H19, H20, ⟨%W, HO⟩⟩, H10, H11, H15, H16⟩
  ihave HR := ring_last c X.p (ga i) (gb i) $$ [Hring]
  · iexact Hring
  unfold flyAt
  icases HR with ⟨⟨⟨%f0, Hc0⟩, Ht0⟩, ⟨⟨%f1, Hc1⟩, Ht1⟩, ⟨⟨%f2, Hc2⟩, Ht2⟩, HΦ3⟩
  sl_exec
  sl_step
  have e17 : (Memref.whole cc0_scratch0).view.readAt (Elt F) (Rect.unit (s := S128x512) ![0, 0] S128x512.size inb_S128x512_S128x512_0_0).toLoadRect
      ((Memref.whole cc0_scratch0).view.rep (fin i X dk dv).acc) = (fin i X dk dv).acc := View.readAt_rep_full _ _ _
  ihave H12' := pointsTo_rep_of_read (c : Thread nD τ) arg12 _ fullShare (k0_pay1 (fin i X dk dv).acc) (by
    refine (View.read_writes_full _ _ _ _ _).trans ?_
    exact congrArg k0_pay1 e17) $$ H12
  ihave H13' := pointsTo_rep_of_read (c : Thread nD τ) (Memref.whole main_v103_1) _ fullShare (fin i X dk dv).dk (by
    exact (View.read_writes_whole _ _ _).trans (View.read_rep (Memref.whole cc0_scratch2).view (fin i X dk dv).dk)) $$ H13
  ihave H14' := pointsTo_rep_of_read (c : Thread nD τ) (Memref.whole main_v103_2) _ fullShare (fin i X dk dv).dv (by
    exact (View.read_writes_whole _ _ _).trans (View.read_rep (Memref.whole cc0_scratch3).view (fin i X dk dv).dv)) $$ H14
  isplitl [H2 H3 H4 H5 H6 H8 H9 H10 H11]
  · iframe H2 H3 H4 H5
    isplitl [H6]
    · iexact H6
    isplitl [H8]
    · iexact H8
    isplitl [H9]
    · iexact H9
    iframe
  isplitl [H12']
  · iexact H12'
  isplitl [H15]
  · iexact H15
  isplitl [H16]
  · iexact H16
  isplitl [H19]
  · iexact H19
  isplitl [H20]
  · iexact H20
  isplitl [Hc0 Hc0_dst Ht0 Hc1 Hc1_dst Ht1 Hc2 Hc2_dst Ht2 HΦ3]
  · rw [ringFree_eq]
    isplitl [Hc0 Hc0_dst Ht0]
    · unfold freeAt
      isplitl [Hc0]
      · iexact Hc0
      isplitl [Hc0_dst]
      · iexists _
        iexact Hc0_dst
      iexact Ht0
    isplitl [Hc1 Hc1_dst Ht1]
    · unfold freeAt
      isplitl [Hc1]
      · iexact Hc1
      isplitl [Hc1_dst]
      · iexists _
        iexact Hc1_dst
      iexact Ht1
    isplitl [Hc2 Hc2_dst Ht2]
    · unfold freeAt
      isplitl [Hc2]
      · iexact Hc2
      isplitl [Hc2_dst]
      · iexists _
        iexact Hc2_dst
      iexact Ht2
    iexact HΦ3
  isplitl [H17 H18 H22 Hs Ht HO]
  · isplitl [H17]
    · iexists _
      iexact H17
    isplitl [H18]
    · iexists _
      iexact H18
    isplitl [H22]
    · iexact H22
    isplitl [Hs]
    · iexact Hs
    isplitl [Ht]
    · iexact Ht
    iexists _
    iexact HO
  isplitl [H13']
  · iexact H13'
  isplitl [H14']
  · iexact H14'
  isplitl [Hs0]
  · iexact Hs0
  iexact Hs1

end Cert.KernelIdeal.Glob

end
-- ==== Proof.Data.lean ====
module

public import proofs.«01_k».proof.Proof.PointLast
public import proofs.«01_k».proof.Proof.Gen.KernelIdeal.Frame

@[expose] public section

set_option maxRecDepth 16384

noncomputable section

namespace Cert.KernelIdeal.Glob

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The grid's points -/

theorem coords_eq : ∀ t : Fin grid0.N, (grid0.coords t 0).val = t.val / 32 ∧ (grid0.coords t 1).val = t.val % 32 := by decide +kernel
theorem cond2_iff : ∀ t : Fin grid0.N, k0_cond2 (grid0.coords t) = 1#1 ↔ t.val = 0 := by decide +kernel
theorem cond3_iff : ∀ t : Fin grid0.N, k0_cond3 (grid0.coords t) = 1#1 ↔ t.val = 255 := by decide +kernel

/-- The first coordinate of the `n`th point. -/
def an (n : ℕ) : Fin 8 := ⟨n / 32 % 8, Nat.mod_lt _ (by omega)⟩
/-- The second coordinate of the `n`th point. -/
def bn (n : ℕ) : Fin 32 := ⟨n % 32, Nat.mod_lt _ (by omega)⟩

theorem lt_256 (t : Fin cfg0.N) : t.val < 256 := lt_of_lt_of_eq t.isLt N_0
theorem ga_coords (t : Fin cfg0.N) : ga (grid0.coords t) = an t.val := by
  have h := lt_256 t
  refine Fin.ext (((coords_eq t).1).trans ?_)
  show t.val / 32 = t.val / 32 % 8
  omega
theorem gb_coords (t : Fin cfg0.N) : gb (grid0.coords t) = bn t.val := Fin.ext (coords_eq t).2

/-- The ring after a point's last trip is the ring before the next point's first. -/
theorem roles_point (n : ℕ) (h : n < 255) : roles (an n) (bn n) 32 = roles (an (n + 1)) (bn (n + 1)) 0 := by
  refine roles_next _ _ _ _ ?_ ?_
  · show (n + 1) / 32 % 8 = min (n / 32 % 8 + (n % 32 + 1) / 32) 7
    omega
  · show (n + 1) % 32 = (n % 32 + 1) % 32
    omega

/-! # What the buffers hold between points -/

/-- What the input windows hold at point `t`. -/
def insOf (c : Dev nD) (t : Fin cfg0.N) : Ins F where
  q := iblk m c 0 t
  go := iblk m c 1 t
  o := iblk m c 2 t
  lse := iblk m c 3 t
  mr := iblk m c 4 t
  kt := iblk m c 5 t
  v := iblk m c 6 t
  kc := iblk m c 7 t
  vc := iblk m c 8 t
  p := V m c main_v31

/-- The four running sums. -/
structure Acc (F : FTy → Type) where
  dk : S128x16384.Idx → Elt F .f32
  dv : S128x16384.Idx → Elt F .f32
  dkc : S128x256.Idx → Elt F .f32
  dvc : S128x256.Idx → Elt F .f32

/-- The sums after one point. -/
def step (i : grid0.Coords) (X : Ins F) (s : Acc F) : Acc F where
  dk := (fin i X s.dk s.dv).dk
  dv := (fin i X s.dk s.dv).dv
  dkc := newDkc i X s.dkc
  dvc := newDvc i X s.dvc

/-- The sums before point `n`: zero, and one step a point. -/
def accAt (c : Dev nD) : ℕ → Acc F
  | 0 => ⟨k0_pay6, k0_pay7, k0_pay4, k0_pay5⟩
  | n + 1 => if h : n < cfg0.N then step (grid0.coords ⟨n, h⟩) (insOf m c ⟨n, h⟩) (accAt c n) else accAt c n

theorem accAt_succ (c : Dev nD) (t : Fin cfg0.N) :
    accAt m c (t.val + 1) = step (grid0.coords t) (insOf m c t) (accAt m c t.val) := by
  rw [accAt, dif_pos t.isLt]

/-- The block of `dq` point `t` writes. -/
def dqAt (c : Dev nD) (t : Fin cfg0.N) : S1x128x512.Idx → Elt F .f32 :=
  k0_pay1 (fin (grid0.coords t) (insOf m c t) (accAt m c t.val).dk (accAt m c t.val).dv).acc

/-- The weights' share no copy is ever lent from. -/
abbrev keptP (c : Dev nD) (fp : S8x32x17664x512.Idx → Elt F .bf16) : sProp 𝕄 :=
  (Memref.whole main_v31).view.loc (c : Thread nD τ) ↦[Finset.univ]{Transfers.shareDrop fullShare 5} fp

/-- What every point finds and leaves the same. -/
def always (c : Dev nD) : sProp 𝕄 :=
  iprop(anyOf c (Memref.whole cc0_scratch0) ∗ anyOf c (Memref.whole cc0_scratch1) ∗ anyOf c (Memref.whole cc0_scratch5)
    ∗ semVal ((c : Thread nD τ), SemLoc.dma cc0_scratch7.sem) 0 ∗ tokP c 4 Finset.univ (V m c main_v31)
    ∗ semVal ((c : Thread nD τ), SemLoc.dma cc0_scoped0.sem) 0 ∗ semVal ((c : Thread nD τ), SemLoc.dma cc0_scoped1.sem) 0
    ∗ keptP c (V m c main_v31))

/-- The running sums, the ring and the two results left in the kernel's memory, before point `n`. -/
def between (c : Dev nD) (n : ℕ) : sProp 𝕄 :=
  if n = 0 then
    iprop(anyOf c (Memref.whole cc0_scratch2) ∗ anyOf c (Memref.whole cc0_scratch3) ∗ ringFree c (V m c main_v31)
      ∗ anyOf c (Memref.whole main_v103_1) ∗ anyOf c (Memref.whole main_v103_2))
  else if n < 256 then
    iprop(holds c (Memref.whole cc0_scratch2) (accAt m c n).dk ∗ holds c (Memref.whole cc0_scratch3) (accAt m c n).dv
      ∗ ring c (V m c main_v31) (an n) (bn n) 0
      ∗ anyOf c (Memref.whole main_v103_1) ∗ anyOf c (Memref.whole main_v103_2))
  else
    iprop(holds c (Memref.whole cc0_scratch2) (accAt m c n).dk ∗ holds c (Memref.whole cc0_scratch3) (accAt m c n).dv
      ∗ ringFree c (V m c main_v31)
      ∗ holds c (Memref.whole main_v103_1) (accAt m c n).dk ∗ holds c (Memref.whole main_v103_2) (accAt m c n).dv)

/-- The proof data: the arrays as the region finds them, each output's staging buffer after each point, and the
    invariant above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dqAt m c t
    | ⟨10, _⟩ => (accAt m c (t.val + 1)).dkc
    | ⟨11, _⟩ => (accAt m c (t.val + 1)).dvc
  Φ n := iprop(always m c ∗ between m c n.val)
  q _ := fullShare
  owed _ := 0

theorem A_eq (c : Dev nD) (w : Fin cfg0.W) : (dats m 0 c).A w = V m c (Pipeline.arrRef spec0 w) := by
  dsimp only [dats]

/-- Input window 0 holds its block at every point. -/
theorem before0 (c : Dev nD) (t : Fin cfg0.N) (d) : (dats m 0 c).before 0 t d = iblk m c 0 t :=
  ((dats m 0 c).before_in_eq_fetched 0 rfl (fun _ => rfl) (fun _ _ _ => rfl)
    (fun t => by show iblk m c 0 t = _; unfold Dat.blockOf iblk; rw [A_eq]; try rfl) t d).trans
    (by unfold Dat.fetched Dat.blockOf iblk; rw [A_eq]; try rfl)
/-- Input window 1 holds its block at every point. -/
theorem before1 (c : Dev nD) (t : Fin cfg0.N) (d) : (dats m 0 c).before 1 t d = iblk m c 1 t :=
  ((dats m 0 c).before_in_eq_fetched 1 rfl (fun _ => rfl) (fun _ _ _ => rfl)
    (fun t => by show iblk m c 1 t = _; unfold Dat.blockOf iblk; rw [A_eq]; try rfl) t d).trans
    (by unfold Dat.fetched Dat.blockOf iblk; rw [A_eq]; try rfl)
/-- Input window 2 holds its block at every point. -/
theorem before2 (c : Dev nD) (t : Fin cfg0.N) (d) : (dats m 0 c).before 2 t d = iblk m c 2 t :=
  ((dats m 0 c).before_in_eq_fetched 2 rfl (fun _ => rfl) (fun _ _ _ => rfl)
    (fun t => by show iblk m c 2 t = _; unfold Dat.blockOf iblk; rw [A_eq]; try rfl) t d).trans
    (by unfold Dat.fetched Dat.blockOf iblk; rw [A_eq]; try rfl)
/-- Input window 3 holds its block at every point. -/
theorem before3 (c : Dev nD) (t : Fin cfg0.N) (d) : (dats m 0 c).before 3 t d = iblk m c 3 t :=
  ((dats m 0 c).before_in_eq_fetched 3 rfl (fun _ => rfl) (fun _ _ _ => rfl)
    (fun t => by show iblk m c 3 t = _; unfold Dat.blockOf iblk; rw [A_eq]; try rfl) t d).trans
    (by unfold Dat.fetched Dat.blockOf iblk; rw [A_eq]; try rfl)
/-- Input window 4 holds its block at every point. -/
theorem before4 (c : Dev nD) (t : Fin cfg0.N) (d) : (dats m 0 c).before 4 t d = iblk m c 4 t :=
  ((dats m 0 c).before_in_eq_fetched 4 rfl (fun _ => rfl) (fun _ _ _ => rfl)
    (fun t => by show iblk m c 4 t = _; unfold Dat.blockOf iblk; rw [A_eq]; try rfl) t d).trans
    (by unfold Dat.fetched Dat.blockOf iblk; rw [A_eq]; try rfl)
/-- Input window 5 holds its block at every point. -/
theorem before5 (c : Dev nD) (t : Fin cfg0.N) (d) : (dats m 0 c).before 5 t d = iblk m c 5 t :=
  ((dats m 0 c).before_in_eq_fetched 5 rfl (fun _ => rfl) (fun _ _ _ => rfl)
    (fun t => by show iblk m c 5 t = _; unfold Dat.blockOf iblk; rw [A_eq]; try rfl) t d).trans
    (by unfold Dat.fetched Dat.blockOf iblk; rw [A_eq]; try rfl)
/-- Input window 6 holds its block at every point. -/
theorem before6 (c : Dev nD) (t : Fin cfg0.N) (d) : (dats m 0 c).before 6 t d = iblk m c 6 t :=
  ((dats m 0 c).before_in_eq_fetched 6 rfl (fun _ => rfl) (fun _ _ _ => rfl)
    (fun t => by show iblk m c 6 t = _; unfold Dat.blockOf iblk; rw [A_eq]; try rfl) t d).trans
    (by unfold Dat.fetched Dat.blockOf iblk; rw [A_eq]; try rfl)
/-- Input window 7 holds its block at every point. -/
theorem before7 (c : Dev nD) (t : Fin cfg0.N) (d) : (dats m 0 c).before 7 t d = iblk m c 7 t :=
  ((dats m 0 c).before_in_eq_fetched 7 rfl (fun _ => rfl) (fun _ _ _ => rfl)
    (fun t => by show iblk m c 7 t = _; unfold Dat.blockOf iblk; rw [A_eq]; try rfl) t d).trans
    (by unfold Dat.fetched Dat.blockOf iblk; rw [A_eq]; try rfl)
/-- Input window 8 holds its block at every point. -/
theorem before8 (c : Dev nD) (t : Fin cfg0.N) (d) : (dats m 0 c).before 8 t d = iblk m c 8 t :=
  ((dats m 0 c).before_in_eq_fetched 8 rfl (fun _ => rfl) (fun _ _ _ => rfl)
    (fun t => by show iblk m c 8 t = _; unfold Dat.blockOf iblk; rw [A_eq]; try rfl) t d).trans
    (by unfold Dat.fetched Dat.blockOf iblk; rw [A_eq]; try rfl)
/-- The context's `dk` is found as the point before left it. -/
theorem before10 (c : Dev nD) (t : Fin cfg0.N) (h : t.val ≠ 0) (d) : (dats m 0 c).before 10 t d = (accAt m c t.val).dkc := by
  rw [(dats m 0 c).before_of_pos 10 t h rfl d, if_neg]
  · show (accAt m c (t.val - 1 + 1)).dkc = _
    rw [Nat.sub_add_cancel (Nat.pos_of_ne_zero h)]
  · rw [flush0_10]
    have := lt_256 t
    show ¬ (t.val - 1) % 256 = 255
    omega
/-- The context's `dv` is found as the point before left it. -/
theorem before11 (c : Dev nD) (t : Fin cfg0.N) (h : t.val ≠ 0) (d) : (dats m 0 c).before 11 t d = (accAt m c t.val).dvc := by
  rw [(dats m 0 c).before_of_pos 11 t h rfl d, if_neg]
  · show (accAt m c (t.val - 1 + 1)).dvc = _
    rw [Nat.sub_add_cancel (Nat.pos_of_ne_zero h)]
  · rw [flush0_11]
    have := lt_256 t
    show ¬ (t.val - 1) % 256 = 255
    omega

end Cert.KernelIdeal.Glob

end
-- ==== Proof.Obligation.lean ====
module

public import proofs.«01_k».proof.Proof.Data

@[expose] public section

set_option maxRecDepth 16384

noncomputable section

namespace Cert.KernelIdeal.Glob

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # A buffer's contents, stated either way -/

theorem owns_holds (c : Dev nD) {sp : Space} {s : Shape} {e : EltTy} (M : Memref sig .tc sp s e) (x : s.Idx → Elt F e) :
    (owns (c : Thread nD τ) M fullShare x : sProp 𝕄) ⊢ holds c M x := by
  unfold owns
  iintro ⟨%f, %h, H⟩
  iapply (pointsTo_rep_of_read (c : Thread nD τ) M f fullShare x h)
  iexact H

theorem holds_owns (c : Dev nD) {sp : Space} {s : Shape} {e : EltTy} (M : Memref sig .tc sp s e) (x : s.Idx → Elt F e) :
    (holds c M x : sProp 𝕄) ⊢ owns (c : Thread nD τ) M fullShare x := by
  unfold owns
  iintro H
  iexists M.view.rep x
  isplitr
  · ipureintro; exact View.read_rep _ _
  iexact H

theorem some_holds (c : Dev nD) {sp : Space} {s : Shape} {e : EltTy} (M : Memref sig .tc sp s e) {D : Type} (f : D → s.Idx → Elt F e)
    (x : s.Idx → Elt F e) (h : ∀ d, f d = x) :
    (iprop(∃ d, owns (c : Thread nD τ) M fullShare (f d)) : sProp 𝕄) ⊢ holds c M x := by
  iintro ⟨%d, H⟩
  rw [h d]
  iapply (owns_holds c M x)
  iexact H

theorem some_any (c : Dev nD) {sp : Space} {s : Shape} {e : EltTy} (M : Memref sig .tc sp s e) {D : Type} (f : D → s.Idx → Elt F e) :
    (iprop(∃ d, owns (c : Thread nD τ) M fullShare (f d)) : sProp 𝕄) ⊢ anyOf c M := by
  unfold owns
  iintro ⟨%d, %g, -, H⟩
  iexists g
  iexact H

/-! # A point of the grid -/

/-- What the pipeline hands the body at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))
/-- What it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- What no point touches: the last point's two semaphores and the weights' unlent share. -/
def still (c : Dev nD) : sProp 𝕄 :=
  iprop(semVal ((c : Thread nD τ), SemLoc.dma cc0_scoped0.sem) 0 ∗ semVal ((c : Thread nD τ), SemLoc.dma cc0_scoped1.sem) 0
    ∗ keptP c (V m c main_v31))

set_option maxHeartbeats 2000000 in
theorem pre_open (c : Dev nD) (t : Fin cfg0.N) : bodyPre m c t ⊢
    iprop(insAt c (st0_0 t) (st0_1 t) (st0_2 t) (st0_3 t) (st0_4 t) (st0_5 t) (st0_6 t) (st0_7 t) (st0_8 t) (insOf m c t) ∗ anyOf c (st0_9 t)
      ∗ (∃ d, owns (c : Thread nD τ) (st0_10 t) fullShare ((dats m 0 c).before 10 t d))
      ∗ (∃ d, owns (c : Thread nD τ) (st0_11 t) fullShare ((dats m 0 c).before 11 t d))
      ∗ tools c (V m c main_v31) ∗ still m c ∗ between m c t.val) := by
  unfold bodyPre insAt tools still
  rw [show (dats m 0 c).Φ t.castSucc = iprop(always m c ∗ between m c t.val) from rfl]
  unfold always Dat.owesAt Pipeline.owesWithin
  rw [show (dats m 0 c).owed t.castSucc = 0 from rfl]
  iintro ⟨⟨⟨H17, H18, H22, Hs, Ht, Ha, Hb, Hp⟩, Hbet⟩, ⟨%W, -, HW⟩, H0, H1, H2, H3, H4, H5, H6, H7, H8, H9, H10, H11⟩
  isplitl [H0 H1 H2 H3 H4 H5 H6 H7 H8]
  · isplitl [H0]; · iapply (some_holds c (st0_0 t) ((dats m 0 c).before 0 t) _ (before0 m c t)); iexact H0
    isplitl [H1]; · iapply (some_holds c (st0_1 t) ((dats m 0 c).before 1 t) _ (before1 m c t)); iexact H1
    isplitl [H2]; · iapply (some_holds c (st0_2 t) ((dats m 0 c).before 2 t) _ (before2 m c t)); iexact H2
    isplitl [H3]; · iapply (some_holds c (st0_3 t) ((dats m 0 c).before 3 t) _ (before3 m c t)); iexact H3
    isplitl [H4]; · iapply (some_holds c (st0_4 t) ((dats m 0 c).before 4 t) _ (before4 m c t)); iexact H4
    isplitl [H5]; · iapply (some_holds c (st0_5 t) ((dats m 0 c).before 5 t) _ (before5 m c t)); iexact H5
    isplitl [H6]; · iapply (some_holds c (st0_6 t) ((dats m 0 c).before 6 t) _ (before6 m c t)); iexact H6
    isplitl [H7]; · iapply (some_holds c (st0_7 t) ((dats m 0 c).before 7 t) _ (before7 m c t)); iexact H7
    iapply (some_holds c (st0_8 t) ((dats m 0 c).before 8 t) _ (before8 m c t)); iexact H8
  isplitl [H9]; · iapply (some_any c (st0_9 t) ((dats m 0 c).before 9 t)); iexact H9
  isplitl [H10]; · iexact H10
  isplitl [H11]; · iexact H11
  isplitl [H17 H18 H22 Hs Ht HW]
  · isplitl [H17]; · iexact H17
    isplitl [H18]; · iexact H18
    isplitl [H22]; · iexact H22
    isplitl [Hs]; · iexact Hs
    isplitl [Ht]; · iexact Ht
    iexists W; iexact HW
  isplitl [Ha Hb Hp]
  · isplitl [Ha]; · iexact Ha
    isplitl [Hb]; · iexact Hb
    iexact Hp
  iexact Hbet

set_option maxHeartbeats 2000000 in
theorem post_close (c : Dev nD) (t : Fin cfg0.N) :
    iprop(insAt c (st0_0 t) (st0_1 t) (st0_2 t) (st0_3 t) (st0_4 t) (st0_5 t) (st0_6 t) (st0_7 t) (st0_8 t) (insOf m c t) ∗ holds c (st0_9 t) (dqAt m c t)
      ∗ holds c (st0_10 t) (accAt m c (t.val + 1)).dkc ∗ holds c (st0_11 t) (accAt m c (t.val + 1)).dvc
      ∗ tools c (V m c main_v31) ∗ still m c ∗ between m c (t.val + 1)) ⊢ bodyPost m c t := by
  unfold bodyPost insAt tools still
  rw [show (dats m 0 c).Φ t.succ = iprop(always m c ∗ between m c (t.val + 1)) from rfl]
  unfold always Dat.owesAt Pipeline.owesWithin
  rw [show (dats m 0 c).owed t.succ = 0 from rfl]
  iintro ⟨⟨H0, H1, H2, H3, H4, H5, H6, H7, H8⟩, H9, H10, H11, ⟨H17, H18, H22, Hs, Ht, ⟨%W, HW⟩⟩, ⟨Ha, Hb, Hp⟩, Hbet⟩
  isplitl [H17 H18 H22 Hs Ht Ha Hb Hp Hbet]
  · isplitl [H17 H18 H22 Hs Ht Ha Hb Hp]
    · isplitl [H17]; · iexact H17
      isplitl [H18]; · iexact H18
      isplitl [H22]; · iexact H22
      isplitl [Hs]; · iexact Hs
      isplitl [Ht]; · iexact Ht
      isplitl [Ha]; · iexact Ha
      isplitl [Hb]; · iexact Hb
      iexact Hp
    iexact Hbet
  isplitl [HW]
  · iexists W; isplitr
    · ipureintro; exact fun _ _ => Or.inl trivial
    iexact HW
  isplitl [H0]; · iapply (holds_owns c (st0_0 t)); iexact H0
  isplitl [H1]; · iapply (holds_owns c (st0_1 t)); iexact H1
  isplitl [H2]; · iapply (holds_owns c (st0_2 t)); iexact H2
  isplitl [H3]; · iapply (holds_owns c (st0_3 t)); iexact H3
  isplitl [H4]; · iapply (holds_owns c (st0_4 t)); iexact H4
  isplitl [H5]; · iapply (holds_owns c (st0_5 t)); iexact H5
  isplitl [H6]; · iapply (holds_owns c (st0_6 t)); iexact H6
  isplitl [H7]; · iapply (holds_owns c (st0_7 t)); iexact H7
  isplitl [H8]; · iapply (holds_owns c (st0_8 t)); iexact H8
  isplitl [H9]; · iapply (holds_owns c (st0_9 t)); iexact H9
  isplitl [H10]; · iapply (holds_owns c (st0_10 t)); iexact H10
  iapply (holds_owns c (st0_11 t)); iexact H11

theorem between_zero (c : Dev nD) : between m c 0 =
    iprop(anyOf c (Memref.whole cc0_scratch2) ∗ anyOf c (Memref.whole cc0_scratch3) ∗ ringFree c (V m c main_v31)
      ∗ anyOf c (Memref.whole main_v103_1) ∗ anyOf c (Memref.whole main_v103_2)) := if_pos rfl
theorem between_mid (c : Dev nD) (n : ℕ) (h0 : n ≠ 0) (h1 : n < 256) : between m c n =
    iprop(holds c (Memref.whole cc0_scratch2) (accAt m c n).dk ∗ holds c (Memref.whole cc0_scratch3) (accAt m c n).dv
      ∗ ring c (V m c main_v31) (an n) (bn n) 0
      ∗ anyOf c (Memref.whole main_v103_1) ∗ anyOf c (Memref.whole main_v103_2)) := (if_neg h0).trans (if_pos h1)
theorem between_end (c : Dev nD) (n : ℕ) (h1 : ¬ n < 256) : between m c n =
    iprop(holds c (Memref.whole cc0_scratch2) (accAt m c n).dk ∗ holds c (Memref.whole cc0_scratch3) (accAt m c n).dv
      ∗ ringFree c (V m c main_v31)
      ∗ holds c (Memref.whole main_v103_1) (accAt m c n).dk ∗ holds c (Memref.whole main_v103_2) (accAt m c n).dv) :=
  (if_neg (by omega)).trans (if_neg h1)

/-- After a point that is not the last, the ring is ready for the next one. -/
theorem ring_point (c : Dev nD) (t : Fin cfg0.N) (h : t.val < 255) :
    ring (F := F) c (V m c main_v31) (ga (grid0.coords t)) (gb (grid0.coords t)) 32
      = ring c (V m c main_v31) (an (t.val + 1)) (bn (t.val + 1)) 0 := by
  rw [ga_coords, gb_coords]
  unfold ring
  exact congrArg _ (roles_point t.val h)

/-- What a point that is not the last leaves. -/
theorem post_mid (c : Dev nD) (t : Fin cfg0.N) (h : t.val < 255) (s : Acc F) (x : S1x128x512.Idx → Elt F .f32)
    (hs : accAt m c (t.val + 1) = s) (hx : dqAt m c t = x) :
    iprop(insAt c (st0_0 t) (st0_1 t) (st0_2 t) (st0_3 t) (st0_4 t) (st0_5 t) (st0_6 t) (st0_7 t) (st0_8 t) (insOf m c t) ∗ holds c (st0_9 t) x ∗ holds c (st0_10 t) s.dkc ∗ holds c (st0_11 t) s.dvc
      ∗ tools c (V m c main_v31) ∗ still m c ∗ holds c (Memref.whole cc0_scratch2) s.dk ∗ holds c (Memref.whole cc0_scratch3) s.dv
      ∗ ring c (V m c main_v31) (ga (grid0.coords t)) (gb (grid0.coords t)) 32
      ∗ anyOf c (Memref.whole main_v103_1) ∗ anyOf c (Memref.whole main_v103_2)) ⊢ bodyPost m c t := by
  refine BIBase.Entails.trans ?_ (post_close m c t)
  rw [between_mid m c (t.val + 1) (by omega) (by omega), hs, hx, ring_point m c t h]

/-- What the last point leaves. -/
theorem post_last (c : Dev nD) (t : Fin cfg0.N) (h : t.val = 255) (s : Acc F) (x : S1x128x512.Idx → Elt F .f32)
    (hs : accAt m c (t.val + 1) = s) (hx : dqAt m c t = x) :
    iprop(insAt c (st0_0 t) (st0_1 t) (st0_2 t) (st0_3 t) (st0_4 t) (st0_5 t) (st0_6 t) (st0_7 t) (st0_8 t) (insOf m c t) ∗ holds c (st0_9 t) x ∗ holds c (st0_10 t) s.dkc ∗ holds c (st0_11 t) s.dvc
      ∗ tools c (V m c main_v31) ∗ still m c ∗ holds c (Memref.whole cc0_scratch2) s.dk ∗ holds c (Memref.whole cc0_scratch3) s.dv
      ∗ ringFree c (V m c main_v31)
      ∗ holds c (Memref.whole main_v103_1) s.dk ∗ holds c (Memref.whole main_v103_2) s.dv) ⊢ bodyPost m c t := by
  refine BIBase.Entails.trans ?_ (post_close m c t)
  rw [between_end m c (t.val + 1) (by omega), hs, hx]

theorem sound_first (c : Dev nD) (t : Fin cfg0.N) (h0 : t.val = 0) :
    bodyPre m c t ⊢ wp frame (wpE (defs₀ (F := F)) Variants.none c none) Set.univ (bodyAt0 t) (fun _ => bodyPost m c t) := by
  refine (pre_open m c t).trans ?_
  rw [show between m c t.val = _ from (congrArg _ h0).trans (between_zero m c)]
  iintro ⟨Hin, H12, H15, H16, Htools, Hstill, Hbet⟩
  icases Hbet with ⟨H19, H20, Hring, H13, H14⟩
  iapply (wp_wand_r frame (wpE (defs₀ (F := F)) Variants.none (c : Thread nD τ) none) Set.univ)
  isplitl [Hin H12 H15 H16 Htools H19 H20 Hring]
  · iapply (point_first c (grid0.coords t) ((cond2_iff t).2 h0)
      ⟨by rw [ga_coords]; show t.val / 32 % 8 = 0; omega, by rw [gb_coords]; show t.val % 32 = 0; omega⟩
      (fun h => by have := (cond3_iff t).1 h; omega)
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (insOf m c t))
    isplitl [Hin]; · iexact Hin
    isplitl [H12]; · iexact H12
    isplitl [H15]; · iapply (some_any c (st0_10 t) ((dats m 0 c).before 10 t)); iexact H15
    isplitl [H16]; · iapply (some_any c (st0_11 t) ((dats m 0 c).before 11 t)); iexact H16
    isplitl [H19]; · iexact H19
    isplitl [H20]; · iexact H20
    isplitl [Hring]; · iexact Hring
    iexact Htools
  iintro %u ⟨Hin, H12, H15, H16, H19, H20, Hring, Htools⟩
  iapply (post_mid m c t (by omega) (step (grid0.coords t) (insOf m c t) ⟨k0_pay6, k0_pay7, k0_pay4, k0_pay5⟩) _
    (by rw [accAt_succ, h0, accAt]) (by unfold dqAt; rw [h0, accAt]))
  isplitl [Hin]; · iexact Hin
  isplitl [H12]; · iexact H12
  isplitl [H15]; · iexact H15
  isplitl [H16]; · iexact H16
  isplitl [Htools]; · iexact Htools
  isplitl [Hstill]; · iexact Hstill
  isplitl [H19]; · iexact H19
  isplitl [H20]; · iexact H20
  isplitl [Hring]; · iexact Hring
  isplitl [H13]; · iexact H13
  iexact H14

theorem sound_mid (c : Dev nD) (t : Fin cfg0.N) (h0 : t.val ≠ 0) (h1 : t.val ≠ 255) :
    bodyPre m c t ⊢ wp frame (wpE (defs₀ (F := F)) Variants.none c none) Set.univ (bodyAt0 t) (fun _ => bodyPost m c t) := by
  have hlt := lt_256 t
  refine (pre_open m c t).trans ?_
  rw [between_mid m c t.val h0 hlt, ← ga_coords, ← gb_coords]
  iintro ⟨Hin, H12, H15, H16, Htools, Hstill, Hbet⟩
  icases Hbet with ⟨H19, H20, Hring, H13, H14⟩
  iapply (wp_wand_r frame (wpE (defs₀ (F := F)) Variants.none (c : Thread nD τ) none) Set.univ)
  isplitl [Hin H12 H15 H16 Htools H19 H20 Hring]
  · iapply (point_mid c (grid0.coords t) (fun h => h0 ((cond2_iff t).1 h)) (fun h => h1 ((cond3_iff t).1 h))
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (insOf m c t)
      (accAt m c t.val).dkc (accAt m c t.val).dvc (accAt m c t.val).dk (accAt m c t.val).dv)
    isplitl [Hin]; · iexact Hin
    isplitl [H12]; · iexact H12
    isplitl [H15]; · iapply (some_holds c (st0_10 t) ((dats m 0 c).before 10 t) _ (before10 m c t h0)); iexact H15
    isplitl [H16]; · iapply (some_holds c (st0_11 t) ((dats m 0 c).before 11 t) _ (before11 m c t h0)); iexact H16
    isplitl [H19]; · iexact H19
    isplitl [H20]; · iexact H20
    isplitl [Hring]; · iexact Hring
    iexact Htools
  iintro %u ⟨Hin, H12, H15, H16, H19, H20, Hring, Htools⟩
  iapply (post_mid m c t (by omega) (step (grid0.coords t) (insOf m c t) (accAt m c t.val)) _ (accAt_succ m c t) rfl)
  isplitl [Hin]; · iexact Hin
  isplitl [H12]; · iexact H12
  isplitl [H15]; · iexact H15
  isplitl [H16]; · iexact H16
  isplitl [Htools]; · iexact Htools
  isplitl [Hstill]; · iexact Hstill
  isplitl [H19]; · iexact H19
  isplitl [H20]; · iexact H20
  isplitl [Hring]; · iexact Hring
  isplitl [H13]; · iexact H13
  iexact H14

theorem sound_last (c : Dev nD) (t : Fin cfg0.N) (h1 : t.val = 255) :
    bodyPre m c t ⊢ wp frame (wpE (defs₀ (F := F)) Variants.none c none) Set.univ (bodyAt0 t) (fun _ => bodyPost m c t) := by
  have h0 : t.val ≠ 0 := by omega
  refine (pre_open m c t).trans ?_
  rw [between_mid m c t.val h0 (by omega), ← ga_coords, ← gb_coords]
  unfold still
  iintro ⟨Hin, H12, H15, H16, Htools, Hstill, Hbet⟩
  icases Hbet with ⟨H19, H20, Hring, H13, H14⟩
  icases Hstill with ⟨Ha, Hb, Hp⟩
  iapply (wp_wand_r frame (wpE (defs₀ (F := F)) Variants.none (c : Thread nD τ) none) Set.univ)
  isplitl [Hin H12 H15 H16 Htools H19 H20 Hring H13 H14 Ha Hb]
  · iapply (point_last c (grid0.coords t) (fun h => h0 ((cond2_iff t).1 h)) ((cond3_iff t).2 h1)
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (insOf m c t)
      (accAt m c t.val).dkc (accAt m c t.val).dvc (accAt m c t.val).dk (accAt m c t.val).dv)
    isplitl [Hin]; · iexact Hin
    isplitl [H12]; · iexact H12
    isplitl [H15]; · iapply (some_holds c (st0_10 t) ((dats m 0 c).before 10 t) _ (before10 m c t h0)); iexact H15
    isplitl [H16]; · iapply (some_holds c (st0_11 t) ((dats m 0 c).before 11 t) _ (before11 m c t h0)); iexact H16
    isplitl [H19]; · iexact H19
    isplitl [H20]; · iexact H20
    isplitl [Hring]; · iexact Hring
    isplitl [Htools]; · iexact Htools
    isplitl [H13]; · iexact H13
    isplitl [H14]; · iexact H14
    isplitl [Ha]; · iexact Ha
    iexact Hb
  iintro %u ⟨Hin, H12, H15, H16, H19, H20, Hring, Htools, H13, H14, Ha, Hb⟩
  iapply (post_last m c t h1 (step (grid0.coords t) (insOf m c t) (accAt m c t.val)) _ (accAt_succ m c t) rfl)
  unfold still
  isplitl [Hin]; · iexact Hin
  isplitl [H12]; · iexact H12
  isplitl [H15]; · iexact H15
  isplitl [H16]; · iexact H16
  isplitl [Htools]; · iexact Htools
  isplitl [Ha Hb Hp]
  · isplitl [Ha]; · iexact Ha
    isplitl [Hb]; · iexact Hb
    iexact Hp
  isplitl [H19]; · iexact H19
  isplitl [H20]; · iexact H20
  isplitl [Hring]; · iexact Hring
  isplitl [H13]; · iexact H13
  iexact H14

/-- Every point keeps the invariant. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  by_cases h1 : t.val = 255
  · exact sound_last m c t h1
  exact sound_mid m c t h0 h1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Glob

end
-- ==== Proof.Run.lean ====
module

public import proofs.«01_k».proof.Proof.Obligation
public import Idealize.ShloMosaic.Lib.Pipeline.FrameSuffixV
public import Idealize.ShloMosaic.Lib.Ring.AtN

@[expose] public section

set_option maxRecDepth 16384

noncomputable section

namespace Cert.KernelIdeal.Glob

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # What the body owns of its own, and the buffers it reaches by copies -/

/-- The body's seven semaphores: the ring's four, the context buffer's, and the last point's two. -/
abbrev osem0 : Fin 7 → SemLoc sig := fun j =>
  (![cellK 0, cellK 1, cellK 2, cellK 3, SemLoc.dma cc0_scratch7.sem, SemLoc.dma cc0_scoped0.sem, SemLoc.dma cc0_scoped1.sem] : Fin 7 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), cellK 0) 0 ∗ semVal ((c : Thread nD τ), cellK 1) 0 ∗ semVal ((c : Thread nD τ), cellK 2) 0
          ∗ semVal ((c : Thread nD τ), cellK 3) 0 ∗ semVal ((c : Thread nD τ), SemLoc.dma cc0_scratch7.sem) 0
          ∗ semVal ((c : Thread nD τ), SemLoc.dma cc0_scoped0.sem) 0 ∗ semVal ((c : Thread nD τ), SemLoc.dma cc0_scoped1.sem) 0) := by
  rw [Pipeline.ownSems0_eq_of_list c osem0 [0, 1, 2, 3, 4, 5, 6] (by decide) (by decide)]; rfl

/-- The stored weights, which the copies only read. -/
def H0 : Finset (Ref sig .tc) := {main_v31}
/-- The two results the last point copies out. -/
def R0 : Finset (Ref sig .tc) := {main_v103_1, main_v103_2}
theorem H0_sub : H0 ⊆ Pipeline.restRefs sig spec0 := by decide
theorem R0_sub : R0 ⊆ Pipeline.restRefs sig spec0 \ H0 := by decide

/-- What the two results hold at the end; every other buffer is as the region found it. -/
def G (c : Dev nD) : (b : Ref sig .tc) → Buf (Elt F) ((c : Thread nD τ).loc b) :=
  Function.update (Function.update (fun b => V m c b) main_v103_1 ((Memref.whole main_v103_1).view.rep (accAt m c 256).dk))
    main_v103_2 ((Memref.whole main_v103_2).view.rep (accAt m c 256).dv)

theorem hbmPts0_eq (c : Dev nD) (f : (b : Ref sig .tc) → Buf (Elt F) ((c : Thread nD τ).loc b)) :
    (bigSep H0 (fun b => ((c : Thread nD τ).loc b) ↦{fullShare} f b) : sProp 𝕄)
      = iprop(((c : Thread nD τ).loc main_v31) ↦{fullShare} f main_v31) := by
  rw [BI.bigSep_eq_bigSepL_of_eq [main_v31] (by decide) (by decide)]; rfl
theorem resPts0_eq (c : Dev nD) (f : (b : Ref sig .tc) → Buf (Elt F) ((c : Thread nD τ).loc b)) :
    (bigSep R0 (fun b => ((c : Thread nD τ).loc b) ↦{fullShare} f b) : sProp 𝕄)
      = iprop((((c : Thread nD τ).loc main_v103_1) ↦{fullShare} f main_v103_1)
          ∗ (((c : Thread nD τ).loc main_v103_2) ↦{fullShare} f main_v103_2)) := by
  rw [BI.bigSep_eq_bigSepL_of_eq [main_v103_1, main_v103_2] (by decide) (by decide)]; rfl

/-! ## The ring's buffer is its four slots -/

/-- Slot `k`'s elements of the ring's buffer. -/
abbrev slotSet (k : Fin 4) : Finset S4x512x512.Idx := (slotK k).view.set
theorem slot_set (k : Fin 4) : slotSet k = (Rect.unit (s := S4x512x512) ![k.val, 0, 0] S1x512x512.size (slot_inb k)).set := by
  refine (View.set_reshape _ _).trans ?_
  exact View.set_slice_whole _ _

theorem slots_disjoint (s s' : Fin 4) (h : s ≠ s') : Disjoint (slotSet s) (slotSet s') := by
  rw [slot_set, slot_set]
  exact Ring.lead_disjoint (s := S4x512x512) 0 1 (fun k : Fin 4 => ![k.val, 0, 0]) S1x512x512.size slot_inb
    (fun b => (Nat.one_mul _).symm) rfl s s' h
theorem slots_cover : Finset.univ.biUnion slotSet = Finset.univ := by
  refine (Finset.biUnion_congr rfl fun k _ => slot_set k).trans ?_
  exact Ring.lead_cover (s := S4x512x512) 0 1 (fun k : Fin 4 => ![k.val, 0, 0]) S1x512x512.size slot_inb
    (fun b => (Nat.one_mul _).symm) (fun b a h => by fin_cases a <;> first | rfl | exact absurd rfl h) rfl
    (fun a h => by fin_cases a <;> first | rfl | exact absurd rfl h) rfl

theorem ring_split (c : Dev nD) :
    (iprop(∃ f : Buf (Elt F) ((c : Thread nD τ).loc cc0_scratch4), ((c : Thread nD τ).loc cc0_scratch4) ↦{fullShare} f) : sProp 𝕄)
      ⊢ iprop(anyOf c (slotK 0) ∗ anyOf c (slotK 1) ∗ anyOf c (slotK 2) ∗ anyOf c (slotK 3)) :=
  Ring.slots4_split (ℓ := (c : Thread nD τ).loc cc0_scratch4) slotSet slots_disjoint slots_cover
    _ _ _ _ (fun _ => rfl) (fun _ => rfl) (fun _ => rfl) (fun _ => rfl)
theorem ring_join (c : Dev nD) :
    (iprop(anyOf c (slotK 0) ∗ anyOf c (slotK 1) ∗ anyOf c (slotK 2) ∗ anyOf c (slotK 3)) : sProp 𝕄)
      ⊢ iprop(∃ f : Buf (Elt F) ((c : Thread nD τ).loc cc0_scratch4), ((c : Thread nD τ).loc cc0_scratch4) ↦{fullShare} f) :=
  Ring.slots4_join (ℓ := (c : Thread nD τ).loc cc0_scratch4) slotSet slots_disjoint slots_cover
    _ _ _ _ (fun _ => rfl) (fun _ => rfl) (fun _ => rfl) (fun _ => rfl)

/-- The stored weights whole are the kept share and the five lent ones. -/
theorem lend (c : Dev nD) (f : Buf (Elt F) ((c : Thread nD τ).loc main_v31)) :
    (iprop(((c : Thread nD τ).loc main_v31) ↦{fullShare} f) : sProp 𝕄)
      ⊢ iprop(keptP c f ∗ tokP c 0 Finset.univ f ∗ tokP c 1 Finset.univ f ∗ tokP c 2 Finset.univ f ∗ tokP c 3 Finset.univ f
        ∗ tokP c 4 Finset.univ f) := by
  refine (Transfers.pointsTo_toks_split fullShare 5).trans ?_
  rw [BI.bigSep_univ_eq_bigSepL [0, 1, 2, 3, 4] (by decide) (by decide)]
  exact .rfl
theorem collect (c : Dev nD) (f : Buf (Elt F) ((c : Thread nD τ).loc main_v31)) :
    iprop(keptP c f ∗ tokP c 0 Finset.univ f ∗ tokP c 1 Finset.univ f ∗ tokP c 2 Finset.univ f ∗ tokP c 3 Finset.univ f
        ∗ tokP c 4 Finset.univ f)
      ⊢ (iprop(((c : Thread nD τ).loc main_v31) ↦{fullShare} f) : sProp 𝕄) := by
  refine BIBase.Entails.trans ?_ (Transfers.pointsTo_toks_join fullShare 5)
  rw [BI.bigSep_univ_eq_bigSepL [0, 1, 2, 3, 4] (by decide) (by decide)]
  exact .rfl

theorem ringFree_parts (c : Dev nD) (f : Buf (Elt F) ((c : Thread nD τ).loc main_v31)) : (ringFree c f : sProp 𝕄) =
    iprop((semVal ((c : Thread nD τ), cellK 0) 0 ∗ anyOf c (slotK 0) ∗ tokP c 0 Finset.univ f)
      ∗ (semVal ((c : Thread nD τ), cellK 1) 0 ∗ anyOf c (slotK 1) ∗ tokP c 1 Finset.univ f)
      ∗ (semVal ((c : Thread nD τ), cellK 2) 0 ∗ anyOf c (slotK 2) ∗ tokP c 2 Finset.univ f)
      ∗ (semVal ((c : Thread nD τ), cellK 3) 0 ∗ anyOf c (slotK 3) ∗ tokP c 3 Finset.univ f)) := by
  unfold ringFree Ring.AtW
  rw [BI.bigSep_univ_eq_bigSepL [0, 1, 2, 3] (by decide) (by decide)]
  rfl

/-! ## Into the first point and out of the last -/

theorem any_whole (c : Dev nD) (b : Ref sig .tc) :
    (iprop(∃ f : Buf (Elt F) ((c : Thread nD τ).loc b), ((c : Thread nD τ).loc b) ↦{fullShare} f) : sProp 𝕄) = anyOf c (Memref.whole b) := by
  unfold anyOf
  rw [show (Memref.whole b).view.set = Finset.univ from View.set_whole _]
theorem whole_any (c : Dev nD) (b : Ref sig .tc) :
    (iprop(∃ f : Buf (Elt F) ((c : Thread nD τ).loc b), ((c : Thread nD τ).loc b) ↦{fullShare} f) : sProp 𝕄) ⊢ anyOf c (Memref.whole b) := by
  rw [any_whole]
theorem any_some (c : Dev nD) (b : Ref sig .tc) : anyOf c (Memref.whole b)
    ⊢ (iprop(∃ f : Buf (Elt F) ((c : Thread nD τ).loc b), ((c : Thread nD τ).loc b) ↦{fullShare} f) : sProp 𝕄) := by
  rw [any_whole]
theorem holds_whole (c : Dev nD) (b : Ref sig .tc) (x) :
    (holds c (Memref.whole b) x : sProp 𝕄) = iprop(((c : Thread nD τ).loc b) ↦{fullShare} (Memref.whole b).view.rep x) := by
  unfold holds
  rw [show (Memref.whole b).view.set = Finset.univ from View.set_whole _]

theorem region_in (c : Dev nD) : Pipeline.ΦDRV osem0 spec0 H0 R0 (V m) (V m) c ⊢ (dats m 0 c).Φ 0 := by
  rw [show (dats m 0 c).Φ 0 = iprop(always m c ∗ between m c 0) from rfl, between_zero]
  unfold Pipeline.ΦDRV always
  rw [scopedRest0_eq, ownSems00_eq, hbmPts0_eq, resPts0_eq, ringFree_parts]
  iintro ⟨⟨H17, H18, H19, H20, H21, H22⟩, ⟨Hs0, Hs1, Hs2, Hs3, Hs, Ha, Hb⟩, Hp, ⟨H13, H14⟩⟩
  ihave Hr := (ring_split c) $$ H21
  icases Hr with ⟨R0, R1, R2, R3⟩
  ihave Hl := (lend c (V m c main_v31)) $$ Hp
  icases Hl with ⟨Hk, T0, T1, T2, T3, T4⟩
  isplitl [H17 H18 H22 Hs T4 Ha Hb Hk]
  · isplitl [H17]; · iapply (whole_any c cc0_scratch0); iexact H17
    isplitl [H18]; · iapply (whole_any c cc0_scratch1); iexact H18
    isplitl [H22]; · iapply (whole_any c cc0_scratch5); iexact H22
    isplitl [Hs]; · iexact Hs
    isplitl [T4]; · iexact T4
    isplitl [Ha]; · iexact Ha
    isplitl [Hb]; · iexact Hb
    iexact Hk
  isplitl [H19]; · iapply (whole_any c cc0_scratch2); iexact H19
  isplitl [H20]; · iapply (whole_any c cc0_scratch3); iexact H20
  isplitl [R0 R1 R2 R3 T0 T1 T2 T3 Hs0 Hs1 Hs2 Hs3]
  · isplitl [Hs0 R0 T0]
    · isplitl [Hs0]; · iexact Hs0
      isplitl [R0]; · iexact R0
      iexact T0
    isplitl [Hs1 R1 T1]
    · isplitl [Hs1]; · iexact Hs1
      isplitl [R1]; · iexact R1
      iexact T1
    isplitl [Hs2 R2 T2]
    · isplitl [Hs2]; · iexact Hs2
      isplitl [R2]; · iexact R2
      iexact T2
    isplitl [Hs3]; · iexact Hs3
    isplitl [R3]; · iexact R3
    iexact T3
  isplitl [H13]
  · iapply (whole_any c main_v103_1); iexists _; iexact H13
  iapply (whole_any c main_v103_2); iexists _; iexact H14

theorem G_dk (c : Dev nD) : G m c main_v103_1 = (Memref.whole main_v103_1).view.rep (accAt m c 256).dk := by
  unfold G
  rw [Function.update_of_ne (by decide), Function.update_self]
theorem G_dv (c : Dev nD) : G m c main_v103_2 = (Memref.whole main_v103_2).view.rep (accAt m c 256).dv := by
  unfold G
  rw [Function.update_self]

theorem holds_any (c : Dev nD) (b : Ref sig .tc) (x) : (holds c (Memref.whole b) x : sProp 𝕄)
    ⊢ iprop(∃ f : Buf (Elt F) ((c : Thread nD τ).loc b), ((c : Thread nD τ).loc b) ↦{fullShare} f) := by
  rw [holds_whole]
  iintro H
  iexists _
  iexact H

theorem region_out (c : Dev nD) : (dats m 0 c).Φ (Fin.last cfg0.N) ⊢ Pipeline.ΦDRV osem0 spec0 H0 R0 (V m) (G m) c := by
  rw [show (dats m 0 c).Φ (Fin.last cfg0.N) = iprop(always m c ∗ between m c cfg0.N) from rfl,
    show between m c cfg0.N = between m c 256 from congrArg _ N_0, between_end m c 256 (by omega)]
  unfold Pipeline.ΦDRV always
  rw [scopedRest0_eq, ownSems00_eq, hbmPts0_eq, resPts0_eq, ringFree_parts, G_dk, G_dv,
    holds_whole c main_v103_1, holds_whole c main_v103_2]
  iintro ⟨⟨H17, H18, H22, Hs, T4, Ha, Hb, Hk⟩, H19, H20, ⟨⟨Hs0, R0, T0⟩, ⟨Hs1, R1, T1⟩, ⟨Hs2, R2, T2⟩, ⟨Hs3, R3, T3⟩⟩, H13, H14⟩
  isplitl [H17 H18 H19 H20 H22 R0 R1 R2 R3]
  · isplitl [H17]; · iapply (any_some c cc0_scratch0); iexact H17
    isplitl [H18]; · iapply (any_some c cc0_scratch1); iexact H18
    isplitl [H19]; · iapply (holds_any c cc0_scratch2); iexact H19
    isplitl [H20]; · iapply (holds_any c cc0_scratch3); iexact H20
    isplitl [R0 R1 R2 R3]
    · iapply (ring_join c)
      isplitl [R0]; · iexact R0
      isplitl [R1]; · iexact R1
      isplitl [R2]; · iexact R2
      iexact R3
    iapply (any_some c cc0_scratch5); iexact H22
  isplitl [Hs0 Hs1 Hs2 Hs3 Hs Ha Hb]
  · isplitl [Hs0]; · iexact Hs0
    isplitl [Hs1]; · iexact Hs1
    isplitl [Hs2]; · iexact Hs2
    isplitl [Hs3]; · iexact Hs3
    isplitl [Hs]; · iexact Hs
    isplitl [Ha]; · iexact Ha
    iexact Hb
  isplitl [Hk T0 T1 T2 T3 T4]
  · iapply (collect c (V m c main_v31))
    isplitl [Hk]; · iexact Hk
    isplitl [T0]; · iexact T0
    isplitl [T1]; · iexact T1
    isplitl [T2]; · iexact T2
    isplitl [T3]; · iexact T3
    iexact T4
  isplitl [H13]; · iexact H13
  iexact H14

/-! ## The run -/

set_option maxHeartbeats 800000 in
/-- The program is its host operations around the kernel. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- What a buffer holds when the program ends: the host's last operations on what the kernel left. -/
def endOf (c : Dev nD) (b : Ref sig .tc) : Buf (Elt F) ((c : Thread nD τ).loc b) :=
  StableHlo.after [hostOps1].flatten (Pipeline.withArrays spec0 c (Pipeline.withR (V0 m c) R0 c (G m c)) fun w => (dats m 0 c).arrAt w cfg0.N)
    (Proc.devRef .tc b)

/-- Every run ends; each window's array holds what the grid wrote, every other buffer what `endOf` says; every semaphore
    is back at zero. -/
def EndPost (r : PUnit × MemSt nD τ sig (Elt F)) : Prop :=
  (∀ c : Dev nD, (∀ w, r.2.mem ((spec0 w).arr.view.loc (c : Thread nD τ)) = (dats m 0 c).arrAt w cfg0.N)
    ∧ ∀ b ∈ Pipeline.restRefs sig spec0, r.2.mem ((c : Thread nD τ).loc b) = endOf m c b)
  ∧ r.2.sem = fun _ => 0

set_option backward.isDefEq.respectTransparency.types false in
theorem run_main : θ_run defs (onTc (τ := τ) (main (F := F))) (s₀ m ρ) (EndPost m) :=
  Pipeline.θ_run_frame_dmaR_aroundV (Q' := EndPost m) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmain m Variants.none) (hA := A_eq m) (hin := region_in m) (hout := region_out m) (hQ' := fun _ h => h)

/-! ## The arguments end as they began -/

theorem endOf_arg0 (c : Dev nD) : endOf m c main_arg0 = m ((c : Thread nD τ).loc main_arg0) := by
  unfold endOf
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg0 (by exact (by decide : ∀ w, Pipeline.arrRef spec0 w ≠ main_arg0)),
    Pipeline.withR_of_not_mem _ _ _ _ main_arg0 (by decide)]
  exact V_main_arg0 m c
theorem endOf_arg1 (c : Dev nD) : endOf m c main_arg1 = m ((c : Thread nD τ).loc main_arg1) := by
  unfold endOf
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg1 (by exact (by decide : ∀ w, Pipeline.arrRef spec0 w ≠ main_arg1)),
    Pipeline.withR_of_not_mem _ _ _ _ main_arg1 (by decide)]
  exact V_main_arg1 m c
theorem endOf_arg2 (c : Dev nD) : endOf m c main_arg2 = m ((c : Thread nD τ).loc main_arg2) := by
  unfold endOf
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg2 (by exact (by decide : ∀ w, Pipeline.arrRef spec0 w ≠ main_arg2)),
    Pipeline.withR_of_not_mem _ _ _ _ main_arg2 (by decide)]
  exact V_main_arg2 m c
theorem endOf_arg3 (c : Dev nD) : endOf m c main_arg3 = m ((c : Thread nD τ).loc main_arg3) := by
  unfold endOf
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg3 (by exact (by decide : ∀ w, Pipeline.arrRef spec0 w ≠ main_arg3)),
    Pipeline.withR_of_not_mem _ _ _ _ main_arg3 (by decide)]
  exact V_main_arg3 m c

/-- The arguments are left as they were, and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (endOf_arg0 m c),
      ((h.1 c).2 main_arg1 (Pipeline.mem_restRefs_of main_arg1 (by decide) (by decide))).trans (endOf_arg1 m c),
      ((h.1 c).2 main_arg2 (Pipeline.mem_restRefs_of main_arg2 (by decide) (by decide))).trans (endOf_arg2 m c),
      ((h.1 c).2 main_arg3 (Pipeline.mem_restRefs_of main_arg3 (by decide) (by decide))).trans (endOf_arg3 m c)⟩, h.2⟩) (run_main m ρ)

end Cert.KernelIdeal.Glob

end
-- ==== Proof.Nums.lean ====
module

public import proofs.«01_k».proof.Proof.Gen.KernelIdeal.Skeleton
public import Idealize.ShloMosaic.Lib.Pointwise

@[expose] public section

set_option maxRecDepth 16384

noncomputable section

namespace Cert.KernelIdeal.Glob

open Idealize.ShloMosaic Idealize.ShloMosaic.TcCoe Idealize.SL.Sem
open Cert.KernelIdeal Cert.KernelIdeal.Gen

/-! ### Extended reals that are reals -/

/-- A sum of reals, taken in the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum over the first `n` numbers of reals, in the extended reals. -/
theorem coe_sum_fin {n : ℕ} (f : ℕ → ℝ) : (∑ i : Fin n, ((f i : ℝ) : EReal)) = ((∑ i ∈ Finset.range n, f i : ℝ) : EReal) := by
  rw [coe_sum, Finset.sum_range]

/-- A sum of products of reals. -/
theorem sum_coe_mul {n : ℕ} {x y : Fin n → EReal} (f g : ℕ → ℝ) (hx : ∀ i, x i = (f i : ℝ)) (hy : ∀ i, y i = (g i : ℝ)) :
    (∑ i, x i * y i) = ((∑ i ∈ Finset.range n, f i * g i : ℝ) : EReal) := by
  rw [← coe_sum_fin]
  exact Finset.sum_congr rfl fun i _ => by rw [hx, hy, EReal.coe_mul]

/-- A sum of reals. -/
theorem sum_coe {n : ℕ} {x : Fin n → EReal} (f : ℕ → ℝ) (hx : ∀ i, x i = (f i : ℝ)) :
    (∑ i, x i) = ((∑ i ∈ Finset.range n, f i : ℝ) : EReal) := by
  rw [← coe_sum_fin]
  exact Finset.sum_congr rfl fun i _ => hx i

/-- The scale `1/8`. -/
theorem ofBits_eighth : Ideal.ofBits .f32 0x3E000000#32 = ((1 / 8 : ℝ) : EReal) := by
  simp [Ideal.ofBits, Ideal.ieee, zpow_neg]
  norm_num
  rw [← EReal.coe_mul]
  norm_num

/-- The least value a maximum starts from. -/
theorem ofBits_bot : Ideal.ofBits .f32 0xFF800000#32 = ⊥ := by
  simp [Ideal.ofBits, Ideal.ieee]

/-- The greatest value. -/
theorem ofBits_top : Ideal.ofBits .f32 0x7F800000#32 = ⊤ := by
  simp [Ideal.ofBits, Ideal.ieee]

/-- The maximum of finitely many reals, at least one, is a real. -/
theorem fold_max_real {n : ℕ} (hn : 0 < n) (f : Fin n → EReal) (hf : ∀ i, ∃ r : ℝ, f i = (r : EReal)) :
    ∃ r : ℝ, Finset.fold max ⊥ f Finset.univ = (r : EReal) := by
  classical
  have key : ∀ s : Finset (Fin n), Finset.fold max ⊥ f s = ⊥ ∧ s = ∅ ∨ ∃ r : ℝ, Finset.fold max ⊥ f s = (r : EReal) := by
    intro s
    induction s using Finset.induction_on with
    | empty => exact Or.inl ⟨by simp, rfl⟩
    | insert a s ha ih =>
      right
      obtain ⟨x, hx⟩ := hf a
      rw [Finset.fold_insert ha, hx]
      rcases ih with ⟨h, _⟩ | ⟨r, h⟩
      · exact ⟨x, by rw [h]; simp⟩
      · exact ⟨max x r, by rw [h]; exact (EReal.coe_strictMono.monotone.map_max (a := x) (b := r)).symm⟩
  rcases key Finset.univ with ⟨_, h⟩ | h
  · exact absurd (Finset.mem_univ (⟨0, hn⟩ : Fin n)) (by rw [h]; simp)
  · exact h

/-- The greater of two reals is a real. -/
theorem max_real {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, (EReal.coe_strictMono.monotone.map_max (a := a) (b := b)).symm⟩

/-! ### Sums of exponentials -/

/-- A sum of exponentials under a shift. -/
theorem sum_exp_sub (n : ℕ) (s : ℕ → ℝ) (M : ℝ) :
    (∑ j ∈ Finset.range n, Real.exp (s j - M)) = (∑ j ∈ Finset.range n, Real.exp (s j)) * Real.exp (-M) := by
  rw [Finset.sum_mul]
  exact Finset.sum_congr rfl fun j _ => by rw [← Real.exp_add, sub_eq_add_neg]

/-- A sum of exponentials, of at least one, is positive. -/
theorem sum_exp_pos {n : ℕ} (hn : 0 < n) (s : ℕ → ℝ) : 0 < ∑ j ∈ Finset.range n, Real.exp (s j) :=
  Finset.sum_pos (fun _ _ => Real.exp_pos _) ⟨0, Finset.mem_range.mpr hn⟩

/-- The logarithm of a sum of exponentials does not depend on the shift it is computed under. -/
theorem add_log_sum {n : ℕ} (hn : 0 < n) (s : ℕ → ℝ) (M : ℝ) :
    M + Real.log (∑ j ∈ Finset.range n, Real.exp (s j - M)) = Real.log (∑ j ∈ Finset.range n, Real.exp (s j)) := by
  rw [sum_exp_sub, Real.log_mul (sum_exp_pos hn s).ne' (Real.exp_pos _).ne', Real.log_exp]
  ring

/-- A softmax weight does not depend on the shift it is computed under. -/
theorem exp_sub_div {n : ℕ} (s : ℕ → ℝ) (M : ℝ) (x : ℝ) :
    Real.exp (x - M) / (∑ j ∈ Finset.range n, Real.exp (s j - M)) = Real.exp x / ∑ j ∈ Finset.range n, Real.exp (s j) := by
  rw [sum_exp_sub, sub_eq_add_neg, Real.exp_add, mul_div_mul_right _ _ (Real.exp_pos _).ne']

/-- A weight taken under a maximum, corrected by that maximum and the logarithm of the sum. -/
theorem exp_sub_mul {Z : ℝ} (hZ : 0 < Z) (x M : ℝ) : Real.exp (x - M) * Real.exp (M - Real.log Z) = Real.exp x / Z := by
  rw [← Real.exp_add, sub_add_sub_cancel, Real.exp_sub, Real.exp_log hZ]

/-- The ideal logarithm of a positive real. -/
theorem log_pos {Z : ℝ} (hZ : 0 < Z) : Ideal.log (Z : EReal) = (Real.log Z : EReal) := by
  rw [Ideal.log_coe, if_neg (not_le.mpr hZ)]

/-- A quotient of reals, the divisor not zero. -/
theorem div_real {x y : ℝ} (hy : y ≠ 0) : Ideal.div (x : EReal) (y : EReal) = ((x / y : ℝ) : EReal) := by
  rw [Ideal.div_coe hy, ← EReal.coe_mul, mul_one_div]

/-! ### The attention's numbers -/

/-- The call's arguments by head: queries, keys, values and the output's cotangent, each at a position, a head and a lane. -/
structure Args where
  Q : ℕ → ℕ → ℕ → ℝ
  K : ℕ → ℕ → ℕ → ℝ
  V : ℕ → ℕ → ℕ → ℝ
  C : ℕ → ℕ → ℕ → ℝ

namespace Args
variable (A : Args)

/-- The score of key `j` for query `i` in head `h`; four heads share a key and value head. -/
def s (h j i : ℕ) : ℝ := (∑ d ∈ Finset.range 64, A.K j (h / 4) d * A.Q i h d) * (1 / 8)
/-- The sum of the exponentials of a query's scores. -/
def z (h i : ℕ) : ℝ := ∑ j ∈ Finset.range 16640, Real.exp (A.s h j i)
/-- The attention weight. -/
def p (h j i : ℕ) : ℝ := Real.exp (A.s h j i) / A.z h i
/-- The attention's output. -/
def o (h i d : ℕ) : ℝ := ∑ j ∈ Finset.range 16640, A.V j (h / 4) d * A.p h j i
/-- The weight's cotangent. -/
def dp (h j i : ℕ) : ℝ := ∑ d ∈ Finset.range 64, A.V j (h / 4) d * A.C i h d
/-- The mean of the weights' cotangents under the weights. -/
def dl (h i : ℕ) : ℝ := ∑ j ∈ Finset.range 16640, A.p h j i * A.dp h j i
/-- The score's cotangent. -/
def ds (h j i : ℕ) : ℝ := A.p h j i * (A.dp h j i - A.dl h i)
/-- The gradient of the queries. -/
def dq (h i d : ℕ) : ℝ := (∑ j ∈ Finset.range 16640, A.K j (h / 4) d * A.ds h j i) * (1 / 8)
/-- The gradient of the keys. -/
def dk (a j d : ℕ) : ℝ :=
  ∑ g ∈ Finset.range 4, ∑ i ∈ Finset.range 16384, A.Q i (4 * a + g) d * (1 / 8) * A.ds (4 * a + g) j i
/-- The gradient of the values. -/
def dv (a j d : ℕ) : ℝ := ∑ g ∈ Finset.range 4, ∑ i ∈ Finset.range 16384, A.C i (4 * a + g) d * A.p (4 * a + g) j i

theorem z_pos (h i : ℕ) : 0 < A.z h i := sum_exp_pos (by norm_num) _

/-- The mean is the cotangent against the output. -/
theorem dl_eq (h i : ℕ) : A.dl h i = ∑ d ∈ Finset.range 64, A.C i h d * A.o h i d := by
  unfold dl o dp
  simp only [Finset.mul_sum]
  rw [Finset.sum_comm]
  exact Finset.sum_congr rfl fun d _ => Finset.sum_congr rfl fun j _ => by ring

end Args

/-- The numbers in the four arguments' arrays. -/
def argsOf (q : FVec Ideal S16384x2x4x64 .f32) (k v : FVec Ideal S16640x2x64 .f32) (ct : FVec Ideal S16384x512 .f32) : Args where
  Q i h d := if H : i < 16384 ∧ h < 8 ∧ d < 64 then
    EReal.toReal (q (ix4 ⟨i, H.1⟩ ⟨h / 4, by omega⟩ ⟨h % 4, by omega⟩ ⟨d, H.2.2⟩)) else 0
  K j a d := if H : j < 16640 ∧ a < 2 ∧ d < 64 then EReal.toReal (k (ix3 ⟨j, H.1⟩ ⟨a, H.2.1⟩ ⟨d, H.2.2⟩)) else 0
  V j a d := if H : j < 16640 ∧ a < 2 ∧ d < 64 then EReal.toReal (v (ix3 ⟨j, H.1⟩ ⟨a, H.2.1⟩ ⟨d, H.2.2⟩)) else 0
  C i h d := if H : i < 16384 ∧ h < 8 ∧ d < 64 then EReal.toReal (ct (ix2 ⟨i, H.1⟩ ⟨h * 64 + d, by omega⟩)) else 0

/-- The four arguments hold real numbers. -/
structure AllReal (q : FVec Ideal S16384x2x4x64 .f32) (k v : FVec Ideal S16640x2x64 .f32) (ct : FVec Ideal S16384x512 .f32) : Prop where
  q : ∀ i, ∃ r : ℝ, q i = (r : EReal)
  k : ∀ i, ∃ r : ℝ, k i = (r : EReal)
  v : ∀ i, ∃ r : ℝ, v i = (r : EReal)
  ct : ∀ i, ∃ r : ℝ, ct i = (r : EReal)

/-- A real read back. -/
theorem real_read {x : EReal} (h : ∃ r : ℝ, x = (r : EReal)) : x = (EReal.toReal x : EReal) := by
  obtain ⟨r, rfl⟩ := h; rfl

section
variable {q : FVec Ideal S16384x2x4x64 .f32} {k v : FVec Ideal S16640x2x64 .f32} {ct : FVec Ideal S16384x512 .f32}
  (R : AllReal q k v ct)
include R

/-- A query's number, at a head given by its two indices. -/
theorem q_read (i : Fin 16384) (a : Fin 2) (g : Fin 4) (d : Fin 64) {h : ℕ} (ha : h / 4 = a) (hg : h % 4 = g) :
    q (ix4 i a g d) = ((argsOf q k v ct).Q i h d : ℝ) := by
  have H : (i : ℕ) < 16384 ∧ h < 8 ∧ (d : ℕ) < 64 := ⟨i.2, by have := a.2; have := g.2; omega, d.2⟩
  have e1 : a = ⟨h / 4, by omega⟩ := Fin.ext ha.symm
  have e2 : g = ⟨h % 4, by omega⟩ := Fin.ext hg.symm
  rw [real_read (R.q _)]
  simp only [argsOf, dif_pos H, e1, e2]

/-- A key's number. -/
theorem k_read (j : Fin 16640) (a : Fin 2) (d : Fin 64) : k (ix3 j a d) = ((argsOf q k v ct).K j a d : ℝ) := by
  rw [real_read (R.k _)]
  simp only [argsOf, dif_pos (show (j : ℕ) < 16640 ∧ (a : ℕ) < 2 ∧ (d : ℕ) < 64 from ⟨j.2, a.2, d.2⟩)]

/-- A value's number. -/
theorem v_read (j : Fin 16640) (a : Fin 2) (d : Fin 64) : v (ix3 j a d) = ((argsOf q k v ct).V j a d : ℝ) := by
  rw [real_read (R.v _)]
  simp only [argsOf, dif_pos (show (j : ℕ) < 16640 ∧ (a : ℕ) < 2 ∧ (d : ℕ) < 64 from ⟨j.2, a.2, d.2⟩)]

/-- A cotangent's number, at a lane given by its head and its lane in the head. -/
theorem ct_read (i : Fin 16384) (l : Fin 512) {h d : ℕ} (hd : d < 64) (hl : h * 64 + d = l) :
    ct (ix2 i l) = ((argsOf q k v ct).C i h d : ℝ) := by
  have H : (i : ℕ) < 16384 ∧ h < 8 ∧ d < 64 := ⟨i.2, by have := l.2; omega, hd⟩
  have e : l = ⟨h * 64 + d, by omega⟩ := Fin.ext hl.symm
  rw [real_read (R.ct _)]
  simp only [argsOf, dif_pos H, e]

end

end Cert.KernelIdeal.Glob

end
-- ==== Proof.Pays.lean ====
module

public import proofs.«01_k».proof.Proof.Gen.KernelIdeal.Skeleton
public import Idealize.ShloMosaic.Lib.Pointwise

@[expose] public section

set_option maxRecDepth 16384

noncomputable section

namespace Cert.KernelIdeal.Glob

open Idealize.ShloMosaic Idealize.ShloMosaic.TcCoe Idealize.SL.Sem
open Cert.KernelIdeal Cert.KernelIdeal.Gen

/-! # The kernel's values at an index, over the extended reals -/

theorem pay1_at (x : FVec Ideal S128x512 .f32) (r : Fin 128) (j : Fin 512) : k0_pay1 x (ix3 0 r j) = x (ix2 r j) := by
  pointwise [k0_pay1]
theorem pay4_at (i : S128x256.Idx) : k0_pay4 (F := Ideal) i = (0 : EReal) := by pointwise [k0_pay4]
theorem pay5_at (i : S128x256.Idx) : k0_pay5 (F := Ideal) i = (0 : EReal) := by pointwise [k0_pay5]
theorem pay6_at (r : Fin 128) (k : Fin 16384) : k0_pay6 (F := Ideal) (ix2 r k) = (0 : EReal) := by pointwise [k0_pay6]
theorem pay7_at (r : Fin 128) (k : Fin 16384) : k0_pay7 (F := Ideal) (ix2 r k) = (0 : EReal) := by pointwise [k0_pay7]
theorem pay8_at (x : FVec Ideal S1x128x512 .bf16) (r : Fin 128) (j : Fin 512) : k0_pay8 x (ix2 r j) = x (ix3 0 r j) := by
  pointwise [k0_pay8]
theorem pay9_at (x : FVec Ideal S1x128x512 .bf16) (r : Fin 128) (j : Fin 512) : k0_pay9 x (ix2 r j) = x (ix3 0 r j) := by
  pointwise [k0_pay9]
theorem pay10_at (x : FVec Ideal S1x1x512 .f32) (j : Fin 512) : k0_pay10 x (ix2 0 j) = x (ix3 0 0 j) := by
  pointwise [k0_pay10]
/-- The row sums of `do * o`. -/
theorem pay11_at (go o : FVec Ideal S1x128x512 .bf16) (j : Fin 512) :
    k0_pay11 (F := Ideal) go o (ix2 0 j) = ∑ r : Fin 128, (show EReal from go (ix3 0 r j)) * (show EReal from o (ix3 0 r j)) := by
  pointwise [k0_pay11, k0_pay9]
/-- The product `v · do` of the first chunk. -/
theorem pay12_at (go : FVec Ideal S1x128x512 .bf16) (v : FVec Ideal S512x128 .bf16) (k j : Fin 512) :
    k0_pay12 (F := Ideal) go v (ix2 k j) = ∑ r : Fin 128, (show EReal from v (ix2 k r)) * (show EReal from go (ix3 0 r j)) := by
  pointwise [k0_pay12, k0_pay9]
/-- The product `v · do` of a chunk. -/
theorem pay2_at (go : FVec Ideal S128x512 .bf16) (v : FVec Ideal S512x128 .bf16) (k j : Fin 512) :
    k0_pay2 (F := Ideal) go v (ix2 k j) = ∑ r : Fin 128, (show EReal from v (ix2 k r)) * (show EReal from go (ix2 r j)) := by
  pointwise [k0_pay2]
theorem pay23_at (x : FVec Ideal S512x512 .f32) (k j : Fin 512) : k0_pay23 x (ix2 k j) = x (ix2 k j) := by
  pointwise [k0_pay23]
/-- `dq` after a trip. -/
theorem pay20_at (lse del : FVec Ideal S1x512 .f32) (dp : FVec Ideal S512x512 .f32) (p : FVec Ideal S512x512 .bf16)
    (mr : FVec Ideal S1x1x512 .f32) (acc : FVec Ideal S128x512 .f32) (kt : FVec Ideal S128x512 .bf16) (r : Fin 128) (j : Fin 512) :
    k0_pay20 lse del dp p mr acc kt (ix2 r j) = (show EReal from acc (ix2 r j)) + ∑ k : Fin 512, (show EReal from kt (ix2 r k))
      * ((show EReal from p (ix2 k j)) * Ideal.exp (mr (ix3 0 0 j) - lse (ix2 0 j)) * (dp (ix2 k j) - del (ix2 0 j))) := by
  pointwise [k0_pay20, k0_pay19, k0_pay18]
/-- A chunk of `dk` after a trip. -/
theorem pay21_at (q : FVec Ideal S128x512 .bf16) (lse del : FVec Ideal S1x512 .f32) (dp : FVec Ideal S512x512 .f32) (p : FVec Ideal S512x512 .bf16)
    (mr : FVec Ideal S1x1x512 .f32) (dk : FVec Ideal S128x512 .f32) (r : Fin 128) (k : Fin 512) :
    k0_pay21 q lse del dp p mr dk (ix2 r k) = (show EReal from dk (ix2 r k)) + ∑ j : Fin 512, (show EReal from q (ix2 r j))
      * ((show EReal from p (ix2 k j)) * Ideal.exp (mr (ix3 0 0 j) - lse (ix2 0 j)) * (dp (ix2 k j) - del (ix2 0 j))) := by
  pointwise [k0_pay21, k0_pay19, k0_pay18]
/-- A chunk of `dv` after a trip. -/
theorem pay22_at (go : FVec Ideal S128x512 .bf16) (lse : FVec Ideal S1x512 .f32) (p : FVec Ideal S512x512 .bf16)
    (mr : FVec Ideal S1x1x512 .f32) (dv : FVec Ideal S128x512 .f32) (r : Fin 128) (k : Fin 512) :
    k0_pay22 go lse p mr dv (ix2 r k) = (show EReal from dv (ix2 r k)) + ∑ j : Fin 512, (show EReal from go (ix2 r j))
      * ((show EReal from p (ix2 k j)) * Ideal.exp (mr (ix3 0 0 j) - lse (ix2 0 j))) := by
  pointwise [k0_pay22, k0_pay18]
/-- `dq` after the context. -/
theorem pay15_at (go : FVec Ideal S128x512 .bf16) (lse del : FVec Ideal S1x512 .f32) (p : FVec Ideal S256x512 .bf16)
    (mr : FVec Ideal S1x1x512 .f32) (vc : FVec Ideal S256x128 .bf16) (kc : FVec Ideal S128x256 .bf16) (r : Fin 128) (j : Fin 512) :
    k0_pay15 (F := Ideal) go lse del p mr vc kc (ix2 r j) = ∑ k : Fin 256, (show EReal from kc (ix2 r k))
      * ((show EReal from p (ix2 k j)) * Ideal.exp (mr (ix3 0 0 j) - lse (ix2 0 j))
        * ((∑ s : Fin 128, (show EReal from vc (ix2 k s)) * (show EReal from go (ix2 s j))) - del (ix2 0 j))) := by
  pointwise [k0_pay15, k0_pay14, k0_pay13]
/-- The context's `dk` after a point. -/
theorem pay16_at (q go : FVec Ideal S128x512 .bf16) (lse del : FVec Ideal S1x512 .f32) (p : FVec Ideal S256x512 .bf16)
    (mr : FVec Ideal S1x1x512 .f32) (vc : FVec Ideal S256x128 .bf16) (dkc : FVec Ideal S128x256 .f32) (r : Fin 128) (k : Fin 256) :
    k0_pay16 q go lse del p mr vc dkc (ix2 r k) = (show EReal from dkc (ix2 r k)) + ∑ j : Fin 512, (show EReal from q (ix2 r j))
      * ((show EReal from p (ix2 k j)) * Ideal.exp (mr (ix3 0 0 j) - lse (ix2 0 j))
        * ((∑ s : Fin 128, (show EReal from vc (ix2 k s)) * (show EReal from go (ix2 s j))) - del (ix2 0 j))) := by
  pointwise [k0_pay16, k0_pay14, k0_pay13]
/-- The context's `dv` after a point. -/
theorem pay17_at (go : FVec Ideal S128x512 .bf16) (lse : FVec Ideal S1x512 .f32) (p : FVec Ideal S256x512 .bf16)
    (mr : FVec Ideal S1x1x512 .f32) (dvc : FVec Ideal S128x256 .f32) (r : Fin 128) (k : Fin 256) :
    k0_pay17 go lse p mr dvc (ix2 r k) = (show EReal from dvc (ix2 r k)) + ∑ j : Fin 512, (show EReal from go (ix2 r j))
      * ((show EReal from p (ix2 k j)) * Ideal.exp (mr (ix3 0 0 j) - lse (ix2 0 j))) := by
  pointwise [k0_pay17, k0_pay13]

end Cert.KernelIdeal.Glob

end
-- ==== Proof.TripVal.lean ====
module

public import proofs.«01_k».proof.Proof.Nums
public import proofs.«01_k».proof.Proof.Pays
public import proofs.«01_k».proof.Proof.Part4

@[expose] public section

set_option maxRecDepth 16384

noncomputable section

namespace Cert.KernelIdeal.Glob

open Idealize.ShloMosaic Idealize.ShloMosaic.TcCoe Idealize.SL.Sem
open Cert.KernelIdeal Cert.KernelIdeal.Gen

/-! ### Windows at an index -/

theorem win_mr (x : S1x17x512.Idx → EReal) (n : ℕ) (hn : n < 17) (h) (j : Fin 512) :
    VecWindow.window x ![0, n, 0] S1x1x512.size h (ix3 0 0 j) = x (ix3 0 ⟨n, hn⟩ j) := by
  refine congrArg x (funext fun d => Fin.ext ?_)
  fin_cases d
  · rfl
  · show n + 1 * 0 = n; omega
  · show 0 + 1 * j.val = j.val; omega
theorem win_kt (x : S128x16384.Idx → EReal) (n : ℕ) (hn : n < 32) (h) (r : Fin 128) (j : Fin 512) :
    VecWindow.window x ![0, 512 * n] S128x512.size h (ix2 r j) = x (ix2 r ⟨512 * n + j, by omega⟩) := by
  refine congrArg x (funext fun d => Fin.ext ?_)
  fin_cases d
  · show 0 + 1 * r.val = r.val; omega
  · show 512 * n + 1 * j.val = 512 * n + j.val; omega
theorem win_v (x : S16384x128.Idx → EReal) (o : ℕ) (ho : o ≤ 15872) (h) (k : Fin 512) (r : Fin 128) :
    VecWindow.window x ![o, 0] S512x128.size h (ix2 k r) = x (ix2 ⟨o + k, by omega⟩ r) := by
  refine congrArg x (funext fun d => Fin.ext ?_)
  fin_cases d
  · show o + 1 * k.val = o + k.val; omega
  · show 0 + 1 * r.val = r.val; omega
/-- A chunk of columns written over: inside it the new values, outside it the old. -/
theorem put_at (x : S128x16384.Idx → EReal) (n : ℕ) (w : S128x512.Idx → EReal) (r : Fin 128) (k : Fin 16384) :
    VecWindow.put x ![0, 512 * n] S128x512.size w (ix2 r k)
      = if h : 512 * n ≤ k ∧ (k : ℕ) < 512 * n + 512 then w (ix2 r ⟨k - 512 * n, by omega⟩) else x (ix2 r k) := by
  unfold VecWindow.put
  have hi : (∀ a : Fin S128x16384.rank, (![0, 512 * n] : Fin 2 → ℕ) a ≤ (ix2 r k a).val ∧ (ix2 r k a).val < (![0, 512 * n] : Fin 2 → ℕ) a + S128x512.size a)
      ↔ 512 * n ≤ k ∧ (k : ℕ) < 512 * n + 512 := by
    constructor
    · intro h; exact h 1
    · intro h a
      fin_cases a
      · exact ⟨Nat.zero_le _, by show r.val < 0 + 128; omega⟩
      · exact h
  by_cases h : 512 * n ≤ k ∧ (k : ℕ) < 512 * n + 512
  · rw [dif_pos h, dif_pos (hi.mpr h)]
    refine congrArg w (funext fun d => Fin.ext ?_)
    fin_cases d
    · show r.val - 0 = r.val; omega
    · rfl
  · rw [dif_neg h, dif_neg (fun c => h (hi.mp c))]

/-- A block of the stored weights at an index. -/
theorem pBlk_at (E : Env Ideal) (n : ℕ) (hn : n < 32) (k j : Fin 512) :
    pBlk E n (ix2 k j) = E.p (ix4 E.a E.b ⟨512 * n + k, by omega⟩ j) := by
  have e : srcOff E.a.val E.b.val n = ![E.a.val, E.b.val, 512 * n, 0] := by rw [srcOff, if_pos hn]
  have h : ∀ x : S1x1x512x512.Idx → EReal, shapeCast S512x512 x
      (Shape.Squeezes.numel_eq (by first | exact squeezes_S1x1x512x512_S512x512 | decide)) (ix2 k j) = x (ix4 0 0 k j) := by
    intro x
    pointwise
  refine (h _).trans (congrArg E.p (funext fun d => Fin.ext ?_))
  show srcOff E.a.val E.b.val n d + 1 * (ix4 0 0 k j d).val = (ix4 E.a E.b ⟨512 * n + k, by omega⟩ j d).val
  rw [e]
  fin_cases d
  · rfl
  · rfl
  · show 512 * n + 1 * k.val = 512 * n + k.val; omega
  · show 0 + 1 * j.val = j.val; omega

theorem off1_eq' : ∀ (a : Fin 8) (b : Fin 32), k0_off1 (fun d => match d with | ⟨0, _⟩ => a | ⟨1, _⟩ => b) = ![a.val, b.val, 16384, 0] := by
  decide +kernel

/-- The context's block of the stored weights at an index. -/
theorem pcBlk_at (i : grid0.Coords) (p : S8x32x17664x512.Idx → EReal) (k : Fin 256) (j : Fin 512) :
    pcBlk (F := Ideal) i p (ix2 k j) = p (ix4 (ga i) (gb i) ⟨16384 + k, by omega⟩ j) := by
  have e : k0_off1 i = ![(ga i).val, (gb i).val, 16384, 0] := off1_eq' (i 0) (i 1)
  have h : ∀ x : S1x1x256x512.Idx → EReal, shapeCast S256x512 x
      (Shape.Squeezes.numel_eq (by first | exact squeezes_S1x1x256x512_S256x512 | decide)) (ix2 k j) = x (ix4 0 0 k j) := by
    intro x
    pointwise
  refine (h _).trans (congrArg p (funext fun d => Fin.ext ?_))
  show k0_off1 i d + 1 * (ix4 0 0 k j d).val = (ix4 (ga i) (gb i) ⟨16384 + k, by omega⟩ j d).val
  rw [e]
  fin_cases d
  · rfl
  · rfl
  · show 16384 + 1 * k.val = 16384 + k.val; omega
  · show 0 + 1 * j.val = j.val; omega

/-! ### The numbers at a grid point -/

/-- What a grid point works with, as real numbers: queries and cotangent by lane and query, weights by key and query, the
    weights' mean cotangent by query, keys and values by key and lane. -/
structure Pt where
  q : ℕ → ℕ → ℝ
  go : ℕ → ℕ → ℝ
  w : ℕ → ℕ → ℝ
  del : ℕ → ℝ
  k : ℕ → ℕ → ℝ
  v : ℕ → ℕ → ℝ

/-- A weight's cotangent. -/
def Pt.dp (D : Pt) (k j : ℕ) : ℝ := ∑ r ∈ Finset.range 128, D.v k r * D.go r j
/-- A score's cotangent. -/
def Pt.ds (D : Pt) (k j : ℕ) : ℝ := D.w k j * (D.dp k j - D.del j)

/-- The buffers the trips read hold the numbers `D`. -/
structure EnvHolds (E : Env Ideal) (D : Pt) : Prop where
  q : ∀ (r : Fin 128) (j : Fin 512), E.q (ix2 r j) = ((D.q r j : ℝ) : EReal)
  go : ∀ (r : Fin 128) (j : Fin 512), E.go (ix2 r j) = ((D.go r j : ℝ) : EReal)
  del : ∀ j : Fin 512, E.delta (ix2 0 j) = ((D.del j : ℝ) : EReal)
  w : ∀ (k : Fin 16384) (j : Fin 512), (show EReal from E.p (ix4 E.a E.b ⟨k, by omega⟩ j))
    * Ideal.exp ((show EReal from E.mr (ix3 0 ⟨k / 1024, by omega⟩ j)) - E.lse (ix2 0 j)) = ((D.w k j : ℝ) : EReal)
  k : ∀ (r : Fin 128) (k : Fin 16384), E.kt (ix2 r k) = ((D.k k r : ℝ) : EReal)
  v : ∀ (k : Fin 16384) (r : Fin 128), E.v (ix2 k r) = ((D.v k r : ℝ) : EReal)

/-- What the buffers a trip changes hold before trip `n`: `dq` the context's share `a` and the first `n` chunks', the next
    chunk's weight cotangents, and the running sums `b` and `c` with the chunks so far added. -/
structure Inv (D : Pt) (a b c : ℕ → ℕ → ℝ) (n : ℕ) (s : St Ideal) : Prop where
  acc : ∀ (r : Fin 128) (j : Fin 512), s.acc (ix2 r j) = ((a r j + ∑ k ∈ Finset.range (512 * n), D.k k r * D.ds k j : ℝ) : EReal)
  dp : ∀ k j : Fin 512, s.dp (ix2 k j) = ((D.dp (512 * min n 31 + k) j : ℝ) : EReal)
  dk : ∀ (r : Fin 128) (k : Fin 16384), s.dk (ix2 r k)
    = ((b r k + (if (k : ℕ) < 512 * n then ∑ j ∈ Finset.range 512, D.q r j * D.ds k j else 0) : ℝ) : EReal)
  dv : ∀ (r : Fin 128) (k : Fin 16384), s.dv (ix2 r k)
    = ((c r k + (if (k : ℕ) < 512 * n then ∑ j ∈ Finset.range 512, D.go r j * D.w k j else 0) : ℝ) : EReal)

section
variable {E : Env Ideal} {D : Pt} (H : EnvHolds E D)
include H

/-- A chunk's weight, corrected. -/
theorem chunk_w (n : ℕ) (hn : n < 32) (k j : Fin 512) :
    (show EReal from pBlk E n (ix2 k j)) * Ideal.exp ((show EReal from VecWindow.window E.mr ![0, n / 2, 0] S1x1x512.size (mr_inb n hn) (ix3 0 0 j)) - E.lse (ix2 0 j))
      = ((D.w (512 * n + k) j : ℝ) : EReal) := by
  have h := H.w ⟨512 * n + k, by omega⟩ j
  have e : (⟨n / 2, by omega⟩ : Fin 17) = ⟨(512 * n + k) / 1024, by omega⟩ := Fin.ext (by show n / 2 = (512 * n + k.val) / 1024; omega)
  rw [pBlk_at E n hn k j]
  refine (congrArg (fun y : EReal => (show EReal from E.p (ix4 E.a E.b ⟨512 * n + k, by omega⟩ j)) * Ideal.exp (y - E.lse (ix2 0 j))) ?_).trans h
  rw [win_mr E.mr (n / 2) (by omega) _ j, e]

/-- A chunk's score cotangent. -/
theorem chunk_ds (n : ℕ) (hn : n < 32) (dp : S512x512.Idx → EReal)
    (hdp : ∀ k j : Fin 512, dp (ix2 k j) = ((D.dp (512 * n + k) j : ℝ) : EReal)) (k j : Fin 512) :
    (show EReal from pBlk E n (ix2 k j)) * Ideal.exp ((show EReal from VecWindow.window E.mr ![0, n / 2, 0] S1x1x512.size (mr_inb n hn) (ix3 0 0 j)) - E.lse (ix2 0 j))
      * (dp (ix2 k j) - E.delta (ix2 0 j)) = ((D.ds (512 * n + k) j : ℝ) : EReal) := by
  rw [chunk_w H n hn k j, hdp, H.del, ← EReal.coe_sub, ← EReal.coe_mul]
  rfl

/-- A sum over a chunk put behind the sum over the chunks before it. -/
theorem sum_chunk (n : ℕ) (f : ℕ → ℝ) (x : ℝ) :
    ((x + ∑ k ∈ Finset.range (512 * n), f k : ℝ) : EReal) + ((∑ k ∈ Finset.range 512, f (512 * n + k) : ℝ) : EReal)
      = ((x + ∑ k ∈ Finset.range (512 * (n + 1)), f k : ℝ) : EReal) := by
  rw [← EReal.coe_add, Nat.mul_succ, Finset.sum_range_add, add_assoc]

/-- One trip keeps the invariant. -/
theorem inv_step {a b c : ℕ → ℕ → ℝ} (n : ℕ) (hn : n < 32) (s : St Ideal) (h : Inv D a b c n s) :
    Inv D a b c (n + 1) (stepSt E n hn s) := by
  have hdp : ∀ k j : Fin 512, s.dp (ix2 k j) = ((D.dp (512 * n + k) j : ℝ) : EReal) := fun k j => by
    rw [h.dp k j, min_eq_left (by omega)]
  refine ⟨fun r j => ?_, fun k j => ?_, fun r k => ?_, fun r k => ?_⟩
  · refine (pay20_at _ _ _ _ _ _ _ r j).trans ((congrArg₂ (· + ·) (h.acc r j) (sum_coe (fun k => D.k (512 * n + k) r * D.ds (512 * n + k) j) fun k => ?_)).trans
      (sum_chunk H n (fun k => D.k k r * D.ds k j) (a r j)))
    exact (congrArg₂ (· * ·) ((win_kt E.kt n hn _ r k).trans (H.k r ⟨512 * n + k, by omega⟩)) (chunk_ds H n hn s.dp hdp k j)).trans (EReal.coe_mul _ _).symm
  · refine (pay23_at _ k j).trans ((pay2_at _ _ k j).trans (sum_coe_mul (fun r => D.v (512 * min (n + 1) 31 + k) r) (fun r => D.go r j) (fun r => ?_) fun r => H.go r j))
    exact (win_v E.v _ (by omega) _ k r).trans (H.v ⟨512 * min (n + 1) 31 + k, by omega⟩ r)
  · refine (put_at _ n _ r k).trans ?_
    by_cases hk : 512 * n ≤ k ∧ (k : ℕ) < 512 * n + 512
    · rw [dif_pos hk]
      refine (pay21_at _ _ _ _ _ _ _ r ⟨k - 512 * n, by omega⟩).trans ((congrArg₂ (· + ·) ((win_kt s.dk n hn _ r _).trans (h.dk r _))
        (sum_coe (fun j => D.q r j * D.ds (512 * n + (k - 512 * n)) j) fun j => ?_)).trans ?_)
      · exact (congrArg₂ (· * ·) (H.q r j) (chunk_ds H n hn s.dp hdp ⟨k - 512 * n, by omega⟩ j)).trans (EReal.coe_mul _ _).symm
      · have e : 512 * n + ((k : ℕ) - 512 * n) = k := by omega
        simp only [e]
        rw [if_neg (by omega), if_pos (by omega), add_zero, ← EReal.coe_add]
    · rw [dif_neg hk, h.dk r k]
      by_cases h1 : (k : ℕ) < 512 * n
      · rw [if_pos h1, if_pos (by omega)]
      · rw [if_neg h1, if_neg (by omega)]
  · refine (put_at _ n _ r k).trans ?_
    by_cases hk : 512 * n ≤ k ∧ (k : ℕ) < 512 * n + 512
    · rw [dif_pos hk]
      refine (pay22_at _ _ _ _ _ r ⟨k - 512 * n, by omega⟩).trans ((congrArg₂ (· + ·) ((win_kt s.dv n hn _ r _).trans (h.dv r _))
        (sum_coe (fun j => D.go r j * D.w (512 * n + (k - 512 * n)) j) fun j => ?_)).trans ?_)
      · exact (congrArg₂ (· * ·) (H.go r j) (chunk_w H n hn ⟨k - 512 * n, by omega⟩ j)).trans (EReal.coe_mul _ _).symm
      · have e : 512 * n + ((k : ℕ) - 512 * n) = k := by omega
        simp only [e]
        rw [if_neg (by omega), if_pos (by omega), add_zero, ← EReal.coe_add]
    · rw [dif_neg hk, h.dv r k]
      by_cases h1 : (k : ℕ) < 512 * n
      · rw [if_pos h1, if_pos (by omega)]
      · rw [if_neg h1, if_neg (by omega)]

/-- The invariant holds before every trip. -/
theorem inv_at {a b c : ℕ → ℕ → ℝ} (s : St Ideal) (h : Inv D a b c 0 s) : ∀ n, n ≤ 32 → Inv D a b c n (stAt E s n)
  | 0, _ => h
  | n + 1, hn => by
    rw [stAt_succ E s n (by omega)]
    exact inv_step H n (by omega) _ (inv_at s h n (by omega))

end

end Cert.KernelIdeal.Glob

end
-- ==== Proof.PointVal.lean ====
module

public import proofs.«01_k».proof.Proof.TripVal
public import proofs.«01_k».proof.Proof.Data

@[expose] public section

set_option maxRecDepth 16384

noncomputable section

namespace Cert.KernelIdeal.Glob

open Idealize.ShloMosaic Idealize.ShloMosaic.TcCoe Idealize.SL.Sem
open Cert.KernelIdeal Cert.KernelIdeal.Gen

/-- The blocks at a grid point hold the numbers `D`. -/
structure PointHolds (i : grid0.Coords) (X : Ins Ideal) (D : Pt) : Prop where
  q : ∀ (r : Fin 128) (j : Fin 512), X.q (ix3 0 r j) = ((D.q r j : ℝ) : EReal)
  go : ∀ (r : Fin 128) (j : Fin 512), X.go (ix3 0 r j) = ((D.go r j : ℝ) : EReal)
  del : ∀ j : Fin 512, k0_pay11 (F := Ideal) X.go X.o (ix2 0 j) = ((D.del j : ℝ) : EReal)
  w : ∀ (k : Fin 16384) (j : Fin 512), (show EReal from X.p (ix4 (ga i) (gb i) ⟨k, by omega⟩ j))
    * Ideal.exp ((show EReal from X.mr (ix3 0 ⟨k / 1024, by omega⟩ j)) - (show EReal from X.lse (ix3 0 0 j))) = ((D.w k j : ℝ) : EReal)
  wc : ∀ (k : Fin 256) (j : Fin 512), (show EReal from X.p (ix4 (ga i) (gb i) ⟨16384 + k, by omega⟩ j))
    * Ideal.exp ((show EReal from X.mr (ix3 0 16 j)) - (show EReal from X.lse (ix3 0 0 j))) = ((D.w (16384 + k) j : ℝ) : EReal)
  k : ∀ (r : Fin 128) (k : Fin 16384), X.kt (ix2 r k) = ((D.k k r : ℝ) : EReal)
  v : ∀ (k : Fin 16384) (r : Fin 128), X.v (ix2 k r) = ((D.v k r : ℝ) : EReal)
  kc : ∀ (r : Fin 128) (k : Fin 256), X.kc (ix2 r k) = ((D.k (16384 + k) r : ℝ) : EReal)
  vc : ∀ (k : Fin 256) (r : Fin 128), X.vc (ix2 k r) = ((D.v (16384 + k) r : ℝ) : EReal)

section
variable {i : grid0.Coords} {X : Ins Ideal} {D : Pt} (P : PointHolds i X D)
include P

theorem env_holds : EnvHolds (envOf i X) D where
  q r j := (pay8_at X.q r j).trans (P.q r j)
  go r j := (pay9_at X.go r j).trans (P.go r j)
  del := P.del
  w k j := (congrArg (fun y : EReal => (show EReal from X.p (ix4 (ga i) (gb i) ⟨k, by omega⟩ j))
    * Ideal.exp ((show EReal from X.mr (ix3 0 ⟨k / 1024, by omega⟩ j)) - y)) (pay10_at X.lse j)).trans (P.w k j)
  k := P.k
  v := P.v

/-- The context's weight, corrected. -/
theorem ctx_w (k : Fin 256) (j : Fin 512) :
    (show EReal from pcBlk (F := Ideal) i X.p (ix2 k j)) * Ideal.exp ((show EReal from VecWindow.window X.mr ![0, 16, 0] S1x1x512.size mrow_inb (ix3 0 0 j))
      - k0_pay10 (F := Ideal) X.lse (ix2 0 j)) = ((D.w (16384 + k) j : ℝ) : EReal) := by
  rw [pcBlk_at i X.p k j, pay10_at X.lse j]
  refine (congrArg (fun y : EReal => (show EReal from X.p (ix4 (ga i) (gb i) ⟨16384 + k, by omega⟩ j))
    * Ideal.exp (y - (show EReal from X.lse (ix3 0 0 j)))) ?_).trans (P.wc k j)
  exact win_mr X.mr 16 (by omega) _ j

/-- The context's score cotangent. -/
theorem ctx_ds (k : Fin 256) (j : Fin 512) :
    (show EReal from pcBlk (F := Ideal) i X.p (ix2 k j)) * Ideal.exp ((show EReal from VecWindow.window X.mr ![0, 16, 0] S1x1x512.size mrow_inb (ix3 0 0 j))
      - k0_pay10 (F := Ideal) X.lse (ix2 0 j))
      * ((∑ s : Fin 128, (show EReal from X.vc (ix2 k s)) * (show EReal from k0_pay9 (F := Ideal) X.go (ix2 s j))) - k0_pay11 (F := Ideal) X.go X.o (ix2 0 j))
      = ((D.ds (16384 + k) j : ℝ) : EReal) := by
  rw [ctx_w P k j, P.del, sum_coe_mul (fun s => D.v (16384 + k) s) (fun s => D.go s j) (fun s => P.vc k s)
    (fun s => (pay9_at X.go s j).trans (P.go s j)), ← EReal.coe_sub, ← EReal.coe_mul]
  rfl

/-- Before the first trip the invariant holds: `dq` starts from the context's share. -/
theorem init_inv (dk dv : S128x16384.Idx → EReal) (b c : ℕ → ℕ → ℝ)
    (hdk : ∀ (r : Fin 128) (k : Fin 16384), dk (ix2 r k) = ((b r k : ℝ) : EReal))
    (hdv : ∀ (r : Fin 128) (k : Fin 16384), dv (ix2 r k) = ((c r k : ℝ) : EReal)) :
    Inv D (fun r j => ∑ k ∈ Finset.range 256, D.k (16384 + k) r * D.ds (16384 + k) j) b c 0
      (stInit (envOf i X) (pcBlk i X.p) X.kc X.vc (k0_pay12 X.go (VecWindow.window X.v ![0, 0] S512x128.size v0_inb)) dk dv) where
  acc r j := by
    refine (pay15_at _ _ _ _ _ _ _ r j).trans ((sum_coe (fun k => D.k (16384 + k) r * D.ds (16384 + k) j) fun k => ?_).trans ?_)
    · exact (congrArg₂ (· * ·) (P.kc r k) (ctx_ds P k j)).trans (EReal.coe_mul _ _).symm
    · rw [Nat.mul_zero, Finset.range_zero, Finset.sum_empty, add_zero]
  dp k j := by
    refine (pay12_at _ _ k j).trans (sum_coe_mul (fun r => D.v (512 * min 0 31 + k) r) (fun r => D.go r j) (fun r => ?_) fun r => P.go r j)
    exact (win_v X.v 0 (by omega) _ k r).trans (P.v ⟨0 + k, by omega⟩ r)
  dk r k := by
    rw [if_neg (by omega), add_zero]
    exact hdk r k
  dv r k := by
    rw [if_neg (by omega), add_zero]
    exact hdv r k

/-- After the last trip. -/
theorem fin_inv (dk dv : S128x16384.Idx → EReal) (b c : ℕ → ℕ → ℝ)
    (hdk : ∀ (r : Fin 128) (k : Fin 16384), dk (ix2 r k) = ((b r k : ℝ) : EReal))
    (hdv : ∀ (r : Fin 128) (k : Fin 16384), dv (ix2 r k) = ((c r k : ℝ) : EReal)) :
    Inv D (fun r j => ∑ k ∈ Finset.range 256, D.k (16384 + k) r * D.ds (16384 + k) j) b c 32 (fin i X dk dv) :=
  inv_at (env_holds P) _ (init_inv P dk dv b c hdk hdv) 32 (le_refl _)

/-- A point adds its queries' share to the context's `dk`. -/
theorem newDkc_val (dkc : S128x256.Idx → EReal) (b : ℕ → ℕ → ℝ)
    (h : ∀ (r : Fin 128) (k : Fin 256), dkc (ix2 r k) = ((b r k : ℝ) : EReal)) (r : Fin 128) (k : Fin 256) :
    newDkc i X dkc (ix2 r k) = ((b r k + ∑ j ∈ Finset.range 512, D.q r j * D.ds (16384 + k) j : ℝ) : EReal) := by
  refine (pay16_at _ _ _ _ _ _ _ _ r k).trans ((congrArg₂ (· + ·) (h r k) (sum_coe (fun j => D.q r j * D.ds (16384 + k) j) fun j => ?_)).trans
    (EReal.coe_add _ _).symm)
  exact (congrArg₂ (· * ·) ((pay8_at X.q r j).trans (P.q r j)) (ctx_ds P k j)).trans (EReal.coe_mul _ _).symm

/-- A point adds its queries' share to the context's `dv`. -/
theorem newDvc_val (dvc : S128x256.Idx → EReal) (b : ℕ → ℕ → ℝ)
    (h : ∀ (r : Fin 128) (k : Fin 256), dvc (ix2 r k) = ((b r k : ℝ) : EReal)) (r : Fin 128) (k : Fin 256) :
    newDvc i X dvc (ix2 r k) = ((b r k + ∑ j ∈ Finset.range 512, D.go r j * D.w (16384 + k) j : ℝ) : EReal) := by
  refine (pay17_at _ _ _ _ _ r k).trans ((congrArg₂ (· + ·) (h r k) (sum_coe (fun j => D.go r j * D.w (16384 + k) j) fun j => ?_)).trans
    (EReal.coe_add _ _).symm)
  exact (congrArg₂ (· * ·) ((pay9_at X.go r j).trans (P.go r j)) (ctx_w P k j)).trans (EReal.coe_mul _ _).symm

end

/-! ### The running sums -/

/-- What one query's point adds to `dk` at a lane and a key. -/
def kShare (D : Pt) (r k : ℕ) : ℝ := ∑ j ∈ Finset.range 512, D.q r j * D.ds k j
/-- What one query's point adds to `dv` at a lane and a key. -/
def vShare (D : Pt) (r k : ℕ) : ℝ := ∑ j ∈ Finset.range 512, D.go r j * D.w k j

/-- The running sums are the shares of the points so far. -/
structure AccHolds (D : ℕ → Pt) (n : ℕ) (s : Acc Ideal) : Prop where
  dk : ∀ (r : Fin 128) (k : Fin 16384), s.dk (ix2 r k) = ((∑ t ∈ Finset.range n, kShare (D t) r k : ℝ) : EReal)
  dv : ∀ (r : Fin 128) (k : Fin 16384), s.dv (ix2 r k) = ((∑ t ∈ Finset.range n, vShare (D t) r k : ℝ) : EReal)
  dkc : ∀ (r : Fin 128) (k : Fin 256), s.dkc (ix2 r k) = ((∑ t ∈ Finset.range n, kShare (D t) r (16384 + k) : ℝ) : EReal)
  dvc : ∀ (r : Fin 128) (k : Fin 256), s.dvc (ix2 r k) = ((∑ t ∈ Finset.range n, vShare (D t) r (16384 + k) : ℝ) : EReal)

theorem step_holds {D : ℕ → Pt} {n : ℕ} {s : Acc Ideal} {i : grid0.Coords} {X : Ins Ideal} (P : PointHolds i X (D n)) (h : AccHolds D n s) :
    AccHolds D (n + 1) (step i X s) where
  dk r k := by
    rw [Finset.sum_range_succ]
    refine ((fin_inv P s.dk s.dv (fun r k => ∑ t ∈ Finset.range n, kShare (D t) r k) (fun r k => ∑ t ∈ Finset.range n, vShare (D t) r k)
      h.dk h.dv).dk r k).trans ?_
    rw [if_pos (by omega)]
    rfl
  dv r k := by
    rw [Finset.sum_range_succ]
    refine ((fin_inv P s.dk s.dv (fun r k => ∑ t ∈ Finset.range n, kShare (D t) r k) (fun r k => ∑ t ∈ Finset.range n, vShare (D t) r k)
      h.dk h.dv).dv r k).trans ?_
    rw [if_pos (by omega)]
    rfl
  dkc r k := by
    rw [Finset.sum_range_succ]
    exact newDkc_val P s.dkc (fun r k => ∑ t ∈ Finset.range n, kShare (D t) r (16384 + k)) h.dkc r k
  dvc r k := by
    rw [Finset.sum_range_succ]
    exact newDvc_val P s.dvc (fun r k => ∑ t ∈ Finset.range n, vShare (D t) r (16384 + k)) h.dvc r k

variable (m : (ℓ : Loc nD τ sig) → Buf (Elt Ideal) ℓ)

theorem acc_holds (c : Dev nD) (D : ℕ → Pt) (P : ∀ t : Fin cfg0.N, PointHolds (grid0.coords t) (insOf m c t) (D t.val)) :
    ∀ n, n ≤ 256 → AccHolds D n (accAt m c n)
  | 0, _ => ⟨fun r k => (pay6_at r k).trans (by rw [Finset.range_zero, Finset.sum_empty]; rfl), fun r k => (pay7_at r k).trans (by rw [Finset.range_zero, Finset.sum_empty]; rfl),
      fun r k => (pay4_at (ix2 r k)).trans (by rw [Finset.range_zero, Finset.sum_empty]; rfl), fun r k => (pay5_at (ix2 r k)).trans (by rw [Finset.range_zero, Finset.sum_empty]; rfl)⟩
  | n + 1, hn => by
    have hN : n < cfg0.N := lt_of_lt_of_eq (show n < 256 by omega) N_0.symm
    rw [accAt_succ m c ⟨n, hN⟩]
    exact step_holds (P ⟨n, hN⟩) (acc_holds c D P n (by omega))

/-- The block of `dq` a point writes. -/
theorem dqAt_val (c : Dev nD) (D : ℕ → Pt) (P : ∀ t : Fin cfg0.N, PointHolds (grid0.coords t) (insOf m c t) (D t.val))
    (t : Fin cfg0.N) (r : Fin 128) (j : Fin 512) :
    dqAt m c t (ix3 0 r j) = ((∑ k ∈ Finset.range 16640, (D t.val).k k r * (D t.val).ds k j : ℝ) : EReal) := by
  have h := acc_holds m c D P t.val (le_of_lt (lt_256 t))
  refine (pay1_at _ r j).trans (((fin_inv (P t) _ _ (fun r k => ∑ t ∈ Finset.range t.val, kShare (D t) r k) (fun r k => ∑ t ∈ Finset.range t.val, vShare (D t) r k) h.dk h.dv).acc r j).trans ?_)
  rw [show (16640 : ℕ) = 512 * 32 + 256 from rfl, Finset.sum_range_add, add_comm]

end Cert.KernelIdeal.Glob

end
-- ==== Proof.Host.lean ====
module

public import proofs.«01_k».proof.Proof.Gen.KernelIdeal.Frame
public import Idealize.ShloMosaic.Lib.Pointwise

@[expose] public section

set_option maxRecDepth 16384

noncomputable section

namespace Cert.KernelIdeal.Glob

open Idealize.ShloMosaic Idealize.ShloMosaic.TcCoe Idealize.SL.Sem
open Cert.KernelIdeal Cert.KernelIdeal.Gen

set_option maxRecDepth 100000

section
variable {F : FTy → Type} [FloatOps F]

/-- The scores: keys by queries, scaled. -/
def score (q : FVec F S16384x2x4x64 .f32) (k : FVec F S16640x2x64 .f32) : FVec F S2x4x16640x16384 .f32 :=
  mulf (transpose S2x4x16640x16384 [0, 3, 1, 2] (Host.dotGeneral dot_S16640x2x64_S16384x2x4x64_S2x16640x16384x4_2_3_0_02_1_1 none k q) transposes_S2x16640x16384x4_S2x4x16640x16384_0_3_1_2) (broadcastInDim S2x4x16640x16384 ![] bcast_S_S2x4x16640x16384 (constant S_ .f32 0x3E000000#32))
/-- Each query's greatest score over the context keys. -/
def ctxMax (q : FVec F S16384x2x4x64 .f32) (k : FVec F S16640x2x64 .f32) : FVec F S2x4x16384 .f32 :=
  Host.reduce FloatOps.maximumf (extractStridedSlice S2x4x256x16384 ![0, 0, 16384, 0] (score q k) slices_S2x4x16640x16384_S2x4x256x16384_0_0_16384_0) (constant S_ .f32 0xFF800000#32) reducesTo_S2x4x256x16384_S2x4x16384_d2 h_S_
/-- Each query's greatest score over each chunk of 1024 keys. -/
def chunkMax (q : FVec F S16384x2x4x64 .f32) (k : FVec F S16640x2x64 .f32) : FVec F S2x4x16x16384 .f32 :=
  Host.reduce FloatOps.maximumf (shapeCast _ (extractStridedSlice S2x4x16384x16384 ![0, 0, 0, 0] (score q k) slices_S2x4x16640x16384_S2x4x16384x16384_0_0_0_0) shapeCasts_S2x4x16384x16384_S2x4x16x1024x16384) (constant S_ .f32 0xFF800000#32) reducesTo_S2x4x16x1024x16384_S2x4x16x16384_d3 h_S_
/-- Each query's greatest score over the chunks up to a given one. -/
def upMax (q : FVec F S16384x2x4x64 .f32) (k : FVec F S16640x2x64 .f32) : FVec F S2x4x16x16384 .f32 :=
  Host.reduce FloatOps.maximumf (select (broadcastInDim S2x4x16x16x16384 ![0, 1, 2, 3, 4] bcast_S1x1x16x16x1_S2x4x16x16x16384_0_1_2_3_4 (broadcastInDim S1x1x16x16x1 ![2, 3] bcast_S16x16_S1x1x16x16x1_2_3 (cmpi .sle (iotaInDim S16x16 32 1) (iotaInDim S16x16 32 0)))) (broadcastInDim S2x4x16x16x16384 ![0, 1, 2, 3, 4] bcast_S2x4x1x16x16384_S2x4x16x16x16384_0_1_2_3_4 (broadcastInDim S2x4x1x16x16384 ![0, 1, 3, 4] bcast_S2x4x16x16384_S2x4x1x16x16384_0_1_3_4 (chunkMax q k))) (broadcastInDim S2x4x16x16x16384 ![0, 1, 2, 3, 4] bcast_S2x4x1x1x16384_S2x4x16x16x16384_0_1_2_3_4 (broadcastInDim S2x4x1x1x16384 ![0, 1, 4] bcast_S2x4x16384_S2x4x1x1x16384_0_1_4 (ctxMax q k)))) (constant S_ .f32 0xFF800000#32) reducesTo_S2x4x16x16x16384_S2x4x16x16384_d3 h_S_
/-- The running maxima: over the context keys and the chunks up to a given one. -/
def runMax (q : FVec F S16384x2x4x64 .f32) (k : FVec F S16640x2x64 .f32) : FVec F S2x4x16x16384 .f32 :=
  maximumf (upMax q k) (broadcastInDim S2x4x16x16384 ![0, 1, 2, 3] bcast_S2x4x1x16384_S2x4x16x16384_0_1_2_3 (broadcastInDim S2x4x1x16384 ![0, 1, 3] bcast_S2x4x16384_S2x4x1x16384_0_1_3 (ctxMax q k)))
/-- The running maximum over each chunk's keys. -/
def runRows (q : FVec F S16384x2x4x64 .f32) (k : FVec F S16640x2x64 .f32) : FVec F S2x4x16384x16384 .f32 :=
  shapeCast _ (broadcastInDim S2x4x16x1024x16384 ![0, 1, 2, 3, 4] bcast_S2x4x16x1x16384_S2x4x16x1024x16384_0_1_2_3_4 (broadcastInDim S2x4x16x1x16384 ![0, 1, 2, 4] bcast_S2x4x16x16384_S2x4x16x1x16384_0_1_2_4 (runMax q k))) shapeCasts_S2x4x16x1024x16384_S2x4x16384x16384
/-- The context's maximum over its keys. -/
def ctxRows (q : FVec F S16384x2x4x64 .f32) (k : FVec F S16640x2x64 .f32) : FVec F S2x4x256x16384 .f32 :=
  broadcastInDim S2x4x256x16384 ![0, 1, 2, 3] bcast_S2x4x1x16384_S2x4x256x16384_0_1_2_3 (broadcastInDim S2x4x1x16384 ![0, 1, 3] bcast_S2x4x16384_S2x4x1x16384_0_1_3 (ctxMax q k))
/-- The maximum each weight is taken under. -/
def maxOf (q : FVec F S16384x2x4x64 .f32) (k : FVec F S16640x2x64 .f32) : FVec F S2x4x16640x16384 .f32 :=
  concatenate S2x4x16640x16384 2 [⟨S2x4x16384x16384, (runRows q k)⟩, ⟨S2x4x256x16384, (ctxRows q k)⟩] concatenates_S2x4x16384x16384_S2x4x256x16384_S2x4x16640x16384_d2
/-- The stored weights `exp (score - maximum)`, by blocks of queries. -/
def weights (q : FVec F S16384x2x4x64 .f32) (k : FVec F S16640x2x64 .f32) : FVec F S8x32x17664x512 .bf16 :=
  truncf .bf16 (pad S8x32x17664x512 ![0, 0, 0, 0] ![0, 0, 1024, 0] ![0, 0, 0, 0] (transpose S8x32x16640x512 [0, 2, 1, 3] (shapeCast _ (Host.exp (subf (score q k) (maxOf q k))) shapeCasts_S2x4x16640x16384_S8x16640x32x512) transposes_S8x16640x32x512_S8x32x16640x512_0_2_1_3) (sitofp .f32 (constantI S_ 32 0#32)) pads_S8x32x16640x512_S8x32x17664x512_000_000_010240_000 h_S_) bitsLt_bf16_f32
/-- The last running maximum. -/
def lastMax (q : FVec F S16384x2x4x64 .f32) (k : FVec F S16640x2x64 .f32) : FVec F S2x4x16384 .f32 :=
  shapeCast _ (extractStridedSlice S2x4x1x16384 ![0, 0, 15, 0] (runMax q k) slices_S2x4x16x16384_S2x4x1x16384_0_0_15_0) shapeCasts_S2x4x1x16384_S2x4x16384
/-- The logarithms of the sums of exponentials. -/
def lseArr (q : FVec F S16384x2x4x64 .f32) (k : FVec F S16640x2x64 .f32) : FVec F S8x1x16384 .f32 :=
  shapeCast _ (addf (lastMax q k) (Host.log (Host.reduceAdd (Host.exp (subf (score q k) (broadcastInDim S2x4x16640x16384 ![0, 1, 2, 3] bcast_S2x4x1x16384_S2x4x16640x16384_0_1_2_3 (broadcastInDim S2x4x1x16384 ![0, 1, 3] bcast_S2x4x16384_S2x4x1x16384_0_1_3 (lastMax q k))))) (constant S_ .f32 0x00000000#32) reducesTo_S2x4x16640x16384_S2x4x16384_d2 h_S_))) shapeCasts_S2x4x16384_S8x1x16384
/-- The context's maximum, as one row. -/
def ctxRow (q : FVec F S16384x2x4x64 .f32) (k : FVec F S16640x2x64 .f32) : FVec F S2x4x1x16384 .f32 :=
  broadcastInDim S2x4x1x16384 ![0, 1, 3] bcast_S2x4x16384_S2x4x1x16384_0_1_3 (ctxMax q k)
/-- The running maxima and the context's, as the call takes them. -/
def maxRows (q : FVec F S16384x2x4x64 .f32) (k : FVec F S16640x2x64 .f32) : FVec F S8x17x16384 .f32 :=
  shapeCast _ (concatenate S2x4x17x16384 2 [⟨S2x4x16x16384, (runMax q k)⟩, ⟨S2x4x1x16384, (ctxRow q k)⟩] concatenates_S2x4x16x16384_S2x4x1x16384_S2x4x17x16384_d2) shapeCasts_S2x4x17x16384_S8x17x16384
/-- The scores, queries by keys. -/
def scoreT (q : FVec F S16384x2x4x64 .f32) (k : FVec F S16640x2x64 .f32) : FVec F S2x4x16384x16640 .f32 :=
  mulf (transpose S2x4x16384x16640 [0, 3, 2, 1] (Host.dotGeneral dot_S16640x2x64_S16384x2x4x64_S2x16640x16384x4_2_3_0_02_1_1 none k q) transposes_S2x16640x16384x4_S2x4x16384x16640_0_3_2_1) (broadcastInDim S2x4x16384x16640 ![] bcast_S_S2x4x16384x16640 (constant S_ .f32 0x3E000000#32))
/-- Each query's greatest score, as the maximum over the keys. -/
def topScore (q : FVec F S16384x2x4x64 .f32) (k : FVec F S16640x2x64 .f32) : FVec F S2x4x16384 .f32 :=
  Host.reduce FloatOps.maximumf (scoreT q k) (constant S_ .f32 0xFF800000#32) reducesTo_S2x4x16384x16640_S2x4x16384_d3 h_S_
/-- Each query's greatest score. -/
def rowMax (q : FVec F S16384x2x4x64 .f32) (k : FVec F S16640x2x64 .f32) : FVec F S2x4x16384 .f32 :=
  maximumf (broadcastInDim S2x4x16384 ![] bcast_S_S2x4x16384 (constant S_ .f32 0xFF800000#32)) (topScore q k)
/-- The exponentials of the scores under their maxima. -/
def expT (q : FVec F S16384x2x4x64 .f32) (k : FVec F S16640x2x64 .f32) : FVec F S2x4x16384x16640 .f32 :=
  Host.exp (subf (scoreT q k) (broadcastInDim S2x4x16384x16640 ![0, 1, 2, 3] bcast_S2x4x16384x1_S2x4x16384x16640_0_1_2_3 (broadcastInDim S2x4x16384x1 ![0, 1, 2] bcast_S2x4x16384_S2x4x16384x1_0_1_2 (rowMax q k))))
/-- The attention's output. -/
def outArr (q : FVec F S16384x2x4x64 .f32) (k : FVec F S16640x2x64 .f32) (v : FVec F S16640x2x64 .f32) : FVec F S16384x2x4x64 .f32 :=
  transpose S16384x2x4x64 [3, 0, 2, 1] (Host.dotGeneral dot_S16640x2x64_S2x4x16384x16640_S2x64x4x16384_0_3_2_12_1_0 none v (Host.divf (expT q k) (broadcastInDim S2x4x16384x16640 ![0, 1, 2, 3] bcast_S2x4x16384x1_S2x4x16384x16640_0_1_2_3 (broadcastInDim S2x4x16384x1 ![0, 1, 2] bcast_S2x4x16384_S2x4x16384x1_0_1_2 (Host.reduceAdd (expT q k) (constant S_ .f32 0x00000000#32) reducesTo_S2x4x16384x16640_S2x4x16384_d3 h_S_))))) transposes_S2x64x4x16384_S16384x2x4x64_3_0_2_1
/-- The queries, scaled, by head. -/
def headsQ (q : FVec F S16384x2x4x64 .f32) : FVec F S8x64x16384 .f32 :=
  transpose S8x64x16384 [1, 2, 0] (shapeCast _ (mulf (shapeCast _ q shapeCasts_S16384x2x4x64_S16384x512) (broadcastInDim S16384x512 ![] bcast_S_S16384x512 (constant S_ .f32 0x3E000000#32))) shapeCasts_S16384x512_S16384x8x64) transposes_S16384x8x64_S8x64x16384_1_2_0
/-- The cotangent, by head. -/
def headsCt (ct : FVec F S16384x512 .f32) : FVec F S8x64x16384 .f32 :=
  transpose S8x64x16384 [1, 2, 0] (shapeCast _ ct shapeCasts_S16384x512_S16384x8x64) transposes_S16384x8x64_S8x64x16384_1_2_0
/-- The output, by head. -/
def headsO (q : FVec F S16384x2x4x64 .f32) (k : FVec F S16640x2x64 .f32) (v : FVec F S16640x2x64 .f32) : FVec F S8x64x16384 .f32 :=
  transpose S8x64x16384 [1, 2, 0] (shapeCast _ (shapeCast _ (outArr q k v) shapeCasts_S16384x2x4x64_S16384x512) shapeCasts_S16384x512_S16384x8x64) transposes_S16384x8x64_S8x64x16384_1_2_0
/-- The queries, each head in its half of 128 lanes, zeros in the other. -/
def placedQ (q : FVec F S16384x2x4x64 .f32) : FVec F S8x128x16384 .bf16 :=
  truncf .bf16 (concatenate S8x128x16384 0 [⟨S4x128x16384, (concatenate S4x128x16384 1 [⟨S4x64x16384, (extractStridedSlice S4x64x16384 ![0, 0, 0] (headsQ q) slices_S8x64x16384_S4x64x16384_0_0_0)⟩, ⟨S4x64x16384, (broadcastInDim S4x64x16384 ![] bcast_S_S4x64x16384 (constant S_ .f32 0x00000000#32))⟩] concatenates_S4x64x16384_S4x64x16384_S4x128x16384_d1)⟩, ⟨S4x128x16384, (concatenate S4x128x16384 1 [⟨S4x64x16384, (broadcastInDim S4x64x16384 ![] bcast_S_S4x64x16384 (constant S_ .f32 0x00000000#32))⟩, ⟨S4x64x16384, (extractStridedSlice S4x64x16384 ![4, 0, 0] (headsQ q) slices_S8x64x16384_S4x64x16384_4_0_0)⟩] concatenates_S4x64x16384_S4x64x16384_S4x128x16384_d1)⟩] concatenates_S4x128x16384_S4x128x16384_S8x128x16384_d0) bitsLt_bf16_f32
/-- The cotangent, each head in its half of 128 lanes, zeros in the other. -/
def placedCt (ct : FVec F S16384x512 .f32) : FVec F S8x128x16384 .bf16 :=
  truncf .bf16 (concatenate S8x128x16384 0 [⟨S4x128x16384, (concatenate S4x128x16384 1 [⟨S4x64x16384, (extractStridedSlice S4x64x16384 ![0, 0, 0] (headsCt ct) slices_S8x64x16384_S4x64x16384_0_0_0)⟩, ⟨S4x64x16384, (broadcastInDim S4x64x16384 ![] bcast_S_S4x64x16384 (constant S_ .f32 0x00000000#32))⟩] concatenates_S4x64x16384_S4x64x16384_S4x128x16384_d1)⟩, ⟨S4x128x16384, (concatenate S4x128x16384 1 [⟨S4x64x16384, (broadcastInDim S4x64x16384 ![] bcast_S_S4x64x16384 (constant S_ .f32 0x00000000#32))⟩, ⟨S4x64x16384, (extractStridedSlice S4x64x16384 ![4, 0, 0] (headsCt ct) slices_S8x64x16384_S4x64x16384_4_0_0)⟩] concatenates_S4x64x16384_S4x64x16384_S4x128x16384_d1)⟩] concatenates_S4x128x16384_S4x128x16384_S8x128x16384_d0) bitsLt_bf16_f32
/-- The output, each head in its half of 128 lanes, ones in the other. -/
def placedO (q : FVec F S16384x2x4x64 .f32) (k : FVec F S16640x2x64 .f32) (v : FVec F S16640x2x64 .f32) : FVec F S8x128x16384 .bf16 :=
  truncf .bf16 (concatenate S8x128x16384 0 [⟨S4x128x16384, (concatenate S4x128x16384 1 [⟨S4x64x16384, (extractStridedSlice S4x64x16384 ![0, 0, 0] (headsO q k v) slices_S8x64x16384_S4x64x16384_0_0_0)⟩, ⟨S4x64x16384, (broadcastInDim S4x64x16384 ![] bcast_S_S4x64x16384 (constant S_ .f32 0x3F800000#32))⟩] concatenates_S4x64x16384_S4x64x16384_S4x128x16384_d1)⟩, ⟨S4x128x16384, (concatenate S4x128x16384 1 [⟨S4x64x16384, (broadcastInDim S4x64x16384 ![] bcast_S_S4x64x16384 (constant S_ .f32 0x3F800000#32))⟩, ⟨S4x64x16384, (extractStridedSlice S4x64x16384 ![4, 0, 0] (headsO q k v) slices_S8x64x16384_S4x64x16384_4_0_0)⟩] concatenates_S4x64x16384_S4x64x16384_S4x128x16384_d1)⟩] concatenates_S4x128x16384_S4x128x16384_S8x128x16384_d0) bitsLt_bf16_f32
/-- The keys, transposed. -/
def keysT (k : FVec F S16640x2x64 .f32) : FVec F S128x16384 .bf16 :=
  transpose S128x16384 [1, 0] (extractStridedSlice S16384x128 ![0, 0] (truncf .bf16 (shapeCast _ k shapeCasts_S16640x2x64_S16640x128) bitsLt_bf16_f32) slices_S16640x128_S16384x128_0_0) transposes_S16384x128_S128x16384_1_0
/-- The values. -/
def vals (v : FVec F S16640x2x64 .f32) : FVec F S16384x128 .bf16 :=
  extractStridedSlice S16384x128 ![0, 0] (truncf .bf16 (shapeCast _ v shapeCasts_S16640x2x64_S16640x128) bitsLt_bf16_f32) slices_S16640x128_S16384x128_0_0
/-- The context's keys, transposed. -/
def ctxKeysT (k : FVec F S16640x2x64 .f32) : FVec F S128x256 .bf16 :=
  transpose S128x256 [1, 0] (extractStridedSlice S256x128 ![16384, 0] (truncf .bf16 (shapeCast _ k shapeCasts_S16640x2x64_S16640x128) bitsLt_bf16_f32) slices_S16640x128_S256x128_16384_0) transposes_S256x128_S128x256_1_0
/-- The context's values. -/
def ctxVals (v : FVec F S16640x2x64 .f32) : FVec F S256x128 .bf16 :=
  extractStridedSlice S256x128 ![16384, 0] (truncf .bf16 (shapeCast _ v shapeCasts_S16640x2x64_S16640x128) bitsLt_bf16_f32) slices_S16640x128_S256x128_16384_0
end

end Cert.KernelIdeal.Glob

end
-- ==== Proof.HostPt.lean ====
module

public import proofs.«01_k».proof.Proof.Host
public import proofs.«01_k».proof.Proof.Nums
public import Idealize.ShloMosaic.Lib.Pointwise

@[expose] public section

set_option maxRecDepth 16384

noncomputable section

namespace Cert.KernelIdeal.Glob

open Idealize.ShloMosaic Idealize.ShloMosaic.TcCoe Idealize.SL.Sem
open Cert.KernelIdeal Cert.KernelIdeal.Gen

set_option maxRecDepth 100000

section
variable {q : FVec Ideal S16384x2x4x64 .f32} {k v : FVec Ideal S16640x2x64 .f32} {ct : FVec Ideal S16384x512 .f32}
  (R : AllReal q k v ct)

/-! ### Each array at an index -/

theorem keysT_pt (r : Fin 128) (j : Fin 16384) :
    keysT k (ix2 r j) = (show EReal from k (ix3 ⟨j, by omega⟩ ⟨r / 64, by omega⟩ ⟨r % 64, by omega⟩)) := by
  unfold keysT
  pointwise
theorem vals_pt (j : Fin 16384) (r : Fin 128) :
    vals v (ix2 j r) = (show EReal from v (ix3 ⟨j, by omega⟩ ⟨r / 64, by omega⟩ ⟨r % 64, by omega⟩)) := by
  unfold vals
  pointwise
theorem ctxKeysT_pt (r : Fin 128) (j : Fin 256) :
    ctxKeysT k (ix2 r j) = (show EReal from k (ix3 ⟨16384 + j, by omega⟩ ⟨r / 64, by omega⟩ ⟨r % 64, by omega⟩)) := by
  unfold ctxKeysT
  pointwise
theorem ctxVals_pt (j : Fin 256) (r : Fin 128) :
    ctxVals v (ix2 j r) = (show EReal from v (ix3 ⟨16384 + j, by omega⟩ ⟨r / 64, by omega⟩ ⟨r % 64, by omega⟩)) := by
  unfold ctxVals
  pointwise
theorem score_pt (a : Fin 2) (g : Fin 4) (j : Fin 16640) (i : Fin 16384) :
    score q k (ix4 a g j i) = (∑ x, k (ix3 j a x) * q (ix4 i a g x)) * Ideal.ofBits .f32 0x3E000000#32 := by
  unfold score
  pointwise
theorem ctxMax_pt (a : Fin 2) (g : Fin 4) (i : Fin 16384) :
    ctxMax q k (ix3 a g i)
      = Finset.fold max (Ideal.ofBits .f32 0xFF800000#32) (fun x : Fin 256 => score q k (ix4 a g ⟨16384 + x, by omega⟩ i)) Finset.univ := by
  unfold ctxMax
  pointwise
theorem chunkMax_pt (a : Fin 2) (g : Fin 4) (n : Fin 16) (i : Fin 16384) :
    chunkMax q k (ix4 a g n i)
      = Finset.fold max (Ideal.ofBits .f32 0xFF800000#32) (fun x : Fin 1024 => score q k (ix4 a g ⟨n * 1024 + x, by omega⟩ i)) Finset.univ := by
  unfold chunkMax
  pointwise
theorem upMax_pt (a : Fin 2) (g : Fin 4) (n : Fin 16) (i : Fin 16384) :
    upMax q k (ix4 a g n i)
      = Finset.fold max (Ideal.ofBits .f32 0xFF800000#32)
          (fun x : Fin 16 => Scalar.select (IntOp.cmpi CmpIPredicate.sle (BitVec.ofNat 32 x) (BitVec.ofNat 32 n))
            (chunkMax q k (ix4 a g x i)) (ctxMax q k (ix3 a g i))) Finset.univ := by
  unfold upMax
  pointwise
theorem maxRows_aux (x : FVec Ideal S2x4x16x16384 .f32) (y : FVec Ideal S2x4x16384 .f32) (a : Fin 2) (g : Fin 4) (n : Fin 16)
    (i : Fin 16384) : maximumf x (broadcastInDim S2x4x16x16384 ![0, 1, 2, 3] bcast_S2x4x1x16384_S2x4x16x16384_0_1_2_3
      (broadcastInDim S2x4x1x16384 ![0, 1, 3] bcast_S2x4x16384_S2x4x1x16384_0_1_3 y)) (ix4 a g n i)
      = max (show EReal from x (ix4 a g n i)) (show EReal from y (ix3 a g i)) := by
  pointwise
theorem runMax_pt (a : Fin 2) (g : Fin 4) (n : Fin 16) (i : Fin 16384) :
    runMax q k (ix4 a g n i) = max (show EReal from upMax q k (ix4 a g n i)) (show EReal from ctxMax q k (ix3 a g i)) :=
  maxRows_aux (upMax q k) (ctxMax q k) a g n i
theorem runRows_pt (a : Fin 2) (g : Fin 4) (j : Fin 16384) (i : Fin 16384) :
    runRows q k (ix4 a g j i) = runMax q k (ix4 a g ⟨j / 1024, by omega⟩ i) := by
  unfold runRows
  pointwise
theorem ctxRows_pt (a : Fin 2) (g : Fin 4) (j : Fin 256) (i : Fin 16384) :
    ctxRows q k (ix4 a g j i) = ctxMax q k (ix3 a g i) := by
  unfold ctxRows
  pointwise
theorem ctxRow_pt (a : Fin 2) (g : Fin 4) (n : Fin 1) (i : Fin 16384) :
    ctxRow q k (ix4 a g n i) = ctxMax q k (ix3 a g i) := by
  unfold ctxRow
  pointwise
theorem maxOf_pt (a : Fin 2) (g : Fin 4) (j : Fin 16640) (i : Fin 16384) :
    maxOf q k (ix4 a g j i) = if h : (j : ℕ) < 16384 then runRows q k (ix4 a g ⟨j, h⟩ i)
      else ctxRows q k (ix4 a g ⟨j - 16384, by omega⟩ i) := by
  unfold maxOf
  generalize runRows q k = x
  generalize ctxRows q k = y
  pointwise
theorem weights_pt (h : Fin 8) (b : Fin 32) (j : Fin 17664) (i : Fin 512) (hj : (j : ℕ) < 16640) :
    weights q k (ix4 h b j i)
      = Ideal.exp (score q k (ix4 ⟨h / 4, by omega⟩ ⟨h % 4, by omega⟩ ⟨j, hj⟩ ⟨b * 512 + i, by omega⟩)
          - maxOf q k (ix4 ⟨h / 4, by omega⟩ ⟨h % 4, by omega⟩ ⟨j, hj⟩ ⟨b * 512 + i, by omega⟩)) := by
  unfold weights
  pointwise
  rw [dif_pos hj]
theorem lastMax_pt (a : Fin 2) (g : Fin 4) (i : Fin 16384) : lastMax q k (ix3 a g i) = runMax q k (ix4 a g 15 i) := by
  unfold lastMax
  generalize runMax q k = x
  pointwise
theorem lse_aux (x : FVec Ideal S2x4x16384 .f32) (y : FVec Ideal S2x4x16640x16384 .f32) (h : Fin 8) (i : Fin 16384) :
    shapeCast S8x1x16384 (addf x (Host.log (Host.reduceAdd (Host.exp (subf y (broadcastInDim S2x4x16640x16384 ![0, 1, 2, 3]
      bcast_S2x4x1x16384_S2x4x16640x16384_0_1_2_3 (broadcastInDim S2x4x1x16384 ![0, 1, 3] bcast_S2x4x16384_S2x4x1x16384_0_1_3 x))))
        (constant S_ .f32 0x00000000#32) reducesTo_S2x4x16640x16384_S2x4x16384_d2 h_S_))) shapeCasts_S2x4x16384_S8x1x16384 (ix3 h 0 i)
      = (show EReal from x (ix3 ⟨h / 4, by omega⟩ ⟨h % 4, by omega⟩ i))
        + Ideal.log (∑ j, Ideal.exp (y (ix4 ⟨h / 4, by omega⟩ ⟨h % 4, by omega⟩ j i)
            - x (ix3 ⟨h / 4, by omega⟩ ⟨h % 4, by omega⟩ i))) := by
  pointwise
theorem lseArr_pt (h : Fin 8) (i : Fin 16384) :
    lseArr q k (ix3 h 0 i)
      = (show EReal from lastMax q k (ix3 ⟨h / 4, by omega⟩ ⟨h % 4, by omega⟩ i))
        + Ideal.log (∑ j, Ideal.exp (score q k (ix4 ⟨h / 4, by omega⟩ ⟨h % 4, by omega⟩ j i)
            - lastMax q k (ix3 ⟨h / 4, by omega⟩ ⟨h % 4, by omega⟩ i))) :=
  lse_aux (lastMax q k) (score q k) h i
theorem maxRows_pt (h : Fin 8) (n : Fin 17) (i : Fin 16384) :
    maxRows q k (ix3 h n i)
      = if hn : (n : ℕ) < 16 then runMax q k (ix4 ⟨h / 4, by omega⟩ ⟨h % 4, by omega⟩ ⟨n, hn⟩ i)
        else ctxRow q k (ix4 ⟨h / 4, by omega⟩ ⟨h % 4, by omega⟩ ⟨n - 16, by omega⟩ i) := by
  unfold maxRows
  generalize runMax q k = x
  generalize ctxRow q k = y
  pointwise
theorem scoreT_pt (a : Fin 2) (g : Fin 4) (i : Fin 16384) (j : Fin 16640) :
    scoreT q k (ix4 a g i j) = (∑ x, k (ix3 j a x) * q (ix4 i a g x)) * Ideal.ofBits .f32 0x3E000000#32 := by
  unfold scoreT
  pointwise
theorem topScore_pt (a : Fin 2) (g : Fin 4) (i : Fin 16384) :
    topScore q k (ix3 a g i)
      = Finset.fold max (Ideal.ofBits .f32 0xFF800000#32) (fun x : Fin 16640 => scoreT q k (ix4 a g i x)) Finset.univ := by
  unfold topScore
  generalize scoreT q k = x
  pointwise
theorem botMax_aux (x : FVec Ideal S2x4x16384 .f32) (a : Fin 2) (g : Fin 4) (i : Fin 16384) :
    maximumf (broadcastInDim S2x4x16384 ![] bcast_S_S2x4x16384 (constant S_ .f32 0xFF800000#32)) x (ix3 a g i)
      = max (Ideal.ofBits .f32 0xFF800000#32) (show EReal from x (ix3 a g i)) := by
  pointwise
theorem rowMax_pt (a : Fin 2) (g : Fin 4) (i : Fin 16384) :
    rowMax q k (ix3 a g i) = max (Ideal.ofBits .f32 0xFF800000#32) (show EReal from topScore q k (ix3 a g i)) :=
  botMax_aux (topScore q k) a g i
theorem expT_pt (a : Fin 2) (g : Fin 4) (i : Fin 16384) (j : Fin 16640) :
    expT q k (ix4 a g i j) = Ideal.exp (scoreT q k (ix4 a g i j) - rowMax q k (ix3 a g i)) := by
  unfold expT
  generalize scoreT q k = x
  generalize rowMax q k = y
  pointwise
theorem outArr_pt (i : Fin 16384) (a : Fin 2) (g : Fin 4) (d : Fin 64) :
    outArr q k v (ix4 i a g d)
      = ∑ x, v (ix3 x a d) * Ideal.div (expT q k (ix4 a g i x)) (∑ x, expT q k (ix4 a g i x)) := by
  unfold outArr
  generalize expT q k = x
  pointwise
theorem headsQ_pt (h : Fin 8) (d : Fin 64) (i : Fin 16384) :
    headsQ q (ix3 h d i) = q (ix4 i ⟨h / 4, by omega⟩ ⟨h % 4, by omega⟩ d) * Ideal.ofBits .f32 0x3E000000#32 := by
  unfold headsQ
  pointwise
  have e : ((h : ℕ) * 64 + d) / 256 = h / 4 := by omega
  have e' : ((h : ℕ) * 64 + d) / 64 % 4 = h % 4 := by omega
  simp only [e, e']
theorem headsCt_pt (h : Fin 8) (d : Fin 64) (i : Fin 16384) :
    headsCt ct (ix3 h d i) = ct (ix2 i ⟨h * 64 + d, by omega⟩) := by
  unfold headsCt
  pointwise
theorem headsO_pt (h : Fin 8) (d : Fin 64) (i : Fin 16384) :
    headsO q k v (ix3 h d i) = outArr q k v (ix4 i ⟨h / 4, by omega⟩ ⟨h % 4, by omega⟩ d) := by
  unfold headsO
  generalize outArr q k v = x
  pointwise
theorem placedQ_pt (h : Fin 8) (r : Fin 128) (i : Fin 16384) :
    placedQ q (ix3 h r i) = (show EReal from if (r : ℕ) / 64 = h / 4 then headsQ q (ix3 h ⟨r % 64, by omega⟩ i) else 0) := by
  unfold placedQ
  generalize headsQ q = x
  have e₁ : ¬ (h : ℕ) < 4 → 4 + ((h : ℕ) - 4) = h := by omega
  have e₂ : ¬ (r : ℕ) < 64 → (r : ℕ) - 64 = r % 64 := by omega
  have e₃ : ¬ (h : ℕ) < 4 → ¬ (r : ℕ) < 64 → (r : ℕ) / 64 = h / 4 := by omega
  pointwise
  by_cases hh : (h : ℕ) < 4 <;> by_cases hr : (r : ℕ) < 64
  · refine (dif_pos hh).trans ((dif_pos hr).trans ?_)
    rw [if_pos (by omega)]
    exact congrArg (fun e => x (ix3 h e i)) (Fin.ext (by show (r : ℕ) = r % 64; omega))
  · exact (dif_pos hh).trans ((dif_neg hr).trans (by rw [if_neg (by omega)]))
  · exact (dif_neg hh).trans ((dif_pos hr).trans (by rw [if_neg (by omega)]))
  · refine (dif_neg hh).trans ((dif_neg hr).trans ?_)
    exact (congrArg₂ (fun e f => x (ix3 e f i)) (Fin.ext (e₁ hh)) (Fin.ext (e₂ hr))).trans (if_pos (e₃ hh hr)).symm
theorem placedCt_pt (h : Fin 8) (r : Fin 128) (i : Fin 16384) :
    placedCt ct (ix3 h r i) = (show EReal from if (r : ℕ) / 64 = h / 4 then headsCt ct (ix3 h ⟨r % 64, by omega⟩ i) else 0) := by
  unfold placedCt
  generalize headsCt ct = x
  have e₁ : ¬ (h : ℕ) < 4 → 4 + ((h : ℕ) - 4) = h := by omega
  have e₂ : ¬ (r : ℕ) < 64 → (r : ℕ) - 64 = r % 64 := by omega
  have e₃ : ¬ (h : ℕ) < 4 → ¬ (r : ℕ) < 64 → (r : ℕ) / 64 = h / 4 := by omega
  pointwise
  by_cases hh : (h : ℕ) < 4 <;> by_cases hr : (r : ℕ) < 64
  · refine (dif_pos hh).trans ((dif_pos hr).trans ?_)
    rw [if_pos (by omega)]
    exact congrArg (fun e => x (ix3 h e i)) (Fin.ext (by show (r : ℕ) = r % 64; omega))
  · exact (dif_pos hh).trans ((dif_neg hr).trans (by rw [if_neg (by omega)]))
  · exact (dif_neg hh).trans ((dif_pos hr).trans (by rw [if_neg (by omega)]))
  · refine (dif_neg hh).trans ((dif_neg hr).trans ?_)
    exact (congrArg₂ (fun e f => x (ix3 e f i)) (Fin.ext (e₁ hh)) (Fin.ext (e₂ hr))).trans (if_pos (e₃ hh hr)).symm
theorem placedO_pt (h : Fin 8) (r : Fin 128) (i : Fin 16384) :
    placedO q k v (ix3 h r i) = (show EReal from if (r : ℕ) / 64 = h / 4 then headsO q k v (ix3 h ⟨r % 64, by omega⟩ i) else 1) := by
  unfold placedO
  generalize headsO q k v = x
  have e₁ : ¬ (h : ℕ) < 4 → 4 + ((h : ℕ) - 4) = h := by omega
  have e₂ : ¬ (r : ℕ) < 64 → (r : ℕ) - 64 = r % 64 := by omega
  have e₃ : ¬ (h : ℕ) < 4 → ¬ (r : ℕ) < 64 → (r : ℕ) / 64 = h / 4 := by omega
  pointwise
  by_cases hh : (h : ℕ) < 4 <;> by_cases hr : (r : ℕ) < 64
  · refine (dif_pos hh).trans ((dif_pos hr).trans ?_)
    rw [if_pos (by omega)]
    exact congrArg (fun e => x (ix3 h e i)) (Fin.ext (by show (r : ℕ) = r % 64; omega))
  · exact (dif_pos hh).trans ((dif_neg hr).trans (by rw [if_neg (by omega)]))
  · exact (dif_neg hh).trans ((dif_pos hr).trans (by rw [if_neg (by omega)]))
  · refine (dif_neg hh).trans ((dif_neg hr).trans ?_)
    exact (congrArg₂ (fun e f => x (ix3 e f i)) (Fin.ext (e₁ hh)) (Fin.ext (e₂ hr))).trans (if_pos (e₃ hh hr)).symm
end

end Cert.KernelIdeal.Glob

end
-- ==== Proof.HostVal.lean ====
module

public import proofs.«01_k».proof.Proof.HostPt

@[expose] public section

set_option maxRecDepth 16384

noncomputable section

namespace Cert.KernelIdeal.Glob

open Idealize.ShloMosaic Idealize.ShloMosaic.TcCoe Idealize.SL.Sem
open Cert.KernelIdeal Cert.KernelIdeal.Gen

set_option maxRecDepth 100000

section
variable {q : FVec Ideal S16384x2x4x64 .f32} {k v : FVec Ideal S16640x2x64 .f32} {ct : FVec Ideal S16384x512 .f32}
  (R : AllReal q k v ct)
include R

/-- A scaled product of a key and a query is the score. -/
theorem score_sum (a : Fin 2) (g : Fin 4) (j : Fin 16640) (i : Fin 16384) {h : ℕ} (ha : h / 4 = a) (hg : h % 4 = g) :
    (∑ x, k (ix3 j a x) * q (ix4 i a g x)) * Ideal.ofBits .f32 0x3E000000#32 = (((argsOf q k v ct).s h j i : ℝ) : EReal) := by
  rw [sum_coe_mul (fun d => (argsOf q k v ct).K j (h / 4) d) (fun d => (argsOf q k v ct).Q i h d)
    (fun d => by rw [ha]; exact k_read R j a d) (fun d => q_read R i a g d ha hg), ofBits_eighth, ← EReal.coe_mul]
  rfl

theorem score_val (a : Fin 2) (g : Fin 4) (j : Fin 16640) (i : Fin 16384) {h : ℕ} (ha : h / 4 = a) (hg : h % 4 = g) :
    score q k (ix4 a g j i) = (((argsOf q k v ct).s h j i : ℝ) : EReal) :=
  (score_pt a g j i).trans (score_sum R a g j i ha hg)

theorem scoreT_val (a : Fin 2) (g : Fin 4) (i : Fin 16384) (j : Fin 16640) {h : ℕ} (ha : h / 4 = a) (hg : h % 4 = g) :
    scoreT q k (ix4 a g i j) = (((argsOf q k v ct).s h j i : ℝ) : EReal) :=
  (scoreT_pt a g i j).trans (score_sum R a g j i ha hg)

/-! ### The maxima are reals -/

theorem score_real (a : Fin 2) (g : Fin 4) (j : Fin 16640) (i : Fin 16384) : ∃ r : ℝ, score q k (ix4 a g j i) = (r : EReal) :=
  ⟨_, score_val R a g j i (h := 4 * a + g) (by have := g.2; omega) (by have := g.2; omega)⟩

theorem ctxMax_real (a : Fin 2) (g : Fin 4) (i : Fin 16384) : ∃ r : ℝ, ctxMax q k (ix3 a g i) = (r : EReal) := by
  rw [ctxMax_pt, ofBits_bot]
  exact fold_max_real (by norm_num) _ fun x => score_real R a g _ i

theorem chunkMax_real (a : Fin 2) (g : Fin 4) (n : Fin 16) (i : Fin 16384) : ∃ r : ℝ, chunkMax q k (ix4 a g n i) = (r : EReal) := by
  rw [chunkMax_pt, ofBits_bot]
  exact fold_max_real (by norm_num) _ fun x => score_real R a g _ i

theorem upMax_real (a : Fin 2) (g : Fin 4) (n : Fin 16) (i : Fin 16384) : ∃ r : ℝ, upMax q k (ix4 a g n i) = (r : EReal) := by
  rw [upMax_pt, ofBits_bot]
  refine fold_max_real (by norm_num) _ fun x => ?_
  unfold Scalar.select
  split
  · exact chunkMax_real R a g x i
  · exact ctxMax_real R a g i

theorem runMax_real (a : Fin 2) (g : Fin 4) (n : Fin 16) (i : Fin 16384) : ∃ r : ℝ, runMax q k (ix4 a g n i) = (r : EReal) := by
  rw [runMax_pt]
  exact max_real (upMax_real R a g n i) (ctxMax_real R a g i)

theorem maxRows_real (h : Fin 8) (n : Fin 17) (i : Fin 16384) : ∃ r : ℝ, maxRows q k (ix3 h n i) = (r : EReal) := by
  rw [maxRows_pt]
  split
  · exact runMax_real R _ _ _ i
  · rw [ctxRow_pt]; exact ctxMax_real R _ _ i

omit R in
/-- The maxima the call is given, as numbers. -/
def rowNum (q : FVec Ideal S16384x2x4x64 .f32) (k : FVec Ideal S16640x2x64 .f32) (h n i : ℕ) : ℝ :=
  if H : h < 8 ∧ n < 17 ∧ i < 16384 then EReal.toReal (maxRows q k (ix3 ⟨h, H.1⟩ ⟨n, H.2.1⟩ ⟨i, H.2.2⟩)) else 0

theorem maxRows_val (h : Fin 8) (n : Fin 17) (i : Fin 16384) : maxRows q k (ix3 h n i) = ((rowNum q k h n i : ℝ) : EReal) := by
  rw [real_read (maxRows_real R h n i)]
  simp only [rowNum, dif_pos (show (h : ℕ) < 8 ∧ (n : ℕ) < 17 ∧ (i : ℕ) < 16384 from ⟨h.2, n.2, i.2⟩)]

/-- The row of the maxima a key's weight is taken under. -/
theorem maxOf_val (h : Fin 8) (j : Fin 16640) (i : Fin 16384) :
    maxOf q k (ix4 ⟨h / 4, by omega⟩ ⟨h % 4, by omega⟩ j i)
      = ((rowNum q k h (if (j : ℕ) < 16384 then j / 1024 else 16) i : ℝ) : EReal) := by
  rw [maxOf_pt]
  split
  · rename_i hj
    rw [runRows_pt]
    have e := maxRows_pt (q := q) (k := k) h ⟨j / 1024, by omega⟩ i
    rw [dif_pos (show (j : ℕ) / 1024 < 16 by omega)] at e
    exact e.symm.trans (maxRows_val R h ⟨j / 1024, by omega⟩ i)
  · rename_i hj
    rw [ctxRows_pt]
    have e := maxRows_pt (q := q) (k := k) h ⟨16, by omega⟩ i
    rw [dif_neg (show ¬ (16 : ℕ) < 16 by omega), ctxRow_pt] at e
    exact e.symm.trans (maxRows_val R h ⟨16, by omega⟩ i)

/-- A stored weight is the exponential of the score under its row's maximum. -/
theorem weights_val (h : Fin 8) (b : Fin 32) (j : Fin 17664) (i : Fin 512) (hj : (j : ℕ) < 16640) :
    weights q k (ix4 h b j i)
      = ((Real.exp ((argsOf q k v ct).s h j (b * 512 + i) - rowNum q k h (if (j : ℕ) < 16384 then j / 1024 else 16) (b * 512 + i)) : ℝ) : EReal) := by
  rw [weights_pt h b j i hj, score_val R _ _ _ _ (h := h) rfl rfl, maxOf_val R, ← EReal.coe_sub, Ideal.exp_coe]

/-- The logarithm of the sum of exponentials. -/
theorem lse_val (h : Fin 8) (i : Fin 16384) : lseArr q k (ix3 h 0 i) = ((Real.log ((argsOf q k v ct).z h i) : ℝ) : EReal) := by
  obtain ⟨M, hM⟩ := runMax_real R (⟨h / 4, by omega⟩ : Fin 2) (⟨h % 4, by omega⟩ : Fin 4) 15 i
  rw [lseArr_pt, lastMax_pt, hM, sum_coe (fun j => Real.exp ((argsOf q k v ct).s h j i - M)) (fun j => by
    rw [score_val R _ _ _ _ (h := h) rfl rfl, ← EReal.coe_sub, Ideal.exp_coe]),
    log_pos (sum_exp_pos (by norm_num) (fun j => (argsOf q k v ct).s h j i - M)), ← EReal.coe_add, add_log_sum (by norm_num)]
  rfl

/-! ### The output and the placed arrays -/

theorem rowMax_real (a : Fin 2) (g : Fin 4) (i : Fin 16384) : ∃ r : ℝ, rowMax q k (ix3 a g i) = (r : EReal) := by
  have h := fold_max_real (n := 16640) (by norm_num) (fun x => scoreT q k (ix4 a g i x)) fun x =>
    ⟨_, scoreT_val R a g i x (h := 4 * a + g) (by have := g.2; omega) (by have := g.2; omega)⟩
  rw [rowMax_pt, topScore_pt, ofBits_bot]
  obtain ⟨r, hr⟩ := h
  exact ⟨r, by rw [hr]; exact max_eq_right bot_le⟩

/-- The attention's output. -/
theorem outArr_val (i : Fin 16384) (a : Fin 2) (g : Fin 4) (d : Fin 64) {h : ℕ} (ha : h / 4 = a) (hg : h % 4 = g) :
    outArr q k v (ix4 i a g d) = (((argsOf q k v ct).o h i d : ℝ) : EReal) := by
  obtain ⟨M, hM⟩ := rowMax_real R a g i
  have he : ∀ j : Fin 16640, expT q k (ix4 a g i j) = ((Real.exp ((argsOf q k v ct).s h j i - M) : ℝ) : EReal) := fun j => by
    rw [expT_pt, scoreT_val R a g i j ha hg, hM, ← EReal.coe_sub, Ideal.exp_coe]
  rw [outArr_pt, sum_coe (fun j => Real.exp ((argsOf q k v ct).s h j i - M)) he]
  refine sum_coe_mul (fun j => (argsOf q k v ct).V j (h / 4) d) (fun j => (argsOf q k v ct).p h j i)
    (fun j => by rw [ha]; exact v_read R j a d) (fun j => ?_)
  rw [he, div_real (sum_exp_pos (by norm_num) (fun j => (argsOf q k v ct).s h j i - M)).ne',
    exp_sub_div (fun j => (argsOf q k v ct).s h j i)]
  rfl

/-- A query's lane, in its head's half. -/
theorem placedQ_val (h : Fin 8) (r : Fin 128) (i : Fin 16384) :
    placedQ q (ix3 h r i) = (((if (r : ℕ) / 64 = h / 4 then (argsOf q k v ct).Q i h (r % 64) * (1 / 8) else 0) : ℝ) : EReal) := by
  rw [placedQ_pt]
  split
  · rw [headsQ_pt, q_read R i _ _ _ (h := h) rfl rfl, ofBits_eighth, ← EReal.coe_mul]
  · rfl

/-- A cotangent's lane, in its head's half. -/
theorem placedCt_val (h : Fin 8) (r : Fin 128) (i : Fin 16384) :
    placedCt ct (ix3 h r i) = (((if (r : ℕ) / 64 = h / 4 then (argsOf q k v ct).C i h (r % 64) else 0) : ℝ) : EReal) := by
  rw [placedCt_pt]
  split
  · rw [headsCt_pt, ct_read R i _ (h := h) (d := r % 64) (by omega) rfl]
  · rfl

/-- An output's lane, in its head's half. -/
theorem placedO_val (h : Fin 8) (r : Fin 128) (i : Fin 16384) :
    placedO q k v (ix3 h r i) = (((if (r : ℕ) / 64 = h / 4 then (argsOf q k v ct).o h i (r % 64) else 1) : ℝ) : EReal) := by
  rw [placedO_pt]
  split
  · rw [headsO_pt, outArr_val R i _ _ _ (h := h) rfl rfl]
  · rfl

/-! ### The keys and values -/

theorem keysT_val (r : Fin 128) (j : Fin 16384) : keysT k (ix2 r j) = (((argsOf q k v ct).K j (r / 64) (r % 64) : ℝ) : EReal) :=
  (keysT_pt r j).trans (k_read R _ _ _)
theorem vals_val (j : Fin 16384) (r : Fin 128) : vals v (ix2 j r) = (((argsOf q k v ct).V j (r / 64) (r % 64) : ℝ) : EReal) :=
  (vals_pt j r).trans (v_read R _ _ _)
theorem ctxKeysT_val (r : Fin 128) (j : Fin 256) :
    ctxKeysT k (ix2 r j) = (((argsOf q k v ct).K (16384 + j) (r / 64) (r % 64) : ℝ) : EReal) :=
  (ctxKeysT_pt r j).trans (k_read R _ _ _)
theorem ctxVals_val (j : Fin 256) (r : Fin 128) :
    ctxVals v (ix2 j r) = (((argsOf q k v ct).V (16384 + j) (r / 64) (r % 64) : ℝ) : EReal) :=
  (ctxVals_pt j r).trans (v_read R _ _ _)

end

end Cert.KernelIdeal.Glob

end
-- ==== Proof.HostRead.lean ====
module

public import proofs.«01_k».proof.Proof.Host
public import Idealize.ShloMosaic.Lib.StableHlo.RunRead

@[expose] public section

set_option maxRecDepth 16384

noncomputable section

namespace Cert.KernelIdeal.Glob

open Idealize.ShloMosaic Idealize.ShloMosaic.TcCoe Idealize.SL.Sem
open Cert.KernelIdeal Cert.KernelIdeal.Gen

set_option maxRecDepth 100000

variable {F : FTy → Type} [FloatOps F] (m : (ℓ : Loc nD τ sig) → Buf (Elt F) ℓ)

/-- Two arrays end to end along an axis. -/
def pair {α : Type} {S₁ S₂ : Shape} (S : Shape) (d : Fin S.rank) (a : S₁.Idx → α) (b : S₂.Idx → α)
    (h : Shape.Concatenates [S₁, S₂] S d) : S.Idx → α :=
  concatenate S d [⟨S₁, a⟩, ⟨S₂, b⟩] h
/-- An array made of two, under its name. -/
theorem concatenate_pair {α : Type} {S₁ S₂ : Shape} (S : Shape) (d : Fin S.rank) (a : S₁.Idx → α) (b : S₂.Idx → α)
    (h : Shape.Concatenates [S₁, S₂] S d) : concatenate S d [⟨S₁, a⟩, ⟨S₂, b⟩] h = pair S d a b h := rfl

set_option maxHeartbeats 4000000 in
/-- The weights the call takes, computed from the arguments. -/
theorem V_v31 (c : Dev nD) : V m c main_v31 = weights (m ((c : Thread nD τ).loc main_arg0)) (m ((c : Thread nD τ).loc main_arg1)) := by
  show StableHlo.after (List.flatten [hostOps0, hostOps0_1, hostOps0_2, hostOps0_3, hostOps0_4]) _ _ = _
  simp only [List.flatten_cons, List.flatten_nil, List.append_nil]
  after_reads_simp
  repeat (simp only [concatenate_pair]; after_reads_simp)
  try simp only [StableHlo.TRef.ofBuf_toBuf]
  simp only [StableHlo.TRef.ofBuf, StableHlo.TRef.toBuf, StableHlo.TRef.of, cast_eq, score, ctxMax, chunkMax, upMax, runMax, maxOf, runRows, ctxRows, ctxRow, lastMax, lseArr, maxRows, headsQ, headsCt, placedQ, placedCt, keysT, vals, ctxKeysT, ctxVals, scoreT, topScore, rowMax, expT, outArr, headsO, placedO, concatenate_pair]
  rfl
set_option maxHeartbeats 4000000 in
/-- The logarithms the call takes, computed from the arguments. -/
theorem V_v41 (c : Dev nD) : V m c main_v41 = lseArr (m ((c : Thread nD τ).loc main_arg0)) (m ((c : Thread nD τ).loc main_arg1)) := by
  show StableHlo.after (List.flatten [hostOps0, hostOps0_1, hostOps0_2, hostOps0_3, hostOps0_4]) _ _ = _
  simp only [List.flatten_cons, List.flatten_nil, List.append_nil]
  after_reads_simp
  try simp only [StableHlo.TRef.ofBuf_toBuf]
  simp only [StableHlo.TRef.ofBuf, StableHlo.TRef.toBuf, StableHlo.TRef.of, cast_eq, score, ctxMax, chunkMax, upMax, runMax, maxOf, runRows, ctxRows, ctxRow, lastMax, lseArr, maxRows, headsQ, headsCt, placedQ, placedCt, keysT, vals, ctxKeysT, ctxVals, scoreT, topScore, rowMax, expT, outArr, headsO, placedO, concatenate_pair]
  rfl
set_option maxHeartbeats 4000000 in
/-- The maxima the call takes, computed from the arguments. -/
theorem V_v44 (c : Dev nD) : V m c main_v44 = maxRows (m ((c : Thread nD τ).loc main_arg0)) (m ((c : Thread nD τ).loc main_arg1)) := by
  show StableHlo.after (List.flatten [hostOps0, hostOps0_1, hostOps0_2, hostOps0_3, hostOps0_4]) _ _ = _
  simp only [List.flatten_cons, List.flatten_nil, List.append_nil]
  after_reads_simp
  repeat (simp only [concatenate_pair]; after_reads_simp)
  try simp only [StableHlo.TRef.ofBuf_toBuf]
  simp only [StableHlo.TRef.ofBuf, StableHlo.TRef.toBuf, StableHlo.TRef.of, cast_eq, score, ctxMax, chunkMax, upMax, runMax, maxOf, runRows, ctxRows, ctxRow, lastMax, lseArr, maxRows, headsQ, headsCt, placedQ, placedCt, keysT, vals, ctxKeysT, ctxVals, scoreT, topScore, rowMax, expT, outArr, headsO, placedO, concatenate_pair]
  rfl
set_option maxHeartbeats 4000000 in
/-- The placed queries the call takes, computed from the arguments. -/
theorem V_v77 (c : Dev nD) : V m c main_v77 = placedQ (m ((c : Thread nD τ).loc main_arg0)) := by
  show StableHlo.after (List.flatten [hostOps0, hostOps0_1, hostOps0_2, hostOps0_3, hostOps0_4]) _ _ = _
  simp only [List.flatten_cons, List.flatten_nil, List.append_nil]
  after_reads_simp
  repeat (simp only [concatenate_pair]; after_reads_simp)
  try simp only [StableHlo.TRef.ofBuf_toBuf]
  simp only [StableHlo.TRef.ofBuf, StableHlo.TRef.toBuf, StableHlo.TRef.of, cast_eq, score, ctxMax, chunkMax, upMax, runMax, maxOf, runRows, ctxRows, ctxRow, lastMax, lseArr, maxRows, headsQ, headsCt, placedQ, placedCt, keysT, vals, ctxKeysT, ctxVals, scoreT, topScore, rowMax, expT, outArr, headsO, placedO, concatenate_pair]
  rfl
set_option maxHeartbeats 4000000 in
/-- The placed cotangent the call takes, computed from the arguments. -/
theorem V_v86 (c : Dev nD) : V m c main_v86 = placedCt (m ((c : Thread nD τ).loc main_arg3)) := by
  show StableHlo.after (List.flatten [hostOps0, hostOps0_1, hostOps0_2, hostOps0_3, hostOps0_4]) _ _ = _
  simp only [List.flatten_cons, List.flatten_nil, List.append_nil]
  after_reads_simp
  repeat (simp only [concatenate_pair]; after_reads_simp)
  try simp only [StableHlo.TRef.ofBuf_toBuf]
  simp only [StableHlo.TRef.ofBuf, StableHlo.TRef.toBuf, StableHlo.TRef.of, cast_eq, score, ctxMax, chunkMax, upMax, runMax, maxOf, runRows, ctxRows, ctxRow, lastMax, lseArr, maxRows, headsQ, headsCt, placedQ, placedCt, keysT, vals, ctxKeysT, ctxVals, scoreT, topScore, rowMax, expT, outArr, headsO, placedO, concatenate_pair]
  rfl
set_option maxHeartbeats 4000000 in
/-- The placed output the call takes, computed from the arguments. -/
theorem V_v96 (c : Dev nD) : V m c main_v96 = placedO (m ((c : Thread nD τ).loc main_arg0)) (m ((c : Thread nD τ).loc main_arg1)) (m ((c : Thread nD τ).loc main_arg2)) := by
  show StableHlo.after (List.flatten [hostOps0, hostOps0_1, hostOps0_2, hostOps0_3, hostOps0_4]) _ _ = _
  simp only [List.flatten_cons, List.flatten_nil, List.append_nil]
  after_reads_simp
  repeat (simp only [concatenate_pair]; after_reads_simp)
  try simp only [StableHlo.TRef.ofBuf_toBuf]
  simp only [StableHlo.TRef.ofBuf, StableHlo.TRef.toBuf, StableHlo.TRef.of, cast_eq, score, ctxMax, chunkMax, upMax, runMax, maxOf, runRows, ctxRows, ctxRow, lastMax, lseArr, maxRows, headsQ, headsCt, placedQ, placedCt, keysT, vals, ctxKeysT, ctxVals, scoreT, topScore, rowMax, expT, outArr, headsO, placedO, concatenate_pair]
  rfl
set_option maxHeartbeats 4000000 in
/-- The keys the call takes, computed from the arguments. -/
theorem V_v98 (c : Dev nD) : V m c main_v98 = keysT (m ((c : Thread nD τ).loc main_arg1)) := by
  show StableHlo.after (List.flatten [hostOps0, hostOps0_1, hostOps0_2, hostOps0_3, hostOps0_4]) _ _ = _
  simp only [List.flatten_cons, List.flatten_nil, List.append_nil]
  after_reads_simp
  try simp only [StableHlo.TRef.ofBuf_toBuf]
  simp only [StableHlo.TRef.ofBuf, StableHlo.TRef.toBuf, StableHlo.TRef.of, cast_eq, score, ctxMax, chunkMax, upMax, runMax, maxOf, runRows, ctxRows, ctxRow, lastMax, lseArr, maxRows, headsQ, headsCt, placedQ, placedCt, keysT, vals, ctxKeysT, ctxVals, scoreT, topScore, rowMax, expT, outArr, headsO, placedO, concatenate_pair]
  rfl
set_option maxHeartbeats 4000000 in
/-- The values the call takes, computed from the arguments. -/
theorem V_v99 (c : Dev nD) : V m c main_v99 = vals (m ((c : Thread nD τ).loc main_arg2)) := by
  show StableHlo.after (List.flatten [hostOps0, hostOps0_1, hostOps0_2, hostOps0_3, hostOps0_4]) _ _ = _
  simp only [List.flatten_cons, List.flatten_nil, List.append_nil]
  after_reads_simp
  try simp only [StableHlo.TRef.ofBuf_toBuf]
  simp only [StableHlo.TRef.ofBuf, StableHlo.TRef.toBuf, StableHlo.TRef.of, cast_eq, score, ctxMax, chunkMax, upMax, runMax, maxOf, runRows, ctxRows, ctxRow, lastMax, lseArr, maxRows, headsQ, headsCt, placedQ, placedCt, keysT, vals, ctxKeysT, ctxVals, scoreT, topScore, rowMax, expT, outArr, headsO, placedO, concatenate_pair]
  rfl
set_option maxHeartbeats 4000000 in
/-- The context's keys the call takes, computed from the arguments. -/
theorem V_v101 (c : Dev nD) : V m c main_v101 = ctxKeysT (m ((c : Thread nD τ).loc main_arg1)) := by
  show StableHlo.after (List.flatten [hostOps0, hostOps0_1, hostOps0_2, hostOps0_3, hostOps0_4]) _ _ = _
  simp only [List.flatten_cons, List.flatten_nil, List.append_nil]
  after_reads_simp
  try simp only [StableHlo.TRef.ofBuf_toBuf]
  simp only [StableHlo.TRef.ofBuf, StableHlo.TRef.toBuf, StableHlo.TRef.of, cast_eq, score, ctxMax, chunkMax, upMax, runMax, maxOf, runRows, ctxRows, ctxRow, lastMax, lseArr, maxRows, headsQ, headsCt, placedQ, placedCt, keysT, vals, ctxKeysT, ctxVals, scoreT, topScore, rowMax, expT, outArr, headsO, placedO, concatenate_pair]
  rfl
set_option maxHeartbeats 4000000 in
/-- The context's values the call takes, computed from the arguments. -/
theorem V_v102 (c : Dev nD) : V m c main_v102 = ctxVals (m ((c : Thread nD τ).loc main_arg2)) := by
  show StableHlo.after (List.flatten [hostOps0, hostOps0_1, hostOps0_2, hostOps0_3, hostOps0_4]) _ _ = _
  simp only [List.flatten_cons, List.flatten_nil, List.append_nil]
  after_reads_simp
  try simp only [StableHlo.TRef.ofBuf_toBuf]
  simp only [StableHlo.TRef.ofBuf, StableHlo.TRef.toBuf, StableHlo.TRef.of, cast_eq, score, ctxMax, chunkMax, upMax, runMax, maxOf, runRows, ctxRows, ctxRow, lastMax, lseArr, maxRows, headsQ, headsCt, placedQ, placedCt, keysT, vals, ctxKeysT, ctxVals, scoreT, topScore, rowMax, expT, outArr, headsO, placedO, concatenate_pair]
  rfl

end Cert.KernelIdeal.Glob

end
-- ==== Proof.BlkVal.lean ====
module

public import proofs.«01_k».proof.Proof.PointVal
public import proofs.«01_k».proof.Proof.HostVal
public import proofs.«01_k».proof.Proof.HostRead
public import Idealize.ShloMosaic.Lib.Pipeline.ValueKit

@[expose] public section

set_option maxRecDepth 16384

noncomputable section

namespace Cert.KernelIdeal.Glob

open Idealize.ShloMosaic Idealize.ShloMosaic.TcCoe Idealize.SL.Sem
open Cert.KernelIdeal Cert.KernelIdeal.Gen

variable (m : (ℓ : Loc nD τ sig) → Buf (Elt Ideal) ℓ)

/-- Where each window's block lies at each point. -/
theorem idx_tiled : ∀ t : Fin cfg0.N, win0_0.index t = ![t.val / 32, 0, t.val % 32] ∧ win0_1.index t = ![t.val / 32, 0, t.val % 32]
    ∧ win0_2.index t = ![t.val / 32, 0, t.val % 32] ∧ win0_3.index t = ![t.val / 32, 0, t.val % 32]
    ∧ win0_4.index t = ![t.val / 32, 0, t.val % 32] ∧ win0_9.index t = ![t.val / 32, 0, t.val % 32] :=
  (by decide +kernel : ∀ t : Fin grid0.N, _)
theorem idx_whole : ∀ t : Fin cfg0.N, win0_5.index t = ![0, 0] ∧ win0_6.index t = ![0, 0] ∧ win0_7.index t = ![0, 0] ∧ win0_8.index t = ![0, 0] :=
  (by decide +kernel : ∀ t : Fin grid0.N, _)

theorem head_lt (t : Fin cfg0.N) : t.val / 32 < 8 := by have := lt_256 t; omega
theorem query_lt (t : Fin cfg0.N) (j : Fin 512) : t.val % 32 * 512 + j < 16384 := by omega

/-! ### A window's block, read at an element of its array -/

theorem read0 (c : Dev nD) (t : Fin cfg0.N) (y : S1x128x512.Idx) : iblk m c 0 t y = V m c main_v77 ((win0_0.blk t).view.emb y) := by
  unfold iblk
  generalize V m c = X
  unfold View.read
  exact cast_eq _ _
theorem read1 (c : Dev nD) (t : Fin cfg0.N) (y : S1x128x512.Idx) : iblk m c 1 t y = V m c main_v86 ((win0_1.blk t).view.emb y) := by
  unfold iblk
  generalize V m c = X
  unfold View.read
  exact cast_eq _ _
theorem read2 (c : Dev nD) (t : Fin cfg0.N) (y : S1x128x512.Idx) : iblk m c 2 t y = V m c main_v96 ((win0_2.blk t).view.emb y) := by
  unfold iblk
  generalize V m c = X
  unfold View.read
  exact cast_eq _ _
theorem read3 (c : Dev nD) (t : Fin cfg0.N) (y : S1x1x512.Idx) : iblk m c 3 t y = V m c main_v41 ((win0_3.blk t).view.emb y) := by
  unfold iblk
  generalize V m c = X
  unfold View.read
  exact cast_eq _ _
theorem read4 (c : Dev nD) (t : Fin cfg0.N) (y : S1x17x512.Idx) : iblk m c 4 t y = V m c main_v44 ((win0_4.blk t).view.emb y) := by
  unfold iblk
  generalize V m c = X
  unfold View.read
  exact cast_eq _ _
theorem read5 (c : Dev nD) (t : Fin cfg0.N) (y : S128x16384.Idx) : iblk m c 5 t y = V m c main_v98 ((win0_5.blk t).view.emb y) := by
  unfold iblk
  generalize V m c = X
  unfold View.read
  exact cast_eq _ _
theorem read6 (c : Dev nD) (t : Fin cfg0.N) (y : S16384x128.Idx) : iblk m c 6 t y = V m c main_v99 ((win0_6.blk t).view.emb y) := by
  unfold iblk
  generalize V m c = X
  unfold View.read
  exact cast_eq _ _
theorem read7 (c : Dev nD) (t : Fin cfg0.N) (y : S128x256.Idx) : iblk m c 7 t y = V m c main_v101 ((win0_7.blk t).view.emb y) := by
  unfold iblk
  generalize V m c = X
  unfold View.read
  exact cast_eq _ _
theorem read8 (c : Dev nD) (t : Fin cfg0.N) (y : S256x128.Idx) : iblk m c 8 t y = V m c main_v102 ((win0_8.blk t).view.emb y) := by
  unfold iblk
  generalize V m c = X
  unfold View.read
  exact cast_eq _ _

/-! ### Where the block's elements lie -/

theorem emb0 (t : Fin cfg0.N) (r : Fin 128) (j : Fin 512) :
    (win0_0.blk t).view.emb (ix3 (0 : Fin 1) r j) = ix3 ⟨t.val / 32, head_lt t⟩ r ⟨t.val % 32 * 512 + j, query_lt t j⟩ := by
  obtain ⟨h0, h1, h2, h3, h4, h9⟩ := idx_tiled t
  refine funext fun d => Fin.ext ?_
  fin_cases d
  · blk_simp [h0]
    rfl
  · blk_simp [h0]
    rfl
  · blk_simp [h0]
    rfl
theorem emb1 (t : Fin cfg0.N) (r : Fin 128) (j : Fin 512) :
    (win0_1.blk t).view.emb (ix3 (0 : Fin 1) r j) = ix3 ⟨t.val / 32, head_lt t⟩ r ⟨t.val % 32 * 512 + j, query_lt t j⟩ := by
  obtain ⟨h0, h1, h2, h3, h4, h9⟩ := idx_tiled t
  refine funext fun d => Fin.ext ?_
  fin_cases d
  · blk_simp [h1]
    rfl
  · blk_simp [h1]
    rfl
  · blk_simp [h1]
    rfl
theorem emb2 (t : Fin cfg0.N) (r : Fin 128) (j : Fin 512) :
    (win0_2.blk t).view.emb (ix3 (0 : Fin 1) r j) = ix3 ⟨t.val / 32, head_lt t⟩ r ⟨t.val % 32 * 512 + j, query_lt t j⟩ := by
  obtain ⟨h0, h1, h2, h3, h4, h9⟩ := idx_tiled t
  refine funext fun d => Fin.ext ?_
  fin_cases d
  · blk_simp [h2]
    rfl
  · blk_simp [h2]
    rfl
  · blk_simp [h2]
    rfl
theorem emb3 (t : Fin cfg0.N)  (j : Fin 512) :
    (win0_3.blk t).view.emb (ix3 (0 : Fin 1) (0 : Fin 1) j) = ix3 ⟨t.val / 32, head_lt t⟩ (0 : Fin 1) ⟨t.val % 32 * 512 + j, query_lt t j⟩ := by
  obtain ⟨h0, h1, h2, h3, h4, h9⟩ := idx_tiled t
  refine funext fun d => Fin.ext ?_
  fin_cases d
  · blk_simp [h3]
    rfl
  · blk_simp [h3]
  · blk_simp [h3]
    rfl
theorem emb4 (t : Fin cfg0.N) (n : Fin 17) (j : Fin 512) :
    (win0_4.blk t).view.emb (ix3 (0 : Fin 1) n j) = ix3 ⟨t.val / 32, head_lt t⟩ n ⟨t.val % 32 * 512 + j, query_lt t j⟩ := by
  obtain ⟨h0, h1, h2, h3, h4, h9⟩ := idx_tiled t
  refine funext fun d => Fin.ext ?_
  fin_cases d
  · blk_simp [h4]
    rfl
  · blk_simp [h4]
    rfl
  · blk_simp [h4]
    rfl
theorem emb5 (t : Fin cfg0.N) (r : Fin 128) (j : Fin 16384) : (win0_5.blk t).view.emb (ix2 r j) = ix2 r j := by
  obtain ⟨h5, h6, h7, h8⟩ := idx_whole t
  refine funext fun d => Fin.ext ?_
  fin_cases d
  · blk_simp [h5]
  · blk_simp [h5]
theorem emb6 (t : Fin cfg0.N) (r : Fin 16384) (j : Fin 128) : (win0_6.blk t).view.emb (ix2 r j) = ix2 r j := by
  obtain ⟨h5, h6, h7, h8⟩ := idx_whole t
  refine funext fun d => Fin.ext ?_
  fin_cases d
  · blk_simp [h6]
  · blk_simp [h6]
theorem emb7 (t : Fin cfg0.N) (r : Fin 128) (j : Fin 256) : (win0_7.blk t).view.emb (ix2 r j) = ix2 r j := by
  obtain ⟨h5, h6, h7, h8⟩ := idx_whole t
  refine funext fun d => Fin.ext ?_
  fin_cases d
  · blk_simp [h7]
  · blk_simp [h7]
theorem emb8 (t : Fin cfg0.N) (r : Fin 256) (j : Fin 128) : (win0_8.blk t).view.emb (ix2 r j) = ix2 r j := by
  obtain ⟨h5, h6, h7, h8⟩ := idx_whole t
  refine funext fun d => Fin.ext ?_
  fin_cases d
  · blk_simp [h8]
  · blk_simp [h8]

/-! ### The blocks at an index -/

theorem blk0 (c : Dev nD) (t : Fin cfg0.N) (r : Fin 128) (j : Fin 512) :
    iblk m c 0 t (ix3 (0 : Fin 1) r j) = V m c main_v77 (ix3 ⟨t.val / 32, head_lt t⟩ r ⟨t.val % 32 * 512 + j, query_lt t j⟩) :=
  (read0 m c t _).trans (congrArg (V m c main_v77) (emb0 t r j))
theorem blk1 (c : Dev nD) (t : Fin cfg0.N) (r : Fin 128) (j : Fin 512) :
    iblk m c 1 t (ix3 (0 : Fin 1) r j) = V m c main_v86 (ix3 ⟨t.val / 32, head_lt t⟩ r ⟨t.val % 32 * 512 + j, query_lt t j⟩) :=
  (read1 m c t _).trans (congrArg (V m c main_v86) (emb1 t r j))
theorem blk2 (c : Dev nD) (t : Fin cfg0.N) (r : Fin 128) (j : Fin 512) :
    iblk m c 2 t (ix3 (0 : Fin 1) r j) = V m c main_v96 (ix3 ⟨t.val / 32, head_lt t⟩ r ⟨t.val % 32 * 512 + j, query_lt t j⟩) :=
  (read2 m c t _).trans (congrArg (V m c main_v96) (emb2 t r j))
theorem blk3 (c : Dev nD) (t : Fin cfg0.N)  (j : Fin 512) :
    iblk m c 3 t (ix3 (0 : Fin 1) (0 : Fin 1) j) = V m c main_v41 (ix3 ⟨t.val / 32, head_lt t⟩ (0 : Fin 1) ⟨t.val % 32 * 512 + j, query_lt t j⟩) :=
  (read3 m c t _).trans (congrArg (V m c main_v41) (emb3 t j))
theorem blk4 (c : Dev nD) (t : Fin cfg0.N) (n : Fin 17) (j : Fin 512) :
    iblk m c 4 t (ix3 (0 : Fin 1) n j) = V m c main_v44 (ix3 ⟨t.val / 32, head_lt t⟩ n ⟨t.val % 32 * 512 + j, query_lt t j⟩) :=
  (read4 m c t _).trans (congrArg (V m c main_v44) (emb4 t n j))
theorem blk5 (c : Dev nD) (t : Fin cfg0.N) (r : Fin 128) (j : Fin 16384) : iblk m c 5 t (ix2 r j) = V m c main_v98 (ix2 r j) :=
  (read5 m c t _).trans (congrArg (V m c main_v98) (emb5 t r j))
theorem blk6 (c : Dev nD) (t : Fin cfg0.N) (r : Fin 16384) (j : Fin 128) : iblk m c 6 t (ix2 r j) = V m c main_v99 (ix2 r j) :=
  (read6 m c t _).trans (congrArg (V m c main_v99) (emb6 t r j))
theorem blk7 (c : Dev nD) (t : Fin cfg0.N) (r : Fin 128) (j : Fin 256) : iblk m c 7 t (ix2 r j) = V m c main_v101 (ix2 r j) :=
  (read7 m c t _).trans (congrArg (V m c main_v101) (emb7 t r j))
theorem blk8 (c : Dev nD) (t : Fin cfg0.N) (r : Fin 256) (j : Fin 128) : iblk m c 8 t (ix2 r j) = V m c main_v102 (ix2 r j) :=
  (read8 m c t _).trans (congrArg (V m c main_v102) (emb8 t r j))

end Cert.KernelIdeal.Glob

end
-- ==== Proof.InsVal.lean ====
module

public import proofs.«01_k».proof.Proof.BlkVal

@[expose] public section

set_option maxRecDepth 16384

noncomputable section

namespace Cert.KernelIdeal.Glob

open Idealize.ShloMosaic Idealize.ShloMosaic.TcCoe Idealize.SL.Sem
open Cert.KernelIdeal Cert.KernelIdeal.Gen

/-! ### Lanes outside a head's half add nothing -/

/-- A sum over 128 lanes of which only one half counts. -/
theorem sum_half (f : ℕ → ℝ) {a : ℕ} (ha : a < 2) :
    (∑ r ∈ Finset.range 128, if r / 64 = a then f (r % 64) else 0) = ∑ d ∈ Finset.range 64, f d := by
  rw [show (128 : ℕ) = 64 + 64 from rfl, Finset.sum_range_add]
  have h0 : a = 0 ∨ a = 1 := by omega
  rcases h0 with rfl | rfl
  · have e2 : (∑ x ∈ Finset.range 64, if (64 + x) / 64 = 0 then f ((64 + x) % 64) else 0) = 0 :=
      Finset.sum_eq_zero fun x _ => if_neg (by omega)
    rw [e2, add_zero]
    refine Finset.sum_congr rfl fun r hr => ?_
    have := Finset.mem_range.mp hr
    rw [if_pos (by omega), Nat.mod_eq_of_lt (by omega)]
  · have e1 : (∑ x ∈ Finset.range 64, if x / 64 = 1 then f (x % 64) else 0) = 0 :=
      Finset.sum_eq_zero fun x hx => if_neg (by have := Finset.mem_range.mp hx; omega)
    rw [e1, zero_add]
    refine Finset.sum_congr rfl fun r hr => ?_
    have := Finset.mem_range.mp hr
    rw [if_pos (by omega), show (64 + r) % 64 = r by omega]

/-! ### The numbers at the `n`th point -/

/-- What the `n`th point works with: head `n / 32`, and 512 queries from `n % 32 * 512` on; the head's lanes are one half of
    the 128, zeros fill the other. -/
def ptOf (A : Args) (n : ℕ) : Pt where
  q r j := if r / 64 = n / 32 / 4 then A.Q (n % 32 * 512 + j) (n / 32) (r % 64) * (1 / 8) else 0
  go r j := if r / 64 = n / 32 / 4 then A.C (n % 32 * 512 + j) (n / 32) (r % 64) else 0
  w k j := A.p (n / 32) k (n % 32 * 512 + j)
  del j := A.dl (n / 32) (n % 32 * 512 + j)
  k k r := A.K k (r / 64) (r % 64)
  v k r := A.V k (r / 64) (r % 64)

theorem ptOf_dp (A : Args) {n : ℕ} (hn : n < 256) (k j : ℕ) : (ptOf A n).dp k j = A.dp (n / 32) k (n % 32 * 512 + j) := by
  unfold Pt.dp Args.dp
  rw [← sum_half (fun d => A.V k (n / 32 / 4) d * A.C (n % 32 * 512 + j) (n / 32) d) (show n / 32 / 4 < 2 by omega)]
  refine Finset.sum_congr rfl fun r _ => ?_
  show A.V k (r / 64) (r % 64) * (if r / 64 = n / 32 / 4 then A.C (n % 32 * 512 + j) (n / 32) (r % 64) else 0) = _
  by_cases h : r / 64 = n / 32 / 4
  · rw [if_pos h, if_pos h, h]
  · rw [if_neg h, if_neg h, mul_zero]

theorem ptOf_ds (A : Args) {n : ℕ} (hn : n < 256) (k j : ℕ) : (ptOf A n).ds k j = A.ds (n / 32) k (n % 32 * 512 + j) := by
  unfold Pt.ds Args.ds
  rw [ptOf_dp A hn]
  simp only [ptOf]

section
variable (m : (ℓ : Loc nD τ sig) → Buf (Elt Ideal) ℓ) (c : Dev nD)

/-- The numbers in the arguments on a device. -/
abbrev numsOf : Args := argsOf (m ((c : Thread nD τ).loc main_arg0)) (m ((c : Thread nD τ).loc main_arg1)) (m ((c : Thread nD τ).loc main_arg2)) (m ((c : Thread nD τ).loc main_arg3))

variable (R : AllReal (m ((c : Thread nD τ).loc main_arg0)) (m ((c : Thread nD τ).loc main_arg1)) (m ((c : Thread nD τ).loc main_arg2)) (m ((c : Thread nD τ).loc main_arg3)))
include R

theorem ins_q (t : Fin cfg0.N) (r : Fin 128) (j : Fin 512) : iblk m c 0 t (ix3 (0 : Fin 1) r j) = (((ptOf (numsOf m c) t.val).q r j : ℝ) : EReal) :=
  (blk0 m c t r j).trans ((congrFun (V_v77 m c) _).trans (placedQ_val R _ r _))
theorem ins_go (t : Fin cfg0.N) (r : Fin 128) (j : Fin 512) : iblk m c 1 t (ix3 (0 : Fin 1) r j) = (((ptOf (numsOf m c) t.val).go r j : ℝ) : EReal) :=
  (blk1 m c t r j).trans ((congrFun (V_v86 m c) _).trans (placedCt_val R _ r _))
theorem ins_o (t : Fin cfg0.N) (r : Fin 128) (j : Fin 512) : iblk m c 2 t (ix3 (0 : Fin 1) r j)
    = (((if (r : ℕ) / 64 = t.val / 32 / 4 then (numsOf m c).o (t.val / 32) (t.val % 32 * 512 + j) (r % 64) else 1) : ℝ) : EReal) :=
  (blk2 m c t r j).trans ((congrFun (V_v96 m c) _).trans (placedO_val R _ r _))
theorem ins_lse (t : Fin cfg0.N) (j : Fin 512) : iblk m c 3 t (ix3 (0 : Fin 1) (0 : Fin 1) j)
    = ((Real.log ((numsOf m c).z (t.val / 32) (t.val % 32 * 512 + j)) : ℝ) : EReal) :=
  (blk3 m c t j).trans ((congrFun (V_v41 m c) _).trans (lse_val R _ _))
theorem ins_mr (t : Fin cfg0.N) (n : Fin 17) (j : Fin 512) : iblk m c 4 t (ix3 (0 : Fin 1) n j)
    = ((rowNum (m ((c : Thread nD τ).loc main_arg0)) (m ((c : Thread nD τ).loc main_arg1)) (t.val / 32) n (t.val % 32 * 512 + j) : ℝ) : EReal) :=
  (blk4 m c t n j).trans ((congrFun (V_v44 m c) _).trans (maxRows_val R _ n _))
theorem ins_p (t : Fin cfg0.N) (k : Fin 17664) (hk : (k : ℕ) < 16640) (j : Fin 512) :
    V m c main_v31 (ix4 (ga (grid0.coords t)) (gb (grid0.coords t)) k j)
      = ((Real.exp ((numsOf m c).s (t.val / 32) k (t.val % 32 * 512 + j)
        - rowNum (m ((c : Thread nD τ).loc main_arg0)) (m ((c : Thread nD τ).loc main_arg1)) (t.val / 32)
          (if (k : ℕ) < 16384 then k / 1024 else 16) (t.val % 32 * 512 + j)) : ℝ) : EReal) := by
  have h8 : t.val / 32 % 8 = t.val / 32 := Nat.mod_eq_of_lt (head_lt t)
  rw [ga_coords, gb_coords]
  refine (congrFun (V_v31 m c) _).trans ((weights_val R (an t.val) (bn t.val) k j hk).trans ?_)
  show ((Real.exp ((numsOf m c).s (t.val / 32 % 8) k (t.val % 32 * 512 + j)
        - rowNum (m ((c : Thread nD τ).loc main_arg0)) (m ((c : Thread nD τ).loc main_arg1)) (t.val / 32 % 8)
          (if (k : ℕ) < 16384 then k / 1024 else 16) (t.val % 32 * 512 + j)) : ℝ) : EReal) = _
  rw [h8]

/-- A stored weight, corrected, is the attention weight. -/
theorem ins_w (t : Fin cfg0.N) (k : Fin 17664) (hk : (k : ℕ) < 16640) (n : Fin 17) (hn : (n : ℕ) = if (k : ℕ) < 16384 then (k : ℕ) / 1024 else 16) (j : Fin 512) :
    (show EReal from V m c main_v31 (ix4 (ga (grid0.coords t)) (gb (grid0.coords t)) k j))
      * Ideal.exp ((show EReal from iblk m c 4 t (ix3 (0 : Fin 1) n j)) - (show EReal from iblk m c 3 t (ix3 (0 : Fin 1) (0 : Fin 1) j)))
      = (((ptOf (numsOf m c) t.val).w k j : ℝ) : EReal) := by
  rw [ins_p m c R t k hk j, ins_mr m c R t n j, ins_lse m c R t j, ← EReal.coe_sub, Ideal.exp_coe, ← EReal.coe_mul, hn,
    exp_sub_mul ((numsOf m c).z_pos _ _)]
  rfl

theorem ins_del (t : Fin cfg0.N) (j : Fin 512) : k0_pay11 (F := Ideal) (insOf m c t).go (insOf m c t).o (ix2 0 j)
    = (((ptOf (numsOf m c) t.val).del j : ℝ) : EReal) := by
  refine (pay11_at _ _ j).trans ((sum_coe_mul (fun r => (ptOf (numsOf m c) t.val).go r j)
    (fun r => if r / 64 = t.val / 32 / 4 then (numsOf m c).o (t.val / 32) (t.val % 32 * 512 + j) (r % 64) else 1)
    (fun r => ins_go m c R t r j) (fun r => ins_o m c R t r j)).trans (congrArg _ ?_))
  generalize numsOf m c = A
  have hn := lt_256 t
  revert hn
  generalize t.val = n
  intro hn
  simp only [ptOf]
  rw [Args.dl_eq, ← sum_half (fun d => A.C (n % 32 * 512 + j) (n / 32) d * A.o (n / 32) (n % 32 * 512 + j) d) (show n / 32 / 4 < 2 by omega)]
  refine Finset.sum_congr rfl fun r _ => ?_
  by_cases h : r / 64 = n / 32 / 4
  · simp only [if_pos h]
  · simp only [if_neg h, zero_mul]

theorem ins_wm (t : Fin cfg0.N) (k : Fin 16384) (j : Fin 512) :
    (show EReal from V m c main_v31 (ix4 (ga (grid0.coords t)) (gb (grid0.coords t)) ⟨k, by omega⟩ j))
      * Ideal.exp ((show EReal from iblk m c 4 t (ix3 (0 : Fin 1) ⟨k / 1024, by omega⟩ j)) - (show EReal from iblk m c 3 t (ix3 (0 : Fin 1) (0 : Fin 1) j)))
      = (((ptOf (numsOf m c) t.val).w k j : ℝ) : EReal) :=
  ins_w m c R t ⟨k, by omega⟩ (lt_trans k.2 (by norm_num)) ⟨k / 1024, by omega⟩ (if_pos k.2).symm j

theorem ins_wc (t : Fin cfg0.N) (k : Fin 256) (j : Fin 512) :
    (show EReal from V m c main_v31 (ix4 (ga (grid0.coords t)) (gb (grid0.coords t)) ⟨16384 + k, by omega⟩ j))
      * Ideal.exp ((show EReal from iblk m c 4 t (ix3 (0 : Fin 1) (16 : Fin 17) j)) - (show EReal from iblk m c 3 t (ix3 (0 : Fin 1) (0 : Fin 1) j)))
      = (((ptOf (numsOf m c) t.val).w (16384 + k) j : ℝ) : EReal) :=
  ins_w m c R t ⟨16384 + k, by omega⟩ (Nat.add_lt_add_left k.2 16384) 16 (if_neg (Nat.not_lt.mpr (Nat.le_add_right _ _))).symm j

theorem ins_k (t : Fin cfg0.N) (r : Fin 128) (k : Fin 16384) : (insOf m c t).kt (ix2 r k) = (((ptOf (numsOf m c) t.val).k k r : ℝ) : EReal) :=
  (blk5 m c t r k).trans ((congrFun (V_v98 m c) _).trans (keysT_val R r k))
theorem ins_v (t : Fin cfg0.N) (k : Fin 16384) (r : Fin 128) : (insOf m c t).v (ix2 k r) = (((ptOf (numsOf m c) t.val).v k r : ℝ) : EReal) :=
  (blk6 m c t k r).trans ((congrFun (V_v99 m c) _).trans (vals_val R k r))
theorem ins_kc (t : Fin cfg0.N) (r : Fin 128) (k : Fin 256) : (insOf m c t).kc (ix2 r k) = (((ptOf (numsOf m c) t.val).k (16384 + k) r : ℝ) : EReal) :=
  (blk7 m c t r k).trans ((congrFun (V_v101 m c) _).trans (ctxKeysT_val R r k))
theorem ins_vc (t : Fin cfg0.N) (k : Fin 256) (r : Fin 128) : (insOf m c t).vc (ix2 k r) = (((ptOf (numsOf m c) t.val).v (16384 + k) r : ℝ) : EReal) :=
  (blk8 m c t k r).trans ((congrFun (V_v102 m c) _).trans (ctxVals_val R k r))

set_option maxHeartbeats 1600000 in
/-- The blocks at every point hold that point's numbers. -/
theorem ins_holds (t : Fin cfg0.N) : PointHolds (grid0.coords t) (insOf m c t) (ptOf (numsOf m c) t.val) := by
  constructor
  · exact ins_q m c R t
  · exact ins_go m c R t
  · exact ins_del m c R t
  · exact ins_wm m c R t
  · exact ins_wc m c R t
  · exact ins_k m c R t
  · exact ins_v m c R t
  · exact ins_kc m c R t
  · exact ins_vc m c R t

end

end Cert.KernelIdeal.Glob

end
-- ==== Proof.SumVal.lean ====
module

public import proofs.«01_k».proof.Proof.InsVal

@[expose] public section

set_option maxRecDepth 16384

noncomputable section

namespace Cert.KernelIdeal.Glob

open Idealize.ShloMosaic Idealize.ShloMosaic.TcCoe Idealize.SL.Sem
open Cert.KernelIdeal Cert.KernelIdeal.Gen

/-! ### The 256 points cover eight heads of 16384 queries -/

/-- A sum over `a * b` terms, by rows of `b`. -/
theorem sum_rows (a b : ℕ) (g : ℕ → ℝ) : (∑ i ∈ Finset.range (a * b), g i) = ∑ x ∈ Finset.range a, ∑ y ∈ Finset.range b, g (x * b + y) := by
  induction a with
  | zero => simp
  | succ a ih => rw [Nat.succ_mul, Finset.sum_range_add, ih, Finset.sum_range_succ]

theorem sum_points (f : ℕ → ℕ → ℝ) : (∑ t ∈ Finset.range 256, ∑ j ∈ Finset.range 512, f (t / 32) (t % 32 * 512 + j))
    = ∑ h ∈ Finset.range 8, ∑ i ∈ Finset.range 16384, f h i := by
  rw [show (256 : ℕ) = 8 * 32 from rfl, sum_rows 8 32 (fun t => ∑ j ∈ Finset.range 512, f (t / 32) (t % 32 * 512 + j))]
  refine Finset.sum_congr rfl fun h _ => ?_
  rw [show (16384 : ℕ) = 32 * 512 from rfl, sum_rows 32 512 (f h)]
  refine Finset.sum_congr rfl fun b hb => ?_
  have hb := Finset.mem_range.mp hb
  rw [show (h * 32 + b) / 32 = h by omega, show (h * 32 + b) % 32 = b by omega]

/-- A sum over the heads of one half. -/
theorem sum_heads (g : ℕ → ℝ) {a : ℕ} (ha : a < 2) :
    (∑ h ∈ Finset.range 8, if a = h / 4 then g h else 0) = ∑ x ∈ Finset.range 4, g (4 * a + x) := by
  have h0 : a = 0 ∨ a = 1 := by omega
  rcases h0 with rfl | rfl <;> simp [Finset.sum_range_succ]

theorem sum_ite_mul (p : Prop) [Decidable p] (n : ℕ) (x y : ℕ → ℝ) :
    (∑ i ∈ Finset.range n, (if p then x i else 0) * y i) = if p then ∑ i ∈ Finset.range n, x i * y i else 0 := by
  by_cases h : p
  · simp only [if_pos h]
  · simp only [if_neg h, zero_mul, Finset.sum_const_zero]

/-- The points' shares of a key's gradient add up to it. -/
theorem sum_kShare (A : Args) {r : ℕ} (hr : r < 128) (k : ℕ) :
    (∑ t ∈ Finset.range 256, kShare (ptOf A t) r k) = A.dk (r / 64) k (r % 64) := by
  refine (Finset.sum_congr rfl fun t ht => ?_).trans ((sum_points fun h i => (if r / 64 = h / 4 then A.Q i h (r % 64) * (1 / 8) else 0) * A.ds h k i).trans ?_)
  · unfold kShare
    refine Finset.sum_congr rfl fun j _ => ?_
    rw [ptOf_ds A (Finset.mem_range.mp ht)]
    simp only [ptOf]
  · unfold Args.dk
    rw [← sum_heads (fun h => ∑ i ∈ Finset.range 16384, A.Q i h (r % 64) * (1 / 8) * A.ds h k i) (show r / 64 < 2 by omega)]
    exact Finset.sum_congr rfl fun h _ => sum_ite_mul _ _ _ _

/-- The points' shares of a value's gradient add up to it. -/
theorem sum_vShare (A : Args) {r : ℕ} (hr : r < 128) (k : ℕ) :
    (∑ t ∈ Finset.range 256, vShare (ptOf A t) r k) = A.dv (r / 64) k (r % 64) := by
  refine (Finset.sum_congr rfl fun t _ => ?_).trans ((sum_points fun h i => (if r / 64 = h / 4 then A.C i h (r % 64) else 0) * A.p h k i).trans ?_)
  · unfold vShare
    exact Finset.sum_congr rfl fun j _ => by simp only [ptOf]
  · unfold Args.dv
    rw [← sum_heads (fun h => ∑ i ∈ Finset.range 16384, A.C i h (r % 64) * A.p h k i) (show r / 64 < 2 by omega)]
    exact Finset.sum_congr rfl fun h _ => sum_ite_mul _ _ _ _

section
variable (m : (ℓ : Loc nD τ sig) → Buf (Elt Ideal) ℓ) (c : Dev nD)
variable (R : AllReal (m ((c : Thread nD τ).loc main_arg0)) (m ((c : Thread nD τ).loc main_arg1)) (m ((c : Thread nD τ).loc main_arg2)) (m ((c : Thread nD τ).loc main_arg3)))
include R

theorem end_holds : AccHolds (ptOf (numsOf m c)) 256 (accAt m c 256) := acc_holds m c (ptOf (numsOf m c)) (ins_holds m c R) 256 (le_refl _)

theorem end_dk (r : Fin 128) (k : Fin 16384) : (accAt m c 256).dk (ix2 r k) = (((numsOf m c).dk (r / 64) k (r % 64) : ℝ) : EReal) :=
  ((end_holds m c R).dk r k).trans (congrArg _ (sum_kShare _ r.2 _))
theorem end_dv (r : Fin 128) (k : Fin 16384) : (accAt m c 256).dv (ix2 r k) = (((numsOf m c).dv (r / 64) k (r % 64) : ℝ) : EReal) :=
  ((end_holds m c R).dv r k).trans (congrArg _ (sum_vShare _ r.2 _))
theorem end_dkc (r : Fin 128) (k : Fin 256) : (accAt m c 256).dkc (ix2 r k) = (((numsOf m c).dk (r / 64) (16384 + k) (r % 64) : ℝ) : EReal) :=
  ((end_holds m c R).dkc r k).trans (congrArg _ (sum_kShare _ r.2 _))
theorem end_dvc (r : Fin 128) (k : Fin 256) : (accAt m c 256).dvc (ix2 r k) = (((numsOf m c).dv (r / 64) (16384 + k) (r % 64) : ℝ) : EReal) :=
  ((end_holds m c R).dvc r k).trans (congrArg _ (sum_vShare _ r.2 _))

/-- The head's queries' gradient as a point leaves it: against every lane of the keys, before the scale. -/
theorem end_dq (t : Fin cfg0.N) (r : Fin 128) (j : Fin 512) : dqAt m c t (ix3 (0 : Fin 1) r j)
    = (((∑ k ∈ Finset.range 16640, (numsOf m c).K k (r / 64) (r % 64) * (numsOf m c).ds (t.val / 32) k (t.val % 32 * 512 + j) : ℝ)) : EReal) := by
  refine (dqAt_val m c (ptOf (numsOf m c)) (ins_holds m c R) t r j).trans (congrArg _ (Finset.sum_congr rfl fun k _ => ?_))
  rw [ptOf_ds _ (lt_256 t)]
  simp only [ptOf]

end

end Cert.KernelIdeal.Glob

end
-- ==== Proof.EndArr.lean ====
module

public import proofs.«01_k».proof.Proof.SumVal
public import Idealize.ShloMosaic.Lib.Pipeline.ValueKit

@[expose] public section

set_option maxRecDepth 16384

noncomputable section

namespace Cert.KernelIdeal.Glob

open Idealize.ShloMosaic Idealize.ShloMosaic.TcCoe Idealize.SL.Sem
open Cert.KernelIdeal Cert.KernelIdeal.Gen

section
variable (m : (ℓ : Loc nD τ sig) → Buf (Elt Ideal) ℓ) (c : Dev nD)

/-! ### What the grid wrote -/

/-- The last point. -/
def lastT : Fin cfg0.N := ⟨255, lt_of_lt_of_eq (by norm_num) N_0.symm⟩

theorem after9 (t : Fin cfg0.N) : (dats m 0 c).after 9 t = dqAt m c t := by dsimp only [dats]
theorem after10 : (dats m 0 c).after 10 lastT = (accAt m c 256).dkc := by dsimp only [dats]; rfl
theorem after11 : (dats m 0 c).after 11 lastT = (accAt m c 256).dvc := by dsimp only [dats]; rfl

/-- The context's keys' gradient is the last point's sum. -/
theorem arr10 (j : S128x256.Idx) : (dats m 0 c).arrAt 10 cfg0.N j = (accAt m c 256).dkc j := by
  refine ((dats m 0 c).arrAt_emb_eq_after_last 10 lastT (by decide +kernel) j).trans ?_
  rw [after10]
  generalize (accAt m c 256).dkc = X
  exact cast_eq _ _
/-- The context's values' gradient is the last point's sum. -/
theorem arr11 (j : S128x256.Idx) : (dats m 0 c).arrAt 11 cfg0.N j = (accAt m c 256).dvc j := by
  refine ((dats m 0 c).arrAt_emb_eq_after_last 11 lastT (by decide +kernel) j).trans ?_
  rw [after11]
  generalize (accAt m c 256).dvc = X
  exact cast_eq _ _

theorem emb9 (t : Fin cfg0.N) (r : Fin 128) (j : Fin 512) :
    (win0_9.blk t).view.emb (ix3 (0 : Fin 1) r j) = ix3 ⟨t.val / 32, head_lt t⟩ r ⟨t.val % 32 * 512 + j, query_lt t j⟩ := by
  obtain ⟨h0, h1, h2, h3, h4, h9⟩ := idx_tiled t
  refine funext fun d => Fin.ext ?_
  fin_cases d
  · blk_simp [h9]
    rfl
  · blk_simp [h9]
    rfl
  · blk_simp [h9]
    rfl

/-- The queries' gradient over every lane of the keys, before the scale. -/
def dqLanes (A : Args) : S8x128x16384.Idx → Elt Ideal .f32 := fun y =>
  (((∑ k ∈ Finset.range 16640, A.K k ((y 1).val / 64) ((y 1).val % 64) * A.ds (y 0).val k (y 2).val : ℝ)) : EReal)

variable (R : AllReal (m ((c : Thread nD τ).loc main_arg0)) (m ((c : Thread nD τ).loc main_arg1)) (m ((c : Thread nD τ).loc main_arg2)) (m ((c : Thread nD τ).loc main_arg3)))
include R

theorem dq_block (t : Fin cfg0.N) (y : S1x128x512.Idx) : dqAt m c t y = dqLanes (numsOf m c) ((win0_9.blk t).view.emb y) := by
  obtain ⟨z, r, j, rfl⟩ : ∃ (z : Fin 1) (r : Fin 128) (j : Fin 512), y = ix3 z r j := ⟨y 0, y 1, y 2, eq_ix3 y⟩
  obtain rfl : z = 0 := Subsingleton.elim _ _
  rw [emb9]
  exact end_dq m c R t r j

/-- The queries' gradient as the grid leaves it. -/
theorem arr9 : (dats m 0 c).arrAt 9 cfg0.N = dqLanes (numsOf m c) := by
  refine (dats m 0 c).arrAt_eq_of_covers 9 (dqLanes (numsOf m c)) (by decide +kernel) fun t hf y => ?_
  rw [after9]
  have h := dq_block m c R t y
  revert h
  generalize dqAt m c t = X
  generalize dqLanes (numsOf m c) = G
  intro h
  exact (cast_eq _ _).trans h

end

end Cert.KernelIdeal.Glob

end
-- ==== Proof.EndHost.lean ====
module

public import proofs.«01_k».proof.Proof.Run
public import proofs.«01_k».proof.Proof.Nums
public import Idealize.ShloMosaic.Lib.Pipeline.ValueKit
public import Idealize.ShloMosaic.Lib.Pointwise
public import Idealize.ShloMosaic.Lib.StableHlo.RunRead

@[expose] public section

set_option maxRecDepth 16384

noncomputable section

namespace Cert.KernelIdeal.Glob

open Idealize.ShloMosaic Idealize.ShloMosaic.TcCoe Idealize.SL.Sem
open Cert.KernelIdeal Cert.KernelIdeal.Gen

/-- What the host's last lines make of the grid's array: each head's own half of the lanes, scaled. -/
def dqOut (x : FVec Ideal S8x128x16384 .f32) : FVec Ideal S8x64x16384 .f32 :=
  mulf (concatenate S8x64x16384 0 [⟨S4x64x16384, extractStridedSlice S4x64x16384 ![0, 0, 0] x slices_S8x128x16384_S4x64x16384_0_0_0⟩, ⟨S4x64x16384, extractStridedSlice S4x64x16384 ![4, 64, 0] x slices_S8x128x16384_S4x64x16384_4_64_0⟩] concatenates_S4x64x16384_S4x64x16384_S8x64x16384_d0)
    (broadcastInDim S8x64x16384 ![] bcast_S_S8x64x16384 (constant S_ .f32 0x3E000000#32))

section
variable (m : (ℓ : Loc nD τ sig) → Buf (Elt Ideal) ℓ) (c : Dev nD)

/-- The host's last lines take each head's half of the lanes and scale. -/
theorem end_v108 : endOf m c main_v108 = dqOut ((dats m 0 c).arrAt 9 cfg0.N) := by
  unfold endOf
  rw [← Pipeline.withArrays_arr spec0 launch0.win.arr_inj c (Pipeline.withR (V0 m c) R0 c (G m c)) (fun w => (dats m 0 c).arrAt w cfg0.N) 9]
  generalize Pipeline.withArrays spec0 c (Pipeline.withR (V0 m c) R0 c (G m c)) (fun w => (dats m 0 c).arrAt w cfg0.N) = W
  simp only [List.flatten_cons, List.flatten_nil, List.append_nil]
  after_reads_simp
  try simp only [StableHlo.TRef.ofBuf_toBuf]
  simp only [StableHlo.TRef.ofBuf, StableHlo.TRef.toBuf, StableHlo.TRef.of, cast_eq, dqOut]
  rfl

theorem end_v103_1 : endOf m c main_v103_1 = G m c main_v103_1 := by
  unfold endOf
  rw [StableHlo.after_of_forall_not_mem (b := Proc.devRef .tc main_v103_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_v103_1 (by exact (by decide : ∀ w, Pipeline.arrRef spec0 w ≠ main_v103_1)),
    Pipeline.withR_of_mem _ _ _ _ main_v103_1 (by decide)]
theorem end_v103_2 : endOf m c main_v103_2 = G m c main_v103_2 := by
  unfold endOf
  rw [StableHlo.after_of_forall_not_mem (b := Proc.devRef .tc main_v103_2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_v103_2 (by exact (by decide : ∀ w, Pipeline.arrRef spec0 w ≠ main_v103_2)),
    Pipeline.withR_of_mem _ _ _ _ main_v103_2 (by decide)]

/-- What a whole buffer's contents are. -/
theorem rep_read (b : Ref sig .tc) (x : b.ty.shape.Idx → Elt Ideal b.ty.elt) (j : b.ty.shape.Idx) : (Memref.whole b).view.rep x j = x j :=
  ((Memref.whole b).view.rep_emb x j).trans (cast_eq _ _)

theorem end_dk_at (j : S128x16384.Idx) : endOf m c main_v103_1 j = (accAt m c 256).dk j := by
  rw [end_v103_1, G_dk]
  generalize (accAt m c 256).dk = X
  exact rep_read main_v103_1 X j
theorem end_dv_at (j : S128x16384.Idx) : endOf m c main_v103_2 j = (accAt m c 256).dv j := by
  rw [end_v103_2, G_dv]
  generalize (accAt m c 256).dv = X
  exact rep_read main_v103_2 X j
end

/-- The host's last lines, at an element: head `h` reads its own half. -/
theorem dqOut_at (x : FVec Ideal S8x128x16384 .f32) (h : Fin 8) (d : Fin 64) (i : Fin 16384) :
    dqOut x (ix3 h d i) = (show EReal from x (ix3 h ⟨(h : ℕ) / 4 * 64 + d, by omega⟩ i)) * ((1 / 8 : ℝ) : EReal) := by
  unfold dqOut
  pointwise [ofBits_eighth]
  refine congrArg (fun y : EReal => y * ((1 / 8 : ℝ) : EReal)) ?_
  by_cases hh : (h : ℕ) < 4
  · rw [dif_pos hh]
    exact congrArg (fun r => x (ix3 h r i)) (Fin.ext (by show (d : ℕ) = (h : ℕ) / 4 * 64 + d; omega))
  · rw [dif_neg hh]
    exact (congrArg (fun a => x (ix3 a _ i)) (Fin.ext (by show 4 + ((h : ℕ) - 4) = h; omega))).trans
      (congrArg (fun r => x (ix3 h r i)) (Fin.ext (by show 64 + (d : ℕ) = (h : ℕ) / 4 * 64 + d; omega)))

end Cert.KernelIdeal.Glob

end
-- ==== Proof.RefTerms.lean ====
module

public import proofs.«01_k».proof.Proof.Gen.ReferenceIdeal.Run

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

section
variable {F : FTy → Type} [FloatOps F] (q : FVec F S16384x2x4x64 .f32) (k v : FVec F S16640x2x64 .f32) (ct : FVec F S16384x512 .f32)

/-- The scores, queries by keys. -/
def scoreR : FVec F S2x4x16384x16640 .f32 :=
  mulf (transpose S2x4x16384x16640 [0, 3, 2, 1] (Host.dotGeneral dot_S16640x2x64_S16384x2x4x64_S2x16640x16384x4_2_3_0_02_1_1 none k q) transposes_S2x16640x16384x4_S2x4x16384x16640_0_3_2_1) (broadcastInDim S2x4x16384x16640 ![] bcast_S_S2x4x16384x16640 (constant S_ .f32 0x3E000000#32))
/-- Each query's greatest score. -/
def maxR : FVec F S2x4x16384 .f32 :=
  maximumf (broadcastInDim S2x4x16384 ![] bcast_S_S2x4x16384 (constant S_ .f32 0xFF800000#32)) (Host.reduce FloatOps.maximumf (scoreR q k) (constant S_ .f32 0xFF800000#32) reducesTo_S2x4x16384x16640_S2x4x16384_d3 h_S_)
/-- The exponentials of the scores under their maxima. -/
def expR : FVec F S2x4x16384x16640 .f32 :=
  Host.exp (subf (scoreR q k) (broadcastInDim S2x4x16384x16640 ![0, 1, 2, 3] bcast_S2x4x16384x1_S2x4x16384x16640_0_1_2_3 (broadcastInDim S2x4x16384x1 ![0, 1, 2] bcast_S2x4x16384_S2x4x16384x1_0_1_2 (maxR q k))))
/-- Their sums, a query each. -/
def sumR : FVec F S2x4x16384x1 .f32 :=
  broadcastInDim S2x4x16384x1 ![0, 1, 2] bcast_S2x4x16384_S2x4x16384x1_0_1_2 (Host.reduceAdd (expR q k) (constant S_ .f32 0x00000000#32) reducesTo_S2x4x16384x16640_S2x4x16384_d3 h_S_)
/-- The attention weights. -/
def weightR : FVec F S2x4x16384x16640 .f32 :=
  Host.divf (expR q k) (broadcastInDim S2x4x16384x16640 ![0, 1, 2, 3] bcast_S2x4x16384x1_S2x4x16384x16640_0_1_2_3 (sumR q k))
/-- One over the squared sums. -/
def invR : FVec F S2x4x16384x1 .f32 :=
  Host.divf (broadcastInDim S2x4x16384x1 ![] bcast_S_S2x4x16384x1 (constant S_ .f32 0x3F800000#32)) (mulf (sumR q k) (sumR q k))
/-- The cotangent, by head. -/
def ctR : FVec F S2x64x4x16384 .f32 :=
  transpose S2x64x4x16384 [1, 3, 2, 0] (shapeCast _ ct shapeCasts_S16384x512_S16384x2x4x64) transposes_S16384x2x4x64_S2x64x4x16384_1_3_2_0
/-- The weights' cotangents. -/
def dpR : FVec F S2x4x16384x16640 .f32 :=
  Host.dotGeneral dot_S2x64x4x16384_S16640x2x64_S2x4x16384x16640_1_2_23_0_0_1 none (ctR ct) v
/-- What flows back through the sums. -/
def meanR : FVec F S2x4x16384 .f32 :=
  Host.reduceAdd (mulf (mulf (dpR v ct) (broadcastInDim S2x4x16384x16640 ![0, 1, 2, 3] bcast_S2x4x16384x1_S2x4x16384x16640_0_1_2_3 (invR q k))) (expR q k)) (constant S_ .f32 0x00000000#32) reducesTo_S2x4x16384x16640_S2x4x16384_d3 h_S_
/-- The exponentials' cotangents. -/
def deR : FVec F S2x4x16384x16640 .f32 :=
  addf (Host.divf (dpR v ct) (broadcastInDim S2x4x16384x16640 ![0, 1, 2, 3] bcast_S2x4x16384x1_S2x4x16384x16640_0_1_2_3 (sumR q k))) (broadcastInDim S2x4x16384x16640 ![0, 1, 2] bcast_S2x4x16384_S2x4x16384x16640_0_1_2 (Host.reduceAdd (Host.negf (shapeCast _ (meanR q k v ct) shapeCasts_S2x4x16384_S2x4x16384x1)) (constant S_ .f32 0x00000000#32) reducesTo_S2x4x16384x1_S2x4x16384_d3 h_S_))
/-- The products' cotangents, keys by queries. -/
def dsR : FVec F S2x16640x16384x4 .f32 :=
  transpose S2x16640x16384x4 [0, 3, 2, 1] (mulf (mulf (deR q k v ct) (expR q k)) (broadcastInDim S2x4x16384x16640 ![] bcast_S_S2x4x16384x16640 (constant S_ .f32 0x3E000000#32))) transposes_S2x4x16384x16640_S2x16640x16384x4_0_3_2_1
/-- The gradient of the queries. -/
def dqR : FVec F S8x64x16384 .f32 :=
  transpose S8x64x16384 [1, 2, 0] (shapeCast _ (transpose S16384x2x4x64 [1, 0, 2, 3] (Host.dotGeneral dot_S2x16640x16384x4_S16640x2x64_S2x16384x4x64_1_0_23_2_0_1 none (dsR q k v ct) k) transposes_S2x16384x4x64_S16384x2x4x64_1_0_2_3) shapeCasts_S16384x2x4x64_S16384x8x64) transposes_S16384x8x64_S8x64x16384_1_2_0
/-- The gradient of the keys. -/
def dkR : FVec F S128x16640 .f32 :=
  transpose S128x16640 [1, 0] (shapeCast _ (transpose S16640x2x64 [1, 0, 2] (Host.dotGeneral dot_S2x16640x16384x4_S16384x2x4x64_S2x16640x64_23_02_1_3_0_1 none (dsR q k v ct) q) transposes_S2x16640x64_S16640x2x64_1_0_2) shapeCasts_S16640x2x64_S16640x128) transposes_S16640x128_S128x16640_1_0
/-- The gradient of the values. -/
def dvR : FVec F S128x16640 .f32 :=
  transpose S128x16640 [1, 0] (shapeCast _ (transpose S16640x2x64 [2, 0, 1] (Host.dotGeneral dot_S2x64x4x16384_S2x4x16384x16640_S2x64x16640_23_12_1_3_0_0 none (ctR ct) (weightR q k)) transposes_S2x64x16640_S16640x2x64_2_0_1) shapeCasts_S16640x2x64_S16640x128) transposes_S16640x128_S128x16640_1_0
/-- The keys' gradient at the chunks' keys. -/
def dkMain : FVec F S128x16384 .f32 := extractStridedSlice S128x16384 ![0, 0] (dkR q k v ct) slices_S128x16640_S128x16384_0_0
/-- The values' gradient at the chunks' keys. -/
def dvMain : FVec F S128x16384 .f32 := extractStridedSlice S128x16384 ![0, 0] (dvR q k ct) slices_S128x16640_S128x16384_0_0
/-- The keys' gradient at the context's keys. -/
def dkCtx : FVec F S128x256 .f32 := extractStridedSlice S128x256 ![0, 16384] (dkR q k v ct) slices_S128x16640_S128x256_0_16384
/-- The values' gradient at the context's keys. -/
def dvCtx : FVec F S128x256 .f32 := extractStridedSlice S128x256 ![0, 16384] (dvR q k ct) slices_S128x16640_S128x256_0_16384

end

section
variable {F : FTy → Type} [FloatOps F] (m : (ℓ : Loc nD τ sig) → Buf (Elt F) ℓ) (ρ : Dev nD → PrngReg)

/-- Every run ends with the five gradients in the results and the arguments unchanged. -/
theorem run_named : θ_run defs (onTc (τ := τ) (main (F := F))) ⟨m, fun _ => 0, ρ⟩ fun r => ∀ c : Dev nD,
      r.2.mem ((c.tc : Thread nD τ).loc main_v64) = dqR (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v65) = dkMain (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v66) = dvMain (m ((c.tc : Thread nD τ).loc main_arg0)) (m ((c.tc : Thread nD τ).loc main_arg1)) (m ((c.tc : Thread nD τ).loc main_arg3))
      ∧ r.2.mem ((c.tc : Thread nD τ).loc main_v67) = dkCtx (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v68) = dvCtx (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, h4, ha⟩ := h c
    refine ⟨h0.trans ?_, h1.trans ?_, h2.trans ?_, h3.trans ?_, h4.trans ?_, ha⟩
    · unfold res_main_v64; rfl
    · unfold res_main_v65; rfl
    · rfl
    · unfold res_main_v67; rfl
    · rfl) (run m ρ)

end

end Cert.ReferenceIdeal.Value

end
-- ==== Proof.RefPt.lean ====
module

public import proofs.«01_k».proof.Proof.RefTerms
public import proofs.«01_k».proof.Proof.HostVal
public import Idealize.ShloMosaic.Lib.Pointwise

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

open Cert.KernelIdeal.Glob (argsOf AllReal)

section
variable (q : FVec Ideal S16384x2x4x64 .f32) (k v : FVec Ideal S16640x2x64 .f32) (ct : FVec Ideal S16384x512 .f32)

theorem expR_eq : expR q k = Cert.KernelIdeal.Glob.expT q k := rfl
theorem sumR_pt (a : Fin 2) (g : Fin 4) (i : Fin 16384) :
    sumR q k (ix4 a g i 0) = ∑ j : Fin 16640, (show EReal from expR q k (ix4 a g i j)) := by
  unfold sumR
  generalize expR q k = x
  pointwise
theorem weightR_pt (a : Fin 2) (g : Fin 4) (i : Fin 16384) (j : Fin 16640) :
    weightR q k (ix4 a g i j) = Ideal.div (expR q k (ix4 a g i j)) (sumR q k (ix4 a g i 0)) := by
  unfold weightR
  generalize expR q k = x
  generalize sumR q k = y
  pointwise
theorem invR_pt (a : Fin 2) (g : Fin 4) (i : Fin 16384) :
    invR q k (ix4 a g i 0) = Ideal.div (Ideal.ofBits .f32 0x3F800000#32) ((show EReal from sumR q k (ix4 a g i 0)) * (show EReal from sumR q k (ix4 a g i 0))) := by
  unfold invR
  generalize sumR q k = y
  pointwise
theorem ctR_pt (a : Fin 2) (d : Fin 64) (g : Fin 4) (i : Fin 16384) :
    ctR ct (ix4 a d g i) = ct (ix2 i ⟨(4 * a + g) * 64 + d, by omega⟩) := by
  unfold ctR
  pointwise
  have e : (a : ℕ) * 256 + g * 64 + d = (4 * a + g) * 64 + d := by omega
  simp only [e]
theorem dpR_pt (a : Fin 2) (g : Fin 4) (i : Fin 16384) (j : Fin 16640) :
    dpR v ct (ix4 a g i j) = ∑ d : Fin 64, (show EReal from ctR ct (ix4 a d g i)) * (show EReal from v (ix3 j a d)) := by
  unfold dpR
  generalize ctR ct = x
  pointwise
theorem meanR_pt (a : Fin 2) (g : Fin 4) (i : Fin 16384) :
    meanR q k v ct (ix3 a g i) = ∑ j : Fin 16640, (show EReal from dpR v ct (ix4 a g i j)) * (show EReal from invR q k (ix4 a g i 0)) * (show EReal from expR q k (ix4 a g i j)) := by
  unfold meanR
  generalize dpR v ct = x
  generalize invR q k = y
  generalize expR q k = z
  pointwise
theorem deR_pt (a : Fin 2) (g : Fin 4) (i : Fin 16384) (j : Fin 16640) :
    deR q k v ct (ix4 a g i j) = Ideal.div (dpR v ct (ix4 a g i j)) (sumR q k (ix4 a g i 0)) + -(show EReal from meanR q k v ct (ix3 a g i)) := by
  unfold deR
  generalize dpR v ct = x
  generalize sumR q k = y
  generalize meanR q k v ct = z
  pointwise
  simp only [Finset.univ_unique, Finset.sum_singleton]
theorem dsR_pt (a : Fin 2) (g : Fin 4) (i : Fin 16384) (j : Fin 16640) :
    dsR q k v ct (ix4 a j i g) = (show EReal from deR q k v ct (ix4 a g i j)) * (show EReal from expR q k (ix4 a g i j)) * Ideal.ofBits .f32 0x3E000000#32 := by
  unfold dsR
  generalize deR q k v ct = x
  generalize expR q k = y
  pointwise
theorem dqR_pt (h : Fin 8) (d : Fin 64) (i : Fin 16384) :
    dqR q k v ct (ix3 h d i) = ∑ j : Fin 16640, (show EReal from dsR q k v ct (ix4 ⟨h / 4, by omega⟩ j i ⟨h % 4, by omega⟩)) * (show EReal from k (ix3 j ⟨h / 4, by omega⟩ d)) := by
  unfold dqR
  generalize dsR q k v ct = x
  pointwise
theorem dkR_pt (r : Fin 128) (j : Fin 16640) :
    dkR q k v ct (ix2 r j) = ∑ i : Fin 16384, ∑ g : Fin 4, (show EReal from dsR q k v ct (ix4 ⟨r / 64, by omega⟩ j i g)) * (show EReal from q (ix4 i ⟨r / 64, by omega⟩ g ⟨r % 64, by omega⟩)) := by
  unfold dkR
  generalize dsR q k v ct = x
  pointwise
theorem dvR_pt (r : Fin 128) (j : Fin 16640) :
    dvR q k ct (ix2 r j) = ∑ g : Fin 4, ∑ i : Fin 16384, (show EReal from ctR ct (ix4 ⟨r / 64, by omega⟩ ⟨r % 64, by omega⟩ g i)) * (show EReal from weightR q k (ix4 ⟨r / 64, by omega⟩ g i j)) := by
  unfold dvR
  generalize ctR ct = x
  generalize weightR q k = y
  pointwise
theorem dkMain_pt (r : Fin 128) (j : Fin 16384) : dkMain q k v ct (ix2 r j) = dkR q k v ct (ix2 r ⟨j, by omega⟩) := by
  unfold dkMain
  generalize dkR q k v ct = x
  pointwise
theorem dvMain_pt (r : Fin 128) (j : Fin 16384) : dvMain q k ct (ix2 r j) = dvR q k ct (ix2 r ⟨j, by omega⟩) := by
  unfold dvMain
  generalize dvR q k ct = x
  pointwise
theorem dkCtx_pt (r : Fin 128) (j : Fin 256) : dkCtx q k v ct (ix2 r j) = dkR q k v ct (ix2 r ⟨16384 + j, by omega⟩) := by
  unfold dkCtx
  generalize dkR q k v ct = x
  pointwise
theorem dvCtx_pt (r : Fin 128) (j : Fin 256) : dvCtx q k ct (ix2 r j) = dvR q k ct (ix2 r ⟨16384 + j, by omega⟩) := by
  unfold dvCtx
  generalize dvR q k ct = x
  pointwise
end

end Cert.ReferenceIdeal.Value

end
-- ==== Proof.RefVal.lean ====
module

public import proofs.«01_k».proof.Proof.RefPt

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

open Cert.KernelIdeal.Glob (argsOf AllReal q_read k_read v_read ct_read sum_coe sum_coe_mul ofBits_eighth div_real sum_exp_pos exp_sub_div scoreT_val rowMax_real expT_pt)

/-- The number one. -/
theorem ofBits_one : Ideal.ofBits .f32 0x3F800000#32 = ((1 : ℝ) : EReal) := by
  simp [Ideal.ofBits, Ideal.ieee]
  rw [← EReal.coe_mul]
  norm_num

section
variable {q : FVec Ideal S16384x2x4x64 .f32} {k v : FVec Ideal S16640x2x64 .f32} {ct : FVec Ideal S16384x512 .f32}
  (R : AllReal q k v ct)
include R

/-- The cotangent's numbers. -/
theorem ctR_val (a : Fin 2) (d : Fin 64) (g : Fin 4) (i : Fin 16384) {h : ℕ} (ha : h / 4 = a) (hg : h % 4 = g) :
    ctR ct (ix4 a d g i) = (((argsOf q k v ct).C i h d : ℝ) : EReal) :=
  (ctR_pt ct a d g i).trans (ct_read R i _ d.2 (by show h * 64 + d.val = (4 * a.val + g.val) * 64 + d.val; omega))

/-- The weights' cotangents. -/
theorem dpR_val (a : Fin 2) (g : Fin 4) (i : Fin 16384) (j : Fin 16640) {h : ℕ} (ha : h / 4 = a) (hg : h % 4 = g) :
    dpR v ct (ix4 a g i j) = (((argsOf q k v ct).dp h j i : ℝ) : EReal) := by
  rw [dpR_pt]
  refine (sum_coe_mul (fun d => (argsOf q k v ct).C i h d) (fun d => (argsOf q k v ct).V j (h / 4) d)
    (fun d => ctR_val R a d g i ha hg) (fun d => by rw [ha]; exact v_read R j a d)).trans ?_
  exact congrArg _ (Finset.sum_congr rfl fun d _ => mul_comm _ _)

/-- A query's exponentials under some shift. -/
theorem expR_val (a : Fin 2) (g : Fin 4) (i : Fin 16384) {h : ℕ} (ha : h / 4 = a) (hg : h % 4 = g) :
    ∃ M : ℝ, ∀ j : Fin 16640, expR q k (ix4 a g i j) = ((Real.exp ((argsOf q k v ct).s h j i - M) : ℝ) : EReal) := by
  obtain ⟨M, hM⟩ := rowMax_real R a g i
  refine ⟨M, fun j => ?_⟩
  rw [expR_eq]
  refine (expT_pt a g i j).trans ?_
  rw [scoreT_val R a g i j ha hg, hM, ← EReal.coe_sub, Ideal.exp_coe]

/-- The attention weights. -/
theorem weightR_val (a : Fin 2) (g : Fin 4) (i : Fin 16384) (j : Fin 16640) {h : ℕ} (ha : h / 4 = a) (hg : h % 4 = g) :
    weightR q k (ix4 a g i j) = (((argsOf q k v ct).p h j i : ℝ) : EReal) := by
  obtain ⟨M, he⟩ := expR_val R a g i ha hg
  rw [weightR_pt, sumR_pt, sum_coe (fun j => Real.exp ((argsOf q k v ct).s h j i - M)) he, he,
    div_real (sum_exp_pos (by norm_num) (fun j => (argsOf q k v ct).s h j i - M)).ne', exp_sub_div (fun j => (argsOf q k v ct).s h j i)]
  rfl

/-- The products' cotangents are the scores' cotangents, scaled. -/
theorem dsR_val (a : Fin 2) (g : Fin 4) (i : Fin 16384) (j : Fin 16640) {h : ℕ} (ha : h / 4 = a) (hg : h % 4 = g) :
    dsR q k v ct (ix4 a j i g) = (((argsOf q k v ct).ds h j i * (1 / 8) : ℝ) : EReal) := by
  obtain ⟨M, he⟩ := expR_val R a g i ha hg
  obtain ⟨Z, hZ⟩ : ∃ Z : ℝ, Z = ∑ j ∈ Finset.range 16640, Real.exp ((argsOf q k v ct).s h j i - M) := ⟨_, rfl⟩
  have hpos : 0 < Z := hZ ▸ sum_exp_pos (by norm_num) (fun j => (argsOf q k v ct).s h j i - M)
  have hs : sumR q k (ix4 a g i 0) = ((Z : ℝ) : EReal) := by
    rw [sumR_pt, sum_coe (fun j => Real.exp ((argsOf q k v ct).s h j i - M)) he, hZ]
  have hp : ∀ j : ℕ, Real.exp ((argsOf q k v ct).s h j i - M) = (argsOf q k v ct).p h j i * Z := fun j => by
    have e := exp_sub_div (n := 16640) (fun j => (argsOf q k v ct).s h j i) M ((argsOf q k v ct).s h j i)
    rw [← hZ, div_eq_iff hpos.ne'] at e
    exact e
  have hm : meanR q k v ct (ix3 a g i) = (((argsOf q k v ct).dl h i / Z : ℝ) : EReal) := by
    rw [meanR_pt, invR_pt, hs, ofBits_one, ← EReal.coe_mul, div_real (mul_pos hpos hpos).ne']
    refine (sum_coe (fun j => (argsOf q k v ct).dp h j i * (1 / (Z * Z)) * Real.exp ((argsOf q k v ct).s h j i - M)) fun j => ?_).trans ?_
    · rw [he, EReal.coe_mul, EReal.coe_mul]
      exact congrArg (fun y : EReal => y * _ * _) (dpR_val R a g i j ha hg)
    · refine congrArg _ ?_
      show _ = (∑ j ∈ Finset.range 16640, (argsOf q k v ct).p h j i * (argsOf q k v ct).dp h j i) / Z
      rw [Finset.sum_div]
      refine Finset.sum_congr rfl fun j _ => ?_
      rw [hp]
      field_simp
  rw [dsR_pt, deR_pt, hs, hm, dpR_val R a g i j ha hg, he, div_real hpos.ne', ofBits_eighth, ← EReal.coe_neg, ← EReal.coe_add, ← EReal.coe_mul, ← EReal.coe_mul]
  refine congrArg _ ?_
  show _ = (argsOf q k v ct).p h j i * ((argsOf q k v ct).dp h j i - (argsOf q k v ct).dl h i) * (1 / 8)
  rw [hp]
  field_simp
  ring

/-- The gradient of the queries. -/
theorem dqR_val (h : Fin 8) (d : Fin 64) (i : Fin 16384) :
    dqR q k v ct (ix3 h d i) = (((argsOf q k v ct).dq h i d : ℝ) : EReal) := by
  rw [dqR_pt]
  refine (sum_coe_mul (fun j => (argsOf q k v ct).ds h j i * (1 / 8)) (fun j => (argsOf q k v ct).K j (h / 4) d)
    (fun j => dsR_val R _ _ i j (h := h) rfl rfl) (fun j => k_read R j _ d)).trans (congrArg _ ?_)
  show _ = (∑ j ∈ Finset.range 16640, _) * (1 / 8 : ℝ)
  rw [Finset.sum_mul]
  exact Finset.sum_congr rfl fun j _ => by ring

/-- The gradient of the keys. -/
theorem dkR_val (r : Fin 128) (j : Fin 16640) :
    dkR q k v ct (ix2 r j) = (((argsOf q k v ct).dk (r / 64) j (r % 64) : ℝ) : EReal) := by
  rw [dkR_pt]
  have hg : ∀ (i : Fin 16384) (g : Fin 4), (show EReal from dsR q k v ct (ix4 ⟨r / 64, by omega⟩ j i g)) * (show EReal from q (ix4 i ⟨r / 64, by omega⟩ g ⟨r % 64, by omega⟩))
      = (((argsOf q k v ct).ds (4 * (r / 64) + g) j i * (1 / 8) * (argsOf q k v ct).Q i (4 * (r / 64) + g) (r % 64) : ℝ) : EReal) := fun i g => by
    have e1 : (4 * ((r : ℕ) / 64) + g) / 4 = r / 64 := by omega
    have e2 : (4 * ((r : ℕ) / 64) + g) % 4 = g := by omega
    rw [dsR_val R ⟨r / 64, by omega⟩ g i j (h := 4 * (r / 64) + g) e1 e2, q_read R i ⟨r / 64, by omega⟩ g ⟨r % 64, by omega⟩ (h := 4 * (r / 64) + g) e1 e2, ← EReal.coe_mul]
  refine (sum_coe (fun i => ∑ g ∈ Finset.range 4, (argsOf q k v ct).ds (4 * (r / 64) + g) j i * (1 / 8) * (argsOf q k v ct).Q i (4 * (r / 64) + g) (r % 64))
    fun i => sum_coe (fun g => (argsOf q k v ct).ds (4 * (r / 64) + g) j i * (1 / 8) * (argsOf q k v ct).Q i (4 * (r / 64) + g) (r % 64)) fun g => hg i g).trans (congrArg _ ?_)
  rw [Finset.sum_comm]
  exact Finset.sum_congr rfl fun g _ => Finset.sum_congr rfl fun i _ => by ring

/-- The gradient of the values. -/
theorem dvR_val (r : Fin 128) (j : Fin 16640) :
    dvR q k ct (ix2 r j) = (((argsOf q k v ct).dv (r / 64) j (r % 64) : ℝ) : EReal) := by
  rw [dvR_pt]
  have hg : ∀ (g : Fin 4) (i : Fin 16384), (show EReal from ctR ct (ix4 ⟨r / 64, by omega⟩ ⟨r % 64, by omega⟩ g i)) * (show EReal from weightR q k (ix4 ⟨r / 64, by omega⟩ g i j))
      = (((argsOf q k v ct).C i (4 * (r / 64) + g) (r % 64) * (argsOf q k v ct).p (4 * (r / 64) + g) j i : ℝ) : EReal) := fun g i => by
    have e1 : (4 * ((r : ℕ) / 64) + g) / 4 = r / 64 := by omega
    have e2 : (4 * ((r : ℕ) / 64) + g) % 4 = g := by omega
    rw [ctR_val R ⟨r / 64, by omega⟩ ⟨r % 64, by omega⟩ g i (h := 4 * (r / 64) + g) e1 e2, weightR_val R ⟨r / 64, by omega⟩ g i j (h := 4 * (r / 64) + g) e1 e2, ← EReal.coe_mul]
  exact sum_coe (fun g => ∑ i ∈ Finset.range 16384, (argsOf q k v ct).C i (4 * (r / 64) + g) (r % 64) * (argsOf q k v ct).p (4 * (r / 64) + g) j i)
    fun g => sum_coe (fun i => (argsOf q k v ct).C i (4 * (r / 64) + g) (r % 64) * (argsOf q k v ct).p (4 * (r / 64) + g) j i) fun i => hg g i

end

end Cert.ReferenceIdeal.Value

end
-- ==== Proof.EndVal.lean ====
module

public import proofs.«01_k».proof.Proof.EndArr
public import proofs.«01_k».proof.Proof.EndHost
public import proofs.«01_k».proof.Proof.RefVal

@[expose] public section

set_option maxRecDepth 16384

noncomputable section

namespace Cert.KernelIdeal.Glob

open Idealize.ShloMosaic Idealize.ShloMosaic.TcCoe Idealize.SL.Sem
open Cert.KernelIdeal Cert.KernelIdeal.Gen

/-! ### The five gradients as arrays -/

/-- The queries' gradient, by head. -/
def dqNum (A : Args) : S8x64x16384.Idx → Elt Ideal .f32 := fun y => ((A.dq (y 0).val (y 2).val (y 1).val : ℝ) : EReal)
/-- The keys' gradient, over the sequence. -/
def dkNum (A : Args) : S128x16384.Idx → Elt Ideal .f32 := fun y => ((A.dk ((y 0).val / 64) (y 1).val ((y 0).val % 64) : ℝ) : EReal)
/-- The values' gradient, over the sequence. -/
def dvNum (A : Args) : S128x16384.Idx → Elt Ideal .f32 := fun y => ((A.dv ((y 0).val / 64) (y 1).val ((y 0).val % 64) : ℝ) : EReal)
/-- The keys' gradient, over the context. -/
def dkcNum (A : Args) : S128x256.Idx → Elt Ideal .f32 := fun y => ((A.dk ((y 0).val / 64) (16384 + (y 1).val) ((y 0).val % 64) : ℝ) : EReal)
/-- The values' gradient, over the context. -/
def dvcNum (A : Args) : S128x256.Idx → Elt Ideal .f32 := fun y => ((A.dv ((y 0).val / 64) (16384 + (y 1).val) ((y 0).val % 64) : ℝ) : EReal)

/-- Each head's own lanes of the grid's array, scaled, are the queries' gradient. -/
theorem dqOut_lanes (A : Args) : dqOut (dqLanes A) = dqNum A := by
  funext y
  obtain ⟨h, d, i, rfl⟩ : ∃ (h : Fin 8) (d : Fin 64) (i : Fin 16384), y = ix3 h d i := ⟨y 0, y 1, y 2, eq_ix3 y⟩
  refine (dqOut_at _ h d i).trans ?_
  have e : (dqLanes A (ix3 h ⟨(h : ℕ) / 4 * 64 + d, by omega⟩ i) : EReal)
      = ((∑ k ∈ Finset.range 16640, A.K k ((h : ℕ) / 4) d * A.ds h k i : ℝ) : EReal) := by
    show (((∑ k ∈ Finset.range 16640, A.K k (((h : ℕ) / 4 * 64 + d) / 64) (((h : ℕ) / 4 * 64 + d) % 64) * A.ds h k i : ℝ)) : EReal) = _
    rw [show ((h : ℕ) / 4 * 64 + d) / 64 = (h : ℕ) / 4 by omega, show ((h : ℕ) / 4 * 64 + (d : ℕ)) % 64 = d by omega]
  exact (congrArg (fun x : EReal => x * ((1 / 8 : ℝ) : EReal)) e).trans (EReal.coe_mul _ _).symm

section
variable (m : (ℓ : Loc nD τ sig) → Buf (Elt Ideal) ℓ) (ρ : Dev nD → PrngReg)
variable (R : ∀ c : Dev nD, AllReal (m ((c : Thread nD τ).loc main_arg0)) (m ((c : Thread nD τ).loc main_arg1)) (m ((c : Thread nD τ).loc main_arg2)) (m ((c : Thread nD τ).loc main_arg3)))
include R

theorem end_dq_eq (c : Dev nD) : endOf m c main_v108 = dqNum (numsOf m c) := by
  rw [end_v108, arr9 m c (R c)]
  exact dqOut_lanes _
theorem end_dk_eq (c : Dev nD) : endOf m c main_v103_1 = dkNum (numsOf m c) := by
  refine funext fun y => (end_dk_at m c y).trans ?_
  obtain ⟨r, k, rfl⟩ : ∃ (r : Fin 128) (k : Fin 16384), y = ix2 r k := ⟨y 0, y 1, eq_ix2 y⟩
  exact end_dk m c (R c) r k
theorem end_dv_eq (c : Dev nD) : endOf m c main_v103_2 = dvNum (numsOf m c) := by
  refine funext fun y => (end_dv_at m c y).trans ?_
  obtain ⟨r, k, rfl⟩ : ∃ (r : Fin 128) (k : Fin 16384), y = ix2 r k := ⟨y 0, y 1, eq_ix2 y⟩
  exact end_dv m c (R c) r k
theorem arr10_eq (c : Dev nD) : (dats m 0 c).arrAt 10 cfg0.N = dkcNum (numsOf m c) := by
  refine funext fun y => (arr10 m c y).trans ?_
  obtain ⟨r, k, rfl⟩ : ∃ (r : Fin 128) (k : Fin 256), y = ix2 r k := ⟨y 0, y 1, eq_ix2 y⟩
  exact end_dkc m c (R c) r k
theorem arr11_eq (c : Dev nD) : (dats m 0 c).arrAt 11 cfg0.N = dvcNum (numsOf m c) := by
  refine funext fun y => (arr11 m c y).trans ?_
  obtain ⟨r, k, rfl⟩ : ∃ (r : Fin 128) (k : Fin 256), y = ix2 r k := ⟨y 0, y 1, eq_ix2 y⟩
  exact end_dvc m c (R c) r k

/-- From real arguments every run of the kernel ends with the five gradients in its results, the arguments unchanged. -/
theorem run_values : θ_run defs (onTc (τ := τ) (main (F := Ideal))) ⟨m, fun _ => 0, ρ⟩ fun r => ∀ c : Dev nD,
      r.2.mem ((c.tc : Thread nD τ).loc main_v108) = dqNum (numsOf m c)
      ∧ r.2.mem ((c.tc : Thread nD τ).loc main_v103_1) = dkNum (numsOf m c)
      ∧ r.2.mem ((c.tc : Thread nD τ).loc main_v103_2) = dvNum (numsOf m c)
      ∧ r.2.mem ((c.tc : Thread nD τ).loc main_v103_3) = dkcNum (numsOf m c)
      ∧ r.2.mem ((c.tc : Thread nD τ).loc main_v103_4) = dvcNum (numsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h.1 c).2 main_v108 (Pipeline.mem_restRefs_of main_v108 (by decide) (by decide))).trans (end_dq_eq m R c),
      ((h.1 c).2 main_v103_1 (Pipeline.mem_restRefs_of main_v103_1 (by decide) (by decide))).trans (end_dk_eq m R c),
      ((h.1 c).2 main_v103_2 (Pipeline.mem_restRefs_of main_v103_2 (by decide) (by decide))).trans (end_dv_eq m R c),
      ((h.1 c).1 10).trans (arr10_eq m R c),
      ((h.1 c).1 11).trans (arr11_eq m R c),
      ((h.1 c).2 main_arg0 (Pipeline.mem_restRefs_of main_arg0 (by decide) (by decide))).trans (endOf_arg0 m c),
      ((h.1 c).2 main_arg1 (Pipeline.mem_restRefs_of main_arg1 (by decide) (by decide))).trans (endOf_arg1 m c),
      ((h.1 c).2 main_arg2 (Pipeline.mem_restRefs_of main_arg2 (by decide) (by decide))).trans (endOf_arg2 m c),
      ((h.1 c).2 main_arg3 (Pipeline.mem_restRefs_of main_arg3 (by decide) (by decide))).trans (endOf_arg3 m c)⟩) (run_main m ρ)
end

/-! ### The reference's five terms are the same arrays -/

section
open Cert.ReferenceIdeal.Value
variable {q : FVec Ideal S16384x2x4x64 .f32} {k v : FVec Ideal S16640x2x64 .f32} {ct : FVec Ideal S16384x512 .f32} (R : AllReal q k v ct)
include R

theorem ref_dq : dqR q k v ct = dqNum (argsOf q k v ct) := by
  funext y
  obtain ⟨h, d, i, rfl⟩ : ∃ (h : Fin 8) (d : Fin 64) (i : Fin 16384), y = ix3 h d i := ⟨y 0, y 1, y 2, eq_ix3 y⟩
  exact dqR_val R h d i
theorem ref_dk : dkMain q k v ct = dkNum (argsOf q k v ct) := by
  funext y
  obtain ⟨r, j, rfl⟩ : ∃ (r : Fin 128) (j : Fin 16384), y = ix2 r j := ⟨y 0, y 1, eq_ix2 y⟩
  exact (dkMain_pt q k v ct r j).trans (dkR_val R r _)
theorem ref_dv : dvMain q k ct = dvNum (argsOf q k v ct) := by
  funext y
  obtain ⟨r, j, rfl⟩ : ∃ (r : Fin 128) (j : Fin 16384), y = ix2 r j := ⟨y 0, y 1, eq_ix2 y⟩
  exact (dvMain_pt q k ct r j).trans (dvR_val R r _)
theorem ref_dkc : dkCtx q k v ct = dkcNum (argsOf q k v ct) := by
  funext y
  obtain ⟨r, j, rfl⟩ : ∃ (r : Fin 128) (j : Fin 256), y = ix2 r j := ⟨y 0, y 1, eq_ix2 y⟩
  exact (dkCtx_pt q k v ct r j).trans (dkR_val R r _)
theorem ref_dvc : dvCtx q k ct = dvcNum (argsOf q k v ct) := by
  funext y
  obtain ⟨r, j, rfl⟩ : ∃ (r : Fin 128) (j : Fin 256), y = ix2 r j := ⟨y 0, y 1, eq_ix2 y⟩
  exact (dvCtx_pt q k ct r j).trans (dvR_val R r _)
end

end Cert.KernelIdeal.Glob

end
-- ==== Proof.PreReal.lean ====
module

public import proofs.«01_k».proof.Proof.Nums
public import Idealize.ShloMosaic.Lib.ReduceAll
public import Idealize.ShloMosaic.Lib.Pointwise
public import proofs.«01_k».proof.Pre_finite

@[expose] public section

set_option maxRecDepth 16384

noncomputable section

namespace Cert.KernelIdeal.Glob

open Idealize.ShloMosaic Idealize.ShloMosaic.TcCoe Idealize.SL.Sem
open Cert.KernelIdeal Cert.KernelIdeal.Gen

/-- Finite is real. -/
theorem real_of_abs_lt {x : EReal} (h : max x (-x) < ⊤) : ∃ r : ℝ, x = (r : EReal) := by
  induction x using EReal.rec with
  | bot => simp at h
  | coe r => exact ⟨r, rfl⟩
  | top => simp at h

theorem and_ones {x y : BitVec 1} (h : IntOp.andi x y = 1#1) : x = 1#1 ∧ y = 1#1 := by
  revert h x y; decide

/-- What one comparison with infinity says. -/
theorem finite_read {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) := by
  have h1 : Ideal.cmp .olt (max (show EReal from x i) (-(show EReal from x i))) (Ideal.ofBits .f32 0x7F800000#32) = 1#1 := h
  rw [ofBits_top] at h1
  exact real_of_abs_lt ((Ideal.cmp_olt_eq_one _ _).mp h1)

/-- A lane of one bit, and the result of the four comparisons, spelled at an index. -/
theorem pre_split {A B C D : IVec S_ 1} (h : andi (andi (andi A B) C) D = fun _ => 1#1) :
    (∀ j, A j = 1#1) ∧ (∀ j, B j = 1#1) ∧ (∀ j, C j = 1#1) ∧ (∀ j, D j = 1#1) := by
  have e : ∀ j, IntOp.andi (IntOp.andi (IntOp.andi (A j) (B j)) (C j)) (D j) = 1#1 := fun j => congrFun h j
  exact ⟨fun j => (and_ones (and_ones (and_ones (e j)).1).1).1, fun j => (and_ones (and_ones (and_ones (e j)).1).1).2,
    fun j => (and_ones (and_ones (e j)).1).2, fun j => (and_ones (e j)).2⟩

instance : Subsingleton (S_ : Shape).Idx := ⟨fun a b => funext fun d => d.elim0⟩

/-- The precondition says that every entry of the four arguments is a real number. -/
theorem allReal_of_finite [Cert.Pre_finite.Facts] (q : FVec Ideal S16384x2x4x64 .f32) (k v : FVec Ideal S16640x2x64 .f32) (ct : FVec Ideal S16384x512 .f32)
    (h : Cert.Pre_finite.fn (F := Ideal) q k v ct = fun _ => 1#1) : AllReal q k v ct := by
  unfold Cert.Pre_finite.fn Cert.Pre_finite.fn_part1 at h
  obtain ⟨h1, h2, h3, h4⟩ := pre_split h
  exact ⟨fun i => finite_read q _ i (Host.reduce_andi_all _ _ _ _ (fun d => d.elim0) (h1 (fun d => d.elim0)) i), fun i => finite_read k _ i (Host.reduce_andi_all _ _ _ _ (fun d => d.elim0) (h2 (fun d => d.elim0)) i),
    fun i => finite_read v _ i (Host.reduce_andi_all _ _ _ _ (fun d => d.elim0) (h3 (fun d => d.elim0)) i), fun i => finite_read ct _ i (Host.reduce_andi_all _ _ _ _ (fun d => d.elim0) (h4 (fun d => d.elim0)) i)⟩

/-- The shape relations the precondition takes. -/
instance preFacts : Cert.Pre_finite.Facts where
  bcast_S_S16384x2x4x64 := by decide
  reducesTo_S16384x2x4x64_S_d0_1_2_3 := by decide
  h_S_ := by decide
  bcast_S_S16640x2x64 := by decide
  reducesTo_S16640x2x64_S_d0_1_2 := by decide
  bcast_S_S16384x512 := by decide
  reducesTo_S16384x512_S_d0_1 := by decide

end Cert.KernelIdeal.Glob

end
-- ==== Proof.Tiles.lean ====
/-
  Sums over tiles: a sum over a long axis, taken tile by tile, is the sum over the axis.
-/
module

public import Idealize.ShloMosaic.Lib.Pointwise
public import Idealize.ShloMosaic.Lib.Pipeline.Value

@[expose] public section

noncomputable section

namespace Cert.Tiles

/-- A function of an axis' places, as a function of every natural: zero beyond the axis. -/
def beyond {n : ℕ} (f : Fin n → EReal) (k : ℕ) : EReal := if h : k < n then f ⟨k, h⟩ else 0

theorem beyond_of_lt {n : ℕ} (f : Fin n → EReal) {k : ℕ} (h : k < n) : beyond f k = f ⟨k, h⟩ := dif_pos h

/-- The sum over an axis of `a * b` places, by `a` tiles of `b`. -/
theorem sum_tiles (a b n : ℕ) (h : a * b = n) (f : Fin n → EReal) :
    (∑ x ∈ Finset.range a, ∑ y : Fin b, beyond f (x * b + y)) = ∑ k : Fin n, f k := by
  subst h
  have e : (∑ k : Fin (a * b), f k) = ∑ k ∈ Finset.range (a * b), beyond f k := by
    rw [Finset.sum_range]
    exact Finset.sum_congr rfl fun k _ => (beyond_of_lt f k.2).symm
  rw [e]
  clear e
  generalize beyond f = g
  induction a with
  | zero => simp
  | succ a ih => rw [Finset.sum_range_succ, ih fun k => g k, Nat.succ_mul, Finset.sum_range_add, Finset.sum_range (fun x => g (a * b + x))]

/-- An entry of the modulated input: scaled by one more than `scale`, and shifted. -/
def modulated (x scale shift : EReal) : EReal := x * (1 + scale) + shift

end Cert.Tiles

end
-- ==== Proof.DwUp.lean ====
/-
  The gradient of the ConvFFN's first product: for each quarter of the columns the call's sum over eight tiles of tokens
  is the reference's product over all tokens.
-/
module

public import proofs.«01_k».proof.Proof.Tiles
public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

namespace Cert.Kernel4Ideal.Product

open Idealize.ShloMosaic Idealize.ShloMosaic.TcCoe Idealize.SL.Sem
open Cert.Kernel4Ideal Cert.Kernel4Ideal.Gen Cert.Kernel4Ideal.Value Cert.Tiles

/-- One point adds its tile's product. -/
theorem pay2 (x0 : Vec Ideal S2048x1024 .f32) (x3 x2 : Vec Ideal S1x1024 .f32) (x1 : Vec Ideal S1x2048x1408 .bf16) (acc : Vec Ideal S1x1024x1408 .f32)
    (r : Fin 1024) (q : Fin 1408) :
    k0_pay2 (F := Ideal) x0 x3 x2 x1 acc (ix3 0 r q)
      = acc (ix3 0 r q) + ∑ y : Fin 2048, modulated (x0 (ix2 y r)) (x3 (ix2 0 r)) (x2 (ix2 0 r)) * x1 (ix3 0 y q) := by
  pointwise [k0_pay2, modulated]
theorem pay1 (r : Fin 1024) (q : Fin 1408) : k0_pay1 (F := Ideal) (ix3 0 r q) = 0 := by
  pointwise [k0_pay1]

/-- One token's share of an entry of the gradient. -/
def term (x0 : Vec Ideal S16384x1024 .f32) (x1 x2 : Vec Ideal S1x1024 .f32) (x3 : Vec Ideal S2x16384x2816 .bf16) (k : Fin 4) (r : Fin 1024) (q : Fin 1408)
    (t : Fin 16384) : EReal :=
  modulated (x0 (ix2 t r)) (x2 (ix2 0 r)) (x1 (ix2 0 r))
    * x3 (ix3 ⟨k.val / 2, by omega⟩ t ⟨k.val % 2 * 1408 + q.val, by omega⟩)

variable (m : (ℓ : Loc nD τ sig) → Buf (Elt Ideal) ℓ) (c : Dev nD)

theorem idx : ∀ t : Fin cfg0.N, win0_0.index t = ![t.val % 8, 0] ∧ win0_1.index t = ![t.val / 8 / 2, t.val % 8, t.val / 8 % 2]
    ∧ win0_2.index t = ![0, 0] ∧ win0_3.index t = ![0, 0] :=
  (by decide +kernel : ∀ t : Fin grid0.N, _)

theorem pt_lt (t : Fin cfg0.N) : t.val < 32 := lt_of_lt_of_eq t.2 (show cfg0.N = 32 from N_0)

theorem row_lt (n : ℕ) (y : Fin 2048) : n % 8 * 2048 + y < 16384 := by omega

theorem blk0 (t : Fin cfg0.N) (y : Fin 2048) (r : Fin 1024) :
    iblk m c 0 t (ix2 y r) = m ((c : Thread nD τ).loc main_arg0) (ix2 ⟨t.val % 8 * 2048 + y, row_lt t y⟩ r) := by
  have e : iblk m c 0 t (ix2 y r) = V m c main_arg0 ((win0_0.blk t).view.emb (ix2 y r)) := by
    unfold iblk; generalize V m c = X; unfold View.read; exact cast_eq _ _
  rw [e, V_main_arg0]
  congr 1
  refine funext fun d => Fin.ext ?_
  fin_cases d
  · blk_simp [(idx t).1]
    rfl
  · blk_simp [(idx t).1]
    rfl
theorem blk1 (t : Fin cfg0.N) (y : Fin 2048) (q : Fin 1408) :
    iblk m c 1 t (ix3 0 y q) = m ((c : Thread nD τ).loc main_arg3) (ix3 ⟨t.val / 8 / 2, by have := pt_lt t; omega⟩ ⟨t.val % 8 * 2048 + y, row_lt t y⟩
      ⟨t.val / 8 % 2 * 1408 + q, by omega⟩) := by
  have e : iblk m c 1 t (ix3 0 y q) = V m c main_arg3 ((win0_1.blk t).view.emb (ix3 0 y q)) := by
    unfold iblk; generalize V m c = X; unfold View.read; exact cast_eq _ _
  rw [e, V_main_arg3]
  congr 1
  refine funext fun d => Fin.ext ?_
  fin_cases d
  · blk_simp [(idx t).2.1]
    rfl
  · blk_simp [(idx t).2.1]
    rfl
  · blk_simp [(idx t).2.1]
    rfl
theorem blk2 (t : Fin cfg0.N) (r : Fin 1024) : iblk m c 2 t (ix2 0 r) = m ((c : Thread nD τ).loc main_arg1) (ix2 0 r) := by
  have e : iblk m c 2 t (ix2 0 r) = V m c main_arg1 ((win0_2.blk t).view.emb (ix2 0 r)) := by
    unfold iblk; generalize V m c = X; unfold View.read; exact cast_eq _ _
  rw [e, V_main_arg1]
  congr 1
  refine funext fun d => Fin.ext ?_
  fin_cases d
  · blk_simp [(idx t).2.2.1]
  · blk_simp [(idx t).2.2.1]
theorem blk3 (t : Fin cfg0.N) (r : Fin 1024) : iblk m c 3 t (ix2 0 r) = m ((c : Thread nD τ).loc main_arg2) (ix2 0 r) := by
  have e : iblk m c 3 t (ix2 0 r) = V m c main_arg2 ((win0_3.blk t).view.emb (ix2 0 r)) := by
    unfold iblk; generalize V m c = X; unfold View.read; exact cast_eq _ _
  rw [e, V_main_arg2]
  congr 1
  refine funext fun d => Fin.ext ?_
  fin_cases d
  · blk_simp [(idx t).2.2.2]
  · blk_simp [(idx t).2.2.2]

/-- The shares at the call's arguments. -/
def share (k : Fin 4) (r : Fin 1024) (q : Fin 1408) : Fin 16384 → EReal :=
  term (m ((c : Thread nD τ).loc main_arg0)) (m ((c : Thread nD τ).loc main_arg1)) (m ((c : Thread nD τ).loc main_arg2)) (m ((c : Thread nD τ).loc main_arg3)) k r q

/-- A point adds its tile's tokens. -/
theorem step4_apply (n : ℕ) (h : n < cfg0.N) (k : Fin 4) (hk : n / 8 = k.val) (acc : Vec Ideal S1x1024x1408 .f32) (r : Fin 1024) (q : Fin 1408) :
    k0_pay2 (F := Ideal) (iblk m c 0 ⟨n, h⟩) (iblk m c 3 ⟨n, h⟩) (iblk m c 2 ⟨n, h⟩) (iblk m c 1 ⟨n, h⟩) acc (ix3 0 r q)
      = acc (ix3 0 r q) + ∑ y : Fin 2048, beyond (share m c k r q) (n % 8 * 2048 + y) := by
  rw [pay2]
  congr 1
  refine Finset.sum_congr rfl fun y _ => ?_
  rw [blk0, blk1, blk2, blk3, beyond_of_lt _ (row_lt n y)]
  unfold share term
  simp only [hk]

/-- The call's result, at an entry. -/
theorem result (k : Fin 4) (r : Fin 1024) (q : Fin 1408) : (G4 m c (ix3 k r q) : EReal) = ∑ t : Fin 16384, share m c k r q t := by
  have h0 : run4Of (ix3 k r q) = k.val := by
    show 1 * (k.val / 1 - 0) + 1 * (r.val / 1024 - 0) + 1 * (q.val / 1408 - 0) = k.val
    omega
  have hN : 8 * run4Of (ix3 k r q) + 7 < cfg0.N := by
    rw [show cfg0.N = 32 from N_0, h0]
    omega
  have hl : loc4Of (ix3 k r q) = ix3 0 r q := by
    funext a; apply Fin.ext
    match a with
    | ⟨0, _⟩ => exact Nat.mod_one _
    | ⟨1, _⟩ => exact Nat.mod_eq_of_lt r.2
    | ⟨2, _⟩ => exact Nat.mod_eq_of_lt q.2
  unfold G4
  rw [dif_pos hN, hl]
  refine (Pipeline.accAt_add_apply (ι := S1x1024x1408.Idx) (β := EReal) (reset4 m c) (step4 m c) (fun _ => 0)
    (fun n i => ∑ y : Fin 2048, beyond (share m c k (i 1) (i 2)) (n % 8 * 2048 + y)) _ 7 ?_ ?_ 7 (le_refl _) hN (ix3 0 r q)).trans ?_
  · intro h i
    obtain ⟨z, a, b, rfl⟩ : ∃ (z : Fin 1) (a : Fin 1024) (b : Fin 1408), i = ix3 z a b := ⟨i 0, i 1, i 2, eq_ix3 i⟩
    obtain rfl : z = 0 := Subsingleton.elim _ _
    exact (step4_apply m c _ h k (by omega) _ a b).trans (by rw [pay1]; rfl)
  · intro n h acc i h1 h2
    obtain ⟨z, a, b, rfl⟩ : ∃ (z : Fin 1) (a : Fin 1024) (b : Fin 1408), i = ix3 z a b := ⟨i 0, i 1, i 2, eq_ix3 i⟩
    obtain rfl : z = 0 := Subsingleton.elim _ _
    exact step4_apply m c n h k (by omega) acc a b
  · rw [zero_add, ← sum_tiles 8 2048 16384 rfl (share m c k r q)]
    refine Finset.sum_congr rfl fun s hs => ?_
    have hs := Finset.mem_range.1 hs
    rw [show (8 * run4Of (ix3 k r q) + s) % 8 = s by omega]
    rfl

open Cert.Reference4Ideal.Read in
/-- The reference's result is the same sum. -/
theorem reference (x0 : Vec Ideal S16384x1024 .f32) (x1 x2 : Vec Ideal S1x1024 .f32) (x3 : Vec Ideal S2x16384x2816 .bf16) (k : Fin 4) (r : Fin 1024)
    (q : Fin 1408) : val_main_v14 (F := Ideal) x0 x1 x2 x3 (ix3 k r q) = ∑ t : Fin 16384, term x0 x1 x2 x3 k r q t := by
  rw [val_main_v14_apply, val_main_v13_apply, val_main_v12_apply, val_main_v11_apply]
  refine Finset.sum_congr rfl fun t _ => ?_
  refine (mul_comm (G := EReal) _ _).trans (congrArg₂ (fun a b : EReal => a * b) ?_ ?_)
  · have e : ridx_main_v11 (idx_main_v12 (idx_main_v13 (idx_main_v14 (ix3 k r q)))) t = ix2 t r := by
      refine funext fun d => Fin.ext ?_
      fin_cases d
      · rfl
      · show ((r.val * 4 + k.val) * 1408 + q.val) / 5632 = r.val
        omega
    rw [e]
    pointwise [val_main_v9, val_main_v8, val_main_v7, val_main_v6, val_main_v5, val_main_v4, val_main_cst_0, modulated]
  · rw [val_main_v2_apply, val_main_v1_apply, val_main_v0_apply]
    refine congrArg x3 (funext fun d => Fin.ext ?_)
    have h : ((r.val * 4 + k.val) * 1408 + q.val) % 5632 = k.val * 1408 + q.val := by omega
    fin_cases d
    · show (t.val * 5632 + ((r.val * 4 + k.val) * 1408 + q.val) % 5632) / 2816 % 2 = k.val / 2
      omega
    · show (t.val * 5632 + ((r.val * 4 + k.val) * 1408 + q.val) % 5632) / 5632 = t.val
      omega
    · show (t.val * 5632 + ((r.val * 4 + k.val) * 1408 + q.val) % 5632) % 2816 = k.val % 2 * 1408 + q.val
      omega

end Cert.Kernel4Ideal.Product

end
-- ==== Proof.DwDown.lean ====
/-
  The gradient of the ConvFFN's second product: the call's sum over sixteen tiles of tokens is the reference's product
  over all tokens.
-/
module

public import proofs.«01_k».proof.Proof.Tiles
public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

namespace Cert.Kernel5Ideal.Product

open Idealize.ShloMosaic Idealize.ShloMosaic.TcCoe Idealize.SL.Sem
open Cert.Kernel5Ideal Cert.Kernel5Ideal.Gen Cert.Kernel5Ideal.Value Cert.Tiles

/-- One point adds its tile's product. -/
theorem pay2 (x0 : Vec Ideal S1024x2816 .bf16) (x1 : Vec Ideal S1024x1024 .bf16) (acc : Vec Ideal S2816x1024 .f32) (r : Fin 2816) (q : Fin 1024) :
    k0_pay2 (F := Ideal) x0 x1 acc (ix2 r q) = acc (ix2 r q) + ∑ y : Fin 1024, x0 (ix2 y r) * x1 (ix2 y q) := by
  pointwise [k0_pay2]
theorem pay1 (r : Fin 2816) (q : Fin 1024) : k0_pay1 (F := Ideal) (ix2 r q) = 0 := by
  pointwise [k0_pay1]

/-- One token's share of an entry of the gradient. -/
def term (x0 : Vec Ideal S16384x2816 .bf16) (x1 : Vec Ideal S16384x1024 .bf16) (r : Fin 2816) (q : Fin 1024) (k : Fin 16384) : EReal :=
  x0 (ix2 k r) * x1 (ix2 k q)

variable (m : (ℓ : Loc nD τ sig) → Buf (Elt Ideal) ℓ) (c : Dev nD)

theorem idx : ∀ t : Fin cfg0.N, win0_0.index t = ![t.val, 0] ∧ win0_1.index t = ![t.val, 0] :=
  (by decide +kernel : ∀ t : Fin grid0.N, _)

theorem row_lt (t : Fin cfg0.N) (y : Fin 1024) : t.val * 1024 + y < 16384 := by
  have := lt_of_lt_of_eq t.2 (show cfg0.N = 16 from N_0); omega

theorem blk0 (t : Fin cfg0.N) (y : Fin 1024) (r : Fin 2816) :
    iblk m c 0 t (ix2 y r) = m ((c : Thread nD τ).loc main_arg0) (ix2 ⟨t.val * 1024 + y, row_lt t y⟩ r) := by
  have e : iblk m c 0 t (ix2 y r) = V m c main_arg0 ((win0_0.blk t).view.emb (ix2 y r)) := by
    unfold iblk; generalize V m c = X; unfold View.read; exact cast_eq _ _
  rw [e, V_main_arg0]
  congr 1
  refine funext fun d => Fin.ext ?_
  fin_cases d
  · blk_simp [(idx t).1]
    rfl
  · blk_simp [(idx t).1]
    rfl
theorem blk1 (t : Fin cfg0.N) (y : Fin 1024) (q : Fin 1024) :
    iblk m c 1 t (ix2 y q) = m ((c : Thread nD τ).loc main_arg1) (ix2 ⟨t.val * 1024 + y, row_lt t y⟩ q) := by
  have e : iblk m c 1 t (ix2 y q) = V m c main_arg1 ((win0_1.blk t).view.emb (ix2 y q)) := by
    unfold iblk; generalize V m c = X; unfold View.read; exact cast_eq _ _
  rw [e, V_main_arg1]
  congr 1
  refine funext fun d => Fin.ext ?_
  fin_cases d
  · blk_simp [(idx t).2]
    rfl
  · blk_simp [(idx t).2]
    rfl

/-- A point adds its tile's tokens. -/
theorem step2_apply (n : ℕ) (h : n < cfg0.N) (acc : Vec Ideal S2816x1024 .f32) (r : Fin 2816) (q : Fin 1024) :
    k0_pay2 (F := Ideal) (iblk m c 0 ⟨n, h⟩) (iblk m c 1 ⟨n, h⟩) acc (ix2 r q)
      = acc (ix2 r q) + ∑ y : Fin 1024, beyond (term (m ((c : Thread nD τ).loc main_arg0)) (m ((c : Thread nD τ).loc main_arg1)) r q) (n * 1024 + y) := by
  rw [pay2]
  congr 1
  refine Finset.sum_congr rfl fun y _ => ?_
  rw [blk0, blk1, beyond_of_lt _ (row_lt ⟨n, h⟩ y)]
  rfl

/-- The call's result, at an entry. -/
theorem result (r : Fin 2816) (q : Fin 1024) : (G2 m c (ix2 r q) : EReal) = ∑ k : Fin 16384, term (m ((c : Thread nD τ).loc main_arg0)) (m ((c : Thread nD τ).loc main_arg1)) r q k := by
  have hN : 16 * run2Of (ix2 r q) + 15 < cfg0.N := by
    rw [show cfg0.N = 16 from N_0]
    show 16 * (1 * (r.val / 2816 - 0) + 1 * (q.val / 1024 - 0)) + 15 < 16
    omega
  have h0 : 16 * run2Of (ix2 r q) = 0 := by
    show 16 * (1 * (r.val / 2816 - 0) + 1 * (q.val / 1024 - 0)) = 0
    omega
  have hl : loc2Of (ix2 r q) = ix2 r q := by
    funext a; apply Fin.ext
    match a with
    | ⟨0, _⟩ => exact Nat.mod_eq_of_lt r.2
    | ⟨1, _⟩ => exact Nat.mod_eq_of_lt q.2
  unfold G2
  rw [dif_pos hN, hl]
  refine (Pipeline.accAt_add_apply (ι := S2816x1024.Idx) (β := EReal) (reset2 m c) (step2 m c) (fun _ => 0)
    (fun n i => ∑ y : Fin 1024, beyond (term (m ((c : Thread nD τ).loc main_arg0)) (m ((c : Thread nD τ).loc main_arg1)) (i 0) (i 1)) (n * 1024 + y)) _ 15 ?_ ?_ 15 (le_refl _) hN (ix2 r q)).trans ?_
  · intro h i
    obtain ⟨a, b, rfl⟩ : ∃ (a : Fin 2816) (b : Fin 1024), i = ix2 a b := ⟨i 0, i 1, eq_ix2 i⟩
    exact (step2_apply m c _ h _ a b).trans (by rw [pay1]; rfl)
  · intro n h acc i _ _
    obtain ⟨a, b, rfl⟩ : ∃ (a : Fin 2816) (b : Fin 1024), i = ix2 a b := ⟨i 0, i 1, eq_ix2 i⟩
    exact step2_apply m c n h acc a b
  · rw [h0, zero_add]
    simp only [zero_add]
    exact sum_tiles 16 1024 16384 rfl (term (m ((c : Thread nD τ).loc main_arg0)) (m ((c : Thread nD τ).loc main_arg1)) r q)

/-- The reference's result is the same sum. -/
theorem reference (x0 : Vec Ideal S16384x2816 .bf16) (x1 : Vec Ideal S16384x1024 .bf16) (r : Fin 2816) (q : Fin 1024) :
    Cert.Reference5Ideal.Read.val_main_v5 (F := Ideal) x0 x1 (ix2 r q) = ∑ k : Fin 16384, term x0 x1 r q k := by
  rw [Cert.Reference5Ideal.Read.val_main_v5_apply, Cert.Reference5Ideal.Read.val_main_v4_apply]
  refine Finset.sum_congr rfl fun k _ => ?_
  rw [Cert.Reference5Ideal.Read.val_main_v1_apply, Cert.Reference5Ideal.Read.val_main_v0_apply]
  refine (mul_comm (G := EReal) _ _).trans (congrArg₂ (fun a b : EReal => a * b) (congrArg x0 ?_) (congrArg x1 ?_)) <;>
    exact funext fun d => Fin.ext (by fin_cases d <;> rfl)

end Cert.Kernel5Ideal.Product

end
-- ==== Proof.DwIn.lean ====
/-
  The gradient of the projection into the branches, and of its bias: for each quarter of the columns the call's sums over
  eight tiles of tokens are the reference's sums over all tokens.
-/
module

public import proofs.«01_k».proof.Proof.Tiles
public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

namespace Cert.Kernel7Ideal.Product

open Idealize.ShloMosaic Idealize.ShloMosaic.TcCoe Idealize.SL.Sem
open Cert.Kernel7Ideal Cert.Kernel7Ideal.Gen Cert.Kernel7Ideal.Value Cert.Tiles

/-- One point adds its tile's product. -/
theorem pay3 (x0 : Vec Ideal S2048x1024 .f32) (x3 x2 : Vec Ideal S1x1024 .f32) (x1 : Vec Ideal S2048x896 .bf16) (acc : Vec Ideal S1x1024x896 .f32)
    (r : Fin 1024) (q : Fin 896) :
    k0_pay3 (F := Ideal) x0 x3 x2 x1 acc (ix3 0 r q)
      = acc (ix3 0 r q) + ∑ y : Fin 2048, modulated (x0 (ix2 y r)) (x3 (ix2 0 r)) (x2 (ix2 0 r)) * x1 (ix2 y q) := by
  pointwise [k0_pay3, modulated]
theorem pay1 (r : Fin 1024) (q : Fin 896) : k0_pay1 (F := Ideal) (ix3 0 r q) = 0 := by
  pointwise [k0_pay1]

/-- One token's share of an entry of the gradient. -/
def term (x0 : Vec Ideal S16384x1024 .f32) (x1 x2 : Vec Ideal S1x1024 .f32) (x3 : Vec Ideal S16384x3584 .bf16) (k : Fin 4) (r : Fin 1024) (q : Fin 896)
    (t : Fin 16384) : EReal :=
  modulated (x0 (ix2 t r)) (x2 (ix2 0 r)) (x1 (ix2 0 r))
    * x3 (ix2 t ⟨k.val * 896 + q.val, by omega⟩)

variable (m : (ℓ : Loc nD τ sig) → Buf (Elt Ideal) ℓ) (c : Dev nD)

theorem idx : ∀ t : Fin cfg0.N, win0_0.index t = ![t.val % 8, 0] ∧ win0_1.index t = ![t.val % 8, t.val / 8]
    ∧ win0_2.index t = ![0, 0] ∧ win0_3.index t = ![0, 0] :=
  (by decide +kernel : ∀ t : Fin grid0.N, _)

theorem pt_lt (t : Fin cfg0.N) : t.val < 32 := lt_of_lt_of_eq t.2 (show cfg0.N = 32 from N_0)

theorem row_lt (n : ℕ) (y : Fin 2048) : n % 8 * 2048 + y < 16384 := by omega

theorem blk0 (t : Fin cfg0.N) (y : Fin 2048) (r : Fin 1024) :
    iblk m c 0 t (ix2 y r) = m ((c : Thread nD τ).loc main_arg0) (ix2 ⟨t.val % 8 * 2048 + y, row_lt t y⟩ r) := by
  have e : iblk m c 0 t (ix2 y r) = V m c main_arg0 ((win0_0.blk t).view.emb (ix2 y r)) := by
    unfold iblk; generalize V m c = X; unfold View.read; exact cast_eq _ _
  rw [e, V_main_arg0]
  congr 1
  refine funext fun d => Fin.ext ?_
  fin_cases d
  · blk_simp [(idx t).1]
    rfl
  · blk_simp [(idx t).1]
    rfl
theorem blk1 (t : Fin cfg0.N) (y : Fin 2048) (q : Fin 896) :
    iblk m c 1 t (ix2 y q) = m ((c : Thread nD τ).loc main_arg3) (ix2 ⟨t.val % 8 * 2048 + y, row_lt t y⟩ ⟨t.val / 8 * 896 + q, by have := pt_lt t; omega⟩) := by
  have e : iblk m c 1 t (ix2 y q) = V m c main_arg3 ((win0_1.blk t).view.emb (ix2 y q)) := by
    unfold iblk; generalize V m c = X; unfold View.read; exact cast_eq _ _
  rw [e, V_main_arg3]
  congr 1
  refine funext fun d => Fin.ext ?_
  fin_cases d
  · blk_simp [(idx t).2.1]
    rfl
  · blk_simp [(idx t).2.1]
    rfl
theorem blk2 (t : Fin cfg0.N) (r : Fin 1024) : iblk m c 2 t (ix2 0 r) = m ((c : Thread nD τ).loc main_arg1) (ix2 0 r) := by
  have e : iblk m c 2 t (ix2 0 r) = V m c main_arg1 ((win0_2.blk t).view.emb (ix2 0 r)) := by
    unfold iblk; generalize V m c = X; unfold View.read; exact cast_eq _ _
  rw [e, V_main_arg1]
  congr 1
  refine funext fun d => Fin.ext ?_
  fin_cases d
  · blk_simp [(idx t).2.2.1]
  · blk_simp [(idx t).2.2.1]
theorem blk3 (t : Fin cfg0.N) (r : Fin 1024) : iblk m c 3 t (ix2 0 r) = m ((c : Thread nD τ).loc main_arg2) (ix2 0 r) := by
  have e : iblk m c 3 t (ix2 0 r) = V m c main_arg2 ((win0_3.blk t).view.emb (ix2 0 r)) := by
    unfold iblk; generalize V m c = X; unfold View.read; exact cast_eq _ _
  rw [e, V_main_arg2]
  congr 1
  refine funext fun d => Fin.ext ?_
  fin_cases d
  · blk_simp [(idx t).2.2.2]
  · blk_simp [(idx t).2.2.2]

/-- The shares at the call's arguments. -/
def share (k : Fin 4) (r : Fin 1024) (q : Fin 896) : Fin 16384 → EReal :=
  term (m ((c : Thread nD τ).loc main_arg0)) (m ((c : Thread nD τ).loc main_arg1)) (m ((c : Thread nD τ).loc main_arg2)) (m ((c : Thread nD τ).loc main_arg3)) k r q

/-- A point adds its tile's tokens. -/
theorem step4_apply (n : ℕ) (h : n < cfg0.N) (k : Fin 4) (hk : n / 8 = k.val) (acc : Vec Ideal S1x1024x896 .f32) (r : Fin 1024) (q : Fin 896) :
    k0_pay3 (F := Ideal) (iblk m c 0 ⟨n, h⟩) (iblk m c 3 ⟨n, h⟩) (iblk m c 2 ⟨n, h⟩) (iblk m c 1 ⟨n, h⟩) acc (ix3 0 r q)
      = acc (ix3 0 r q) + ∑ y : Fin 2048, beyond (share m c k r q) (n % 8 * 2048 + y) := by
  rw [pay3]
  congr 1
  refine Finset.sum_congr rfl fun y _ => ?_
  rw [blk0, blk1, blk2, blk3, beyond_of_lt _ (row_lt n y)]
  unfold share term
  simp only [hk]

/-- The call's result, at an entry. -/
theorem result (k : Fin 4) (r : Fin 1024) (q : Fin 896) : (G4 m c (ix3 k r q) : EReal) = ∑ t : Fin 16384, share m c k r q t := by
  have h0 : run4Of (ix3 k r q) = k.val := by
    show 1 * (k.val / 1 - 0) + 1 * (r.val / 1024 - 0) + 1 * (q.val / 896 - 0) = k.val
    omega
  have hN : 8 * run4Of (ix3 k r q) + 7 < cfg0.N := by
    rw [show cfg0.N = 32 from N_0, h0]
    omega
  have hl : loc4Of (ix3 k r q) = ix3 0 r q := by
    funext a; apply Fin.ext
    match a with
    | ⟨0, _⟩ => exact Nat.mod_one _
    | ⟨1, _⟩ => exact Nat.mod_eq_of_lt r.2
    | ⟨2, _⟩ => exact Nat.mod_eq_of_lt q.2
  unfold G4
  rw [dif_pos hN, hl]
  refine (Pipeline.accAt_add_apply (ι := S1x1024x896.Idx) (β := EReal) (reset4 m c) (step4 m c) (fun _ => 0)
    (fun n i => ∑ y : Fin 2048, beyond (share m c k (i 1) (i 2)) (n % 8 * 2048 + y)) _ 7 ?_ ?_ 7 (le_refl _) hN (ix3 0 r q)).trans ?_
  · intro h i
    obtain ⟨z, a, b, rfl⟩ : ∃ (z : Fin 1) (a : Fin 1024) (b : Fin 896), i = ix3 z a b := ⟨i 0, i 1, i 2, eq_ix3 i⟩
    obtain rfl : z = 0 := Subsingleton.elim _ _
    exact (step4_apply m c _ h k (by omega) _ a b).trans (by rw [pay1]; rfl)
  · intro n h acc i h1 h2
    obtain ⟨z, a, b, rfl⟩ : ∃ (z : Fin 1) (a : Fin 1024) (b : Fin 896), i = ix3 z a b := ⟨i 0, i 1, i 2, eq_ix3 i⟩
    obtain rfl : z = 0 := Subsingleton.elim _ _
    exact step4_apply m c n h k (by omega) acc a b
  · rw [zero_add, ← sum_tiles 8 2048 16384 rfl (share m c k r q)]
    refine Finset.sum_congr rfl fun s hs => ?_
    have hs := Finset.mem_range.1 hs
    rw [show (8 * run4Of (ix3 k r q) + s) % 8 = s by omega]
    rfl

/-- A point adds its tile's gradients to each of the eight rows of the bias' gradient. -/
theorem pay4 (x1 : Vec Ideal S2048x896 .bf16) (acc : Vec Ideal S8x896 .f32) (p : Fin 8) (q : Fin 896) :
    k0_pay4 (F := Ideal) x1 acc (ix2 p q) = acc (ix2 p q) + ∑ y : Fin 2048, x1 (ix2 y q) := by
  pointwise [k0_pay4]
theorem pay2 (p : Fin 8) (q : Fin 896) : k0_pay2 (F := Ideal) (ix2 p q) = 0 := by
  pointwise [k0_pay2]

/-- One token's gradient of a column. -/
def gradient (x3 : Vec Ideal S16384x3584 .bf16) (q : Fin 3584) (t : Fin 16384) : EReal := x3 (ix2 t q)

theorem step5_apply (n : ℕ) (h : n < cfg0.N) (k : Fin 4) (hk : n / 8 = k.val) (acc : Vec Ideal S8x896 .f32) (p : Fin 8) (q : Fin 896) :
    k0_pay4 (F := Ideal) (iblk m c 1 ⟨n, h⟩) acc (ix2 p q)
      = acc (ix2 p q) + ∑ y : Fin 2048, beyond (gradient (m ((c : Thread nD τ).loc main_arg3)) ⟨k.val * 896 + q, by omega⟩) (n % 8 * 2048 + y) := by
  rw [pay4]
  congr 1
  refine Finset.sum_congr rfl fun y _ => ?_
  rw [blk1, beyond_of_lt _ (row_lt n y)]
  unfold gradient
  simp only [hk]

/-- The gradient of the bias, at an entry. -/
theorem result_bias (p : Fin 8) (q : Fin 3584) : (G5 m c (ix2 p q) : EReal) = ∑ t : Fin 16384, gradient (m ((c : Thread nD τ).loc main_arg3)) q t := by
  have hk : q.val / 896 < 4 := by omega
  have h0 : run5Of (ix2 p q) = q.val / 896 := by
    show 4 * (p.val / 8 - 0) + 1 * (q.val / 896 - 0) = q.val / 896
    omega
  have hN : 8 * run5Of (ix2 p q) + 7 < cfg0.N := by
    rw [show cfg0.N = 32 from N_0, h0]
    omega
  have hl : loc5Of (ix2 p q) = ix2 p ⟨q.val % 896, by omega⟩ := by
    funext a; apply Fin.ext
    match a with
    | ⟨0, _⟩ => exact Nat.mod_eq_of_lt p.2
    | ⟨1, _⟩ => rfl
  unfold G5
  rw [dif_pos hN, hl]
  refine (Pipeline.accAt_add_apply (ι := S8x896.Idx) (β := EReal) (reset5 m c) (step5 m c) (fun _ => 0)
    (fun n i => ∑ y : Fin 2048, beyond (gradient (m ((c : Thread nD τ).loc main_arg3)) ⟨q.val / 896 * 896 + (i 1).val, by
      have : (i 1).val < 896 := (i 1).isLt; omega⟩) (n % 8 * 2048 + y)) _ 7 ?_ ?_ 7 (le_refl _) hN _).trans ?_
  · intro h i
    obtain ⟨a, b, rfl⟩ : ∃ (a : Fin 8) (b : Fin 896), i = ix2 a b := ⟨i 0, i 1, eq_ix2 i⟩
    exact (step5_apply m c _ h ⟨q.val / 896, hk⟩ (by simp only; omega) _ a b).trans (by rw [pay2]; rfl)
  · intro n h acc i h1 h2
    obtain ⟨a, b, rfl⟩ : ∃ (a : Fin 8) (b : Fin 896), i = ix2 a b := ⟨i 0, i 1, eq_ix2 i⟩
    exact step5_apply m c n h ⟨q.val / 896, hk⟩ (by simp only; omega) acc a b
  · rw [zero_add, ← sum_tiles 8 2048 16384 rfl (gradient (m ((c : Thread nD τ).loc main_arg3)) q)]
    refine Finset.sum_congr rfl fun s hs => ?_
    have hs := Finset.mem_range.1 hs
    rw [show (8 * run5Of (ix2 p q) + s) % 8 = s by omega]
    refine Finset.sum_congr rfl fun y _ => congrArg (fun z => beyond (gradient (m ((c : Thread nD τ).loc main_arg3)) z) _) (Fin.ext ?_)
    show q.val / 896 * 896 + q.val % 896 = q.val
    omega

open Cert.Reference7Ideal.Read in
/-- The reference's gradient of the weights is the same sum. -/
theorem reference (x0 : Vec Ideal S16384x1024 .f32) (x1 x2 : Vec Ideal S1x1024 .f32) (x3 : Vec Ideal S16384x3584 .bf16) (k : Fin 4) (r : Fin 1024)
    (q : Fin 896) : val_main_v19 (F := Ideal) x0 x1 x2 x3 (ix3 k r q) = ∑ t : Fin 16384, term x0 x1 x2 x3 k r q t := by
  rw [val_main_v19_apply, val_main_v18_apply, val_main_v17_apply, val_main_v16_apply]
  refine Finset.sum_congr rfl fun t _ => ?_
  refine (mul_comm (G := EReal) _ _).trans (congrArg₂ (fun a b : EReal => a * b) ?_ ?_)
  · have e : ridx_main_v16 (idx_main_v17 (idx_main_v18 (idx_main_v19 (ix3 k r q)))) t = ix2 t r := by
      refine funext fun d => Fin.ext ?_
      fin_cases d
      · rfl
      · show ((r.val * 4 + k.val) * 896 + q.val) / 3584 = r.val
        omega
    rw [e]
    pointwise [val_main_v7, val_main_v6, val_main_v5, val_main_v4, val_main_v3, val_main_v2, val_main_cst_1, modulated]
  · rw [val_main_v12_apply]
    refine congrArg x3 (funext fun d => Fin.ext ?_)
    fin_cases d
    · rfl
    · show ((r.val * 4 + k.val) * 896 + q.val) % 3584 = k.val * 896 + q.val
      omega

open Cert.Reference7Ideal.Read in
/-- The reference's gradient of the bias is the same sum. -/
theorem reference_bias (x3 : Vec Ideal S16384x3584 .bf16) (p : Fin 8) (q : Fin 3584) :
    val_main_v20 (F := Ideal) x3 (ix2 p q) = ∑ t : Fin 16384, gradient x3 q t := by
  pointwise [val_main_v20, val_main_v15, val_main_v14, val_main_v13, val_main_v12, val_main_cst_2, val_main_cst_3, gradient]
  exact Fin.sum_univ_one _

end Cert.Kernel7Ideal.Product

end
-- ==== Proof.DwOut.lean ====
/-
  The gradient of the projection out of the merge: the call's sum over sixteen tiles of tokens is the reference's product
  over all tokens.
-/
module

public import proofs.«01_k».proof.Proof.Tiles
public import proofs.«01_k».proof.Proof.Gen.Kernel8Ideal.Value
public import proofs.«01_k».proof.Proof.Gen.Reference8Ideal.Read
public import Idealize.ShloMosaic.Lib.Pipeline.ValueKit

@[expose] public section

set_option maxRecDepth 16384

noncomputable section

namespace Cert.Kernel8Ideal.Product

open Idealize.ShloMosaic Idealize.ShloMosaic.TcCoe Idealize.SL.Sem
open Cert.Kernel8Ideal Cert.Kernel8Ideal.Gen Cert.Kernel8Ideal.Value Cert.Tiles

/-- One point adds its tile's product. -/
theorem pay2 (x0 : Vec Ideal S1024x1024 .bf16) (x1 : Vec Ideal S1024x1024 .bf16) (acc : Vec Ideal S1024x1024 .f32) (r : Fin 1024) (q : Fin 1024) :
    k0_pay2 (F := Ideal) x0 x1 acc (ix2 r q) = acc (ix2 r q) + ∑ y : Fin 1024, x0 (ix2 y r) * x1 (ix2 y q) := by
  pointwise [k0_pay2]
theorem pay1 (r : Fin 1024) (q : Fin 1024) : k0_pay1 (F := Ideal) (ix2 r q) = 0 := by
  pointwise [k0_pay1]

/-- One token's share of an entry of the gradient. -/
def term (x0 : Vec Ideal S16384x1024 .bf16) (x1 : Vec Ideal S16384x1024 .bf16) (r : Fin 1024) (q : Fin 1024) (k : Fin 16384) : EReal :=
  x0 (ix2 k r) * x1 (ix2 k q)

variable (m : (ℓ : Loc nD τ sig) → Buf (Elt Ideal) ℓ) (c : Dev nD)

theorem idx : ∀ t : Fin cfg0.N, win0_0.index t = ![t.val, 0] ∧ win0_1.index t = ![t.val, 0] :=
  (by decide +kernel : ∀ t : Fin grid0.N, _)

theorem row_lt (t : Fin cfg0.N) (y : Fin 1024) : t.val * 1024 + y < 16384 := by
  have := lt_of_lt_of_eq t.2 (show cfg0.N = 16 from N_0); omega

theorem blk0 (t : Fin cfg0.N) (y : Fin 1024) (r : Fin 1024) :
    iblk m c 0 t (ix2 y r) = m ((c : Thread nD τ).loc main_arg0) (ix2 ⟨t.val * 1024 + y, row_lt t y⟩ r) := by
  have e : iblk m c 0 t (ix2 y r) = V m c main_arg0 ((win0_0.blk t).view.emb (ix2 y r)) := by
    unfold iblk; generalize V m c = X; unfold View.read; exact cast_eq _ _
  rw [e, V_main_arg0]
  congr 1
  refine funext fun d => Fin.ext ?_
  fin_cases d
  · blk_simp [(idx t).1]
    rfl
  · blk_simp [(idx t).1]
    rfl
theorem blk1 (t : Fin cfg0.N) (y : Fin 1024) (q : Fin 1024) :
    iblk m c 1 t (ix2 y q) = m ((c : Thread nD τ).loc main_arg1) (ix2 ⟨t.val * 1024 + y, row_lt t y⟩ q) := by
  have e : iblk m c 1 t (ix2 y q) = V m c main_arg1 ((win0_1.blk t).view.emb (ix2 y q)) := by
    unfold iblk; generalize V m c = X; unfold View.read; exact cast_eq _ _
  rw [e, V_main_arg1]
  congr 1
  refine funext fun d => Fin.ext ?_
  fin_cases d
  · blk_simp [(idx t).2]
    rfl
  · blk_simp [(idx t).2]
    rfl

/-- A point adds its tile's tokens. -/
theorem step2_apply (n : ℕ) (h : n < cfg0.N) (acc : Vec Ideal S1024x1024 .f32) (r : Fin 1024) (q : Fin 1024) :
    k0_pay2 (F := Ideal) (iblk m c 0 ⟨n, h⟩) (iblk m c 1 ⟨n, h⟩) acc (ix2 r q)
      = acc (ix2 r q) + ∑ y : Fin 1024, beyond (term (m ((c : Thread nD τ).loc main_arg0)) (m ((c : Thread nD τ).loc main_arg1)) r q) (n * 1024 + y) := by
  rw [pay2]
  congr 1
  refine Finset.sum_congr rfl fun y _ => ?_
  rw [blk0, blk1, beyond_of_lt _ (row_lt ⟨n, h⟩ y)]
  rfl

/-- The call's result, at an entry. -/
theorem result (r : Fin 1024) (q : Fin 1024) : (G2 m c (ix2 r q) : EReal) = ∑ k : Fin 16384, term (m ((c : Thread nD τ).loc main_arg0)) (m ((c : Thread nD τ).loc main_arg1)) r q k := by
  have hN : 16 * run2Of (ix2 r q) + 15 < cfg0.N := by
    rw [show cfg0.N = 16 from N_0]
    show 16 * (1 * (r.val / 1024 - 0) + 1 * (q.val / 1024 - 0)) + 15 < 16
    omega
  have h0 : 16 * run2Of (ix2 r q) = 0 := by
    show 16 * (1 * (r.val / 1024 - 0) + 1 * (q.val / 1024 - 0)) = 0
    omega
  have hl : loc2Of (ix2 r q) = ix2 r q := by
    funext a; apply Fin.ext
    match a with
    | ⟨0, _⟩ => exact Nat.mod_eq_of_lt r.2
    | ⟨1, _⟩ => exact Nat.mod_eq_of_lt q.2
  unfold G2
  rw [dif_pos hN, hl]
  refine (Pipeline.accAt_add_apply (ι := S1024x1024.Idx) (β := EReal) (reset2 m c) (step2 m c) (fun _ => 0)
    (fun n i => ∑ y : Fin 1024, beyond (term (m ((c : Thread nD τ).loc main_arg0)) (m ((c : Thread nD τ).loc main_arg1)) (i 0) (i 1)) (n * 1024 + y)) _ 15 ?_ ?_ 15 (le_refl _) hN (ix2 r q)).trans ?_
  · intro h i
    obtain ⟨a, b, rfl⟩ : ∃ (a : Fin 1024) (b : Fin 1024), i = ix2 a b := ⟨i 0, i 1, eq_ix2 i⟩
    exact (step2_apply m c _ h _ a b).trans (by rw [pay1]; rfl)
  · intro n h acc i _ _
    obtain ⟨a, b, rfl⟩ : ∃ (a : Fin 1024) (b : Fin 1024), i = ix2 a b := ⟨i 0, i 1, eq_ix2 i⟩
    exact step2_apply m c n h acc a b
  · rw [h0, zero_add]
    simp only [zero_add]
    exact sum_tiles 16 1024 16384 rfl (term (m ((c : Thread nD τ).loc main_arg0)) (m ((c : Thread nD τ).loc main_arg1)) r q)

/-- The reference's result is the same sum. -/
theorem reference (x0 : Vec Ideal S16384x1024 .bf16) (x1 : Vec Ideal S16384x1024 .bf16) (r : Fin 1024) (q : Fin 1024) :
    Cert.Reference8Ideal.Read.val_main_v5 (F := Ideal) x0 x1 (ix2 r q) = ∑ k : Fin 16384, term x0 x1 r q k := by
  rw [Cert.Reference8Ideal.Read.val_main_v5_apply, Cert.Reference8Ideal.Read.val_main_v4_apply]
  refine Finset.sum_congr rfl fun k _ => ?_
  rw [Cert.Reference8Ideal.Read.val_main_v1_apply, Cert.Reference8Ideal.Read.val_main_v0_apply]
  refine (mul_comm (G := EReal) _ _).trans (congrArg₂ (fun a b : EReal => a * b) (congrArg x0 ?_) (congrArg x1 ?_)) <;>
    exact funext fun d => Fin.ext (by fin_cases d <;> rfl)

end Cert.Kernel8Ideal.Product

end
-- ==== Proof.FfnUp.lean ====
/-
  The ConvFFN's first product: the call's blocks of tokens and of columns, laid out by halves of the columns, are the
  reference's one product.
-/
module

public import proofs.«01_k».proof.Proof.Tiles
public import proofs.«01_k».proof.Proof.Gen.Kernel9Ideal.Value
public import proofs.«01_k».proof.Proof.Gen.Reference9Ideal.Read
public import Idealize.ShloMosaic.Lib.Pipeline.ValueKit

@[expose] public section

set_option maxRecDepth 16384

noncomputable section

namespace Cert.Kernel9Ideal.Product

open Idealize.ShloMosaic Idealize.ShloMosaic.TcCoe Idealize.SL.Sem
open Cert.Kernel9Ideal Cert.Kernel9Ideal.Gen Cert.Kernel9Ideal.Value Cert.Tiles

/-- One point's block: the modulated input times the quarter of the weights, and the bias. -/
theorem pay1 (x : Vec Ideal S2048x1024 .f32) (scale shift : Vec Ideal S1x1024 .f32) (w : Vec Ideal S1x1024x1408 .bf16) (b : Vec Ideal S1x1408 .f32)
    (p : Fin 2048) (q : Fin 1408) :
    k0_pay1 (F := Ideal) x scale shift w b (ix3 0 p q)
      = (∑ d : Fin 1024, modulated (x (ix2 p d)) (scale (ix2 0 d)) (shift (ix2 0 d)) * w (ix3 0 d q)) + b (ix2 0 q) := by
  pointwise [k0_pay1, modulated]

/-- An entry of the product. -/
def entry (x0 : Vec Ideal S16384x1024 .f32) (x1 x2 : Vec Ideal S1x1024 .f32) (x3 : Vec Ideal S4x1024x1408 .bf16)
    (h : Fin 2) (t : Fin 16384) (q : Fin 2816) : EReal :=
  ∑ d : Fin 1024, modulated (x0 (ix2 t d)) (x2 (ix2 0 d)) (x1 (ix2 0 d)) * x3 (ix3 ⟨h.val * 2 + q.val / 1408, by omega⟩ d ⟨q.val % 1408, by omega⟩)

variable (m : (ℓ : Loc nD τ sig) → Buf (Elt Ideal) ℓ) (c : Dev nD)

theorem idx : ∀ t : Fin cfg0.N, win0_0.index t = ![t.val / 4, 0] ∧ win0_1.index t = ![0, 0] ∧ win0_2.index t = ![0, 0]
    ∧ win0_3.index t = ![t.val % 4, 0, 0] ∧ win0_4.index t = ![0, t.val % 4] ∧ win0_5.index t = ![t.val % 4 / 2, t.val / 4, t.val % 2] :=
  (by decide +kernel : ∀ t : Fin grid0.N, _)

theorem pt_lt (t : Fin cfg0.N) : t.val < 32 := lt_of_lt_of_eq t.2 (show cfg0.N = 32 from N_0)

theorem blk0 (t : Fin cfg0.N) (p : Fin 2048) (d : Fin 1024) :
    iblk m c 0 t (ix2 p d) = m ((c : Thread nD τ).loc main_arg0) (ix2 ⟨t.val / 4 * 2048 + p, by have := pt_lt t; omega⟩ d) := by
  have e : iblk m c 0 t (ix2 p d) = V m c main_arg0 ((win0_0.blk t).view.emb (ix2 p d)) := by
    unfold iblk; generalize V m c = X; unfold View.read; exact cast_eq _ _
  rw [e, V_main_arg0]
  congr 1
  refine funext fun d => Fin.ext ?_
  fin_cases d
  · blk_simp [(idx t).1]
    rfl
  · blk_simp [(idx t).1]
    rfl
theorem blk1 (t : Fin cfg0.N) (d : Fin 1024) : iblk m c 1 t (ix2 0 d) = m ((c : Thread nD τ).loc main_arg1) (ix2 0 d) := by
  have e : iblk m c 1 t (ix2 0 d) = V m c main_arg1 ((win0_1.blk t).view.emb (ix2 0 d)) := by
    unfold iblk; generalize V m c = X; unfold View.read; exact cast_eq _ _
  rw [e, V_main_arg1]
  congr 1
  refine funext fun d => Fin.ext ?_
  fin_cases d
  · blk_simp [(idx t).2.1]
  · blk_simp [(idx t).2.1]
theorem blk2 (t : Fin cfg0.N) (d : Fin 1024) : iblk m c 2 t (ix2 0 d) = m ((c : Thread nD τ).loc main_arg2) (ix2 0 d) := by
  have e : iblk m c 2 t (ix2 0 d) = V m c main_arg2 ((win0_2.blk t).view.emb (ix2 0 d)) := by
    unfold iblk; generalize V m c = X; unfold View.read; exact cast_eq _ _
  rw [e, V_main_arg2]
  congr 1
  refine funext fun d => Fin.ext ?_
  fin_cases d
  · blk_simp [(idx t).2.2.1]
  · blk_simp [(idx t).2.2.1]
theorem blk3 (t : Fin cfg0.N) (d : Fin 1024) (q : Fin 1408) :
    iblk m c 3 t (ix3 0 d q) = m ((c : Thread nD τ).loc main_arg3) (ix3 ⟨t.val % 4, by omega⟩ d q) := by
  have e : iblk m c 3 t (ix3 0 d q) = V m c main_arg3 ((win0_3.blk t).view.emb (ix3 0 d q)) := by
    unfold iblk; generalize V m c = X; unfold View.read; exact cast_eq _ _
  rw [e, V_main_arg3]
  congr 1
  refine funext fun d => Fin.ext ?_
  fin_cases d
  · blk_simp [(idx t).2.2.2.1]
    rfl
  · blk_simp [(idx t).2.2.2.1]
    rfl
  · blk_simp [(idx t).2.2.2.1]
    rfl
/-- The bias is zero. -/
theorem blk4 (t : Fin cfg0.N) (q : Fin 1408) : iblk m c 4 t (ix2 0 q) = (0 : EReal) := by
  have e : iblk m c 4 t (ix2 0 q) = V m c main_v0 ((win0_4.blk t).view.emb (ix2 0 q)) := by
    unfold iblk; generalize V m c = X; unfold View.read; exact cast_eq _ _
  rw [e]
  entry_read
  pointwise

/-- The call's result. -/
def G5 : Buf (Elt Ideal) ((c : Thread nD τ).loc main_v1) := fun i =>
  entry (m ((c : Thread nD τ).loc main_arg0)) (m ((c : Thread nD τ).loc main_arg1)) (m ((c : Thread nD τ).loc main_arg2))
    (m ((c : Thread nD τ).loc main_arg3)) (i 0) (i 1) (i 2)

theorem result (h : Fin 2) (t : Fin 16384) (q : Fin 2816) : (G5 m c (ix3 h t q) : EReal)
    = entry (m ((c : Thread nD τ).loc main_arg0)) (m ((c : Thread nD τ).loc main_arg1)) (m ((c : Thread nD τ).loc main_arg2))
    (m ((c : Thread nD τ).loc main_arg3)) h t q := rfl

/-- Every block that the call writes is its part of the product. -/
theorem final5 : (dats m 0 c).arrAt 5 cfg0.N = G5 m c := by
  refine (dats m 0 c).arrAt_eq_of_covers 5 _ (by decide +kernel) fun t hf y => ?_
  blk_simp
  rw [after0_5]
  frame_out
  obtain ⟨z, p, q, rfl⟩ : ∃ (z : Fin 1) (p : Fin 2048) (q : Fin 1408), y = ix3 z p q := ⟨y 0, y 1, y 2, eq_ix3 y⟩
  obtain rfl : z = 0 := Subsingleton.elim _ _
  have e : (win0_5.blk t).view.emb (ix3 0 p q)
      = ix3 ⟨t.val % 4 / 2, by omega⟩ ⟨t.val / 4 * 2048 + p, by have := pt_lt t; omega⟩ ⟨t.val % 2 * 1408 + q, by omega⟩ := by
    refine funext fun d => Fin.ext ?_
    fin_cases d
    · blk_simp [(idx t).2.2.2.2.2]
      rfl
    · blk_simp [(idx t).2.2.2.2.2]
      rfl
    · blk_simp [(idx t).2.2.2.2.2]
      rfl
  refine Eq.trans ?_ (congrArg (G5 m c) e.symm)
  rw [result]
  refine (pay1 ..).trans ?_
  unfold entry
  rw [blk4]
  refine (add_zero (M := EReal) _).trans (Finset.sum_congr rfl fun d _ => ?_)
  rw [blk0, blk1, blk2, blk3]
  congr 2
  · funext a; apply Fin.ext
    fin_cases a
    · show t.val % 4 = t.val % 4 / 2 * 2 + (t.val % 2 * 1408 + q.val) / 1408
      omega
    · rfl
    · show q.val = (t.val % 2 * 1408 + q.val) % 1408
      omega

/-- The run, with its result named. -/
theorem run (ρ : Dev nD → PrngReg) : θ_run defs (onTc (τ := τ) (main (F := Ideal))) ⟨m, fun _ => 0, ρ⟩ fun r => ∀ c : Dev nD,
      r.2.mem ((c : Thread nD τ).loc main_v1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final5 m c), (h c).2⟩) (run_blocks m ρ)

open Cert.Reference9Ideal.Read in
/-- The reference's product is the same. -/
theorem reference (x0 : Vec Ideal S16384x1024 .f32) (x1 x2 : Vec Ideal S1x1024 .f32) (x3 : Vec Ideal S4x1024x1408 .bf16)
    (h : Fin 2) (t : Fin 16384) (q : Fin 2816) : val_main_v12 (F := Ideal) x0 x1 x2 x3 (ix3 h t q) = entry x0 x1 x2 x3 h t q := by
  refine (val_main_v12_apply ..).trans (Eq.trans (b := val_main_v11 (F := Ideal) x0 x1 x2 x3 (ix3 h t q)) rfl ?_)
  rw [val_main_v11_apply, val_main_v10_apply, val_main_v9_apply]
  unfold entry
  refine Finset.sum_congr rfl fun d _ => congrArg₂ (fun a b : EReal => a * b) ?_ ?_
  · have e : lidx_main_v9 (idx_main_v10 (idx_main_v11 (ix3 h t q))) d = ix2 t d := by
      refine funext fun a => Fin.ext ?_
      fin_cases a
      · show ((t.val * 2 + h.val) * 2816 + q.val) / 5632 = t.val
        omega
      · rfl
    rw [e]
    pointwise [val_main_v5, val_main_v4, val_main_v3, val_main_v2, val_main_v1, val_main_v0, val_main_cst, modulated]
  · rw [val_main_v8_apply, val_main_v7_apply, val_main_v6_apply]
    refine congrArg x3 (funext fun a => Fin.ext ?_)
    fin_cases a
    · show (d.val * 5632 + ((t.val * 2 + h.val) * 2816 + q.val) % 5632) / 1408 % 4 = h.val * 2 + q.val / 1408
      omega
    · show (d.val * 5632 + ((t.val * 2 + h.val) * 2816 + q.val) % 5632) / 5632 = d.val
      omega
    · show (d.val * 5632 + ((t.val * 2 + h.val) * 2816 + q.val) % 5632) % 1408 = q.val % 1408
      omega

end Cert.Kernel9Ideal.Product

end
-- ==== Proof.InProj.lean ====
/-
  The projection into the branches: the call's blocks of tokens and of columns are the reference's one product.
-/
module

public import proofs.«01_k».proof.Proof.Tiles
public import proofs.«01_k».proof.Proof.Gen.Kernel10Ideal.Value
public import proofs.«01_k».proof.Proof.Gen.Reference10Ideal.Read
public import Idealize.ShloMosaic.Lib.Pipeline.ValueKit

@[expose] public section

set_option maxRecDepth 16384

noncomputable section

namespace Cert.Kernel10Ideal.Product

open Idealize.ShloMosaic Idealize.ShloMosaic.TcCoe Idealize.SL.Sem
open Cert.Kernel10Ideal Cert.Kernel10Ideal.Gen Cert.Kernel10Ideal.Value Cert.Tiles

/-- One point's block: the modulated input times the quarter of the weights, and the bias. -/
theorem pay1 (x : Vec Ideal S2048x1024 .f32) (scale shift : Vec Ideal S1x1024 .f32) (w : Vec Ideal S1x1024x896 .bf16) (b : Vec Ideal S1x896 .f32)
    (p : Fin 2048) (q : Fin 896) :
    k0_pay1 (F := Ideal) x scale shift w b (ix2 p q)
      = (∑ d : Fin 1024, modulated (x (ix2 p d)) (scale (ix2 0 d)) (shift (ix2 0 d)) * w (ix3 0 d q)) + b (ix2 0 q) := by
  pointwise [k0_pay1, modulated]

/-- An entry of the product. -/
def entry (x0 : Vec Ideal S16384x1024 .f32) (x1 x2 : Vec Ideal S1x1024 .f32) (x3 : Vec Ideal S4x1024x896 .bf16) (x4 : Vec Ideal S1x3584 .f32)
    (t : Fin 16384) (q : Fin 3584) : EReal :=
  (∑ d : Fin 1024, modulated (x0 (ix2 t d)) (x2 (ix2 0 d)) (x1 (ix2 0 d)) * x3 (ix3 ⟨q.val / 896, by omega⟩ d ⟨q.val % 896, by omega⟩)) + x4 (ix2 0 q)

variable (m : (ℓ : Loc nD τ sig) → Buf (Elt Ideal) ℓ) (c : Dev nD)

theorem idx : ∀ t : Fin cfg0.N, win0_0.index t = ![t.val / 4, 0] ∧ win0_1.index t = ![0, 0] ∧ win0_2.index t = ![0, 0]
    ∧ win0_3.index t = ![t.val % 4, 0, 0] ∧ win0_4.index t = ![0, t.val % 4] ∧ win0_5.index t = ![t.val / 4, t.val % 4] :=
  (by decide +kernel : ∀ t : Fin grid0.N, _)

theorem pt_lt (t : Fin cfg0.N) : t.val < 32 := lt_of_lt_of_eq t.2 (show cfg0.N = 32 from N_0)

theorem blk0 (t : Fin cfg0.N) (p : Fin 2048) (d : Fin 1024) :
    iblk m c 0 t (ix2 p d) = m ((c : Thread nD τ).loc main_arg0) (ix2 ⟨t.val / 4 * 2048 + p, by have := pt_lt t; omega⟩ d) := by
  have e : iblk m c 0 t (ix2 p d) = V m c main_arg0 ((win0_0.blk t).view.emb (ix2 p d)) := by
    unfold iblk; generalize V m c = X; unfold View.read; exact cast_eq _ _
  rw [e, V_main_arg0]
  congr 1
  refine funext fun d => Fin.ext ?_
  fin_cases d
  · blk_simp [(idx t).1]
    rfl
  · blk_simp [(idx t).1]
    rfl
theorem blk1 (t : Fin cfg0.N) (d : Fin 1024) : iblk m c 1 t (ix2 0 d) = m ((c : Thread nD τ).loc main_arg1) (ix2 0 d) := by
  have e : iblk m c 1 t (ix2 0 d) = V m c main_arg1 ((win0_1.blk t).view.emb (ix2 0 d)) := by
    unfold iblk; generalize V m c = X; unfold View.read; exact cast_eq _ _
  rw [e, V_main_arg1]
  congr 1
  refine funext fun d => Fin.ext ?_
  fin_cases d
  · blk_simp [(idx t).2.1]
  · blk_simp [(idx t).2.1]
theorem blk2 (t : Fin cfg0.N) (d : Fin 1024) : iblk m c 2 t (ix2 0 d) = m ((c : Thread nD τ).loc main_arg2) (ix2 0 d) := by
  have e : iblk m c 2 t (ix2 0 d) = V m c main_arg2 ((win0_2.blk t).view.emb (ix2 0 d)) := by
    unfold iblk; generalize V m c = X; unfold View.read; exact cast_eq _ _
  rw [e, V_main_arg2]
  congr 1
  refine funext fun d => Fin.ext ?_
  fin_cases d
  · blk_simp [(idx t).2.2.1]
  · blk_simp [(idx t).2.2.1]
theorem blk3 (t : Fin cfg0.N) (d : Fin 1024) (q : Fin 896) :
    iblk m c 3 t (ix3 0 d q) = m ((c : Thread nD τ).loc main_arg3) (ix3 ⟨t.val % 4, by omega⟩ d q) := by
  have e : iblk m c 3 t (ix3 0 d q) = V m c main_arg3 ((win0_3.blk t).view.emb (ix3 0 d q)) := by
    unfold iblk; generalize V m c = X; unfold View.read; exact cast_eq _ _
  rw [e, V_main_arg3]
  congr 1
  refine funext fun d => Fin.ext ?_
  fin_cases d
  · blk_simp [(idx t).2.2.2.1]
    rfl
  · blk_simp [(idx t).2.2.2.1]
    rfl
  · blk_simp [(idx t).2.2.2.1]
    rfl
theorem blk4 (t : Fin cfg0.N) (q : Fin 896) :
    iblk m c 4 t (ix2 0 q) = m ((c : Thread nD τ).loc main_arg4) (ix2 0 ⟨t.val % 4 * 896 + q, by omega⟩) := by
  have e : iblk m c 4 t (ix2 0 q) = V m c main_arg4 ((win0_4.blk t).view.emb (ix2 0 q)) := by
    unfold iblk; generalize V m c = X; unfold View.read; exact cast_eq _ _
  rw [e, V_main_arg4]
  congr 1
  refine funext fun d => Fin.ext ?_
  fin_cases d
  · blk_simp [(idx t).2.2.2.2.1]
    try rfl
  · blk_simp [(idx t).2.2.2.2.1]
    rfl

/-- The call's result. -/
def G5 : Buf (Elt Ideal) ((c : Thread nD τ).loc main_v0) := fun i =>
  entry (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

theorem result (t : Fin 16384) (q : Fin 3584) : (G5 m c (ix2 t q) : EReal)
    = entry (m ((c : Thread nD τ).loc main_arg0)) (m ((c : Thread nD τ).loc main_arg1)) (m ((c : Thread nD τ).loc main_arg2))
    (m ((c : Thread nD τ).loc main_arg3)) (m ((c : Thread nD τ).loc main_arg4)) t q := rfl

/-- Every block that the call writes is its part of the product. -/
theorem final5 : (dats m 0 c).arrAt 5 cfg0.N = G5 m c := by
  refine (dats m 0 c).arrAt_eq_of_covers 5 _ (by decide +kernel) fun t hf y => ?_
  blk_simp
  rw [after0_5]
  frame_out
  obtain ⟨p, q, rfl⟩ : ∃ (p : Fin 2048) (q : Fin 896), y = ix2 p q := ⟨y 0, y 1, eq_ix2 y⟩
  have e : (win0_5.blk t).view.emb (ix2 p q) = ix2 ⟨t.val / 4 * 2048 + p, by have := pt_lt t; omega⟩ ⟨t.val % 4 * 896 + q, by omega⟩ := by
    refine funext fun d => Fin.ext ?_
    fin_cases d
    · blk_simp [(idx t).2.2.2.2.2]
      rfl
    · blk_simp [(idx t).2.2.2.2.2]
      rfl
  refine Eq.trans ?_ (congrArg (G5 m c) e.symm)
  rw [result]
  refine (pay1 ..).trans ?_
  unfold entry
  rw [blk4]
  congr 1
  refine Finset.sum_congr rfl fun d _ => ?_
  rw [blk0, blk1, blk2, blk3]
  congr 2
  · funext a; apply Fin.ext
    fin_cases a
    · show t.val % 4 = (t.val % 4 * 896 + q.val) / 896
      omega
    · rfl
    · show q.val = (t.val % 4 * 896 + q.val) % 896
      omega

/-- The run, with its result named. -/
theorem run (ρ : Dev nD → PrngReg) : θ_run defs (onTc (τ := τ) (main (F := Ideal))) ⟨m, fun _ => 0, ρ⟩ fun r => ∀ c : Dev nD,
      r.2.mem ((c : Thread nD τ).loc main_v0) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩) (run_blocks m ρ)

open Cert.Reference10Ideal.Read in
/-- The reference's product is the same. -/
theorem reference (x0 : Vec Ideal S16384x1024 .f32) (x1 x2 : Vec Ideal S1x1024 .f32) (x3 : Vec Ideal S4x1024x896 .bf16) (x4 : Vec Ideal S1x3584 .f32)
    (t : Fin 16384) (q : Fin 3584) : val_main_v11 (F := Ideal) x0 x1 x2 x3 x4 (ix2 t q) = entry x0 x1 x2 x3 x4 t q := by
  rw [val_main_v11_apply, val_main_v9_apply, val_main_v10_apply]
  unfold entry
  refine congrArg₂ (fun a b : EReal => a + b) (Finset.sum_congr rfl fun d _ => congrArg₂ (fun a b : EReal => a * b) ?_ ?_) ?_
  · have e : lidx_main_v9 (ix2 t q) d = ix2 t d := by
      refine funext fun a => Fin.ext ?_
      fin_cases a <;> rfl
    rw [e]
    pointwise [val_main_v5, val_main_v4, val_main_v3, val_main_v2, val_main_v1, val_main_v0, val_main_cst, modulated]
  · rw [val_main_v8_apply, val_main_v7_apply, val_main_v6_apply]
    refine congrArg x3 (funext fun a => Fin.ext ?_)
    fin_cases a
    · show (d.val * 3584 + q.val) / 896 % 4 = q.val / 896
      omega
    · show (d.val * 3584 + q.val) / 3584 = d.val
      omega
    · show (d.val * 3584 + q.val) % 896 = q.val % 896
      omega
  · refine congrArg x4 (funext fun a => Fin.ext ?_)
    fin_cases a <;> rfl

end Cert.Kernel10Ideal.Product

end
-- ==== Proof.InProjBwd.lean ====
/-
  The gradients of the projection's input, of its scale and of its shift: the call's sums over four quarters of the columns
  and, for the scale and the shift, over sixteen tiles of tokens are the reference's sums over all columns and all tokens.
-/
module

public import proofs.«01_k».proof.Proof.Tiles
public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack

@[expose] public section

set_option maxRecDepth 16384

noncomputable section

namespace Cert.Kernel6Ideal.Product

open Idealize.ShloMosaic Idealize.ShloMosaic.TcCoe Idealize.SL.Sem
open Cert.Kernel6Ideal Cert.Kernel6Ideal.Gen Cert.Kernel6Ideal.Value Cert.Tiles

theorem pay1 (q : Fin 1024) : k0_pay1 (F := Ideal) (ix2 0 q) = 0 := by
  pointwise [k0_pay1]
theorem pay2 (q : Fin 1024) : k0_pay2 (F := Ideal) (ix2 0 q) = 0 := by
  pointwise [k0_pay2]
theorem pay3 (p r : Fin 1024) : k0_pay3 (F := Ideal) (ix2 p r) = 0 := by
  pointwise [k0_pay3]
/-- One point adds its quarter's product. -/
theorem pay4 (acc : Vec Ideal S1024x1024 .f32) (g : Vec Ideal S1024x896 .bf16) (w : Vec Ideal S1x1024x896 .bf16) (p r : Fin 1024) :
    k0_pay4 (F := Ideal) acc g w (ix2 p r) = acc (ix2 p r) + ∑ y : Fin 896, g (ix2 p y) * w (ix3 0 r y) := by
  pointwise [k0_pay4]
theorem pay5 (h : Vec Ideal S1024x1024 .f32) (acc : Vec Ideal S1x1024 .f32) (x : Vec Ideal S1024x1024 .f32) (r : Fin 1024) :
    k0_pay5 (F := Ideal) h acc x (ix2 0 r) = acc (ix2 0 r) + ∑ p : Fin 1024, h (ix2 p r) * x (ix2 p r) := by
  pointwise [k0_pay5]
theorem pay6 (h : Vec Ideal S1024x1024 .f32) (acc : Vec Ideal S1x1024 .f32) (r : Fin 1024) :
    k0_pay6 (F := Ideal) h acc (ix2 0 r) = acc (ix2 0 r) + ∑ p : Fin 1024, h (ix2 p r) := by
  pointwise [k0_pay6]
theorem pay7 (h dx : Vec Ideal S1024x1024 .f32) (scale : Vec Ideal S1x1024 .f32) (p r : Fin 1024) :
    k0_pay7 (F := Ideal) h dx scale (ix2 p r) = dx (ix2 p r) + h (ix2 p r) * (1 + scale (ix2 0 r)) := by
  pointwise [k0_pay7]

/-- One column's share of an entry of the modulated input's gradient. -/
def share (x0 : Vec Ideal S16384x3584 .bf16) (x1 : Vec Ideal S4x1024x896 .bf16) (t : Fin 16384) (r : Fin 1024) (q : Fin 3584) : EReal :=
  x0 (ix2 t q) * x1 (ix3 ⟨q.val / 896, by omega⟩ r ⟨q.val % 896, by omega⟩)

/-- An entry of the modulated input's gradient. -/
def inner (x0 : Vec Ideal S16384x3584 .bf16) (x1 : Vec Ideal S4x1024x896 .bf16) (t : Fin 16384) (r : Fin 1024) : EReal :=
  ∑ q : Fin 3584, share x0 x1 t r q

/-- An entry of the input's gradient. -/
def entry (x0 : Vec Ideal S16384x3584 .bf16) (x1 : Vec Ideal S4x1024x896 .bf16) (x2 : Vec Ideal S16384x1024 .f32) (x4 : Vec Ideal S1x1024 .f32)
    (t : Fin 16384) (r : Fin 1024) : EReal :=
  x2 (ix2 t r) + inner x0 x1 t r * (1 + x4 (ix2 0 r))

/-- One token's share of an entry of the scale's gradient. -/
def scaled (x0 : Vec Ideal S16384x3584 .bf16) (x1 : Vec Ideal S4x1024x896 .bf16) (x3 : Vec Ideal S16384x1024 .f32) (r : Fin 1024) (t : Fin 16384) : EReal :=
  inner x0 x1 t r * x3 (ix2 t r)

variable (m : (ℓ : Loc nD τ sig) → Buf (Elt Ideal) ℓ) (c : Dev nD)

theorem idx : ∀ t : Fin cfg0.N, win0_0.index t = ![t.val / 4, t.val % 4] ∧ win0_1.index t = ![t.val % 4, 0, 0]
    ∧ win0_2.index t = ![t.val / 4, 0] ∧ win0_3.index t = ![t.val / 4, 0] ∧ win0_4.index t = ![0, 0] :=
  (by decide +kernel : ∀ t : Fin grid0.N, _)

theorem pt_lt (t : Fin cfg0.N) : t.val < 64 := lt_of_lt_of_eq t.2 (show cfg0.N = 64 from N_0)

/-- The token of a row of a point's tile. -/
abbrev row (n : ℕ) (p : Fin 1024) : Fin 16384 := ⟨(n / 4 * 1024 + p) % 16384, Nat.mod_lt _ (by decide)⟩

theorem blk0 (t : Fin cfg0.N) (p : Fin 1024) (y : Fin 896) :
    iblk m c 0 t (ix2 p y) = m ((c : Thread nD τ).loc main_arg0) (ix2 (row t.val p) ⟨t.val % 4 * 896 + y, by omega⟩) := by
  have ht := pt_lt t
  have e : iblk m c 0 t (ix2 p y) = V m c main_arg0 ((win0_0.blk t).view.emb (ix2 p y)) := by
    unfold iblk; generalize V m c = X; unfold View.read; exact cast_eq _ _
  rw [e, V_main_arg0]
  congr 1
  refine funext fun d => Fin.ext ?_
  fin_cases d
  · blk_simp [(idx t).1]
    show t.val / 4 * 1024 + p.val = (t.val / 4 * 1024 + p.val) % 16384
    omega
  · blk_simp [(idx t).1]
    rfl
theorem blk1 (t : Fin cfg0.N) (r : Fin 1024) (y : Fin 896) :
    iblk m c 1 t (ix3 0 r y) = m ((c : Thread nD τ).loc main_arg1) (ix3 ⟨t.val % 4, by omega⟩ r y) := by
  have e : iblk m c 1 t (ix3 0 r y) = V m c main_arg1 ((win0_1.blk t).view.emb (ix3 0 r y)) := by
    unfold iblk; generalize V m c = X; unfold View.read; exact cast_eq _ _
  rw [e, V_main_arg1]
  congr 1
  refine funext fun d => Fin.ext ?_
  fin_cases d
  · blk_simp [(idx t).2.1]
    rfl
  · blk_simp [(idx t).2.1]
    rfl
  · blk_simp [(idx t).2.1]
    rfl
theorem blk2 (t : Fin cfg0.N) (p r : Fin 1024) : iblk m c 2 t (ix2 p r) = m ((c : Thread nD τ).loc main_arg2) (ix2 (row t.val p) r) := by
  have ht := pt_lt t
  have e : iblk m c 2 t (ix2 p r) = V m c main_arg2 ((win0_2.blk t).view.emb (ix2 p r)) := by
    unfold iblk; generalize V m c = X; unfold View.read; exact cast_eq _ _
  rw [e, V_main_arg2]
  congr 1
  refine funext fun d => Fin.ext ?_
  fin_cases d
  · blk_simp [(idx t).2.2.1]
    show t.val / 4 * 1024 + p.val = (t.val / 4 * 1024 + p.val) % 16384
    omega
  · blk_simp [(idx t).2.2.1]
    rfl
theorem blk3 (t : Fin cfg0.N) (p r : Fin 1024) : iblk m c 3 t (ix2 p r) = m ((c : Thread nD τ).loc main_arg3) (ix2 (row t.val p) r) := by
  have ht := pt_lt t
  have e : iblk m c 3 t (ix2 p r) = V m c main_arg3 ((win0_3.blk t).view.emb (ix2 p r)) := by
    unfold iblk; generalize V m c = X; unfold View.read; exact cast_eq _ _
  rw [e, V_main_arg3]
  congr 1
  refine funext fun d => Fin.ext ?_
  fin_cases d
  · blk_simp [(idx t).2.2.2.1]
    show t.val / 4 * 1024 + p.val = (t.val / 4 * 1024 + p.val) % 16384
    omega
  · blk_simp [(idx t).2.2.2.1]
    rfl
theorem blk4 (t : Fin cfg0.N) (r : Fin 1024) : iblk m c 4 t (ix2 0 r) = m ((c : Thread nD τ).loc main_arg4) (ix2 0 r) := by
  have e : iblk m c 4 t (ix2 0 r) = V m c main_arg4 ((win0_4.blk t).view.emb (ix2 0 r)) := by
    unfold iblk; generalize V m c = X; unfold View.read; exact cast_eq _ _
  rw [e, V_main_arg4]
  congr 1
  refine funext fun d => Fin.ext ?_
  fin_cases d
  · blk_simp [(idx t).2.2.2.2]
  · blk_simp [(idx t).2.2.2.2]

/-- The call's arguments. -/
abbrev a0 : Vec Ideal S16384x3584 .bf16 := m ((c : Thread nD τ).loc main_arg0)
abbrev a1 : Vec Ideal S4x1024x896 .bf16 := m ((c : Thread nD τ).loc main_arg1)
abbrev a2 : Vec Ideal S16384x1024 .f32 := m ((c : Thread nD τ).loc main_arg2)
abbrev a3 : Vec Ideal S16384x1024 .f32 := m ((c : Thread nD τ).loc main_arg3)
abbrev a4 : Vec Ideal S1x1024 .f32 := m ((c : Thread nD τ).loc main_arg4)

/-- A point's part of the modulated input's gradient. -/
def part (n : ℕ) (i : S1024x1024.Idx) : EReal :=
  ∑ y : Fin 896, beyond (share (a0 m c) (a1 m c) (row n (i 0)) (i 1)) (n % 4 * 896 + y)

theorem part_eq (t : Fin cfg0.N) (acc : Vec Ideal S1024x1024 .f32) (i : S1024x1024.Idx) :
    k0_pay4 (F := Ideal) acc (iblk m c 0 t) (iblk m c 1 t) i = acc i + part m c t.val i := by
  obtain ⟨p, r, rfl⟩ : ∃ p r, i = ix2 p r := ⟨i 0, i 1, eq_ix2 i⟩
  rw [pay4]
  unfold part
  congr 1
  refine Finset.sum_congr rfl fun y _ => ?_
  rw [blk0, blk1, beyond_of_lt _ (show t.val % 4 * 896 + y.val < 3584 by omega)]
  unfold share a0 a1
  congr 2
  funext d; apply Fin.ext
  fin_cases d
  · show t.val % 4 = (t.val % 4 * 896 + y.val) / 896
    omega
  · rfl
  · show y.val = (t.val % 4 * 896 + y.val) % 896
    omega

theorem carried_first (t : Fin cfg0.N) (h : t.val % 4 = 0) (i : S1024x1024.Idx) :
    ((outsAt0 m c t.val t.isLt).2.2.2 i : EReal) = 0 + part m c t.val i := by
  have hz : k0_pay3 (F := Ideal) i = 0 := by
    obtain ⟨p, r, rfl⟩ : ∃ p r, i = ix2 p r := ⟨i 0, i 1, eq_ix2 i⟩
    exact pay3 p r
  by_cases h0 : t.val % 64 = 0
  · rw [outsAt0_A m c t h0 h (by omega)]
    frame_out
    rw [part_eq, hz]
  · rw [outsAt0_D m c t h0 h (by omega)]
    frame_out
    rw [part_eq, hz]

theorem carried_next (t : Fin cfg0.N) (h : ¬t.val % 4 = 0) (i : S1024x1024.Idx) :
    ((outsAt0 m c t.val t.isLt).2.2.2 i : EReal)
      = (outsAt0 m c (t.val - 1) (Nat.lt_of_le_of_lt (Nat.sub_le _ _) t.isLt)).2.2.2 i + part m c t.val i := by
  by_cases h2 : t.val % 4 = 3
  · rw [outsAt0_C m c t (by omega) h h2]
    frame_out
    rw [part_eq, read_unread_whole]
  · rw [outsAt0_B m c t (by omega) h h2]
    frame_out
    rw [part_eq, read_unread_whole]

/-- After the last quarter the scratch holds the modulated input's gradient of the tile. -/
theorem carried (t : Fin cfg0.N) (h : t.val % 4 = 3) (p r : Fin 1024) :
    ((outsAt0 m c t.val t.isLt).2.2.2 (ix2 p r) : EReal) = inner (a0 m c) (a1 m c) (row t.val p) r := by
  refine (Pipeline.eq_sum_of_reset_step_apply_of_mod (M := EReal) (fun n h => (outsAt0 m c n h).2.2.2) 4 (fun _ => 0) (part m c)
    (carried_first m c) (carried_next m c) t h (ix2 p r)).trans ?_
  rw [zero_add]
  unfold inner
  rw [← sum_tiles 4 896 3584 rfl]
  refine Finset.sum_congr rfl fun k hk => ?_
  have hk := Finset.mem_range.1 hk
  unfold part row
  simp only [show (4 * (t.val / 4) + k) % 4 = k by omega, show (4 * (t.val / 4) + k) / 4 = t.val / 4 by omega]
  rfl

/-- What a point stores in the scratch is what the scratch holds after it. -/
theorem carried_pay (t : Fin cfg0.N) (h0 : ¬t.val % 64 = 0) (h1 : ¬t.val % 4 = 0) (h2 : t.val % 4 = 3) :
    k0_pay4 (F := Ideal) (outsAt0 m c (t.val - 1) (Nat.lt_of_le_of_lt (Nat.sub_le _ _) t.isLt)).2.2.2 (iblk m c 0 t) (iblk m c 1 t)
      = (outsAt0 m c t.val t.isLt).2.2.2 := by
  rw [outsAt0_C m c t h0 h1 h2]
  frame_out
  rw [read_unread_whole]

/-- What the last point of a tile writes back. -/
theorem written (t : Fin cfg0.N) (h : t.val % 4 = 3) (p r : Fin 1024) :
    ((outsAt0 m c t.val t.isLt).1 (ix2 p r) : EReal) = entry (a0 m c) (a1 m c) (a2 m c) (a4 m c) (row t.val p) r := by
  have e := carried_pay m c t (by omega) (by omega) h
  have f := carried m c t h p r
  rw [← e] at f
  rw [outsAt0_C m c t (by omega) (by omega) h]
  frame_out
  simp only [read_unread_whole]
  rw [pay7, f, blk2, blk4]
  rfl

/-- A tile's part of the scale's gradient, at the point that ends the tile. -/
def partScale (n : ℕ) (i : S1x1024.Idx) : EReal :=
  if n % 4 = 3 then ∑ p : Fin 1024, scaled (a0 m c) (a1 m c) (a3 m c) (i 1) (row n p) else 0
def partShift (n : ℕ) (i : S1x1024.Idx) : EReal :=
  if n % 4 = 3 then ∑ p : Fin 1024, inner (a0 m c) (a1 m c) (row n p) (i 1) else 0

theorem scale_first (t : Fin cfg0.N) (h : t.val % 64 = 0) (i : S1x1024.Idx) :
    ((outsAt0 m c t.val t.isLt).2.1 i : EReal) = 0 + partScale m c t.val i := by
  obtain ⟨z, r, rfl⟩ : ∃ (z : Fin 1) (r : Fin 1024), i = ix2 z r := ⟨i 0, i 1, eq_ix2 i⟩
  obtain rfl : z = 0 := Subsingleton.elim _ _
  rw [outsAt0_A m c t h (by omega) (by omega)]
  frame_out
  rw [pay1]
  unfold partScale
  rw [if_neg (by omega), add_zero]
theorem shift_first (t : Fin cfg0.N) (h : t.val % 64 = 0) (i : S1x1024.Idx) :
    ((outsAt0 m c t.val t.isLt).2.2.1 i : EReal) = 0 + partShift m c t.val i := by
  obtain ⟨z, r, rfl⟩ : ∃ (z : Fin 1) (r : Fin 1024), i = ix2 z r := ⟨i 0, i 1, eq_ix2 i⟩
  obtain rfl : z = 0 := Subsingleton.elim _ _
  rw [outsAt0_A m c t h (by omega) (by omega)]
  frame_out
  rw [pay2]
  unfold partShift
  rw [if_neg (by omega), add_zero]

theorem scale_next (t : Fin cfg0.N) (h : ¬t.val % 64 = 0) (i : S1x1024.Idx) :
    ((outsAt0 m c t.val t.isLt).2.1 i : EReal)
      = (outsAt0 m c (t.val - 1) (Nat.lt_of_le_of_lt (Nat.sub_le _ _) t.isLt)).2.1 i + partScale m c t.val i := by
  obtain ⟨z, r, rfl⟩ : ∃ (z : Fin 1) (r : Fin 1024), i = ix2 z r := ⟨i 0, i 1, eq_ix2 i⟩
  obtain rfl : z = 0 := Subsingleton.elim _ _
  unfold partScale
  by_cases h2 : t.val % 4 = 3
  · have e := carried_pay m c t h (by omega) h2
    have f := fun p => carried m c t h2 p r
    rw [← e] at f
    rw [if_pos h2, outsAt0_C m c t h (by omega) h2]
    frame_out
    simp only [read_unread_whole]
    rw [pay5]
    congr 1
    refine Finset.sum_congr rfl fun p _ => ?_
    rw [f, blk3]
    rfl
  · rw [if_neg h2, add_zero]
    by_cases h1 : t.val % 4 = 0
    · rw [outsAt0_D m c t h h1 h2]
      rfl
    · rw [outsAt0_B m c t h h1 h2]
      rfl
theorem shift_next (t : Fin cfg0.N) (h : ¬t.val % 64 = 0) (i : S1x1024.Idx) :
    ((outsAt0 m c t.val t.isLt).2.2.1 i : EReal)
      = (outsAt0 m c (t.val - 1) (Nat.lt_of_le_of_lt (Nat.sub_le _ _) t.isLt)).2.2.1 i + partShift m c t.val i := by
  obtain ⟨z, r, rfl⟩ : ∃ (z : Fin 1) (r : Fin 1024), i = ix2 z r := ⟨i 0, i 1, eq_ix2 i⟩
  obtain rfl : z = 0 := Subsingleton.elim _ _
  unfold partShift
  by_cases h2 : t.val % 4 = 3
  · have e := carried_pay m c t h (by omega) h2
    have f := fun p => carried m c t h2 p r
    rw [← e] at f
    rw [if_pos h2, outsAt0_C m c t h (by omega) h2]
    frame_out
    simp only [read_unread_whole]
    rw [pay6]
    congr 1
    exact Finset.sum_congr rfl fun p _ => f p
  · rw [if_neg h2, add_zero]
    by_cases h1 : t.val % 4 = 0
    · rw [outsAt0_D m c t h h1 h2]
      rfl
    · rw [outsAt0_B m c t h h1 h2]
      rfl

/-- A sum over points of which every fourth counts. -/
theorem sum_fourths (g : ℕ → EReal) (a : ℕ) :
    (∑ n ∈ Finset.range (4 * a), if n % 4 = 3 then g n else 0) = ∑ k ∈ Finset.range a, g (4 * k + 3) := by
  induction a with
  | zero => simp
  | succ a ih =>
    rw [show 4 * (a + 1) = 4 * a + 1 + 1 + 1 + 1 by ring, Finset.sum_range_succ, Finset.sum_range_succ, Finset.sum_range_succ,
      Finset.sum_range_succ, ih, Finset.sum_range_succ, if_neg (by omega), if_neg (by omega), if_neg (by omega), if_pos (by omega)]
    simp only [add_zero]

/-- The sixteen tiles' parts are the sum over all tokens. -/
theorem sum_rows (f : Fin 16384 → EReal) :
    (∑ n ∈ Finset.range 64, if n % 4 = 3 then ∑ p : Fin 1024, f (row n p) else 0) = ∑ t : Fin 16384, f t := by
  rw [sum_fourths (fun n => ∑ p : Fin 1024, f (row n p)) 16, ← sum_tiles 16 1024 16384 rfl f]
  refine Finset.sum_congr rfl fun k hk => Finset.sum_congr rfl fun p _ => ?_
  have hk := Finset.mem_range.1 hk
  rw [beyond_of_lt f (show k * 1024 + p.val < 16384 by omega)]
  congr 1
  apply Fin.ext
  show ((4 * k + 3) / 4 * 1024 + p.val) % 16384 = k * 1024 + p.val
  omega

/-- The call's gradient of the input, at an entry. -/
theorem result_x (t : Fin 16384) (r : Fin 1024) : (G5 m c (ix2 t r) : EReal) = entry (a0 m c) (a1 m c) (a2 m c) (a4 m c) t r := by
  have h0 : pt5Of (ix2 t r) = 4 * (t.val / 1024) + 3 := by
    show 4 * (1 * (t.val / 1024 - 0) + 1 * (r.val / 1024 - 0)) + 3 = _
    omega
  have hN : pt5Of (ix2 t r) < cfg0.N := by
    rw [show cfg0.N = 64 from N_0, h0]
    omega
  have hl : loc5Of (ix2 t r) = ix2 ⟨t.val % 1024, by omega⟩ r := by
    funext a; apply Fin.ext
    match a with
    | ⟨0, _⟩ => rfl
    | ⟨1, _⟩ => exact Nat.mod_eq_of_lt r.2
  unfold G5
  rw [dif_pos hN, hl, ← outsAt0_sweep m c _ hN]
  refine (written m c ⟨pt5Of (ix2 t r), hN⟩ (by show pt5Of (ix2 t r) % 4 = 3; omega) _ r).trans ?_
  congr 1
  apply Fin.ext
  show (pt5Of (ix2 t r) / 4 * 1024 + t.val % 1024) % 16384 = t.val
  omega

theorem scale_last (t : Fin cfg0.N) (h : t.val = 63) (r : Fin 1024) :
    ((outsAt0 m c t.val t.isLt).2.1 (ix2 0 r) : EReal) = ∑ q : Fin 16384, scaled (a0 m c) (a1 m c) (a3 m c) r q := by
  rw [Pipeline.eq_sum_of_reset_step_apply_of_mod (M := EReal) (fun n h => (outsAt0 m c n h).2.1) 64 (fun _ => 0) (partScale m c)
    (scale_first m c) (scale_next m c) t (r := 63) (by omega) (ix2 0 r), zero_add, ← sum_rows]
  refine Finset.sum_congr rfl fun n _ => ?_
  rw [show 64 * (t.val / 64) + n = n by omega]
  rfl

theorem shift_last (t : Fin cfg0.N) (h : t.val = 63) (r : Fin 1024) :
    ((outsAt0 m c t.val t.isLt).2.2.1 (ix2 0 r) : EReal) = ∑ q : Fin 16384, inner (a0 m c) (a1 m c) q r := by
  rw [Pipeline.eq_sum_of_reset_step_apply_of_mod (M := EReal) (fun n h => (outsAt0 m c n h).2.2.1) 64 (fun _ => 0) (partShift m c)
    (shift_first m c) (shift_next m c) t (r := 63) (by omega) (ix2 0 r), zero_add, ← sum_rows]
  refine Finset.sum_congr rfl fun n _ => ?_
  rw [show 64 * (t.val / 64) + n = n by omega]
  rfl

theorem last_lt : 63 < cfg0.N := lt_of_lt_of_eq (by decide) N_0.symm

/-- The call's gradient of the scale, at an entry. -/
theorem result_scale (p : Fin 1) (r : Fin 1024) : (G6 m c (ix2 p r) : EReal) = ∑ t : Fin 16384, scaled (a0 m c) (a1 m c) (a3 m c) r t := by
  obtain rfl : p = 0 := Subsingleton.elim _ _
  have h0 : pt6Of (ix2 0 r) = 63 := by
    show 64 * (1 * (0 / 1 - 0) + 1 * (r.val / 1024 - 0)) + 63 = _
    omega
  have hN : pt6Of (ix2 0 r) < cfg0.N := by rw [h0]; exact last_lt
  have hl : loc6Of (ix2 0 r) = ix2 0 r := by
    funext a; apply Fin.ext
    match a with
    | ⟨0, _⟩ => rfl
    | ⟨1, _⟩ => exact Nat.mod_eq_of_lt r.2
  unfold G6
  rw [dif_pos hN, hl, ← outsAt0_sweep m c _ hN]
  exact scale_last m c ⟨pt6Of (ix2 0 r), hN⟩ h0 r

/-- The call's gradient of the shift, at an entry. -/
theorem result_shift (p : Fin 1) (r : Fin 1024) : (G7 m c (ix2 p r) : EReal) = ∑ t : Fin 16384, inner (a0 m c) (a1 m c) t r := by
  obtain rfl : p = 0 := Subsingleton.elim _ _
  have h0 : pt7Of (ix2 0 r) = 63 := by
    show 64 * (1 * (0 / 1 - 0) + 1 * (r.val / 1024 - 0)) + 63 = _
    omega
  have hN : pt7Of (ix2 0 r) < cfg0.N := by rw [h0]; exact last_lt
  have hl : loc7Of (ix2 0 r) = ix2 0 r := by
    funext a; apply Fin.ext
    match a with
    | ⟨0, _⟩ => rfl
    | ⟨1, _⟩ => exact Nat.mod_eq_of_lt r.2
  unfold G7
  rw [dif_pos hN, hl, ← outsAt0_sweep m c _ hN]
  exact shift_last m c ⟨pt7Of (ix2 0 r), hN⟩ h0 r

section Reference
open Cert.Reference6Ideal.Read

theorem reference_inner (x0 : Vec Ideal S16384x3584 .bf16) (x1 : Vec Ideal S4x1024x896 .bf16) (t : Fin 16384) (r : Fin 1024) :
    val_main_v12 (F := Ideal) x0 x1 (ix2 t r) = inner x0 x1 t r := by
  rw [val_main_v12_apply]
  unfold inner share
  refine Finset.sum_congr rfl fun q _ => congrArg₂ (fun a b : EReal => a * b) ?_ ?_
  · rw [val_main_v11_apply]
    refine congrArg x0 (funext fun a => Fin.ext ?_)
    fin_cases a <;> rfl
  · rw [val_main_v9_apply, val_main_v8_apply, val_main_v7_apply]
    refine congrArg x1 (funext fun a => Fin.ext ?_)
    fin_cases a
    · show (r.val * 3584 + q.val) / 896 % 4 = q.val / 896
      omega
    · show (r.val * 3584 + q.val) / 3584 = r.val
      omega
    · show (r.val * 3584 + q.val) % 896 = q.val % 896
      omega

/-- The reference's gradient of the input is the same. -/
theorem reference_x (x0 : Vec Ideal S16384x3584 .bf16) (x1 : Vec Ideal S4x1024x896 .bf16) (x2 : Vec Ideal S16384x1024 .f32) (x4 : Vec Ideal S1x1024 .f32)
    (t : Fin 16384) (r : Fin 1024) : val_main_v20 (F := Ideal) x0 x1 x2 x4 (ix2 t r) = entry x0 x1 x2 x4 t r := by
  unfold entry
  rw [← reference_inner]
  unfold val_main_v20 val_main_v19
  generalize val_main_v12 (F := Ideal) x0 x1 = y
  pointwise [val_main_v18, val_main_v2, val_main_v1, val_main_cst_0]

/-- The reference's gradient of the scale is the same sum. -/
theorem reference_scale (x0 : Vec Ideal S16384x3584 .bf16) (x1 : Vec Ideal S4x1024x896 .bf16) (x3 : Vec Ideal S16384x1024 .f32)
    (p : Fin 1) (r : Fin 1024) : val_main_v17 (F := Ideal) x0 x1 x3 (ix2 p r) = ∑ t : Fin 16384, scaled x0 x1 x3 r t := by
  obtain rfl : p = 0 := Subsingleton.elim _ _
  have e : val_main_v17 (F := Ideal) x0 x1 x3 (ix2 0 r) = ∑ t : Fin 16384, x3 (ix2 t r) * val_main_v12 (F := Ideal) x0 x1 (ix2 t r) := by
    unfold val_main_v17 val_main_v16 val_main_v15
    generalize val_main_v12 (F := Ideal) x0 x1 = y
    pointwise [val_main_cst_2]
  rw [e]
  refine Finset.sum_congr rfl fun t _ => ?_
  rw [reference_inner]
  exact mul_comm (G := EReal) _ _

/-- The reference's gradient of the shift is the same sum. -/
theorem reference_shift (x0 : Vec Ideal S16384x3584 .bf16) (x1 : Vec Ideal S4x1024x896 .bf16) (p : Fin 1) (r : Fin 1024) :
    val_main_v14 (F := Ideal) x0 x1 (ix2 p r) = ∑ t : Fin 16384, inner x0 x1 t r := by
  obtain rfl : p = 0 := Subsingleton.elim _ _
  have e : val_main_v14 (F := Ideal) x0 x1 (ix2 0 r) = ∑ t : Fin 16384, val_main_v12 (F := Ideal) x0 x1 (ix2 t r) := by
    unfold val_main_v14 val_main_v13
    generalize val_main_v12 (F := Ideal) x0 x1 = y
    pointwise [val_main_cst_1]
  rw [e]
  exact Finset.sum_congr rfl fun t _ => reference_inner x0 x1 t r

end Reference

end Cert.Kernel6Ideal.Product

end
-- ==== Proof.UpBwd.lean ====
/-
  The gradients that the ConvFFN's first product gives back: of its scale and shift, and of the gain and the bias of the layer
  norm before it. The call's sums over four quarters of the columns and over thirty-two tiles of tokens are the reference's
  sums over all columns and all tokens. What the forward pass saved of the layer norm is the reference's.
-/
module

public import proofs.«01_k».proof.Proof.Tiles
public import proofs.«01_k».proof.Proof.Gen.Kernel11Ideal.Value
public import proofs.«01_k».proof.Proof.Gen.Reference11Ideal.Read
public import Idealize.ShloMosaic.Lib.Pipeline.ValueKit
public import Idealize.ShloMosaic.Lib.Pipeline.ReadBack

@[expose] public section

set_option maxRecDepth 16384

noncomputable section

namespace Cert.Kernel11Ideal.Product

open Idealize.ShloMosaic Idealize.ShloMosaic.TcCoe Idealize.SL.Sem
open Cert.Kernel11Ideal Cert.Kernel11Ideal.Gen Cert.Kernel11Ideal.Value Cert.Tiles
open Cert.Reference11Ideal.Read (val_main_v8 val_main_v12 val_main_v24 val_main_v26 val_main_v30)

theorem pay1 (q : Fin 1024) : k0_pay1 (F := Ideal) (ix2 0 q) = 0 := by
  pointwise [k0_pay1]
theorem pay2 (q : Fin 1024) : k0_pay2 (F := Ideal) (ix2 0 q) = 0 := by
  pointwise [k0_pay2]
theorem pay3 (q : Fin 1024) : k0_pay3 (F := Ideal) (ix2 0 q) = 0 := by
  pointwise [k0_pay3]
theorem pay4 (q : Fin 1024) : k0_pay4 (F := Ideal) (ix2 0 q) = 0 := by
  pointwise [k0_pay4]
theorem pay6 (p : Fin 512) (r : Fin 1024) : k0_pay6 (F := Ideal) (ix2 p r) = 0 := by
  pointwise [k0_pay6]
/-- One point adds its quarter's product. -/
theorem pay7 (acc : Vec Ideal S512x1024 .f32) (g : Vec Ideal S1x512x1408 .bf16) (w : Vec Ideal S1x1024x1408 .bf16) (p : Fin 512) (r : Fin 1024) :
    k0_pay7 (F := Ideal) acc g w (ix2 p r) = acc (ix2 p r) + ∑ y : Fin 1408, g (ix3 0 p y) * w (ix3 0 r y) := by
  pointwise [k0_pay7]
theorem pay12 (h x : Vec Ideal S512x1024 .f32) (acc : Vec Ideal S1x1024 .f32) (r : Fin 1024) :
    k0_pay12 (F := Ideal) h x acc (ix2 0 r) = acc (ix2 0 r) + ∑ p : Fin 512, h (ix2 p r) * x (ix2 p r) := by
  pointwise [k0_pay12]
theorem pay13 (h : Vec Ideal S512x1024 .f32) (acc : Vec Ideal S1x1024 .f32) (r : Fin 1024) :
    k0_pay13 (F := Ideal) h acc (ix2 0 r) = acc (ix2 0 r) + ∑ p : Fin 512, h (ix2 p r) := by
  pointwise [k0_pay13]
theorem pay14 (h d : Vec Ideal S512x1024 .f32) (s : Vec Ideal S1x1024 .f32) (p : Fin 512) (r : Fin 1024) :
    k0_pay14 (F := Ideal) h d s (ix2 p r) = d (ix2 p r) + h (ix2 p r) * (1 + s (ix2 0 r)) := by
  pointwise [k0_pay14]

/-- The weight of the residual path. -/
def alpha : EReal := FloatOps.ofBits (F := Ideal) .f32 0x3F9837F0#32

theorem pay15 (y x : Vec Ideal S512x1024 .f32) (g : Vec Ideal S1x1024 .f32) (p : Fin 512) (r : Fin 1024) :
    k0_pay15 (F := Ideal) y x g (ix2 p r) = alpha * x (ix2 p r) + g (ix2 0 r) * y (ix2 p r) := by
  unfold alpha
  pointwise [k0_pay15]
theorem pay16 (z : Vec Ideal S512x1024 .f32) (mu s : Vec Ideal S512x1 .f32) (p : Fin 512) (r : Fin 1024) :
    (k0_pay16 (F := Ideal) z mu s (ix2 p r) : EReal) = (z (ix2 p r) - mu (ix2 p 0)) * s (ix2 p 0) := by
  pointwise [k0_pay16]
theorem pay17 (d z : Vec Ideal S512x1024 .f32) (mu s : Vec Ideal S512x1 .f32) (acc : Vec Ideal S1x1024 .f32) (r : Fin 1024) :
    k0_pay17 (F := Ideal) d z mu s acc (ix2 0 r)
      = acc (ix2 0 r) + ∑ p : Fin 512, d (ix2 p r) * ((z (ix2 p r) - mu (ix2 p 0)) * s (ix2 p 0) : EReal) := by
  pointwise [k0_pay17, k0_pay16]
theorem pay18 (d : Vec Ideal S512x1024 .f32) (acc : Vec Ideal S1x1024 .f32) (r : Fin 1024) :
    k0_pay18 (F := Ideal) d acc (ix2 0 r) = acc (ix2 0 r) + ∑ p : Fin 512, d (ix2 p r) := by
  pointwise [k0_pay18]

/-- One column's share of an entry of the modulated input's gradient. -/
def share (x6 : Vec Ideal S4x1024x1408 .bf16) (x7 : Vec Ideal S2x16384x2816 .bf16) (t : Fin 16384) (r : Fin 1024) (q : Fin 5632) : EReal :=
  x7 (ix3 ⟨q.val / 2816, by omega⟩ t ⟨q.val % 2816, by omega⟩) * x6 (ix3 ⟨q.val / 1408, by omega⟩ r ⟨q.val % 1408, by omega⟩)

/-- An entry of the modulated input's gradient. -/
def inner (x6 : Vec Ideal S4x1024x1408 .bf16) (x7 : Vec Ideal S2x16384x2816 .bf16) (t : Fin 16384) (r : Fin 1024) : EReal :=
  ∑ q : Fin 5632, share x6 x7 t r q

/-- An entry of the gradient of the layer norm's result. -/
def entry (x5 : Vec Ideal S1x1024 .f32) (x6 : Vec Ideal S4x1024x1408 .bf16) (x7 : Vec Ideal S2x16384x2816 .bf16) (x8 : Vec Ideal S16384x1024 .f32)
    (t : Fin 16384) (r : Fin 1024) : EReal :=
  x8 (ix2 t r) + inner x6 x7 t r * (1 + x5 (ix2 0 r))

variable (m : (ℓ : Loc nD τ sig) → Buf (Elt Ideal) ℓ) (c : Dev nD)

theorem idx : ∀ t : Fin cfg0.N, win0_0.index t = ![t.val % 4 / 2, t.val / 4, t.val % 4 % 2] ∧ win0_1.index t = ![t.val % 4, 0, 0]
    ∧ win0_2.index t = ![t.val / 4, 0] ∧ win0_3.index t = ![t.val / 4, 0] ∧ win0_4.index t = ![0, 0]
    ∧ win0_5.index t = ![t.val / 4, 0] ∧ win0_6.index t = ![t.val / 4, 0] ∧ win0_7.index t = ![t.val / 4, 0]
    ∧ win0_8.index t = ![t.val / 4, 0] ∧ win0_9.index t = ![0, 0] :=
  (by decide +kernel : ∀ t : Fin grid0.N, _)

theorem pt_lt (t : Fin cfg0.N) : t.val < 128 := lt_of_lt_of_eq t.2 (show cfg0.N = 128 from N_0)

/-- The token of a row of a point's tile. -/
abbrev row (n : ℕ) (p : Fin 512) : Fin 16384 := ⟨(n / 4 * 512 + p) % 16384, Nat.mod_lt _ (by decide)⟩

/-- The call's arguments. -/
abbrev a0 : Vec Ideal S16384x1024 .f32 := m ((c : Thread nD τ).loc main_arg0)
abbrev a1 : Vec Ideal S16384x1024 .f32 := m ((c : Thread nD τ).loc main_arg1)
abbrev a2 : Vec Ideal S1x1024 .f32 := m ((c : Thread nD τ).loc main_arg2)
abbrev a3 : Vec Ideal S1x1024 .f32 := m ((c : Thread nD τ).loc main_arg3)
abbrev a4 : Vec Ideal S1x1024 .f32 := m ((c : Thread nD τ).loc main_arg4)
abbrev a5 : Vec Ideal S1x1024 .f32 := m ((c : Thread nD τ).loc main_arg5)
abbrev a6 : Vec Ideal S4x1024x1408 .bf16 := m ((c : Thread nD τ).loc main_arg6)
abbrev a7 : Vec Ideal S2x16384x2816 .bf16 := m ((c : Thread nD τ).loc main_arg7)
abbrev a8 : Vec Ideal S16384x1024 .f32 := m ((c : Thread nD τ).loc main_arg8)

/-- What the forward pass saved of the layer norm, as the reference computes it. -/
theorem saved_result : (V m c main_v26 : Vec Ideal S16384x1024 .f32) = val_main_v30 (F := Ideal) (a0 m c) (a1 m c) (a2 m c) (a3 m c) (a4 m c) := by
  entry_read
  rfl
theorem saved_mean : (V m c main_v8 : Vec Ideal S16384x1 .f32) = val_main_v12 (F := Ideal) (a0 m c) (a1 m c) (a2 m c) := by
  entry_read
  rfl
theorem saved_deviation : (V m c main_v18 : Vec Ideal S16384x1 .f32) = val_main_v24 (F := Ideal) (a0 m c) (a1 m c) (a2 m c) := by
  entry_read
  rfl

theorem blk0 (t : Fin cfg0.N) (p : Fin 512) (y : Fin 1408) : iblk m c 0 t (ix3 0 p y)
    = a7 m c (ix3 ⟨t.val % 4 / 2, by omega⟩ (row t.val p) ⟨t.val % 4 % 2 * 1408 + y, by omega⟩) := by
  have ht := pt_lt t
  have e : iblk m c 0 t (ix3 0 p y) = V m c main_arg7 ((win0_0.blk t).view.emb (ix3 0 p y)) := by
    unfold iblk; generalize V m c = X; unfold View.read; exact cast_eq _ _
  rw [e, V_main_arg7]
  refine congrArg (a7 m c) (funext fun d => Fin.ext ?_)
  fin_cases d
  · blk_simp [(idx t).1]
    rfl
  · blk_simp [(idx t).1]
    show t.val / 4 * 512 + p.val = (t.val / 4 * 512 + p.val) % 16384
    omega
  · blk_simp [(idx t).1]
    rfl
theorem blk1 (t : Fin cfg0.N) (r : Fin 1024) (y : Fin 1408) :
    iblk m c 1 t (ix3 0 r y) = a6 m c (ix3 ⟨t.val % 4, by omega⟩ r y) := by
  have e : iblk m c 1 t (ix3 0 r y) = V m c main_arg6 ((win0_1.blk t).view.emb (ix3 0 r y)) := by
    unfold iblk; generalize V m c = X; unfold View.read; exact cast_eq _ _
  rw [e, V_main_arg6]
  refine congrArg (a6 m c) (funext fun d => Fin.ext ?_)
  fin_cases d
  · blk_simp [(idx t).2.1]
    rfl
  · blk_simp [(idx t).2.1]
    rfl
  · blk_simp [(idx t).2.1]
    rfl
theorem blk2 (t : Fin cfg0.N) (p : Fin 512) (r : Fin 1024) : iblk m c 2 t (ix2 p r) = a8 m c (ix2 (row t.val p) r) := by
  have ht := pt_lt t
  have e : iblk m c 2 t (ix2 p r) = V m c main_arg8 ((win0_2.blk t).view.emb (ix2 p r)) := by
    unfold iblk; generalize V m c = X; unfold View.read; exact cast_eq _ _
  refine e.trans ((congrFun (V_main_arg8 m c) _).trans (congrArg (a8 m c) (funext fun d => Fin.ext ?_)))
  fin_cases d
  · blk_simp [(idx t).2.2.1]
    show t.val / 4 * 512 + p.val = (t.val / 4 * 512 + p.val) % 16384
    omega
  · blk_simp [(idx t).2.2.1]
    rfl
theorem blk3 (t : Fin cfg0.N) (p : Fin 512) (r : Fin 1024) : iblk m c 3 t (ix2 p r) = val_main_v30 (F := Ideal) (a0 m c) (a1 m c) (a2 m c) (a3 m c) (a4 m c) (ix2 (row t.val p) r) := by
  have ht := pt_lt t
  have e : iblk m c 3 t (ix2 p r) = V m c main_v26 ((win0_3.blk t).view.emb (ix2 p r)) := by
    unfold iblk; generalize V m c = X; unfold View.read; exact cast_eq _ _
  refine e.trans ((congrFun (saved_result m c) _).trans (congrArg (val_main_v30 (F := Ideal) (a0 m c) (a1 m c) (a2 m c) (a3 m c) (a4 m c)) (funext fun d => Fin.ext ?_)))
  fin_cases d
  · blk_simp [(idx t).2.2.2.1]
    show t.val / 4 * 512 + p.val = (t.val / 4 * 512 + p.val) % 16384
    omega
  · blk_simp [(idx t).2.2.2.1]
    rfl
theorem blk4 (t : Fin cfg0.N) (r : Fin 1024) : iblk m c 4 t (ix2 0 r) = a5 m c (ix2 0 r) := by
  have e : iblk m c 4 t (ix2 0 r) = V m c main_arg5 ((win0_4.blk t).view.emb (ix2 0 r)) := by
    unfold iblk; generalize V m c = X; unfold View.read; exact cast_eq _ _
  refine e.trans ((congrFun (V_main_arg5 m c) _).trans (congrArg (a5 m c) (funext fun d => Fin.ext ?_)))
  fin_cases d
  · blk_simp [(idx t).2.2.2.2.1]
  · blk_simp [(idx t).2.2.2.2.1]
theorem blk5 (t : Fin cfg0.N) (p : Fin 512) (r : Fin 1024) : iblk m c 5 t (ix2 p r) = a0 m c (ix2 (row t.val p) r) := by
  have ht := pt_lt t
  have e : iblk m c 5 t (ix2 p r) = V m c main_arg0 ((win0_5.blk t).view.emb (ix2 p r)) := by
    unfold iblk; generalize V m c = X; unfold View.read; exact cast_eq _ _
  refine e.trans ((congrFun (V_main_arg0 m c) _).trans (congrArg (a0 m c) (funext fun d => Fin.ext ?_)))
  fin_cases d
  · blk_simp [(idx t).2.2.2.2.2.1]
    show t.val / 4 * 512 + p.val = (t.val / 4 * 512 + p.val) % 16384
    omega
  · blk_simp [(idx t).2.2.2.2.2.1]
    rfl
theorem blk6 (t : Fin cfg0.N) (p : Fin 512) (r : Fin 1024) : iblk m c 6 t (ix2 p r) = a1 m c (ix2 (row t.val p) r) := by
  have ht := pt_lt t
  have e : iblk m c 6 t (ix2 p r) = V m c main_arg1 ((win0_6.blk t).view.emb (ix2 p r)) := by
    unfold iblk; generalize V m c = X; unfold View.read; exact cast_eq _ _
  refine e.trans ((congrFun (V_main_arg1 m c) _).trans (congrArg (a1 m c) (funext fun d => Fin.ext ?_)))
  fin_cases d
  · blk_simp [(idx t).2.2.2.2.2.2.1]
    show t.val / 4 * 512 + p.val = (t.val / 4 * 512 + p.val) % 16384
    omega
  · blk_simp [(idx t).2.2.2.2.2.2.1]
    rfl
theorem blk7 (t : Fin cfg0.N) (p : Fin 512) : iblk m c 7 t (ix2 p 0) = val_main_v12 (F := Ideal) (a0 m c) (a1 m c) (a2 m c) (ix2 (row t.val p) 0) := by
  have ht := pt_lt t
  have e : iblk m c 7 t (ix2 p 0) = V m c main_v8 ((win0_7.blk t).view.emb (ix2 p 0)) := by
    unfold iblk; generalize V m c = X; unfold View.read; exact cast_eq _ _
  refine e.trans ((congrFun (saved_mean m c) _).trans (congrArg (val_main_v12 (F := Ideal) (a0 m c) (a1 m c) (a2 m c)) (funext fun d => Fin.ext ?_)))
  fin_cases d
  · blk_simp [(idx t).2.2.2.2.2.2.2.1]
    show t.val / 4 * 512 + p.val = (t.val / 4 * 512 + p.val) % 16384
    omega
  · blk_simp [(idx t).2.2.2.2.2.2.2.1]
theorem blk8 (t : Fin cfg0.N) (p : Fin 512) : iblk m c 8 t (ix2 p 0) = val_main_v24 (F := Ideal) (a0 m c) (a1 m c) (a2 m c) (ix2 (row t.val p) 0) := by
  have ht := pt_lt t
  have e : iblk m c 8 t (ix2 p 0) = V m c main_v18 ((win0_8.blk t).view.emb (ix2 p 0)) := by
    unfold iblk; generalize V m c = X; unfold View.read; exact cast_eq _ _
  refine e.trans ((congrFun (saved_deviation m c) _).trans (congrArg (val_main_v24 (F := Ideal) (a0 m c) (a1 m c) (a2 m c)) (funext fun d => Fin.ext ?_)))
  fin_cases d
  · blk_simp [(idx t).2.2.2.2.2.2.2.2.1]
    show t.val / 4 * 512 + p.val = (t.val / 4 * 512 + p.val) % 16384
    omega
  · blk_simp [(idx t).2.2.2.2.2.2.2.2.1]
theorem blk9 (t : Fin cfg0.N) (r : Fin 1024) : iblk m c 9 t (ix2 0 r) = a2 m c (ix2 0 r) := by
  have e : iblk m c 9 t (ix2 0 r) = V m c main_arg2 ((win0_9.blk t).view.emb (ix2 0 r)) := by
    unfold iblk; generalize V m c = X; unfold View.read; exact cast_eq _ _
  refine e.trans ((congrFun (V_main_arg2 m c) _).trans (congrArg (a2 m c) (funext fun d => Fin.ext ?_)))
  fin_cases d
  · blk_simp [(idx t).2.2.2.2.2.2.2.2.2]
  · blk_simp [(idx t).2.2.2.2.2.2.2.2.2]

/-- The layer norm's argument less its mean, over its deviation, at an entry. -/
theorem normal_eq (x0 x1 : Vec Ideal S16384x1024 .f32) (x2 : Vec Ideal S1x1024 .f32) (t : Fin 16384) (r : Fin 1024) :
    (val_main_v26 (F := Ideal) x0 x1 x2 (ix2 t r) : EReal)
      = ((alpha * x0 (ix2 t r) + x2 (ix2 0 r) * x1 (ix2 t r) : EReal) - val_main_v12 (F := Ideal) x0 x1 x2 (ix2 t 0))
        * val_main_v24 (F := Ideal) x0 x1 x2 (ix2 t 0) := by
  unfold alpha val_main_v26 Cert.Reference11Ideal.Read.val_main_v21 Cert.Reference11Ideal.Read.val_main_v20 Cert.Reference11Ideal.Read.val_main_v25
  generalize val_main_v12 (F := Ideal) x0 x1 x2 = y
  generalize val_main_v24 (F := Ideal) x0 x1 x2 = z
  pointwise [val_main_v8, Cert.Reference11Ideal.Read.val_main_v5, Cert.Reference11Ideal.Read.val_main_v7, Cert.Reference11Ideal.Read.val_main_v4,
    Cert.Reference11Ideal.Read.val_main_v6, Cert.Reference11Ideal.Read.val_main_cst_0]

/-- A point's part of the modulated input's gradient. -/
def part (n : ℕ) (i : S512x1024.Idx) : EReal :=
  ∑ y : Fin 1408, beyond (share (a6 m c) (a7 m c) (row n (i 0)) (i 1)) (n % 4 * 1408 + y)

theorem part_eq (t : Fin cfg0.N) (acc : Vec Ideal S512x1024 .f32) (i : S512x1024.Idx) :
    k0_pay7 (F := Ideal) acc (iblk m c 0 t) (iblk m c 1 t) i = acc i + part m c t.val i := by
  obtain ⟨p, r, rfl⟩ : ∃ p r, i = ix2 p r := ⟨i 0, i 1, eq_ix2 i⟩
  rw [pay7]
  unfold part
  congr 1
  refine Finset.sum_congr rfl fun y _ => ?_
  rw [blk0, blk1, beyond_of_lt _ (show t.val % 4 * 1408 + y.val < 5632 by omega)]
  unfold share
  refine congrArg₂ (fun a b : EReal => a * b) (congrArg (a7 m c) (funext fun d => Fin.ext ?_)) (congrArg (a6 m c) (funext fun d => Fin.ext ?_))
  · fin_cases d
    · show t.val % 4 / 2 = (t.val % 4 * 1408 + y.val) / 2816
      omega
    · rfl
    · show t.val % 4 % 2 * 1408 + y.val = (t.val % 4 * 1408 + y.val) % 2816
      omega
  · fin_cases d
    · show t.val % 4 = (t.val % 4 * 1408 + y.val) / 1408
      omega
    · rfl
    · show y.val = (t.val % 4 * 1408 + y.val) % 1408
      omega

theorem carried_first (t : Fin cfg0.N) (h : t.val % 4 = 0) (i : S512x1024.Idx) :
    ((outsAt0 m c t.val t.isLt).2.2.2.2.2.2.2 i : EReal) = 0 + part m c t.val i := by
  have hz : k0_pay6 (F := Ideal) i = 0 := by
    obtain ⟨p, r, rfl⟩ : ∃ p r, i = ix2 p r := ⟨i 0, i 1, eq_ix2 i⟩
    exact pay6 p r
  by_cases h0 : t.val % 128 = 0
  · rw [outsAt0_A m c t h0 h (by omega)]
    frame_out
    rw [part_eq, hz]
  · rw [outsAt0_D m c t h0 h (by omega)]
    frame_out
    rw [part_eq, hz]

theorem carried_next (t : Fin cfg0.N) (h : ¬t.val % 4 = 0) (i : S512x1024.Idx) :
    ((outsAt0 m c t.val t.isLt).2.2.2.2.2.2.2 i : EReal)
      = (outsAt0 m c (t.val - 1) (Nat.lt_of_le_of_lt (Nat.sub_le _ _) t.isLt)).2.2.2.2.2.2.2 i + part m c t.val i := by
  by_cases h2 : t.val % 4 = 3
  · rw [outsAt0_C m c t (by omega) h h2]
    frame_out
    rw [part_eq, read_unread_whole]
  · rw [outsAt0_B m c t (by omega) h h2]
    frame_out
    rw [part_eq, read_unread_whole]

/-- After the last quarter the scratch holds the modulated input's gradient of the tile. -/
theorem carried (t : Fin cfg0.N) (h : t.val % 4 = 3) (p : Fin 512) (r : Fin 1024) :
    ((outsAt0 m c t.val t.isLt).2.2.2.2.2.2.2 (ix2 p r) : EReal) = inner (a6 m c) (a7 m c) (row t.val p) r := by
  refine (Pipeline.eq_sum_of_reset_step_apply_of_mod (M := EReal) (fun n h => (outsAt0 m c n h).2.2.2.2.2.2.2) 4 (fun _ => 0) (part m c)
    (carried_first m c) (carried_next m c) t h (ix2 p r)).trans ?_
  rw [zero_add]
  unfold inner
  rw [← sum_tiles 4 1408 5632 rfl]
  refine Finset.sum_congr rfl fun k hk => ?_
  have hk := Finset.mem_range.1 hk
  unfold part row
  simp only [show (4 * (t.val / 4) + k) % 4 = k by omega, show (4 * (t.val / 4) + k) / 4 = t.val / 4 by omega]
  rfl

/-- What the last point of a tile stores in the scratch. -/
theorem carried_pay (t : Fin cfg0.N) (h0 : ¬t.val % 128 = 0) (h1 : ¬t.val % 4 = 0) (h2 : t.val % 4 = 3) (p : Fin 512) (r : Fin 1024) :
    k0_pay7 (F := Ideal) (outsAt0 m c (t.val - 1) (Nat.lt_of_le_of_lt (Nat.sub_le _ _) t.isLt)).2.2.2.2.2.2.2 (iblk m c 0 t) (iblk m c 1 t) (ix2 p r)
      = inner (a6 m c) (a7 m c) (row t.val p) r := by
  have f := carried m c t h2 p r
  rw [outsAt0_C m c t h0 h1 h2] at f
  revert f
  frame_out
  rw [read_unread_whole]
  exact id

/-- A tile's part of a sum over tokens, at the point that ends the tile. -/
def partOf (f : Fin 1024 → Fin 16384 → EReal) (n : ℕ) (i : S1x1024.Idx) : EReal :=
  if n % 4 = 3 then ∑ p : Fin 512, f (i 1) (row n p) else 0

/-- One token's share of an entry of the gradient of the scale, the shift, the gain and the bias. -/
def ofScale (r : Fin 1024) (t : Fin 16384) : EReal :=
  inner (a6 m c) (a7 m c) t r * val_main_v30 (F := Ideal) (a0 m c) (a1 m c) (a2 m c) (a3 m c) (a4 m c) (ix2 t r)
def ofShift (r : Fin 1024) (t : Fin 16384) : EReal := inner (a6 m c) (a7 m c) t r
def ofGain (r : Fin 1024) (t : Fin 16384) : EReal :=
  entry (a5 m c) (a6 m c) (a7 m c) (a8 m c) t r * val_main_v26 (F := Ideal) (a0 m c) (a1 m c) (a2 m c) (ix2 t r)
def ofBias (r : Fin 1024) (t : Fin 16384) : EReal := entry (a5 m c) (a6 m c) (a7 m c) (a8 m c) t r

/-- A sum over points of which every fourth counts. -/
theorem sum_fourths (g : ℕ → EReal) (a : ℕ) :
    (∑ n ∈ Finset.range (4 * a), if n % 4 = 3 then g n else 0) = ∑ k ∈ Finset.range a, g (4 * k + 3) := by
  induction a with
  | zero => simp
  | succ a ih =>
    rw [show 4 * (a + 1) = 4 * a + 1 + 1 + 1 + 1 by ring, Finset.sum_range_succ, Finset.sum_range_succ, Finset.sum_range_succ,
      Finset.sum_range_succ, ih, Finset.sum_range_succ, if_neg (by omega), if_neg (by omega), if_neg (by omega), if_pos (by omega)]
    simp only [add_zero]

/-- The thirty-two tiles' parts are the sum over all tokens. -/
theorem sum_rows (f : Fin 16384 → EReal) :
    (∑ n ∈ Finset.range 128, if n % 4 = 3 then ∑ p : Fin 512, f (row n p) else 0) = ∑ t : Fin 16384, f t := by
  rw [sum_fourths (fun n => ∑ p : Fin 512, f (row n p)) 32, ← sum_tiles 32 512 16384 rfl f]
  refine Finset.sum_congr rfl fun k hk => Finset.sum_congr rfl fun p _ => ?_
  have hk := Finset.mem_range.1 hk
  rw [beyond_of_lt f (show k * 512 + p.val < 16384 by omega)]
  congr 1
  apply Fin.ext
  show ((4 * k + 3) / 4 * 512 + p.val) % 16384 = k * 512 + p.val
  omega

/-- What starts at zero and takes each tile's part at the tile's last point ends as the sum over all tokens. -/
theorem total (acc : (n : ℕ) → n < cfg0.N → Vec Ideal S1x1024 .f32) (f : Fin 1024 → Fin 16384 → EReal)
    (first : ∀ t : Fin cfg0.N, t.val % 128 = 0 → ∀ i, (acc t.val t.isLt i : EReal) = 0 + partOf f t.val i)
    (next : ∀ t : Fin cfg0.N, ¬t.val % 128 = 0 → ∀ i,
      (acc t.val t.isLt i : EReal) = acc (t.val - 1) (Nat.lt_of_le_of_lt (Nat.sub_le _ _) t.isLt) i + partOf f t.val i)
    (t : Fin cfg0.N) (h : t.val = 127) (r : Fin 1024) : (acc t.val t.isLt (ix2 0 r) : EReal) = ∑ q : Fin 16384, f r q := by
  rw [Pipeline.eq_sum_of_reset_step_apply_of_mod (M := EReal) acc 128 (fun _ => 0) (partOf f) first next t (r := 127) (by omega) (ix2 0 r),
    zero_add, ← sum_rows]
  refine Finset.sum_congr rfl fun n _ => ?_
  rw [show 128 * (t.val / 128) + n = n by omega]
  rfl

/-- One token's share, from the scratch and the blocks of a point that ends a tile. -/
theorem bias_entry (t : Fin cfg0.N) (h : Vec Ideal S512x1024 .f32) (p : Fin 512) (r : Fin 1024)
    (f : h (ix2 p r) = inner (a6 m c) (a7 m c) (row t.val p) r) :
    k0_pay14 (F := Ideal) h (iblk m c 2 t) (iblk m c 4 t) (ix2 p r) = ofBias m c r (row t.val p) := by
  rw [pay14, f, blk2, blk4]
  rfl
theorem gain_entry (t : Fin cfg0.N) (h : Vec Ideal S512x1024 .f32) (p : Fin 512) (r : Fin 1024)
    (f : h (ix2 p r) = inner (a6 m c) (a7 m c) (row t.val p) r) :
    (k0_pay14 (F := Ideal) h (iblk m c 2 t) (iblk m c 4 t) (ix2 p r) * ((k0_pay15 (F := Ideal) (iblk m c 6 t) (iblk m c 5 t) (iblk m c 9 t) (ix2 p r)
      - iblk m c 7 t (ix2 p 0)) * iblk m c 8 t (ix2 p 0) : EReal) : EReal) = ofGain m c r (row t.val p) := by
  rw [bias_entry m c t h p r f, pay15, blk5, blk6, blk7, blk8, blk9]
  unfold ofGain
  rw [normal_eq]
  rfl

theorem scale_first (t : Fin cfg0.N) (h : t.val % 128 = 0) (i : S1x1024.Idx) :
    ((outsAt0 m c t.val t.isLt).2.2.1 i : EReal) = 0 + partOf (ofScale m c) t.val i := by
  obtain ⟨z, r, rfl⟩ : ∃ (z : Fin 1) (r : Fin 1024), i = ix2 z r := ⟨i 0, i 1, eq_ix2 i⟩
  obtain rfl : z = 0 := Subsingleton.elim _ _
  rw [outsAt0_A m c t h (by omega) (by omega)]
  frame_out
  rw [pay1]
  unfold partOf
  rw [if_neg (by omega), add_zero]

theorem scale_next (t : Fin cfg0.N) (h : ¬t.val % 128 = 0) (i : S1x1024.Idx) :
    ((outsAt0 m c t.val t.isLt).2.2.1 i : EReal)
      = (outsAt0 m c (t.val - 1) (Nat.lt_of_le_of_lt (Nat.sub_le _ _) t.isLt)).2.2.1 i + partOf (ofScale m c) t.val i := by
  obtain ⟨z, r, rfl⟩ : ∃ (z : Fin 1) (r : Fin 1024), i = ix2 z r := ⟨i 0, i 1, eq_ix2 i⟩
  obtain rfl : z = 0 := Subsingleton.elim _ _
  unfold partOf
  by_cases h2 : t.val % 4 = 3
  · have f := fun p => carried_pay m c t h (by omega) h2 p r
    rw [if_pos h2, outsAt0_C m c t h (by omega) h2]
    frame_out
    simp only [read_unread_whole]
    rw [pay12]
    congr 1
    refine Finset.sum_congr rfl fun p _ => ?_
    rw [f, blk3]
    rfl
  · rw [if_neg h2, add_zero]
    by_cases h1 : t.val % 4 = 0
    · rw [outsAt0_D m c t h h1 h2]
      rfl
    · rw [outsAt0_B m c t h h1 h2]
      rfl

/-- The call's gradient of the scale, at an entry. -/
theorem result_scale (p : Fin 1) (r : Fin 1024) : (G13 m c (ix2 p r) : EReal) = ∑ t : Fin 16384, ofScale m c r t := by
  obtain rfl : p = 0 := Subsingleton.elim _ _
  have h0 : pt13Of (ix2 0 r) = 127 := by
    show 128 * (1 * (0 / 1 - 0) + 1 * (r.val / 1024 - 0)) + 127 = _
    omega
  have hN : pt13Of (ix2 0 r) < cfg0.N := lt_of_lt_of_eq (by omega) N_0.symm
  have hl : loc13Of (ix2 0 r) = ix2 0 r := by
    funext a; apply Fin.ext
    match a with
    | ⟨0, _⟩ => rfl
    | ⟨1, _⟩ => exact Nat.mod_eq_of_lt r.2
  unfold G13
  rw [dif_pos hN, hl, ← outsAt0_sweep m c _ hN]
  exact total (fun n h => (outsAt0 m c n h).2.2.1) (ofScale m c) (scale_first m c) (scale_next m c) ⟨pt13Of (ix2 0 r), hN⟩ h0 r

theorem shift_first (t : Fin cfg0.N) (h : t.val % 128 = 0) (i : S1x1024.Idx) :
    ((outsAt0 m c t.val t.isLt).2.2.2.1 i : EReal) = 0 + partOf (ofShift m c) t.val i := by
  obtain ⟨z, r, rfl⟩ : ∃ (z : Fin 1) (r : Fin 1024), i = ix2 z r := ⟨i 0, i 1, eq_ix2 i⟩
  obtain rfl : z = 0 := Subsingleton.elim _ _
  rw [outsAt0_A m c t h (by omega) (by omega)]
  frame_out
  rw [pay2]
  unfold partOf
  rw [if_neg (by omega), add_zero]

theorem shift_next (t : Fin cfg0.N) (h : ¬t.val % 128 = 0) (i : S1x1024.Idx) :
    ((outsAt0 m c t.val t.isLt).2.2.2.1 i : EReal)
      = (outsAt0 m c (t.val - 1) (Nat.lt_of_le_of_lt (Nat.sub_le _ _) t.isLt)).2.2.2.1 i + partOf (ofShift m c) t.val i := by
  obtain ⟨z, r, rfl⟩ : ∃ (z : Fin 1) (r : Fin 1024), i = ix2 z r := ⟨i 0, i 1, eq_ix2 i⟩
  obtain rfl : z = 0 := Subsingleton.elim _ _
  unfold partOf
  by_cases h2 : t.val % 4 = 3
  · have f := fun p => carried_pay m c t h (by omega) h2 p r
    rw [if_pos h2, outsAt0_C m c t h (by omega) h2]
    frame_out
    simp only [read_unread_whole]
    rw [pay13]
    congr 1
    exact Finset.sum_congr rfl fun p _ => f p
  · rw [if_neg h2, add_zero]
    by_cases h1 : t.val % 4 = 0
    · rw [outsAt0_D m c t h h1 h2]
      rfl
    · rw [outsAt0_B m c t h h1 h2]
      rfl

/-- The call's gradient of the shift, at an entry. -/
theorem result_shift (p : Fin 1) (r : Fin 1024) : (G14 m c (ix2 p r) : EReal) = ∑ t : Fin 16384, ofShift m c r t := by
  obtain rfl : p = 0 := Subsingleton.elim _ _
  have h0 : pt14Of (ix2 0 r) = 127 := by
    show 128 * (1 * (0 / 1 - 0) + 1 * (r.val / 1024 - 0)) + 127 = _
    omega
  have hN : pt14Of (ix2 0 r) < cfg0.N := lt_of_lt_of_eq (by omega) N_0.symm
  have hl : loc14Of (ix2 0 r) = ix2 0 r := by
    funext a; apply Fin.ext
    match a with
    | ⟨0, _⟩ => rfl
    | ⟨1, _⟩ => exact Nat.mod_eq_of_lt r.2
  unfold G14
  rw [dif_pos hN, hl, ← outsAt0_sweep m c _ hN]
  exact total (fun n h => (outsAt0 m c n h).2.2.2.1) (ofShift m c) (shift_first m c) (shift_next m c) ⟨pt14Of (ix2 0 r), hN⟩ h0 r

theorem gain_first (t : Fin cfg0.N) (h : t.val % 128 = 0) (i : S1x1024.Idx) :
    ((outsAt0 m c t.val t.isLt).2.2.2.2.1 i : EReal) = 0 + partOf (ofGain m c) t.val i := by
  obtain ⟨z, r, rfl⟩ : ∃ (z : Fin 1) (r : Fin 1024), i = ix2 z r := ⟨i 0, i 1, eq_ix2 i⟩
  obtain rfl : z = 0 := Subsingleton.elim _ _
  rw [outsAt0_A m c t h (by omega) (by omega)]
  frame_out
  rw [pay3]
  unfold partOf
  rw [if_neg (by omega), add_zero]

theorem gain_next (t : Fin cfg0.N) (h : ¬t.val % 128 = 0) (i : S1x1024.Idx) :
    ((outsAt0 m c t.val t.isLt).2.2.2.2.1 i : EReal)
      = (outsAt0 m c (t.val - 1) (Nat.lt_of_le_of_lt (Nat.sub_le _ _) t.isLt)).2.2.2.2.1 i + partOf (ofGain m c) t.val i := by
  obtain ⟨z, r, rfl⟩ : ∃ (z : Fin 1) (r : Fin 1024), i = ix2 z r := ⟨i 0, i 1, eq_ix2 i⟩
  obtain rfl : z = 0 := Subsingleton.elim _ _
  unfold partOf
  by_cases h2 : t.val % 4 = 3
  · have f := fun p => carried_pay m c t h (by omega) h2 p r
    rw [if_pos h2, outsAt0_C m c t h (by omega) h2]
    frame_out
    simp only [read_unread_whole]
    refine (pay17 _ _ _ _ _ r).trans (congrArg₂ (fun a b : EReal => a + b) ?_ (Finset.sum_congr rfl fun p _ => ?_))
    · rfl
    · exact gain_entry m c t _ p r (f p)
  · rw [if_neg h2, add_zero]
    by_cases h1 : t.val % 4 = 0
    · rw [outsAt0_D m c t h h1 h2]
      rfl
    · rw [outsAt0_B m c t h h1 h2]
      rfl

/-- The call's gradient of the gain, at an entry. -/
theorem result_gain (p : Fin 1) (r : Fin 1024) : (G15 m c (ix2 p r) : EReal) = ∑ t : Fin 16384, ofGain m c r t := by
  obtain rfl : p = 0 := Subsingleton.elim _ _
  have h0 : pt15Of (ix2 0 r) = 127 := by
    show 128 * (1 * (0 / 1 - 0) + 1 * (r.val / 1024 - 0)) + 127 = _
    omega
  have hN : pt15Of (ix2 0 r) < cfg0.N := lt_of_lt_of_eq (by omega) N_0.symm
  have hl : loc15Of (ix2 0 r) = ix2 0 r := by
    funext a; apply Fin.ext
    match a with
    | ⟨0, _⟩ => rfl
    | ⟨1, _⟩ => exact Nat.mod_eq_of_lt r.2
  unfold G15
  rw [dif_pos hN, hl, ← outsAt0_sweep m c _ hN]
  exact total (fun n h => (outsAt0 m c n h).2.2.2.2.1) (ofGain m c) (gain_first m c) (gain_next m c) ⟨pt15Of (ix2 0 r), hN⟩ h0 r

theorem bias_first (t : Fin cfg0.N) (h : t.val % 128 = 0) (i : S1x1024.Idx) :
    ((outsAt0 m c t.val t.isLt).2.2.2.2.2.1 i : EReal) = 0 + partOf (ofBias m c) t.val i := by
  obtain ⟨z, r, rfl⟩ : ∃ (z : Fin 1) (r : Fin 1024), i = ix2 z r := ⟨i 0, i 1, eq_ix2 i⟩
  obtain rfl : z = 0 := Subsingleton.elim _ _
  rw [outsAt0_A m c t h (by omega) (by omega)]
  frame_out
  rw [pay4]
  unfold partOf
  rw [if_neg (by omega), add_zero]

theorem bias_next (t : Fin cfg0.N) (h : ¬t.val % 128 = 0) (i : S1x1024.Idx) :
    ((outsAt0 m c t.val t.isLt).2.2.2.2.2.1 i : EReal)
      = (outsAt0 m c (t.val - 1) (Nat.lt_of_le_of_lt (Nat.sub_le _ _) t.isLt)).2.2.2.2.2.1 i + partOf (ofBias m c) t.val i := by
  obtain ⟨z, r, rfl⟩ : ∃ (z : Fin 1) (r : Fin 1024), i = ix2 z r := ⟨i 0, i 1, eq_ix2 i⟩
  obtain rfl : z = 0 := Subsingleton.elim _ _
  unfold partOf
  by_cases h2 : t.val % 4 = 3
  · have f := fun p => carried_pay m c t h (by omega) h2 p r
    rw [if_pos h2, outsAt0_C m c t h (by omega) h2]
    frame_out
    simp only [read_unread_whole]
    refine (pay18 _ _ r).trans (congrArg₂ (fun a b : EReal => a + b) ?_ (Finset.sum_congr rfl fun p _ => ?_))
    · rfl
    · exact bias_entry m c t _ p r (f p)
  · rw [if_neg h2, add_zero]
    by_cases h1 : t.val % 4 = 0
    · rw [outsAt0_D m c t h h1 h2]
      rfl
    · rw [outsAt0_B m c t h h1 h2]
      rfl

/-- The call's gradient of the bias, at an entry. -/
theorem result_bias (p : Fin 1) (r : Fin 1024) : (G16 m c (ix2 p r) : EReal) = ∑ t : Fin 16384, ofBias m c r t := by
  obtain rfl : p = 0 := Subsingleton.elim _ _
  have h0 : pt16Of (ix2 0 r) = 127 := by
    show 128 * (1 * (0 / 1 - 0) + 1 * (r.val / 1024 - 0)) + 127 = _
    omega
  have hN : pt16Of (ix2 0 r) < cfg0.N := lt_of_lt_of_eq (by omega) N_0.symm
  have hl : loc16Of (ix2 0 r) = ix2 0 r := by
    funext a; apply Fin.ext
    match a with
    | ⟨0, _⟩ => rfl
    | ⟨1, _⟩ => exact Nat.mod_eq_of_lt r.2
  unfold G16
  rw [dif_pos hN, hl, ← outsAt0_sweep m c _ hN]
  exact total (fun n h => (outsAt0 m c n h).2.2.2.2.2.1) (ofBias m c) (bias_first m c) (bias_next m c) ⟨pt16Of (ix2 0 r), hN⟩ h0 r

section Reference
open Cert.Reference11Ideal.Read

theorem reference_inner (x6 : Vec Ideal S4x1024x1408 .bf16) (x7 : Vec Ideal S2x16384x2816 .bf16) (t : Fin 16384) (r : Fin 1024) :
    val_main_v41 (F := Ideal) x6 x7 (ix2 t r) = inner x6 x7 t r := by
  rw [val_main_v41_apply]
  unfold inner share
  refine Finset.sum_congr rfl fun q _ => congrArg₂ (fun a b : EReal => a * b) ?_ ?_
  · rw [val_main_v2_apply, val_main_v1_apply, val_main_v0_apply]
    refine congrArg x7 (funext fun a => Fin.ext ?_)
    fin_cases a
    · show (t.val * 5632 + q.val) / 2816 % 2 = q.val / 2816
      omega
    · show (t.val * 5632 + q.val) / 5632 = t.val
      omega
    · show (t.val * 5632 + q.val) % 2816 = q.val % 2816
      omega
  · rw [val_main_v39_apply, val_main_v38_apply, val_main_v37_apply]
    refine congrArg x6 (funext fun a => Fin.ext ?_)
    fin_cases a
    · show (r.val * 5632 + q.val) / 1408 % 4 = q.val / 1408
      omega
    · show (r.val * 5632 + q.val) / 5632 = r.val
      omega
    · show (r.val * 5632 + q.val) % 1408 = q.val % 1408
      omega

theorem reference_entry (x5 : Vec Ideal S1x1024 .f32) (x6 : Vec Ideal S4x1024x1408 .bf16) (x7 : Vec Ideal S2x16384x2816 .bf16)
    (x8 : Vec Ideal S16384x1024 .f32) (t : Fin 16384) (r : Fin 1024) : val_main_v49 (F := Ideal) x5 x6 x7 x8 (ix2 t r) = entry x5 x6 x7 x8 t r := by
  unfold entry
  rw [← reference_inner]
  unfold val_main_v49 val_main_v48
  generalize val_main_v41 (F := Ideal) x6 x7 = y
  pointwise [val_main_v47, val_main_v32, val_main_v31, val_main_cst_6]

/-- The reference's sums over the tokens. -/
theorem sum_scale (x0 x1 : Vec Ideal S16384x1024 .f32) (x2 x3 x4 x5 : Vec Ideal S1x1024 .f32) (x6 : Vec Ideal S4x1024x1408 .bf16)
    (x7 : Vec Ideal S2x16384x2816 .bf16) (x8 : Vec Ideal S16384x1024 .f32) (r : Fin 1024) :
    val_main_v46 (F := Ideal) x0 x1 x2 x3 x4 x6 x7 (ix2 0 r)
      = ∑ t : Fin 16384, val_main_v30 (F := Ideal) x0 x1 x2 x3 x4 (ix2 t r) * val_main_v41 (F := Ideal) x6 x7 (ix2 t r) := by
  unfold val_main_v46 val_main_v45 val_main_v44
  generalize val_main_v41 (F := Ideal) x6 x7 = y
  generalize val_main_v30 (F := Ideal) x0 x1 x2 x3 x4 = z
  pointwise [val_main_cst_8]
theorem sum_shift (x0 x1 : Vec Ideal S16384x1024 .f32) (x2 x3 x4 x5 : Vec Ideal S1x1024 .f32) (x6 : Vec Ideal S4x1024x1408 .bf16)
    (x7 : Vec Ideal S2x16384x2816 .bf16) (x8 : Vec Ideal S16384x1024 .f32) (r : Fin 1024) :
    val_main_v43 (F := Ideal) x6 x7 (ix2 0 r) = ∑ t : Fin 16384, val_main_v41 (F := Ideal) x6 x7 (ix2 t r) := by
  unfold val_main_v43 val_main_v42
  generalize val_main_v41 (F := Ideal) x6 x7 = y
  pointwise [val_main_cst_7]
theorem sum_bias (x0 x1 : Vec Ideal S16384x1024 .f32) (x2 x3 x4 x5 : Vec Ideal S1x1024 .f32) (x6 : Vec Ideal S4x1024x1408 .bf16)
    (x7 : Vec Ideal S2x16384x2816 .bf16) (x8 : Vec Ideal S16384x1024 .f32) (r : Fin 1024) :
    val_main_v52 (F := Ideal) x5 x6 x7 x8 (ix2 0 r) = ∑ t : Fin 16384, val_main_v49 (F := Ideal) x5 x6 x7 x8 (ix2 t r) := by
  unfold val_main_v52 val_main_v51
  generalize val_main_v49 (F := Ideal) x5 x6 x7 x8 = y
  pointwise [val_main_cst_9]
theorem sum_gain (x0 x1 : Vec Ideal S16384x1024 .f32) (x2 x3 x4 x5 : Vec Ideal S1x1024 .f32) (x6 : Vec Ideal S4x1024x1408 .bf16)
    (x7 : Vec Ideal S2x16384x2816 .bf16) (x8 : Vec Ideal S16384x1024 .f32) (r : Fin 1024) :
    val_main_v55 (F := Ideal) x0 x1 x2 x5 x6 x7 x8 (ix2 0 r)
      = ∑ t : Fin 16384, val_main_v26 (F := Ideal) x0 x1 x2 (ix2 t r) * val_main_v49 (F := Ideal) x5 x6 x7 x8 (ix2 t r) := by
  unfold val_main_v55 val_main_v54 val_main_v53 val_main_v50
  generalize val_main_v49 (F := Ideal) x5 x6 x7 x8 = y
  generalize val_main_v26 (F := Ideal) x0 x1 x2 = z
  pointwise [val_main_cst_10]

/-- The reference's gradient of the scale is the same sum. -/
theorem reference_scale (p : Fin 1) (r : Fin 1024) :
    val_main_v46 (F := Ideal) (a0 m c) (a1 m c) (a2 m c) (a3 m c) (a4 m c) (a6 m c) (a7 m c) (ix2 p r) = ∑ t : Fin 16384, ofScale m c r t := by
  obtain rfl : p = 0 := Subsingleton.elim _ _
  refine (sum_scale _ _ _ _ _ (a5 m c) _ _ (a8 m c) r).trans (Finset.sum_congr rfl fun t _ => ?_)
  rw [reference_inner]
  exact mul_comm (G := EReal) _ _
/-- The reference's gradient of the shift is the same sum. -/
theorem reference_shift (p : Fin 1) (r : Fin 1024) :
    val_main_v43 (F := Ideal) (a6 m c) (a7 m c) (ix2 p r) = ∑ t : Fin 16384, ofShift m c r t := by
  obtain rfl : p = 0 := Subsingleton.elim _ _
  exact (sum_shift (a0 m c) (a1 m c) (a2 m c) (a3 m c) (a4 m c) (a5 m c) _ _ (a8 m c) r).trans
    (Finset.sum_congr rfl fun t _ => reference_inner _ _ t r)
/-- The reference's gradient of the gain is the same sum. -/
theorem reference_gain (p : Fin 1) (r : Fin 1024) :
    val_main_v55 (F := Ideal) (a0 m c) (a1 m c) (a2 m c) (a5 m c) (a6 m c) (a7 m c) (a8 m c) (ix2 p r) = ∑ t : Fin 16384, ofGain m c r t := by
  obtain rfl : p = 0 := Subsingleton.elim _ _
  refine (sum_gain _ _ _ (a3 m c) (a4 m c) _ _ _ _ r).trans (Finset.sum_congr rfl fun t _ => ?_)
  rw [reference_entry]
  exact mul_comm (G := EReal) _ _
/-- The reference's gradient of the bias is the same sum. -/
theorem reference_bias (p : Fin 1) (r : Fin 1024) :
    val_main_v52 (F := Ideal) (a5 m c) (a6 m c) (a7 m c) (a8 m c) (ix2 p r) = ∑ t : Fin 16384, ofBias m c r t := by
  obtain rfl : p = 0 := Subsingleton.elim _ _
  exact (sum_bias (a0 m c) (a1 m c) (a2 m c) (a3 m c) (a4 m c) _ _ _ _ r).trans
    (Finset.sum_congr rfl fun t _ => reference_entry _ _ _ _ t r)

end Reference

/-- What the program returns, as the claim reads it: four of the call's results, and the arguments. -/
theorem run (ρ : Dev nD → PrngReg) :
    θ_run defs (onTc (τ := τ) (main (F := Ideal))) ⟨m, fun _ => 0, ρ⟩ fun r => ∀ c : Dev nD,
      r.2.mem ((c : Thread nD τ).loc main_v27_2) = G13 m c ∧ r.2.mem ((c : Thread nD τ).loc main_v27_3) = G14 m c
        ∧ r.2.mem ((c : Thread nD τ).loc main_v27_4) = G15 m c ∧ r.2.mem ((c : Thread nD τ).loc main_v27_5) = G16 m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8) :=
  (θ_run defs _ _).mono (fun r h c => ⟨(h c).2.2.1, (h c).2.2.2.1, (h c).2.2.2.2.1, (h c).2.2.2.2.2.1, (h c).2.2.2.2.2.2.2⟩) (Value.run m ρ)

end Cert.Kernel11Ideal.Product

end
-- ==== Proof.DownLoss.lean ====
/-
  The ConvFFN's second product, the layer norm after it, and the loss: the loss of every tile of tokens, and the gradients of the
  layer norm's gain and bias, are the reference's.
-/
module

public import proofs.«01_k».proof.Proof.Tiles
public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ReadBack

@[expose] public section

set_option maxRecDepth 16384

noncomputable section

namespace Cert.Kernel12Ideal.Product

open Idealize.ShloMosaic Idealize.ShloMosaic.TcCoe Idealize.SL.Sem
open Cert.Kernel12Ideal Cert.Kernel12Ideal.Gen Cert.Kernel12Ideal.Value Cert.Tiles
open Cert.Reference12Ideal.Read

/-- The weight of the residual path, the width of a token, and what a variance is raised by. -/
def alpha : EReal := FloatOps.ofBits (F := Ideal) .f32 0x3F9837F0#32
def width : EReal := FloatOps.ofBits (F := Ideal) .f32 0x44800000#32
def raise : EReal := FloatOps.ofBits (F := Ideal) .f32 0x3727C5AC#32

theorem width_eq : Ideal.ofBits .f32 0x44800000#32 = ((1024 : ℝ) : EReal) := by
  simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem inv_width_eq : Ideal.ofBits .f32 0x3A800000#32 = ((1 / 1024 : ℝ) : EReal) := by
  simp [Ideal.ofBits, Ideal.ieee, -EReal.coe_mul]; norm_num
theorem half_inv_width_eq : Ideal.ofBits .f32 0x3A000000#32 = ((1 / 2048 : ℝ) : EReal) := by
  simp [Ideal.ofBits, Ideal.ieee, -EReal.coe_mul]; norm_num

/-- The layer norm's argument at an entry. -/
def arg {n : ℕ} (a : Fin n → Fin 2816 → EReal) (w : Vec Ideal S2816x1024 .bf16) (x : Fin n → Fin 1024 → EReal) (g : Vec Ideal S1x1024 .f32)
    (p : Fin n) (r : Fin 1024) : EReal :=
  alpha * x p r + g (ix2 0 r) * ∑ k : Fin 2816, a p k * (w (ix2 k r) : EReal)

/-- The argument less its mean, and one over its deviation. -/
def centred (z : Fin 1024 → EReal) (r : Fin 1024) : EReal := z r - Ideal.div (∑ q : Fin 1024, z q) width
def scaled (z : Fin 1024 → EReal) : EReal :=
  Ideal.rsqrt (Ideal.div (∑ q : Fin 1024, centred z q * centred z q) width + raise)

theorem pay9 (a : Vec Ideal S512x2816 .bf16) (w : Vec Ideal S2816x1024 .bf16) (x : Vec Ideal S512x1024 .f32) (g : Vec Ideal S1x1024 .f32)
    (p : Fin 512) (r : Fin 1024) :
    k0_pay9 (F := Ideal) a w x g (ix2 p r) = centred (arg (fun p k => a (ix2 p k)) w (fun p r => x (ix2 p r)) g p) r := by
  unfold centred arg alpha width
  pointwise [k0_pay9, k0_pay8]
theorem pay10 (a : Vec Ideal S512x2816 .bf16) (w : Vec Ideal S2816x1024 .bf16) (x : Vec Ideal S512x1024 .f32) (g : Vec Ideal S1x1024 .f32)
    (p : Fin 512) :
    k0_pay10 (F := Ideal) a w x g (ix2 p 0) = scaled (arg (fun p k => a (ix2 p k)) w (fun p r => x (ix2 p r)) g p) := by
  unfold scaled
  simp only [← pay9]
  unfold k0_pay10 width raise
  generalize k0_pay9 (F := Ideal) a w x g = y
  pointwise
theorem v7_eq (x0 : Vec Ideal S16384x2816 .bf16) (x1 : Vec Ideal S2816x1024 .bf16) (x2 : Vec Ideal S16384x1024 .f32) (x4 : Vec Ideal S1x1024 .f32)
    (t : Fin 16384) (r : Fin 1024) :
    val_main_v7 (F := Ideal) x0 x1 x2 x4 (ix2 t r) = arg (fun p k => x0 (ix2 p k)) x1 (fun p r => x2 (ix2 p r)) x4 t r := by
  unfold arg alpha
  pointwise [val_main_v7, val_main_v6, val_main_v5, val_main_v4, val_main_v3, val_main_v2, val_main_v1, val_main_v0, val_main_cst]
theorem v20_eq (x0 : Vec Ideal S16384x2816 .bf16) (x1 : Vec Ideal S2816x1024 .bf16) (x2 : Vec Ideal S16384x1024 .f32) (x4 : Vec Ideal S1x1024 .f32)
    (t : Fin 16384) (r : Fin 1024) :
    val_main_v20 (F := Ideal) x0 x1 x2 x4 (ix2 t r) = centred (arg (fun p k => x0 (ix2 p k)) x1 (fun p r => x2 (ix2 p r)) x4 t) r := by
  unfold centred width
  simp only [← v7_eq]
  unfold val_main_v20 val_main_v19 val_main_v11 val_main_v9 val_main_v8
  generalize val_main_v7 (F := Ideal) x0 x1 x2 x4 = y
  pointwise [val_main_v10, val_main_cst_1, val_main_cst_0]
theorem v23_eq (x0 : Vec Ideal S16384x2816 .bf16) (x1 : Vec Ideal S2816x1024 .bf16) (x2 : Vec Ideal S16384x1024 .f32) (x4 : Vec Ideal S1x1024 .f32)
    (t : Fin 16384) :
    val_main_v23 (F := Ideal) x0 x1 x2 x4 (ix2 t 0) = scaled (arg (fun p k => x0 (ix2 p k)) x1 (fun p r => x2 (ix2 p r)) x4 t) := by
  unfold scaled
  simp only [← v20_eq]
  have e : val_main_v13 (F := Ideal) x0 x1 x2 x4 = val_main_v20 (F := Ideal) x0 x1 x2 x4 := rfl
  unfold val_main_v23 val_main_v22 val_main_v18 val_main_v16 val_main_v15 val_main_v14 width raise
  rw [e]
  generalize val_main_v20 (F := Ideal) x0 x1 x2 x4 = y
  pointwise [val_main_v17, val_main_cst_3, val_main_cst_2, val_main_v21, val_main_cst_4]

/-- The layer norm's argument less its mean, over its deviation. -/
def normal (z : Fin 1024 → EReal) (r : Fin 1024) : EReal := centred z r * scaled z
/-- The layer norm's result less the target. -/
def miss (z : Fin 1024 → EReal) (y : EReal) (g b : Vec Ideal S1x1024 .f32) (r : Fin 1024) : EReal := normal z r * g (ix2 0 r) + b (ix2 0 r) - y

theorem pay11 (a : Vec Ideal S512x2816 .bf16) (w : Vec Ideal S2816x1024 .bf16) (x : Vec Ideal S512x1024 .f32) (g : Vec Ideal S1x1024 .f32)
    (p : Fin 512) (r : Fin 1024) :
    k0_pay11 (F := Ideal) a w x g (ix2 p r) = normal (arg (fun p k => a (ix2 p k)) w (fun p r => x (ix2 p r)) g p) r := by
  unfold normal
  rw [← pay9, ← pay10]
  unfold k0_pay11
  generalize k0_pay9 (F := Ideal) a w x g = y
  generalize k0_pay10 (F := Ideal) a w x g = y
  pointwise
theorem pay13 (a : Vec Ideal S512x2816 .bf16) (w : Vec Ideal S2816x1024 .bf16) (x : Vec Ideal S512x1024 .f32) (g lg lb : Vec Ideal S1x1024 .f32)
    (y : Vec Ideal S512x1024 .f32) (p : Fin 512) (r : Fin 1024) :
    k0_pay13 (F := Ideal) (k0_pay12 a w x g lg lb) y (ix2 p r)
      = miss (arg (fun p k => a (ix2 p k)) w (fun p r => x (ix2 p r)) g p) (y (ix2 p r)) lg lb r := by
  unfold miss
  rw [← pay11]
  unfold k0_pay13 k0_pay12
  generalize k0_pay11 (F := Ideal) a w x g = z
  pointwise
theorem v25_eq (x0 : Vec Ideal S16384x2816 .bf16) (x1 : Vec Ideal S2816x1024 .bf16) (x2 : Vec Ideal S16384x1024 .f32) (x4 : Vec Ideal S1x1024 .f32)
    (t : Fin 16384) (r : Fin 1024) :
    val_main_v25 (F := Ideal) x0 x1 x2 x4 (ix2 t r) = normal (arg (fun p k => x0 (ix2 p k)) x1 (fun p r => x2 (ix2 p r)) x4 t) r := by
  unfold normal
  rw [← v20_eq, ← v23_eq]
  unfold val_main_v25 val_main_v24
  generalize val_main_v20 (F := Ideal) x0 x1 x2 x4 = y
  generalize val_main_v23 (F := Ideal) x0 x1 x2 x4 = y
  pointwise
theorem v30_eq (x0 : Vec Ideal S16384x2816 .bf16) (x1 : Vec Ideal S2816x1024 .bf16) (x2 x3 : Vec Ideal S16384x1024 .f32) (x4 x5 x6 : Vec Ideal S1x1024 .f32)
    (t : Fin 16384) (r : Fin 1024) :
    val_main_v30 (F := Ideal) x0 x1 x2 x3 x4 x5 x6 (ix2 t r)
      = miss (arg (fun p k => x0 (ix2 p k)) x1 (fun p r => x2 (ix2 p r)) x4 t) (x3 (ix2 t r)) x5 x6 r := by
  unfold miss
  rw [← v25_eq]
  unfold val_main_v30 val_main_v29 val_main_v27
  generalize val_main_v25 (F := Ideal) x0 x1 x2 x4 = y
  pointwise [val_main_v26, val_main_v28]

theorem pay5 (r : Fin 1024) : k0_pay5 (F := Ideal) (ix2 0 r) = 0 := by
  pointwise [k0_pay5]
theorem pay6 (r : Fin 1024) : k0_pay6 (F := Ideal) (ix2 0 r) = 0 := by
  pointwise [k0_pay6]
/-- The share of an entry of the two gradients. -/
theorem pay15 (v y : Vec Ideal S512x1024 .f32) (p : Fin 512) (r : Fin 1024) :
    (k0_pay15 (F := Ideal) v y (ix2 p r) : EReal) = k0_pay13 (F := Ideal) v y (ix2 p r) * Ideal.ofBits .f32 0x3A800000#32 := by
  unfold k0_pay15
  generalize k0_pay13 (F := Ideal) v y = z
  pointwise
theorem pay16 (h v y : Vec Ideal S512x1024 .f32) (acc : Vec Ideal S1x1024 .f32) (r : Fin 1024) :
    k0_pay16 (F := Ideal) h v y acc (ix2 0 r) = acc (ix2 0 r) + ∑ p : Fin 512, k0_pay15 (F := Ideal) v y (ix2 p r) * (h (ix2 p r) : EReal) := by
  unfold k0_pay16
  generalize k0_pay15 (F := Ideal) v y = z
  pointwise
theorem pay17 (v y : Vec Ideal S512x1024 .f32) (acc : Vec Ideal S1x1024 .f32) (r : Fin 1024) :
    k0_pay17 (F := Ideal) v y acc (ix2 0 r) = acc (ix2 0 r) + ∑ p : Fin 512, k0_pay15 (F := Ideal) v y (ix2 p r) := by
  unfold k0_pay17
  generalize k0_pay15 (F := Ideal) v y = z
  pointwise
theorem v51_eq (x0 : Vec Ideal S16384x2816 .bf16) (x1 : Vec Ideal S2816x1024 .bf16) (x2 x3 : Vec Ideal S16384x1024 .f32) (x4 x5 x6 : Vec Ideal S1x1024 .f32)
    (t : Fin 16384) (r : Fin 1024) :
    (val_main_v51 (F := Ideal) x0 x1 x2 x3 x4 x5 x6 (ix2 t r) : EReal)
      = val_main_v30 (F := Ideal) x0 x1 x2 x3 x4 x5 x6 (ix2 t r) * Ideal.ofBits .f32 0x3A800000#32 := by
  unfold val_main_v51 val_main_v33
  generalize val_main_v30 (F := Ideal) x0 x1 x2 x3 x4 x5 x6 = y
  have e : (val_main_v50 (F := Ideal) (ix2 t r) : EReal) = Ideal.div (Ideal.ofBits .f32 0x3F000000#32 * 1) (Ideal.ofBits .f32 0x44800000#32) := by
    pointwise [val_main_v50, val_main_v49, val_main_v48, val_main_cst_12, val_main_v47, val_main_v46, val_main_v45, val_main_v44, val_main_v43,
      val_main_cst_10, val_main_cst_11]
  refine Eq.trans (b := val_main_v50 (F := Ideal) (ix2 t r) * (Ideal.ofBits .f32 0x40000000#32 * (y (ix2 t r) : EReal))) ?_ ?_
  · generalize val_main_v50 (F := Ideal) = u
    pointwise [val_main_v32, val_main_cst_5]
  · rw [e, width_eq, half_eq, two_eq, inv_width_eq, mul_one, Ideal.div_coe (by norm_num), ← EReal.coe_mul, ← mul_assoc, ← EReal.coe_mul,
      mul_comm (G := EReal)]
    congr 2
    norm_num
theorem pay14 (v y : Vec Ideal S512x1024 .f32) (p : Fin 8) (q : Fin 128) :
    (k0_pay14 (F := Ideal) v y (ix3 0 p q) : EReal) = Ideal.ofBits .f32 0x3A000000#32 *
      ∑ p : Fin 512, ∑ r : Fin 1024, (k0_pay13 (F := Ideal) v y (ix2 p r) * k0_pay13 (F := Ideal) v y (ix2 p r) : EReal) := by
  unfold k0_pay14
  generalize k0_pay13 (F := Ideal) v y = z
  pointwise
theorem v42_eq (x0 : Vec Ideal S16384x2816 .bf16) (x1 : Vec Ideal S2816x1024 .bf16) (x2 x3 : Vec Ideal S16384x1024 .f32) (x4 x5 x6 : Vec Ideal S1x1024 .f32)
    (h : Fin 32) (p : Fin 8) (q : Fin 128) :
    (val_main_v42 (F := Ideal) x0 x1 x2 x3 x4 x5 x6 (ix3 h p q) : EReal)
      = Ideal.ofBits .f32 0x3F000000#32 * ∑ p : Fin 512, Ideal.div (∑ r : Fin 1024,
          (val_main_v30 (F := Ideal) x0 x1 x2 x3 x4 x5 x6 (ix2 ⟨h * 512 + p, by omega⟩ r)
            * val_main_v30 (F := Ideal) x0 x1 x2 x3 x4 x5 x6 (ix2 ⟨h * 512 + p, by omega⟩ r) : EReal)) (Ideal.ofBits .f32 0x44800000#32) := by
  unfold val_main_v42 val_main_v41 val_main_v40 val_main_v38 val_main_v37 val_main_v36 val_main_v34 val_main_v31
  generalize val_main_v30 (F := Ideal) x0 x1 x2 x3 x4 x5 x6 = y
  pointwise [val_main_v39, val_main_cst_9, val_main_cst_8, val_main_v35, val_main_cst_7, val_main_cst_6]

/-- A constant factor moves into a sum. -/
theorem const_mul_sum {n : ℕ} (x : ℝ) (hx : 0 ≤ x) (f : Fin n → EReal) : (x : EReal) * ∑ i, f i = ∑ i, (x : EReal) * f i := by
  classical
  induction (Finset.univ : Finset (Fin n)) using Finset.induction_on with
  | empty => simp
  | insert a s ha ih =>
    rw [Finset.sum_insert ha, Finset.sum_insert ha, EReal.left_distrib_of_nonneg_of_ne_top (by exact_mod_cast hx) (EReal.coe_ne_top x), ih]

/-- Half the sum of the tokens' means is the sum of the squares over twice the width. -/
theorem loss_eq {n : ℕ} (f : Fin n → Fin 1024 → EReal) :
    Ideal.ofBits .f32 0x3A000000#32 * (∑ p : Fin n, ∑ r : Fin 1024, f p r)
      = Ideal.ofBits .f32 0x3F000000#32 * ∑ p : Fin n, Ideal.div (∑ r : Fin 1024, f p r) (Ideal.ofBits .f32 0x44800000#32) := by
  rw [half_inv_width_eq, half_eq, width_eq, const_mul_sum _ (by norm_num), const_mul_sum _ (by norm_num)]
  refine Finset.sum_congr rfl fun p _ => ?_
  rw [Ideal.div_coe (by norm_num), mul_comm (G := EReal) (∑ r : Fin 1024, f p r), ← mul_assoc, ← EReal.coe_mul]
  congr 2
  norm_num

variable (m : (ℓ : Loc nD τ sig) → Buf (Elt Ideal) ℓ) (c : Dev nD)

theorem idx : ∀ t : Fin cfg0.N, win0_0.index t = ![t.val, 0] ∧ win0_1.index t = ![0, 0]
    ∧ win0_2.index t = ![t.val, 0] ∧ win0_3.index t = ![t.val, 0] ∧ win0_4.index t = ![0, 0] ∧ win0_5.index t = ![0, 0] ∧ win0_6.index t = ![0, 0]
    ∧ win0_7.index t = ![t.val, 0, 0] ∧ win0_10.index t = ![0, 0] ∧ win0_11.index t = ![0, 0] :=
  (by decide +kernel : ∀ t : Fin grid0.N, _)

theorem pt_lt (t : Fin cfg0.N) : t.val < 32 := lt_of_lt_of_eq t.2 (show cfg0.N = 32 from N_0)

/-- The token of a row of a point's tile. -/
abbrev row (n : ℕ) (p : Fin 512) : Fin 16384 := ⟨(n * 512 + p) % 16384, Nat.mod_lt _ (by decide)⟩

/-- The call's arguments. -/
abbrev a0 : Vec Ideal S16384x2816 .bf16 := m ((c : Thread nD τ).loc main_arg0)
abbrev a1 : Vec Ideal S2816x1024 .bf16 := m ((c : Thread nD τ).loc main_arg1)
abbrev a2 : Vec Ideal S16384x1024 .f32 := m ((c : Thread nD τ).loc main_arg2)
abbrev a3 : Vec Ideal S16384x1024 .f32 := m ((c : Thread nD τ).loc main_arg3)
abbrev a4 : Vec Ideal S1x1024 .f32 := m ((c : Thread nD τ).loc main_arg4)
abbrev a5 : Vec Ideal S1x1024 .f32 := m ((c : Thread nD τ).loc main_arg5)
abbrev a6 : Vec Ideal S1x1024 .f32 := m ((c : Thread nD τ).loc main_arg6)

theorem blk0 (t : Fin cfg0.N) (p : Fin 512) (r : Fin 2816) : iblk m c 0 t (ix2 p r) = a0 m c (ix2 (row t.val p) r) := by
  have ht := pt_lt t
  have e : iblk m c 0 t (ix2 p r) = V m c main_arg0 ((win0_0.blk t).view.emb (ix2 p r)) := by
    unfold iblk; generalize V m c = X; unfold View.read; exact cast_eq _ _
  refine e.trans ((congrFun (V_main_arg0 m c) _).trans (congrArg (a0 m c) (funext fun d => Fin.ext ?_)))
  fin_cases d
  · blk_simp [(idx t).1]
    show t.val * 512 + p.val = (t.val * 512 + p.val) % 16384
    omega
  · blk_simp [(idx t).1]
    rfl
theorem blk1 (t : Fin cfg0.N) : iblk m c 1 t = a1 m c := by
  funext i
  obtain ⟨p, r, rfl⟩ : ∃ (p : Fin 2816) (r : Fin 1024), i = ix2 p r := ⟨i 0, i 1, eq_ix2 i⟩
  have e : iblk m c 1 t (ix2 p r) = V m c main_arg1 ((win0_1.blk t).view.emb (ix2 p r)) := by
    unfold iblk; generalize V m c = X; unfold View.read; exact cast_eq _ _
  refine e.trans ((congrFun (V_main_arg1 m c) _).trans (congrArg (a1 m c) (funext fun d => Fin.ext ?_)))
  fin_cases d
  · blk_simp [(idx t).2.1]
  · blk_simp [(idx t).2.1]
theorem blk2 (t : Fin cfg0.N) (p : Fin 512) (r : Fin 1024) : iblk m c 2 t (ix2 p r) = a2 m c (ix2 (row t.val p) r) := by
  have ht := pt_lt t
  have e : iblk m c 2 t (ix2 p r) = V m c main_arg2 ((win0_2.blk t).view.emb (ix2 p r)) := by
    unfold iblk; generalize V m c = X; unfold View.read; exact cast_eq _ _
  refine e.trans ((congrFun (V_main_arg2 m c) _).trans (congrArg (a2 m c) (funext fun d => Fin.ext ?_)))
  fin_cases d
  · blk_simp [(idx t).2.2.1]
    show t.val * 512 + p.val = (t.val * 512 + p.val) % 16384
    omega
  · blk_simp [(idx t).2.2.1]
    rfl
theorem blk3 (t : Fin cfg0.N) (p : Fin 512) (r : Fin 1024) : iblk m c 3 t (ix2 p r) = a3 m c (ix2 (row t.val p) r) := by
  have ht := pt_lt t
  have e : iblk m c 3 t (ix2 p r) = V m c main_arg3 ((win0_3.blk t).view.emb (ix2 p r)) := by
    unfold iblk; generalize V m c = X; unfold View.read; exact cast_eq _ _
  refine e.trans ((congrFun (V_main_arg3 m c) _).trans (congrArg (a3 m c) (funext fun d => Fin.ext ?_)))
  fin_cases d
  · blk_simp [(idx t).2.2.2.1]
    show t.val * 512 + p.val = (t.val * 512 + p.val) % 16384
    omega
  · blk_simp [(idx t).2.2.2.1]
    rfl
theorem blk4 (t : Fin cfg0.N) : iblk m c 4 t = a4 m c := by
  funext i
  obtain ⟨p, r, rfl⟩ : ∃ (p : Fin 1) (r : Fin 1024), i = ix2 p r := ⟨i 0, i 1, eq_ix2 i⟩
  have e : iblk m c 4 t (ix2 p r) = V m c main_arg4 ((win0_4.blk t).view.emb (ix2 p r)) := by
    unfold iblk; generalize V m c = X; unfold View.read; exact cast_eq _ _
  refine e.trans ((congrFun (V_main_arg4 m c) _).trans (congrArg (a4 m c) (funext fun d => Fin.ext ?_)))
  fin_cases d
  · blk_simp [(idx t).2.2.2.2.1]
  · blk_simp [(idx t).2.2.2.2.1]
theorem blk5 (t : Fin cfg0.N) : iblk m c 5 t = a5 m c := by
  funext i
  obtain ⟨p, r, rfl⟩ : ∃ (p : Fin 1) (r : Fin 1024), i = ix2 p r := ⟨i 0, i 1, eq_ix2 i⟩
  have e : iblk m c 5 t (ix2 p r) = V m c main_arg5 ((win0_5.blk t).view.emb (ix2 p r)) := by
    unfold iblk; generalize V m c = X; unfold View.read; exact cast_eq _ _
  refine e.trans ((congrFun (V_main_arg5 m c) _).trans (congrArg (a5 m c) (funext fun d => Fin.ext ?_)))
  fin_cases d
  · blk_simp [(idx t).2.2.2.2.2.1]
  · blk_simp [(idx t).2.2.2.2.2.1]
theorem blk6 (t : Fin cfg0.N) : iblk m c 6 t = a6 m c := by
  funext i
  obtain ⟨p, r, rfl⟩ : ∃ (p : Fin 1) (r : Fin 1024), i = ix2 p r := ⟨i 0, i 1, eq_ix2 i⟩
  have e : iblk m c 6 t (ix2 p r) = V m c main_arg6 ((win0_6.blk t).view.emb (ix2 p r)) := by
    unfold iblk; generalize V m c = X; unfold View.read; exact cast_eq _ _
  refine e.trans ((congrFun (V_main_arg6 m c) _).trans (congrArg (a6 m c) (funext fun d => Fin.ext ?_)))
  fin_cases d
  · blk_simp [(idx t).2.2.2.2.2.2.1]
  · blk_simp [(idx t).2.2.2.2.2.2.1]

/-- A point's layer norm, and its difference from the target, are the reference's on the point's rows. -/
theorem normal_row (t : Fin cfg0.N) (p : Fin 512) (r : Fin 1024) :
    (k0_pay11 (F := Ideal) (iblk m c 0 t) (iblk m c 1 t) (iblk m c 2 t) (iblk m c 4 t)) (ix2 p r) = val_main_v25 (F := Ideal) (a0 m c) (a1 m c) (a2 m c) (a4 m c) (ix2 (row t.val p) r) := by
  rw [pay11, v25_eq, blk1, blk4]
  unfold arg
  simp only [blk0, blk2]
theorem miss_row (t : Fin cfg0.N) (p : Fin 512) (r : Fin 1024) :
    k0_pay13 (F := Ideal) (k0_pay12 (F := Ideal) (iblk m c 0 t) (iblk m c 1 t) (iblk m c 2 t) (iblk m c 4 t) (iblk m c 5 t) (iblk m c 6 t)) (iblk m c 3 t) (ix2 p r)
      = val_main_v30 (F := Ideal) (a0 m c) (a1 m c) (a2 m c) (a3 m c) (a4 m c) (a5 m c) (a6 m c) (ix2 (row t.val p) r) := by
  rw [pay13, v30_eq, blk1, blk3, blk4, blk5, blk6]
  unfold arg
  simp only [blk0, blk2]
theorem share_row (t : Fin cfg0.N) (p : Fin 512) (r : Fin 1024) :
    k0_pay15 (F := Ideal) (k0_pay12 (F := Ideal) (iblk m c 0 t) (iblk m c 1 t) (iblk m c 2 t) (iblk m c 4 t) (iblk m c 5 t) (iblk m c 6 t)) (iblk m c 3 t) (ix2 p r)
      = val_main_v51 (F := Ideal) (a0 m c) (a1 m c) (a2 m c) (a3 m c) (a4 m c) (a5 m c) (a6 m c) (ix2 (row t.val p) r) := by
  rw [pay15, v51_eq, miss_row]

/-- A tile's part of a sum over tokens. -/
def partOf (f : Fin 1024 → Fin 16384 → EReal) (n : ℕ) (i : S1x1024.Idx) : EReal := ∑ p : Fin 512, f (i 1) (row n p)

/-- One token's share of an entry of the gradient of the gain and of the bias. -/
def ofGain (r : Fin 1024) (t : Fin 16384) : EReal :=
  val_main_v51 (F := Ideal) (a0 m c) (a1 m c) (a2 m c) (a3 m c) (a4 m c) (a5 m c) (a6 m c) (ix2 t r) * val_main_v25 (F := Ideal) (a0 m c) (a1 m c) (a2 m c) (a4 m c) (ix2 t r)
def ofBias (r : Fin 1024) (t : Fin 16384) : EReal := val_main_v51 (F := Ideal) (a0 m c) (a1 m c) (a2 m c) (a3 m c) (a4 m c) (a5 m c) (a6 m c) (ix2 t r)

/-- The thirty-two tiles' parts are the sum over all tokens. -/
theorem sum_rows (f : Fin 16384 → EReal) :
    (∑ n ∈ Finset.range 32, ∑ p : Fin 512, f (row n p)) = ∑ t : Fin 16384, f t := by
  rw [← sum_tiles 32 512 16384 rfl f]
  refine Finset.sum_congr rfl fun k hk => Finset.sum_congr rfl fun p _ => ?_
  have hk := Finset.mem_range.1 hk
  rw [beyond_of_lt f (show k * 512 + p.val < 16384 by omega)]
  congr 1
  apply Fin.ext
  show (k * 512 + p.val) % 16384 = k * 512 + p.val
  omega

/-- What starts at zero and takes each tile's part ends as the sum over all tokens. -/
theorem total (acc : (n : ℕ) → n < cfg0.N → Vec Ideal S1x1024 .f32) (f : Fin 1024 → Fin 16384 → EReal)
    (first : ∀ t : Fin cfg0.N, t.val % 32 = 0 → ∀ i, (acc t.val t.isLt i : EReal) = 0 + partOf f t.val i)
    (next : ∀ t : Fin cfg0.N, ¬t.val % 32 = 0 → ∀ i,
      (acc t.val t.isLt i : EReal) = acc (t.val - 1) (Nat.lt_of_le_of_lt (Nat.sub_le _ _) t.isLt) i + partOf f t.val i)
    (t : Fin cfg0.N) (h : t.val % 32 = 31) (r : Fin 1024) : (acc t.val t.isLt (ix2 0 r) : EReal) = ∑ q : Fin 16384, f r q := by
  have ht := pt_lt t
  rw [Pipeline.eq_sum_of_reset_step_apply_of_mod (M := EReal) acc 32 (fun _ => 0) (partOf f) first next t (r := 31) (by omega) (ix2 0 r),
    zero_add, ← sum_rows]
  refine Finset.sum_congr rfl fun n _ => ?_
  rw [show 32 * (t.val / 32) + n = n by omega]
  rfl

theorem gain_first (t : Fin cfg0.N) (h : t.val % 32 = 0) (i : S1x1024.Idx) :
    ((outsAt0 m c t.val t.isLt).2.2.2.1 i : EReal) = 0 + partOf (ofGain m c) t.val i := by
  obtain ⟨z, r, rfl⟩ : ∃ (z : Fin 1) (r : Fin 1024), i = ix2 z r := ⟨i 0, i 1, eq_ix2 i⟩
  obtain rfl : z = 0 := Subsingleton.elim _ _
  rw [outsAt0_A m c t h]
  frame_out
  refine (pay16 _ _ _ _ r).trans (congrArg₂ (fun a b : EReal => a + b) ?_ (Finset.sum_congr rfl fun p _ => ?_))
  · exact pay5 r
  · exact congrArg₂ (fun a b : EReal => a * b) (share_row m c t p r) (normal_row m c t p r)

theorem gain_next (t : Fin cfg0.N) (h : ¬t.val % 32 = 0) (i : S1x1024.Idx) :
    ((outsAt0 m c t.val t.isLt).2.2.2.1 i : EReal)
      = (outsAt0 m c (t.val - 1) (Nat.lt_of_le_of_lt (Nat.sub_le _ _) t.isLt)).2.2.2.1 i + partOf (ofGain m c) t.val i := by
  obtain ⟨z, r, rfl⟩ : ∃ (z : Fin 1) (r : Fin 1024), i = ix2 z r := ⟨i 0, i 1, eq_ix2 i⟩
  obtain rfl : z = 0 := Subsingleton.elim _ _
  rw [outsAt0_B m c t h]
  frame_out
  refine (pay16 _ _ _ _ r).trans (congrArg₂ (fun a b : EReal => a + b) ?_ (Finset.sum_congr rfl fun p _ => ?_))
  · rfl
  · exact congrArg₂ (fun a b : EReal => a * b) (share_row m c t p r) (normal_row m c t p r)

/-- The gradient of the gain. -/
def G10 : Vec Ideal S1x1024 .f32 := val_main_v56 (F := Ideal) (a0 m c) (a1 m c) (a2 m c) (a3 m c) (a4 m c) (a5 m c) (a6 m c)

/-- An entry of the gradient of the gain. -/
theorem reference_gain (r : Fin 1024) : (G10 m c (ix2 0 r) : EReal) = ∑ q : Fin 16384, ofGain m c r q := by
  have e : (G10 m c (ix2 0 r) : EReal) = ∑ q : Fin 16384, (val_main_v54 (F := Ideal) (a0 m c) (a1 m c) (a2 m c) (a3 m c) (a4 m c) (a5 m c) (a6 m c) (ix2 q r) : EReal) := by
    unfold G10 val_main_v56 val_main_v55
    generalize val_main_v54 (F := Ideal) (a0 m c) (a1 m c) (a2 m c) (a3 m c) (a4 m c) (a5 m c) (a6 m c) = y
    pointwise [val_main_cst_14]
  refine e.trans (Finset.sum_congr rfl fun q _ => ?_)
  show (val_main_v25 (F := Ideal) (a0 m c) (a1 m c) (a2 m c) (a4 m c) (ix2 q r) : EReal) * val_main_v51 (F := Ideal) (a0 m c) (a1 m c) (a2 m c) (a3 m c) (a4 m c) (a5 m c) (a6 m c) (ix2 q r) = _
  exact mul_comm (G := EReal) _ _

/-- What the call leaves as the gradient of the gain. -/
theorem final10 : (dats m 0 c).arrAt 10 cfg0.N = G10 m c := by
  refine (dats m 0 c).arrAt_eq_of_covers 10 _ (by decide +kernel) fun t hf y => ?_
  have h := (flush0_10 t).1 hf
  blk_simp
  rw [after0_10]
  obtain ⟨z, r, rfl⟩ : ∃ (z : Fin 1) (r : Fin 1024), y = ix2 z r := ⟨y 0, y 1, eq_ix2 y⟩
  obtain rfl : z = 0 := Subsingleton.elim _ _
  have e : (win0_10.blk t).view.emb (ix2 0 r) = ix2 0 r := by
    refine funext fun d => Fin.ext ?_
    fin_cases d
    · blk_simp [(idx t).2.2.2.2.2.2.2.2.1]
    · blk_simp [(idx t).2.2.2.2.2.2.2.2.1]
  refine Eq.trans ?_ (congrArg (G10 m c) e.symm)
  rw [reference_gain]
  exact total (fun n h => (outsAt0 m c n h).2.2.2.1) (ofGain m c) (gain_first m c) (gain_next m c) t h r

theorem bias_first (t : Fin cfg0.N) (h : t.val % 32 = 0) (i : S1x1024.Idx) :
    ((outsAt0 m c t.val t.isLt).2.2.2.2.1 i : EReal) = 0 + partOf (ofBias m c) t.val i := by
  obtain ⟨z, r, rfl⟩ : ∃ (z : Fin 1) (r : Fin 1024), i = ix2 z r := ⟨i 0, i 1, eq_ix2 i⟩
  obtain rfl : z = 0 := Subsingleton.elim _ _
  rw [outsAt0_A m c t h]
  frame_out
  refine (pay17 _ _ _ r).trans (congrArg₂ (fun a b : EReal => a + b) ?_ (Finset.sum_congr rfl fun p _ => ?_))
  · exact pay6 r
  · exact share_row m c t p r

theorem bias_next (t : Fin cfg0.N) (h : ¬t.val % 32 = 0) (i : S1x1024.Idx) :
    ((outsAt0 m c t.val t.isLt).2.2.2.2.1 i : EReal)
      = (outsAt0 m c (t.val - 1) (Nat.lt_of_le_of_lt (Nat.sub_le _ _) t.isLt)).2.2.2.2.1 i + partOf (ofBias m c) t.val i := by
  obtain ⟨z, r, rfl⟩ : ∃ (z : Fin 1) (r : Fin 1024), i = ix2 z r := ⟨i 0, i 1, eq_ix2 i⟩
  obtain rfl : z = 0 := Subsingleton.elim _ _
  rw [outsAt0_B m c t h]
  frame_out
  refine (pay17 _ _ _ r).trans (congrArg₂ (fun a b : EReal => a + b) ?_ (Finset.sum_congr rfl fun p _ => ?_))
  · rfl
  · exact share_row m c t p r

/-- The gradient of the bias. -/
def G11 : Vec Ideal S1x1024 .f32 := val_main_v53 (F := Ideal) (a0 m c) (a1 m c) (a2 m c) (a3 m c) (a4 m c) (a5 m c) (a6 m c)

/-- An entry of the gradient of the bias. -/
theorem reference_bias (r : Fin 1024) : (G11 m c (ix2 0 r) : EReal) = ∑ q : Fin 16384, ofBias m c r q := by
  have e : (G11 m c (ix2 0 r) : EReal) = ∑ q : Fin 16384, (val_main_v51 (F := Ideal) (a0 m c) (a1 m c) (a2 m c) (a3 m c) (a4 m c) (a5 m c) (a6 m c) (ix2 q r) : EReal) := by
    unfold G11 val_main_v53 val_main_v52
    generalize val_main_v51 (F := Ideal) (a0 m c) (a1 m c) (a2 m c) (a3 m c) (a4 m c) (a5 m c) (a6 m c) = y
    pointwise [val_main_cst_13]
  refine e.trans (Finset.sum_congr rfl fun q _ => ?_)
  rfl

/-- What the call leaves as the gradient of the bias. -/
theorem final11 : (dats m 0 c).arrAt 11 cfg0.N = G11 m c := by
  refine (dats m 0 c).arrAt_eq_of_covers 11 _ (by decide +kernel) fun t hf y => ?_
  have h := (flush0_11 t).1 hf
  blk_simp
  rw [after0_11]
  obtain ⟨z, r, rfl⟩ : ∃ (z : Fin 1) (r : Fin 1024), y = ix2 z r := ⟨y 0, y 1, eq_ix2 y⟩
  obtain rfl : z = 0 := Subsingleton.elim _ _
  have e : (win0_11.blk t).view.emb (ix2 0 r) = ix2 0 r := by
    refine funext fun d => Fin.ext ?_
    fin_cases d
    · blk_simp [(idx t).2.2.2.2.2.2.2.2.2]
    · blk_simp [(idx t).2.2.2.2.2.2.2.2.2]
  refine Eq.trans ?_ (congrArg (G11 m c) e.symm)
  rw [reference_bias]
  exact total (fun n h => (outsAt0 m c n h).2.2.2.2.1) (ofBias m c) (bias_first m c) (bias_next m c) t h r

/-- The loss of every tile. -/
def G7 : Vec Ideal S32x8x128 .f32 := val_main_v42 (F := Ideal) (a0 m c) (a1 m c) (a2 m c) (a3 m c) (a4 m c) (a5 m c) (a6 m c)

/-- A point's loss is the reference's loss of the tile. -/
theorem loss_block (t : Fin cfg0.N) (p : Fin 8) (q : Fin 128) :
    (k0_pay14 (F := Ideal) (k0_pay12 (F := Ideal) (iblk m c 0 t) (iblk m c 1 t) (iblk m c 2 t) (iblk m c 4 t) (iblk m c 5 t) (iblk m c 6 t)) (iblk m c 3 t) (ix3 0 p q) : EReal) = G7 m c (ix3 ⟨t.val, pt_lt t⟩ p q) := by
  have ht := pt_lt t
  refine Eq.trans ?_ (v42_eq _ _ _ _ _ _ _ _ _ _).symm
  rw [pay14, loss_eq]
  have hr : ∀ p : Fin 512, row t.val p = ⟨t.val * 512 + p.val, by omega⟩ := fun p => Fin.ext (Nat.mod_eq_of_lt (by omega))
  simp only [miss_row, hr]

/-- What the call leaves as the loss. -/
theorem final7 : (dats m 0 c).arrAt 7 cfg0.N = G7 m c := by
  refine (dats m 0 c).arrAt_eq_of_covers 7 _ (by decide +kernel) fun t hf y => ?_
  blk_simp
  rw [after0_7]
  obtain ⟨z, p, q, rfl⟩ : ∃ (z : Fin 1) (p : Fin 8) (q : Fin 128), y = ix3 z p q := ⟨y 0, y 1, y 2, eq_ix3 y⟩
  obtain rfl : z = 0 := Subsingleton.elim _ _
  have e : (win0_7.blk t).view.emb (ix3 0 p q) = ix3 ⟨t.val, pt_lt t⟩ p q := by
    refine funext fun d => Fin.ext ?_
    fin_cases d
    · blk_simp [(idx t).2.2.2.2.2.2.2.1]
      rfl
    · blk_simp [(idx t).2.2.2.2.2.2.2.1]
      rfl
    · blk_simp [(idx t).2.2.2.2.2.2.2.1]
      rfl
  refine Eq.trans ?_ (congrArg (G7 m c) e.symm)
  by_cases h : t.val % 32 = 0
  · rw [outsAt0_A m c t h]
    frame_out
    exact loss_block m c t p q
  · rw [outsAt0_B m c t h]
    frame_out
    exact loss_block m c t p q

/-- The run, with its results named. -/
theorem run (ρ : Dev nD → PrngReg) : θ_run defs (onTc (τ := τ) (main (F := Ideal))) ⟨m, fun _ => 0, ρ⟩ fun r => ∀ c : Dev nD,
      r.2.mem ((c : Thread nD τ).loc main_v0_0) = G7 m c
      ∧ r.2.mem ((c : Thread nD τ).loc main_v0_3) = G10 m c
      ∧ r.2.mem ((c : Thread nD τ).loc main_v0_4) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.2.2.1.trans (final10 m c), (h c).2.2.2.2.1.trans (final11 m c),
    (h c).2.2.2.2.2.2⟩) (run_blocks m ρ)

end Cert.Kernel12Ideal.Product

end
-- ==== Proof.ConvRows.lean ====
/-
  Rows of a convolution of three taps over tokens, taken in eight tiles of 2048 rows: the rows before and after, from the
  tile shifted by one and the neighbouring tiles' edges.
-/
module

public import Idealize.ShloMosaic.Lib.Pointwise
public import Idealize.ShloMosaic.Lib.WordCmp
public import Idealize.ShloMosaic.Lib.Pipeline.Value

@[expose] public section

set_option maxRecDepth 16384

noncomputable section

namespace Cert.ConvRows

open Idealize.ShloMosaic

/-- The token before, and after: zero beyond the ends. -/
def before (f : Fin 16384 → EReal) (t : Fin 16384) : EReal := if h : t.val < 1 then 0 else f ⟨t.val - 1, by omega⟩
def after (f : Fin 16384 → EReal) (t : Fin 16384) : EReal := if h : t.val < 16383 then f ⟨1 + t.val, by omega⟩ else 0

/-- Token `p` of tile `n`, and column `q` of tile `n`. -/
def row (n : ℕ) (p : Fin 2048) : Fin 16384 := ⟨n % 8 * 2048 + p.val, by omega⟩
def col (n : ℕ) (h : n < 88) (q : Fin 256) : Fin 2816 := ⟨n / 8 * 256 + q.val, by omega⟩

/-- Three taps on the tokens before, at and after, and a bias. -/
def conv (w0 w1 w2 b : EReal) (f : Fin 16384 → EReal) (t : Fin 16384) : EReal := w0 * before f t + w1 * f t + w2 * after f t + b
/-- The gradient of the convolution in its input: the same taps, the other way round. -/
def back (w0 w1 w2 : EReal) (f : Fin 16384 → EReal) (t : Fin 16384) : EReal := w0 * after f t + w1 * f t + w2 * before f t
/-- A gate's activation, times a value. -/
def swiglu (g v : EReal) : EReal := g * Ideal.div 1 (1 + Ideal.exp (-g)) * v

theorem select_ofNat (a b : ℕ) (ha : a < 2 ^ 32) (hb : b < 2 ^ 32) (x y : EReal) :
    Scalar.select (IntOp.cmpi .eq (BitVec.ofNat 32 a) (BitVec.ofNat 32 b)) x y = if a = b then x else y := by
  have e : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · rintro rfl; rfl
  show (if BitVec.ofBool (BitVec.ofNat 32 a == BitVec.ofNat 32 b) = 1 then x else y) = _
  by_cases h : a = b
  · subst h; simp
  · rw [if_neg h, beq_eq_false_iff_ne.2 (fun g => h (e.1 g))]; rfl

/-- The tile shifted down by one, the edge of the tile before in its first row, is the token before. -/
theorem shift_before (f : Fin 16384 → EReal) (n : ℕ) (u : Fin 2048 → EReal) (e : EReal) (hu : ∀ p, u p = f (row n p))
    (he : n % 8 ≠ 0 → e = f ⟨n % 8 * 2048 - 1, by omega⟩) (p : Fin 2048) :
    Scalar.select (IntOp.cmpi .eq (BitVec.ofNat 32 p.val) 0#32) (Scalar.select (IntOp.cmpi .eq (BitVec.ofNat 32 (n % 8)) 0#32) 0 e)
      (u ⟨(p.val + 2048 - 1) % 2048, Nat.mod_lt _ (by decide)⟩) = before f (row n p) := by
  rw [select_ofNat p.val 0 (by omega) (by omega), select_ofNat (n % 8) 0 (by omega) (by omega), hu]
  unfold before row
  have hp := p.2
  by_cases h : p.val = 0
  · rw [if_pos h]
    by_cases g : n % 8 = 0
    · rw [if_pos g, dif_pos (by simp only; omega)]
    · rw [if_neg g, dif_neg (by simp only; omega), he g]
      congr 1; apply Fin.ext; simp only; omega
  · rw [if_neg h, dif_neg (by simp only; omega)]
    congr 1; apply Fin.ext; simp only; omega

/-- The tile shifted up by one, the edge of the tile after in its last row, is the token after. -/
theorem shift_after (f : Fin 16384 → EReal) (n : ℕ) (u : Fin 2048 → EReal) (e : EReal) (hu : ∀ p, u p = f (row n p))
    (he : n % 8 ≠ 7 → ∀ h, e = f ⟨(n % 8 + 1) * 2048, h⟩) (p : Fin 2048) :
    Scalar.select (IntOp.cmpi .eq (BitVec.ofNat 32 p.val) 2047#32) (Scalar.select (IntOp.cmpi .eq (BitVec.ofNat 32 (n % 8)) 7#32) 0 e)
      (u ⟨(p.val + 2048 - 2047) % 2048, Nat.mod_lt _ (by decide)⟩) = after f (row n p) := by
  rw [select_ofNat p.val 2047 (by omega) (by omega), select_ofNat (n % 8) 7 (by omega) (by omega), hu]
  unfold after row
  have hp := p.2
  by_cases h : p.val = 2047
  · rw [if_pos h]
    by_cases g : n % 8 = 7
    · rw [if_pos g, dif_neg (by simp only; omega)]
    · rw [if_neg g, dif_pos (by simp only; omega), he g (by omega)]
      congr 1; apply Fin.ext; simp only; omega
  · rw [if_neg h, dif_pos (by simp only; omega)]
    congr 1; apply Fin.ext; simp only; omega
/-- The logistic function, and the gradients of a gate and of a value from the gradient of their product. -/
def sigma (g : EReal) : EReal := Ideal.div 1 (1 + Ideal.exp (-g))
def gateGrad (d g v : EReal) : EReal := d * v * sigma g * (1 + g * (1 - sigma g))
def valGrad (d g : EReal) : EReal := d * g * sigma g

end Cert.ConvRows

end
-- ==== Proof.Act.lean ====
/-
  The ConvFFN's convolution and activation: each point's block, its rows' neighbours from the tiles beside it, is the
  reference's convolution with its gate.
-/
module

public import proofs.«01_k».proof.Proof.ConvRows
public import proofs.«01_k».proof.Proof.Gen.Kernel13Ideal.Value
public import proofs.«01_k».proof.Proof.Gen.Reference13Ideal.Read
public import Idealize.ShloMosaic.Lib.Pipeline.ValueKit

@[expose] public section

set_option maxRecDepth 16384

noncomputable section

namespace Cert.Kernel13Ideal.Act

open Idealize.ShloMosaic Idealize.ShloMosaic.TcCoe Idealize.SL.Sem
open Cert.Kernel13Ideal Cert.Kernel13Ideal.Gen Cert.Kernel13Ideal.Value
open Cert.Reference13Ideal.Read Cert.ConvRows

/-- The rows before and after, from the tile and its neighbours' edges. -/
theorem pay12 (a : BitVec 32) (v : Vec Ideal S1x2048x256 .bf16) (e : Vec Ideal S1x1x256 .bf16) (p : Fin 2048) (q : Fin 256) :
    (k0_pay12 (F := Ideal) a v e (ix2 p q) : EReal) = Scalar.select (IntOp.cmpi .eq (BitVec.ofNat 32 p.val) 0#32) (Scalar.select (IntOp.cmpi .eq a 0#32) 0 (e (ix3 0 0 q) : EReal))
      (v (ix3 0 ⟨(p.val + 2048 - 1) % 2048, Nat.mod_lt _ (by decide)⟩ q) : EReal) := by
  unfold k0_pay12
  pointwise [k0_pay8]
  rfl
theorem pay9 (a : BitVec 32) (e : Vec Ideal S1x1x256 .bf16) (q : Fin 256) :
    (k0_pay9 (F := Ideal) a e (ix2 0 q) : EReal) = Scalar.select (IntOp.cmpi .eq a 7#32) 0 (e (ix3 0 0 q) : EReal) := by
  unfold k0_pay9
  pointwise
  rfl
theorem pay6 (i : grid0.Coords) (v : Vec Ideal S1x2048x256 .bf16) (e : Vec Ideal S1x1x256 .bf16) (w : Vec Ideal S1x3x256 .f32) (p : Fin 2048) (q : Fin 256) :
    (k0_pay6 (F := Ideal) i v e w (ix2 p q) : EReal) = w (ix3 0 0 q) * Scalar.select (IntOp.cmpi .eq (BitVec.ofNat 32 p.val) 0#32) (Scalar.select (IntOp.cmpi .eq (BitVec.ofNat 32 (i 1).val) 0#32) 0 (e (ix3 0 0 q) : EReal))
      (v (ix3 0 ⟨(p.val + 2048 - 1) % 2048, Nat.mod_lt _ (by decide)⟩ q) : EReal) := by
  unfold k0_pay6
  pointwise [k0_pay2, k0_pay3]
  rfl
theorem pay5 (i : grid0.Coords) (v : Vec Ideal S1x2048x256 .bf16) (e : Vec Ideal S1x1x256 .bf16) (p : Fin 2048) (q : Fin 256) :
    (k0_pay5 (F := Ideal) i v e (ix2 p q) : EReal) = Scalar.select (IntOp.cmpi .eq (BitVec.ofNat 32 p.val) 2047#32) (Scalar.select (IntOp.cmpi .eq (BitVec.ofNat 32 (i 1).val) 7#32) 0 (e (ix3 0 0 q) : EReal))
      (v (ix3 0 ⟨(p.val + 2048 - 2047) % 2048, Nat.mod_lt _ (by decide)⟩ q) : EReal) := by
  unfold k0_pay5
  pointwise [k0_pay2]
  rfl
theorem pay7 (v : Vec Ideal S1x2048x256 .bf16) (w : Vec Ideal S1x3x256 .f32) (b : Vec Ideal S1x1x256 .f32) (x y : FVec Ideal S2048x256 .f32) (p : Fin 2048) (q : Fin 256) :
    (k0_pay7 (F := Ideal) (k0_pay2 v) (k0_pay3 w) (k0_pay4 b) x y (ix2 p q) : EReal)
      = y (ix2 p q) + w (ix3 0 1 q) * v (ix3 0 p q) + w (ix3 0 2 q) * x (ix2 p q) + b (ix3 0 0 q) := by
  unfold k0_pay7
  pointwise [k0_pay2, k0_pay3, k0_pay4]

/-- What a point writes. -/
theorem pay1 (g v70 : FVec Ideal S2048x256 .f32) (v : Vec Ideal S1x2048x256 .bf16) (e : FVec Ideal S1x256 .f32) (w : Vec Ideal S1x3x256 .f32) (b : Vec Ideal S1x1x256 .f32)
    (p : Fin 2048) (q : Fin 256) :
    (k0_pay1 (F := Ideal) g (k0_pay8 v) e (k0_pay10 w) (k0_pay11 b) v70 k0_pay13 (ix2 p q) : EReal)
      = swiglu (g (ix2 p q)) (w (ix3 0 0 q) * v70 (ix2 p q) + w (ix3 0 1 q) * v (ix3 0 p q)
        + w (ix3 0 2 q) * Scalar.select (IntOp.cmpi .eq (BitVec.ofNat 32 p.val) 2047#32) (e (ix2 0 q) : EReal) (v (ix3 0 ⟨(p.val + 2048 - 2047) % 2048, Nat.mod_lt _ (by decide)⟩ q) : EReal) + b (ix3 0 0 q)) := by
  unfold k0_pay1 k0_pay13
  pointwise [k0_pay8, k0_pay10, k0_pay11, swiglu]
  try rw [zero_sub]
  try rfl

/-- The reference's convolution, and its result. -/
theorem v18_eq (x0 : Vec Ideal S2x16384x2816 .bf16) (x1 : Vec Ideal S2x3x2816 .f32) (x2 : Vec Ideal S2x1x2816 .f32) (h : Fin 2) (t : Fin 16384) (r : Fin 2816) :
    (val_main_v18 (F := Ideal) x0 x1 x2 (ix3 h t r) : EReal)
      = conv (x1 (ix3 h 0 r)) (x1 (ix3 h 1 r)) (x1 (ix3 h 2 r)) (x2 (ix3 h 0 r)) (fun t => x0 (ix3 h t r)) t := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  rfl
theorem v25_eq (x0 : Vec Ideal S2x16384x2816 .bf16) (x1 : Vec Ideal S2x3x2816 .f32) (x2 : Vec Ideal S2x1x2816 .f32) (t : Fin 16384) (r : Fin 2816) :
    (val_main_v25 (F := Ideal) x0 x1 x2 (ix2 t r) : EReal)
      = swiglu (val_main_v18 (F := Ideal) x0 x1 x2 (ix3 0 t r)) (val_main_v18 (F := Ideal) x0 x1 x2 (ix3 1 t r)) := by
  unfold val_main_v25 val_main_v24 val_main_v23 val_main_v22 val_main_v21 val_main_call0_v5 val_main_call0_v3 val_main_call0_v1 val_main_call0_v0 val_main_v20 val_main_v19
  generalize val_main_v18 (F := Ideal) x0 x1 x2 = y
  pointwise [val_main_call0_v4, val_main_call0_v2, val_main_call0_cst, val_main_call0_cst_0, swiglu]

variable (m : (ℓ : Loc nD τ sig) → Buf (Elt Ideal) ℓ) (c : Dev nD)

theorem idx : ∀ t : Fin cfg0.N, win0_0.index t = ![0, t.val % 8, t.val / 8] ∧ win0_1.index t = ![0, t.val % 8 * 128 - 1, t.val / 8]
    ∧ win0_2.index t = ![0, min (t.val % 8 * 128 + 128) 1023, t.val / 8] ∧ win0_3.index t = ![0, 0, t.val / 8] ∧ win0_4.index t = ![0, 0, t.val / 8]
    ∧ win0_5.index t = ![t.val % 8, t.val / 8] :=
  (by decide +kernel : ∀ t : Fin grid0.N, _)
theorem coord : ∀ t : Fin cfg0.N, (grid0.coords t 1).val = t.val % 8 := (by decide +kernel : ∀ t : Fin grid0.N, _)

theorem pt_lt (t : Fin cfg0.N) : t.val < 88 := lt_of_lt_of_eq t.2 (show cfg0.N = 88 from N_0)

/-- The call's arguments. -/
abbrev a0 : Vec Ideal S2x16384x2816 .bf16 := m ((c : Thread nD τ).loc main_arg0)
abbrev a1 : Vec Ideal S2x3x2816 .f32 := m ((c : Thread nD τ).loc main_arg1)
abbrev a2 : Vec Ideal S2x1x2816 .f32 := m ((c : Thread nD τ).loc main_arg2)

theorem blk0 (t : Fin cfg0.N) (h : Fin 2) (p : Fin 2048) (q : Fin 256) :
    iblk m c 0 t (ix3 h p q) = a0 m c (ix3 h (row t.val p) (col t.val (pt_lt t) q)) := by
  have ht := pt_lt t
  have e : iblk m c 0 t (ix3 h p q) = V m c main_arg0 ((win0_0.blk t).view.emb (ix3 h p q)) := by
    unfold iblk; generalize V m c = X; unfold View.read; exact cast_eq _ _
  rw [e, V_main_arg0]
  congr 1
  refine funext fun d => Fin.ext ?_
  fin_cases d
  · blk_simp [(idx t).1]
    try rfl
  · blk_simp [(idx t).1]
    try rfl
  · blk_simp [(idx t).1]
    try rfl
theorem blk1 (t : Fin cfg0.N) (h : Fin 2) (s : Fin 16) (q : Fin 256) :
    iblk m c 1 t (ix3 h s q) = a0 m c (ix3 h ⟨(t.val % 8 * 128 - 1) * 16 + s.val, by omega⟩ (col t.val (pt_lt t) q)) := by
  have ht := pt_lt t
  have e : iblk m c 1 t (ix3 h s q) = V m c main_arg0 ((win0_1.blk t).view.emb (ix3 h s q)) := by
    unfold iblk; generalize V m c = X; unfold View.read; exact cast_eq _ _
  rw [e, V_main_arg0]
  congr 1
  refine funext fun d => Fin.ext ?_
  fin_cases d
  · blk_simp [(idx t).2.1]
    try rfl
  · blk_simp [(idx t).2.1]
    try rfl
  · blk_simp [(idx t).2.1]
    try rfl
theorem blk2 (t : Fin cfg0.N) (h : Fin 2) (s : Fin 16) (q : Fin 256) :
    iblk m c 2 t (ix3 h s q) = a0 m c (ix3 h ⟨min (t.val % 8 * 128 + 128) 1023 * 16 + s.val, by omega⟩ (col t.val (pt_lt t) q)) := by
  have ht := pt_lt t
  have e : iblk m c 2 t (ix3 h s q) = V m c main_arg0 ((win0_2.blk t).view.emb (ix3 h s q)) := by
    unfold iblk; generalize V m c = X; unfold View.read; exact cast_eq _ _
  rw [e, V_main_arg0]
  congr 1
  refine funext fun d => Fin.ext ?_
  fin_cases d
  · blk_simp [(idx t).2.2.1]
    try rfl
  · blk_simp [(idx t).2.2.1]
    try rfl
  · blk_simp [(idx t).2.2.1]
    try rfl
theorem blk3 (t : Fin cfg0.N) (h : Fin 2) (s : Fin 3) (q : Fin 256) :
    iblk m c 3 t (ix3 h s q) = a1 m c (ix3 h s (col t.val (pt_lt t) q)) := by
  have ht := pt_lt t
  have e : iblk m c 3 t (ix3 h s q) = V m c main_arg1 ((win0_3.blk t).view.emb (ix3 h s q)) := by
    unfold iblk; generalize V m c = X; unfold View.read; exact cast_eq _ _
  rw [e, V_main_arg1]
  congr 1
  refine funext fun d => Fin.ext ?_
  fin_cases d
  · blk_simp [(idx t).2.2.2.1]
    try rfl
  · blk_simp [(idx t).2.2.2.1]
    try rfl
  · blk_simp [(idx t).2.2.2.1]
    try rfl
theorem blk4 (t : Fin cfg0.N) (h : Fin 2) (s : Fin 1) (q : Fin 256) :
    iblk m c 4 t (ix3 h s q) = a2 m c (ix3 h s (col t.val (pt_lt t) q)) := by
  have ht := pt_lt t
  have e : iblk m c 4 t (ix3 h s q) = V m c main_arg2 ((win0_4.blk t).view.emb (ix3 h s q)) := by
    unfold iblk; generalize V m c = X; unfold View.read; exact cast_eq _ _
  rw [e, V_main_arg2]
  congr 1
  refine funext fun d => Fin.ext ?_
  fin_cases d
  · blk_simp [(idx t).2.2.2.2.1]
    try rfl
  · blk_simp [(idx t).2.2.2.2.1]
    try rfl
  · blk_simp [(idx t).2.2.2.2.1]
    try rfl

/-- The call's result. -/
def G5 : Buf (Elt Ideal) ((c : Thread nD τ).loc main_v0) := val_main_v25 (F := Ideal) (a0 m c) (a1 m c) (a2 m c)

/-- The token before and after a point's row. -/
theorem before_row (t : Fin cfg0.N) (h : Fin 2) (p : Fin 2048) (q : Fin 256) :
    Scalar.select (IntOp.cmpi .eq (BitVec.ofNat 32 p.val) 0#32) (Scalar.select (IntOp.cmpi .eq (BitVec.ofNat 32 (grid0.coords t 1).val) 0#32) (0 : EReal) (iblk m c 1 t (ix3 h 15 q)))
      (iblk m c 0 t (ix3 h ⟨(p.val + 2048 - 1) % 2048, Nat.mod_lt _ (by decide)⟩ q) : EReal) = before (fun k => a0 m c (ix3 h k (col t.val (pt_lt t) q))) (row t.val p) := by
  rw [coord t]
  refine shift_before (fun k => a0 m c (ix3 h k (col t.val (pt_lt t) q))) t.val (fun p => iblk m c 0 t (ix3 h p q)) _ (fun p => blk0 m c t h p q) (fun g => ?_) p
  rw [blk1]
  refine congrArg (fun k => a0 m c (ix3 h k (col t.val (pt_lt t) q))) (Fin.ext ?_)
  show (t.val % 8 * 128 - 1) * 16 + 15 = t.val % 8 * 2048 - 1
  omega
theorem after_row (t : Fin cfg0.N) (h : Fin 2) (p : Fin 2048) (q : Fin 256) :
    Scalar.select (IntOp.cmpi .eq (BitVec.ofNat 32 p.val) 2047#32) (Scalar.select (IntOp.cmpi .eq (BitVec.ofNat 32 (grid0.coords t 1).val) 7#32) (0 : EReal) (iblk m c 2 t (ix3 h 0 q)))
      (iblk m c 0 t (ix3 h ⟨(p.val + 2048 - 2047) % 2048, Nat.mod_lt _ (by decide)⟩ q) : EReal) = after (fun k => a0 m c (ix3 h k (col t.val (pt_lt t) q))) (row t.val p) := by
  rw [coord t]
  refine shift_after (fun k => a0 m c (ix3 h k (col t.val (pt_lt t) q))) t.val (fun p => iblk m c 0 t (ix3 h p q)) _ (fun p => blk0 m c t h p q) (fun g k => ?_) p
  rw [blk2]
  refine congrArg (fun k => a0 m c (ix3 h k (col t.val (pt_lt t) q))) (Fin.ext ?_)
  show min (t.val % 8 * 128 + 128) 1023 * 16 + 0 = (t.val % 8 + 1) * 2048
  omega

/-- The loads, of one half of a block. -/
theorem ld0 (x : Vec Ideal S2x2048x256 .bf16) (p : Fin 2048) (q : Fin 256) : View.ld (Val := Elt Ideal) x r0_0 (ix3 0 p q) = x (ix3 0 p q) := by
  refine congrArg x (funext fun d => Fin.ext ?_)
  match d with
  | ⟨0, _⟩ => exact (show 0 + 1 * 0 = 0 by omega)
  | ⟨1, _⟩ => exact (show 0 + 1 * p.val = p.val by omega)
  | ⟨2, _⟩ => exact (show 0 + 1 * q.val = q.val by omega)
theorem ld5 (x : Vec Ideal S2x2048x256 .bf16) (p : Fin 2048) (q : Fin 256) : View.ld (Val := Elt Ideal) x r0_5 (ix3 0 p q) = x (ix3 1 p q) := by
  refine congrArg x (funext fun d => Fin.ext ?_)
  match d with
  | ⟨0, _⟩ => exact (show 1 + 1 * 0 = 1 by omega)
  | ⟨1, _⟩ => exact (show 0 + 1 * p.val = p.val by omega)
  | ⟨2, _⟩ => exact (show 0 + 1 * q.val = q.val by omega)
theorem ld1 (x : Vec Ideal S2x16x256 .bf16) (q : Fin 256) : View.ld (Val := Elt Ideal) x r0_1 (ix3 0 0 q) = x (ix3 0 15 q) := by
  refine congrArg x (funext fun d => Fin.ext ?_)
  match d with
  | ⟨0, _⟩ => exact (show 0 + 1 * 0 = 0 by omega)
  | ⟨1, _⟩ => exact (show 15 + 1 * 0 = 15 by omega)
  | ⟨2, _⟩ => exact (show 0 + 1 * q.val = q.val by omega)
theorem ld6 (x : Vec Ideal S2x16x256 .bf16) (q : Fin 256) : View.ld (Val := Elt Ideal) x r0_6 (ix3 0 0 q) = x (ix3 1 15 q) := by
  refine congrArg x (funext fun d => Fin.ext ?_)
  match d with
  | ⟨0, _⟩ => exact (show 1 + 1 * 0 = 1 by omega)
  | ⟨1, _⟩ => exact (show 15 + 1 * 0 = 15 by omega)
  | ⟨2, _⟩ => exact (show 0 + 1 * q.val = q.val by omega)
theorem ld2 (x : Vec Ideal S2x16x256 .bf16) (q : Fin 256) : View.ld (Val := Elt Ideal) x r0_2 (ix3 0 0 q) = x (ix3 0 0 q) := by
  refine congrArg x (funext fun d => Fin.ext ?_)
  match d with
  | ⟨0, _⟩ => exact (show 0 + 1 * 0 = 0 by omega)
  | ⟨1, _⟩ => exact (show 0 + 1 * 0 = 0 by omega)
  | ⟨2, _⟩ => exact (show 0 + 1 * q.val = q.val by omega)
theorem ld7 (x : Vec Ideal S2x16x256 .bf16) (q : Fin 256) : View.ld (Val := Elt Ideal) x r0_7 (ix3 0 0 q) = x (ix3 1 0 q) := by
  refine congrArg x (funext fun d => Fin.ext ?_)
  match d with
  | ⟨0, _⟩ => exact (show 1 + 1 * 0 = 1 by omega)
  | ⟨1, _⟩ => exact (show 0 + 1 * 0 = 0 by omega)
  | ⟨2, _⟩ => exact (show 0 + 1 * q.val = q.val by omega)
theorem ld3 (x : Vec Ideal S2x3x256 .f32) (s : Fin 3) (q : Fin 256) : View.ld (Val := Elt Ideal) x r0_3 (ix3 0 s q) = x (ix3 0 s q) := by
  refine congrArg x (funext fun d => Fin.ext ?_)
  match d with
  | ⟨0, _⟩ => exact (show 0 + 1 * 0 = 0 by omega)
  | ⟨1, _⟩ => exact (show 0 + 1 * s.val = s.val by omega)
  | ⟨2, _⟩ => exact (show 0 + 1 * q.val = q.val by omega)
theorem ld8 (x : Vec Ideal S2x3x256 .f32) (s : Fin 3) (q : Fin 256) : View.ld (Val := Elt Ideal) x r0_8 (ix3 0 s q) = x (ix3 1 s q) := by
  refine congrArg x (funext fun d => Fin.ext ?_)
  match d with
  | ⟨0, _⟩ => exact (show 1 + 1 * 0 = 1 by omega)
  | ⟨1, _⟩ => exact (show 0 + 1 * s.val = s.val by omega)
  | ⟨2, _⟩ => exact (show 0 + 1 * q.val = q.val by omega)
theorem ld4 (x : Vec Ideal S2x1x256 .f32) (q : Fin 256) : View.ld (Val := Elt Ideal) x r0_4 (ix3 0 0 q) = x (ix3 0 0 q) := by
  refine congrArg x (funext fun d => Fin.ext ?_)
  match d with
  | ⟨0, _⟩ => exact (show 0 + 1 * 0 = 0 by omega)
  | ⟨1, _⟩ => exact (show 0 + 1 * 0 = 0 by omega)
  | ⟨2, _⟩ => exact (show 0 + 1 * q.val = q.val by omega)
theorem ld9 (x : Vec Ideal S2x1x256 .f32) (q : Fin 256) : View.ld (Val := Elt Ideal) x r0_9 (ix3 0 0 q) = x (ix3 1 0 q) := by
  refine congrArg x (funext fun d => Fin.ext ?_)
  match d with
  | ⟨0, _⟩ => exact (show 1 + 1 * 0 = 1 by omega)
  | ⟨1, _⟩ => exact (show 0 + 1 * 0 = 0 by omega)
  | ⟨2, _⟩ => exact (show 0 + 1 * q.val = q.val by omega)

/-- Every block that the call writes is its part of the result. -/
theorem final5 : (dats m 0 c).arrAt 5 cfg0.N = G5 m c := by
  refine (dats m 0 c).arrAt_eq_of_covers 5 _ (by decide +kernel) fun t hf y => ?_
  blk_simp
  rw [after0_5]
  frame_out
  obtain ⟨p, q, rfl⟩ : ∃ (p : Fin 2048) (q : Fin 256), y = ix2 p q := ⟨y 0, y 1, eq_ix2 y⟩
  have e : (win0_5.blk t).view.emb (ix2 p q) = ix2 (row t.val p) (col t.val (pt_lt t) q) := by
    refine funext fun d => Fin.ext ?_
    fin_cases d
    · blk_simp [(idx t).2.2.2.2.2]
      rfl
    · blk_simp [(idx t).2.2.2.2.2]
      rfl
  refine Eq.trans ?_ (congrArg (G5 m c) e.symm)
  refine Eq.trans ?_ (v25_eq _ _ _ _ _).symm
  rw [pay1, pay12, pay9, pay7, pay6, pay5, v18_eq, v18_eq]
  unfold conv
  refine congrArg₂ swiglu ?_ ?_
  · refine congrArg₂ (fun a b : EReal => a + b) (congrArg₂ (fun a b : EReal => a + b) (congrArg₂ (fun a b : EReal => a + b)
      (congrArg₂ (fun a b : EReal => a * b) ?_ ?_) (congrArg₂ (fun a b : EReal => a * b) ?_ ?_)) (congrArg₂ (fun a b : EReal => a * b) ?_ ?_)) ?_
    · exact (ld3 _ 0 q).trans (blk3 m c t 0 0 q)
    · refine Eq.trans ?_ (before_row m c t 0 p q)
      exact congrArg₂ (fun e v : EReal => Scalar.select _ (Scalar.select _ 0 e) v) (ld1 _ q) (ld0 _ _ q)
    · exact (ld3 _ 1 q).trans (blk3 m c t 0 1 q)
    · exact (ld0 _ p q).trans (blk0 m c t 0 p q)
    · exact (ld3 _ 2 q).trans (blk3 m c t 0 2 q)
    · refine Eq.trans ?_ (after_row m c t 0 p q)
      exact congrArg₂ (fun e v : EReal => Scalar.select _ (Scalar.select _ 0 e) v) (ld2 _ q) (ld0 _ _ q)
    · exact (ld4 _ q).trans (blk4 m c t 0 0 q)
  · refine congrArg₂ (fun a b : EReal => a + b) (congrArg₂ (fun a b : EReal => a + b) (congrArg₂ (fun a b : EReal => a + b)
      (congrArg₂ (fun a b : EReal => a * b) ?_ ?_) (congrArg₂ (fun a b : EReal => a * b) ?_ ?_)) (congrArg₂ (fun a b : EReal => a * b) ?_ ?_)) ?_
    · exact (ld8 _ 0 q).trans (blk3 m c t 1 0 q)
    · refine Eq.trans ?_ (before_row m c t 1 p q)
      exact congrArg₂ (fun e v : EReal => Scalar.select _ (Scalar.select _ 0 e) v) (ld6 _ q) (ld5 _ _ q)
    · exact (ld8 _ 1 q).trans (blk3 m c t 1 1 q)
    · exact (ld5 _ p q).trans (blk0 m c t 1 p q)
    · exact (ld8 _ 2 q).trans (blk3 m c t 1 2 q)
    · refine Eq.trans ?_ (after_row m c t 1 p q)
      exact congrArg₂ (fun e v : EReal => Scalar.select _ (Scalar.select _ 0 e) v) (ld7 _ q) (ld5 _ _ q)
    · exact (ld9 _ q).trans (blk4 m c t 1 0 q)

/-- The run, with its result named. -/
theorem run (ρ : Dev nD → PrngReg) : θ_run defs (onTc (τ := τ) (main (F := Ideal))) ⟨m, fun _ => 0, ρ⟩ fun r => ∀ c : Dev nD,
      r.2.mem ((c : Thread nD τ).loc main_v0) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final5 m c), (h c).2⟩) (run_blocks m ρ)

end Cert.Kernel13Ideal.Act

end
-- ==== Proof.ConvBwd.lean ====
/-
  The gradient of the ConvFFN's convolution in its input: each point's block, its rows' neighbours from the tiles beside it,
  is the reference's.
-/
module

public import proofs.«01_k».proof.Proof.ConvRows
public import proofs.«01_k».proof.Proof.Gen.Kernel14Ideal.Value
public import proofs.«01_k».proof.Proof.Gen.Reference14Ideal.Read
public import Idealize.ShloMosaic.Lib.Pipeline.ValueKit

@[expose] public section

set_option maxRecDepth 16384

noncomputable section

namespace Cert.Kernel14Ideal.ConvBwd

open Idealize.ShloMosaic Idealize.ShloMosaic.TcCoe Idealize.SL.Sem
open Cert.Kernel14Ideal Cert.Kernel14Ideal.Gen Cert.Kernel14Ideal.Value
open Cert.Reference14Ideal.Read Cert.ConvRows

/-- The rows before and after, from the tile and its neighbours' edges. -/
theorem pay3 (i : grid0.Coords) (v : Vec Ideal S1x2048x256 .bf16) (e : Vec Ideal S1x1x256 .bf16) (p : Fin 2048) (q : Fin 256) :
    (k0_pay3 (F := Ideal) i v e (ix2 p q) : EReal) = Scalar.select (IntOp.cmpi .eq (BitVec.ofNat 32 p.val) 0#32) (Scalar.select (IntOp.cmpi .eq (BitVec.ofNat 32 (i 1).val) 0#32) 0 (e (ix3 0 0 q) : EReal)) (v (ix3 0 ⟨(p.val + 2048 - 1) % 2048, Nat.mod_lt _ (by decide)⟩ q) : EReal) := by
  unfold k0_pay3
  pointwise [k0_pay2]
  rfl
theorem pay5 (i : grid0.Coords) (v : Vec Ideal S1x2048x256 .bf16) (e : Vec Ideal S1x1x256 .bf16) (w : Vec Ideal S1x3x256 .f32) (p : Fin 2048) (q : Fin 256) :
    (k0_pay5 (F := Ideal) i v e w (ix2 p q) : EReal) = w (ix3 0 0 q) * Scalar.select (IntOp.cmpi .eq (BitVec.ofNat 32 p.val) 2047#32) (Scalar.select (IntOp.cmpi .eq (BitVec.ofNat 32 (i 1).val) 7#32) 0 (e (ix3 0 0 q) : EReal)) (v (ix3 0 ⟨(p.val + 2048 - 2047) % 2048, Nat.mod_lt _ (by decide)⟩ q) : EReal) + w (ix3 0 1 q) * v (ix3 0 p q) := by
  unfold k0_pay5
  pointwise [k0_pay2, k0_pay4]
  rfl
theorem pay9 (a : BitVec 32) (v : Vec Ideal S1x2048x256 .bf16) (e : Vec Ideal S1x1x256 .bf16) (p : Fin 2048) (q : Fin 256) :
    (k0_pay9 (F := Ideal) a v e (ix2 p q) : EReal) = Scalar.select (IntOp.cmpi .eq (BitVec.ofNat 32 p.val) 0#32) (Scalar.select (IntOp.cmpi .eq a 0#32) 0 (e (ix3 0 0 q) : EReal)) (v (ix3 0 ⟨(p.val + 2048 - 1) % 2048, Nat.mod_lt _ (by decide)⟩ q) : EReal) := by
  unfold k0_pay9
  pointwise [k0_pay8]
  rfl
theorem pay10 (a : BitVec 32) (v : Vec Ideal S1x2048x256 .bf16) (e : Vec Ideal S1x1x256 .bf16) (p : Fin 2048) (q : Fin 256) :
    (k0_pay10 (F := Ideal) a v e (ix2 p q) : EReal) = Scalar.select (IntOp.cmpi .eq (BitVec.ofNat 32 p.val) 2047#32) (Scalar.select (IntOp.cmpi .eq a 7#32) 0 (e (ix3 0 0 q) : EReal)) (v (ix3 0 ⟨(p.val + 2048 - 2047) % 2048, Nat.mod_lt _ (by decide)⟩ q) : EReal) := by
  unfold k0_pay10
  pointwise [k0_pay8]
  rfl

/-- What a point writes, by halves. -/
theorem pay7 (x y : FVec Ideal S2048x256 .f32) (w : Vec Ideal S1x3x256 .f32) (p : Fin 2048) (q : Fin 256) :
    (k0_pay7 (F := Ideal) x y (k0_pay6 w) (ix3 0 p q) : EReal) = y (ix2 p q) + w (ix3 0 2 q) * x (ix2 p q) := by
  unfold k0_pay7
  pointwise [k0_pay6, k0_pay4]
theorem pay1 (v : Vec Ideal S1x2048x256 .bf16) (x y : FVec Ideal S2048x256 .f32) (w : Vec Ideal S1x3x256 .f32) (p : Fin 2048) (q : Fin 256) :
    (k0_pay1 (F := Ideal) (k0_pay8 v) x y w (ix3 0 p q) : EReal) = w (ix3 0 0 q) * y (ix2 p q) + w (ix3 0 1 q) * v (ix3 0 p q) + w (ix3 0 2 q) * x (ix2 p q) := by
  unfold k0_pay1
  pointwise [k0_pay8]

/-- The reference's gradient. -/
theorem v37_eq (x0 : Vec Ideal S2x16384x2816 .bf16) (x1 : Vec Ideal S2x3x2816 .f32) (h : Fin 2) (t : Fin 16384) (r : Fin 2816) :
    (val_main_v37 (F := Ideal) x0 x1 (ix3 h t r) : EReal) = back (x1 (ix3 h 0 r)) (x1 (ix3 h 1 r)) (x1 (ix3 h 2 r)) (fun t => x0 (ix3 h t r)) t := by
  have e : (val_main_v37 (F := Ideal) x0 x1 (ix3 h t r) : EReal)
      = ((x1 (ix3 h 1 r) * x0 (ix3 h t r) : EReal) + if g : 1 ≤ t.val ∧ t.val - 1 < 16383 then (x1 (ix3 h 2 r) * x0 (ix3 h ⟨t.val - 1, by omega⟩ r) : EReal) else 0)
        + if g : t.val < 16383 then (x1 (ix3 h 0 r) * x0 (ix3 h ⟨1 + t.val, by omega⟩ r) : EReal) else 0 := by
    unfold val_main_v37 val_main_v36
    pointwise [val_main_v35, val_main_v34, val_main_v33, val_main_v32, val_main_v31, val_main_v30, val_main_v29, val_main_v28, val_main_v27, val_main_v26, val_main_v25, val_main_v24, val_main_v23, val_main_v22, val_main_v16, val_main_v12, val_main_v9, val_main_cst_4, val_main_cst_5]
    try rfl
  rw [e]
  unfold back before after
  have ht := t.2
  by_cases g : t.val < 1
  · rw [dif_neg (by omega), dif_pos g, mul_zero]
    split <;> simp only [mul_zero, add_zero, zero_add, add_comm]
  · rw [dif_pos (by omega), dif_neg g, add_assoc (x1 (ix3 h 0 r) * _ : EReal), add_comm (x1 (ix3 h 0 r) * _ : EReal)]
    split <;> simp only [mul_zero]

variable (m : (ℓ : Loc nD τ sig) → Buf (Elt Ideal) ℓ) (c : Dev nD)

theorem idx : ∀ t : Fin cfg0.N, win0_0.index t = ![0, t.val % 8, t.val / 8] ∧ win0_1.index t = ![0, t.val % 8 * 128 - 1, t.val / 8]
    ∧ win0_2.index t = ![0, min (t.val % 8 * 128 + 128) 1023, t.val / 8] ∧ win0_3.index t = ![0, 0, t.val / 8]
    ∧ win0_4.index t = ![0, t.val % 8, t.val / 8] :=
  (by decide +kernel : ∀ t : Fin grid0.N, _)
theorem coord : ∀ t : Fin cfg0.N, (grid0.coords t 1).val = t.val % 8 := (by decide +kernel : ∀ t : Fin grid0.N, _)

theorem pt_lt (t : Fin cfg0.N) : t.val < 88 := lt_of_lt_of_eq t.2 (show cfg0.N = 88 from N_0)

/-- The call's arguments. -/
abbrev a0 : Vec Ideal S2x16384x2816 .bf16 := m ((c : Thread nD τ).loc main_arg0)
abbrev a1 : Vec Ideal S2x3x2816 .f32 := m ((c : Thread nD τ).loc main_arg1)

theorem blk0 (t : Fin cfg0.N) (h : Fin 2) (p : Fin 2048) (q : Fin 256) :
    iblk m c 0 t (ix3 h p q) = a0 m c (ix3 h (row t.val p) (col t.val (pt_lt t) q)) := by
  have ht := pt_lt t
  have e : iblk m c 0 t (ix3 h p q) = V m c main_arg0 ((win0_0.blk t).view.emb (ix3 h p q)) := by
    unfold iblk; generalize V m c = X; unfold View.read; exact cast_eq _ _
  rw [e, V_main_arg0]
  congr 1
  refine funext fun d => Fin.ext ?_
  fin_cases d
  · blk_simp [(idx t).1]
    try rfl
  · blk_simp [(idx t).1]
    try rfl
  · blk_simp [(idx t).1]
    try rfl
theorem blk1 (t : Fin cfg0.N) (h : Fin 2) (s : Fin 16) (q : Fin 256) :
    iblk m c 1 t (ix3 h s q) = a0 m c (ix3 h ⟨(t.val % 8 * 128 - 1) * 16 + s.val, by omega⟩ (col t.val (pt_lt t) q)) := by
  have ht := pt_lt t
  have e : iblk m c 1 t (ix3 h s q) = V m c main_arg0 ((win0_1.blk t).view.emb (ix3 h s q)) := by
    unfold iblk; generalize V m c = X; unfold View.read; exact cast_eq _ _
  rw [e, V_main_arg0]
  congr 1
  refine funext fun d => Fin.ext ?_
  fin_cases d
  · blk_simp [(idx t).2.1]
    try rfl
  · blk_simp [(idx t).2.1]
    try rfl
  · blk_simp [(idx t).2.1]
    try rfl
theorem blk2 (t : Fin cfg0.N) (h : Fin 2) (s : Fin 16) (q : Fin 256) :
    iblk m c 2 t (ix3 h s q) = a0 m c (ix3 h ⟨min (t.val % 8 * 128 + 128) 1023 * 16 + s.val, by omega⟩ (col t.val (pt_lt t) q)) := by
  have ht := pt_lt t
  have e : iblk m c 2 t (ix3 h s q) = V m c main_arg0 ((win0_2.blk t).view.emb (ix3 h s q)) := by
    unfold iblk; generalize V m c = X; unfold View.read; exact cast_eq _ _
  rw [e, V_main_arg0]
  congr 1
  refine funext fun d => Fin.ext ?_
  fin_cases d
  · blk_simp [(idx t).2.2.1]
    try rfl
  · blk_simp [(idx t).2.2.1]
    try rfl
  · blk_simp [(idx t).2.2.1]
    try rfl
theorem blk3 (t : Fin cfg0.N) (h : Fin 2) (s : Fin 3) (q : Fin 256) :
    iblk m c 3 t (ix3 h s q) = a1 m c (ix3 h s (col t.val (pt_lt t) q)) := by
  have ht := pt_lt t
  have e : iblk m c 3 t (ix3 h s q) = V m c main_arg1 ((win0_3.blk t).view.emb (ix3 h s q)) := by
    unfold iblk; generalize V m c = X; unfold View.read; exact cast_eq _ _
  rw [e, V_main_arg1]
  congr 1
  refine funext fun d => Fin.ext ?_
  fin_cases d
  · blk_simp [(idx t).2.2.2.1]
    try rfl
  · blk_simp [(idx t).2.2.2.1]
    try rfl
  · blk_simp [(idx t).2.2.2.1]
    try rfl

/-- The call's result. -/
def G4 : Vec Ideal S2x16384x2816 .bf16 := val_main_v37 (F := Ideal) (a0 m c) (a1 m c)

/-- The token before and after a point's row. -/
theorem before_row (t : Fin cfg0.N) (h : Fin 2) (p : Fin 2048) (q : Fin 256) :
    Scalar.select (IntOp.cmpi .eq (BitVec.ofNat 32 p.val) 0#32) (Scalar.select (IntOp.cmpi .eq (BitVec.ofNat 32 (grid0.coords t 1).val) 0#32) (0 : EReal) (iblk m c 1 t (ix3 h 15 q)))
      (iblk m c 0 t (ix3 h ⟨(p.val + 2048 - 1) % 2048, Nat.mod_lt _ (by decide)⟩ q) : EReal) = before (fun k => a0 m c (ix3 h k (col t.val (pt_lt t) q))) (row t.val p) := by
  rw [coord t]
  refine shift_before (fun k => a0 m c (ix3 h k (col t.val (pt_lt t) q))) t.val (fun p => iblk m c 0 t (ix3 h p q)) _ (fun p => blk0 m c t h p q) (fun g => ?_) p
  rw [blk1]
  refine congrArg (fun k => a0 m c (ix3 h k (col t.val (pt_lt t) q))) (Fin.ext ?_)
  show (t.val % 8 * 128 - 1) * 16 + 15 = t.val % 8 * 2048 - 1
  omega
theorem after_row (t : Fin cfg0.N) (h : Fin 2) (p : Fin 2048) (q : Fin 256) :
    Scalar.select (IntOp.cmpi .eq (BitVec.ofNat 32 p.val) 2047#32) (Scalar.select (IntOp.cmpi .eq (BitVec.ofNat 32 (grid0.coords t 1).val) 7#32) (0 : EReal) (iblk m c 2 t (ix3 h 0 q)))
      (iblk m c 0 t (ix3 h ⟨(p.val + 2048 - 2047) % 2048, Nat.mod_lt _ (by decide)⟩ q) : EReal) = after (fun k => a0 m c (ix3 h k (col t.val (pt_lt t) q))) (row t.val p) := by
  rw [coord t]
  refine shift_after (fun k => a0 m c (ix3 h k (col t.val (pt_lt t) q))) t.val (fun p => iblk m c 0 t (ix3 h p q)) _ (fun p => blk0 m c t h p q) (fun g k => ?_) p
  rw [blk2]
  refine congrArg (fun k => a0 m c (ix3 h k (col t.val (pt_lt t) q))) (Fin.ext ?_)
  show min (t.val % 8 * 128 + 128) 1023 * 16 + 0 = (t.val % 8 + 1) * 2048
  omega

/-- The loads, of one half of a block. -/
theorem ld0 (x : Vec Ideal S2x2048x256 .bf16) (p : Fin 2048) (q : Fin 256) : View.ld (Val := Elt Ideal) x r0_0 (ix3 0 p q) = x (ix3 0 p q) := by
  refine congrArg x (funext fun d => Fin.ext ?_)
  match d with
  | ⟨0, _⟩ => exact (show 0 + 1 * 0 = 0 by omega)
  | ⟨1, _⟩ => exact (show 0 + 1 * p.val = p.val by omega)
  | ⟨2, _⟩ => exact (show 0 + 1 * q.val = q.val by omega)
theorem ld4 (x : Vec Ideal S2x2048x256 .bf16) (p : Fin 2048) (q : Fin 256) : View.ld (Val := Elt Ideal) x r0_4 (ix3 0 p q) = x (ix3 1 p q) := by
  refine congrArg x (funext fun d => Fin.ext ?_)
  match d with
  | ⟨0, _⟩ => exact (show 1 + 1 * 0 = 1 by omega)
  | ⟨1, _⟩ => exact (show 0 + 1 * p.val = p.val by omega)
  | ⟨2, _⟩ => exact (show 0 + 1 * q.val = q.val by omega)
theorem ld1 (x : Vec Ideal S2x16x256 .bf16) (q : Fin 256) : View.ld (Val := Elt Ideal) x r0_1 (ix3 0 0 q) = x (ix3 0 15 q) := by
  refine congrArg x (funext fun d => Fin.ext ?_)
  match d with
  | ⟨0, _⟩ => exact (show 0 + 1 * 0 = 0 by omega)
  | ⟨1, _⟩ => exact (show 15 + 1 * 0 = 15 by omega)
  | ⟨2, _⟩ => exact (show 0 + 1 * q.val = q.val by omega)
theorem ld5 (x : Vec Ideal S2x16x256 .bf16) (q : Fin 256) : View.ld (Val := Elt Ideal) x r0_5 (ix3 0 0 q) = x (ix3 1 15 q) := by
  refine congrArg x (funext fun d => Fin.ext ?_)
  match d with
  | ⟨0, _⟩ => exact (show 1 + 1 * 0 = 1 by omega)
  | ⟨1, _⟩ => exact (show 15 + 1 * 0 = 15 by omega)
  | ⟨2, _⟩ => exact (show 0 + 1 * q.val = q.val by omega)
theorem ld2 (x : Vec Ideal S2x16x256 .bf16) (q : Fin 256) : View.ld (Val := Elt Ideal) x r0_2 (ix3 0 0 q) = x (ix3 0 0 q) := by
  refine congrArg x (funext fun d => Fin.ext ?_)
  match d with
  | ⟨0, _⟩ => exact (show 0 + 1 * 0 = 0 by omega)
  | ⟨1, _⟩ => exact (show 0 + 1 * 0 = 0 by omega)
  | ⟨2, _⟩ => exact (show 0 + 1 * q.val = q.val by omega)
theorem ld6 (x : Vec Ideal S2x16x256 .bf16) (q : Fin 256) : View.ld (Val := Elt Ideal) x r0_6 (ix3 0 0 q) = x (ix3 1 0 q) := by
  refine congrArg x (funext fun d => Fin.ext ?_)
  match d with
  | ⟨0, _⟩ => exact (show 1 + 1 * 0 = 1 by omega)
  | ⟨1, _⟩ => exact (show 0 + 1 * 0 = 0 by omega)
  | ⟨2, _⟩ => exact (show 0 + 1 * q.val = q.val by omega)
theorem ld3 (x : Vec Ideal S2x3x256 .f32) (s : Fin 3) (q : Fin 256) : View.ld (Val := Elt Ideal) x r0_3 (ix3 0 s q) = x (ix3 0 s q) := by
  refine congrArg x (funext fun d => Fin.ext ?_)
  match d with
  | ⟨0, _⟩ => exact (show 0 + 1 * 0 = 0 by omega)
  | ⟨1, _⟩ => exact (show 0 + 1 * s.val = s.val by omega)
  | ⟨2, _⟩ => exact (show 0 + 1 * q.val = q.val by omega)
theorem ld7 (x : Vec Ideal S2x3x256 .f32) (s : Fin 3) (q : Fin 256) : View.ld (Val := Elt Ideal) x r0_7 (ix3 0 s q) = x (ix3 1 s q) := by
  refine congrArg x (funext fun d => Fin.ext ?_)
  match d with
  | ⟨0, _⟩ => exact (show 1 + 1 * 0 = 1 by omega)
  | ⟨1, _⟩ => exact (show 0 + 1 * s.val = s.val by omega)
  | ⟨2, _⟩ => exact (show 0 + 1 * q.val = q.val by omega)

/-- A point's part of the result. -/
def rows (t : Fin cfg0.N) (y : S2x2048x256.Idx) : EReal := G4 m c (ix3 (y 0) (row t.val (y 1)) (col t.val (pt_lt t) (y 2)))

theorem block (t : Fin cfg0.N) (y : S2x2048x256.Idx) :
    (out0_4 (F := Ideal) (grid0.coords t) (iblk m c 0 t) (iblk m c 1 t) (iblk m c 2 t) (iblk m c 3 t) y : EReal) = rows m c t y := by
  unfold out0_4
  refine View.canon_apply_of_pieces (Val := Elt Ideal) (e := .bf16) (rows m c t) _ ?_ y (cover0_4 _ _ y)
  intro pc hp
  rcases List.mem_cons.1 hp with rfl | hp
  · skip
    · intro x
      obtain ⟨z, p, q, rfl⟩ : ∃ (z : Fin 1) (p : Fin 2048) (q : Fin 256), x = ix3 z p q := ⟨x 0, x 1, x 2, eq_ix3 x⟩
      obtain rfl : z = 0 := Subsingleton.elim _ _
      have e : r0_4.emb (ix3 0 p q) = ix3 1 p q := by
        funext d; apply Fin.ext
        match d with
        | ⟨0, _⟩ => exact (show 1 + 1 * 0 = 1 by omega)
        | ⟨1, _⟩ => exact (show 0 + 1 * p.val = p.val by omega)
        | ⟨2, _⟩ => exact (show 0 + 1 * q.val = q.val by omega)
      refine Eq.trans ?_ (congrArg (rows m c t) e.symm)
      refine Eq.trans ?_ (v37_eq _ _ _ _ _).symm
      refine (pay1 _ _ _ _ p q).trans ?_
      rw [pay9, pay10]
      unfold back
      refine congrArg₂ (fun a b : EReal => a + b) (congrArg₂ (fun a b : EReal => a + b)
        (congrArg₂ (fun a b : EReal => a * b) ?_ ?_) (congrArg₂ (fun a b : EReal => a * b) ?_ ?_)) (congrArg₂ (fun a b : EReal => a * b) ?_ ?_)
      · exact (ld7 _ 0 q).trans (blk3 m c t 1 0 q)
      · refine Eq.trans ?_ (after_row m c t 1 p q)
        exact congrArg₂ (fun e v : EReal => Scalar.select _ (Scalar.select _ 0 e) v) (ld6 _ q) (ld4 _ _ q)
      · exact (ld7 _ 1 q).trans (blk3 m c t 1 1 q)
      · exact (ld4 _ p q).trans (blk0 m c t 1 p q)
      · exact (ld7 _ 2 q).trans (blk3 m c t 1 2 q)
      · refine Eq.trans ?_ (before_row m c t 1 p q)
        exact congrArg₂ (fun e v : EReal => Scalar.select _ (Scalar.select _ 0 e) v) (ld5 _ q) (ld4 _ _ q)
  · obtain rfl := List.mem_singleton.1 hp
    · intro x
      obtain ⟨z, p, q, rfl⟩ : ∃ (z : Fin 1) (p : Fin 2048) (q : Fin 256), x = ix3 z p q := ⟨x 0, x 1, x 2, eq_ix3 x⟩
      obtain rfl : z = 0 := Subsingleton.elim _ _
      have e : r0_0.emb (ix3 0 p q) = ix3 0 p q := by
        funext d; apply Fin.ext
        match d with
        | ⟨0, _⟩ => exact (show 0 + 1 * 0 = 0 by omega)
        | ⟨1, _⟩ => exact (show 0 + 1 * p.val = p.val by omega)
        | ⟨2, _⟩ => exact (show 0 + 1 * q.val = q.val by omega)
      refine Eq.trans ?_ (congrArg (rows m c t) e.symm)
      refine Eq.trans ?_ (v37_eq _ _ _ _ _).symm
      refine (pay7 _ _ _ p q).trans ?_
      rw [pay3, pay5]
      unfold back
      refine congrArg₂ (fun a b : EReal => a + b) (congrArg₂ (fun a b : EReal => a + b)
        (congrArg₂ (fun a b : EReal => a * b) ?_ ?_) (congrArg₂ (fun a b : EReal => a * b) ?_ ?_)) (congrArg₂ (fun a b : EReal => a * b) ?_ ?_)
      · exact (ld3 _ 0 q).trans (blk3 m c t 0 0 q)
      · refine Eq.trans ?_ (after_row m c t 0 p q)
        exact congrArg₂ (fun e v : EReal => Scalar.select _ (Scalar.select _ 0 e) v) (ld2 _ q) (ld0 _ _ q)
      · exact (ld3 _ 1 q).trans (blk3 m c t 0 1 q)
      · exact (ld0 _ p q).trans (blk0 m c t 0 p q)
      · exact (ld3 _ 2 q).trans (blk3 m c t 0 2 q)
      · refine Eq.trans ?_ (before_row m c t 0 p q)
        exact congrArg₂ (fun e v : EReal => Scalar.select _ (Scalar.select _ 0 e) v) (ld1 _ q) (ld0 _ _ q)

/-- Every block that the call writes is its part of the result. -/
theorem final4 : (dats m 0 c).arrAt 4 cfg0.N = G4 m c := by
  refine (dats m 0 c).arrAt_eq_of_covers 4 _ (by decide +kernel) fun t hf y => ?_
  blk_simp
  rw [after0_4]
  obtain ⟨h, p, q, rfl⟩ : ∃ (h : Fin 2) (p : Fin 2048) (q : Fin 256), y = ix3 h p q := ⟨y 0, y 1, y 2, eq_ix3 y⟩
  have e : (win0_4.blk t).view.emb (ix3 h p q) = ix3 h (row t.val p) (col t.val (pt_lt t) q) := by
    refine funext fun d => Fin.ext ?_
    fin_cases d
    · blk_simp [(idx t).2.2.2.2]
      try rfl
    · blk_simp [(idx t).2.2.2.2]
      rfl
    · blk_simp [(idx t).2.2.2.2]
      rfl
  exact (block m c t (ix3 h p q)).trans (congrArg (G4 m c) e.symm)

/-- The run, with its result named. -/
theorem run (ρ : Dev nD → PrngReg) : θ_run defs (onTc (τ := τ) (main (F := Ideal))) ⟨m, fun _ => 0, ρ⟩ fun r => ∀ c : Dev nD,
      r.2.mem ((c : Thread nD τ).loc main_v0) = G4 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final4 m c), (h c).2⟩) (run_blocks m ρ)

end Cert.Kernel14Ideal.ConvBwd

end
-- ==== Proof.ActBwdRef.lean ====
/-
  The backward of the ConvFFN's activation: the gradient of the convolution's result, and of its taps and bias, the sums
  over eight tiles of tokens.
-/
module

public import proofs.«01_k».proof.Proof.Tiles
public import proofs.«01_k».proof.Proof.ConvRows
public import proofs.«01_k».proof.Proof.Gen.Kernel15Ideal.Value
public import proofs.«01_k».proof.Proof.Gen.Reference15Ideal.Read
public import Idealize.ShloMosaic.Lib.Pipeline.ValueKit

@[expose] public section

set_option maxRecDepth 16384

noncomputable section

namespace Cert.Kernel15Ideal.ActBwd

open Idealize.ShloMosaic Idealize.ShloMosaic.TcCoe Idealize.SL.Sem
open Cert.Kernel15Ideal Cert.Kernel15Ideal.Gen Cert.Kernel15Ideal.Value
open Cert.Reference15Ideal.Read Cert.ConvRows Cert.Tiles

/-- What is a real number; sums and products of reals are. -/
def Real' (x : EReal) : Prop := ∃ r : ℝ, x = (r : EReal)
theorem real_zero : Real' 0 := ⟨0, rfl⟩
theorem real_add {x y : EReal} (a : Real' x) (b : Real' y) : Real' (x + y) := by
  obtain ⟨r, rfl⟩ := a; obtain ⟨s, rfl⟩ := b; exact ⟨r + s, (EReal.coe_add r s).symm⟩
theorem real_mul {x y : EReal} (a : Real' x) (b : Real' y) : Real' (x * y) := by
  obtain ⟨r, rfl⟩ := a; obtain ⟨s, rfl⟩ := b; exact ⟨r * s, (EReal.coe_mul r s).symm⟩
theorem real_sum {n : ℕ} (f : Fin n → EReal) (h : ∀ i, Real' (f i)) : Real' (∑ i, f i) := by
  classical
  induction (Finset.univ : Finset (Fin n)) using Finset.induction_on with
  | empty => exact real_zero
  | insert a s ha ih => rw [Finset.sum_insert ha]; exact real_add (h a) ih
theorem real_conv {w0 w1 w2 b : EReal} {f : Fin 16384 → EReal} (h0 : Real' w0) (h1 : Real' w1) (h2 : Real' w2) (hb : Real' b) (hf : ∀ t, Real' (f t))
    (t : Fin 16384) : Real' (conv w0 w1 w2 b f t) := by
  unfold conv before after
  refine real_add (real_add (real_add (real_mul h0 ?_) (real_mul h1 (hf t))) (real_mul h2 ?_)) hb
  · split
    · exact real_zero
    · exact hf _
  · split
    · exact hf _
    · exact real_zero

/-- Over reals, the two forms of the gate's gradient are equal. -/
theorem gate_eq {d g v : EReal} (hd : Real' d) (hg : Real' g) (hv : Real' v) :
    d * v * sigma g + g * (d * v) * (sigma g * (1 - sigma g)) = gateGrad d g v := by
  obtain ⟨d, rfl⟩ := hd; obtain ⟨g, rfl⟩ := hg; obtain ⟨v, rfl⟩ := hv
  obtain ⟨s, hs⟩ : ∃ s : ℝ, sigma (g : EReal) = (s : EReal) := by
    refine ⟨1 * (1 / (1 + Real.exp (-g))), ?_⟩
    unfold sigma
    rw [← EReal.coe_neg, Ideal.exp_coe, ← EReal.coe_one, ← EReal.coe_add, Ideal.div_coe (by positivity), ← EReal.coe_mul]
  unfold gateGrad
  rw [hs, ← EReal.coe_one]
  simp only [← EReal.coe_mul, ← EReal.coe_add, ← EReal.coe_sub]
  congr 1
  ring

/-- The token that a tap takes: the one before, the one at, and the one after. -/
def tap (s : Fin 3) (f : Fin 16384 → EReal) (t : Fin 16384) : EReal :=
  match s with
  | ⟨0, _⟩ => before f t
  | ⟨1, _⟩ => f t
  | ⟨2, _⟩ => after f t

/-- The tile's product with the second projection's columns. -/
theorem pay5 (x : Vec Ideal S2048x1024 .bf16) (w : Vec Ideal S256x1024 .bf16) (p : Fin 2048) (q : Fin 256) :
    (k0_pay5 (F := Ideal) x w (ix2 p q) : EReal) = ∑ k : Fin 1024, x (ix2 p k) * w (ix2 q k) := by
  unfold k0_pay5
  pointwise

/-- The rows before and after, from the tile and its neighbours' edges. -/
theorem pay9 (i : grid0.Coords) (v : Vec Ideal S1x2048x256 .bf16) (e : Vec Ideal S1x1x256 .bf16) (p : Fin 2048) (q : Fin 256) :
    (k0_pay9 (F := Ideal) i v e (ix2 p q) : EReal) = Scalar.select (IntOp.cmpi .eq (BitVec.ofNat 32 p.val) 0#32) (Scalar.select (IntOp.cmpi .eq (BitVec.ofNat 32 (i 1).val) 0#32) 0 (e (ix3 0 0 q) : EReal)) (v (ix3 0 ⟨(p.val + 2048 - 1) % 2048, Nat.mod_lt _ (by decide)⟩ q) : EReal) := by
  unfold k0_pay9
  pointwise [k0_pay6]
  rfl
theorem pay10 (i : grid0.Coords) (v : Vec Ideal S1x2048x256 .bf16) (e : Vec Ideal S1x1x256 .bf16) (p : Fin 2048) (q : Fin 256) :
    (k0_pay10 (F := Ideal) (k0_pay6 v) (k0_pay8 i e) (iota .tc S2048x256 32 [0] iota_S2048x256_d0_w32) 2047#32 (ix2 p q) : EReal) = Scalar.select (IntOp.cmpi .eq (BitVec.ofNat 32 p.val) 2047#32) (Scalar.select (IntOp.cmpi .eq (BitVec.ofNat 32 (i 1).val) 7#32) 0 (e (ix3 0 0 q) : EReal)) (v (ix3 0 ⟨(p.val + 2048 - 2047) % 2048, Nat.mod_lt _ (by decide)⟩ q) : EReal) := by
  unfold k0_pay10
  pointwise [k0_pay6, k0_pay8]
  rfl
theorem pay11 (a : BitVec 32) (v : Vec Ideal S1x2048x256 .bf16) (e : Vec Ideal S1x1x256 .bf16) (p : Fin 2048) (q : Fin 256) :
    (k0_pay11 (F := Ideal) a (k0_pay7 v) e (ix2 p q) : EReal) = Scalar.select (IntOp.cmpi .eq (BitVec.ofNat 32 p.val) 0#32) (Scalar.select (IntOp.cmpi .eq a 0#32) 0 (e (ix3 0 0 q) : EReal)) (v (ix3 0 ⟨(p.val + 2048 - 1) % 2048, Nat.mod_lt _ (by decide)⟩ q) : EReal) := by
  unfold k0_pay11
  pointwise [k0_pay7]
  rfl
theorem pay12 (a : BitVec 32) (v : Vec Ideal S1x2048x256 .bf16) (e : Vec Ideal S1x1x256 .bf16) (p : Fin 2048) (q : Fin 256) :
    (k0_pay12 (F := Ideal) a (k0_pay7 v) e (ix2 p q) : EReal) = Scalar.select (IntOp.cmpi .eq (BitVec.ofNat 32 p.val) 2047#32) (Scalar.select (IntOp.cmpi .eq a 7#32) 0 (e (ix3 0 0 q) : EReal)) (v (ix3 0 ⟨(p.val + 2048 - 2047) % 2048, Nat.mod_lt _ (by decide)⟩ q) : EReal) := by
  unfold k0_pay12
  pointwise [k0_pay7]
  rfl
theorem pay6 (v : Vec Ideal S1x2048x256 .bf16) (p : Fin 2048) (q : Fin 256) : (k0_pay6 (F := Ideal) v (ix2 p q) : EReal) = v (ix3 0 p q) := by
  pointwise [k0_pay6]
theorem pay7 (v : Vec Ideal S1x2048x256 .bf16) (p : Fin 2048) (q : Fin 256) : (k0_pay7 (F := Ideal) v (ix2 p q) : EReal) = v (ix3 0 p q) := by
  pointwise [k0_pay7]

/-- The gate, and the two gradients. -/
theorem pay17 (x dn up : FVec Ideal S2048x256 .f32) (w : Vec Ideal S1x3x256 .f32) (b : Vec Ideal S1x1x256 .f32) (p : Fin 2048) (q : Fin 256) :
    (k0_pay17 (F := Ideal) x dn (k0_pay13 w) (k0_pay15 up w) (k0_pay16 w) b (ix2 p q) : EReal)
      = w (ix3 0 0 q) * up (ix2 p q) + w (ix3 0 1 q) * x (ix2 p q) + w (ix3 0 2 q) * dn (ix2 p q) + b (ix3 0 0 q) := by
  pointwise [k0_pay17, k0_pay13, k0_pay15, k0_pay16]
theorem pay18 (x dn y : FVec Ideal S2048x256 .f32) (w : FVec Ideal S3x256 .f32) (u : FVec Ideal S1x256 .f32) (b : Vec Ideal S1x1x256 .f32) (p : Fin 2048) (q : Fin 256) :
    (k0_pay18 (F := Ideal) x dn w y u b (ix2 p q) : EReal) = sigma (k0_pay17 (F := Ideal) x dn w y u b (ix2 p q)) := by
  unfold k0_pay18
  generalize k0_pay17 (F := Ideal) x dn w y u b = g
  pointwise [sigma]
  try rw [zero_sub]
theorem pay19 (da x v dn up' dn' y : FVec Ideal S2048x256 .f32) (w : FVec Ideal S3x256 .f32) (w' : Vec Ideal S1x3x256 .f32) (u : FVec Ideal S1x256 .f32) (b b' : Vec Ideal S1x1x256 .f32) (p : Fin 2048) (q : Fin 256) :
    (k0_pay19 (F := Ideal) da x v dn up' dn' w (k0_pay14 w') y u b b' (ix2 p q) : EReal)
      = gateGrad (da (ix2 p q)) (k0_pay17 (F := Ideal) x dn w y u b (ix2 p q))
        (w' (ix3 0 0 q) * up' (ix2 p q) + w' (ix3 0 1 q) * v (ix2 p q) + w' (ix3 0 2 q) * dn' (ix2 p q) + b' (ix3 0 0 q)) := by
  have e := pay18 x dn y w u b p q
  unfold k0_pay19 gateGrad
  rw [← e]
  generalize k0_pay18 (F := Ideal) x dn w y u b = s
  generalize k0_pay17 (F := Ideal) x dn w y u b = g
  pointwise [k0_pay14]
theorem pay20 (da x dn y : FVec Ideal S2048x256 .f32) (w : FVec Ideal S3x256 .f32) (u : FVec Ideal S1x256 .f32) (b : Vec Ideal S1x1x256 .f32) (p : Fin 2048) (q : Fin 256) :
    (k0_pay20 (F := Ideal) da x dn w y u b (ix2 p q) : EReal) = valGrad (da (ix2 p q)) (k0_pay17 (F := Ideal) x dn w y u b (ix2 p q)) := by
  have e := pay18 x dn y w u b p q
  unfold k0_pay20 valGrad
  rw [← e]
  generalize k0_pay18 (F := Ideal) x dn w y u b = s
  generalize k0_pay17 (F := Ideal) x dn w y u b = g
  pointwise

/-- What a point writes of the gradient, and what it adds to the sums. -/
theorem pay22 (v : FVec Ideal S2048x256 .bf16) (p : Fin 2048) (q : Fin 256) : (k0_pay22 (F := Ideal) v (ix3 0 p q) : EReal) = v (ix2 p q) := by
  pointwise [k0_pay22]
theorem pay23 (v : FVec Ideal S2048x256 .f32) (p : Fin 2048) (q : Fin 256) : (k0_pay23 (F := Ideal) v (ix3 0 p q) : EReal) = v (ix2 p q) := by
  pointwise [k0_pay23]
theorem pay27 (d : FVec Ideal S2048x256 .f32) (acc : Vec Ideal S1x1x256 .f32) (q : Fin 256) : (k0_pay27 (F := Ideal) d acc (ix3 0 0 q) : EReal) = acc (ix3 0 0 q) + ∑ p : Fin 2048, d (ix2 p q) := by
  pointwise [k0_pay27]
theorem pay2 (d : FVec Ideal S2048x256 .f32) (acc : Vec Ideal S1x1x256 .f32) (q : Fin 256) : (k0_pay2 (F := Ideal) d acc (ix3 0 0 q) : EReal) = acc (ix3 0 0 q) + ∑ p : Fin 2048, d (ix2 p q) := by
  pointwise [k0_pay2]
theorem pay24 (x d : FVec Ideal S2048x256 .f32) (acc : Vec Ideal S1x1x256 .f32) (q : Fin 256) : (k0_pay24 (F := Ideal) x d acc (ix3 0 0 q) : EReal) = acc (ix3 0 0 q) + ∑ p : Fin 2048, d (ix2 p q) * x (ix2 p q) := by
  pointwise [k0_pay24]
theorem pay25 (x d : FVec Ideal S2048x256 .f32) (acc : Vec Ideal S1x1x256 .f32) (q : Fin 256) : (k0_pay25 (F := Ideal) x d acc (ix3 0 0 q) : EReal) = acc (ix3 0 0 q) + ∑ p : Fin 2048, d (ix2 p q) * x (ix2 p q) := by
  pointwise [k0_pay25]
theorem pay26 (x d : FVec Ideal S2048x256 .f32) (acc : Vec Ideal S1x1x256 .f32) (q : Fin 256) : (k0_pay26 (F := Ideal) x d acc (ix3 0 0 q) : EReal) = acc (ix3 0 0 q) + ∑ p : Fin 2048, d (ix2 p q) * x (ix2 p q) := by
  pointwise [k0_pay26]
theorem pay28 (x d : FVec Ideal S2048x256 .f32) (acc : Vec Ideal S1x1x256 .f32) (q : Fin 256) : (k0_pay28 (F := Ideal) x d acc (ix3 0 0 q) : EReal) = acc (ix3 0 0 q) + ∑ p : Fin 2048, d (ix2 p q) * x (ix2 p q) := by
  pointwise [k0_pay28]
theorem pay29 (x d : FVec Ideal S2048x256 .f32) (acc : Vec Ideal S1x1x256 .f32) (q : Fin 256) : (k0_pay29 (F := Ideal) x d acc (ix3 0 0 q) : EReal) = acc (ix3 0 0 q) + ∑ p : Fin 2048, d (ix2 p q) * x (ix2 p q) := by
  pointwise [k0_pay29]
theorem pay1 (x d : FVec Ideal S2048x256 .f32) (acc : Vec Ideal S1x1x256 .f32) (q : Fin 256) : (k0_pay1 (F := Ideal) (k0_pay30 acc) (k0_pay31 x d) (ix3 0 0 q) : EReal) = acc (ix3 0 0 q) + ∑ p : Fin 2048, d (ix2 p q) * x (ix2 p q) := by
  pointwise [k0_pay1, k0_pay30, k0_pay31]
theorem pay3 (h : Fin 2) (s : Fin 3) (q : Fin 256) : (k0_pay3 (F := Ideal) (ix3 h s q) : EReal) = 0 := by
  pointwise [k0_pay3]
theorem pay4 (h : Fin 2) (s : Fin 1) (q : Fin 256) : (k0_pay4 (F := Ideal) (ix3 h s q) : EReal) = 0 := by
  pointwise [k0_pay4]

/-- The reference's convolution, product and gradient. -/
theorem v20_eq (x2 : Vec Ideal S2x16384x2816 .bf16) (x3 : Vec Ideal S2x3x2816 .f32) (x4 : Vec Ideal S2x1x2816 .f32) (h : Fin 2) (t : Fin 16384) (r : Fin 2816) :
    (val_main_v20 (F := Ideal) x2 x3 x4 (ix3 h t r) : EReal)
      = conv (x3 (ix3 h 0 r)) (x3 (ix3 h 1 r)) (x3 (ix3 h 2 r)) (x4 (ix3 h 0 r)) (fun t => x2 (ix3 h t r)) t := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst]
  rfl
theorem v28_eq (x0 : Vec Ideal S16384x1024 .bf16) (x1 : Vec Ideal S2816x1024 .bf16) (t : Fin 16384) (r : Fin 2816) :
    (val_main_v28 (F := Ideal) x0 x1 (ix2 t r) : EReal) = ∑ k : Fin 1024, x0 (ix2 t k) * x1 (ix2 r k) := by
  pointwise [val_main_v28, val_main_v0, val_main_v1]
theorem v20_real (x2 : Vec Ideal S2x16384x2816 .bf16) (x3 : Vec Ideal S2x3x2816 .f32) (x4 : Vec Ideal S2x1x2816 .f32)
    (R2 : ∀ i, Real' (x2 i)) (R3 : ∀ i, Real' (x3 i)) (R4 : ∀ i, Real' (x4 i)) (h : Fin 2) (t : Fin 16384) (r : Fin 2816) :
    Real' (val_main_v20 (F := Ideal) x2 x3 x4 (ix3 h t r)) := by
  rw [v20_eq]
  exact real_conv (R3 _) (R3 _) (R3 _) (R4 _) (fun t => R2 _) t
theorem v28_real (x0 : Vec Ideal S16384x1024 .bf16) (x1 : Vec Ideal S2816x1024 .bf16) (R0 : ∀ i, Real' (x0 i)) (R1 : ∀ i, Real' (x1 i))
    (t : Fin 16384) (r : Fin 2816) : Real' (val_main_v28 (F := Ideal) x0 x1 (ix2 t r)) := by
  rw [v28_eq]
  exact real_sum _ fun k => real_mul (R0 _) (R1 _)
section
variable (x0 : Vec Ideal S16384x1024 .bf16) (x1 : Vec Ideal S2816x1024 .bf16) (x2 : Vec Ideal S2x16384x2816 .bf16) (x3 : Vec Ideal S2x3x2816 .f32) (x4 : Vec Ideal S2x1x2816 .f32)
theorem v36_val (t : Fin 16384) (r : Fin 2816) : (val_main_v36 (F := Ideal) x0 x1 x2 x3 x4 (ix3 1 t r) : EReal)
      = valGrad (val_main_v28 (F := Ideal) x0 x1 (ix2 t r)) (val_main_v20 (F := Ideal) x2 x3 x4 (ix3 0 t r)) := by
  unfold val_main_v36 val_main_v32 val_main_v31 val_main_v29 val_main_v23_0 val_main_v23_2 val_main_call0_v3 val_main_call0_v1 val_main_call0_v0 val_main_v22 val_main_v21 val_main_v35
  generalize val_main_v28 (F := Ideal) x0 x1 = d
  generalize val_main_v20 (F := Ideal) x2 x3 x4 = y
  generalize val_main_v34 (F := Ideal) x0 x1 x2 x3 x4 = z
  pointwise [val_main_call0_v4, val_main_call0_v2, val_main_call0_cst, val_main_call0_cst_0, val_main_cst_0, val_main_cst_1]
  unfold valGrad sigma
  first | rw [mul_comm (G := EReal)] | skip
  simp only [mul_assoc]
theorem v36_gate (R0 : ∀ i, Real' (x0 i)) (R1 : ∀ i, Real' (x1 i)) (R2 : ∀ i, Real' (x2 i)) (R3 : ∀ i, Real' (x3 i)) (R4 : ∀ i, Real' (x4 i)) (t : Fin 16384) (r : Fin 2816) : (val_main_v36 (F := Ideal) x0 x1 x2 x3 x4 (ix3 0 t r) : EReal)
      = gateGrad (val_main_v28 (F := Ideal) x0 x1 (ix2 t r)) (val_main_v20 (F := Ideal) x2 x3 x4 (ix3 0 t r)) (val_main_v20 (F := Ideal) x2 x3 x4 (ix3 1 t r)) := by
  have D := v28_real x0 x1 R0 R1 t r
  have Y0 := v20_real x2 x3 x4 R2 R3 R4 0 t r
  have Y1 := v20_real x2 x3 x4 R2 R3 R4 1 t r
  refine Eq.trans ?_ (gate_eq D Y0 Y1)
  clear D Y0 Y1
  unfold val_main_v36 val_main_v35 val_main_v34 val_main_v33 val_main_call1_v2 val_main_call1_v1 val_main_call1_v0 val_main_v30 val_main_v23_1 val_main_call0_v7 val_main_v23_2 val_main_call0_v3 val_main_call0_v1 val_main_call0_v0 val_main_v22 val_main_v21 val_main_v25 val_main_v24 val_main_v32
  generalize val_main_v28 (F := Ideal) x0 x1 = d
  generalize val_main_v20 (F := Ideal) x2 x3 x4 = y
  generalize val_main_v31 (F := Ideal) x0 x1 x2 x3 x4 = z
  pointwise [val_main_call0_v6, val_main_call0_cst_1, val_main_call0_v4, val_main_call0_v2, val_main_call0_cst, val_main_call0_cst_0, val_main_cst_0, val_main_cst_1]
  try unfold sigma
  try rfl
theorem v39_eq (h : Fin 2) (r : Fin 2816) : (val_main_v39 (F := Ideal) x0 x1 x2 x3 x4 (ix3 h 0 r) : EReal) = ∑ t : Fin 16384, val_main_v36 (F := Ideal) x0 x1 x2 x3 x4 (ix3 h t r) := by
  unfold val_main_v39 val_main_v38
  generalize val_main_v36 (F := Ideal) x0 x1 x2 x3 x4 = y
  pointwise [val_main_cst_2]
theorem v5_eq (h : Fin 2) (t : Fin 16384) (r : Fin 2816) : (val_main_v5 (F := Ideal) x2 (ix3 h t r) : EReal) = before (fun k => x2 (ix3 h k r)) t := by
  pointwise [val_main_v5, val_main_v4, val_main_v3, val_main_v2, val_main_cst]
  rfl
theorem v7_eq (h : Fin 2) (t : Fin 16384) (r : Fin 2816) : (val_main_v7 (F := Ideal) x2 (ix3 h t r) : EReal) = after (fun k => x2 (ix3 h k r)) t := by
  pointwise [val_main_v7, val_main_v6, val_main_v3, val_main_v2, val_main_cst]
  rfl
theorem v53_eq (h : Fin 2) (s : Fin 3) (r : Fin 2816) : (val_main_v53 (F := Ideal) x0 x1 x2 x3 x4 (ix3 h s r) : EReal)
      = ∑ t : Fin 16384, val_main_v36 (F := Ideal) x0 x1 x2 x3 x4 (ix3 h t r) * tap s (fun k => x2 (ix3 h k r)) t := by
  have e5 : ∀ t : Fin 16384, (val_main_v5 (F := Ideal) x2 (ix3 h t r) : EReal) = before (fun k => x2 (ix3 h k r)) t := fun t => v5_eq x2 h t r
  have e7 : ∀ t : Fin 16384, (val_main_v7 (F := Ideal) x2 (ix3 h t r) : EReal) = after (fun k => x2 (ix3 h k r)) t := fun t => v7_eq x2 h t r
  have e2 : val_main_v2 (F := Ideal) x2 = x2 := rfl
  unfold val_main_v53 val_main_v52 val_main_v51 val_main_v50 val_main_v49 val_main_v48 val_main_v47 val_main_v46 val_main_v45 val_main_v44 val_main_v43 val_main_v42 val_main_v41 val_main_v40 tap
  rw [e2]
  generalize val_main_v36 (F := Ideal) x0 x1 x2 x3 x4 = y
  generalize val_main_v5 (F := Ideal) x2 = b5 at e5 ⊢
  generalize val_main_v7 (F := Ideal) x2 = b7 at e7 ⊢
  simp only [← e5, ← e7]
  match s with
  | ⟨0, _⟩ =>
    pointwise [val_main_cst_3, val_main_cst_4, val_main_cst_5, val_main_cst_6, val_main_cst_7, val_main_cst_8]
    try simp
  | ⟨1, _⟩ =>
    pointwise [val_main_cst_3, val_main_cst_4, val_main_cst_5, val_main_cst_6, val_main_cst_7, val_main_cst_8]
    try simp
  | ⟨2, _⟩ =>
    pointwise [val_main_cst_3, val_main_cst_4, val_main_cst_5, val_main_cst_6, val_main_cst_7, val_main_cst_8]
    try simp
end

end Cert.Kernel15Ideal.ActBwd

end
-- ==== Proof.ActBwd.lean ====
/-
  The backward of the ConvFFN's activation: the gradient of the convolution's result, and of its taps and bias, the sums
  over eight tiles of tokens.
-/
module

public import proofs.«01_k».proof.Proof.Tiles
public import proofs.«01_k».proof.Proof.ActBwdRef
public import proofs.«01_k».proof.Proof.Gen.Kernel15Ideal.Value
public import proofs.«01_k».proof.Proof.Gen.Reference15Ideal.Read
public import Idealize.ShloMosaic.Lib.Pipeline.ValueKit

@[expose] public section

set_option maxRecDepth 16384

noncomputable section

namespace Cert.Kernel15Ideal.ActBwd

open Idealize.ShloMosaic Idealize.ShloMosaic.TcCoe Idealize.SL.Sem
open Cert.Kernel15Ideal Cert.Kernel15Ideal.Gen Cert.Kernel15Ideal.Value
open Cert.Reference15Ideal.Read Cert.ConvRows Cert.Tiles

/-- The loads and the stores, of one half, or one row, of a block. -/
theorem ldU (x : Vec Ideal S2x2048x256 .bf16) (h' : ℕ) (inb) (h : Fin 2) (s : Fin 2048) (q : Fin 256) (eh : h.val = h') :
    View.ld (Val := Elt Ideal) x (Rect.unit ![h', 0, 0] ![1, 2048, 256] inb) (ix3 0 s q) = x (ix3 h s q) := by
  subst eh
  refine congrArg x (funext fun d => Fin.ext ?_)
  match d with
  | ⟨0, _⟩ => exact (show h.val + 1 * 0 = h.val by omega)
  | ⟨1, _⟩ => exact (show 0 + 1 * s.val = s.val by omega)
  | ⟨2, _⟩ => exact (show 0 + 1 * q.val = q.val by omega)
theorem ldE (x : Vec Ideal S2x16x256 .bf16) (h' s' : ℕ) (inb) (h : Fin 2) (s : Fin 16) (q : Fin 256) (eh : h.val = h') (es : s.val = s') :
    View.ld (Val := Elt Ideal) x (Rect.unit ![h', s', 0] ![1, 1, 256] inb) (ix3 0 0 q) = x (ix3 h s q) := by
  subst eh; subst es
  refine congrArg x (funext fun d => Fin.ext ?_)
  match d with
  | ⟨0, _⟩ => exact (show h.val + 1 * 0 = h.val by omega)
  | ⟨1, _⟩ => exact (show s.val + 1 * 0 = s.val by omega)
  | ⟨2, _⟩ => exact (show 0 + 1 * q.val = q.val by omega)
theorem ldW (x : Vec Ideal S2x3x256 .f32) (h' : ℕ) (inb) (h : Fin 2) (s : Fin 3) (q : Fin 256) (eh : h.val = h') :
    View.ld (Val := Elt Ideal) x (Rect.unit ![h', 0, 0] ![1, 3, 256] inb) (ix3 0 s q) = x (ix3 h s q) := by
  subst eh
  refine congrArg x (funext fun d => Fin.ext ?_)
  match d with
  | ⟨0, _⟩ => exact (show h.val + 1 * 0 = h.val by omega)
  | ⟨1, _⟩ => exact (show 0 + 1 * s.val = s.val by omega)
  | ⟨2, _⟩ => exact (show 0 + 1 * q.val = q.val by omega)
theorem ld8 (x : Vec Ideal S2x3x256 .f32) (h' s' : ℕ) (inb) (h : Fin 2) (s : Fin 3) (q : Fin 256) (eh : h.val = h') (es : s.val = s') :
    View.ld (Val := Elt Ideal) x (Rect.unit ![h', s', 0] ![1, 1, 256] inb) (ix3 0 0 q) = x (ix3 h s q) := by
  subst eh; subst es
  refine congrArg x (funext fun d => Fin.ext ?_)
  match d with
  | ⟨0, _⟩ => exact (show h.val + 1 * 0 = h.val by omega)
  | ⟨1, _⟩ => exact (show s.val + 1 * 0 = s.val by omega)
  | ⟨2, _⟩ => exact (show 0 + 1 * q.val = q.val by omega)
theorem ld9 (x : Vec Ideal S2x1x256 .f32) (h' s' : ℕ) (inb) (h : Fin 2) (s : Fin 1) (q : Fin 256) (eh : h.val = h') (es : s.val = s') :
    View.ld (Val := Elt Ideal) x (Rect.unit ![h', s', 0] ![1, 1, 256] inb) (ix3 0 0 q) = x (ix3 h s q) := by
  subst eh; subst es
  refine congrArg x (funext fun d => Fin.ext ?_)
  match d with
  | ⟨0, _⟩ => exact (show h.val + 1 * 0 = h.val by omega)
  | ⟨1, _⟩ => exact (show s.val + 1 * 0 = s.val by omega)
  | ⟨2, _⟩ => exact (show 0 + 1 * q.val = q.val by omega)
theorem hit7 (h' : ℕ) (inb) (w : (Rect.unit (s := S2x2048x256) ![h', 0, 0] ![1, 2048, 256] inb).shape.Idx → Elt Ideal .bf16) (L : List (View.Piece (Elt Ideal) S2x2048x256 .bf16)) (h : Fin 2) (s : Fin 2048) (q : Fin 256) (eh : h.val = h') :
    View.canon (⟨Rect.unit (s := S2x2048x256) ![h', 0, 0] ![1, 2048, 256] inb, w⟩ :: L) (ix3 h s q) = w (ix3 0 s q) := by
  subst eh
  have e : ix3 h s q = (Rect.unit (s := S2x2048x256) ![h.val, 0, 0] ![1, 2048, 256] inb).emb (ix3 0 s q) := by
    funext d; apply Fin.ext
    match d with
    | ⟨0, _⟩ => exact (show h.val = h.val + 1 * 0 by omega)
    | ⟨1, _⟩ => exact (show s.val = 0 + 1 * s.val by omega)
    | ⟨2, _⟩ => exact (show q.val = 0 + 1 * q.val by omega)
  rw [e]
  exact View.canon_cons_emb _ w L _
theorem skip7 (h' : ℕ) (inb) (w : (Rect.unit (s := S2x2048x256) ![h', 0, 0] ![1, 2048, 256] inb).shape.Idx → Elt Ideal .bf16) (L : List (View.Piece (Elt Ideal) S2x2048x256 .bf16)) (h : Fin 2) (s : Fin 2048) (q : Fin 256) (g : h.val ≠ h') :
    View.canon (⟨Rect.unit (s := S2x2048x256) ![h', 0, 0] ![1, 2048, 256] inb, w⟩ :: L) (ix3 h s q) = View.canon L (ix3 h s q) :=
  View.canon_cons_of_not_mem (⟨Rect.unit (s := S2x2048x256) ![h', 0, 0] ![1, 2048, 256] inb, w⟩ : View.Piece (Elt Ideal) S2x2048x256 .bf16) L fun hm => by
    have hm' := (Rect.mem_set_unit (s := S2x2048x256) (off := ![h', 0, 0]) (size := ![1, 2048, 256]) (inb := inb)).1 hm
    have g0 : h' ≤ h.val ∧ h.val < h' + 1 := hm' 0
    omega
theorem hit8 (h' s' : ℕ) (inb) (w : (Rect.unit (s := S2x3x256) ![h', s', 0] ![1, 1, 256] inb).shape.Idx → Elt Ideal .f32) (L : List (View.Piece (Elt Ideal) S2x3x256 .f32)) (h : Fin 2) (s : Fin 3) (q : Fin 256) (eh : h.val = h') (es : s.val = s') :
    View.canon (⟨Rect.unit (s := S2x3x256) ![h', s', 0] ![1, 1, 256] inb, w⟩ :: L) (ix3 h s q) = w (ix3 0 0 q) := by
  subst eh; subst es
  have e : ix3 h s q = (Rect.unit (s := S2x3x256) ![h.val, s.val, 0] ![1, 1, 256] inb).emb (ix3 0 0 q) := by
    funext d; apply Fin.ext
    match d with
    | ⟨0, _⟩ => exact (show h.val = h.val + 1 * 0 by omega)
    | ⟨1, _⟩ => exact (show s.val = s.val + 1 * 0 by omega)
    | ⟨2, _⟩ => exact (show q.val = 0 + 1 * q.val by omega)
  rw [e]
  exact View.canon_cons_emb _ w L _
theorem skip8 (h' s' : ℕ) (inb) (w : (Rect.unit (s := S2x3x256) ![h', s', 0] ![1, 1, 256] inb).shape.Idx → Elt Ideal .f32) (L : List (View.Piece (Elt Ideal) S2x3x256 .f32)) (h : Fin 2) (s : Fin 3) (q : Fin 256) (g : h.val ≠ h' ∨ s.val ≠ s') :
    View.canon (⟨Rect.unit (s := S2x3x256) ![h', s', 0] ![1, 1, 256] inb, w⟩ :: L) (ix3 h s q) = View.canon L (ix3 h s q) :=
  View.canon_cons_of_not_mem (⟨Rect.unit (s := S2x3x256) ![h', s', 0] ![1, 1, 256] inb, w⟩ : View.Piece (Elt Ideal) S2x3x256 .f32) L fun hm => by
    have hm' := (Rect.mem_set_unit (s := S2x3x256) (off := ![h', s', 0]) (size := ![1, 1, 256]) (inb := inb)).1 hm
    have g0 : h' ≤ h.val ∧ h.val < h' + 1 := hm' 0
    have g1 : s' ≤ s.val ∧ s.val < s' + 1 := hm' 1
    omega
theorem load8 {sp : Space} (v : View sig .tc sp S2x3x256 .f32) (L : List (View.Piece (Elt Ideal) S2x3x256 .f32)) (h' s' : ℕ) (inb) (h : Fin 2) (s : Fin 3) (q : Fin 256) (eh : h.val = h') (es : s.val = s') :
    v.readCov L (Rect.unit (s := S2x3x256) ![h', s', 0] ![1, 1, 256] inb).toLoadRect (ix3 0 0 q) = View.canon L (ix3 h s q) := by
  subst eh; subst es
  have e : (Rect.unit (s := S2x3x256) ![h.val, s.val, 0] ![1, 1, 256] inb).toLoadRect.idx (ix3 0 0 q) = ix3 h s q := by
    funext d; apply Fin.ext
    match d with
    | ⟨0, _⟩ => exact (show h.val + 1 * 0 = h.val by omega)
    | ⟨1, _⟩ => exact (show s.val + 1 * 0 = s.val by omega)
    | ⟨2, _⟩ => exact (show 0 + 1 * q.val = q.val by omega)
  refine Eq.trans ?_ (congrArg (View.canon L) e)
  exact View.read_writes_junk_apply_eq_canon v _ L
theorem whole8 (inb) (w : (Rect.unit (s := S2x3x256) ![0, 0, 0] ![2, 3, 256] inb).shape.Idx → Elt Ideal .f32) (h : Fin 2) (s : Fin 3) (q : Fin 256) :
    View.canon [⟨Rect.unit (s := S2x3x256) ![0, 0, 0] ![2, 3, 256] inb, w⟩] (ix3 h s q) = w (ix3 h s q) := by
  have e : ix3 h s q = (Rect.unit (s := S2x3x256) ![0, 0, 0] ![2, 3, 256] inb).emb (ix3 h s q) := by
    funext d; apply Fin.ext
    match d with
    | ⟨0, _⟩ => exact (show h.val = 0 + 1 * h.val by omega)
    | ⟨1, _⟩ => exact (show s.val = 0 + 1 * s.val by omega)
    | ⟨2, _⟩ => exact (show q.val = 0 + 1 * q.val by omega)
  exact (congrArg (View.canon _) e).trans (View.canon_cons_emb _ w [] _)
theorem hit9 (h' s' : ℕ) (inb) (w : (Rect.unit (s := S2x1x256) ![h', s', 0] ![1, 1, 256] inb).shape.Idx → Elt Ideal .f32) (L : List (View.Piece (Elt Ideal) S2x1x256 .f32)) (h : Fin 2) (s : Fin 1) (q : Fin 256) (eh : h.val = h') (es : s.val = s') :
    View.canon (⟨Rect.unit (s := S2x1x256) ![h', s', 0] ![1, 1, 256] inb, w⟩ :: L) (ix3 h s q) = w (ix3 0 0 q) := by
  subst eh; subst es
  have e : ix3 h s q = (Rect.unit (s := S2x1x256) ![h.val, s.val, 0] ![1, 1, 256] inb).emb (ix3 0 0 q) := by
    funext d; apply Fin.ext
    match d with
    | ⟨0, _⟩ => exact (show h.val = h.val + 1 * 0 by omega)
    | ⟨1, _⟩ => exact (show s.val = s.val + 1 * 0 by omega)
    | ⟨2, _⟩ => exact (show q.val = 0 + 1 * q.val by omega)
  rw [e]
  exact View.canon_cons_emb _ w L _
theorem skip9 (h' s' : ℕ) (inb) (w : (Rect.unit (s := S2x1x256) ![h', s', 0] ![1, 1, 256] inb).shape.Idx → Elt Ideal .f32) (L : List (View.Piece (Elt Ideal) S2x1x256 .f32)) (h : Fin 2) (s : Fin 1) (q : Fin 256) (g : h.val ≠ h' ∨ s.val ≠ s') :
    View.canon (⟨Rect.unit (s := S2x1x256) ![h', s', 0] ![1, 1, 256] inb, w⟩ :: L) (ix3 h s q) = View.canon L (ix3 h s q) :=
  View.canon_cons_of_not_mem (⟨Rect.unit (s := S2x1x256) ![h', s', 0] ![1, 1, 256] inb, w⟩ : View.Piece (Elt Ideal) S2x1x256 .f32) L fun hm => by
    have hm' := (Rect.mem_set_unit (s := S2x1x256) (off := ![h', s', 0]) (size := ![1, 1, 256]) (inb := inb)).1 hm
    have g0 : h' ≤ h.val ∧ h.val < h' + 1 := hm' 0
    have g1 : s' ≤ s.val ∧ s.val < s' + 1 := hm' 1
    omega
theorem load9 {sp : Space} (v : View sig .tc sp S2x1x256 .f32) (L : List (View.Piece (Elt Ideal) S2x1x256 .f32)) (h' s' : ℕ) (inb) (h : Fin 2) (s : Fin 1) (q : Fin 256) (eh : h.val = h') (es : s.val = s') :
    v.readCov L (Rect.unit (s := S2x1x256) ![h', s', 0] ![1, 1, 256] inb).toLoadRect (ix3 0 0 q) = View.canon L (ix3 h s q) := by
  subst eh; subst es
  have e : (Rect.unit (s := S2x1x256) ![h.val, s.val, 0] ![1, 1, 256] inb).toLoadRect.idx (ix3 0 0 q) = ix3 h s q := by
    funext d; apply Fin.ext
    match d with
    | ⟨0, _⟩ => exact (show h.val + 1 * 0 = h.val by omega)
    | ⟨1, _⟩ => exact (show s.val + 1 * 0 = s.val by omega)
    | ⟨2, _⟩ => exact (show 0 + 1 * q.val = q.val by omega)
  refine Eq.trans ?_ (congrArg (View.canon L) e)
  exact View.read_writes_junk_apply_eq_canon v _ L
theorem whole9 (inb) (w : (Rect.unit (s := S2x1x256) ![0, 0, 0] ![2, 1, 256] inb).shape.Idx → Elt Ideal .f32) (h : Fin 2) (s : Fin 1) (q : Fin 256) :
    View.canon [⟨Rect.unit (s := S2x1x256) ![0, 0, 0] ![2, 1, 256] inb, w⟩] (ix3 h s q) = w (ix3 h s q) := by
  have e : ix3 h s q = (Rect.unit (s := S2x1x256) ![0, 0, 0] ![2, 1, 256] inb).emb (ix3 h s q) := by
    funext d; apply Fin.ext
    match d with
    | ⟨0, _⟩ => exact (show h.val = 0 + 1 * h.val by omega)
    | ⟨1, _⟩ => exact (show s.val = 0 + 1 * s.val by omega)
    | ⟨2, _⟩ => exact (show q.val = 0 + 1 * q.val by omega)
  exact (congrArg (View.canon _) e).trans (View.canon_cons_emb _ w [] _)

variable (m : (ℓ : Loc nD τ sig) → Buf (Elt Ideal) ℓ) (c : Dev nD)

theorem idx : ∀ t : Fin cfg0.N, win0_0.index t = ![t.val % 8, 0] ∧ win0_1.index t = ![t.val / 8, 0] ∧ win0_2.index t = ![0, t.val % 8, t.val / 8] ∧ win0_3.index t = ![0, t.val % 8 * 128 - 1, t.val / 8]
    ∧ win0_4.index t = ![0, min (t.val % 8 * 128 + 128) 1023, t.val / 8] ∧ win0_5.index t = ![0, 0, t.val / 8] ∧ win0_6.index t = ![0, 0, t.val / 8]
    ∧ win0_7.index t = ![0, t.val % 8, t.val / 8] ∧ win0_8.index t = ![0, 0, t.val / 8] ∧ win0_9.index t = ![0, 0, t.val / 8] :=
  (by decide +kernel : ∀ t : Fin grid0.N, _)
theorem coord : ∀ t : Fin cfg0.N, (grid0.coords t 1).val = t.val % 8 := (by decide +kernel : ∀ t : Fin grid0.N, _)

theorem pt_lt (t : Fin cfg0.N) : t.val < 88 := lt_of_lt_of_eq t.2 (show cfg0.N = 88 from N_0)

/-- The call's arguments. -/
abbrev a0 : Vec Ideal S16384x1024 .bf16 := m ((c : Thread nD τ).loc main_arg0)
abbrev a1 : Vec Ideal S2816x1024 .bf16 := m ((c : Thread nD τ).loc main_arg1)
abbrev a2 : Vec Ideal S2x16384x2816 .bf16 := m ((c : Thread nD τ).loc main_arg2)
abbrev a3 : Vec Ideal S2x3x2816 .f32 := m ((c : Thread nD τ).loc main_arg3)
abbrev a4 : Vec Ideal S2x1x2816 .f32 := m ((c : Thread nD τ).loc main_arg4)

theorem blk0 (t : Fin cfg0.N) (p : Fin 2048) (k : Fin 1024) :
    iblk m c 0 t (ix2 p k) = a0 m c (ix2 (row t.val p) k) := by
  have ht := pt_lt t
  have e : iblk m c 0 t (ix2 p k) = V m c main_arg0 ((win0_0.blk t).view.emb (ix2 p k)) := by
    unfold iblk; generalize V m c = X; unfold View.read; exact cast_eq _ _
  rw [e, V_main_arg0]
  congr 1
  refine funext fun d => Fin.ext ?_
  fin_cases d
  · blk_simp [(idx t).1]
    try rfl
  · blk_simp [(idx t).1]
    try rfl
theorem blk1 (t : Fin cfg0.N) (q : Fin 256) (k : Fin 1024) :
    iblk m c 1 t (ix2 q k) = a1 m c (ix2 (col t.val (pt_lt t) q) k) := by
  have ht := pt_lt t
  have e : iblk m c 1 t (ix2 q k) = V m c main_arg1 ((win0_1.blk t).view.emb (ix2 q k)) := by
    unfold iblk; generalize V m c = X; unfold View.read; exact cast_eq _ _
  rw [e, V_main_arg1]
  congr 1
  refine funext fun d => Fin.ext ?_
  fin_cases d
  · blk_simp [(idx t).2.1]
    try rfl
  · blk_simp [(idx t).2.1]
    try rfl
theorem blk2 (t : Fin cfg0.N) (h : Fin 2) (p : Fin 2048) (q : Fin 256) :
    iblk m c 2 t (ix3 h p q) = a2 m c (ix3 h (row t.val p) (col t.val (pt_lt t) q)) := by
  have ht := pt_lt t
  have e : iblk m c 2 t (ix3 h p q) = V m c main_arg2 ((win0_2.blk t).view.emb (ix3 h p q)) := by
    unfold iblk; generalize V m c = X; unfold View.read; exact cast_eq _ _
  rw [e, V_main_arg2]
  congr 1
  refine funext fun d => Fin.ext ?_
  fin_cases d
  · blk_simp [(idx t).2.2.1]
    try rfl
  · blk_simp [(idx t).2.2.1]
    try rfl
  · blk_simp [(idx t).2.2.1]
    try rfl
theorem blk3 (t : Fin cfg0.N) (h : Fin 2) (s : Fin 16) (q : Fin 256) :
    iblk m c 3 t (ix3 h s q) = a2 m c (ix3 h ⟨(t.val % 8 * 128 - 1) * 16 + s.val, by omega⟩ (col t.val (pt_lt t) q)) := by
  have ht := pt_lt t
  have e : iblk m c 3 t (ix3 h s q) = V m c main_arg2 ((win0_3.blk t).view.emb (ix3 h s q)) := by
    unfold iblk; generalize V m c = X; unfold View.read; exact cast_eq _ _
  rw [e, V_main_arg2]
  congr 1
  refine funext fun d => Fin.ext ?_
  fin_cases d
  · blk_simp [(idx t).2.2.2.1]
    try rfl
  · blk_simp [(idx t).2.2.2.1]
    try rfl
  · blk_simp [(idx t).2.2.2.1]
    try rfl
theorem blk4 (t : Fin cfg0.N) (h : Fin 2) (s : Fin 16) (q : Fin 256) :
    iblk m c 4 t (ix3 h s q) = a2 m c (ix3 h ⟨min (t.val % 8 * 128 + 128) 1023 * 16 + s.val, by omega⟩ (col t.val (pt_lt t) q)) := by
  have ht := pt_lt t
  have e : iblk m c 4 t (ix3 h s q) = V m c main_arg2 ((win0_4.blk t).view.emb (ix3 h s q)) := by
    unfold iblk; generalize V m c = X; unfold View.read; exact cast_eq _ _
  rw [e, V_main_arg2]
  congr 1
  refine funext fun d => Fin.ext ?_
  fin_cases d
  · blk_simp [(idx t).2.2.2.2.1]
    try rfl
  · blk_simp [(idx t).2.2.2.2.1]
    try rfl
  · blk_simp [(idx t).2.2.2.2.1]
    try rfl
theorem blk5 (t : Fin cfg0.N) (h : Fin 2) (s : Fin 3) (q : Fin 256) :
    iblk m c 5 t (ix3 h s q) = a3 m c (ix3 h s (col t.val (pt_lt t) q)) := by
  have ht := pt_lt t
  have e : iblk m c 5 t (ix3 h s q) = V m c main_arg3 ((win0_5.blk t).view.emb (ix3 h s q)) := by
    unfold iblk; generalize V m c = X; unfold View.read; exact cast_eq _ _
  rw [e, V_main_arg3]
  congr 1
  refine funext fun d => Fin.ext ?_
  fin_cases d
  · blk_simp [(idx t).2.2.2.2.2.1]
    try rfl
  · blk_simp [(idx t).2.2.2.2.2.1]
    try rfl
  · blk_simp [(idx t).2.2.2.2.2.1]
    try rfl
theorem blk6 (t : Fin cfg0.N) (h : Fin 2) (s : Fin 1) (q : Fin 256) :
    iblk m c 6 t (ix3 h s q) = a4 m c (ix3 h s (col t.val (pt_lt t) q)) := by
  have ht := pt_lt t
  have e : iblk m c 6 t (ix3 h s q) = V m c main_arg4 ((win0_6.blk t).view.emb (ix3 h s q)) := by
    unfold iblk; generalize V m c = X; unfold View.read; exact cast_eq _ _
  rw [e, V_main_arg4]
  congr 1
  refine funext fun d => Fin.ext ?_
  fin_cases d
  · blk_simp [(idx t).2.2.2.2.2.2.1]
    try rfl
  · blk_simp [(idx t).2.2.2.2.2.2.1]
    try rfl
  · blk_simp [(idx t).2.2.2.2.2.2.1]
    try rfl

/-- The token before and after a point's row. -/
theorem before_row (t : Fin cfg0.N) (h : Fin 2) (p : Fin 2048) (q : Fin 256) :
    Scalar.select (IntOp.cmpi .eq (BitVec.ofNat 32 p.val) 0#32) (Scalar.select (IntOp.cmpi .eq (BitVec.ofNat 32 (grid0.coords t 1).val) 0#32) (0 : EReal) (iblk m c 3 t (ix3 h 15 q)))
      (iblk m c 2 t (ix3 h ⟨(p.val + 2048 - 1) % 2048, Nat.mod_lt _ (by decide)⟩ q) : EReal) = before (fun k => a2 m c (ix3 h k (col t.val (pt_lt t) q))) (row t.val p) := by
  rw [coord t]
  refine shift_before (fun k => a2 m c (ix3 h k (col t.val (pt_lt t) q))) t.val (fun p => iblk m c 2 t (ix3 h p q)) _ (fun p => blk2 m c t h p q) (fun g => ?_) p
  rw [blk3]
  refine congrArg (fun k => a2 m c (ix3 h k (col t.val (pt_lt t) q))) (Fin.ext ?_)
  show (t.val % 8 * 128 - 1) * 16 + 15 = t.val % 8 * 2048 - 1
  omega
theorem after_row (t : Fin cfg0.N) (h : Fin 2) (p : Fin 2048) (q : Fin 256) :
    Scalar.select (IntOp.cmpi .eq (BitVec.ofNat 32 p.val) 2047#32) (Scalar.select (IntOp.cmpi .eq (BitVec.ofNat 32 (grid0.coords t 1).val) 7#32) (0 : EReal) (iblk m c 4 t (ix3 h 0 q)))
      (iblk m c 2 t (ix3 h ⟨(p.val + 2048 - 2047) % 2048, Nat.mod_lt _ (by decide)⟩ q) : EReal) = after (fun k => a2 m c (ix3 h k (col t.val (pt_lt t) q))) (row t.val p) := by
  rw [coord t]
  refine shift_after (fun k => a2 m c (ix3 h k (col t.val (pt_lt t) q))) t.val (fun p => iblk m c 2 t (ix3 h p q)) _ (fun p => blk2 m c t h p q) (fun g k => ?_) p
  rw [blk4]
  refine congrArg (fun k => a2 m c (ix3 h k (col t.val (pt_lt t) q))) (Fin.ext ?_)
  show min (t.val % 8 * 128 + 128) 1023 * 16 + 0 = (t.val % 8 + 1) * 2048
  omega

/-- A point's tile of each half, its rows before and after, the product, the gate and the two gradients. -/
abbrev Tile := FVec Ideal S2048x256 .f32
def u0 (t : Fin cfg0.N) : Tile := k0_pay6 (F := Ideal) (View.ld (Val := Elt Ideal) (iblk m c 2 t) (Rect.unit ![0, 0, 0] ![1, 2048, 256] inb_S2x2048x256_S1x2048x256_0_0_0))
def u1 (t : Fin cfg0.N) : Tile := k0_pay7 (F := Ideal) (View.ld (Val := Elt Ideal) (iblk m c 2 t) (Rect.unit ![1, 0, 0] ![1, 2048, 256] inb_S2x2048x256_S1x2048x256_1_0_0))
def up0 (t : Fin cfg0.N) : Tile := k0_pay9 (F := Ideal) (grid0.coords t) (View.ld (Val := Elt Ideal) (iblk m c 2 t) (Rect.unit ![0, 0, 0] ![1, 2048, 256] inb_S2x2048x256_S1x2048x256_0_0_0)) (View.ld (Val := Elt Ideal) (iblk m c 3 t) (Rect.unit ![0, 15, 0] ![1, 1, 256] inb_S2x16x256_S1x1x256_0_15_0))
def up1 (t : Fin cfg0.N) : Tile := k0_pay11 (F := Ideal) (BitVec.ofNat 32 (grid0.coords t 1).val) (u1 m c t) (View.ld (Val := Elt Ideal) (iblk m c 3 t) (Rect.unit ![1, 15, 0] ![1, 1, 256] inb_S2x16x256_S1x1x256_1_15_0))
def dn0 (t : Fin cfg0.N) : Tile := k0_pay10 (F := Ideal) (u0 m c t) (k0_pay8 (grid0.coords t) (View.ld (Val := Elt Ideal) (iblk m c 4 t) (Rect.unit ![0, 0, 0] ![1, 1, 256] inb_S2x16x256_S1x1x256_0_0_0))) (iota .tc S2048x256 32 [0] iota_S2048x256_d0_w32) 2047#32
def dn1 (t : Fin cfg0.N) : Tile := k0_pay12 (F := Ideal) (BitVec.ofNat 32 (grid0.coords t 1).val) (u1 m c t) (View.ld (Val := Elt Ideal) (iblk m c 4 t) (Rect.unit ![1, 0, 0] ![1, 1, 256] inb_S2x16x256_S1x1x256_1_0_0))
def da (t : Fin cfg0.N) : Tile := k0_pay5 (F := Ideal) (iblk m c 0 t) (iblk m c 1 t)
def gate (t : Fin cfg0.N) : Tile := k0_pay17 (F := Ideal) (u0 m c t) (dn0 m c t) (k0_pay13 (View.ld (Val := Elt Ideal) (iblk m c 5 t) (Rect.unit ![0, 0, 0] ![1, 3, 256] inb_S2x3x256_S1x3x256_0_0_0))) (k0_pay15 (up0 m c t) (View.ld (Val := Elt Ideal) (iblk m c 5 t) (Rect.unit ![0, 0, 0] ![1, 3, 256] inb_S2x3x256_S1x3x256_0_0_0))) (k0_pay16 (View.ld (Val := Elt Ideal) (iblk m c 5 t) (Rect.unit ![0, 0, 0] ![1, 3, 256] inb_S2x3x256_S1x3x256_0_0_0))) (View.ld (Val := Elt Ideal) (iblk m c 6 t) (Rect.unit ![0, 0, 0] ![1, 1, 256] inb_S2x1x256_S1x1x256_0_0_0))
def dg (t : Fin cfg0.N) : Tile := k0_pay19 (F := Ideal) (da m c t) (u0 m c t) (u1 m c t) (dn0 m c t) (up1 m c t) (dn1 m c t) (k0_pay13 (View.ld (Val := Elt Ideal) (iblk m c 5 t) (Rect.unit ![0, 0, 0] ![1, 3, 256] inb_S2x3x256_S1x3x256_0_0_0))) (k0_pay14 (View.ld (Val := Elt Ideal) (iblk m c 5 t) (Rect.unit ![1, 0, 0] ![1, 3, 256] inb_S2x3x256_S1x3x256_1_0_0))) (k0_pay15 (up0 m c t) (View.ld (Val := Elt Ideal) (iblk m c 5 t) (Rect.unit ![0, 0, 0] ![1, 3, 256] inb_S2x3x256_S1x3x256_0_0_0))) (k0_pay16 (View.ld (Val := Elt Ideal) (iblk m c 5 t) (Rect.unit ![0, 0, 0] ![1, 3, 256] inb_S2x3x256_S1x3x256_0_0_0))) (View.ld (Val := Elt Ideal) (iblk m c 6 t) (Rect.unit ![0, 0, 0] ![1, 1, 256] inb_S2x1x256_S1x1x256_0_0_0)) (View.ld (Val := Elt Ideal) (iblk m c 6 t) (Rect.unit ![1, 0, 0] ![1, 1, 256] inb_S2x1x256_S1x1x256_1_0_0))
def dv (t : Fin cfg0.N) : Tile := k0_pay20 (F := Ideal) (da m c t) (u0 m c t) (dn0 m c t) (k0_pay13 (View.ld (Val := Elt Ideal) (iblk m c 5 t) (Rect.unit ![0, 0, 0] ![1, 3, 256] inb_S2x3x256_S1x3x256_0_0_0))) (k0_pay15 (up0 m c t) (View.ld (Val := Elt Ideal) (iblk m c 5 t) (Rect.unit ![0, 0, 0] ![1, 3, 256] inb_S2x3x256_S1x3x256_0_0_0))) (k0_pay16 (View.ld (Val := Elt Ideal) (iblk m c 5 t) (Rect.unit ![0, 0, 0] ![1, 3, 256] inb_S2x3x256_S1x3x256_0_0_0))) (View.ld (Val := Elt Ideal) (iblk m c 6 t) (Rect.unit ![0, 0, 0] ![1, 1, 256] inb_S2x1x256_S1x1x256_0_0_0))

theorem u0_row (t : Fin cfg0.N) (p : Fin 2048) (q : Fin 256) : (u0 m c t (ix2 p q) : EReal) = tap 1 (fun k => a2 m c (ix3 0 k (col t.val (pt_lt t) q))) (row t.val p) :=
  (pay6 _ p q).trans ((ldU _ 0 _ 0 p q rfl).trans (blk2 m c t 0 p q))
theorem up0_row (t : Fin cfg0.N) (p : Fin 2048) (q : Fin 256) : (up0 m c t (ix2 p q) : EReal) = tap 0 (fun k => a2 m c (ix3 0 k (col t.val (pt_lt t) q))) (row t.val p) := by
  refine (pay9 _ _ _ p q).trans (Eq.trans ?_ (before_row m c t 0 p q))
  exact congrArg₂ (fun e v : EReal => Scalar.select _ (Scalar.select _ 0 e) v) (ldE _ 0 15 _ 0 15 q rfl rfl) (ldU _ 0 _ 0 _ q rfl)
theorem dn0_row (t : Fin cfg0.N) (p : Fin 2048) (q : Fin 256) : (dn0 m c t (ix2 p q) : EReal) = tap 2 (fun k => a2 m c (ix3 0 k (col t.val (pt_lt t) q))) (row t.val p) := by
  refine (pay10 _ _ _ p q).trans (Eq.trans ?_ (after_row m c t 0 p q))
  exact congrArg₂ (fun e v : EReal => Scalar.select _ (Scalar.select _ 0 e) v) (ldE _ 0 0 _ 0 0 q rfl rfl) (ldU _ 0 _ 0 _ q rfl)
theorem u1_row (t : Fin cfg0.N) (p : Fin 2048) (q : Fin 256) : (u1 m c t (ix2 p q) : EReal) = tap 1 (fun k => a2 m c (ix3 1 k (col t.val (pt_lt t) q))) (row t.val p) :=
  (pay7 _ p q).trans ((ldU _ 1 _ 1 p q rfl).trans (blk2 m c t 1 p q))
theorem up1_row (t : Fin cfg0.N) (p : Fin 2048) (q : Fin 256) : (up1 m c t (ix2 p q) : EReal) = tap 0 (fun k => a2 m c (ix3 1 k (col t.val (pt_lt t) q))) (row t.val p) := by
  refine (pay11 _ _ _ p q).trans (Eq.trans ?_ (before_row m c t 1 p q))
  exact congrArg₂ (fun e v : EReal => Scalar.select _ (Scalar.select _ 0 e) v) (ldE _ 1 15 _ 1 15 q rfl rfl) (ldU _ 1 _ 1 _ q rfl)
theorem dn1_row (t : Fin cfg0.N) (p : Fin 2048) (q : Fin 256) : (dn1 m c t (ix2 p q) : EReal) = tap 2 (fun k => a2 m c (ix3 1 k (col t.val (pt_lt t) q))) (row t.val p) := by
  refine (pay12 _ _ _ p q).trans (Eq.trans ?_ (after_row m c t 1 p q))
  exact congrArg₂ (fun e v : EReal => Scalar.select _ (Scalar.select _ 0 e) v) (ldE _ 1 0 _ 1 0 q rfl rfl) (ldU _ 1 _ 1 _ q rfl)
theorem da_row (t : Fin cfg0.N) (p : Fin 2048) (q : Fin 256) : (da m c t (ix2 p q) : EReal) = val_main_v28 (F := Ideal) (a0 m c) (a1 m c) (ix2 (row t.val p) (col t.val (pt_lt t) q)) := by
  refine (pay5 _ _ p q).trans (Eq.trans ?_ (v28_eq _ _ _ _).symm)
  exact Finset.sum_congr rfl fun k _ => congrArg₂ (fun a b : EReal => a * b) (blk0 m c t p k) (blk1 m c t q k)
theorem gate_row (t : Fin cfg0.N) (p : Fin 2048) (q : Fin 256) : (gate m c t (ix2 p q) : EReal) = val_main_v20 (F := Ideal) (a2 m c) (a3 m c) (a4 m c) (ix3 0 (row t.val p) (col t.val (pt_lt t) q)) := by
  refine (pay17 _ _ _ _ _ p q).trans (Eq.trans ?_ (v20_eq _ _ _ 0 _ _).symm)
  exact (congrArg₂ (fun a b : EReal => a + b) (congrArg₂ (fun a b : EReal => a + b) (congrArg₂ (fun a b : EReal => a + b)
    (congrArg₂ (fun a b : EReal => a * b) ((ldW _ 0 _ 0 0 q rfl).trans (blk5 m c t 0 0 q)) (up0_row m c t p q))
    (congrArg₂ (fun a b : EReal => a * b) ((ldW _ 0 _ 0 1 q rfl).trans (blk5 m c t 0 1 q)) (u0_row m c t p q)))
    (congrArg₂ (fun a b : EReal => a * b) ((ldW _ 0 _ 0 2 q rfl).trans (blk5 m c t 0 2 q)) (dn0_row m c t p q)))
    ((ld9 _ 0 0 _ 0 0 q rfl rfl).trans (blk6 m c t 0 0 q)))

/-- Every entry of the arguments is a real number. -/
def Reals : Prop := (∀ i, Real' (a0 m c i)) ∧ (∀ i, Real' (a1 m c i)) ∧ (∀ i, Real' (a2 m c i)) ∧ (∀ i, Real' (a3 m c i)) ∧ (∀ i, Real' (a4 m c i))

theorem dg_row (R : Reals m c) (t : Fin cfg0.N) (p : Fin 2048) (q : Fin 256) : (dg m c t (ix2 p q) : EReal) = val_main_v36 (F := Ideal) (a0 m c) (a1 m c) (a2 m c) (a3 m c) (a4 m c) (ix3 0 (row t.val p) (col t.val (pt_lt t) q)) := by
  refine (pay19 _ _ _ _ _ _ _ _ _ _ _ _ p q).trans (Eq.trans ?_ (v36_gate _ _ _ _ _ R.1 R.2.1 R.2.2.1 R.2.2.2.1 R.2.2.2.2 _ _).symm)
  have e : (val_main_v20 (F := Ideal) (a2 m c) (a3 m c) (a4 m c) (ix3 1 (row t.val p) (col t.val (pt_lt t) q)) : EReal) = _ := v20_eq (a2 m c) (a3 m c) (a4 m c) 1 (row t.val p) (col t.val (pt_lt t) q)
  rw [e, ← da_row m c t p q, ← gate_row m c t p q]
  exact congrArg (gateGrad _ _) (congrArg₂ (fun a b : EReal => a + b) (congrArg₂ (fun a b : EReal => a + b) (congrArg₂ (fun a b : EReal => a + b)
    (congrArg₂ (fun a b : EReal => a * b) ((ldW _ 1 _ 1 0 q rfl).trans (blk5 m c t 1 0 q)) (up1_row m c t p q))
    (congrArg₂ (fun a b : EReal => a * b) ((ldW _ 1 _ 1 1 q rfl).trans (blk5 m c t 1 1 q)) (u1_row m c t p q)))
    (congrArg₂ (fun a b : EReal => a * b) ((ldW _ 1 _ 1 2 q rfl).trans (blk5 m c t 1 2 q)) (dn1_row m c t p q)))
    ((ld9 _ 1 0 _ 1 0 q rfl rfl).trans (blk6 m c t 1 0 q)))
theorem dv_row (t : Fin cfg0.N) (p : Fin 2048) (q : Fin 256) : (dv m c t (ix2 p q) : EReal) = val_main_v36 (F := Ideal) (a0 m c) (a1 m c) (a2 m c) (a3 m c) (a4 m c) (ix3 1 (row t.val p) (col t.val (pt_lt t) q)) := by
  refine (pay20 _ _ _ _ _ _ _ p q).trans (Eq.trans ?_ (v36_val _ _ _ _ _ _ _).symm)
  rw [← da_row m c t p q, ← gate_row m c t p q]
  rfl

/-- What a point writes of the gradient of the convolution's result. -/
theorem dz (R : Reals m c) (t : Fin cfg0.N) (h : Fin 2) (p : Fin 2048) (q : Fin 256) : ((outsAt0 m c t.val t.isLt).1 (ix3 h p q) : EReal) = val_main_v36 (F := Ideal) (a0 m c) (a1 m c) (a2 m c) (a3 m c) (a4 m c) (ix3 h (row t.val p) (col t.val (pt_lt t) q)) := by
  by_cases g : t.val % 8 = 0
  · rw [outsAt0_A m c t g]
    frame_out
    match h with
    | ⟨0, _⟩ =>
      refine (skip7 1 _ _ _ 0 p q (by decide)).trans ?_
      refine (hit7 0 _ _ _ 0 p q rfl).trans ?_
      exact (pay22 _ p q).trans (dg_row m c R t p q)
    | ⟨1, _⟩ =>
      refine (hit7 1 _ _ _ 1 p q rfl).trans ?_
      exact (pay23 _ p q).trans (dv_row m c t p q)
  · rw [outsAt0_B m c t g]
    frame_out
    match h with
    | ⟨0, _⟩ =>
      refine (skip7 1 _ _ _ 0 p q (by decide)).trans ?_
      refine (hit7 0 _ _ _ 0 p q rfl).trans ?_
      exact (pay22 _ p q).trans (dg_row m c R t p q)
    | ⟨1, _⟩ =>
      refine (hit7 1 _ _ _ 1 p q rfl).trans ?_
      exact (pay23 _ p q).trans (dv_row m c t p q)

/-- One token's share of an entry of the gradient of the taps and of the bias. -/
def ofTap (h : Fin 2) (s : Fin 3) (r : Fin 2816) (t : Fin 16384) : EReal := val_main_v36 (F := Ideal) (a0 m c) (a1 m c) (a2 m c) (a3 m c) (a4 m c) (ix3 h t r) * tap s (fun k => a2 m c (ix3 h k r)) t
def ofBias (h : Fin 2) (s : Fin 1) (r : Fin 2816) (t : Fin 16384) : EReal := val_main_v36 (F := Ideal) (a0 m c) (a1 m c) (a2 m c) (a3 m c) (a4 m c) (ix3 h t r)

/-- A tile's part of a sum over tokens. -/
def partOf {n : ℕ} (f : Fin 2 → Fin n → Fin 2816 → Fin 16384 → EReal) (k : ℕ) (i : (⟨3, ![2, n, 256]⟩ : Shape).Idx) : EReal :=
  if g : k < 88 then ∑ p : Fin 2048, f (i 0) (i 1) (col k g (i 2)) (row k p) else 0

/-- The eight tiles' parts are the sum over all tokens. -/
theorem sum_rows (f : Fin 16384 → EReal) : (∑ n ∈ Finset.range 8, ∑ p : Fin 2048, f (row n p)) = ∑ t : Fin 16384, f t := by
  rw [← sum_tiles 8 2048 16384 rfl f]
  refine Finset.sum_congr rfl fun k hk => Finset.sum_congr rfl fun p _ => ?_
  have hk := Finset.mem_range.1 hk
  rw [beyond_of_lt f (show k * 2048 + p.val < 16384 by omega)]
  refine congrArg f (Fin.ext ?_)
  show k % 8 * 2048 + p.val = k * 2048 + p.val
  omega

/-- What starts at zero and takes each tile's part ends as the sum over all tokens. -/
theorem total {n : ℕ} (acc : (k : ℕ) → k < cfg0.N → Vec Ideal ⟨3, ![2, n, 256]⟩ .f32) (f : Fin 2 → Fin n → Fin 2816 → Fin 16384 → EReal)
    (first : ∀ t : Fin cfg0.N, t.val % 8 = 0 → ∀ i, (acc t.val t.isLt i : EReal) = 0 + partOf f t.val i)
    (next : ∀ t : Fin cfg0.N, ¬t.val % 8 = 0 → ∀ i,
      (acc t.val t.isLt i : EReal) = acc (t.val - 1) (Nat.lt_of_le_of_lt (Nat.sub_le _ _) t.isLt) i + partOf f t.val i)
    (t : Fin cfg0.N) (h : t.val % 8 = 7) (i : Fin 2) (s : Fin n) (q : Fin 256) : (acc t.val t.isLt (ix3 i s q) : EReal) = ∑ k : Fin 16384, f i s (col t.val (pt_lt t) q) k := by
  have ht := pt_lt t
  rw [Pipeline.eq_sum_of_reset_step_apply_of_mod (M := EReal) acc 8 (fun _ => 0) (partOf f) first next t (r := 7) (by omega) (ix3 i s q),
    zero_add, ← sum_rows]
  refine Finset.sum_congr rfl fun k hk => ?_
  have hk := Finset.mem_range.1 hk
  unfold partOf
  rw [dif_pos (show 8 * (t.val / 8) + k < 88 by omega)]
  refine Finset.sum_congr rfl fun p _ => ?_
  refine congrArg₂ (f i s) (Fin.ext ?_) (Fin.ext ?_)
  · show (8 * (t.val / 8) + k) / 8 * 256 + q.val = t.val / 8 * 256 + q.val
    omega
  · show (8 * (t.val / 8) + k) % 8 * 2048 + p.val = k % 8 * 2048 + p.val
    omega

theorem oftap_first00 (R : Reals m c) (t : Fin cfg0.N) (g : t.val % 8 = 0) (q : Fin 256) :
    ((outsAt0 m c t.val t.isLt).2.1 (ix3 0 0 q) : EReal) = 0 + ∑ p : Fin 2048, ofTap m c 0 0 (col t.val (pt_lt t) q) (row t.val p) := by
  rw [outsAt0_A m c t g]
  frame_out
  refine (skip8 1 2 _ _ _ 0 0 q (by decide)).trans ?_
  refine (skip8 1 1 _ _ _ 0 0 q (by decide)).trans ?_
  refine (skip8 1 0 _ _ _ 0 0 q (by decide)).trans ?_
  refine (skip8 0 2 _ _ _ 0 0 q (by decide)).trans ?_
  refine (skip8 0 1 _ _ _ 0 0 q (by decide)).trans ?_
  refine (hit8 0 0 _ _ _ 0 0 q rfl rfl).trans ?_
  refine (pay24 _ _ _ q).trans (congrArg₂ (fun a b : EReal => a + b) ?_ (Finset.sum_congr rfl fun p _ => congrArg₂ (fun a b : EReal => a * b) (dg_row m c R t p q) (up0_row m c t p q)))
  refine (load8 _ _ 0 0 _ 0 0 q rfl rfl).trans ?_
  exact (whole8 _ _ 0 0 q).trans (pay3 0 0 q)
theorem oftap_first01 (R : Reals m c) (t : Fin cfg0.N) (g : t.val % 8 = 0) (q : Fin 256) :
    ((outsAt0 m c t.val t.isLt).2.1 (ix3 0 1 q) : EReal) = 0 + ∑ p : Fin 2048, ofTap m c 0 1 (col t.val (pt_lt t) q) (row t.val p) := by
  rw [outsAt0_A m c t g]
  frame_out
  refine (skip8 1 2 _ _ _ 0 1 q (by decide)).trans ?_
  refine (skip8 1 1 _ _ _ 0 1 q (by decide)).trans ?_
  refine (skip8 1 0 _ _ _ 0 1 q (by decide)).trans ?_
  refine (skip8 0 2 _ _ _ 0 1 q (by decide)).trans ?_
  refine (hit8 0 1 _ _ _ 0 1 q rfl rfl).trans ?_
  refine (pay25 _ _ _ q).trans (congrArg₂ (fun a b : EReal => a + b) ?_ (Finset.sum_congr rfl fun p _ => congrArg₂ (fun a b : EReal => a * b) (dg_row m c R t p q) (u0_row m c t p q)))
  refine (load8 _ _ 0 1 _ 0 1 q rfl rfl).trans ?_
  refine (skip8 0 0 _ _ _ 0 1 q (by decide)).trans ?_
  exact (whole8 _ _ 0 1 q).trans (pay3 0 1 q)
theorem oftap_first02 (R : Reals m c) (t : Fin cfg0.N) (g : t.val % 8 = 0) (q : Fin 256) :
    ((outsAt0 m c t.val t.isLt).2.1 (ix3 0 2 q) : EReal) = 0 + ∑ p : Fin 2048, ofTap m c 0 2 (col t.val (pt_lt t) q) (row t.val p) := by
  rw [outsAt0_A m c t g]
  frame_out
  refine (skip8 1 2 _ _ _ 0 2 q (by decide)).trans ?_
  refine (skip8 1 1 _ _ _ 0 2 q (by decide)).trans ?_
  refine (skip8 1 0 _ _ _ 0 2 q (by decide)).trans ?_
  refine (hit8 0 2 _ _ _ 0 2 q rfl rfl).trans ?_
  refine (pay26 _ _ _ q).trans (congrArg₂ (fun a b : EReal => a + b) ?_ (Finset.sum_congr rfl fun p _ => congrArg₂ (fun a b : EReal => a * b) (dg_row m c R t p q) (dn0_row m c t p q)))
  refine (load8 _ _ 0 2 _ 0 2 q rfl rfl).trans ?_
  refine (skip8 0 1 _ _ _ 0 2 q (by decide)).trans ?_
  refine (skip8 0 0 _ _ _ 0 2 q (by decide)).trans ?_
  exact (whole8 _ _ 0 2 q).trans (pay3 0 2 q)
theorem oftap_first10 (R : Reals m c) (t : Fin cfg0.N) (g : t.val % 8 = 0) (q : Fin 256) :
    ((outsAt0 m c t.val t.isLt).2.1 (ix3 1 0 q) : EReal) = 0 + ∑ p : Fin 2048, ofTap m c 1 0 (col t.val (pt_lt t) q) (row t.val p) := by
  rw [outsAt0_A m c t g]
  frame_out
  refine (skip8 1 2 _ _ _ 1 0 q (by decide)).trans ?_
  refine (skip8 1 1 _ _ _ 1 0 q (by decide)).trans ?_
  refine (hit8 1 0 _ _ _ 1 0 q rfl rfl).trans ?_
  refine (pay28 _ _ _ q).trans (congrArg₂ (fun a b : EReal => a + b) ?_ (Finset.sum_congr rfl fun p _ => congrArg₂ (fun a b : EReal => a * b) (dv_row m c t p q) (up1_row m c t p q)))
  refine (load8 _ _ 1 0 _ 1 0 q rfl rfl).trans ?_
  refine (skip8 0 2 _ _ _ 1 0 q (by decide)).trans ?_
  refine (skip8 0 1 _ _ _ 1 0 q (by decide)).trans ?_
  refine (skip8 0 0 _ _ _ 1 0 q (by decide)).trans ?_
  exact (whole8 _ _ 1 0 q).trans (pay3 1 0 q)
theorem oftap_first11 (R : Reals m c) (t : Fin cfg0.N) (g : t.val % 8 = 0) (q : Fin 256) :
    ((outsAt0 m c t.val t.isLt).2.1 (ix3 1 1 q) : EReal) = 0 + ∑ p : Fin 2048, ofTap m c 1 1 (col t.val (pt_lt t) q) (row t.val p) := by
  rw [outsAt0_A m c t g]
  frame_out
  refine (skip8 1 2 _ _ _ 1 1 q (by decide)).trans ?_
  refine (hit8 1 1 _ _ _ 1 1 q rfl rfl).trans ?_
  refine (pay29 _ _ _ q).trans (congrArg₂ (fun a b : EReal => a + b) ?_ (Finset.sum_congr rfl fun p _ => congrArg₂ (fun a b : EReal => a * b) (dv_row m c t p q) (u1_row m c t p q)))
  refine (load8 _ _ 1 1 _ 1 1 q rfl rfl).trans ?_
  refine (skip8 1 0 _ _ _ 1 1 q (by decide)).trans ?_
  refine (skip8 0 2 _ _ _ 1 1 q (by decide)).trans ?_
  refine (skip8 0 1 _ _ _ 1 1 q (by decide)).trans ?_
  refine (skip8 0 0 _ _ _ 1 1 q (by decide)).trans ?_
  exact (whole8 _ _ 1 1 q).trans (pay3 1 1 q)
theorem oftap_first12 (R : Reals m c) (t : Fin cfg0.N) (g : t.val % 8 = 0) (q : Fin 256) :
    ((outsAt0 m c t.val t.isLt).2.1 (ix3 1 2 q) : EReal) = 0 + ∑ p : Fin 2048, ofTap m c 1 2 (col t.val (pt_lt t) q) (row t.val p) := by
  rw [outsAt0_A m c t g]
  frame_out
  refine (hit8 1 2 _ _ _ 1 2 q rfl rfl).trans ?_
  refine (pay1 _ _ _ q).trans (congrArg₂ (fun a b : EReal => a + b) ?_ (Finset.sum_congr rfl fun p _ => congrArg₂ (fun a b : EReal => a * b) (dv_row m c t p q) (dn1_row m c t p q)))
  refine (load8 _ _ 1 2 _ 1 2 q rfl rfl).trans ?_
  refine (skip8 1 1 _ _ _ 1 2 q (by decide)).trans ?_
  refine (skip8 1 0 _ _ _ 1 2 q (by decide)).trans ?_
  refine (skip8 0 2 _ _ _ 1 2 q (by decide)).trans ?_
  refine (skip8 0 1 _ _ _ 1 2 q (by decide)).trans ?_
  refine (skip8 0 0 _ _ _ 1 2 q (by decide)).trans ?_
  exact (whole8 _ _ 1 2 q).trans (pay3 1 2 q)
theorem oftap_first (R : Reals m c) (t : Fin cfg0.N) (g : t.val % 8 = 0) (i : S2x3x256.Idx) :
    ((outsAt0 m c t.val t.isLt).2.1 i : EReal) = 0 + partOf (ofTap m c) t.val i := by
  obtain ⟨h, s, q, rfl⟩ : ∃ (h : Fin 2) (s : Fin 3) (q : Fin 256), i = ix3 h s q := ⟨i 0, i 1, i 2, eq_ix3 i⟩
  unfold partOf
  rw [dif_pos (pt_lt t)]
  match h, s with
  | ⟨0, _⟩, ⟨0, _⟩ => exact oftap_first00 m c R t g q
  | ⟨0, _⟩, ⟨1, _⟩ => exact oftap_first01 m c R t g q
  | ⟨0, _⟩, ⟨2, _⟩ => exact oftap_first02 m c R t g q
  | ⟨1, _⟩, ⟨0, _⟩ => exact oftap_first10 m c R t g q
  | ⟨1, _⟩, ⟨1, _⟩ => exact oftap_first11 m c R t g q
  | ⟨1, _⟩, ⟨2, _⟩ => exact oftap_first12 m c R t g q
theorem oftap_next00 (R : Reals m c) (t : Fin cfg0.N) (g : ¬t.val % 8 = 0) (q : Fin 256) :
    ((outsAt0 m c t.val t.isLt).2.1 (ix3 0 0 q) : EReal) = (outsAt0 m c (t.val - 1) (Nat.lt_of_le_of_lt (Nat.sub_le _ _) t.isLt)).2.1 (ix3 0 0 q) + ∑ p : Fin 2048, ofTap m c 0 0 (col t.val (pt_lt t) q) (row t.val p) := by
  rw [outsAt0_B m c t g]
  frame_out
  refine (skip8 1 2 _ _ _ 0 0 q (by decide)).trans ?_
  refine (skip8 1 1 _ _ _ 0 0 q (by decide)).trans ?_
  refine (skip8 1 0 _ _ _ 0 0 q (by decide)).trans ?_
  refine (skip8 0 2 _ _ _ 0 0 q (by decide)).trans ?_
  refine (skip8 0 1 _ _ _ 0 0 q (by decide)).trans ?_
  refine (hit8 0 0 _ _ _ 0 0 q rfl rfl).trans ?_
  refine (pay24 _ _ _ q).trans (congrArg₂ (fun a b : EReal => a + b) ?_ (Finset.sum_congr rfl fun p _ => congrArg₂ (fun a b : EReal => a * b) (dg_row m c R t p q) (up0_row m c t p q)))
  exact ld8 _ 0 0 _ 0 0 q rfl rfl
theorem oftap_next01 (R : Reals m c) (t : Fin cfg0.N) (g : ¬t.val % 8 = 0) (q : Fin 256) :
    ((outsAt0 m c t.val t.isLt).2.1 (ix3 0 1 q) : EReal) = (outsAt0 m c (t.val - 1) (Nat.lt_of_le_of_lt (Nat.sub_le _ _) t.isLt)).2.1 (ix3 0 1 q) + ∑ p : Fin 2048, ofTap m c 0 1 (col t.val (pt_lt t) q) (row t.val p) := by
  rw [outsAt0_B m c t g]
  frame_out
  refine (skip8 1 2 _ _ _ 0 1 q (by decide)).trans ?_
  refine (skip8 1 1 _ _ _ 0 1 q (by decide)).trans ?_
  refine (skip8 1 0 _ _ _ 0 1 q (by decide)).trans ?_
  refine (skip8 0 2 _ _ _ 0 1 q (by decide)).trans ?_
  refine (hit8 0 1 _ _ _ 0 1 q rfl rfl).trans ?_
  refine (pay25 _ _ _ q).trans (congrArg₂ (fun a b : EReal => a + b) ?_ (Finset.sum_congr rfl fun p _ => congrArg₂ (fun a b : EReal => a * b) (dg_row m c R t p q) (u0_row m c t p q)))
  exact ld8 _ 0 1 _ 0 1 q rfl rfl
theorem oftap_next02 (R : Reals m c) (t : Fin cfg0.N) (g : ¬t.val % 8 = 0) (q : Fin 256) :
    ((outsAt0 m c t.val t.isLt).2.1 (ix3 0 2 q) : EReal) = (outsAt0 m c (t.val - 1) (Nat.lt_of_le_of_lt (Nat.sub_le _ _) t.isLt)).2.1 (ix3 0 2 q) + ∑ p : Fin 2048, ofTap m c 0 2 (col t.val (pt_lt t) q) (row t.val p) := by
  rw [outsAt0_B m c t g]
  frame_out
  refine (skip8 1 2 _ _ _ 0 2 q (by decide)).trans ?_
  refine (skip8 1 1 _ _ _ 0 2 q (by decide)).trans ?_
  refine (skip8 1 0 _ _ _ 0 2 q (by decide)).trans ?_
  refine (hit8 0 2 _ _ _ 0 2 q rfl rfl).trans ?_
  refine (pay26 _ _ _ q).trans (congrArg₂ (fun a b : EReal => a + b) ?_ (Finset.sum_congr rfl fun p _ => congrArg₂ (fun a b : EReal => a * b) (dg_row m c R t p q) (dn0_row m c t p q)))
  exact ld8 _ 0 2 _ 0 2 q rfl rfl
theorem oftap_next10 (R : Reals m c) (t : Fin cfg0.N) (g : ¬t.val % 8 = 0) (q : Fin 256) :
    ((outsAt0 m c t.val t.isLt).2.1 (ix3 1 0 q) : EReal) = (outsAt0 m c (t.val - 1) (Nat.lt_of_le_of_lt (Nat.sub_le _ _) t.isLt)).2.1 (ix3 1 0 q) + ∑ p : Fin 2048, ofTap m c 1 0 (col t.val (pt_lt t) q) (row t.val p) := by
  rw [outsAt0_B m c t g]
  frame_out
  refine (skip8 1 2 _ _ _ 1 0 q (by decide)).trans ?_
  refine (skip8 1 1 _ _ _ 1 0 q (by decide)).trans ?_
  refine (hit8 1 0 _ _ _ 1 0 q rfl rfl).trans ?_
  refine (pay28 _ _ _ q).trans (congrArg₂ (fun a b : EReal => a + b) ?_ (Finset.sum_congr rfl fun p _ => congrArg₂ (fun a b : EReal => a * b) (dv_row m c t p q) (up1_row m c t p q)))
  exact ld8 _ 1 0 _ 1 0 q rfl rfl
theorem oftap_next11 (R : Reals m c) (t : Fin cfg0.N) (g : ¬t.val % 8 = 0) (q : Fin 256) :
    ((outsAt0 m c t.val t.isLt).2.1 (ix3 1 1 q) : EReal) = (outsAt0 m c (t.val - 1) (Nat.lt_of_le_of_lt (Nat.sub_le _ _) t.isLt)).2.1 (ix3 1 1 q) + ∑ p : Fin 2048, ofTap m c 1 1 (col t.val (pt_lt t) q) (row t.val p) := by
  rw [outsAt0_B m c t g]
  frame_out
  refine (skip8 1 2 _ _ _ 1 1 q (by decide)).trans ?_
  refine (hit8 1 1 _ _ _ 1 1 q rfl rfl).trans ?_
  refine (pay29 _ _ _ q).trans (congrArg₂ (fun a b : EReal => a + b) ?_ (Finset.sum_congr rfl fun p _ => congrArg₂ (fun a b : EReal => a * b) (dv_row m c t p q) (u1_row m c t p q)))
  exact ld8 _ 1 1 _ 1 1 q rfl rfl
theorem oftap_next12 (R : Reals m c) (t : Fin cfg0.N) (g : ¬t.val % 8 = 0) (q : Fin 256) :
    ((outsAt0 m c t.val t.isLt).2.1 (ix3 1 2 q) : EReal) = (outsAt0 m c (t.val - 1) (Nat.lt_of_le_of_lt (Nat.sub_le _ _) t.isLt)).2.1 (ix3 1 2 q) + ∑ p : Fin 2048, ofTap m c 1 2 (col t.val (pt_lt t) q) (row t.val p) := by
  rw [outsAt0_B m c t g]
  frame_out
  refine (hit8 1 2 _ _ _ 1 2 q rfl rfl).trans ?_
  refine (pay1 _ _ _ q).trans (congrArg₂ (fun a b : EReal => a + b) ?_ (Finset.sum_congr rfl fun p _ => congrArg₂ (fun a b : EReal => a * b) (dv_row m c t p q) (dn1_row m c t p q)))
  exact ld8 _ 1 2 _ 1 2 q rfl rfl
theorem oftap_next (R : Reals m c) (t : Fin cfg0.N) (g : ¬t.val % 8 = 0) (i : S2x3x256.Idx) :
    ((outsAt0 m c t.val t.isLt).2.1 i : EReal) = (outsAt0 m c (t.val - 1) (Nat.lt_of_le_of_lt (Nat.sub_le _ _) t.isLt)).2.1 i + partOf (ofTap m c) t.val i := by
  obtain ⟨h, s, q, rfl⟩ : ∃ (h : Fin 2) (s : Fin 3) (q : Fin 256), i = ix3 h s q := ⟨i 0, i 1, i 2, eq_ix3 i⟩
  unfold partOf
  rw [dif_pos (pt_lt t)]
  match h, s with
  | ⟨0, _⟩, ⟨0, _⟩ => exact oftap_next00 m c R t g q
  | ⟨0, _⟩, ⟨1, _⟩ => exact oftap_next01 m c R t g q
  | ⟨0, _⟩, ⟨2, _⟩ => exact oftap_next02 m c R t g q
  | ⟨1, _⟩, ⟨0, _⟩ => exact oftap_next10 m c R t g q
  | ⟨1, _⟩, ⟨1, _⟩ => exact oftap_next11 m c R t g q
  | ⟨1, _⟩, ⟨2, _⟩ => exact oftap_next12 m c R t g q
theorem ofbias_first00 (R : Reals m c) (t : Fin cfg0.N) (g : t.val % 8 = 0) (q : Fin 256) :
    ((outsAt0 m c t.val t.isLt).2.2 (ix3 0 0 q) : EReal) = 0 + ∑ p : Fin 2048, ofBias m c 0 0 (col t.val (pt_lt t) q) (row t.val p) := by
  rw [outsAt0_A m c t g]
  frame_out
  refine (skip9 1 0 _ _ _ 0 0 q (by decide)).trans ?_
  refine (hit9 0 0 _ _ _ 0 0 q rfl rfl).trans ?_
  refine (pay27 _ _ q).trans (congrArg₂ (fun a b : EReal => a + b) ?_ (Finset.sum_congr rfl fun p _ => dg_row m c R t p q))
  refine (load9 _ _ 0 0 _ 0 0 q rfl rfl).trans ?_
  exact (whole9 _ _ 0 0 q).trans (pay4 0 0 q)
theorem ofbias_first10 (R : Reals m c) (t : Fin cfg0.N) (g : t.val % 8 = 0) (q : Fin 256) :
    ((outsAt0 m c t.val t.isLt).2.2 (ix3 1 0 q) : EReal) = 0 + ∑ p : Fin 2048, ofBias m c 1 0 (col t.val (pt_lt t) q) (row t.val p) := by
  rw [outsAt0_A m c t g]
  frame_out
  refine (hit9 1 0 _ _ _ 1 0 q rfl rfl).trans ?_
  refine (pay2 _ _ q).trans (congrArg₂ (fun a b : EReal => a + b) ?_ (Finset.sum_congr rfl fun p _ => dv_row m c t p q))
  refine (load9 _ _ 1 0 _ 1 0 q rfl rfl).trans ?_
  refine (skip9 0 0 _ _ _ 1 0 q (by decide)).trans ?_
  exact (whole9 _ _ 1 0 q).trans (pay4 1 0 q)
theorem ofbias_first (R : Reals m c) (t : Fin cfg0.N) (g : t.val % 8 = 0) (i : S2x1x256.Idx) :
    ((outsAt0 m c t.val t.isLt).2.2 i : EReal) = 0 + partOf (ofBias m c) t.val i := by
  obtain ⟨h, s, q, rfl⟩ : ∃ (h : Fin 2) (s : Fin 1) (q : Fin 256), i = ix3 h s q := ⟨i 0, i 1, i 2, eq_ix3 i⟩
  unfold partOf
  rw [dif_pos (pt_lt t)]
  match h, s with
  | ⟨0, _⟩, ⟨0, _⟩ => exact ofbias_first00 m c R t g q
  | ⟨1, _⟩, ⟨0, _⟩ => exact ofbias_first10 m c R t g q
theorem ofbias_next00 (R : Reals m c) (t : Fin cfg0.N) (g : ¬t.val % 8 = 0) (q : Fin 256) :
    ((outsAt0 m c t.val t.isLt).2.2 (ix3 0 0 q) : EReal) = (outsAt0 m c (t.val - 1) (Nat.lt_of_le_of_lt (Nat.sub_le _ _) t.isLt)).2.2 (ix3 0 0 q) + ∑ p : Fin 2048, ofBias m c 0 0 (col t.val (pt_lt t) q) (row t.val p) := by
  rw [outsAt0_B m c t g]
  frame_out
  refine (skip9 1 0 _ _ _ 0 0 q (by decide)).trans ?_
  refine (hit9 0 0 _ _ _ 0 0 q rfl rfl).trans ?_
  refine (pay27 _ _ q).trans (congrArg₂ (fun a b : EReal => a + b) ?_ (Finset.sum_congr rfl fun p _ => dg_row m c R t p q))
  exact ld9 _ 0 0 _ 0 0 q rfl rfl
theorem ofbias_next10 (R : Reals m c) (t : Fin cfg0.N) (g : ¬t.val % 8 = 0) (q : Fin 256) :
    ((outsAt0 m c t.val t.isLt).2.2 (ix3 1 0 q) : EReal) = (outsAt0 m c (t.val - 1) (Nat.lt_of_le_of_lt (Nat.sub_le _ _) t.isLt)).2.2 (ix3 1 0 q) + ∑ p : Fin 2048, ofBias m c 1 0 (col t.val (pt_lt t) q) (row t.val p) := by
  rw [outsAt0_B m c t g]
  frame_out
  refine (hit9 1 0 _ _ _ 1 0 q rfl rfl).trans ?_
  refine (pay2 _ _ q).trans (congrArg₂ (fun a b : EReal => a + b) ?_ (Finset.sum_congr rfl fun p _ => dv_row m c t p q))
  exact ld9 _ 1 0 _ 1 0 q rfl rfl
theorem ofbias_next (R : Reals m c) (t : Fin cfg0.N) (g : ¬t.val % 8 = 0) (i : S2x1x256.Idx) :
    ((outsAt0 m c t.val t.isLt).2.2 i : EReal) = (outsAt0 m c (t.val - 1) (Nat.lt_of_le_of_lt (Nat.sub_le _ _) t.isLt)).2.2 i + partOf (ofBias m c) t.val i := by
  obtain ⟨h, s, q, rfl⟩ : ∃ (h : Fin 2) (s : Fin 1) (q : Fin 256), i = ix3 h s q := ⟨i 0, i 1, i 2, eq_ix3 i⟩
  unfold partOf
  rw [dif_pos (pt_lt t)]
  match h, s with
  | ⟨0, _⟩, ⟨0, _⟩ => exact ofbias_next00 m c R t g q
  | ⟨1, _⟩, ⟨0, _⟩ => exact ofbias_next10 m c R t g q

/-- The call's three results. -/
def G7 : Vec Ideal S2x16384x2816 .bf16 := val_main_v37 (F := Ideal) (a0 m c) (a1 m c) (a2 m c) (a3 m c) (a4 m c)
def G8 : Vec Ideal S2x3x2816 .f32 := val_main_v53 (F := Ideal) (a0 m c) (a1 m c) (a2 m c) (a3 m c) (a4 m c)
def G9 : Vec Ideal S2x1x2816 .f32 := val_main_v39 (F := Ideal) (a0 m c) (a1 m c) (a2 m c) (a3 m c) (a4 m c)

/-- Every block that the call writes is its part of the result. -/
theorem final7 (R : Reals m c) : (dats m 0 c).arrAt 7 cfg0.N = G7 m c := by
  refine (dats m 0 c).arrAt_eq_of_covers 7 _ (by decide +kernel) fun t hf y => ?_
  blk_simp
  rw [after0_7]
  obtain ⟨h, p, q, rfl⟩ : ∃ (h : Fin 2) (p : Fin 2048) (q : Fin 256), y = ix3 h p q := ⟨y 0, y 1, y 2, eq_ix3 y⟩
  have e : (win0_7.blk t).view.emb (ix3 h p q) = ix3 h (row t.val p) (col t.val (pt_lt t) q) := by
    refine funext fun d => Fin.ext ?_
    fin_cases d
    · blk_simp [(idx t).2.2.2.2.2.2.2.1]
      try rfl
    · blk_simp [(idx t).2.2.2.2.2.2.2.1]
      rfl
    · blk_simp [(idx t).2.2.2.2.2.2.2.1]
      rfl
  exact (dz m c R t h p q).trans (congrArg (G7 m c) e.symm)
theorem final8 (R : Reals m c) : (dats m 0 c).arrAt 8 cfg0.N = G8 m c := by
  refine (dats m 0 c).arrAt_eq_of_covers 8 _ (by decide +kernel) fun t hf y => ?_
  have g := (flush0_8 t).1 hf
  blk_simp
  rw [after0_8]
  obtain ⟨h, s, q, rfl⟩ : ∃ (h : Fin 2) (s : Fin 3) (q : Fin 256), y = ix3 h s q := ⟨y 0, y 1, y 2, eq_ix3 y⟩
  have e : (win0_8.blk t).view.emb (ix3 h s q) = ix3 h s (col t.val (pt_lt t) q) := by
    refine funext fun d => Fin.ext ?_
    fin_cases d
    · blk_simp [(idx t).2.2.2.2.2.2.2.2.1]
      try rfl
    · blk_simp [(idx t).2.2.2.2.2.2.2.2.1]
      try rfl
    · blk_simp [(idx t).2.2.2.2.2.2.2.2.1]
      rfl
  refine Eq.trans ?_ (congrArg (G8 m c) e.symm)
  refine Eq.trans ?_ (v53_eq _ _ _ _ _ h s _).symm
  exact total (fun k g => (outsAt0 m c k g).2.1) (ofTap m c) (oftap_first m c R) (oftap_next m c R) t g h s q
theorem final9 (R : Reals m c) : (dats m 0 c).arrAt 9 cfg0.N = G9 m c := by
  refine (dats m 0 c).arrAt_eq_of_covers 9 _ (by decide +kernel) fun t hf y => ?_
  have g := (flush0_9 t).1 hf
  blk_simp
  rw [after0_9]
  obtain ⟨h, s, q, rfl⟩ : ∃ (h : Fin 2) (s : Fin 1) (q : Fin 256), y = ix3 h s q := ⟨y 0, y 1, y 2, eq_ix3 y⟩
  obtain rfl : s = 0 := Subsingleton.elim _ _
  have e : (win0_9.blk t).view.emb (ix3 h 0 q) = ix3 h 0 (col t.val (pt_lt t) q) := by
    refine funext fun d => Fin.ext ?_
    fin_cases d
    · blk_simp [(idx t).2.2.2.2.2.2.2.2.2]
      try rfl
    · blk_simp [(idx t).2.2.2.2.2.2.2.2.2]
      try rfl
    · blk_simp [(idx t).2.2.2.2.2.2.2.2.2]
      rfl
  refine Eq.trans ?_ (congrArg (G9 m c) e.symm)
  refine Eq.trans ?_ (v39_eq _ _ _ _ _ h _).symm
  exact total (fun k g => (outsAt0 m c k g).2.2) (ofBias m c) (ofbias_first m c R) (ofbias_next m c R) t g h 0 q

/-- The run, with its results named. -/
theorem run (R : ∀ c, Reals m c) (ρ : Dev nD → PrngReg) : θ_run defs (onTc (τ := τ) (main (F := Ideal))) ⟨m, fun _ => 0, ρ⟩ fun r => ∀ c : Dev nD,
      r.2.mem ((c : Thread nD τ).loc main_v0_0) = G7 m c
      ∧ r.2.mem ((c : Thread nD τ).loc main_v0_1) = G8 m c
      ∧ r.2.mem ((c : Thread nD τ).loc main_v0_2) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final7 m c (R c)), (h c).2.1.trans (final8 m c (R c)), (h c).2.2.1.trans (final9 m c (R c)), (h c).2.2.2⟩) (run_blocks m ρ)

end Cert.Kernel15Ideal.ActBwd

end
-- ==== Proof.PreReal15.lean ====
/-
  The precondition of the backward of the ConvFFN's activation: it says that every entry of the five arguments is a real
  number.
-/
module

public import proofs.«01_k».proof.Proof.PreReal
public import proofs.«01_k».proof.Proof.ActBwdRef
public import proofs.«01_k».proof.Pre_finite15

@[expose] public section

set_option maxRecDepth 16384

noncomputable section

namespace Cert.Kernel15Ideal.ActBwd

open Idealize.ShloMosaic Idealize.ShloMosaic.TcCoe Idealize.SL.Sem
open Cert.Kernel15Ideal Cert.KernelIdeal.Glob

theorem ofBits_top16 : Ideal.ofBits .bf16 0x7F80#16 = ⊤ := by
  simp [Ideal.ofBits, Ideal.ieee]

/-- What one comparison with infinity says, of the two kinds of entry. -/
theorem finite_read32 {s : Shape} (x : FVec Ideal s .f32) (hb : Cert.Pre_finite15.S_.BroadcastsInDim s (![] : Fin 0 → Fin s.rank)) (i : s.Idx)
    (h : cmpf .olt (Host.absf x) (broadcastInDim s ![] hb (constant (F := Ideal) Cert.Pre_finite15.S_ .f32 0x7F800000#32)) i = 1#1) : Real' (x i) := by
  have h1 : Ideal.cmp .olt (max (show EReal from x i) (-(show EReal from x i))) (Ideal.ofBits .f32 0x7F800000#32) = 1#1 := h
  rw [ofBits_top] at h1
  exact real_of_abs_lt ((Ideal.cmp_olt_eq_one _ _).mp h1)
theorem finite_read16 {s : Shape} (x : FVec Ideal s .bf16) (hb : Cert.Pre_finite15.S_.BroadcastsInDim s (![] : Fin 0 → Fin s.rank)) (i : s.Idx)
    (h : cmpf .olt (Host.absf x) (broadcastInDim s ![] hb (constant (F := Ideal) Cert.Pre_finite15.S_ .bf16 0x7F80#16)) i = 1#1) : Real' (x i) := by
  have h1 : Ideal.cmp .olt (max (show EReal from x i) (-(show EReal from x i))) (Ideal.ofBits .bf16 0x7F80#16) = 1#1 := h
  rw [ofBits_top16] at h1
  exact real_of_abs_lt ((Ideal.cmp_olt_eq_one _ _).mp h1)

/-- The result of the five comparisons, spelled at an index. -/
theorem pre_split5 {A B C D E : IVec Cert.Pre_finite15.S_ 1} (h : andi (andi (andi (andi A B) C) D) E = fun _ => 1#1) :
    (∀ j, A j = 1#1) ∧ (∀ j, B j = 1#1) ∧ (∀ j, C j = 1#1) ∧ (∀ j, D j = 1#1) ∧ (∀ j, E j = 1#1) := by
  have e : ∀ j, IntOp.andi (IntOp.andi (IntOp.andi (IntOp.andi (A j) (B j)) (C j)) (D j)) (E j) = 1#1 := fun j => congrFun h j
  exact ⟨fun j => (and_ones (and_ones (and_ones (and_ones (e j)).1).1).1).1, fun j => (and_ones (and_ones (and_ones (and_ones (e j)).1).1).1).2,
    fun j => (and_ones (and_ones (and_ones (e j)).1).1).2, fun j => (and_ones (and_ones (e j)).1).2, fun j => (and_ones (e j)).2⟩

instance : Subsingleton (Cert.Pre_finite15.S_ : Shape).Idx := ⟨fun a b => funext fun d => d.elim0⟩

/-- The shape relations the precondition takes. -/
instance preFacts15 : Cert.Pre_finite15.Facts where
  bcast_S_S16384x1024 := by decide
  reducesTo_S16384x1024_S_d0_1 := by decide
  h_S_ := by decide
  bcast_S_S2816x1024 := by decide
  reducesTo_S2816x1024_S_d0_1 := by decide
  bcast_S_S2x16384x2816 := by decide
  reducesTo_S2x16384x2816_S_d0_1_2 := by decide
  bcast_S_S2x3x2816 := by decide
  reducesTo_S2x3x2816_S_d0_1_2 := by decide
  bcast_S_S2x1x2816 := by decide
  reducesTo_S2x1x2816_S_d0_1_2 := by decide

/-- The precondition says that every entry of the five arguments is a real number. -/
theorem real_of_finite [Cert.Pre_finite15.Facts] (x0 : FVec Ideal S16384x1024 .bf16) (x1 : FVec Ideal S2816x1024 .bf16) (x2 : FVec Ideal S2x16384x2816 .bf16)
    (x3 : FVec Ideal S2x3x2816 .f32) (x4 : FVec Ideal S2x1x2816 .f32) (h : Cert.Pre_finite15.fn (F := Ideal) x0 x1 x2 x3 x4 = fun _ => 1#1) :
    (∀ i, Real' (x0 i)) ∧ (∀ i, Real' (x1 i)) ∧ (∀ i, Real' (x2 i)) ∧ (∀ i, Real' (x3 i)) ∧ (∀ i, Real' (x4 i)) := by
  unfold Cert.Pre_finite15.fn Cert.Pre_finite15.fn_part1 at h
  obtain ⟨h0, h1, h2, h3, h4⟩ := pre_split5 h
  exact ⟨fun i => finite_read16 x0 _ i (Host.reduce_andi_all _ _ _ _ (fun d => d.elim0) (h0 (fun d => d.elim0)) i),
    fun i => finite_read16 x1 _ i (Host.reduce_andi_all _ _ _ _ (fun d => d.elim0) (h1 (fun d => d.elim0)) i),
    fun i => finite_read16 x2 _ i (Host.reduce_andi_all _ _ _ _ (fun d => d.elim0) (h2 (fun d => d.elim0)) i),
    fun i => finite_read32 x3 _ i (Host.reduce_andi_all _ _ _ _ (fun d => d.elim0) (h3 (fun d => d.elim0)) i),
    fun i => finite_read32 x4 _ i (Host.reduce_andi_all _ _ _ _ (fun d => d.elim0) (h4 (fun d => d.elim0)) i)⟩

end Cert.Kernel15Ideal.ActBwd

end
-- ==== Proof.Merge.lean ====
/-
  The backward of the gated merge: the gradients of the gates' logits and of both branches' outputs, tile by tile, and
  of both branches' weights, the sums over the tiles of tokens.
-/
module

public import proofs.«01_k».proof.Proof.Tiles
public import proofs.«01_k».proof.Proof.Gen.Kernel16Ideal.Value
public import proofs.«01_k».proof.Proof.Gen.Reference16Ideal.Read
public import Idealize.ShloMosaic.Lib.Pipeline.ValueKit

@[expose] public section

set_option maxRecDepth 16384

noncomputable section

namespace Cert.Kernel16Ideal.Merge

open Idealize.ShloMosaic Idealize.ShloMosaic.TcCoe Idealize.SL.Sem
open Cert.Kernel16Ideal Cert.Kernel16Ideal.Gen Cert.Kernel16Ideal.Value
open Cert.Reference16Ideal.Read Cert.Tiles

/-- The logistic function. -/
def sigma (g : EReal) : EReal := Ideal.div 1 (1 + Ideal.exp (-g))

/-- A place of two halves of columns. -/
def halves (x y : Vec Ideal S256x512 .f32) (p : Fin 256) (q : Fin 1024) : EReal :=
  if h : q.val < 512 then x (ix2 p ⟨q.val, h⟩) else y (ix2 p ⟨q.val - 512, by omega⟩)

/-- What the kernel's operations compute, place by place. -/
theorem pay6 (x : Vec Ideal S256x1024 .bf16) (w : Vec Ideal S1024x1024 .bf16) (p : Fin 256) (q : Fin 1024) :
    (k0_pay6 (F := Ideal) x w (ix2 p q) : EReal) = ∑ k : Fin 1024, x (ix2 p k) * w (ix2 q k) := by
  unfold k0_pay6
  pointwise
theorem pay7 (x y : Vec Ideal S256x512 .f32) (p : Fin 256) (q : Fin 1024) : (k0_pay7 (F := Ideal) x y (ix2 p q) : EReal) = sigma (halves x y p q) := by
  unfold k0_pay7 halves sigma
  pointwise
  try simp only [zero_sub]
theorem pay8 (x y : Vec Ideal S256x512 .f32) (p : Fin 256) (q : Fin 1024) : (k0_pay8 (F := Ideal) x y (ix2 p q) : EReal) = sigma (halves x y p q) := pay7 x y p q
theorem pay13 (d g : FVec Ideal S256x1024 .f32) (i : S256x1024.Idx) : (k0_pay13 (F := Ideal) d g i : EReal) = d i * g i := by
  pointwise [k0_pay13]
theorem pay14 (d g : FVec Ideal S256x1024 .f32) (i : S256x1024.Idx) : (k0_pay14 (F := Ideal) d g i : EReal) = d i * g i := by
  pointwise [k0_pay14]
theorem pay11 (x : Vec Ideal S256x1024 .bf16) (w : Vec Ideal S1024x1024 .bf16) (g h : Vec Ideal S256x512 .f32) (a : Vec Ideal S256x1024 .bf16) (i : S256x1024.Idx) :
    (k0_pay11 (F := Ideal) (k0_pay7 g h) (k0_pay10 x w g h a) (Scalar.ofBits .f32 0x3F800000#32) i : EReal)
      = k0_pay6 (F := Ideal) x w i * a i * (k0_pay7 (F := Ideal) g h i * (1 - k0_pay7 (F := Ideal) g h i)) := by
  unfold k0_pay11 k0_pay10
  generalize k0_pay7 (F := Ideal) g h = g'
  generalize k0_pay6 (F := Ideal) x w = d
  pointwise [mul_assoc]
theorem pay12 (d g : FVec Ideal S256x1024 .f32) (a : Vec Ideal S256x1024 .bf16) (i : S256x1024.Idx) :
    (k0_pay12 (F := Ideal) d g (k0_pay9 a) i : EReal) = d i * a i * (g i * (1 - g i)) := by
  unfold k0_pay12 k0_pay9
  pointwise [mul_assoc]
/-- The product with a head's weight, and a head's part of the weight's gradient. -/
theorem pay20 (d : FVec Ideal S256x1024 .bf16) (w : Vec Ideal S1x128x1024 .bf16) (l : Fin 128) (p : Fin 256) :
    (k0_pay20 (F := Ideal) d w (ix3 0 l p) : EReal) = ∑ k : Fin 1024, w (ix3 0 l k) * d (ix2 p k) := by
  unfold k0_pay20
  pointwise
theorem pay23 (d : FVec Ideal S256x1024 .bf16) (acc : Vec Ideal S1x128x1024 .f32) (o : Vec Ideal S1x128x256 .bf16) (l : Fin 128) (q : Fin 1024) :
    (k0_pay23 (F := Ideal) d acc o (ix3 0 l q) : EReal) = acc (ix3 0 l q) + ∑ p : Fin 256, o (ix3 0 l p) * d (ix2 p q) := by
  unfold k0_pay23
  pointwise
theorem pay4 (i : S8x128x1024.Idx) : (k0_pay4 (F := Ideal) i : EReal) = 0 := by
  pointwise [k0_pay4]
theorem pay5 (i : S8x128x1024.Idx) : (k0_pay5 (F := Ideal) i : EReal) = 0 := by
  pointwise [k0_pay5]

/-- What the reference's stages compute. -/
theorem v32_eq (x0 : Vec Ideal S16384x1024 .bf16) (x8 : Vec Ideal S1024x1024 .bf16) (t : Fin 16384) (q : Fin 1024) :
    (val_main_v32 (F := Ideal) x0 x8 (ix2 t q) : EReal) = ∑ k : Fin 1024, x0 (ix2 t k) * x8 (ix2 q k) := by
  pointwise [val_main_v32, val_main_v0, val_main_v7]
theorem v15_eq (x5 : Vec Ideal S16384x3584 .f32) (t : Fin 16384) (q : Fin 1024) :
    (val_main_v15 (F := Ideal) x5 (ix2 t q) : EReal) = sigma (x5 (ix2 t ⟨1536 + q.val, by omega⟩)) := by
  unfold sigma
  pointwise [val_main_v15, val_main_v14, val_main_v13, val_main_v12, val_main_v11, val_main_v10, val_main_v8, val_main_cst, val_main_cst_0]
theorem v25_eq (x5 : Vec Ideal S16384x3584 .f32) (t : Fin 16384) (q : Fin 1024) :
    (val_main_v25 (F := Ideal) x5 (ix2 t q) : EReal) = sigma (x5 (ix2 t ⟨2560 + q.val, by omega⟩)) := by
  unfold sigma
  pointwise [val_main_v25, val_main_v24, val_main_v23, val_main_v22, val_main_v21, val_main_v20, val_main_v9, val_main_cst_2, val_main_cst_3]
theorem v36_eq (x0 : Vec Ideal S16384x1024 .bf16) (x5 : Vec Ideal S16384x3584 .f32) (x8 : Vec Ideal S1024x1024 .bf16) (i : S16384x1024.Idx) :
    (val_main_v36 (F := Ideal) x0 x5 x8 i : EReal) = val_main_v32 (F := Ideal) x0 x8 i * val_main_v15 (F := Ideal) x5 i := mul_comm (G := EReal) _ _
theorem v33_eq (x0 : Vec Ideal S16384x1024 .bf16) (x5 : Vec Ideal S16384x3584 .f32) (x8 : Vec Ideal S1024x1024 .bf16) (i : S16384x1024.Idx) :
    (val_main_v33 (F := Ideal) x0 x5 x8 i : EReal) = val_main_v32 (F := Ideal) x0 x8 i * val_main_v25 (F := Ideal) x5 i := mul_comm (G := EReal) _ _
theorem v38_eq (x0 x3 : Vec Ideal S16384x1024 .bf16) (x5 : Vec Ideal S16384x3584 .f32) (x8 : Vec Ideal S1024x1024 .bf16) (i : S16384x1024.Idx) :
    (val_main_v38 (F := Ideal) x0 x3 x5 x8 i : EReal)
      = val_main_v32 (F := Ideal) x0 x8 i * x3 i * (val_main_v15 (F := Ideal) x5 i * (1 - val_main_v15 (F := Ideal) x5 i)) := by
  unfold val_main_v38 val_main_v37 val_main_v18 val_main_v17
  generalize val_main_v32 (F := Ideal) x0 x8 = d
  generalize val_main_v15 (F := Ideal) x5 = g
  pointwise [val_main_v16, val_main_v3, val_main_cst_1]
theorem v35_eq (x0 x4 : Vec Ideal S16384x1024 .bf16) (x5 : Vec Ideal S16384x3584 .f32) (x8 : Vec Ideal S1024x1024 .bf16) (i : S16384x1024.Idx) :
    (val_main_v35 (F := Ideal) x0 x4 x5 x8 i : EReal)
      = val_main_v32 (F := Ideal) x0 x8 i * x4 i * (val_main_v25 (F := Ideal) x5 i * (1 - val_main_v25 (F := Ideal) x5 i)) := by
  unfold val_main_v35 val_main_v34 val_main_v28 val_main_v27
  generalize val_main_v32 (F := Ideal) x0 x8 = d
  generalize val_main_v25 (F := Ideal) x5 = g
  pointwise [val_main_v26, val_main_v4, val_main_cst_4]
theorem v50_lo (x0 x3 x4 : Vec Ideal S16384x1024 .bf16) (x5 : Vec Ideal S16384x3584 .f32) (x8 : Vec Ideal S1024x1024 .bf16) (t : Fin 16384) (q : Fin 1024) :
    (val_main_v50 (F := Ideal) x0 x3 x4 x5 x8 (ix2 t ⟨q.val, by omega⟩) : EReal) = val_main_v38 (F := Ideal) x0 x3 x5 x8 (ix2 t q) := by
  unfold val_main_v50 val_main_v49
  generalize val_main_v38 (F := Ideal) x0 x3 x5 x8 = a
  generalize val_main_v35 (F := Ideal) x0 x4 x5 x8 = b
  pointwise
theorem v50_hi (x0 x3 x4 : Vec Ideal S16384x1024 .bf16) (x5 : Vec Ideal S16384x3584 .f32) (x8 : Vec Ideal S1024x1024 .bf16) (t : Fin 16384) (q : Fin 1024) :
    (val_main_v50 (F := Ideal) x0 x3 x4 x5 x8 (ix2 t ⟨1024 + q.val, by omega⟩) : EReal) = val_main_v35 (F := Ideal) x0 x4 x5 x8 (ix2 t q) := by
  unfold val_main_v50 val_main_v49
  generalize val_main_v38 (F := Ideal) x0 x3 x5 x8 = a
  generalize val_main_v35 (F := Ideal) x0 x4 x5 x8 = b
  pointwise
theorem v51_eq (x0 : Vec Ideal S16384x1024 .bf16) (x5 : Vec Ideal S16384x3584 .f32) (x6 : Vec Ideal S8x128x1024 .bf16) (x8 : Vec Ideal S1024x1024 .bf16) (h : Fin 8) (l : Fin 128) (t : Fin 16384) :
    (val_main_v51 (F := Ideal) x0 x5 x6 x8 (ix3 h l t) : EReal) = ∑ k : Fin 1024, x6 (ix3 h l k) * val_main_v36 (F := Ideal) x0 x5 x8 (ix2 t k) := by
  unfold val_main_v51 val_main_v43 val_main_v42
  generalize val_main_v36 (F := Ideal) x0 x5 x8 = d
  pointwise [val_main_v5]
  try exact Finset.sum_congr rfl fun k _ => mul_comm (G := EReal) _ _
theorem v52_eq (x0 : Vec Ideal S16384x1024 .bf16) (x5 : Vec Ideal S16384x3584 .f32) (x7 : Vec Ideal S8x128x1024 .bf16) (x8 : Vec Ideal S1024x1024 .bf16) (h : Fin 8) (l : Fin 128) (t : Fin 16384) :
    (val_main_v52 (F := Ideal) x0 x5 x7 x8 (ix3 h l t) : EReal) = ∑ k : Fin 1024, x7 (ix3 h l k) * val_main_v33 (F := Ideal) x0 x5 x8 (ix2 t k) := by
  unfold val_main_v52 val_main_v48 val_main_v47
  generalize val_main_v33 (F := Ideal) x0 x5 x8 = d
  pointwise [val_main_v6]
  try exact Finset.sum_congr rfl fun k _ => mul_comm (G := EReal) _ _
theorem v41_eq (x0 : Vec Ideal S16384x1024 .bf16) (x1 : Vec Ideal S8x128x16384 .bf16) (x5 : Vec Ideal S16384x3584 .f32) (x8 : Vec Ideal S1024x1024 .bf16) (h : Fin 8) (l : Fin 128) (q : Fin 1024) :
    (val_main_v41 (F := Ideal) x0 x1 x5 x8 (ix3 h l q) : EReal) = ∑ t : Fin 16384, x1 (ix3 h l t) * val_main_v36 (F := Ideal) x0 x5 x8 (ix2 t q) := by
  unfold val_main_v41 val_main_v40
  generalize val_main_v36 (F := Ideal) x0 x5 x8 = d
  pointwise [val_main_v1]
  try exact Finset.sum_congr rfl fun k _ => mul_comm (G := EReal) _ _
theorem v46_eq (x0 : Vec Ideal S16384x1024 .bf16) (x2 : Vec Ideal S8x128x16384 .bf16) (x5 : Vec Ideal S16384x3584 .f32) (x8 : Vec Ideal S1024x1024 .bf16) (h : Fin 8) (l : Fin 128) (q : Fin 1024) :
    (val_main_v46 (F := Ideal) x0 x2 x5 x8 (ix3 h l q) : EReal) = ∑ t : Fin 16384, x2 (ix3 h l t) * val_main_v33 (F := Ideal) x0 x5 x8 (ix2 t q) := by
  unfold val_main_v46 val_main_v45
  generalize val_main_v33 (F := Ideal) x0 x5 x8 = d
  pointwise [val_main_v2]
  try exact Finset.sum_congr rfl fun k _ => mul_comm (G := EReal) _ _

/-- The loads and the stores, of one head's rows of a block. -/
theorem ld3 {n : ℕ} {e : EltTy} (x : Vec Ideal ⟨3, ![8, 128, n]⟩ e) (h' : ℕ) (inb) (h : Fin 8) (l : Fin 128) (q : Fin n) (eh : h.val = h') :
    View.ld (Val := Elt Ideal) x (Rect.unit (s := ⟨3, ![8, 128, n]⟩) ![h', 0, 0] ![1, 128, n] inb) (ix3 0 l q) = x (ix3 h l q) := by
  subst eh
  refine congrArg x (funext fun d => Fin.ext ?_)
  match d with
  | ⟨0, _⟩ => exact (show h.val + 1 * 0 = h.val by omega)
  | ⟨1, _⟩ => exact (show 0 + 1 * l.val = l.val by omega)
  | ⟨2, _⟩ => exact (show 0 + 1 * q.val = q.val by omega)
theorem hit3 {n : ℕ} {e : EltTy} (h' : ℕ) (inb) (w : (Rect.unit (s := ⟨3, ![8, 128, n]⟩) ![h', 0, 0] ![1, 128, n] inb).shape.Idx → Elt Ideal e)
    (L : List (View.Piece (Elt Ideal) ⟨3, ![8, 128, n]⟩ e)) (h : Fin 8) (l : Fin 128) (q : Fin n) (eh : h.val = h') :
    View.canon (⟨Rect.unit (s := ⟨3, ![8, 128, n]⟩) ![h', 0, 0] ![1, 128, n] inb, w⟩ :: L) (ix3 h l q) = w (ix3 0 l q) := by
  subst eh
  have e : ix3 h l q = (Rect.unit (s := ⟨3, ![8, 128, n]⟩) ![h.val, 0, 0] ![1, 128, n] inb).emb (ix3 0 l q) := by
    funext d; apply Fin.ext
    match d with
    | ⟨0, _⟩ => exact (show h.val = h.val + 1 * 0 by omega)
    | ⟨1, _⟩ => exact (show l.val = 0 + 1 * l.val by omega)
    | ⟨2, _⟩ => exact (show q.val = 0 + 1 * q.val by omega)
  rw [e]
  exact View.canon_cons_emb _ w L _
theorem skip3 {n : ℕ} {e : EltTy} (h' : ℕ) (inb) (w : (Rect.unit (s := ⟨3, ![8, 128, n]⟩) ![h', 0, 0] ![1, 128, n] inb).shape.Idx → Elt Ideal e)
    (L : List (View.Piece (Elt Ideal) ⟨3, ![8, 128, n]⟩ e)) (h : Fin 8) (l : Fin 128) (q : Fin n) (g : h.val ≠ h') :
    View.canon (⟨Rect.unit (s := ⟨3, ![8, 128, n]⟩) ![h', 0, 0] ![1, 128, n] inb, w⟩ :: L) (ix3 h l q) = View.canon L (ix3 h l q) :=
  View.canon_cons_of_not_mem (⟨Rect.unit (s := ⟨3, ![8, 128, n]⟩) ![h', 0, 0] ![1, 128, n] inb, w⟩ : View.Piece (Elt Ideal) ⟨3, ![8, 128, n]⟩ e) L fun hm => by
    have hm' := (Rect.mem_set_unit (s := ⟨3, ![8, 128, n]⟩) (off := ![h', 0, 0]) (size := ![1, 128, n]) (inb := inb)).1 hm
    have g0 : h' ≤ h.val ∧ h.val < h' + 1 := hm' 0
    omega
theorem load3 {sp : Space} {n : ℕ} {e : EltTy} (v : View sig .tc sp ⟨3, ![8, 128, n]⟩ e) (L : List (View.Piece (Elt Ideal) ⟨3, ![8, 128, n]⟩ e))
    (h' : ℕ) (inb) (h : Fin 8) (l : Fin 128) (q : Fin n) (eh : h.val = h') :
    v.readCov L (Rect.unit (s := ⟨3, ![8, 128, n]⟩) ![h', 0, 0] ![1, 128, n] inb).toLoadRect (ix3 0 l q) = View.canon L (ix3 h l q) := by
  subst eh
  have e : (Rect.unit (s := ⟨3, ![8, 128, n]⟩) ![h.val, 0, 0] ![1, 128, n] inb).toLoadRect.idx (ix3 0 l q) = ix3 h l q := by
    funext d; apply Fin.ext
    match d with
    | ⟨0, _⟩ => exact (show h.val + 1 * 0 = h.val by omega)
    | ⟨1, _⟩ => exact (show 0 + 1 * l.val = l.val by omega)
    | ⟨2, _⟩ => exact (show 0 + 1 * q.val = q.val by omega)
  refine Eq.trans ?_ (congrArg (View.canon L) e)
  exact View.read_writes_junk_apply_eq_canon v _ L
theorem whole3 {n : ℕ} {e : EltTy} (inb) (w : (Rect.unit (s := ⟨3, ![8, 128, n]⟩) ![0, 0, 0] ![8, 128, n] inb).shape.Idx → Elt Ideal e) (h : Fin 8) (l : Fin 128) (q : Fin n) :
    View.canon [⟨Rect.unit (s := ⟨3, ![8, 128, n]⟩) ![0, 0, 0] ![8, 128, n] inb, w⟩] (ix3 h l q) = w (ix3 h l q) := by
  have e : ix3 h l q = (Rect.unit (s := ⟨3, ![8, 128, n]⟩) ![0, 0, 0] ![8, 128, n] inb).emb (ix3 h l q) := by
    funext d; apply Fin.ext
    match d with
    | ⟨0, _⟩ => exact (show h.val = 0 + 1 * h.val by omega)
    | ⟨1, _⟩ => exact (show l.val = 0 + 1 * l.val by omega)
    | ⟨2, _⟩ => exact (show q.val = 0 + 1 * q.val by omega)
  exact (congrArg (View.canon _) e).trans (View.canon_cons_emb _ w [] _)
theorem hitT (h' : ℕ) (inb) (w : (Rect.unit (s := S8x128x256) ![h', 0, 0] ![1, 128, 256] inb).shape.Idx → Elt Ideal .bf16) (L : List (View.Piece (Elt Ideal) S8x128x256 .bf16)) (h : Fin 8) (l : Fin 128) (q : Fin 256) (eh : h.val = h') :
    View.canon (⟨Rect.unit (s := S8x128x256) ![h', 0, 0] ![1, 128, 256] inb, w⟩ :: L) (ix3 h l q) = w (ix3 0 l q) := hit3 h' inb w L h l q eh
theorem skipT (h' : ℕ) (inb) (w : (Rect.unit (s := S8x128x256) ![h', 0, 0] ![1, 128, 256] inb).shape.Idx → Elt Ideal .bf16) (L : List (View.Piece (Elt Ideal) S8x128x256 .bf16)) (h : Fin 8) (l : Fin 128) (q : Fin 256) (g : h.val ≠ h') :
    View.canon (⟨Rect.unit (s := S8x128x256) ![h', 0, 0] ![1, 128, 256] inb, w⟩ :: L) (ix3 h l q) = View.canon L (ix3 h l q) := skip3 h' inb w L h l q g
theorem hitW (h' : ℕ) (inb) (w : (Rect.unit (s := S8x128x1024) ![h', 0, 0] ![1, 128, 1024] inb).shape.Idx → Elt Ideal .f32) (L : List (View.Piece (Elt Ideal) S8x128x1024 .f32)) (h : Fin 8) (l : Fin 128) (q : Fin 1024) (eh : h.val = h') :
    View.canon (⟨Rect.unit (s := S8x128x1024) ![h', 0, 0] ![1, 128, 1024] inb, w⟩ :: L) (ix3 h l q) = w (ix3 0 l q) := hit3 h' inb w L h l q eh
theorem skipW (h' : ℕ) (inb) (w : (Rect.unit (s := S8x128x1024) ![h', 0, 0] ![1, 128, 1024] inb).shape.Idx → Elt Ideal .f32) (L : List (View.Piece (Elt Ideal) S8x128x1024 .f32)) (h : Fin 8) (l : Fin 128) (q : Fin 1024) (g : h.val ≠ h') :
    View.canon (⟨Rect.unit (s := S8x128x1024) ![h', 0, 0] ![1, 128, 1024] inb, w⟩ :: L) (ix3 h l q) = View.canon L (ix3 h l q) := skip3 h' inb w L h l q g
theorem loadW {sp : Space} (v : View sig .tc sp S8x128x1024 .f32) (L : List (View.Piece (Elt Ideal) S8x128x1024 .f32)) (h' : ℕ) (inb) (h : Fin 8) (l : Fin 128) (q : Fin 1024) (eh : h.val = h') :
    v.readCov L (Rect.unit (s := S8x128x1024) ![h', 0, 0] ![1, 128, 1024] inb).toLoadRect (ix3 0 l q) = View.canon L (ix3 h l q) := load3 v L h' inb h l q eh
theorem heads (h : Fin 8) : h.val = 0 ∨ h.val = 1 ∨ h.val = 2 ∨ h.val = 3 ∨ h.val = 4 ∨ h.val = 5 ∨ h.val = 6 ∨ h.val = 7 := by omega
/-- The stores of one half of the columns. -/
theorem hit2 (c' : ℕ) (inb) (w : (Rect.unit (s := S256x2048) ![0, c'] ![256, 1024] inb).shape.Idx → Elt Ideal .bf16)
    (L : List (View.Piece (Elt Ideal) S256x2048 .bf16)) (p : Fin 256) (q : Fin 1024) (k : Fin 2048) (ek : k.val = c' + q.val) :
    View.canon (⟨Rect.unit (s := S256x2048) ![0, c'] ![256, 1024] inb, w⟩ :: L) (ix2 p k) = w (ix2 p q) := by
  have e : ix2 p k = (Rect.unit (s := S256x2048) ![0, c'] ![256, 1024] inb).emb (ix2 p q) := by
    funext d; apply Fin.ext
    match d with
    | ⟨0, _⟩ => exact (show p.val = 0 + 1 * p.val by omega)
    | ⟨1, _⟩ => exact (show k.val = c' + 1 * q.val by omega)
  rw [e]
  exact View.canon_cons_emb _ w L _
theorem skip2 (c' : ℕ) (inb) (w : (Rect.unit (s := S256x2048) ![0, c'] ![256, 1024] inb).shape.Idx → Elt Ideal .bf16)
    (L : List (View.Piece (Elt Ideal) S256x2048 .bf16)) (p : Fin 256) (k : Fin 2048) (g : k.val < c') :
    View.canon (⟨Rect.unit (s := S256x2048) ![0, c'] ![256, 1024] inb, w⟩ :: L) (ix2 p k) = View.canon L (ix2 p k) :=
  View.canon_cons_of_not_mem (⟨Rect.unit (s := S256x2048) ![0, c'] ![256, 1024] inb, w⟩ : View.Piece (Elt Ideal) S256x2048 .bf16) L fun hm => by
    have hm' := (Rect.mem_set_unit (s := S256x2048) (off := ![0, c']) (size := ![256, 1024]) (inb := inb)).1 hm
    have g0 : c' ≤ k.val ∧ k.val < c' + 1024 := hm' 1
    omega

variable (m : (ℓ : Loc nD τ sig) → Buf (Elt Ideal) ℓ) (c : Dev nD)

theorem idx : ∀ t : Fin cfg0.N, win0_0.index t = ![t.val, 0]
    ∧ win0_1.index t = ![0, 0, t.val]
    ∧ win0_2.index t = ![0, 0, t.val]
    ∧ win0_3.index t = ![t.val, 0]
    ∧ win0_4.index t = ![t.val, 0]
    ∧ win0_5.index t = ![t.val, 3]
    ∧ win0_6.index t = ![t.val, 4]
    ∧ win0_7.index t = ![t.val, 5]
    ∧ win0_8.index t = ![t.val, 6]
    ∧ win0_9.index t = ![0, 0, 0]
    ∧ win0_10.index t = ![0, 0, 0]
    ∧ win0_11.index t = ![0, 0]
    ∧ win0_12.index t = ![t.val, 0]
    ∧ win0_13.index t = ![0, 0, t.val]
    ∧ win0_14.index t = ![0, 0, t.val]
    ∧ win0_15.index t = ![0, 0, 0]
    ∧ win0_16.index t = ![0, 0, 0] :=
  (by decide +kernel : ∀ t : Fin grid0.N, _)
theorem pt_lt (t : Fin cfg0.N) : t.val < 64 := lt_of_lt_of_eq t.2 (show cfg0.N = 64 from N_0)

/-- Token `p` of a point's tile. -/
def row (t : Fin cfg0.N) (p : Fin 256) : Fin 16384 := ⟨t.val * 256 + p.val, by have := pt_lt t; omega⟩

/-- The call's arguments. -/
abbrev a0 : Vec Ideal S16384x1024 .bf16 := m ((c : Thread nD τ).loc main_arg0)
abbrev a1 : Vec Ideal S8x128x16384 .bf16 := m ((c : Thread nD τ).loc main_arg1)
abbrev a2 : Vec Ideal S8x128x16384 .bf16 := m ((c : Thread nD τ).loc main_arg2)
abbrev a3 : Vec Ideal S16384x1024 .bf16 := m ((c : Thread nD τ).loc main_arg3)
abbrev a4 : Vec Ideal S16384x1024 .bf16 := m ((c : Thread nD τ).loc main_arg4)
abbrev a5 : Vec Ideal S16384x3584 .f32 := m ((c : Thread nD τ).loc main_arg5)
abbrev a6 : Vec Ideal S8x128x1024 .bf16 := m ((c : Thread nD τ).loc main_arg6)
abbrev a7 : Vec Ideal S8x128x1024 .bf16 := m ((c : Thread nD τ).loc main_arg7)
abbrev a8 : Vec Ideal S1024x1024 .bf16 := m ((c : Thread nD τ).loc main_arg8)

theorem blk0 (t : Fin cfg0.N) (p : Fin 256) (k : Fin 1024) : iblk m c 0 t (ix2 p k) = a0 m c (ix2 (row t p) k) := by
  have e : iblk m c 0 t (ix2 p k) = V m c main_arg0 ((win0_0.blk t).view.emb (ix2 p k)) := by
    unfold iblk; generalize V m c = X; unfold View.read; exact cast_eq _ _
  rw [e, V_main_arg0]
  congr 1
  refine funext fun d => Fin.ext ?_
  fin_cases d <;> blk_simp [(idx t).1] <;> (try rfl)
theorem blk1 (t : Fin cfg0.N) (h : Fin 8) (l : Fin 128) (p : Fin 256) : iblk m c 1 t (ix3 h l p) = a1 m c (ix3 h l (row t p)) := by
  have e : iblk m c 1 t (ix3 h l p) = V m c main_arg1 ((win0_1.blk t).view.emb (ix3 h l p)) := by
    unfold iblk; generalize V m c = X; unfold View.read; exact cast_eq _ _
  rw [e, V_main_arg1]
  congr 1
  refine funext fun d => Fin.ext ?_
  fin_cases d <;> blk_simp [(idx t).2.1] <;> (try rfl)
theorem blk2 (t : Fin cfg0.N) (h : Fin 8) (l : Fin 128) (p : Fin 256) : iblk m c 2 t (ix3 h l p) = a2 m c (ix3 h l (row t p)) := by
  have e : iblk m c 2 t (ix3 h l p) = V m c main_arg2 ((win0_2.blk t).view.emb (ix3 h l p)) := by
    unfold iblk; generalize V m c = X; unfold View.read; exact cast_eq _ _
  rw [e, V_main_arg2]
  congr 1
  refine funext fun d => Fin.ext ?_
  fin_cases d <;> blk_simp [(idx t).2.2.1] <;> (try rfl)
theorem blk3 (t : Fin cfg0.N) (p : Fin 256) (k : Fin 1024) : iblk m c 3 t (ix2 p k) = a3 m c (ix2 (row t p) k) := by
  have e : iblk m c 3 t (ix2 p k) = V m c main_arg3 ((win0_3.blk t).view.emb (ix2 p k)) := by
    unfold iblk; generalize V m c = X; unfold View.read; exact cast_eq _ _
  rw [e, V_main_arg3]
  congr 1
  refine funext fun d => Fin.ext ?_
  fin_cases d <;> blk_simp [(idx t).2.2.2.1] <;> (try rfl)
theorem blk4 (t : Fin cfg0.N) (p : Fin 256) (k : Fin 1024) : iblk m c 4 t (ix2 p k) = a4 m c (ix2 (row t p) k) := by
  have e : iblk m c 4 t (ix2 p k) = V m c main_arg4 ((win0_4.blk t).view.emb (ix2 p k)) := by
    unfold iblk; generalize V m c = X; unfold View.read; exact cast_eq _ _
  rw [e, V_main_arg4]
  congr 1
  refine funext fun d => Fin.ext ?_
  fin_cases d <;> blk_simp [(idx t).2.2.2.2.1] <;> (try rfl)
theorem blk5 (t : Fin cfg0.N) (p : Fin 256) (k : Fin 512) : iblk m c 5 t (ix2 p k) = a5 m c (ix2 (row t p) ⟨1536 + k.val, by omega⟩) := by
  have e : iblk m c 5 t (ix2 p k) = V m c main_arg5 ((win0_5.blk t).view.emb (ix2 p k)) := by
    unfold iblk; generalize V m c = X; unfold View.read; exact cast_eq _ _
  rw [e, V_main_arg5]
  congr 1
  refine funext fun d => Fin.ext ?_
  fin_cases d <;> blk_simp [(idx t).2.2.2.2.2.1] <;> (try rfl)
theorem blk6 (t : Fin cfg0.N) (p : Fin 256) (k : Fin 512) : iblk m c 6 t (ix2 p k) = a5 m c (ix2 (row t p) ⟨2048 + k.val, by omega⟩) := by
  have e : iblk m c 6 t (ix2 p k) = V m c main_arg5 ((win0_6.blk t).view.emb (ix2 p k)) := by
    unfold iblk; generalize V m c = X; unfold View.read; exact cast_eq _ _
  rw [e, V_main_arg5]
  congr 1
  refine funext fun d => Fin.ext ?_
  fin_cases d <;> blk_simp [(idx t).2.2.2.2.2.2.1] <;> (try rfl)
theorem blk7 (t : Fin cfg0.N) (p : Fin 256) (k : Fin 512) : iblk m c 7 t (ix2 p k) = a5 m c (ix2 (row t p) ⟨2560 + k.val, by omega⟩) := by
  have e : iblk m c 7 t (ix2 p k) = V m c main_arg5 ((win0_7.blk t).view.emb (ix2 p k)) := by
    unfold iblk; generalize V m c = X; unfold View.read; exact cast_eq _ _
  rw [e, V_main_arg5]
  congr 1
  refine funext fun d => Fin.ext ?_
  fin_cases d <;> blk_simp [(idx t).2.2.2.2.2.2.2.1] <;> (try rfl)
theorem blk8 (t : Fin cfg0.N) (p : Fin 256) (k : Fin 512) : iblk m c 8 t (ix2 p k) = a5 m c (ix2 (row t p) ⟨3072 + k.val, by omega⟩) := by
  have e : iblk m c 8 t (ix2 p k) = V m c main_arg5 ((win0_8.blk t).view.emb (ix2 p k)) := by
    unfold iblk; generalize V m c = X; unfold View.read; exact cast_eq _ _
  rw [e, V_main_arg5]
  congr 1
  refine funext fun d => Fin.ext ?_
  fin_cases d <;> blk_simp [(idx t).2.2.2.2.2.2.2.2.1] <;> (try rfl)
theorem blk9 (t : Fin cfg0.N) (h : Fin 8) (l : Fin 128) (k : Fin 1024) : iblk m c 9 t (ix3 h l k) = a6 m c (ix3 h l k) := by
  have e : iblk m c 9 t (ix3 h l k) = V m c main_arg6 ((win0_9.blk t).view.emb (ix3 h l k)) := by
    unfold iblk; generalize V m c = X; unfold View.read; exact cast_eq _ _
  rw [e, V_main_arg6]
  congr 1
  refine funext fun d => Fin.ext ?_
  fin_cases d <;> blk_simp [(idx t).2.2.2.2.2.2.2.2.2.1] <;> (try rfl)
theorem blk10 (t : Fin cfg0.N) (h : Fin 8) (l : Fin 128) (k : Fin 1024) : iblk m c 10 t (ix3 h l k) = a7 m c (ix3 h l k) := by
  have e : iblk m c 10 t (ix3 h l k) = V m c main_arg7 ((win0_10.blk t).view.emb (ix3 h l k)) := by
    unfold iblk; generalize V m c = X; unfold View.read; exact cast_eq _ _
  rw [e, V_main_arg7]
  congr 1
  refine funext fun d => Fin.ext ?_
  fin_cases d <;> blk_simp [(idx t).2.2.2.2.2.2.2.2.2.2.1] <;> (try rfl)
theorem blk11 (t : Fin cfg0.N) (q k : Fin 1024) : iblk m c 11 t (ix2 q k) = a8 m c (ix2 q k) := by
  have e : iblk m c 11 t (ix2 q k) = V m c main_arg8 ((win0_11.blk t).view.emb (ix2 q k)) := by
    unfold iblk; generalize V m c = X; unfold View.read; exact cast_eq _ _
  rw [e, V_main_arg8]
  congr 1
  refine funext fun d => Fin.ext ?_
  fin_cases d <;> blk_simp [(idx t).2.2.2.2.2.2.2.2.2.2.2.1] <;> (try rfl)

/-- A tile of the gradient of the merge, of both gates, and of the gradients of both branches' products. -/
def dm (t : Fin cfg0.N) : FVec Ideal S256x1024 .f32 := k0_pay6 (F := Ideal) (iblk m c 0 t) (iblk m c 11 t)
def ga (t : Fin cfg0.N) : FVec Ideal S256x1024 .f32 := k0_pay7 (F := Ideal) (iblk m c 5 t) (iblk m c 6 t)
def gb (t : Fin cfg0.N) : FVec Ideal S256x1024 .f32 := k0_pay8 (F := Ideal) (iblk m c 7 t) (iblk m c 8 t)
def da (t : Fin cfg0.N) : FVec Ideal S256x1024 .bf16 := k0_pay13 (F := Ideal) (dm m c t) (ga m c t)
def db (t : Fin cfg0.N) : FVec Ideal S256x1024 .bf16 := k0_pay14 (F := Ideal) (dm m c t) (gb m c t)
/-- The same of all tokens. -/
abbrev dM : Vec Ideal S16384x1024 .f32 := val_main_v32 (F := Ideal) (a0 m c) (a8 m c)
abbrev gA : Vec Ideal S16384x1024 .f32 := val_main_v15 (F := Ideal) (a5 m c)
abbrev gB : Vec Ideal S16384x1024 .f32 := val_main_v25 (F := Ideal) (a5 m c)
abbrev dA : Vec Ideal S16384x1024 .f32 := val_main_v36 (F := Ideal) (a0 m c) (a5 m c) (a8 m c)
abbrev dB : Vec Ideal S16384x1024 .f32 := val_main_v33 (F := Ideal) (a0 m c) (a5 m c) (a8 m c)

theorem dm_row (t : Fin cfg0.N) (p : Fin 256) (q : Fin 1024) : (dm m c t (ix2 p q) : EReal) = dM m c (ix2 (row t p) q) :=
  (pay6 _ _ p q).trans ((Finset.sum_congr rfl fun k _ => congrArg₂ (fun a b : EReal => a * b) (blk0 m c t p k) (blk11 m c t q k)).trans (v32_eq _ _ _ _).symm)
theorem ga_row (t : Fin cfg0.N) (p : Fin 256) (q : Fin 1024) : (ga m c t (ix2 p q) : EReal) = gA m c (ix2 (row t p) q) := by
  refine (pay7 _ _ p q).trans (Eq.trans (congrArg sigma ?_) (v15_eq _ _ _).symm)
  unfold halves
  split
  · exact blk5 m c t p _
  · refine (blk6 m c t p _).trans (congrArg (fun k => (a5 m c (ix2 (row t p) k) : EReal)) (Fin.ext ?_))
    show 2048 + (q.val - 512) = 1536 + q.val
    omega
theorem gb_row (t : Fin cfg0.N) (p : Fin 256) (q : Fin 1024) : (gb m c t (ix2 p q) : EReal) = gB m c (ix2 (row t p) q) := by
  refine (pay8 _ _ p q).trans (Eq.trans (congrArg sigma ?_) (v25_eq _ _ _).symm)
  unfold halves
  split
  · exact blk7 m c t p _
  · refine (blk8 m c t p _).trans (congrArg (fun k => (a5 m c (ix2 (row t p) k) : EReal)) (Fin.ext ?_))
    show 3072 + (q.val - 512) = 2560 + q.val
    omega
theorem da_row (t : Fin cfg0.N) (p : Fin 256) (q : Fin 1024) : (da m c t (ix2 p q) : EReal) = dA m c (ix2 (row t p) q) :=
  (pay13 _ _ _).trans ((congrArg₂ (fun a b : EReal => a * b) (dm_row m c t p q) (ga_row m c t p q)).trans (v36_eq _ _ _ _).symm)
theorem db_row (t : Fin cfg0.N) (p : Fin 256) (q : Fin 1024) : (db m c t (ix2 p q) : EReal) = dB m c (ix2 (row t p) q) :=
  (pay14 _ _ _).trans ((congrArg₂ (fun a b : EReal => a * b) (dm_row m c t p q) (gb_row m c t p q)).trans (v33_eq _ _ _ _).symm)

/-- The call's five results. -/
def G12 : Vec Ideal S16384x2048 .bf16 := val_main_v50 (F := Ideal) (a0 m c) (a3 m c) (a4 m c) (a5 m c) (a8 m c)
def G13 : Vec Ideal S8x128x16384 .bf16 := val_main_v51 (F := Ideal) (a0 m c) (a5 m c) (a6 m c) (a8 m c)
def G14 : Vec Ideal S8x128x16384 .bf16 := val_main_v52 (F := Ideal) (a0 m c) (a5 m c) (a7 m c) (a8 m c)
def G15 : Vec Ideal S8x128x1024 .f32 := val_main_v41 (F := Ideal) (a0 m c) (a1 m c) (a5 m c) (a8 m c)
def G16 : Vec Ideal S8x128x1024 .f32 := val_main_v46 (F := Ideal) (a0 m c) (a2 m c) (a5 m c) (a8 m c)

/-- What a point writes of the gates' gradients. -/
theorem lo12 (t : Fin cfg0.N) (p : Fin 256) (q : Fin 1024) :
    (k0_pay11 (F := Ideal) (ga m c t) (k0_pay10 (iblk m c 0 t) (iblk m c 11 t) (iblk m c 5 t) (iblk m c 6 t) (iblk m c 3 t)) (Scalar.ofBits .f32 0x3F800000#32) (ix2 p q) : EReal)
      = G12 m c (ix2 (row t p) ⟨q.val, by omega⟩) := by
  refine (pay11 _ _ _ _ _ _).trans (Eq.trans ?_ ((v50_lo _ _ _ _ _ _ _).trans (v38_eq _ _ _ _ _)).symm)
  exact congrArg₂ (fun a b : EReal => a * b) (congrArg₂ (fun a b : EReal => a * b) (dm_row m c t p q) (blk3 m c t p q))
    (congrArg (fun a : EReal => a * (1 - a)) (ga_row m c t p q))
theorem hi12 (t : Fin cfg0.N) (p : Fin 256) (q : Fin 1024) :
    (k0_pay12 (F := Ideal) (dm m c t) (gb m c t) (k0_pay9 (iblk m c 4 t)) (ix2 p q) : EReal) = G12 m c (ix2 (row t p) ⟨1024 + q.val, by omega⟩) := by
  refine (pay12 _ _ _ _).trans (Eq.trans ?_ ((v50_hi _ _ _ _ _ _ _).trans (v35_eq _ _ _ _ _)).symm)
  exact congrArg₂ (fun a b : EReal => a * b) (congrArg₂ (fun a b : EReal => a * b) (dm_row m c t p q) (blk4 m c t p q))
    (congrArg (fun a : EReal => a * (1 - a)) (gb_row m c t p q))
theorem o12 (t : Fin cfg0.N) (p : Fin 256) (k : Fin 2048) : ((outsAt0 m c t.val t.isLt).1 (ix2 p k) : EReal) = G12 m c (ix2 (row t p) k) := by
  by_cases g : t.val % 64 = 0
  on_goal 1 => rw [outsAt0_A m c t g]
  on_goal 2 => rw [outsAt0_B m c t g]
  all_goals
    frame_out
    by_cases hk : k.val < 1024
    · refine Eq.trans (skip2 1024 _ _ _ p k hk) ?_
      refine Eq.trans (hit2 0 _ _ _ p ⟨k.val, hk⟩ k (by simp)) ?_
      exact lo12 m c t p ⟨k.val, hk⟩
    · refine Eq.trans (hit2 1024 _ _ _ p ⟨k.val - 1024, by omega⟩ k (by simp; omega)) ?_
      refine (hi12 m c t p ⟨k.val - 1024, by omega⟩).trans (congrArg (fun j => (G12 m c (ix2 (row t p) j) : EReal)) (Fin.ext ?_))
      show 1024 + (k.val - 1024) = k.val
      omega

/-- What a point writes of the gradients of the branches' outputs, a head's rows at a time. -/
theorem part13 (t : Fin cfg0.N) (h : Fin 8) (l : Fin 128) (p : Fin 256) (h' : ℕ) (inb) (eh : h.val = h') :
    (k0_pay20 (F := Ideal) (da m c t) (View.ld (Val := Elt Ideal) (iblk m c 9 t) (Rect.unit ![h', 0, 0] ![1, 128, 1024] inb)) (ix3 0 l p) : EReal) = G13 m c (ix3 h l (row t p)) :=
  (pay20 _ _ l p).trans ((Finset.sum_congr rfl fun k _ => congrArg₂ (fun a b : EReal => a * b) ((ld3 _ h' _ h l k eh).trans (blk9 m c t h l k)) (da_row m c t p k)).trans (v51_eq _ _ _ _ h l _).symm)
theorem o13 (t : Fin cfg0.N) (h : Fin 8) (l : Fin 128) (p : Fin 256) : ((outsAt0 m c t.val t.isLt).2.1 (ix3 h l p) : EReal) = G13 m c (ix3 h l (row t p)) := by
  by_cases g : t.val % 64 = 0
  on_goal 1 => rw [outsAt0_A m c t g]
  on_goal 2 => rw [outsAt0_B m c t g]
  all_goals
    frame_out
    rcases heads h with e | e | e | e | e | e | e | e
    all_goals
      repeat refine Eq.trans (skipT _ _ _ _ h l p (by omega)) ?_
      exact Eq.trans (hitT _ _ _ _ h l p e) (part13 m c t h l p _ _ e)
theorem part14 (t : Fin cfg0.N) (h : Fin 8) (l : Fin 128) (p : Fin 256) (h' : ℕ) (inb) (eh : h.val = h') :
    (k0_pay20 (F := Ideal) (db m c t) (View.ld (Val := Elt Ideal) (iblk m c 10 t) (Rect.unit ![h', 0, 0] ![1, 128, 1024] inb)) (ix3 0 l p) : EReal) = G14 m c (ix3 h l (row t p)) :=
  (pay20 _ _ l p).trans ((Finset.sum_congr rfl fun k _ => congrArg₂ (fun a b : EReal => a * b) ((ld3 _ h' _ h l k eh).trans (blk10 m c t h l k)) (db_row m c t p k)).trans (v52_eq _ _ _ _ h l _).symm)
theorem o14 (t : Fin cfg0.N) (h : Fin 8) (l : Fin 128) (p : Fin 256) : ((outsAt0 m c t.val t.isLt).2.2.1 (ix3 h l p) : EReal) = G14 m c (ix3 h l (row t p)) := by
  by_cases g : t.val % 64 = 0
  on_goal 1 => rw [outsAt0_A m c t g]
  on_goal 2 => rw [outsAt0_B m c t g]
  all_goals
    frame_out
    rcases heads h with e | e | e | e | e | e | e | e
    all_goals
      repeat refine Eq.trans (skipT _ _ _ _ h l p (by omega)) ?_
      exact Eq.trans (hitT _ _ _ _ h l p e) (part14 m c t h l p _ _ e)

/-- One token's share of an entry of the gradients of the branches' weights, and a tile's part. -/
def ofA (h : Fin 8) (l : Fin 128) (q : Fin 1024) (t : Fin 16384) : EReal := a1 m c (ix3 h l t) * dA m c (ix2 t q)
def ofB (h : Fin 8) (l : Fin 128) (q : Fin 1024) (t : Fin 16384) : EReal := a2 m c (ix3 h l t) * dB m c (ix2 t q)
def partOf (f : Fin 8 → Fin 128 → Fin 1024 → Fin 16384 → EReal) (k : ℕ) (i : S8x128x1024.Idx) : EReal :=
  ∑ p : Fin 256, beyond (f (i 0) (i 1) (i 2)) (k * 256 + p)

/-- What starts at zero and takes each tile's part ends as the sum over all tokens. -/
theorem total (acc : (k : ℕ) → k < cfg0.N → Vec Ideal S8x128x1024 .f32) (f : Fin 8 → Fin 128 → Fin 1024 → Fin 16384 → EReal)
    (first : ∀ t : Fin cfg0.N, t.val % 64 = 0 → ∀ i, (acc t.val t.isLt i : EReal) = 0 + partOf f t.val i)
    (next : ∀ t : Fin cfg0.N, ¬t.val % 64 = 0 → ∀ i,
      (acc t.val t.isLt i : EReal) = acc (t.val - 1) (Nat.lt_of_le_of_lt (Nat.sub_le _ _) t.isLt) i + partOf f t.val i)
    (t : Fin cfg0.N) (h : t.val % 64 = 63) (i : Fin 8) (l : Fin 128) (q : Fin 1024) : (acc t.val t.isLt (ix3 i l q) : EReal) = ∑ k : Fin 16384, f i l q k := by
  have ht := pt_lt t
  rw [Pipeline.eq_sum_of_reset_step_apply_of_mod (M := EReal) acc 64 (fun _ => 0) (partOf f) first next t (r := 63) (by omega) (ix3 i l q),
    zero_add, ← sum_tiles 64 256 16384 rfl]
  refine Finset.sum_congr rfl fun k hk => ?_
  rw [show 64 * (t.val / 64) + k = k by omega]
  rfl

theorem part15 (t : Fin cfg0.N) (h : Fin 8) (l : Fin 128) (q : Fin 1024) (acc : Vec Ideal S1x128x1024 .f32) (h' : ℕ) (inb) (eh : h.val = h') :
    (k0_pay23 (F := Ideal) (da m c t) acc (View.ld (Val := Elt Ideal) (iblk m c 1 t) (Rect.unit ![h', 0, 0] ![1, 128, 256] inb)) (ix3 0 l q) : EReal) = acc (ix3 0 l q) + partOf (ofA m c) t.val (ix3 h l q) := by
  refine (pay23 _ _ _ l q).trans (congrArg (fun a : EReal => acc (ix3 0 l q) + a) (Finset.sum_congr rfl fun p _ => ?_))
  refine Eq.trans ?_ (beyond_of_lt (ofA m c h l q) (row t p).isLt).symm
  exact congrArg₂ (fun a b : EReal => a * b) ((ld3 _ h' _ h l p eh).trans (blk1 m c t h l p)) (da_row m c t p q)
set_option maxHeartbeats 1000000 in
theorem first15 (t : Fin cfg0.N) (g : t.val % 64 = 0) (i : S8x128x1024.Idx) : ((outsAt0 m c t.val t.isLt).2.2.2.1 i : EReal) = 0 + partOf (ofA m c) t.val i := by
  obtain ⟨h, l, q, rfl⟩ : ∃ (h : Fin 8) (l : Fin 128) (q : Fin 1024), i = ix3 h l q := ⟨i 0, i 1, i 2, eq_ix3 i⟩
  rw [outsAt0_A m c t g]
  frame_out
  rcases heads h with e | e | e | e | e | e | e | e
  all_goals
    repeat refine Eq.trans (skipW _ _ _ _ h l q (by omega)) ?_
    refine Eq.trans (hitW _ _ _ _ h l q e) ((part15 m c t h l q _ _ _ e).trans (congrArg (fun a : EReal => a + _) ?_))
    refine Eq.trans (loadW _ _ _ _ h l q e) ?_
    repeat refine Eq.trans (skipW _ _ _ _ h l q (by omega)) ?_
    exact (whole3 _ _ h l q).trans (pay4 _)
set_option maxHeartbeats 1000000 in
theorem next15 (t : Fin cfg0.N) (g : ¬t.val % 64 = 0) (i : S8x128x1024.Idx) :
    ((outsAt0 m c t.val t.isLt).2.2.2.1 i : EReal) = (outsAt0 m c (t.val - 1) (Nat.lt_of_le_of_lt (Nat.sub_le _ _) t.isLt)).2.2.2.1 i + partOf (ofA m c) t.val i := by
  obtain ⟨h, l, q, rfl⟩ : ∃ (h : Fin 8) (l : Fin 128) (q : Fin 1024), i = ix3 h l q := ⟨i 0, i 1, i 2, eq_ix3 i⟩
  rw [outsAt0_B m c t g]
  frame_out
  rcases heads h with e | e | e | e | e | e | e | e
  all_goals
    repeat refine Eq.trans (skipW _ _ _ _ h l q (by omega)) ?_
    refine Eq.trans (hitW _ _ _ _ h l q e) ((part15 m c t h l q _ _ _ e).trans (congrArg (fun a : EReal => a + _) ?_))
    exact ld3 _ _ _ h l q e
theorem part16 (t : Fin cfg0.N) (h : Fin 8) (l : Fin 128) (q : Fin 1024) (acc : Vec Ideal S1x128x1024 .f32) (h' : ℕ) (inb) (eh : h.val = h') :
    (k0_pay23 (F := Ideal) (db m c t) acc (View.ld (Val := Elt Ideal) (iblk m c 2 t) (Rect.unit ![h', 0, 0] ![1, 128, 256] inb)) (ix3 0 l q) : EReal) = acc (ix3 0 l q) + partOf (ofB m c) t.val (ix3 h l q) := by
  refine (pay23 _ _ _ l q).trans (congrArg (fun a : EReal => acc (ix3 0 l q) + a) (Finset.sum_congr rfl fun p _ => ?_))
  refine Eq.trans ?_ (beyond_of_lt (ofB m c h l q) (row t p).isLt).symm
  exact congrArg₂ (fun a b : EReal => a * b) ((ld3 _ h' _ h l p eh).trans (blk2 m c t h l p)) (db_row m c t p q)
set_option maxHeartbeats 1000000 in
theorem first16 (t : Fin cfg0.N) (g : t.val % 64 = 0) (i : S8x128x1024.Idx) : ((outsAt0 m c t.val t.isLt).2.2.2.2 i : EReal) = 0 + partOf (ofB m c) t.val i := by
  obtain ⟨h, l, q, rfl⟩ : ∃ (h : Fin 8) (l : Fin 128) (q : Fin 1024), i = ix3 h l q := ⟨i 0, i 1, i 2, eq_ix3 i⟩
  rw [outsAt0_A m c t g]
  frame_out
  rcases heads h with e | e | e | e | e | e | e | e
  all_goals
    repeat refine Eq.trans (skipW _ _ _ _ h l q (by omega)) ?_
    refine Eq.trans (hitW _ _ _ _ h l q e) ((part16 m c t h l q _ _ _ e).trans (congrArg (fun a : EReal => a + _) ?_))
    refine Eq.trans (loadW _ _ _ _ h l q e) ?_
    repeat refine Eq.trans (skipW _ _ _ _ h l q (by omega)) ?_
    exact (whole3 _ _ h l q).trans (pay5 _)
set_option maxHeartbeats 1000000 in
theorem next16 (t : Fin cfg0.N) (g : ¬t.val % 64 = 0) (i : S8x128x1024.Idx) :
    ((outsAt0 m c t.val t.isLt).2.2.2.2 i : EReal) = (outsAt0 m c (t.val - 1) (Nat.lt_of_le_of_lt (Nat.sub_le _ _) t.isLt)).2.2.2.2 i + partOf (ofB m c) t.val i := by
  obtain ⟨h, l, q, rfl⟩ : ∃ (h : Fin 8) (l : Fin 128) (q : Fin 1024), i = ix3 h l q := ⟨i 0, i 1, i 2, eq_ix3 i⟩
  rw [outsAt0_B m c t g]
  frame_out
  rcases heads h with e | e | e | e | e | e | e | e
  all_goals
    repeat refine Eq.trans (skipW _ _ _ _ h l q (by omega)) ?_
    refine Eq.trans (hitW _ _ _ _ h l q e) ((part16 m c t h l q _ _ _ e).trans (congrArg (fun a : EReal => a + _) ?_))
    exact ld3 _ _ _ h l q e

/-- Every block that the call writes is its part of the result. -/
theorem final12 : (dats m 0 c).arrAt 12 cfg0.N = G12 m c := by
  refine (dats m 0 c).arrAt_eq_of_covers 12 _ (by decide +kernel) fun t hf y => ?_
  blk_simp
  rw [after0_12]
  obtain ⟨p, k, rfl⟩ : ∃ (p : Fin 256) (k : Fin 2048), y = ix2 p k := ⟨y 0, y 1, eq_ix2 y⟩
  have e : (win0_12.blk t).view.emb (ix2 p k) = ix2 (row t p) k := by
    refine funext fun d => Fin.ext ?_
    fin_cases d <;> blk_simp [(idx t).2.2.2.2.2.2.2.2.2.2.2.2.1] <;> (try rfl)
  exact (o12 m c t p k).trans (congrArg (G12 m c) e.symm)
theorem final13 : (dats m 0 c).arrAt 13 cfg0.N = G13 m c := by
  refine (dats m 0 c).arrAt_eq_of_covers 13 _ (by decide +kernel) fun t hf y => ?_
  blk_simp
  rw [after0_13]
  obtain ⟨h, l, p, rfl⟩ : ∃ (h : Fin 8) (l : Fin 128) (p : Fin 256), y = ix3 h l p := ⟨y 0, y 1, y 2, eq_ix3 y⟩
  have e : (win0_13.blk t).view.emb (ix3 h l p) = ix3 h l (row t p) := by
    refine funext fun d => Fin.ext ?_
    fin_cases d <;> blk_simp [(idx t).2.2.2.2.2.2.2.2.2.2.2.2.2.1] <;> (try rfl)
  exact (o13 m c t h l p).trans (congrArg (G13 m c) e.symm)
theorem final14 : (dats m 0 c).arrAt 14 cfg0.N = G14 m c := by
  refine (dats m 0 c).arrAt_eq_of_covers 14 _ (by decide +kernel) fun t hf y => ?_
  blk_simp
  rw [after0_14]
  obtain ⟨h, l, p, rfl⟩ : ∃ (h : Fin 8) (l : Fin 128) (p : Fin 256), y = ix3 h l p := ⟨y 0, y 1, y 2, eq_ix3 y⟩
  have e : (win0_14.blk t).view.emb (ix3 h l p) = ix3 h l (row t p) := by
    refine funext fun d => Fin.ext ?_
    fin_cases d <;> blk_simp [(idx t).2.2.2.2.2.2.2.2.2.2.2.2.2.2.1] <;> (try rfl)
  exact (o14 m c t h l p).trans (congrArg (G14 m c) e.symm)
theorem final15 : (dats m 0 c).arrAt 15 cfg0.N = G15 m c := by
  refine (dats m 0 c).arrAt_eq_of_covers 15 _ (by decide +kernel) fun t hf y => ?_
  blk_simp
  rw [after0_15]
  obtain ⟨h, l, q, rfl⟩ : ∃ (h : Fin 8) (l : Fin 128) (q : Fin 1024), y = ix3 h l q := ⟨y 0, y 1, y 2, eq_ix3 y⟩
  have e : (win0_15.blk t).view.emb (ix3 h l q) = ix3 h l q := by
    refine funext fun d => Fin.ext ?_
    fin_cases d <;> blk_simp [(idx t).2.2.2.2.2.2.2.2.2.2.2.2.2.2.2.1] <;> (try rfl)
  refine Eq.trans ?_ (congrArg (G15 m c) e.symm)
  refine Eq.trans ?_ (v41_eq _ _ _ _ h l q).symm
  exact total (fun k g => (outsAt0 m c k g).2.2.2.1) (ofA m c) (first15 m c) (next15 m c) t ((flush0_15 t).1 hf) h l q
theorem final16 : (dats m 0 c).arrAt 16 cfg0.N = G16 m c := by
  refine (dats m 0 c).arrAt_eq_of_covers 16 _ (by decide +kernel) fun t hf y => ?_
  blk_simp
  rw [after0_16]
  obtain ⟨h, l, q, rfl⟩ : ∃ (h : Fin 8) (l : Fin 128) (q : Fin 1024), y = ix3 h l q := ⟨y 0, y 1, y 2, eq_ix3 y⟩
  have e : (win0_16.blk t).view.emb (ix3 h l q) = ix3 h l q := by
    refine funext fun d => Fin.ext ?_
    fin_cases d <;> blk_simp [(idx t).2.2.2.2.2.2.2.2.2.2.2.2.2.2.2.2] <;> (try rfl)
  refine Eq.trans ?_ (congrArg (G16 m c) e.symm)
  refine Eq.trans ?_ (v46_eq _ _ _ _ h l q).symm
  exact total (fun k g => (outsAt0 m c k g).2.2.2.2) (ofB m c) (first16 m c) (next16 m c) t ((flush0_16 t).1 hf) h l q

/-- The run, with its results named. -/
theorem run (ρ : Dev nD → PrngReg) : θ_run defs (onTc (τ := τ) (main (F := Ideal))) ⟨m, fun _ => 0, ρ⟩ fun r => ∀ c : Dev nD,
      r.2.mem ((c : Thread nD τ).loc main_v0_0) = G12 m c
      ∧ r.2.mem ((c : Thread nD τ).loc main_v0_1) = G13 m c
      ∧ r.2.mem ((c : Thread nD τ).loc main_v0_2) = G14 m c
      ∧ r.2.mem ((c : Thread nD τ).loc main_v0_3) = G15 m c
      ∧ r.2.mem ((c : Thread nD τ).loc main_v0_4) = G16 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final12 m c), (h c).2.1.trans (final13 m c), (h c).2.2.1.trans (final14 m c), (h c).2.2.2.1.trans (final15 m c), (h c).2.2.2.2.1.trans (final16 m c), (h c).2.2.2.2.2⟩) (run_blocks m ρ)

end Cert.Kernel16Ideal.Merge

end
-- ==== Proof.MergeFwd.lean ====
/-
  The gated merge of both branches and the layer norm after it: tile by tile, the branches' products, the merged rows, their
  product with the output's weight, and the layer norm with its mean and deviation are the reference's.
-/
module

public import proofs.«01_k».proof.Proof.DownLoss
public import proofs.«01_k».proof.Proof.Merge
public import proofs.«01_k».proof.Proof.Gen.Kernel17Ideal.Value
public import proofs.«01_k».proof.Proof.Gen.Reference17Ideal.Read

@[expose] public section

set_option maxRecDepth 16384

noncomputable section

namespace Cert.Kernel17Ideal.MergeFwd

open Idealize.ShloMosaic Idealize.ShloMosaic.TcCoe Idealize.SL.Sem
open Cert.Kernel17Ideal Cert.Kernel17Ideal.Gen Cert.Kernel17Ideal.Value
open Cert.Reference17Ideal.Read
open Cert.Kernel12Ideal.Product (alpha width raise centred scaled)
open Cert.Kernel16Ideal.Merge (sigma ld3)

/-- A place of two halves of columns. -/
def halves (x y : Vec Ideal S512x512 .f32) (p : Fin 512) (q : Fin 1024) : EReal :=
  if h : q.val < 512 then x (ix2 p ⟨q.val, h⟩) else y (ix2 p ⟨q.val - 512, by omega⟩)

/-- One head's product, and the argument of the layer norm. -/
def prod (x : Vec Ideal S1x128x512 .bf16) (w : Vec Ideal S1x128x1024 .bf16) (p : Fin 512) (q : Fin 1024) : EReal :=
  ∑ l : Fin 128, x (ix3 0 l p) * w (ix3 0 l q)
def arg (y x g : EReal) : EReal := alpha * x + g * y
/-- The mean of a row, and the layer norm's result. -/
def mean (z : Fin 1024 → EReal) : EReal := Ideal.div (∑ q : Fin 1024, z q) width
def norm (z : Fin 1024 → EReal) (g b : Vec Ideal S1x1024 .f32) (q : Fin 1024) : EReal := centred z q * scaled z * g (ix2 0 q) + b (ix2 0 q)

/-- What the kernel's operations compute, place by place. -/
theorem pay3 (x y : Vec Ideal S512x512 .f32) (p : Fin 512) (q : Fin 1024) : (k0_pay3 (F := Ideal) x y (ix2 p q) : EReal) = sigma (halves x y p q) := by
  unfold k0_pay3 halves sigma
  pointwise
  try simp only [zero_sub]
theorem pay5 (x y : Vec Ideal S1x128x512 .bf16) (u v : Vec Ideal S1x128x1024 .bf16) (p : Fin 512) (q : Fin 1024) :
    (k0_pay5 (F := Ideal) x u y v (ix2 p q) : EReal) = prod x u p q + prod y v p q := by
  unfold k0_pay5 prod
  pointwise
theorem pay6 (d : FVec Ideal S512x1024 .f32) (x y z s : Vec Ideal S1x128x512 .bf16) (u v w r : Vec Ideal S1x128x1024 .bf16) (p : Fin 512) (q : Fin 1024) :
    (k0_pay6 (F := Ideal) d x u y v z w s r (ix2 p q) : EReal) = d (ix2 p q) + prod x u p q + prod y v p q + prod z w p q + prod s r p q := by
  unfold k0_pay6 prod
  pointwise
theorem pay8 (d : FVec Ideal S512x1024 .f32) (x y : Vec Ideal S1x128x512 .bf16) (u v : Vec Ideal S1x128x1024 .bf16) (p : Fin 512) (q : Fin 1024) :
    (k0_pay8 (F := Ideal) d (k0_pay7 x) u y v (ix2 p q) : EReal) = d (ix2 p q) + prod x u p q + prod y v p q := by
  unfold k0_pay8 k0_pay7 prod
  pointwise
theorem pay9 (x y z : Vec Ideal S1x128x512 .bf16) (u v w : Vec Ideal S1x128x1024 .bf16) (p : Fin 512) (q : Fin 1024) :
    (k0_pay9 (F := Ideal) x u y v z w (ix2 p q) : EReal) = prod x u p q + prod y v p q + prod z w p q := by
  unfold k0_pay9 prod
  pointwise
theorem pay10 (d : FVec Ideal S512x1024 .f32) (x y z s : Vec Ideal S1x128x512 .bf16) (u v w r : Vec Ideal S1x128x1024 .bf16) (p : Fin 512) (q : Fin 1024) :
    (k0_pay10 (F := Ideal) d x u y v z w s r (ix2 p q) : EReal) = d (ix2 p q) + prod x u p q + prod y v p q + prod z w p q + prod s r p q := by
  unfold k0_pay10 prod
  pointwise
theorem pay11 (x : Vec Ideal S1x128x512 .bf16) (u : Vec Ideal S1x128x1024 .bf16) (p : Fin 512) (q : Fin 1024) :
    (k0_pay11 (F := Ideal) x u (ix2 p q) : EReal) = prod x u p q := by
  unfold k0_pay11 prod
  pointwise
theorem pay12 (d e : FVec Ideal S512x1024 .f32) (i : S512x1024.Idx) : (k0_pay12 (F := Ideal) d e i : EReal) = d i + e i := by
  pointwise [k0_pay12]

section Rows
variable (ga gb pa d e : FVec Ideal S512x1024 .f32) (w : Vec Ideal S1024x1024 .bf16) (x : Vec Ideal S512x1024 .f32) (g lg lb : Vec Ideal S1x1024 .f32)
theorem pay13 (i : S512x1024.Idx) : (k0_pay13 (F := Ideal) ga gb pa d e i : EReal) = ga i * pa i + gb i * k0_pay12 (F := Ideal) d e i := by
  unfold k0_pay13
  generalize k0_pay12 (F := Ideal) d e = y
  pointwise
theorem pay14 (p : Fin 512) (q : Fin 1024) :
    (k0_pay14 (F := Ideal) ga gb pa d e w (ix2 p q) : EReal) = ∑ k : Fin 1024, k0_pay13 (F := Ideal) ga gb pa d e (ix2 p k) * w (ix2 k q) := by
  unfold k0_pay14
  generalize k0_pay13 (F := Ideal) ga gb pa d e = y
  pointwise
theorem pay15 (p : Fin 512) (q : Fin 1024) :
    (k0_pay15 (F := Ideal) ga gb pa d e w x g (ix2 p q) : EReal) = arg (k0_pay14 (F := Ideal) ga gb pa d e w (ix2 p q)) (x (ix2 p q)) (g (ix2 0 q)) := by
  unfold k0_pay15 arg alpha
  generalize k0_pay14 (F := Ideal) ga gb pa d e w = y
  pointwise
theorem pay16 (p : Fin 512) :
    (k0_pay16 (F := Ideal) ga gb pa d e w x g (ix2 p 0) : EReal) = mean fun q => k0_pay15 (F := Ideal) ga gb pa d e w x g (ix2 p q) := by
  unfold k0_pay16 mean width
  generalize k0_pay15 (F := Ideal) ga gb pa d e w x g = y
  pointwise
theorem pay17 (p : Fin 512) (q : Fin 1024) :
    (k0_pay17 (F := Ideal) ga gb pa d e w x g (ix2 p q) : EReal) = centred (fun q => k0_pay15 (F := Ideal) ga gb pa d e w x g (ix2 p q)) q := by
  unfold k0_pay17 k0_pay16 centred width
  generalize k0_pay15 (F := Ideal) ga gb pa d e w x g = y
  pointwise
theorem pay18 (p : Fin 512) :
    (k0_pay18 (F := Ideal) ga gb pa d e w x g (ix2 p 0) : EReal) = scaled fun q => k0_pay15 (F := Ideal) ga gb pa d e w x g (ix2 p q) := by
  unfold scaled
  simp only [← pay17]
  unfold k0_pay18 width raise
  generalize k0_pay17 (F := Ideal) ga gb pa d e w x g = y
  pointwise
theorem pay19 (p : Fin 512) (q : Fin 1024) :
    (k0_pay19 (F := Ideal) ga gb pa d e w x g lg lb (ix2 p q) : EReal) = norm (fun q => k0_pay15 (F := Ideal) ga gb pa d e w x g (ix2 p q)) lg lb q := by
  unfold norm
  rw [← pay17, ← pay18]
  unfold k0_pay19
  generalize k0_pay17 (F := Ideal) ga gb pa d e w x g = y
  generalize k0_pay18 (F := Ideal) ga gb pa d e w x g = z
  pointwise
end Rows

/-! What the reference's stages compute. -/
section Reference
variable (x0 x1 : Vec Ideal S8x128x16384 .bf16) (x2 : Vec Ideal S16384x3584 .f32) (x3 : Vec Ideal S16384x1024 .f32) (x4 : Vec Ideal S1x1024 .f32)
  (x5 x6 : Vec Ideal S8x128x1024 .bf16) (x7 : Vec Ideal S1024x1024 .bf16) (x8 x9 : Vec Ideal S1x1024 .f32) (t : Fin 16384) (q : Fin 1024)
theorem v5_eq : (val_main_v5 (F := Ideal) x0 x5 (ix2 t q) : EReal) = ∑ h : Fin 8, ∑ l : Fin 128, x0 (ix3 h l t) * x5 (ix3 h l q) := by
  pointwise [val_main_v5, val_main_v0, val_main_v2]
theorem v6_eq : (val_main_v6 (F := Ideal) x1 x6 (ix2 t q) : EReal) = ∑ h : Fin 8, ∑ l : Fin 128, x1 (ix3 h l t) * x6 (ix3 h l q) := v5_eq x1 x6 t q
theorem v14_eq : (val_main_v14 (F := Ideal) x2 (ix2 t q) : EReal) = sigma (x2 (ix2 t ⟨1536 + q.val, by omega⟩)) := by
  unfold sigma
  pointwise [val_main_v14, val_main_v13, val_main_v12, val_main_v11, val_main_v10, val_main_v9, val_main_v7, val_main_cst, val_main_cst_0]
theorem v21_eq : (val_main_v21 (F := Ideal) x2 (ix2 t q) : EReal) = sigma (x2 (ix2 t ⟨2560 + q.val, by omega⟩)) := by
  unfold sigma
  pointwise [val_main_v21, val_main_v20, val_main_v19, val_main_v18, val_main_v17, val_main_v16, val_main_v8, val_main_cst_1, val_main_cst_2]
theorem v23_eq (i : S16384x1024.Idx) : (val_main_v23 (F := Ideal) x0 x1 x2 x5 x6 i : EReal)
    = val_main_v14 (F := Ideal) x2 i * val_main_v5 (F := Ideal) x0 x5 i + val_main_v21 (F := Ideal) x2 i * val_main_v6 (F := Ideal) x1 x6 i := by
  unfold val_main_v23 val_main_v22 val_main_v15
  generalize val_main_v14 (F := Ideal) x2 = a
  generalize val_main_v21 (F := Ideal) x2 = b
  generalize val_main_v5 (F := Ideal) x0 x5 = a'
  generalize val_main_v6 (F := Ideal) x1 x6 = b'
  pointwise
theorem v24_eq : (val_main_v24 (F := Ideal) x0 x1 x2 x5 x6 x7 (ix2 t q) : EReal)
    = ∑ k : Fin 1024, val_main_v23 (F := Ideal) x0 x1 x2 x5 x6 (ix2 t k) * x7 (ix2 k q) := by
  unfold val_main_v24
  generalize val_main_v23 (F := Ideal) x0 x1 x2 x5 x6 = y
  pointwise [val_main_v4]
theorem v29_eq : (val_main_v29 (F := Ideal) x0 x1 x2 x3 x4 x5 x6 x7 (ix2 t q) : EReal)
    = arg (val_main_v24 (F := Ideal) x0 x1 x2 x5 x6 x7 (ix2 t q)) (x3 (ix2 t q)) (x4 (ix2 0 q)) := by
  unfold val_main_v29 val_main_v28 arg alpha
  generalize val_main_v24 (F := Ideal) x0 x1 x2 x5 x6 x7 = y
  pointwise [val_main_v27, val_main_v26, val_main_v25, val_main_cst_3]
theorem v33_eq : (val_main_v33 (F := Ideal) x0 x1 x2 x3 x4 x5 x6 x7 (ix2 t 0) : EReal)
    = mean fun q => val_main_v29 (F := Ideal) x0 x1 x2 x3 x4 x5 x6 x7 (ix2 t q) := by
  unfold val_main_v33 val_main_v31 val_main_v30 mean width
  generalize val_main_v29 (F := Ideal) x0 x1 x2 x3 x4 x5 x6 x7 = y
  pointwise [val_main_v32, val_main_cst_4, val_main_cst_5]
theorem v35_eq : (val_main_v35 (F := Ideal) x0 x1 x2 x3 x4 x5 x6 x7 (ix2 t q) : EReal)
    = centred (fun q => val_main_v29 (F := Ideal) x0 x1 x2 x3 x4 x5 x6 x7 (ix2 t q)) q := by
  unfold val_main_v35 val_main_v34 val_main_v33 val_main_v31 val_main_v30 centred width
  generalize val_main_v29 (F := Ideal) x0 x1 x2 x3 x4 x5 x6 x7 = y
  pointwise [val_main_v32, val_main_cst_4, val_main_cst_5]
theorem v43_eq : (val_main_v43 (F := Ideal) x0 x1 x2 x3 x4 x5 x6 x7 (ix2 t 0) : EReal)
    = scaled fun q => val_main_v29 (F := Ideal) x0 x1 x2 x3 x4 x5 x6 x7 (ix2 t q) := by
  unfold scaled
  simp only [← v35_eq]
  unfold val_main_v43 val_main_v42 val_main_v40 val_main_v38 val_main_v37 val_main_v36 width raise
  generalize val_main_v35 (F := Ideal) x0 x1 x2 x3 x4 x5 x6 x7 = y
  pointwise [val_main_v39, val_main_v41, val_main_cst_6, val_main_cst_7, val_main_cst_8]
theorem v65_eq : (val_main_v65 (F := Ideal) x0 x1 x2 x3 x4 x5 x6 x7 x8 x9 (ix2 t q) : EReal)
    = norm (fun q => val_main_v29 (F := Ideal) x0 x1 x2 x3 x4 x5 x6 x7 (ix2 t q)) x8 x9 q := by
  unfold norm
  rw [← v35_eq, ← v43_eq]
  have e : val_main_v56 (F := Ideal) x0 x1 x2 x3 x4 x5 x6 x7 = val_main_v35 (F := Ideal) x0 x1 x2 x3 x4 x5 x6 x7 := rfl
  have e' : val_main_v59 (F := Ideal) x0 x1 x2 x3 x4 x5 x6 x7 = val_main_v43 (F := Ideal) x0 x1 x2 x3 x4 x5 x6 x7 := rfl
  unfold val_main_v65 val_main_v63 val_main_v61 val_main_v60
  rw [e, e']
  generalize val_main_v35 (F := Ideal) x0 x1 x2 x3 x4 x5 x6 x7 = y
  generalize val_main_v43 (F := Ideal) x0 x1 x2 x3 x4 x5 x6 x7 = z
  pointwise [val_main_v62, val_main_v64]
end Reference

/-- A load and a store of a whole block. -/
theorem ld2 {a b : ℕ} {e : EltTy} (inb) (x : Vec Ideal ⟨2, ![a, b]⟩ e) (p : Fin a) (q : Fin b) :
    View.ld (Val := Elt Ideal) x (Rect.unit (s := ⟨2, ![a, b]⟩) ![0, 0] ![a, b] inb) (ix2 p q) = x (ix2 p q) := by
  refine congrArg x (funext fun d => Fin.ext ?_)
  match d with
  | ⟨0, _⟩ => exact (show 0 + 1 * p.val = p.val by omega)
  | ⟨1, _⟩ => exact (show 0 + 1 * q.val = q.val by omega)
theorem whole2 {a b : ℕ} {e : EltTy} (inb) (w : (Rect.unit (s := ⟨2, ![a, b]⟩) ![0, 0] ![a, b] inb).shape.Idx → Elt Ideal e) (p : Fin a) (q : Fin b) :
    View.canon [⟨Rect.unit (s := ⟨2, ![a, b]⟩) ![0, 0] ![a, b] inb, w⟩] (ix2 p q) = w (ix2 p q) := by
  have e : ix2 p q = (Rect.unit (s := ⟨2, ![a, b]⟩) ![0, 0] ![a, b] inb).emb (ix2 p q) := by
    funext d; apply Fin.ext
    match d with
    | ⟨0, _⟩ => exact (show p.val = 0 + 1 * p.val by omega)
    | ⟨1, _⟩ => exact (show q.val = 0 + 1 * q.val by omega)
  exact (congrArg (View.canon _) e).trans (View.canon_cons_emb _ w [] _)
/-- A head's product, of the loads of its rows. -/
theorem prod_ld (x : Vec Ideal S8x128x512 .bf16) (w : Vec Ideal S8x128x1024 .bf16) (h' : ℕ) (inb inb') (h : Fin 8) (eh : h.val = h') (p : Fin 512) (q : Fin 1024) :
    prod (View.ld (Val := Elt Ideal) x (Rect.unit (s := S8x128x512) ![h', 0, 0] ![1, 128, 512] inb))
      (View.ld (Val := Elt Ideal) w (Rect.unit (s := S8x128x1024) ![h', 0, 0] ![1, 128, 1024] inb')) p q = ∑ l : Fin 128, x (ix3 h l p) * w (ix3 h l q) :=
  Finset.sum_congr rfl fun l _ => congrArg₂ (fun a b : EReal => a * b) (ld3 x h' inb h l p eh) (ld3 w h' inb' h l q eh)

variable (m : (ℓ : Loc nD τ sig) → Buf (Elt Ideal) ℓ) (c : Dev nD)

theorem idx : ∀ t : Fin cfg0.N, win0_0.index t = ![0, 0, t.val]
    ∧ win0_1.index t = ![0, 0, t.val]
    ∧ win0_2.index t = ![t.val, 3]
    ∧ win0_3.index t = ![t.val, 4]
    ∧ win0_4.index t = ![t.val, 5]
    ∧ win0_5.index t = ![t.val, 6]
    ∧ win0_6.index t = ![t.val, 0]
    ∧ win0_7.index t = ![0, 0]
    ∧ win0_8.index t = ![0, 0, 0]
    ∧ win0_9.index t = ![0, 0, 0]
    ∧ win0_10.index t = ![0, 0]
    ∧ win0_11.index t = ![0, 0]
    ∧ win0_12.index t = ![0, 0]
    ∧ win0_13.index t = ![t.val, 0]
    ∧ win0_14.index t = ![t.val, 0]
    ∧ win0_15.index t = ![t.val, 0]
    ∧ win0_16.index t = ![t.val, 0]
    ∧ win0_17.index t = ![t.val, 0]
    ∧ win0_18.index t = ![t.val, 0]
    ∧ win0_19.index t = ![t.val, 0] :=
  (by decide +kernel : ∀ t : Fin grid0.N, _)
theorem pt_lt (t : Fin cfg0.N) : t.val < 32 := lt_of_lt_of_eq t.2 (show cfg0.N = 32 from N_0)

/-- Token `p` of a point's tile. -/
def row (t : Fin cfg0.N) (p : Fin 512) : Fin 16384 := ⟨t.val * 512 + p.val, by have := pt_lt t; omega⟩

/-- The call's arguments. -/
abbrev a0 : Vec Ideal S8x128x16384 .bf16 := m ((c : Thread nD τ).loc main_arg0)
abbrev a1 : Vec Ideal S8x128x16384 .bf16 := m ((c : Thread nD τ).loc main_arg1)
abbrev a2 : Vec Ideal S16384x3584 .f32 := m ((c : Thread nD τ).loc main_arg2)
abbrev a3 : Vec Ideal S16384x1024 .f32 := m ((c : Thread nD τ).loc main_arg3)
abbrev a4 : Vec Ideal S1x1024 .f32 := m ((c : Thread nD τ).loc main_arg4)
abbrev a5 : Vec Ideal S8x128x1024 .bf16 := m ((c : Thread nD τ).loc main_arg5)
abbrev a6 : Vec Ideal S8x128x1024 .bf16 := m ((c : Thread nD τ).loc main_arg6)
abbrev a7 : Vec Ideal S1024x1024 .bf16 := m ((c : Thread nD τ).loc main_arg7)
abbrev a8 : Vec Ideal S1x1024 .f32 := m ((c : Thread nD τ).loc main_arg8)
abbrev a9 : Vec Ideal S1x1024 .f32 := m ((c : Thread nD τ).loc main_arg9)

theorem blk0 (t : Fin cfg0.N) (h : Fin 8) (l : Fin 128) (p : Fin 512) : iblk m c 0 t (ix3 h l p) = a0 m c (ix3 h l (row t p)) := by
  have e : iblk m c 0 t (ix3 h l p) = V m c main_arg0 ((win0_0.blk t).view.emb (ix3 h l p)) := by
    unfold iblk; generalize V m c = X; unfold View.read; exact cast_eq _ _
  rw [e, V_main_arg0]
  congr 1
  refine funext fun d => Fin.ext ?_
  fin_cases d <;> blk_simp [(idx t).1] <;> (try rfl)
theorem blk1 (t : Fin cfg0.N) (h : Fin 8) (l : Fin 128) (p : Fin 512) : iblk m c 1 t (ix3 h l p) = a1 m c (ix3 h l (row t p)) := by
  have e : iblk m c 1 t (ix3 h l p) = V m c main_arg1 ((win0_1.blk t).view.emb (ix3 h l p)) := by
    unfold iblk; generalize V m c = X; unfold View.read; exact cast_eq _ _
  rw [e, V_main_arg1]
  congr 1
  refine funext fun d => Fin.ext ?_
  fin_cases d <;> blk_simp [(idx t).2.1] <;> (try rfl)
theorem blk2 (t : Fin cfg0.N) (p k : Fin 512) : iblk m c 2 t (ix2 p k) = a2 m c (ix2 (row t p) ⟨1536 + k.val, by omega⟩) := by
  have e : iblk m c 2 t (ix2 p k) = V m c main_arg2 ((win0_2.blk t).view.emb (ix2 p k)) := by
    unfold iblk; generalize V m c = X; unfold View.read; exact cast_eq _ _
  rw [e, V_main_arg2]
  congr 1
  refine funext fun d => Fin.ext ?_
  fin_cases d <;> blk_simp [(idx t).2.2.1] <;> (try rfl)
theorem blk3 (t : Fin cfg0.N) (p k : Fin 512) : iblk m c 3 t (ix2 p k) = a2 m c (ix2 (row t p) ⟨2048 + k.val, by omega⟩) := by
  have e : iblk m c 3 t (ix2 p k) = V m c main_arg2 ((win0_3.blk t).view.emb (ix2 p k)) := by
    unfold iblk; generalize V m c = X; unfold View.read; exact cast_eq _ _
  rw [e, V_main_arg2]
  congr 1
  refine funext fun d => Fin.ext ?_
  fin_cases d <;> blk_simp [(idx t).2.2.2.1] <;> (try rfl)
theorem blk4 (t : Fin cfg0.N) (p k : Fin 512) : iblk m c 4 t (ix2 p k) = a2 m c (ix2 (row t p) ⟨2560 + k.val, by omega⟩) := by
  have e : iblk m c 4 t (ix2 p k) = V m c main_arg2 ((win0_4.blk t).view.emb (ix2 p k)) := by
    unfold iblk; generalize V m c = X; unfold View.read; exact cast_eq _ _
  rw [e, V_main_arg2]
  congr 1
  refine funext fun d => Fin.ext ?_
  fin_cases d <;> blk_simp [(idx t).2.2.2.2.1] <;> (try rfl)
theorem blk5 (t : Fin cfg0.N) (p k : Fin 512) : iblk m c 5 t (ix2 p k) = a2 m c (ix2 (row t p) ⟨3072 + k.val, by omega⟩) := by
  have e : iblk m c 5 t (ix2 p k) = V m c main_arg2 ((win0_5.blk t).view.emb (ix2 p k)) := by
    unfold iblk; generalize V m c = X; unfold View.read; exact cast_eq _ _
  rw [e, V_main_arg2]
  congr 1
  refine funext fun d => Fin.ext ?_
  fin_cases d <;> blk_simp [(idx t).2.2.2.2.2.1] <;> (try rfl)
theorem blk6 (t : Fin cfg0.N) (p : Fin 512) (k : Fin 1024) : iblk m c 6 t (ix2 p k) = a3 m c (ix2 (row t p) k) := by
  have e : iblk m c 6 t (ix2 p k) = V m c main_arg3 ((win0_6.blk t).view.emb (ix2 p k)) := by
    unfold iblk; generalize V m c = X; unfold View.read; exact cast_eq _ _
  rw [e, V_main_arg3]
  congr 1
  refine funext fun d => Fin.ext ?_
  fin_cases d <;> blk_simp [(idx t).2.2.2.2.2.2.1] <;> (try rfl)
theorem blk7 (t : Fin cfg0.N) (k : Fin 1024) : iblk m c 7 t (ix2 0 k) = a4 m c (ix2 0 k) := by
  have e : iblk m c 7 t (ix2 0 k) = V m c main_arg4 ((win0_7.blk t).view.emb (ix2 0 k)) := by
    unfold iblk; generalize V m c = X; unfold View.read; exact cast_eq _ _
  rw [e, V_main_arg4]
  congr 1
  refine funext fun d => Fin.ext ?_
  fin_cases d <;> blk_simp [(idx t).2.2.2.2.2.2.2.1] <;> (try rfl)
theorem blk8 (t : Fin cfg0.N) (h : Fin 8) (l : Fin 128) (k : Fin 1024) : iblk m c 8 t (ix3 h l k) = a5 m c (ix3 h l k) := by
  have e : iblk m c 8 t (ix3 h l k) = V m c main_arg5 ((win0_8.blk t).view.emb (ix3 h l k)) := by
    unfold iblk; generalize V m c = X; unfold View.read; exact cast_eq _ _
  rw [e, V_main_arg5]
  congr 1
  refine funext fun d => Fin.ext ?_
  fin_cases d <;> blk_simp [(idx t).2.2.2.2.2.2.2.2.1] <;> (try rfl)
theorem blk9 (t : Fin cfg0.N) (h : Fin 8) (l : Fin 128) (k : Fin 1024) : iblk m c 9 t (ix3 h l k) = a6 m c (ix3 h l k) := by
  have e : iblk m c 9 t (ix3 h l k) = V m c main_arg6 ((win0_9.blk t).view.emb (ix3 h l k)) := by
    unfold iblk; generalize V m c = X; unfold View.read; exact cast_eq _ _
  rw [e, V_main_arg6]
  congr 1
  refine funext fun d => Fin.ext ?_
  fin_cases d <;> blk_simp [(idx t).2.2.2.2.2.2.2.2.2.1] <;> (try rfl)
theorem blk10 (t : Fin cfg0.N) (k q : Fin 1024) : iblk m c 10 t (ix2 k q) = a7 m c (ix2 k q) := by
  have e : iblk m c 10 t (ix2 k q) = V m c main_arg7 ((win0_10.blk t).view.emb (ix2 k q)) := by
    unfold iblk; generalize V m c = X; unfold View.read; exact cast_eq _ _
  rw [e, V_main_arg7]
  congr 1
  refine funext fun d => Fin.ext ?_
  fin_cases d <;> blk_simp [(idx t).2.2.2.2.2.2.2.2.2.2.1] <;> (try rfl)
theorem blk11 (t : Fin cfg0.N) (k : Fin 1024) : iblk m c 11 t (ix2 0 k) = a8 m c (ix2 0 k) := by
  have e : iblk m c 11 t (ix2 0 k) = V m c main_arg8 ((win0_11.blk t).view.emb (ix2 0 k)) := by
    unfold iblk; generalize V m c = X; unfold View.read; exact cast_eq _ _
  rw [e, V_main_arg8]
  congr 1
  refine funext fun d => Fin.ext ?_
  fin_cases d <;> blk_simp [(idx t).2.2.2.2.2.2.2.2.2.2.2.1] <;> (try rfl)
theorem blk12 (t : Fin cfg0.N) (k : Fin 1024) : iblk m c 12 t (ix2 0 k) = a9 m c (ix2 0 k) := by
  have e : iblk m c 12 t (ix2 0 k) = V m c main_arg9 ((win0_12.blk t).view.emb (ix2 0 k)) := by
    unfold iblk; generalize V m c = X; unfold View.read; exact cast_eq _ _
  rw [e, V_main_arg9]
  congr 1
  refine funext fun d => Fin.ext ?_
  fin_cases d <;> blk_simp [(idx t).2.2.2.2.2.2.2.2.2.2.2.2.1] <;> (try rfl)

/-- What a point computes: both gates, the products of both branches, and the loaded blocks. -/
abbrev ga (t : Fin cfg0.N) : FVec Ideal S512x1024 .f32 := k0_pay20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
abbrev gb (t : Fin cfg0.N) : FVec Ideal S512x1024 .f32 := k0_pay21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
abbrev pa (t : Fin cfg0.N) : FVec Ideal S512x1024 .f32 := k0_pay22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
abbrev pd (t : Fin cfg0.N) : FVec Ideal S512x1024 .f32 := k0_pay23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
abbrev pe (t : Fin cfg0.N) : FVec Ideal S512x1024 .f32 := k0_pay24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
abbrev wo (t : Fin cfg0.N) : Vec Ideal S1024x1024 .bf16 := View.ld (Val := Elt Ideal) (iblk m c 10 t) r0_17
abbrev xs (t : Fin cfg0.N) : Vec Ideal S512x1024 .f32 := View.ld (Val := Elt Ideal) (iblk m c 6 t) r0_18
abbrev gt (t : Fin cfg0.N) : Vec Ideal S1x1024 .f32 := View.ld (Val := Elt Ideal) (iblk m c 7 t) r0_19
abbrev lg (t : Fin cfg0.N) : Vec Ideal S1x1024 .f32 := View.ld (Val := Elt Ideal) (iblk m c 11 t) r0_19
abbrev lb (t : Fin cfg0.N) : Vec Ideal S1x1024 .f32 := View.ld (Val := Elt Ideal) (iblk m c 12 t) r0_19

/-- The same of all tokens; the call's seven results. -/
abbrev gA : Vec Ideal S16384x1024 .f32 := val_main_v14 (F := Ideal) (a2 m c)
abbrev gB : Vec Ideal S16384x1024 .f32 := val_main_v21 (F := Ideal) (a2 m c)
abbrev pA : Vec Ideal S16384x1024 .f32 := val_main_v5 (F := Ideal) (a0 m c) (a5 m c)
abbrev pB : Vec Ideal S16384x1024 .f32 := val_main_v6 (F := Ideal) (a1 m c) (a6 m c)
abbrev Z : Vec Ideal S16384x1024 .f32 := val_main_v29 (F := Ideal) (a0 m c) (a1 m c) (a2 m c) (a3 m c) (a4 m c) (a5 m c) (a6 m c) (a7 m c)
def G13 : Vec Ideal S16384x1024 .f32 := val_main_v65 (F := Ideal) (a0 m c) (a1 m c) (a2 m c) (a3 m c) (a4 m c) (a5 m c) (a6 m c) (a7 m c) (a8 m c) (a9 m c)
def G14 : Vec Ideal S16384x1024 .f32 := val_main_v24 (F := Ideal) (a0 m c) (a1 m c) (a2 m c) (a5 m c) (a6 m c) (a7 m c)
def G15 : Vec Ideal S16384x1 .f32 := val_main_v33 (F := Ideal) (a0 m c) (a1 m c) (a2 m c) (a3 m c) (a4 m c) (a5 m c) (a6 m c) (a7 m c)
def G16 : Vec Ideal S16384x1 .f32 := val_main_v43 (F := Ideal) (a0 m c) (a1 m c) (a2 m c) (a3 m c) (a4 m c) (a5 m c) (a6 m c) (a7 m c)
def G17 : Vec Ideal S16384x1024 .bf16 := val_main_v66 (F := Ideal) (a0 m c) (a5 m c)
def G18 : Vec Ideal S16384x1024 .bf16 := val_main_v67 (F := Ideal) (a1 m c) (a6 m c)
def G19 : Vec Ideal S16384x1024 .bf16 := val_main_v68 (F := Ideal) (a0 m c) (a1 m c) (a2 m c) (a5 m c) (a6 m c)

theorem ga_row (t : Fin cfg0.N) (p : Fin 512) (q : Fin 1024) : (ga m c t (ix2 p q) : EReal) = gA m c (ix2 (row t p) q) := by
  refine (pay3 _ _ p q).trans (Eq.trans (congrArg sigma ?_) (v14_eq _ _ _).symm)
  unfold halves
  split
  · exact (ld2 _ (iblk m c 2 t) p _).trans (blk2 m c t p _)
  · refine ((ld2 _ (iblk m c 3 t) p _).trans (blk3 m c t p _)).trans (congrArg (fun k => (a2 m c (ix2 (row t p) k) : EReal)) (Fin.ext ?_))
    show 2048 + (q.val - 512) = 1536 + q.val
    omega
theorem gb_row (t : Fin cfg0.N) (p : Fin 512) (q : Fin 1024) : (gb m c t (ix2 p q) : EReal) = gB m c (ix2 (row t p) q) := by
  refine (pay3 _ _ p q).trans (Eq.trans (congrArg sigma ?_) (v21_eq _ _ _).symm)
  unfold halves
  split
  · exact (ld2 _ (iblk m c 4 t) p _).trans (blk4 m c t p _)
  · refine ((ld2 _ (iblk m c 5 t) p _).trans (blk5 m c t p _)).trans (congrArg (fun k => (a2 m c (ix2 (row t p) k) : EReal)) (Fin.ext ?_))
    show 3072 + (q.val - 512) = 2560 + q.val
    omega
/-- Eight heads' products, added one after another, are the sum over the heads. -/
theorem pa_row (t : Fin cfg0.N) (p : Fin 512) (q : Fin 1024) : (pa m c t (ix2 p q) : EReal) = pA m c (ix2 (row t p) q) := by
  refine Eq.trans ?_ (v5_eq _ _ _ _).symm
  unfold pa k0_pay22
  rw [pay8, pay6, pay5, prod_ld (iblk m c 0 t) (iblk m c 8 t) 0 _ _ 0 rfl p q, prod_ld (iblk m c 0 t) (iblk m c 8 t) 1 _ _ 1 rfl p q, prod_ld (iblk m c 0 t) (iblk m c 8 t) 2 _ _ 2 rfl p q, prod_ld (iblk m c 0 t) (iblk m c 8 t) 3 _ _ 3 rfl p q, prod_ld (iblk m c 0 t) (iblk m c 8 t) 4 _ _ 4 rfl p q, prod_ld (iblk m c 0 t) (iblk m c 8 t) 5 _ _ 5 rfl p q, prod_ld (iblk m c 0 t) (iblk m c 8 t) 6 _ _ 6 rfl p q, prod_ld (iblk m c 0 t) (iblk m c 8 t) 7 _ _ 7 rfl p q, Fin.sum_univ_eight]
  simp only [blk0, blk8]
theorem pb_row (t : Fin cfg0.N) (p : Fin 512) (q : Fin 1024) : (k0_pay12 (F := Ideal) (pd m c t) (pe m c t) (ix2 p q) : EReal) = pB m c (ix2 (row t p) q) := by
  refine Eq.trans ?_ (v6_eq _ _ _ _).symm
  unfold pd pe k0_pay23 k0_pay24
  rw [pay12, pay10, pay9, pay11, prod_ld (iblk m c 1 t) (iblk m c 9 t) 0 _ _ 0 rfl p q, prod_ld (iblk m c 1 t) (iblk m c 9 t) 1 _ _ 1 rfl p q, prod_ld (iblk m c 1 t) (iblk m c 9 t) 2 _ _ 2 rfl p q, prod_ld (iblk m c 1 t) (iblk m c 9 t) 3 _ _ 3 rfl p q, prod_ld (iblk m c 1 t) (iblk m c 9 t) 4 _ _ 4 rfl p q, prod_ld (iblk m c 1 t) (iblk m c 9 t) 5 _ _ 5 rfl p q, prod_ld (iblk m c 1 t) (iblk m c 9 t) 6 _ _ 6 rfl p q, prod_ld (iblk m c 1 t) (iblk m c 9 t) 7 _ _ 7 rfl p q, Fin.sum_univ_eight]
  simp only [blk1, blk9]
theorem mg_row (t : Fin cfg0.N) (p : Fin 512) (q : Fin 1024) : (k0_pay13 (F := Ideal) (ga m c t) (gb m c t) (pa m c t) (pd m c t) (pe m c t) (ix2 p q) : EReal) = G19 m c (ix2 (row t p) q) := by
  refine (pay13 _ _ _ _ _ _).trans (Eq.trans ?_ (v23_eq _ _ _ _ _ _).symm)
  exact congrArg₂ (fun a b : EReal => a + b) (congrArg₂ (fun a b : EReal => a * b) (ga_row m c t p q) (pa_row m c t p q))
    (congrArg₂ (fun a b : EReal => a * b) (gb_row m c t p q) (pb_row m c t p q))
theorem y_row (t : Fin cfg0.N) (p : Fin 512) (q : Fin 1024) : (k0_pay14 (F := Ideal) (ga m c t) (gb m c t) (pa m c t) (pd m c t) (pe m c t) (wo m c t) (ix2 p q) : EReal) = G14 m c (ix2 (row t p) q) := by
  refine (pay14 _ _ _ _ _ _ p q).trans (Eq.trans ?_ (v24_eq _ _ _ _ _ _ _ _).symm)
  exact Finset.sum_congr rfl fun k _ => congrArg₂ (fun a b : EReal => a * b) (mg_row m c t p k) ((ld2 _ (iblk m c 10 t) k q).trans (blk10 m c t k q))
theorem z_row (t : Fin cfg0.N) (p : Fin 512) (q : Fin 1024) : (k0_pay15 (F := Ideal) (ga m c t) (gb m c t) (pa m c t) (pd m c t) (pe m c t) (wo m c t) (xs m c t) (gt m c t) (ix2 p q) : EReal) = Z m c (ix2 (row t p) q) := by
  refine (pay15 _ _ _ _ _ _ _ _ p q).trans (Eq.trans ?_ (v29_eq _ _ _ _ _ _ _ _ _ _).symm)
  rw [y_row]
  exact congrArg₂ (arg (G14 m c (ix2 (row t p) q))) ((ld2 _ (iblk m c 6 t) p q).trans (blk6 m c t p q)) ((ld2 _ (iblk m c 7 t) 0 q).trans (blk7 m c t q))
theorem zs (t : Fin cfg0.N) (p : Fin 512) : (fun q : Fin 1024 => (k0_pay15 (F := Ideal) (ga m c t) (gb m c t) (pa m c t) (pd m c t) (pe m c t) (wo m c t) (xs m c t) (gt m c t) (ix2 p q) : EReal))
    = fun q => (Z m c (ix2 (row t p) q) : EReal) := funext fun q => z_row m c t p q

/-- The call's seven results. -/
theorem final13 : (dats m 0 c).arrAt 13 cfg0.N = G13 m c := by
  refine (dats m 0 c).arrAt_eq_of_covers 13 _ (by decide +kernel) fun t hf y => ?_
  blk_simp
  rw [after0_13]
  obtain ⟨p, q, rfl⟩ : ∃ (p : Fin 512) (q : Fin 1024), y = ix2 p q := ⟨y 0, y 1, eq_ix2 y⟩
  have e : (win0_13.blk t).view.emb (ix2 p q) = ix2 (row t p) q := by
    refine funext fun d => Fin.ext ?_
    fin_cases d <;> blk_simp [(idx t).2.2.2.2.2.2.2.2.2.2.2.2.2.1] <;> (try rfl)
  refine Eq.trans ?_ (congrArg (G13 m c) e.symm)
  unfold out0_13
  refine (whole2 _ _ p q).trans ?_
  refine (pay19 _ _ _ _ _ _ _ _ _ _ p q).trans (Eq.trans ?_ (v65_eq _ _ _ _ _ _ _ _ _ _ _ _).symm)
  unfold norm
  exact congrArg₂ (fun a b : EReal => a + b) (congrArg₂ (fun a b : EReal => a * b) (congrArg (fun z => centred z q * scaled z) (zs m c t p))
    ((ld2 _ (iblk m c 11 t) 0 q).trans (blk11 m c t q))) ((ld2 _ (iblk m c 12 t) 0 q).trans (blk12 m c t q))
theorem final14 : (dats m 0 c).arrAt 14 cfg0.N = G14 m c := by
  refine (dats m 0 c).arrAt_eq_of_covers 14 _ (by decide +kernel) fun t hf y => ?_
  blk_simp
  rw [after0_14]
  obtain ⟨p, q, rfl⟩ : ∃ (p : Fin 512) (q : Fin 1024), y = ix2 p q := ⟨y 0, y 1, eq_ix2 y⟩
  have e : (win0_14.blk t).view.emb (ix2 p q) = ix2 (row t p) q := by
    refine funext fun d => Fin.ext ?_
    fin_cases d <;> blk_simp [(idx t).2.2.2.2.2.2.2.2.2.2.2.2.2.2.1] <;> (try rfl)
  refine Eq.trans ?_ (congrArg (G14 m c) e.symm)
  unfold out0_14
  refine (whole2 _ _ p q).trans ?_
  exact y_row m c t p q
theorem final15 : (dats m 0 c).arrAt 15 cfg0.N = G15 m c := by
  refine (dats m 0 c).arrAt_eq_of_covers 15 _ (by decide +kernel) fun t hf y => ?_
  blk_simp
  rw [after0_15]
  obtain ⟨p, q, rfl⟩ : ∃ (p : Fin 512) (q : Fin 1), y = ix2 p q := ⟨y 0, y 1, eq_ix2 y⟩
  obtain rfl : q = 0 := Subsingleton.elim _ _
  have e : (win0_15.blk t).view.emb (ix2 p 0) = ix2 (row t p) 0 := by
    refine funext fun d => Fin.ext ?_
    fin_cases d <;> blk_simp [(idx t).2.2.2.2.2.2.2.2.2.2.2.2.2.2.2.1] <;> (try rfl)
  refine Eq.trans ?_ (congrArg (G15 m c) e.symm)
  unfold out0_15
  refine (whole2 _ _ p 0).trans ?_
  exact (pay16 _ _ _ _ _ _ _ _ p).trans ((congrArg mean (zs m c t p)).trans (v33_eq _ _ _ _ _ _ _ _ _).symm)
theorem final16 : (dats m 0 c).arrAt 16 cfg0.N = G16 m c := by
  refine (dats m 0 c).arrAt_eq_of_covers 16 _ (by decide +kernel) fun t hf y => ?_
  blk_simp
  rw [after0_16]
  obtain ⟨p, q, rfl⟩ : ∃ (p : Fin 512) (q : Fin 1), y = ix2 p q := ⟨y 0, y 1, eq_ix2 y⟩
  obtain rfl : q = 0 := Subsingleton.elim _ _
  have e : (win0_16.blk t).view.emb (ix2 p 0) = ix2 (row t p) 0 := by
    refine funext fun d => Fin.ext ?_
    fin_cases d <;> blk_simp [(idx t).2.2.2.2.2.2.2.2.2.2.2.2.2.2.2.2.1] <;> (try rfl)
  refine Eq.trans ?_ (congrArg (G16 m c) e.symm)
  unfold out0_16
  refine (whole2 _ _ p 0).trans ?_
  exact (pay18 _ _ _ _ _ _ _ _ p).trans ((congrArg scaled (zs m c t p)).trans (v43_eq _ _ _ _ _ _ _ _ _).symm)
theorem final17 : (dats m 0 c).arrAt 17 cfg0.N = G17 m c := by
  refine (dats m 0 c).arrAt_eq_of_covers 17 _ (by decide +kernel) fun t hf y => ?_
  blk_simp
  rw [after0_17]
  obtain ⟨p, q, rfl⟩ : ∃ (p : Fin 512) (q : Fin 1024), y = ix2 p q := ⟨y 0, y 1, eq_ix2 y⟩
  have e : (win0_17.blk t).view.emb (ix2 p q) = ix2 (row t p) q := by
    refine funext fun d => Fin.ext ?_
    fin_cases d <;> blk_simp [(idx t).2.2.2.2.2.2.2.2.2.2.2.2.2.2.2.2.2.1] <;> (try rfl)
  refine Eq.trans ?_ (congrArg (G17 m c) e.symm)
  unfold out0_17
  refine (whole2 _ _ p q).trans ?_
  exact pa_row m c t p q
theorem final18 : (dats m 0 c).arrAt 18 cfg0.N = G18 m c := by
  refine (dats m 0 c).arrAt_eq_of_covers 18 _ (by decide +kernel) fun t hf y => ?_
  blk_simp
  rw [after0_18]
  obtain ⟨p, q, rfl⟩ : ∃ (p : Fin 512) (q : Fin 1024), y = ix2 p q := ⟨y 0, y 1, eq_ix2 y⟩
  have e : (win0_18.blk t).view.emb (ix2 p q) = ix2 (row t p) q := by
    refine funext fun d => Fin.ext ?_
    fin_cases d <;> blk_simp [(idx t).2.2.2.2.2.2.2.2.2.2.2.2.2.2.2.2.2.2.1] <;> (try rfl)
  refine Eq.trans ?_ (congrArg (G18 m c) e.symm)
  unfold out0_18
  refine (whole2 _ _ p q).trans ?_
  exact pb_row m c t p q
theorem final19 : (dats m 0 c).arrAt 19 cfg0.N = G19 m c := by
  refine (dats m 0 c).arrAt_eq_of_covers 19 _ (by decide +kernel) fun t hf y => ?_
  blk_simp
  rw [after0_19]
  obtain ⟨p, q, rfl⟩ : ∃ (p : Fin 512) (q : Fin 1024), y = ix2 p q := ⟨y 0, y 1, eq_ix2 y⟩
  have e : (win0_19.blk t).view.emb (ix2 p q) = ix2 (row t p) q := by
    refine funext fun d => Fin.ext ?_
    fin_cases d <;> blk_simp [(idx t).2.2.2.2.2.2.2.2.2.2.2.2.2.2.2.2.2.2.2] <;> (try rfl)
  refine Eq.trans ?_ (congrArg (G19 m c) e.symm)
  unfold out0_19
  refine (whole2 _ _ p q).trans ?_
  exact mg_row m c t p q

/-- The run, with its results named. -/
theorem run (ρ : Dev nD → PrngReg) : θ_run defs (onTc (τ := τ) (main (F := Ideal))) ⟨m, fun _ => 0, ρ⟩ fun r => ∀ c : Dev nD,
      r.2.mem ((c : Thread nD τ).loc main_v0_0) = G13 m c
      ∧ r.2.mem ((c : Thread nD τ).loc main_v0_1) = G14 m c
      ∧ r.2.mem ((c : Thread nD τ).loc main_v0_2) = G15 m c
      ∧ r.2.mem ((c : Thread nD τ).loc main_v0_3) = G16 m c
      ∧ r.2.mem ((c : Thread nD τ).loc main_v0_4) = G17 m c
      ∧ r.2.mem ((c : Thread nD τ).loc main_v0_5) = G18 m c
      ∧ r.2.mem ((c : Thread nD τ).loc main_v0_6) = G19 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final13 m c), (h c).2.1.trans (final14 m c), (h c).2.2.1.trans (final15 m c), (h c).2.2.2.1.trans (final16 m c), (h c).2.2.2.2.1.trans (final17 m c), (h c).2.2.2.2.2.1.trans (final18 m c), (h c).2.2.2.2.2.2.1.trans (final19 m c), (h c).2.2.2.2.2.2.2⟩) (run_blocks m ρ)

end Cert.Kernel17Ideal.MergeFwd

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.EndVal
public import proofs.«01_k».proof.Proof.PreReal
public import proofs.«01_k».proof.Proof.Gen.Kernel4
public import proofs.«01_k».proof.Proof.DwUp
public import proofs.«01_k».proof.Proof.Gen.Kernel5
public import proofs.«01_k».proof.Proof.DwDown
public import proofs.«01_k».proof.Proof.Gen.Kernel7
public import proofs.«01_k».proof.Proof.DwIn
public import proofs.«01_k».proof.Proof.Gen.Kernel8
public import proofs.«01_k».proof.Proof.DwOut
public import proofs.«01_k».proof.Proof.Gen.Kernel9
public import proofs.«01_k».proof.Proof.FfnUp
public import proofs.«01_k».proof.Proof.Gen.Kernel10
public import proofs.«01_k».proof.Proof.InProj
public import proofs.«01_k».proof.Proof.Gen.Kernel6
public import proofs.«01_k».proof.Proof.InProjBwd
public import proofs.«01_k».proof.Proof.Gen.Kernel11
public import proofs.«01_k».proof.Proof.UpBwd
public import proofs.«01_k».proof.Proof.Gen.Kernel12
public import proofs.«01_k».proof.Proof.DownLoss
public import proofs.«01_k».proof.Proof.Gen.Kernel13
public import proofs.«01_k».proof.Proof.Act
public import proofs.«01_k».proof.Proof.Gen.Kernel14
public import proofs.«01_k».proof.Proof.ConvBwd
public import proofs.«01_k».proof.Proof.Gen.Kernel15
public import proofs.«01_k».proof.Proof.ActBwd
public import proofs.«01_k».proof.Proof.PreReal15
public import proofs.«01_k».proof.Proof.Gen.Kernel16
public import proofs.«01_k».proof.Proof.Merge
public import proofs.«01_k».proof.Proof.MergeFwd
public import proofs.«01_k».proof.Proof.Gen.Kernel17
public import proofs.«01_k».proof.Proof.Gen.Kernel17Ideal.Value
public import proofs.«01_k».proof.Proof.Gen.Reference17Ideal.Read
public import Idealize.ShloMosaic.Init

@[expose] public section

noncomputable section

namespace Cert.Proof

open Idealize.ShloMosaic Idealize.SL.Sem

/-- The two programs call the same body. -/
theorem defs₀_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem defs_same : Cert.Kernel.defs (F := Bits) = Cert.KernelIdeal.defs (F := Bits) :=
  congrArg (Pipeline.defs Cert.Kernel.pcfgs) defs₀_same

set_option maxRecDepth 65536 in
set_option maxHeartbeats 8000000 in
/-- The kernel runs at the machine's own floats: its text is the one `KernelIdeal` states, so its run is that run. -/
theorem frame_kernel : Cert.quiescent_Kernel := fun m ρ _ => by
  rw [defs_same]
  exact (θ_run Cert.KernelIdeal.defs _ _).mono (fun _ h => h) (Cert.KernelIdeal.Glob.run_frame (F := Bits) m ρ)

/-- The kernel runs at extended reals. -/
theorem frame_kernelIdeal : Cert.quiescent_KernelIdeal := fun m ρ _ => Cert.KernelIdeal.Glob.run_frame (F := Ideal) m ρ

/-- The reference runs at extended reals; it has no semaphore. -/
theorem frame_referenceIdeal : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- From finite arguments the kernel's five results and the reference's are the same five gradients. -/
theorem algebraic : Cert.algebraic_KernelIdeal_ReferenceIdeal_pre_finite := fun m g m' g' hpre hag => by
  have R : ∀ c : Dev Cert.KernelIdeal.nD, Cert.KernelIdeal.Glob.AllReal (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) :=
    fun c => Cert.KernelIdeal.Glob.allReal_of_finite _ _ _ _ (hpre c)
  refine ⟨fun c => Cert.KernelIdeal.Glob.dqNum (Cert.KernelIdeal.Glob.numsOf m c), fun c => Cert.KernelIdeal.Glob.dkNum (Cert.KernelIdeal.Glob.numsOf m c),
    fun c => Cert.KernelIdeal.Glob.dvNum (Cert.KernelIdeal.Glob.numsOf m c), fun c => Cert.KernelIdeal.Glob.dkcNum (Cert.KernelIdeal.Glob.numsOf m c),
    fun c => Cert.KernelIdeal.Glob.dvcNum (Cert.KernelIdeal.Glob.numsOf m c), Cert.KernelIdeal.Glob.run_values m g R,
    (θ_run Cert.ReferenceIdeal.defs _ _).mono (fun r h c => ?_) (Cert.ReferenceIdeal.Value.run_named (F := Ideal) m' g')⟩
  obtain ⟨h0, h1, h2, h3, h4, ha⟩ := h c
  obtain ⟨e0, e1, e2, e3⟩ := hag c
  rw [e0, e1, e2, e3] at h0 h1 h3
  rw [e0, e1, e3] at h2 h4
  exact ⟨h0.trans (Cert.KernelIdeal.Glob.ref_dq (R c)), h1.trans (Cert.KernelIdeal.Glob.ref_dk (R c)), h2.trans (Cert.KernelIdeal.Glob.ref_dv (R c)),
    h3.trans (Cert.KernelIdeal.Glob.ref_dkc (R c)), h4.trans (Cert.KernelIdeal.Glob.ref_dvc (R c)), ha⟩

/-! ## The gradient of the ConvFFN's first product -/

theorem defs₀_same4 : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | 0, (t, s) => rfl
  | ⟨_ + 1, h⟩, _ => exact absurd h (Nat.not_lt.2 (Nat.le_add_left _ _))

theorem defs_same4 : Cert.Kernel4.defs (F := Bits) = Cert.Kernel4Ideal.defs (F := Bits) :=
  congrArg (Pipeline.defs Cert.Kernel4.pcfgs) defs₀_same4

set_option maxRecDepth 65536 in
set_option maxHeartbeats 8000000 in
theorem frame_kernel4 : Cert.quiescent_Kernel4 := fun m ρ _ => by
  rw [defs_same4]
  exact (θ_run Cert.Kernel4Ideal.defs _ _).mono (fun _ h => h) (Cert.Kernel4Ideal.Gen.frame (F := Bits) m ρ)

theorem frame_kernelIdeal4 : Cert.quiescent_Kernel4Ideal := fun m ρ _ => Cert.Kernel4Ideal.Gen.frame (F := Ideal) m ρ

theorem frame_referenceIdeal4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : Cert.algebraic_Kernel4Ideal_Reference4Ideal := fun m g m' g' _ hag => by
  refine ⟨fun c => Cert.Kernel4Ideal.Value.G4 m c, Cert.Kernel4Ideal.Value.run (F := Ideal) m g,
    (θ_run Cert.Reference4Ideal.defs _ _).mono (fun r h c => ?_) (Cert.Reference4Ideal.Value.run (F := Ideal) m' g')⟩
  obtain ⟨h0, ha⟩ := h c
  obtain ⟨e0, e1, e2, e3⟩ := hag c
  have E0 := h0.trans (Cert.Reference4Ideal.Read.val_main_v14_eq ..)
  simp only [e0, e1, e2, e3] at E0
  replace E0 := E0.trans (funext fun i => by
    obtain ⟨k, r, q, rfl⟩ : ∃ k r q, i = ix3 k r q := ⟨i 0, i 1, i 2, eq_ix3 i⟩
    exact (Cert.Kernel4Ideal.Product.reference ..).trans (Cert.Kernel4Ideal.Product.result m c k r q).symm)
  exact ⟨E0, ha⟩

/-! ## The gradient of the ConvFFN's second product -/

theorem defs₀_same5 : Cert.Kernel5.defs₀ (F := Bits) = Cert.Kernel5Ideal.defs₀ (F := Bits) := by
  unfold Cert.Kernel5.defs₀ Cert.Kernel5Ideal.defs₀
  refine congrArg Defs.onTc (funext fun l => funext fun a => ?_)
  match l, a with
  | 0, (t, s) => rfl
  | ⟨_ + 1, h⟩, _ => exact absurd h (Nat.not_lt.2 (Nat.le_add_left _ _))

theorem defs_same5 : Cert.Kernel5.defs (F := Bits) = Cert.Kernel5Ideal.defs (F := Bits) :=
  congrArg (Pipeline.defs Cert.Kernel5.pcfgs) defs₀_same5

set_option maxRecDepth 65536 in
set_option maxHeartbeats 8000000 in
theorem frame_kernel5 : Cert.quiescent_Kernel5 := fun m ρ _ => by
  rw [defs_same5]
  exact (θ_run Cert.Kernel5Ideal.defs _ _).mono (fun _ h => h) (Cert.Kernel5Ideal.Gen.frame (F := Bits) m ρ)

theorem frame_kernelIdeal5 : Cert.quiescent_Kernel5Ideal := fun m ρ _ => Cert.Kernel5Ideal.Gen.frame (F := Ideal) m ρ

theorem frame_referenceIdeal5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic5 : Cert.algebraic_Kernel5Ideal_Reference5Ideal := fun m g m' g' _ hag => by
  refine ⟨fun c => Cert.Kernel5Ideal.Value.G2 m c, Cert.Kernel5Ideal.Value.run (F := Ideal) m g,
    (θ_run Cert.Reference5Ideal.defs _ _).mono (fun r h c => ?_) (Cert.Reference5Ideal.Value.run (F := Ideal) m' g')⟩
  obtain ⟨h0, ha⟩ := h c
  obtain ⟨e0, e1⟩ := hag c
  have E0 := h0.trans (Cert.Reference5Ideal.Read.val_main_v5_eq ..)
  simp only [e0, e1] at E0
  replace E0 := E0.trans (funext fun i => by
    obtain ⟨r, q, rfl⟩ : ∃ r q, i = ix2 r q := ⟨i 0, i 1, eq_ix2 i⟩
    exact (Cert.Kernel5Ideal.Product.reference ..).trans (Cert.Kernel5Ideal.Product.result m c r q).symm)
  exact ⟨E0, ha⟩

/-! ## The gradients of the projection into the branches and of its bias -/

theorem defs₀_same7 : Cert.Kernel7.defs₀ (F := Bits) = Cert.Kernel7Ideal.defs₀ (F := Bits) := by
  unfold Cert.Kernel7.defs₀ Cert.Kernel7Ideal.defs₀
  refine congrArg Defs.onTc (funext fun l => funext fun a => ?_)
  match l, a with
  | 0, (t, s) => rfl
  | ⟨_ + 1, h⟩, _ => exact absurd h (Nat.not_lt.2 (Nat.le_add_left _ _))

theorem defs_same7 : Cert.Kernel7.defs (F := Bits) = Cert.Kernel7Ideal.defs (F := Bits) :=
  congrArg (Pipeline.defs Cert.Kernel7.pcfgs) defs₀_same7

set_option maxRecDepth 65536 in
set_option maxHeartbeats 8000000 in
theorem frame_kernel7 : Cert.quiescent_Kernel7 := fun m ρ _ => by
  rw [defs_same7]
  exact (θ_run Cert.Kernel7Ideal.defs _ _).mono (fun _ h => h) (Cert.Kernel7Ideal.Gen.frame (F := Bits) m ρ)

theorem frame_kernelIdeal7 : Cert.quiescent_Kernel7Ideal := fun m ρ _ => Cert.Kernel7Ideal.Gen.frame (F := Ideal) m ρ

theorem frame_referenceIdeal7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem algebraic7 : Cert.algebraic_Kernel7Ideal_Reference7Ideal := fun m g m' g' _ hag => by
  refine ⟨fun c => Cert.Kernel7Ideal.Value.G4 m c, fun c => Cert.Kernel7Ideal.Value.G5 m c, Cert.Kernel7Ideal.Value.run (F := Ideal) m g,
    (θ_run Cert.Reference7Ideal.defs _ _).mono (fun r h c => ?_) (Cert.Reference7Ideal.Value.run (F := Ideal) m' g')⟩
  obtain ⟨h0, h1, ha⟩ := h c
  obtain ⟨e0, e1, e2, e3⟩ := hag c
  have E0 := h0.trans (Cert.Reference7Ideal.Read.val_main_v19_eq ..)
  simp only [e0, e1, e2, e3] at E0
  replace E0 := E0.trans (funext fun i => by
    obtain ⟨k, r, q, rfl⟩ : ∃ k r q, i = ix3 k r q := ⟨i 0, i 1, i 2, eq_ix3 i⟩
    exact (Cert.Kernel7Ideal.Product.reference ..).trans (Cert.Kernel7Ideal.Product.result m c k r q).symm)
  have E1 := h1.trans (Cert.Reference7Ideal.Read.val_main_v20_eq ..)
  simp only [e0, e1, e2, e3] at E1
  replace E1 := E1.trans (funext fun i => by
    obtain ⟨p, q, rfl⟩ : ∃ p q, i = ix2 p q := ⟨i 0, i 1, eq_ix2 i⟩
    exact (Cert.Kernel7Ideal.Product.reference_bias ..).trans (Cert.Kernel7Ideal.Product.result_bias m c p q).symm)
  exact ⟨E0, E1, ha⟩

/-! ## The gradient of the projection out of the merge -/

theorem defs₀_same8 : Cert.Kernel8.defs₀ (F := Bits) = Cert.Kernel8Ideal.defs₀ (F := Bits) := by
  unfold Cert.Kernel8.defs₀ Cert.Kernel8Ideal.defs₀
  refine congrArg Defs.onTc (funext fun l => funext fun a => ?_)
  match l, a with
  | 0, (t, s) => rfl
  | ⟨_ + 1, h⟩, _ => exact absurd h (Nat.not_lt.2 (Nat.le_add_left _ _))

theorem defs_same8 : Cert.Kernel8.defs (F := Bits) = Cert.Kernel8Ideal.defs (F := Bits) :=
  congrArg (Pipeline.defs Cert.Kernel8.pcfgs) defs₀_same8

set_option maxRecDepth 65536 in
set_option maxHeartbeats 8000000 in
theorem frame_kernel8 : Cert.quiescent_Kernel8 := fun m ρ _ => by
  rw [defs_same8]
  exact (θ_run Cert.Kernel8Ideal.defs _ _).mono (fun _ h => h) (Cert.Kernel8Ideal.Gen.frame (F := Bits) m ρ)

theorem frame_kernelIdeal8 : Cert.quiescent_Kernel8Ideal := fun m ρ _ => Cert.Kernel8Ideal.Gen.frame (F := Ideal) m ρ

theorem frame_referenceIdeal8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic8 : Cert.algebraic_Kernel8Ideal_Reference8Ideal := fun m g m' g' _ hag => by
  refine ⟨fun c => Cert.Kernel8Ideal.Value.G2 m c, Cert.Kernel8Ideal.Value.run (F := Ideal) m g,
    (θ_run Cert.Reference8Ideal.defs _ _).mono (fun r h c => ?_) (Cert.Reference8Ideal.Value.run (F := Ideal) m' g')⟩
  obtain ⟨h0, ha⟩ := h c
  obtain ⟨e0, e1⟩ := hag c
  have E0 := h0.trans (Cert.Reference8Ideal.Read.val_main_v5_eq ..)
  simp only [e0, e1] at E0
  replace E0 := E0.trans (funext fun i => by
    obtain ⟨r, q, rfl⟩ : ∃ r q, i = ix2 r q := ⟨i 0, i 1, eq_ix2 i⟩
    exact (Cert.Kernel8Ideal.Product.reference ..).trans (Cert.Kernel8Ideal.Product.result m c r q).symm)
  exact ⟨E0, ha⟩

/-! ## The ConvFFN's first product -/

theorem defs₀_same9 : Cert.Kernel9.defs₀ (F := Bits) = Cert.Kernel9Ideal.defs₀ (F := Bits) := by
  unfold Cert.Kernel9.defs₀ Cert.Kernel9Ideal.defs₀
  refine congrArg Defs.onTc (funext fun l => funext fun a => ?_)
  match l, a with
  | 0, (t, s) => rfl
  | ⟨_ + 1, h⟩, _ => exact absurd h (Nat.not_lt.2 (Nat.le_add_left _ _))

theorem defs_same9 : Cert.Kernel9.defs (F := Bits) = Cert.Kernel9Ideal.defs (F := Bits) :=
  congrArg (Pipeline.defs Cert.Kernel9.pcfgs) defs₀_same9

set_option maxRecDepth 65536 in
set_option maxHeartbeats 8000000 in
theorem frame_kernel9 : Cert.quiescent_Kernel9 := fun m ρ _ => by
  rw [defs_same9]
  exact (θ_run Cert.Kernel9Ideal.defs _ _).mono (fun _ h => h) (Cert.Kernel9Ideal.Gen.frame (F := Bits) m ρ)

theorem frame_kernelIdeal9 : Cert.quiescent_Kernel9Ideal := fun m ρ _ => Cert.Kernel9Ideal.Gen.frame (F := Ideal) m ρ

theorem frame_referenceIdeal9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic9 : Cert.algebraic_Kernel9Ideal_Reference9Ideal := fun m g m' g' _ hag => by
  refine ⟨fun c => Cert.Kernel9Ideal.Product.G5 m c, Cert.Kernel9Ideal.Product.run m g,
    (θ_run Cert.Reference9Ideal.defs _ _).mono (fun r h c => ?_) (Cert.Reference9Ideal.Value.run (F := Ideal) m' g')⟩
  obtain ⟨h0, ha⟩ := h c
  obtain ⟨e0, e1, e2, e3⟩ := hag c
  have E0 := h0.trans (Cert.Reference9Ideal.Read.val_main_v12_eq ..)
  simp only [e0, e1, e2, e3] at E0
  replace E0 := E0.trans (funext fun i => by
    obtain ⟨h, t, q, rfl⟩ : ∃ h t q, i = ix3 h t q := ⟨i 0, i 1, i 2, eq_ix3 i⟩
    exact (Cert.Kernel9Ideal.Product.reference ..).trans (Cert.Kernel9Ideal.Product.result m c h t q).symm)
  exact ⟨E0, ha⟩

/-! ## The projection into the branches -/

theorem defs₀_same10 : Cert.Kernel10.defs₀ (F := Bits) = Cert.Kernel10Ideal.defs₀ (F := Bits) := by
  unfold Cert.Kernel10.defs₀ Cert.Kernel10Ideal.defs₀
  refine congrArg Defs.onTc (funext fun l => funext fun a => ?_)
  match l, a with
  | 0, (t, s) => rfl
  | ⟨_ + 1, h⟩, _ => exact absurd h (Nat.not_lt.2 (Nat.le_add_left _ _))

theorem defs_same10 : Cert.Kernel10.defs (F := Bits) = Cert.Kernel10Ideal.defs (F := Bits) :=
  congrArg (Pipeline.defs Cert.Kernel10.pcfgs) defs₀_same10

set_option maxRecDepth 65536 in
set_option maxHeartbeats 8000000 in
theorem frame_kernel10 : Cert.quiescent_Kernel10 := fun m ρ _ => by
  rw [defs_same10]
  exact (θ_run Cert.Kernel10Ideal.defs _ _).mono (fun _ h => h) (Cert.Kernel10Ideal.Gen.frame (F := Bits) m ρ)

theorem frame_kernelIdeal10 : Cert.quiescent_Kernel10Ideal := fun m ρ _ => Cert.Kernel10Ideal.Gen.frame (F := Ideal) m ρ

theorem frame_referenceIdeal10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic10 : Cert.algebraic_Kernel10Ideal_Reference10Ideal := fun m g m' g' _ hag => by
  refine ⟨fun c => Cert.Kernel10Ideal.Product.G5 m c, Cert.Kernel10Ideal.Product.run m g,
    (θ_run Cert.Reference10Ideal.defs _ _).mono (fun r h c => ?_) (Cert.Reference10Ideal.Value.run (F := Ideal) m' g')⟩
  obtain ⟨h0, ha⟩ := h c
  obtain ⟨e0, e1, e2, e3, e4⟩ := hag c
  have E0 := h0.trans (Cert.Reference10Ideal.Read.val_main_v11_eq ..)
  simp only [e0, e1, e2, e3, e4] at E0
  replace E0 := E0.trans (funext fun i => by
    obtain ⟨t, q, rfl⟩ : ∃ t q, i = ix2 t q := ⟨i 0, i 1, eq_ix2 i⟩
    exact (Cert.Kernel10Ideal.Product.reference ..).trans (Cert.Kernel10Ideal.Product.result m c t q).symm)
  exact ⟨E0, ha⟩

/-! ## The gradients of the projection's input, of its scale and of its shift -/

theorem defs₀_same6 : Cert.Kernel6.defs₀ (F := Bits) = Cert.Kernel6Ideal.defs₀ (F := Bits) := by
  unfold Cert.Kernel6.defs₀ Cert.Kernel6Ideal.defs₀
  refine congrArg Defs.onTc (funext fun l => funext fun a => ?_)
  match l, a with
  | 0, (t, s) => rfl
  | ⟨_ + 1, h⟩, _ => exact absurd h (Nat.not_lt.2 (Nat.le_add_left _ _))

theorem defs_same6 : Cert.Kernel6.defs (F := Bits) = Cert.Kernel6Ideal.defs (F := Bits) :=
  congrArg (Pipeline.defs Cert.Kernel6.pcfgs) defs₀_same6

set_option maxRecDepth 65536 in
set_option maxHeartbeats 8000000 in
theorem frame_kernel6 : Cert.quiescent_Kernel6 := fun m ρ _ => by
  rw [defs_same6]
  exact (θ_run Cert.Kernel6Ideal.defs _ _).mono (fun _ h => h) (Cert.Kernel6Ideal.Gen.frame (F := Bits) m ρ)

theorem frame_kernelIdeal6 : Cert.quiescent_Kernel6Ideal := fun m ρ _ => Cert.Kernel6Ideal.Gen.frame (F := Ideal) m ρ

theorem frame_referenceIdeal6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem algebraic6 : Cert.algebraic_Kernel6Ideal_Reference6Ideal := fun m g m' g' _ hag => by
  refine ⟨fun c => Cert.Kernel6Ideal.Value.G5 m c, fun c => Cert.Kernel6Ideal.Value.G6 m c, fun c => Cert.Kernel6Ideal.Value.G7 m c, Cert.Kernel6Ideal.Value.run (F := Ideal) m g,
    (θ_run Cert.Reference6Ideal.defs _ _).mono (fun r h c => ?_) (Cert.Reference6Ideal.Value.run (F := Ideal) m' g')⟩
  obtain ⟨h0, h1, h2, ha⟩ := h c
  obtain ⟨e0, e1, e2, e3, e4⟩ := hag c
  have E0 := h0.trans (Cert.Reference6Ideal.Read.val_main_v20_eq ..)
  simp only [e0, e1, e2, e3, e4] at E0
  replace E0 := E0.trans (funext fun i => by
    obtain ⟨t, q, rfl⟩ : ∃ t q, i = ix2 t q := ⟨i 0, i 1, eq_ix2 i⟩
    exact (Cert.Kernel6Ideal.Product.reference_x ..).trans (Cert.Kernel6Ideal.Product.result_x m c t q).symm)
  have E1 := h1.trans (Cert.Reference6Ideal.Read.val_main_v17_eq ..)
  simp only [e0, e1, e2, e3, e4] at E1
  replace E1 := E1.trans (funext fun i => by
    obtain ⟨p, q, rfl⟩ : ∃ p q, i = ix2 p q := ⟨i 0, i 1, eq_ix2 i⟩
    exact (Cert.Kernel6Ideal.Product.reference_scale ..).trans (Cert.Kernel6Ideal.Product.result_scale m c p q).symm)
  have E2 := h2.trans (Cert.Reference6Ideal.Read.val_main_v14_eq ..)
  simp only [e0, e1, e2, e3, e4] at E2
  replace E2 := E2.trans (funext fun i => by
    obtain ⟨p, q, rfl⟩ : ∃ p q, i = ix2 p q := ⟨i 0, i 1, eq_ix2 i⟩
    exact (Cert.Kernel6Ideal.Product.reference_shift ..).trans (Cert.Kernel6Ideal.Product.result_shift m c p q).symm)
  exact ⟨E0, E1, E2, ha⟩

/-! ## The gradients behind the ConvFFN's first product: of the second scale and shift and of the first layer norm -/

set_option maxHeartbeats 8000000 in
theorem defs₀_same11 : Cert.Kernel11.defs₀ (F := Bits) = Cert.Kernel11Ideal.defs₀ (F := Bits) := by
  unfold Cert.Kernel11.defs₀ Cert.Kernel11Ideal.defs₀
  refine congrArg Defs.onTc (funext fun l => funext fun a => ?_)
  match l, a with
  | 0, (t, s) => rfl
  | ⟨_ + 1, h⟩, _ => exact absurd h (Nat.not_lt.2 (Nat.le_add_left _ _))

theorem defs_same11 : Cert.Kernel11.defs (F := Bits) = Cert.Kernel11Ideal.defs (F := Bits) :=
  congrArg (Pipeline.defs Cert.Kernel11.pcfgs) defs₀_same11

set_option maxRecDepth 65536 in
set_option maxHeartbeats 8000000 in
theorem frame_kernel11 : Cert.quiescent_Kernel11 := fun m ρ _ => by
  rw [defs_same11]
  exact (θ_run Cert.Kernel11Ideal.defs _ _).mono (fun _ h => h) (Cert.Kernel11Ideal.Gen.frame (F := Bits) m ρ)

theorem frame_kernelIdeal11 : Cert.quiescent_Kernel11Ideal := fun m ρ _ => Cert.Kernel11Ideal.Gen.frame (F := Ideal) m ρ

theorem frame_referenceIdeal11 : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

theorem algebraic11 : Cert.algebraic_Kernel11Ideal_Reference11Ideal := fun m g m' g' _ hag => by
  refine ⟨fun c => Cert.Kernel11Ideal.Value.G13 m c, fun c => Cert.Kernel11Ideal.Value.G14 m c, fun c => Cert.Kernel11Ideal.Value.G15 m c, fun c => Cert.Kernel11Ideal.Value.G16 m c, Cert.Kernel11Ideal.Product.run m g,
    (θ_run Cert.Reference11Ideal.defs _ _).mono (fun r h c => ?_) (Cert.Reference11Ideal.Value.run (F := Ideal) m' g')⟩
  obtain ⟨h0, h1, h2, h3, ha⟩ := h c
  obtain ⟨e0, e1, e2, e3, e4, e5, e6, e7, e8⟩ := hag c
  have E0 := h0.trans (Cert.Reference11Ideal.Read.val_main_v46_eq ..)
  simp only [e0, e1, e2, e3, e4, e5, e6, e7, e8] at E0
  replace E0 := E0.trans (funext fun i => by
    obtain ⟨p, q, rfl⟩ : ∃ p q, i = ix2 p q := ⟨i 0, i 1, eq_ix2 i⟩
    exact (Cert.Kernel11Ideal.Product.reference_scale ..).trans (Cert.Kernel11Ideal.Product.result_scale m c p q).symm)
  have E1 := h1.trans (Cert.Reference11Ideal.Read.val_main_v43_eq ..)
  simp only [e0, e1, e2, e3, e4, e5, e6, e7, e8] at E1
  replace E1 := E1.trans (funext fun i => by
    obtain ⟨p, q, rfl⟩ : ∃ p q, i = ix2 p q := ⟨i 0, i 1, eq_ix2 i⟩
    exact (Cert.Kernel11Ideal.Product.reference_shift ..).trans (Cert.Kernel11Ideal.Product.result_shift m c p q).symm)
  have E2 := h2.trans (Cert.Reference11Ideal.Read.val_main_v55_eq ..)
  simp only [e0, e1, e2, e3, e4, e5, e6, e7, e8] at E2
  replace E2 := E2.trans (funext fun i => by
    obtain ⟨p, q, rfl⟩ : ∃ p q, i = ix2 p q := ⟨i 0, i 1, eq_ix2 i⟩
    exact (Cert.Kernel11Ideal.Product.reference_gain ..).trans (Cert.Kernel11Ideal.Product.result_gain m c p q).symm)
  have E3 := h3.trans (Cert.Reference11Ideal.Read.val_main_v52_eq ..)
  simp only [e0, e1, e2, e3, e4, e5, e6, e7, e8] at E3
  replace E3 := E3.trans (funext fun i => by
    obtain ⟨p, q, rfl⟩ : ∃ p q, i = ix2 p q := ⟨i 0, i 1, eq_ix2 i⟩
    exact (Cert.Kernel11Ideal.Product.reference_bias ..).trans (Cert.Kernel11Ideal.Product.result_bias m c p q).symm)
  exact ⟨E0, E1, E2, E3, ha⟩

/-! ## The loss and the gradients of the second layer norm's gain and bias -/

set_option maxHeartbeats 8000000 in
theorem defs₀_same12 : Cert.Kernel12.defs₀ (F := Bits) = Cert.Kernel12Ideal.defs₀ (F := Bits) := by
  unfold Cert.Kernel12.defs₀ Cert.Kernel12Ideal.defs₀
  refine congrArg Defs.onTc (funext fun l => funext fun a => ?_)
  match l, a with
  | 0, (t, s) => rfl
  | ⟨_ + 1, h⟩, _ => exact absurd h (Nat.not_lt.2 (Nat.le_add_left _ _))

theorem defs_same12 : Cert.Kernel12.defs (F := Bits) = Cert.Kernel12Ideal.defs (F := Bits) :=
  congrArg (Pipeline.defs Cert.Kernel12.pcfgs) defs₀_same12

set_option maxRecDepth 65536 in
set_option maxHeartbeats 8000000 in
theorem frame_kernel12 : Cert.quiescent_Kernel12 := fun m ρ _ => by
  rw [defs_same12]
  exact (θ_run Cert.Kernel12Ideal.defs _ _).mono (fun _ h => h) (Cert.Kernel12Ideal.Gen.frame (F := Bits) m ρ)

theorem frame_kernelIdeal12 : Cert.quiescent_Kernel12Ideal := fun m ρ _ => Cert.Kernel12Ideal.Gen.frame (F := Ideal) m ρ

theorem frame_referenceIdeal12 : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

theorem algebraic12 : Cert.algebraic_Kernel12Ideal_Reference12Ideal := fun m g m' g' _ hag => by
  refine ⟨fun c => Cert.Kernel12Ideal.Product.G7 m c, fun c => Cert.Kernel12Ideal.Product.G10 m c, fun c => Cert.Kernel12Ideal.Product.G11 m c, Cert.Kernel12Ideal.Product.run m g,
    (θ_run Cert.Reference12Ideal.defs _ _).mono (fun r h c => ?_) (Cert.Reference12Ideal.Value.run (F := Ideal) m' g')⟩
  obtain ⟨h0, h1, h2, ha⟩ := h c
  obtain ⟨e0, e1, e2, e3, e4, e5, e6⟩ := hag c
  have E0 := h0.trans (Cert.Reference12Ideal.Read.val_main_v42_eq ..)
  simp only [e0, e1, e2, e3, e4, e5, e6] at E0
  have E1 := h1.trans (Cert.Reference12Ideal.Read.val_main_v56_eq ..)
  simp only [e0, e1, e2, e3, e4, e5, e6] at E1
  have E2 := h2.trans (Cert.Reference12Ideal.Read.val_main_v53_eq ..)
  simp only [e0, e1, e2, e3, e4, e5, e6] at E2
  exact ⟨E0, E1, E2, ha⟩

/-! ## The ConvFFN's convolution and activation -/

theorem defs₀_same13 : Cert.Kernel13.defs₀ (F := Bits) = Cert.Kernel13Ideal.defs₀ (F := Bits) := by
  unfold Cert.Kernel13.defs₀ Cert.Kernel13Ideal.defs₀
  refine congrArg Defs.onTc (funext fun l => funext fun a => ?_)
  match l, a with
  | 0, (t, s) => rfl
  | ⟨_ + 1, h⟩, _ => exact absurd h (Nat.not_lt.2 (Nat.le_add_left _ _))

theorem defs_same13 : Cert.Kernel13.defs (F := Bits) = Cert.Kernel13Ideal.defs (F := Bits) :=
  congrArg (Pipeline.defs Cert.Kernel13.pcfgs) defs₀_same13

set_option maxRecDepth 65536 in
set_option maxHeartbeats 8000000 in
theorem frame_kernel13 : Cert.quiescent_Kernel13 := fun m ρ _ => by
  rw [defs_same13]
  exact (θ_run Cert.Kernel13Ideal.defs _ _).mono (fun _ h => h) (Cert.Kernel13Ideal.Gen.frame (F := Bits) m ρ)

theorem frame_kernelIdeal13 : Cert.quiescent_Kernel13Ideal := fun m ρ _ => Cert.Kernel13Ideal.Gen.frame (F := Ideal) m ρ

theorem frame_referenceIdeal13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic13 : Cert.algebraic_Kernel13Ideal_Reference13Ideal := fun m g m' g' _ hag => by
  refine ⟨fun c => Cert.Kernel13Ideal.Act.G5 m c, Cert.Kernel13Ideal.Act.run m g,
    (θ_run Cert.Reference13Ideal.defs _ _).mono (fun r h c => ?_) (Cert.Reference13Ideal.Value.run (F := Ideal) m' g')⟩
  obtain ⟨h0, ha⟩ := h c
  obtain ⟨e0, e1, e2⟩ := hag c
  have E0 := h0.trans (Cert.Reference13Ideal.Read.val_main_v25_eq ..)
  simp only [e0, e1, e2] at E0
  exact ⟨E0, ha⟩

/-! ## The gradient through the ConvFFN's convolution -/

theorem defs₀_same14 : Cert.Kernel14.defs₀ (F := Bits) = Cert.Kernel14Ideal.defs₀ (F := Bits) := by
  unfold Cert.Kernel14.defs₀ Cert.Kernel14Ideal.defs₀
  refine congrArg Defs.onTc (funext fun l => funext fun a => ?_)
  match l, a with
  | 0, (t, s) => rfl
  | ⟨_ + 1, h⟩, _ => exact absurd h (Nat.not_lt.2 (Nat.le_add_left _ _))

theorem defs_same14 : Cert.Kernel14.defs (F := Bits) = Cert.Kernel14Ideal.defs (F := Bits) :=
  congrArg (Pipeline.defs Cert.Kernel14.pcfgs) defs₀_same14

set_option maxRecDepth 65536 in
set_option maxHeartbeats 8000000 in
theorem frame_kernel14 : Cert.quiescent_Kernel14 := fun m ρ _ => by
  rw [defs_same14]
  exact (θ_run Cert.Kernel14Ideal.defs _ _).mono (fun _ h => h) (Cert.Kernel14Ideal.Gen.frame (F := Bits) m ρ)

theorem frame_kernelIdeal14 : Cert.quiescent_Kernel14Ideal := fun m ρ _ => Cert.Kernel14Ideal.Gen.frame (F := Ideal) m ρ

theorem frame_referenceIdeal14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic14 : Cert.algebraic_Kernel14Ideal_Reference14Ideal := fun m g m' g' _ hag => by
  refine ⟨fun c => Cert.Kernel14Ideal.ConvBwd.G4 m c, Cert.Kernel14Ideal.ConvBwd.run m g,
    (θ_run Cert.Reference14Ideal.defs _ _).mono (fun r h c => ?_) (Cert.Reference14Ideal.Value.run (F := Ideal) m' g')⟩
  obtain ⟨h0, ha⟩ := h c
  obtain ⟨e0, e1⟩ := hag c
  have E0 := h0.trans (Cert.Reference14Ideal.Read.val_main_v37_eq ..)
  simp only [e0, e1] at E0
  exact ⟨E0, ha⟩

/-! ## The gradient of the ConvFFN's activation, and of the convolution's taps and bias -/

theorem defs₀_same15 : Cert.Kernel15.defs₀ (F := Bits) = Cert.Kernel15Ideal.defs₀ (F := Bits) := by
  unfold Cert.Kernel15.defs₀ Cert.Kernel15Ideal.defs₀
  refine congrArg Defs.onTc (funext fun l => funext fun a => ?_)
  match l, a with
  | 0, (t, s) => rfl
  | ⟨_ + 1, h⟩, _ => exact absurd h (Nat.not_lt.2 (Nat.le_add_left _ _))

theorem defs_same15 : Cert.Kernel15.defs (F := Bits) = Cert.Kernel15Ideal.defs (F := Bits) :=
  congrArg (Pipeline.defs Cert.Kernel15.pcfgs) defs₀_same15

set_option maxRecDepth 65536 in
set_option maxHeartbeats 8000000 in
theorem frame_kernel15 : Cert.quiescent_Kernel15 := fun m ρ _ => by
  rw [defs_same15]
  exact (θ_run Cert.Kernel15Ideal.defs _ _).mono (fun _ h => h) (Cert.Kernel15Ideal.Gen.frame (F := Bits) m ρ)

theorem frame_kernelIdeal15 : Cert.quiescent_Kernel15Ideal := fun m ρ _ => Cert.Kernel15Ideal.Gen.frame (F := Ideal) m ρ

theorem frame_referenceIdeal15 : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

theorem algebraic15 : Cert.algebraic_Kernel15Ideal_Reference15Ideal_pre_finite15 := fun m g m' g' hpre hag => by
  have R : ∀ c, Cert.Kernel15Ideal.ActBwd.Reals m c := fun c => Cert.Kernel15Ideal.ActBwd.real_of_finite _ _ _ _ _ (hpre c)
  refine ⟨fun c => Cert.Kernel15Ideal.ActBwd.G7 m c, fun c => Cert.Kernel15Ideal.ActBwd.G8 m c, fun c => Cert.Kernel15Ideal.ActBwd.G9 m c, Cert.Kernel15Ideal.ActBwd.run m R g,
    (θ_run Cert.Reference15Ideal.defs _ _).mono (fun r h c => ?_) (Cert.Reference15Ideal.Value.run (F := Ideal) m' g')⟩
  obtain ⟨h0, h1, h2, ha⟩ := h c
  obtain ⟨e0, e1, e2, e3, e4⟩ := hag c
  have E0 := h0.trans (Cert.Reference15Ideal.Read.val_main_v37_eq ..)
  simp only [e0, e1, e2, e3, e4] at E0
  have E1 := h1.trans (Cert.Reference15Ideal.Read.val_main_v53_eq ..)
  simp only [e0, e1, e2, e3, e4] at E1
  have E2 := h2.trans (Cert.Reference15Ideal.Read.val_main_v39_eq ..)
  simp only [e0, e1, e2, e3, e4] at E2
  exact ⟨E0, E1, E2, ha⟩

/-! ## The gradients through the gated merge -/

theorem defs₀_same16 : Cert.Kernel16.defs₀ (F := Bits) = Cert.Kernel16Ideal.defs₀ (F := Bits) := by
  unfold Cert.Kernel16.defs₀ Cert.Kernel16Ideal.defs₀
  refine congrArg Defs.onTc (funext fun l => funext fun a => ?_)
  match l, a with
  | 0, (t, s) => rfl
  | ⟨_ + 1, h⟩, _ => exact absurd h (Nat.not_lt.2 (Nat.le_add_left _ _))

theorem defs_same16 : Cert.Kernel16.defs (F := Bits) = Cert.Kernel16Ideal.defs (F := Bits) :=
  congrArg (Pipeline.defs Cert.Kernel16.pcfgs) defs₀_same16

set_option maxRecDepth 65536 in
set_option maxHeartbeats 8000000 in
theorem frame_kernel16 : Cert.quiescent_Kernel16 := fun m ρ _ => by
  rw [defs_same16]
  exact (θ_run Cert.Kernel16Ideal.defs _ _).mono (fun _ h => h) (Cert.Kernel16Ideal.Gen.frame (F := Bits) m ρ)

theorem frame_kernelIdeal16 : Cert.quiescent_Kernel16Ideal := fun m ρ _ => Cert.Kernel16Ideal.Gen.frame (F := Ideal) m ρ

theorem frame_referenceIdeal16 : Cert.quiescent_Reference16Ideal := fun m ρ _ =>
  (θ_run Cert.Reference16Ideal.defs _ _).mono (fun r h => ⟨fun c => (h c).2.2.2.2.2, sem_eq_zero_of_no_sems (by decide) r.2⟩)
    (Cert.Reference16Ideal.Value.run (F := Ideal) m ρ)

theorem algebraic16 : Cert.algebraic_Kernel16Ideal_Reference16Ideal := fun m g m' g' _ hag => by
  refine ⟨fun c => Cert.Kernel16Ideal.Merge.G12 m c, fun c => Cert.Kernel16Ideal.Merge.G13 m c, fun c => Cert.Kernel16Ideal.Merge.G14 m c, fun c => Cert.Kernel16Ideal.Merge.G15 m c, fun c => Cert.Kernel16Ideal.Merge.G16 m c, Cert.Kernel16Ideal.Merge.run m g,
    (θ_run Cert.Reference16Ideal.defs _ _).mono (fun r h c => ?_) (Cert.Reference16Ideal.Value.run (F := Ideal) m' g')⟩
  obtain ⟨h0, h1, h2, h3, h4, ha⟩ := h c
  obtain ⟨e0, e1, e2, e3, e4, e5, e6, e7, e8⟩ := hag c
  have E0 := h0.trans (Cert.Reference16Ideal.Read.val_main_v50_eq ..)
  simp only [e0, e1, e2, e3, e4, e5, e6, e7, e8] at E0
  have E1 := h1.trans (Cert.Reference16Ideal.Read.val_main_v51_eq ..)
  simp only [e0, e1, e2, e3, e4, e5, e6, e7, e8] at E1
  have E2 := h2.trans (Cert.Reference16Ideal.Read.val_main_v52_eq ..)
  simp only [e0, e1, e2, e3, e4, e5, e6, e7, e8] at E2
  have E3 := h3.trans (Cert.Reference16Ideal.Read.val_main_v41_eq ..)
  simp only [e0, e1, e2, e3, e4, e5, e6, e7, e8] at E3
  have E4 := h4.trans (Cert.Reference16Ideal.Read.val_main_v46_eq ..)
  simp only [e0, e1, e2, e3, e4, e5, e6, e7, e8] at E4
  exact ⟨E0, E1, E2, E3, E4, ha⟩

/-! ## The gated merge and the layer norm after it -/

set_option maxRecDepth 65536 in
set_option maxHeartbeats 8000000 in
theorem defs₀_same17 : Cert.Kernel17.defs₀ (F := Bits) = Cert.Kernel17Ideal.defs₀ (F := Bits) := by
  unfold Cert.Kernel17.defs₀ Cert.Kernel17Ideal.defs₀
  refine congrArg Defs.onTc (funext fun l => funext fun a => ?_)
  match l, a with
  | 0, (t, s) => rfl
  | ⟨_ + 1, h⟩, _ => exact absurd h (Nat.not_lt.2 (Nat.le_add_left _ _))

theorem defs_same17 : Cert.Kernel17.defs (F := Bits) = Cert.Kernel17Ideal.defs (F := Bits) :=
  congrArg (Pipeline.defs Cert.Kernel17.pcfgs) defs₀_same17

set_option maxRecDepth 65536 in
set_option maxHeartbeats 8000000 in
theorem frame_kernel17 : Cert.quiescent_Kernel17 := fun m ρ _ => by
  rw [defs_same17]
  exact (θ_run Cert.Kernel17Ideal.defs _ _).mono (fun _ h => h) (Cert.Kernel17Ideal.Gen.frame (F := Bits) m ρ)

theorem frame_kernelIdeal17 : Cert.quiescent_Kernel17Ideal := fun m ρ _ => Cert.Kernel17Ideal.Gen.frame (F := Ideal) m ρ

theorem frame_referenceIdeal17 : Cert.quiescent_Reference17Ideal := fun m ρ _ =>
  (θ_run Cert.Reference17Ideal.defs _ _).mono (fun r h => ⟨fun c => (h c).2.2.2.2.2.2.2, sem_eq_zero_of_no_sems (by decide) r.2⟩)
    (Cert.Reference17Ideal.Value.run (F := Ideal) m ρ)

theorem algebraic17 : Cert.algebraic_Kernel17Ideal_Reference17Ideal := fun m g m' g' _ hag => by
  refine ⟨fun c => Cert.Kernel17Ideal.MergeFwd.G13 m c, fun c => Cert.Kernel17Ideal.MergeFwd.G14 m c, fun c => Cert.Kernel17Ideal.MergeFwd.G15 m c, fun c => Cert.Kernel17Ideal.MergeFwd.G16 m c, fun c => Cert.Kernel17Ideal.MergeFwd.G17 m c, fun c => Cert.Kernel17Ideal.MergeFwd.G18 m c, fun c => Cert.Kernel17Ideal.MergeFwd.G19 m c, Cert.Kernel17Ideal.MergeFwd.run m g,
    (θ_run Cert.Reference17Ideal.defs _ _).mono (fun r h c => ?_) (Cert.Reference17Ideal.Value.run (F := Ideal) m' g')⟩
  obtain ⟨h0, h1, h2, h3, h4, h5, h6, ha⟩ := h c
  obtain ⟨e0, e1, e2, e3, e4, e5, e6, e7, e8, e9⟩ := hag c
  have E0 := h0.trans (Cert.Reference17Ideal.Read.val_main_v65_eq ..)
  simp only [e0, e1, e2, e3, e4, e5, e6, e7, e8, e9] at E0
  have E1 := h1.trans (Cert.Reference17Ideal.Read.val_main_v24_eq ..)
  simp only [e0, e1, e2, e3, e4, e5, e6, e7, e8, e9] at E1
  have E2 := h2.trans (Cert.Reference17Ideal.Read.val_main_v33_eq ..)
  simp only [e0, e1, e2, e3, e4, e5, e6, e7, e8, e9] at E2
  have E3 := h3.trans (Cert.Reference17Ideal.Read.val_main_v43_eq ..)
  simp only [e0, e1, e2, e3, e4, e5, e6, e7, e8, e9] at E3
  have E4 := h4.trans (Cert.Reference17Ideal.Read.val_main_v66_eq ..)
  simp only [e0, e1, e2, e3, e4, e5, e6, e7, e8, e9] at E4
  have E5 := h5.trans (Cert.Reference17Ideal.Read.val_main_v67_eq ..)
  simp only [e0, e1, e2, e3, e4, e5, e6, e7, e8, e9] at E5
  have E6 := h6.trans (Cert.Reference17Ideal.Read.val_main_v68_eq ..)
  simp only [e0, e1, e2, e3, e4, e5, e6, e7, e8, e9] at E6
  exact ⟨E0, E1, E2, E3, E4, E5, E6, ha⟩

theorem claim : Cert.Claim :=
  ⟨Cert.Kernel.Gen.facts, Cert.KernelIdeal.Gen.facts, Cert.ReferenceIdeal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel6.Gen.facts, Cert.Kernel6Ideal.Gen.facts, Cert.Reference6Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.KernelIdeal.Glob.preFacts, Cert.Kernel15Ideal.ActBwd.preFacts15,
    frame_kernel, frame_kernelIdeal, fun m ρ _ => Cert.KernelIdeal.Glob.run_frame (F := Ideal) m ρ, frame_referenceIdeal,
    fun m ρ _ => frame_referenceIdeal m ρ trivial,
    frame_kernel4, frame_kernelIdeal4, frame_referenceIdeal4,
    frame_kernel5, frame_kernelIdeal5, frame_referenceIdeal5,
    frame_kernel7, frame_kernelIdeal7, frame_referenceIdeal7,
    frame_kernel8, frame_kernelIdeal8, frame_referenceIdeal8,
    frame_kernel9, frame_kernelIdeal9, frame_referenceIdeal9,
    frame_kernel10, frame_kernelIdeal10, frame_referenceIdeal10,
    frame_kernel6, frame_kernelIdeal6, frame_referenceIdeal6,
    frame_kernel11, frame_kernelIdeal11, frame_referenceIdeal11,
    frame_kernel12, frame_kernelIdeal12, frame_referenceIdeal12,
    frame_kernel13, frame_kernelIdeal13, frame_referenceIdeal13,
    frame_kernel14, frame_kernelIdeal14, frame_referenceIdeal14,
    frame_kernel15, frame_kernelIdeal15, fun m ρ _ => Cert.Kernel15Ideal.Gen.frame (F := Ideal) m ρ, frame_referenceIdeal15,
    fun m ρ _ => frame_referenceIdeal15 m ρ trivial,
    frame_kernel16, frame_kernelIdeal16, frame_referenceIdeal16,
    frame_kernel17, frame_kernelIdeal17, frame_referenceIdeal17,
    trivial, algebraic, trivial, algebraic4, trivial, algebraic5, trivial, algebraic7, trivial, algebraic8, trivial, algebraic9, trivial, algebraic10, trivial, algebraic6, trivial, algebraic11, trivial, algebraic12, trivial, algebraic13, trivial, algebraic14, trivial, algebraic15, trivial, algebraic16, trivial, algebraic17⟩

end Cert.Proof

end
